-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_kept [hPre_kept : Cert.Pre_kept.Facts] (m : (ℓ : Loc Cert.KernelIdeal.nD Cert.KernelIdeal.τ Cert.KernelIdeal.sig) → Buf (Elt Ideal) ℓ) : Prop :=
  ∀ c : Dev Cert.KernelIdeal.nD,
    (Cert.Pre_kept.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_kept [hPre_kept : Cert.Pre_kept.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kept.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_kept_b [hPre_kept_b : Cert.Pre_kept_b.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_kept_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7)) (m ((c.tc : Thread Cert.KernelBIdeal.nD Cert.KernelBIdeal.τ).loc Cert.KernelBIdeal.main_arg8)) (m ((c.tc : Thread Cert.KernelBIdeal.nD Cert.KernelBIdeal.τ).loc Cert.KernelBIdeal.main_arg9)) (m ((c.tc : Thread Cert.KernelBIdeal.nD Cert.KernelBIdeal.τ).loc Cert.KernelBIdeal.main_arg10)) (m ((c.tc : Thread Cert.KernelBIdeal.nD Cert.KernelBIdeal.τ).loc Cert.KernelBIdeal.main_arg11)) (m ((c.tc : Thread Cert.KernelBIdeal.nD Cert.KernelBIdeal.τ).loc Cert.KernelBIdeal.main_arg12)) (m ((c.tc : Thread Cert.KernelBIdeal.nD Cert.KernelBIdeal.τ).loc Cert.KernelBIdeal.main_arg13))) = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_kept_b [hPre_kept_b : Cert.Pre_kept_b.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_kept_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7)) (m ((c.tc : Thread Cert.ReferenceBIdeal.nD Cert.ReferenceBIdeal.τ).loc Cert.ReferenceBIdeal.main_arg8)) (m ((c.tc : Thread Cert.ReferenceBIdeal.nD Cert.ReferenceBIdeal.τ).loc Cert.ReferenceBIdeal.main_arg9)) (m ((c.tc : Thread Cert.ReferenceBIdeal.nD Cert.ReferenceBIdeal.τ).loc Cert.ReferenceBIdeal.main_arg10)) (m ((c.tc : Thread Cert.ReferenceBIdeal.nD Cert.ReferenceBIdeal.τ).loc Cert.ReferenceBIdeal.main_arg11)) (m ((c.tc : Thread Cert.ReferenceBIdeal.nD Cert.ReferenceBIdeal.τ).loc Cert.ReferenceBIdeal.main_arg12)) (m ((c.tc : Thread Cert.ReferenceBIdeal.nD Cert.ReferenceBIdeal.τ).loc Cert.ReferenceBIdeal.main_arg13))) = (fun _ => 1#1)

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_KernelCIdeal_kept_c [hPre_kept_c : Cert.Pre_kept_c.Facts] (m : (ℓ : Loc Cert.KernelCIdeal.nD Cert.KernelCIdeal.τ Cert.KernelCIdeal.sig) → Buf (Elt Ideal) ℓ) : Prop :=
  ∀ c : Dev Cert.KernelCIdeal.nD,
    (Cert.Pre_kept_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7)) (m ((c.tc : Thread Cert.KernelCIdeal.nD Cert.KernelCIdeal.τ).loc Cert.KernelCIdeal.main_arg8)) (m ((c.tc : Thread Cert.KernelCIdeal.nD Cert.KernelCIdeal.τ).loc Cert.KernelCIdeal.main_arg9)) (m ((c.tc : Thread Cert.KernelCIdeal.nD Cert.KernelCIdeal.τ).loc Cert.KernelCIdeal.main_arg10)) (m ((c.tc : Thread Cert.KernelCIdeal.nD Cert.KernelCIdeal.τ).loc Cert.KernelCIdeal.main_arg11)) (m ((c.tc : Thread Cert.KernelCIdeal.nD Cert.KernelCIdeal.τ).loc Cert.KernelCIdeal.main_arg12)) (m ((c.tc : Thread Cert.KernelCIdeal.nD Cert.KernelCIdeal.τ).loc Cert.KernelCIdeal.main_arg13))) = (fun _ => 1#1)

def Pre_ReferenceCIdeal (m : (ℓ : Loc Cert.ReferenceCIdeal.nD Cert.ReferenceCIdeal.τ Cert.ReferenceCIdeal.sig) → Buf (Elt Ideal) ℓ) : Prop :=
  True

def Pre_ReferenceCIdeal_kept_c [hPre_kept_c : Cert.Pre_kept_c.Facts] (m : (ℓ : Loc Cert.ReferenceCIdeal.nD Cert.ReferenceCIdeal.τ Cert.ReferenceCIdeal.sig) → Buf (Elt Ideal) ℓ) : Prop :=
  ∀ c : Dev Cert.ReferenceCIdeal.nD,
    (Cert.Pre_kept_c.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7)) (m ((c.tc : Thread Cert.ReferenceCIdeal.nD Cert.ReferenceCIdeal.τ).loc Cert.ReferenceCIdeal.main_arg8)) (m ((c.tc : Thread Cert.ReferenceCIdeal.nD Cert.ReferenceCIdeal.τ).loc Cert.ReferenceCIdeal.main_arg9)) (m ((c.tc : Thread Cert.ReferenceCIdeal.nD Cert.ReferenceCIdeal.τ).loc Cert.ReferenceCIdeal.main_arg10)) (m ((c.tc : Thread Cert.ReferenceCIdeal.nD Cert.ReferenceCIdeal.τ).loc Cert.ReferenceCIdeal.main_arg11)) (m ((c.tc : Thread Cert.ReferenceCIdeal.nD Cert.ReferenceCIdeal.τ).loc Cert.ReferenceCIdeal.main_arg12)) (m ((c.tc : Thread Cert.ReferenceCIdeal.nD Cert.ReferenceCIdeal.τ).loc Cert.ReferenceCIdeal.main_arg13))) = (fun _ => 1#1)

def Pre_KernelD (m : (ℓ : Loc Cert.KernelD.nD Cert.KernelD.τ Cert.KernelD.sig) → Buf (Elt Bits) ℓ) : Prop :=
  True

def Pre_KernelDIdeal (m : (ℓ : Loc Cert.KernelDIdeal.nD Cert.KernelDIdeal.τ Cert.KernelDIdeal.sig) → Buf (Elt Ideal) ℓ) : Prop :=
  True

def Pre_KernelDIdeal_kept_d [hPre_kept_d : Cert.Pre_kept_d.Facts] (m : (ℓ : Loc Cert.KernelDIdeal.nD Cert.KernelDIdeal.τ Cert.KernelDIdeal.sig) → Buf (Elt Ideal) ℓ) : Prop :=
  ∀ c : Dev Cert.KernelDIdeal.nD,
    (Cert.Pre_kept_d.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7)) (m ((c.tc : Thread Cert.KernelDIdeal.nD Cert.KernelDIdeal.τ).loc Cert.KernelDIdeal.main_arg8)) (m ((c.tc : Thread Cert.KernelDIdeal.nD Cert.KernelDIdeal.τ).loc Cert.KernelDIdeal.main_arg9)) (m ((c.tc : Thread Cert.KernelDIdeal.nD Cert.KernelDIdeal.τ).loc Cert.KernelDIdeal.main_arg10)) (m ((c.tc : Thread Cert.KernelDIdeal.nD Cert.KernelDIdeal.τ).loc Cert.KernelDIdeal.main_arg11)) (m ((c.tc : Thread Cert.KernelDIdeal.nD Cert.KernelDIdeal.τ).loc Cert.KernelDIdeal.main_arg12)) (m ((c.tc : Thread Cert.KernelDIdeal.nD Cert.KernelDIdeal.τ).loc Cert.KernelDIdeal.main_arg13))) = (fun _ => 1#1)

def Pre_ReferenceDIdeal (m : (ℓ : Loc Cert.ReferenceDIdeal.nD Cert.ReferenceDIdeal.τ Cert.ReferenceDIdeal.sig) → Buf (Elt Ideal) ℓ) : Prop :=
  True

def Pre_ReferenceDIdeal_kept_d [hPre_kept_d : Cert.Pre_kept_d.Facts] (m : (ℓ : Loc Cert.ReferenceDIdeal.nD Cert.ReferenceDIdeal.τ Cert.ReferenceDIdeal.sig) → Buf (Elt Ideal) ℓ) : Prop :=
  ∀ c : Dev Cert.ReferenceDIdeal.nD,
    (Cert.Pre_kept_d.fn (F := Ideal) (m ((c.tc : Thread Cert.ReferenceDIdeal.nD Cert.ReferenceDIdeal.τ).loc Cert.ReferenceDIdeal.main_arg0)) (m ((c.tc : Thread Cert.ReferenceDIdeal.nD Cert.ReferenceDIdeal.τ).loc Cert.ReferenceDIdeal.main_arg1)) (m ((c.tc : Thread Cert.ReferenceDIdeal.nD Cert.ReferenceDIdeal.τ).loc Cert.ReferenceDIdeal.main_arg2)) (m ((c.tc : Thread Cert.ReferenceDIdeal.nD Cert.ReferenceDIdeal.τ).loc Cert.ReferenceDIdeal.main_arg3)) (m ((c.tc : Thread Cert.ReferenceDIdeal.nD Cert.ReferenceDIdeal.τ).loc Cert.ReferenceDIdeal.main_arg4)) (m ((c.tc : Thread Cert.ReferenceDIdeal.nD Cert.ReferenceDIdeal.τ).loc Cert.ReferenceDIdeal.main_arg5)) (m ((c.tc : Thread Cert.ReferenceDIdeal.nD Cert.ReferenceDIdeal.τ).loc Cert.ReferenceDIdeal.main_arg6)) (m ((c.tc : Thread Cert.ReferenceDIdeal.nD Cert.ReferenceDIdeal.τ).loc Cert.ReferenceDIdeal.main_arg7)) (m ((c.tc : Thread Cert.ReferenceDIdeal.nD Cert.ReferenceDIdeal.τ).loc Cert.ReferenceDIdeal.main_arg8)) (m ((c.tc : Thread Cert.ReferenceDIdeal.nD Cert.ReferenceDIdeal.τ).loc Cert.ReferenceDIdeal.main_arg9)) (m ((c.tc : Thread Cert.ReferenceDIdeal.nD Cert.ReferenceDIdeal.τ).loc Cert.ReferenceDIdeal.main_arg10)) (m ((c.tc : Thread Cert.ReferenceDIdeal.nD Cert.ReferenceDIdeal.τ).loc Cert.ReferenceDIdeal.main_arg11)) (m ((c.tc : Thread Cert.ReferenceDIdeal.nD Cert.ReferenceDIdeal.τ).loc Cert.ReferenceDIdeal.main_arg12)) (m ((c.tc : Thread Cert.ReferenceDIdeal.nD Cert.ReferenceDIdeal.τ).loc Cert.ReferenceDIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_kept [hKernelIdeal : Cert.KernelIdeal.Facts] [hPre_kept : Cert.Pre_kept.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kept m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_kept [hReferenceIdeal : Cert.ReferenceIdeal.Facts] [hPre_kept : Cert.Pre_kept.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kept m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4)
      ∧ r.2.mem ((c.tc : Thread Cert.KernelB.nD Cert.KernelB.τ).loc Cert.KernelB.main_arg5) = m ((c.tc : Thread Cert.KernelB.nD Cert.KernelB.τ).loc Cert.KernelB.main_arg5)
      ∧ r.2.mem ((c.tc : Thread Cert.KernelB.nD Cert.KernelB.τ).loc Cert.KernelB.main_arg6) = m ((c.tc : Thread Cert.KernelB.nD Cert.KernelB.τ).loc Cert.KernelB.main_arg6)
      ∧ r.2.mem ((c.tc : Thread Cert.KernelB.nD Cert.KernelB.τ).loc Cert.KernelB.main_arg7) = m ((c.tc : Thread Cert.KernelB.nD Cert.KernelB.τ).loc Cert.KernelB.main_arg7)
      ∧ r.2.mem ((c.tc : Thread Cert.KernelB.nD Cert.KernelB.τ).loc Cert.KernelB.main_arg8) = m ((c.tc : Thread Cert.KernelB.nD Cert.KernelB.τ).loc Cert.KernelB.main_arg8)
      ∧ r.2.mem ((c.tc : Thread Cert.KernelB.nD Cert.KernelB.τ).loc Cert.KernelB.main_arg9) = m ((c.tc : Thread Cert.KernelB.nD Cert.KernelB.τ).loc Cert.KernelB.main_arg9)
      ∧ r.2.mem ((c.tc : Thread Cert.KernelB.nD Cert.KernelB.τ).loc Cert.KernelB.main_arg10) = m ((c.tc : Thread Cert.KernelB.nD Cert.KernelB.τ).loc Cert.KernelB.main_arg10)
      ∧ r.2.mem ((c.tc : Thread Cert.KernelB.nD Cert.KernelB.τ).loc Cert.KernelB.main_arg11) = m ((c.tc : Thread Cert.KernelB.nD Cert.KernelB.τ).loc Cert.KernelB.main_arg11)
      ∧ r.2.mem ((c.tc : Thread Cert.KernelB.nD Cert.KernelB.τ).loc Cert.KernelB.main_arg12) = m ((c.tc : Thread Cert.KernelB.nD Cert.KernelB.τ).loc Cert.KernelB.main_arg12)
      ∧ r.2.mem ((c.tc : Thread Cert.KernelB.nD Cert.KernelB.τ).loc Cert.KernelB.main_arg13) = m ((c.tc : Thread Cert.KernelB.nD Cert.KernelB.τ).loc Cert.KernelB.main_arg13))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
      ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8)
      ∧ r.2.mem ((c.tc : Thread Cert.KernelBIdeal.nD Cert.KernelBIdeal.τ).loc Cert.KernelBIdeal.main_arg9) = m ((c.tc : Thread Cert.KernelBIdeal.nD Cert.KernelBIdeal.τ).loc Cert.KernelBIdeal.main_arg9)
      ∧ r.2.mem ((c.tc : Thread Cert.KernelBIdeal.nD Cert.KernelBIdeal.τ).loc Cert.KernelBIdeal.main_arg10) = m ((c.tc : Thread Cert.KernelBIdeal.nD Cert.KernelBIdeal.τ).loc Cert.KernelBIdeal.main_arg10)
      ∧ r.2.mem ((c.tc : Thread Cert.KernelBIdeal.nD Cert.KernelBIdeal.τ).loc Cert.KernelBIdeal.main_arg11) = m ((c.tc : Thread Cert.KernelBIdeal.nD Cert.KernelBIdeal.τ).loc Cert.KernelBIdeal.main_arg11)
      ∧ r.2.mem ((c.tc : Thread Cert.KernelBIdeal.nD Cert.KernelBIdeal.τ).loc Cert.KernelBIdeal.main_arg12) = m ((c.tc : Thread Cert.KernelBIdeal.nD Cert.KernelBIdeal.τ).loc Cert.KernelBIdeal.main_arg12)
      ∧ r.2.mem ((c.tc : Thread Cert.KernelBIdeal.nD Cert.KernelBIdeal.τ).loc Cert.KernelBIdeal.main_arg13) = m ((c.tc : Thread Cert.KernelBIdeal.nD Cert.KernelBIdeal.τ).loc Cert.KernelBIdeal.main_arg13))
      ∧ r.2.sem = fun _ => 0)

def quiescent_KernelBIdeal_pre_kept_b [hKernelBIdeal : Cert.KernelBIdeal.Facts] [hPre_kept_b : Cert.Pre_kept_b.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_kept_b m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
      ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8)
      ∧ r.2.mem ((c.tc : Thread Cert.KernelBIdeal.nD Cert.KernelBIdeal.τ).loc Cert.KernelBIdeal.main_arg9) = m ((c.tc : Thread Cert.KernelBIdeal.nD Cert.KernelBIdeal.τ).loc Cert.KernelBIdeal.main_arg9)
      ∧ r.2.mem ((c.tc : Thread Cert.KernelBIdeal.nD Cert.KernelBIdeal.τ).loc Cert.KernelBIdeal.main_arg10) = m ((c.tc : Thread Cert.KernelBIdeal.nD Cert.KernelBIdeal.τ).loc Cert.KernelBIdeal.main_arg10)
      ∧ r.2.mem ((c.tc : Thread Cert.KernelBIdeal.nD Cert.KernelBIdeal.τ).loc Cert.KernelBIdeal.main_arg11) = m ((c.tc : Thread Cert.KernelBIdeal.nD Cert.KernelBIdeal.τ).loc Cert.KernelBIdeal.main_arg11)
      ∧ r.2.mem ((c.tc : Thread Cert.KernelBIdeal.nD Cert.KernelBIdeal.τ).loc Cert.KernelBIdeal.main_arg12) = m ((c.tc : Thread Cert.KernelBIdeal.nD Cert.KernelBIdeal.τ).loc Cert.KernelBIdeal.main_arg12)
      ∧ r.2.mem ((c.tc : Thread Cert.KernelBIdeal.nD Cert.KernelBIdeal.τ).loc Cert.KernelBIdeal.main_arg13) = m ((c.tc : Thread Cert.KernelBIdeal.nD Cert.KernelBIdeal.τ).loc Cert.KernelBIdeal.main_arg13))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6)
      ∧ r.2.mem ((c.tc : Thread Cert.ReferenceBIdeal.nD Cert.ReferenceBIdeal.τ).loc Cert.ReferenceBIdeal.main_arg7) = m ((c.tc : Thread Cert.ReferenceBIdeal.nD Cert.ReferenceBIdeal.τ).loc Cert.ReferenceBIdeal.main_arg7)
      ∧ r.2.mem ((c.tc : Thread Cert.ReferenceBIdeal.nD Cert.ReferenceBIdeal.τ).loc Cert.ReferenceBIdeal.main_arg8) = m ((c.tc : Thread Cert.ReferenceBIdeal.nD Cert.ReferenceBIdeal.τ).loc Cert.ReferenceBIdeal.main_arg8)
      ∧ r.2.mem ((c.tc : Thread Cert.ReferenceBIdeal.nD Cert.ReferenceBIdeal.τ).loc Cert.ReferenceBIdeal.main_arg9) = m ((c.tc : Thread Cert.ReferenceBIdeal.nD Cert.ReferenceBIdeal.τ).loc Cert.ReferenceBIdeal.main_arg9)
      ∧ r.2.mem ((c.tc : Thread Cert.ReferenceBIdeal.nD Cert.ReferenceBIdeal.τ).loc Cert.ReferenceBIdeal.main_arg10) = m ((c.tc : Thread Cert.ReferenceBIdeal.nD Cert.ReferenceBIdeal.τ).loc Cert.ReferenceBIdeal.main_arg10)
      ∧ r.2.mem ((c.tc : Thread Cert.ReferenceBIdeal.nD Cert.ReferenceBIdeal.τ).loc Cert.ReferenceBIdeal.main_arg11) = m ((c.tc : Thread Cert.ReferenceBIdeal.nD Cert.ReferenceBIdeal.τ).loc Cert.ReferenceBIdeal.main_arg11)
      ∧ r.2.mem ((c.tc : Thread Cert.ReferenceBIdeal.nD Cert.ReferenceBIdeal.τ).loc Cert.ReferenceBIdeal.main_arg12) = m ((c.tc : Thread Cert.ReferenceBIdeal.nD Cert.ReferenceBIdeal.τ).loc Cert.ReferenceBIdeal.main_arg12)
      ∧ r.2.mem ((c.tc : Thread Cert.ReferenceBIdeal.nD Cert.ReferenceBIdeal.τ).loc Cert.ReferenceBIdeal.main_arg13) = m ((c.tc : Thread Cert.ReferenceBIdeal.nD Cert.ReferenceBIdeal.τ).loc Cert.ReferenceBIdeal.main_arg13))
      ∧ r.2.sem = fun _ => 0)

def quiescent_ReferenceBIdeal_pre_kept_b [hReferenceBIdeal : Cert.ReferenceBIdeal.Facts] [hPre_kept_b : Cert.Pre_kept_b.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_kept_b m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6)
      ∧ r.2.mem ((c.tc : Thread Cert.ReferenceBIdeal.nD Cert.ReferenceBIdeal.τ).loc Cert.ReferenceBIdeal.main_arg7) = m ((c.tc : Thread Cert.ReferenceBIdeal.nD Cert.ReferenceBIdeal.τ).loc Cert.ReferenceBIdeal.main_arg7)
      ∧ r.2.mem ((c.tc : Thread Cert.ReferenceBIdeal.nD Cert.ReferenceBIdeal.τ).loc Cert.ReferenceBIdeal.main_arg8) = m ((c.tc : Thread Cert.ReferenceBIdeal.nD Cert.ReferenceBIdeal.τ).loc Cert.ReferenceBIdeal.main_arg8)
      ∧ r.2.mem ((c.tc : Thread Cert.ReferenceBIdeal.nD Cert.ReferenceBIdeal.τ).loc Cert.ReferenceBIdeal.main_arg9) = m ((c.tc : Thread Cert.ReferenceBIdeal.nD Cert.ReferenceBIdeal.τ).loc Cert.ReferenceBIdeal.main_arg9)
      ∧ r.2.mem ((c.tc : Thread Cert.ReferenceBIdeal.nD Cert.ReferenceBIdeal.τ).loc Cert.ReferenceBIdeal.main_arg10) = m ((c.tc : Thread Cert.ReferenceBIdeal.nD Cert.ReferenceBIdeal.τ).loc Cert.ReferenceBIdeal.main_arg10)
      ∧ r.2.mem ((c.tc : Thread Cert.ReferenceBIdeal.nD Cert.ReferenceBIdeal.τ).loc Cert.ReferenceBIdeal.main_arg11) = m ((c.tc : Thread Cert.ReferenceBIdeal.nD Cert.ReferenceBIdeal.τ).loc Cert.ReferenceBIdeal.main_arg11)
      ∧ r.2.mem ((c.tc : Thread Cert.ReferenceBIdeal.nD Cert.ReferenceBIdeal.τ).loc Cert.ReferenceBIdeal.main_arg12) = m ((c.tc : Thread Cert.ReferenceBIdeal.nD Cert.ReferenceBIdeal.τ).loc Cert.ReferenceBIdeal.main_arg12)
      ∧ r.2.mem ((c.tc : Thread Cert.ReferenceBIdeal.nD Cert.ReferenceBIdeal.τ).loc Cert.ReferenceBIdeal.main_arg13) = m ((c.tc : Thread Cert.ReferenceBIdeal.nD Cert.ReferenceBIdeal.τ).loc Cert.ReferenceBIdeal.main_arg13))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3)
      ∧ r.2.mem ((c.tc : Thread Cert.KernelC.nD Cert.KernelC.τ).loc Cert.KernelC.main_arg4) = m ((c.tc : Thread Cert.KernelC.nD Cert.KernelC.τ).loc Cert.KernelC.main_arg4)
      ∧ r.2.mem ((c.tc : Thread Cert.KernelC.nD Cert.KernelC.τ).loc Cert.KernelC.main_arg5) = m ((c.tc : Thread Cert.KernelC.nD Cert.KernelC.τ).loc Cert.KernelC.main_arg5)
      ∧ r.2.mem ((c.tc : Thread Cert.KernelC.nD Cert.KernelC.τ).loc Cert.KernelC.main_arg6) = m ((c.tc : Thread Cert.KernelC.nD Cert.KernelC.τ).loc Cert.KernelC.main_arg6)
      ∧ r.2.mem ((c.tc : Thread Cert.KernelC.nD Cert.KernelC.τ).loc Cert.KernelC.main_arg7) = m ((c.tc : Thread Cert.KernelC.nD Cert.KernelC.τ).loc Cert.KernelC.main_arg7)
      ∧ r.2.mem ((c.tc : Thread Cert.KernelC.nD Cert.KernelC.τ).loc Cert.KernelC.main_arg8) = m ((c.tc : Thread Cert.KernelC.nD Cert.KernelC.τ).loc Cert.KernelC.main_arg8)
      ∧ r.2.mem ((c.tc : Thread Cert.KernelC.nD Cert.KernelC.τ).loc Cert.KernelC.main_arg9) = m ((c.tc : Thread Cert.KernelC.nD Cert.KernelC.τ).loc Cert.KernelC.main_arg9)
      ∧ r.2.mem ((c.tc : Thread Cert.KernelC.nD Cert.KernelC.τ).loc Cert.KernelC.main_arg10) = m ((c.tc : Thread Cert.KernelC.nD Cert.KernelC.τ).loc Cert.KernelC.main_arg10)
      ∧ r.2.mem ((c.tc : Thread Cert.KernelC.nD Cert.KernelC.τ).loc Cert.KernelC.main_arg11) = m ((c.tc : Thread Cert.KernelC.nD Cert.KernelC.τ).loc Cert.KernelC.main_arg11)
      ∧ r.2.mem ((c.tc : Thread Cert.KernelC.nD Cert.KernelC.τ).loc Cert.KernelC.main_arg12) = m ((c.tc : Thread Cert.KernelC.nD Cert.KernelC.τ).loc Cert.KernelC.main_arg12)
      ∧ r.2.mem ((c.tc : Thread Cert.KernelC.nD Cert.KernelC.τ).loc Cert.KernelC.main_arg13) = m ((c.tc : Thread Cert.KernelC.nD Cert.KernelC.τ).loc Cert.KernelC.main_arg13))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
      ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
      ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7)
      ∧ r.2.mem ((c.tc : Thread Cert.KernelCIdeal.nD Cert.KernelCIdeal.τ).loc Cert.KernelCIdeal.main_arg8) = m ((c.tc : Thread Cert.KernelCIdeal.nD Cert.KernelCIdeal.τ).loc Cert.KernelCIdeal.main_arg8)
      ∧ r.2.mem ((c.tc : Thread Cert.KernelCIdeal.nD Cert.KernelCIdeal.τ).loc Cert.KernelCIdeal.main_arg9) = m ((c.tc : Thread Cert.KernelCIdeal.nD Cert.KernelCIdeal.τ).loc Cert.KernelCIdeal.main_arg9)
      ∧ r.2.mem ((c.tc : Thread Cert.KernelCIdeal.nD Cert.KernelCIdeal.τ).loc Cert.KernelCIdeal.main_arg10) = m ((c.tc : Thread Cert.KernelCIdeal.nD Cert.KernelCIdeal.τ).loc Cert.KernelCIdeal.main_arg10)
      ∧ r.2.mem ((c.tc : Thread Cert.KernelCIdeal.nD Cert.KernelCIdeal.τ).loc Cert.KernelCIdeal.main_arg11) = m ((c.tc : Thread Cert.KernelCIdeal.nD Cert.KernelCIdeal.τ).loc Cert.KernelCIdeal.main_arg11)
      ∧ r.2.mem ((c.tc : Thread Cert.KernelCIdeal.nD Cert.KernelCIdeal.τ).loc Cert.KernelCIdeal.main_arg12) = m ((c.tc : Thread Cert.KernelCIdeal.nD Cert.KernelCIdeal.τ).loc Cert.KernelCIdeal.main_arg12)
      ∧ r.2.mem ((c.tc : Thread Cert.KernelCIdeal.nD Cert.KernelCIdeal.τ).loc Cert.KernelCIdeal.main_arg13) = m ((c.tc : Thread Cert.KernelCIdeal.nD Cert.KernelCIdeal.τ).loc Cert.KernelCIdeal.main_arg13))
      ∧ r.2.sem = fun _ => 0)

def quiescent_KernelCIdeal_pre_kept_c [hKernelCIdeal : Cert.KernelCIdeal.Facts] [hPre_kept_c : Cert.Pre_kept_c.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal_kept_c m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
      ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
      ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7)
      ∧ r.2.mem ((c.tc : Thread Cert.KernelCIdeal.nD Cert.KernelCIdeal.τ).loc Cert.KernelCIdeal.main_arg8) = m ((c.tc : Thread Cert.KernelCIdeal.nD Cert.KernelCIdeal.τ).loc Cert.KernelCIdeal.main_arg8)
      ∧ r.2.mem ((c.tc : Thread Cert.KernelCIdeal.nD Cert.KernelCIdeal.τ).loc Cert.KernelCIdeal.main_arg9) = m ((c.tc : Thread Cert.KernelCIdeal.nD Cert.KernelCIdeal.τ).loc Cert.KernelCIdeal.main_arg9)
      ∧ r.2.mem ((c.tc : Thread Cert.KernelCIdeal.nD Cert.KernelCIdeal.τ).loc Cert.KernelCIdeal.main_arg10) = m ((c.tc : Thread Cert.KernelCIdeal.nD Cert.KernelCIdeal.τ).loc Cert.KernelCIdeal.main_arg10)
      ∧ r.2.mem ((c.tc : Thread Cert.KernelCIdeal.nD Cert.KernelCIdeal.τ).loc Cert.KernelCIdeal.main_arg11) = m ((c.tc : Thread Cert.KernelCIdeal.nD Cert.KernelCIdeal.τ).loc Cert.KernelCIdeal.main_arg11)
      ∧ r.2.mem ((c.tc : Thread Cert.KernelCIdeal.nD Cert.KernelCIdeal.τ).loc Cert.KernelCIdeal.main_arg12) = m ((c.tc : Thread Cert.KernelCIdeal.nD Cert.KernelCIdeal.τ).loc Cert.KernelCIdeal.main_arg12)
      ∧ r.2.mem ((c.tc : Thread Cert.KernelCIdeal.nD Cert.KernelCIdeal.τ).loc Cert.KernelCIdeal.main_arg13) = m ((c.tc : Thread Cert.KernelCIdeal.nD Cert.KernelCIdeal.τ).loc Cert.KernelCIdeal.main_arg13))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3)
      ∧ r.2.mem ((c.tc : Thread Cert.ReferenceCIdeal.nD Cert.ReferenceCIdeal.τ).loc Cert.ReferenceCIdeal.main_arg4) = m ((c.tc : Thread Cert.ReferenceCIdeal.nD Cert.ReferenceCIdeal.τ).loc Cert.ReferenceCIdeal.main_arg4)
      ∧ r.2.mem ((c.tc : Thread Cert.ReferenceCIdeal.nD Cert.ReferenceCIdeal.τ).loc Cert.ReferenceCIdeal.main_arg5) = m ((c.tc : Thread Cert.ReferenceCIdeal.nD Cert.ReferenceCIdeal.τ).loc Cert.ReferenceCIdeal.main_arg5)
      ∧ r.2.mem ((c.tc : Thread Cert.ReferenceCIdeal.nD Cert.ReferenceCIdeal.τ).loc Cert.ReferenceCIdeal.main_arg6) = m ((c.tc : Thread Cert.ReferenceCIdeal.nD Cert.ReferenceCIdeal.τ).loc Cert.ReferenceCIdeal.main_arg6)
      ∧ r.2.mem ((c.tc : Thread Cert.ReferenceCIdeal.nD Cert.ReferenceCIdeal.τ).loc Cert.ReferenceCIdeal.main_arg7) = m ((c.tc : Thread Cert.ReferenceCIdeal.nD Cert.ReferenceCIdeal.τ).loc Cert.ReferenceCIdeal.main_arg7)
      ∧ r.2.mem ((c.tc : Thread Cert.ReferenceCIdeal.nD Cert.ReferenceCIdeal.τ).loc Cert.ReferenceCIdeal.main_arg8) = m ((c.tc : Thread Cert.ReferenceCIdeal.nD Cert.ReferenceCIdeal.τ).loc Cert.ReferenceCIdeal.main_arg8)
      ∧ r.2.mem ((c.tc : Thread Cert.ReferenceCIdeal.nD Cert.ReferenceCIdeal.τ).loc Cert.ReferenceCIdeal.main_arg9) = m ((c.tc : Thread Cert.ReferenceCIdeal.nD Cert.ReferenceCIdeal.τ).loc Cert.ReferenceCIdeal.main_arg9)
      ∧ r.2.mem ((c.tc : Thread Cert.ReferenceCIdeal.nD Cert.ReferenceCIdeal.τ).loc Cert.ReferenceCIdeal.main_arg10) = m ((c.tc : Thread Cert.ReferenceCIdeal.nD Cert.ReferenceCIdeal.τ).loc Cert.ReferenceCIdeal.main_arg10)
      ∧ r.2.mem ((c.tc : Thread Cert.ReferenceCIdeal.nD Cert.ReferenceCIdeal.τ).loc Cert.ReferenceCIdeal.main_arg11) = m ((c.tc : Thread Cert.ReferenceCIdeal.nD Cert.ReferenceCIdeal.τ).loc Cert.ReferenceCIdeal.main_arg11)
      ∧ r.2.mem ((c.tc : Thread Cert.ReferenceCIdeal.nD Cert.ReferenceCIdeal.τ).loc Cert.ReferenceCIdeal.main_arg12) = m ((c.tc : Thread Cert.ReferenceCIdeal.nD Cert.ReferenceCIdeal.τ).loc Cert.ReferenceCIdeal.main_arg12)
      ∧ r.2.mem ((c.tc : Thread Cert.ReferenceCIdeal.nD Cert.ReferenceCIdeal.τ).loc Cert.ReferenceCIdeal.main_arg13) = m ((c.tc : Thread Cert.ReferenceCIdeal.nD Cert.ReferenceCIdeal.τ).loc Cert.ReferenceCIdeal.main_arg13))
      ∧ r.2.sem = fun _ => 0)

def quiescent_ReferenceCIdeal_pre_kept_c [hReferenceCIdeal : Cert.ReferenceCIdeal.Facts] [hPre_kept_c : Cert.Pre_kept_c.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal_kept_c m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3)
      ∧ r.2.mem ((c.tc : Thread Cert.ReferenceCIdeal.nD Cert.ReferenceCIdeal.τ).loc Cert.ReferenceCIdeal.main_arg4) = m ((c.tc : Thread Cert.ReferenceCIdeal.nD Cert.ReferenceCIdeal.τ).loc Cert.ReferenceCIdeal.main_arg4)
      ∧ r.2.mem ((c.tc : Thread Cert.ReferenceCIdeal.nD Cert.ReferenceCIdeal.τ).loc Cert.ReferenceCIdeal.main_arg5) = m ((c.tc : Thread Cert.ReferenceCIdeal.nD Cert.ReferenceCIdeal.τ).loc Cert.ReferenceCIdeal.main_arg5)
      ∧ r.2.mem ((c.tc : Thread Cert.ReferenceCIdeal.nD Cert.ReferenceCIdeal.τ).loc Cert.ReferenceCIdeal.main_arg6) = m ((c.tc : Thread Cert.ReferenceCIdeal.nD Cert.ReferenceCIdeal.τ).loc Cert.ReferenceCIdeal.main_arg6)
      ∧ r.2.mem ((c.tc : Thread Cert.ReferenceCIdeal.nD Cert.ReferenceCIdeal.τ).loc Cert.ReferenceCIdeal.main_arg7) = m ((c.tc : Thread Cert.ReferenceCIdeal.nD Cert.ReferenceCIdeal.τ).loc Cert.ReferenceCIdeal.main_arg7)
      ∧ r.2.mem ((c.tc : Thread Cert.ReferenceCIdeal.nD Cert.ReferenceCIdeal.τ).loc Cert.ReferenceCIdeal.main_arg8) = m ((c.tc : Thread Cert.ReferenceCIdeal.nD Cert.ReferenceCIdeal.τ).loc Cert.ReferenceCIdeal.main_arg8)
      ∧ r.2.mem ((c.tc : Thread Cert.ReferenceCIdeal.nD Cert.ReferenceCIdeal.τ).loc Cert.ReferenceCIdeal.main_arg9) = m ((c.tc : Thread Cert.ReferenceCIdeal.nD Cert.ReferenceCIdeal.τ).loc Cert.ReferenceCIdeal.main_arg9)
      ∧ r.2.mem ((c.tc : Thread Cert.ReferenceCIdeal.nD Cert.ReferenceCIdeal.τ).loc Cert.ReferenceCIdeal.main_arg10) = m ((c.tc : Thread Cert.ReferenceCIdeal.nD Cert.ReferenceCIdeal.τ).loc Cert.ReferenceCIdeal.main_arg10)
      ∧ r.2.mem ((c.tc : Thread Cert.ReferenceCIdeal.nD Cert.ReferenceCIdeal.τ).loc Cert.ReferenceCIdeal.main_arg11) = m ((c.tc : Thread Cert.ReferenceCIdeal.nD Cert.ReferenceCIdeal.τ).loc Cert.ReferenceCIdeal.main_arg11)
      ∧ r.2.mem ((c.tc : Thread Cert.ReferenceCIdeal.nD Cert.ReferenceCIdeal.τ).loc Cert.ReferenceCIdeal.main_arg12) = m ((c.tc : Thread Cert.ReferenceCIdeal.nD Cert.ReferenceCIdeal.τ).loc Cert.ReferenceCIdeal.main_arg12)
      ∧ r.2.mem ((c.tc : Thread Cert.ReferenceCIdeal.nD Cert.ReferenceCIdeal.τ).loc Cert.ReferenceCIdeal.main_arg13) = m ((c.tc : Thread Cert.ReferenceCIdeal.nD Cert.ReferenceCIdeal.τ).loc Cert.ReferenceCIdeal.main_arg13))
      ∧ r.2.sem = fun _ => 0)

def quiescent_KernelD [hKernelD : Cert.KernelD.Facts] : Prop :=
  ∀ (m : (ℓ : Loc Cert.KernelD.nD Cert.KernelD.τ Cert.KernelD.sig) → Buf (Elt Bits) ℓ) (g : Dev Cert.KernelD.nD → PrngReg), Pre_KernelD m →
    θ_run (Cert.KernelD.defs (F := Bits)) (onTc (τ := Cert.KernelD.τ) (Cert.KernelD.main (F := Bits))) ⟨m, fun _ => 0, g⟩ (fun r => (∀ c : Dev Cert.KernelD.nD,
      r.2.mem ((c.tc : Thread Cert.KernelD.nD Cert.KernelD.τ).loc Cert.KernelD.main_arg0) = m ((c.tc : Thread Cert.KernelD.nD Cert.KernelD.τ).loc Cert.KernelD.main_arg0)
      ∧ r.2.mem ((c.tc : Thread Cert.KernelD.nD Cert.KernelD.τ).loc Cert.KernelD.main_arg1) = m ((c.tc : Thread Cert.KernelD.nD Cert.KernelD.τ).loc Cert.KernelD.main_arg1)
      ∧ r.2.mem ((c.tc : Thread Cert.KernelD.nD Cert.KernelD.τ).loc Cert.KernelD.main_arg2) = m ((c.tc : Thread Cert.KernelD.nD Cert.KernelD.τ).loc Cert.KernelD.main_arg2)
      ∧ r.2.mem ((c.tc : Thread Cert.KernelD.nD Cert.KernelD.τ).loc Cert.KernelD.main_arg3) = m ((c.tc : Thread Cert.KernelD.nD Cert.KernelD.τ).loc Cert.KernelD.main_arg3)
      ∧ r.2.mem ((c.tc : Thread Cert.KernelD.nD Cert.KernelD.τ).loc Cert.KernelD.main_arg4) = m ((c.tc : Thread Cert.KernelD.nD Cert.KernelD.τ).loc Cert.KernelD.main_arg4)
      ∧ r.2.mem ((c.tc : Thread Cert.KernelD.nD Cert.KernelD.τ).loc Cert.KernelD.main_arg5) = m ((c.tc : Thread Cert.KernelD.nD Cert.KernelD.τ).loc Cert.KernelD.main_arg5)
      ∧ r.2.mem ((c.tc : Thread Cert.KernelD.nD Cert.KernelD.τ).loc Cert.KernelD.main_arg6) = m ((c.tc : Thread Cert.KernelD.nD Cert.KernelD.τ).loc Cert.KernelD.main_arg6)
      ∧ r.2.mem ((c.tc : Thread Cert.KernelD.nD Cert.KernelD.τ).loc Cert.KernelD.main_arg7) = m ((c.tc : Thread Cert.KernelD.nD Cert.KernelD.τ).loc Cert.KernelD.main_arg7)
      ∧ r.2.mem ((c.tc : Thread Cert.KernelD.nD Cert.KernelD.τ).loc Cert.KernelD.main_arg8) = m ((c.tc : Thread Cert.KernelD.nD Cert.KernelD.τ).loc Cert.KernelD.main_arg8)
      ∧ r.2.mem ((c.tc : Thread Cert.KernelD.nD Cert.KernelD.τ).loc Cert.KernelD.main_arg9) = m ((c.tc : Thread Cert.KernelD.nD Cert.KernelD.τ).loc Cert.KernelD.main_arg9)
      ∧ r.2.mem ((c.tc : Thread Cert.KernelD.nD Cert.KernelD.τ).loc Cert.KernelD.main_arg10) = m ((c.tc : Thread Cert.KernelD.nD Cert.KernelD.τ).loc Cert.KernelD.main_arg10)
      ∧ r.2.mem ((c.tc : Thread Cert.KernelD.nD Cert.KernelD.τ).loc Cert.KernelD.main_arg11) = m ((c.tc : Thread Cert.KernelD.nD Cert.KernelD.τ).loc Cert.KernelD.main_arg11)
      ∧ r.2.mem ((c.tc : Thread Cert.KernelD.nD Cert.KernelD.τ).loc Cert.KernelD.main_arg12) = m ((c.tc : Thread Cert.KernelD.nD Cert.KernelD.τ).loc Cert.KernelD.main_arg12)
      ∧ r.2.mem ((c.tc : Thread Cert.KernelD.nD Cert.KernelD.τ).loc Cert.KernelD.main_arg13) = m ((c.tc : Thread Cert.KernelD.nD Cert.KernelD.τ).loc Cert.KernelD.main_arg13))
      ∧ r.2.sem = fun _ => 0)

def quiescent_KernelDIdeal [hKernelDIdeal : Cert.KernelDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
      ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
      ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4)
      ∧ r.2.mem ((c.tc : Thread Cert.KernelDIdeal.nD Cert.KernelDIdeal.τ).loc Cert.KernelDIdeal.main_arg5) = m ((c.tc : Thread Cert.KernelDIdeal.nD Cert.KernelDIdeal.τ).loc Cert.KernelDIdeal.main_arg5)
      ∧ r.2.mem ((c.tc : Thread Cert.KernelDIdeal.nD Cert.KernelDIdeal.τ).loc Cert.KernelDIdeal.main_arg6) = m ((c.tc : Thread Cert.KernelDIdeal.nD Cert.KernelDIdeal.τ).loc Cert.KernelDIdeal.main_arg6)
      ∧ r.2.mem ((c.tc : Thread Cert.KernelDIdeal.nD Cert.KernelDIdeal.τ).loc Cert.KernelDIdeal.main_arg7) = m ((c.tc : Thread Cert.KernelDIdeal.nD Cert.KernelDIdeal.τ).loc Cert.KernelDIdeal.main_arg7)
      ∧ r.2.mem ((c.tc : Thread Cert.KernelDIdeal.nD Cert.KernelDIdeal.τ).loc Cert.KernelDIdeal.main_arg8) = m ((c.tc : Thread Cert.KernelDIdeal.nD Cert.KernelDIdeal.τ).loc Cert.KernelDIdeal.main_arg8)
      ∧ r.2.mem ((c.tc : Thread Cert.KernelDIdeal.nD Cert.KernelDIdeal.τ).loc Cert.KernelDIdeal.main_arg9) = m ((c.tc : Thread Cert.KernelDIdeal.nD Cert.KernelDIdeal.τ).loc Cert.KernelDIdeal.main_arg9)
      ∧ r.2.mem ((c.tc : Thread Cert.KernelDIdeal.nD Cert.KernelDIdeal.τ).loc Cert.KernelDIdeal.main_arg10) = m ((c.tc : Thread Cert.KernelDIdeal.nD Cert.KernelDIdeal.τ).loc Cert.KernelDIdeal.main_arg10)
      ∧ r.2.mem ((c.tc : Thread Cert.KernelDIdeal.nD Cert.KernelDIdeal.τ).loc Cert.KernelDIdeal.main_arg11) = m ((c.tc : Thread Cert.KernelDIdeal.nD Cert.KernelDIdeal.τ).loc Cert.KernelDIdeal.main_arg11)
      ∧ r.2.mem ((c.tc : Thread Cert.KernelDIdeal.nD Cert.KernelDIdeal.τ).loc Cert.KernelDIdeal.main_arg12) = m ((c.tc : Thread Cert.KernelDIdeal.nD Cert.KernelDIdeal.τ).loc Cert.KernelDIdeal.main_arg12)
      ∧ r.2.mem ((c.tc : Thread Cert.KernelDIdeal.nD Cert.KernelDIdeal.τ).loc Cert.KernelDIdeal.main_arg13) = m ((c.tc : Thread Cert.KernelDIdeal.nD Cert.KernelDIdeal.τ).loc Cert.KernelDIdeal.main_arg13))
      ∧ r.2.sem = fun _ => 0)

def quiescent_KernelDIdeal_pre_kept_d [hKernelDIdeal : Cert.KernelDIdeal.Facts] [hPre_kept_d : Cert.Pre_kept_d.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal_kept_d m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
      ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
      ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4)
      ∧ r.2.mem ((c.tc : Thread Cert.KernelDIdeal.nD Cert.KernelDIdeal.τ).loc Cert.KernelDIdeal.main_arg5) = m ((c.tc : Thread Cert.KernelDIdeal.nD Cert.KernelDIdeal.τ).loc Cert.KernelDIdeal.main_arg5)
      ∧ r.2.mem ((c.tc : Thread Cert.KernelDIdeal.nD Cert.KernelDIdeal.τ).loc Cert.KernelDIdeal.main_arg6) = m ((c.tc : Thread Cert.KernelDIdeal.nD Cert.KernelDIdeal.τ).loc Cert.KernelDIdeal.main_arg6)
      ∧ r.2.mem ((c.tc : Thread Cert.KernelDIdeal.nD Cert.KernelDIdeal.τ).loc Cert.KernelDIdeal.main_arg7) = m ((c.tc : Thread Cert.KernelDIdeal.nD Cert.KernelDIdeal.τ).loc Cert.KernelDIdeal.main_arg7)
      ∧ r.2.mem ((c.tc : Thread Cert.KernelDIdeal.nD Cert.KernelDIdeal.τ).loc Cert.KernelDIdeal.main_arg8) = m ((c.tc : Thread Cert.KernelDIdeal.nD Cert.KernelDIdeal.τ).loc Cert.KernelDIdeal.main_arg8)
      ∧ r.2.mem ((c.tc : Thread Cert.KernelDIdeal.nD Cert.KernelDIdeal.τ).loc Cert.KernelDIdeal.main_arg9) = m ((c.tc : Thread Cert.KernelDIdeal.nD Cert.KernelDIdeal.τ).loc Cert.KernelDIdeal.main_arg9)
      ∧ r.2.mem ((c.tc : Thread Cert.KernelDIdeal.nD Cert.KernelDIdeal.τ).loc Cert.KernelDIdeal.main_arg10) = m ((c.tc : Thread Cert.KernelDIdeal.nD Cert.KernelDIdeal.τ).loc Cert.KernelDIdeal.main_arg10)
      ∧ r.2.mem ((c.tc : Thread Cert.KernelDIdeal.nD Cert.KernelDIdeal.τ).loc Cert.KernelDIdeal.main_arg11) = m ((c.tc : Thread Cert.KernelDIdeal.nD Cert.KernelDIdeal.τ).loc Cert.KernelDIdeal.main_arg11)
      ∧ r.2.mem ((c.tc : Thread Cert.KernelDIdeal.nD Cert.KernelDIdeal.τ).loc Cert.KernelDIdeal.main_arg12) = m ((c.tc : Thread Cert.KernelDIdeal.nD Cert.KernelDIdeal.τ).loc Cert.KernelDIdeal.main_arg12)
      ∧ r.2.mem ((c.tc : Thread Cert.KernelDIdeal.nD Cert.KernelDIdeal.τ).loc Cert.KernelDIdeal.main_arg13) = m ((c.tc : Thread Cert.KernelDIdeal.nD Cert.KernelDIdeal.τ).loc Cert.KernelDIdeal.main_arg13))
      ∧ r.2.sem = fun _ => 0)

def quiescent_ReferenceDIdeal [hReferenceDIdeal : Cert.ReferenceDIdeal.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1)
      ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2)
      ∧ r.2.mem ((c.tc : Thread Cert.ReferenceDIdeal.nD Cert.ReferenceDIdeal.τ).loc Cert.ReferenceDIdeal.main_arg3) = m ((c.tc : Thread Cert.ReferenceDIdeal.nD Cert.ReferenceDIdeal.τ).loc Cert.ReferenceDIdeal.main_arg3)
      ∧ r.2.mem ((c.tc : Thread Cert.ReferenceDIdeal.nD Cert.ReferenceDIdeal.τ).loc Cert.ReferenceDIdeal.main_arg4) = m ((c.tc : Thread Cert.ReferenceDIdeal.nD Cert.ReferenceDIdeal.τ).loc Cert.ReferenceDIdeal.main_arg4)
      ∧ r.2.mem ((c.tc : Thread Cert.ReferenceDIdeal.nD Cert.ReferenceDIdeal.τ).loc Cert.ReferenceDIdeal.main_arg5) = m ((c.tc : Thread Cert.ReferenceDIdeal.nD Cert.ReferenceDIdeal.τ).loc Cert.ReferenceDIdeal.main_arg5)
      ∧ r.2.mem ((c.tc : Thread Cert.ReferenceDIdeal.nD Cert.ReferenceDIdeal.τ).loc Cert.ReferenceDIdeal.main_arg6) = m ((c.tc : Thread Cert.ReferenceDIdeal.nD Cert.ReferenceDIdeal.τ).loc Cert.ReferenceDIdeal.main_arg6)
      ∧ r.2.mem ((c.tc : Thread Cert.ReferenceDIdeal.nD Cert.ReferenceDIdeal.τ).loc Cert.ReferenceDIdeal.main_arg7) = m ((c.tc : Thread Cert.ReferenceDIdeal.nD Cert.ReferenceDIdeal.τ).loc Cert.ReferenceDIdeal.main_arg7)
      ∧ r.2.mem ((c.tc : Thread Cert.ReferenceDIdeal.nD Cert.ReferenceDIdeal.τ).loc Cert.ReferenceDIdeal.main_arg8) = m ((c.tc : Thread Cert.ReferenceDIdeal.nD Cert.ReferenceDIdeal.τ).loc Cert.ReferenceDIdeal.main_arg8)
      ∧ r.2.mem ((c.tc : Thread Cert.ReferenceDIdeal.nD Cert.ReferenceDIdeal.τ).loc Cert.ReferenceDIdeal.main_arg9) = m ((c.tc : Thread Cert.ReferenceDIdeal.nD Cert.ReferenceDIdeal.τ).loc Cert.ReferenceDIdeal.main_arg9)
      ∧ r.2.mem ((c.tc : Thread Cert.ReferenceDIdeal.nD Cert.ReferenceDIdeal.τ).loc Cert.ReferenceDIdeal.main_arg10) = m ((c.tc : Thread Cert.ReferenceDIdeal.nD Cert.ReferenceDIdeal.τ).loc Cert.ReferenceDIdeal.main_arg10)
      ∧ r.2.mem ((c.tc : Thread Cert.ReferenceDIdeal.nD Cert.ReferenceDIdeal.τ).loc Cert.ReferenceDIdeal.main_arg11) = m ((c.tc : Thread Cert.ReferenceDIdeal.nD Cert.ReferenceDIdeal.τ).loc Cert.ReferenceDIdeal.main_arg11)
      ∧ r.2.mem ((c.tc : Thread Cert.ReferenceDIdeal.nD Cert.ReferenceDIdeal.τ).loc Cert.ReferenceDIdeal.main_arg12) = m ((c.tc : Thread Cert.ReferenceDIdeal.nD Cert.ReferenceDIdeal.τ).loc Cert.ReferenceDIdeal.main_arg12)
      ∧ r.2.mem ((c.tc : Thread Cert.ReferenceDIdeal.nD Cert.ReferenceDIdeal.τ).loc Cert.ReferenceDIdeal.main_arg13) = m ((c.tc : Thread Cert.ReferenceDIdeal.nD Cert.ReferenceDIdeal.τ).loc Cert.ReferenceDIdeal.main_arg13))
      ∧ r.2.sem = fun _ => 0)

def quiescent_ReferenceDIdeal_pre_kept_d [hReferenceDIdeal : Cert.ReferenceDIdeal.Facts] [hPre_kept_d : Cert.Pre_kept_d.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal_kept_d m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1)
      ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2)
      ∧ r.2.mem ((c.tc : Thread Cert.ReferenceDIdeal.nD Cert.ReferenceDIdeal.τ).loc Cert.ReferenceDIdeal.main_arg3) = m ((c.tc : Thread Cert.ReferenceDIdeal.nD Cert.ReferenceDIdeal.τ).loc Cert.ReferenceDIdeal.main_arg3)
      ∧ r.2.mem ((c.tc : Thread Cert.ReferenceDIdeal.nD Cert.ReferenceDIdeal.τ).loc Cert.ReferenceDIdeal.main_arg4) = m ((c.tc : Thread Cert.ReferenceDIdeal.nD Cert.ReferenceDIdeal.τ).loc Cert.ReferenceDIdeal.main_arg4)
      ∧ r.2.mem ((c.tc : Thread Cert.ReferenceDIdeal.nD Cert.ReferenceDIdeal.τ).loc Cert.ReferenceDIdeal.main_arg5) = m ((c.tc : Thread Cert.ReferenceDIdeal.nD Cert.ReferenceDIdeal.τ).loc Cert.ReferenceDIdeal.main_arg5)
      ∧ r.2.mem ((c.tc : Thread Cert.ReferenceDIdeal.nD Cert.ReferenceDIdeal.τ).loc Cert.ReferenceDIdeal.main_arg6) = m ((c.tc : Thread Cert.ReferenceDIdeal.nD Cert.ReferenceDIdeal.τ).loc Cert.ReferenceDIdeal.main_arg6)
      ∧ r.2.mem ((c.tc : Thread Cert.ReferenceDIdeal.nD Cert.ReferenceDIdeal.τ).loc Cert.ReferenceDIdeal.main_arg7) = m ((c.tc : Thread Cert.ReferenceDIdeal.nD Cert.ReferenceDIdeal.τ).loc Cert.ReferenceDIdeal.main_arg7)
      ∧ r.2.mem ((c.tc : Thread Cert.ReferenceDIdeal.nD Cert.ReferenceDIdeal.τ).loc Cert.ReferenceDIdeal.main_arg8) = m ((c.tc : Thread Cert.ReferenceDIdeal.nD Cert.ReferenceDIdeal.τ).loc Cert.ReferenceDIdeal.main_arg8)
      ∧ r.2.mem ((c.tc : Thread Cert.ReferenceDIdeal.nD Cert.ReferenceDIdeal.τ).loc Cert.ReferenceDIdeal.main_arg9) = m ((c.tc : Thread Cert.ReferenceDIdeal.nD Cert.ReferenceDIdeal.τ).loc Cert.ReferenceDIdeal.main_arg9)
      ∧ r.2.mem ((c.tc : Thread Cert.ReferenceDIdeal.nD Cert.ReferenceDIdeal.τ).loc Cert.ReferenceDIdeal.main_arg10) = m ((c.tc : Thread Cert.ReferenceDIdeal.nD Cert.ReferenceDIdeal.τ).loc Cert.ReferenceDIdeal.main_arg10)
      ∧ r.2.mem ((c.tc : Thread Cert.ReferenceDIdeal.nD Cert.ReferenceDIdeal.τ).loc Cert.ReferenceDIdeal.main_arg11) = m ((c.tc : Thread Cert.ReferenceDIdeal.nD Cert.ReferenceDIdeal.τ).loc Cert.ReferenceDIdeal.main_arg11)
      ∧ r.2.mem ((c.tc : Thread Cert.ReferenceDIdeal.nD Cert.ReferenceDIdeal.τ).loc Cert.ReferenceDIdeal.main_arg12) = m ((c.tc : Thread Cert.ReferenceDIdeal.nD Cert.ReferenceDIdeal.τ).loc Cert.ReferenceDIdeal.main_arg12)
      ∧ r.2.mem ((c.tc : Thread Cert.ReferenceDIdeal.nD Cert.ReferenceDIdeal.τ).loc Cert.ReferenceDIdeal.main_arg13) = m ((c.tc : Thread Cert.ReferenceDIdeal.nD Cert.ReferenceDIdeal.τ).loc Cert.ReferenceDIdeal.main_arg13))
      ∧ r.2.sem = fun _ => 0)

def preserves_Kernel_KernelIdeal : Prop :=
  True

def algebraic_KernelIdeal_ReferenceIdeal_on_head_pre_kept [hKernelIdeal : Cert.KernelIdeal.Facts] [hReferenceIdeal : Cert.ReferenceIdeal.Facts] [hPre_kept : Cert.Pre_kept.Facts] [hOn_head : Cert.On_head.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kept m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 2048]⟩ : Shape).Idx, (Cert.On_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v0_0) i = v0 c i)
          ∧ (∀ i : (⟨4, ![192, 4, 32, 128]⟩ : Shape).Idx, (Cert.On_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.KernelIdeal.nD Cert.KernelIdeal.τ).loc Cert.KernelIdeal.main_v0_1) i = v1 c i)
          ∧ (∀ i : (⟨4, ![192, 4, 32, 128]⟩ : Shape).Idx, (Cert.On_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.KernelIdeal.nD Cert.KernelIdeal.τ).loc Cert.KernelIdeal.main_v0_2) i = v2 c i)
          ∧ (∀ i : (⟨3, ![4, 192, 128]⟩ : Shape).Idx, (Cert.On_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![128, 2048]⟩ : Shape).Idx, (Cert.On_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_v99) i = v0 c i)
          ∧ (∀ i : (⟨4, ![192, 4, 32, 128]⟩ : Shape).Idx, (Cert.On_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.ReferenceIdeal.nD Cert.ReferenceIdeal.τ).loc Cert.ReferenceIdeal.main_v102) i = v1 c i)
          ∧ (∀ i : (⟨4, ![192, 4, 32, 128]⟩ : Shape).Idx, (Cert.On_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.ReferenceIdeal.nD Cert.ReferenceIdeal.τ).loc Cert.ReferenceIdeal.main_v105) i = v2 c i)
          ∧ (∀ i : (⟨3, ![4, 192, 128]⟩ : Shape).Idx, (Cert.On_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 i = 1#1 → r.2.mem ((c.tc : Thread Cert.ReferenceIdeal.nD Cert.ReferenceIdeal.τ).loc Cert.ReferenceIdeal.main_v108) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KernelB_KernelBIdeal : Prop :=
  True

def algebraic_KernelBIdeal_ReferenceBIdeal_on_head_b_pre_kept_b [hKernelBIdeal : Cert.KernelBIdeal.Facts] [hReferenceBIdeal : Cert.ReferenceBIdeal.Facts] [hPre_kept_b : Cert.Pre_kept_b.Facts] [hOn_head_b : Cert.On_head_b.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_kept_b m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)
      ∧ m' ((c.tc : Thread Cert.ReferenceBIdeal.nD Cert.ReferenceBIdeal.τ).loc Cert.ReferenceBIdeal.main_arg4) = m ((c.tc : Thread Cert.KernelBIdeal.nD Cert.KernelBIdeal.τ).loc Cert.KernelBIdeal.main_arg4)
      ∧ m' ((c.tc : Thread Cert.ReferenceBIdeal.nD Cert.ReferenceBIdeal.τ).loc Cert.ReferenceBIdeal.main_arg5) = m ((c.tc : Thread Cert.KernelBIdeal.nD Cert.KernelBIdeal.τ).loc Cert.KernelBIdeal.main_arg5)
      ∧ m' ((c.tc : Thread Cert.ReferenceBIdeal.nD Cert.ReferenceBIdeal.τ).loc Cert.ReferenceBIdeal.main_arg6) = m ((c.tc : Thread Cert.KernelBIdeal.nD Cert.KernelBIdeal.τ).loc Cert.KernelBIdeal.main_arg6)
      ∧ m' ((c.tc : Thread Cert.ReferenceBIdeal.nD Cert.ReferenceBIdeal.τ).loc Cert.ReferenceBIdeal.main_arg7) = m ((c.tc : Thread Cert.KernelBIdeal.nD Cert.KernelBIdeal.τ).loc Cert.KernelBIdeal.main_arg7)
      ∧ m' ((c.tc : Thread Cert.ReferenceBIdeal.nD Cert.ReferenceBIdeal.τ).loc Cert.ReferenceBIdeal.main_arg8) = m ((c.tc : Thread Cert.KernelBIdeal.nD Cert.KernelBIdeal.τ).loc Cert.KernelBIdeal.main_arg8)
      ∧ m' ((c.tc : Thread Cert.ReferenceBIdeal.nD Cert.ReferenceBIdeal.τ).loc Cert.ReferenceBIdeal.main_arg9) = m ((c.tc : Thread Cert.KernelBIdeal.nD Cert.KernelBIdeal.τ).loc Cert.KernelBIdeal.main_arg9)
      ∧ m' ((c.tc : Thread Cert.ReferenceBIdeal.nD Cert.ReferenceBIdeal.τ).loc Cert.ReferenceBIdeal.main_arg10) = m ((c.tc : Thread Cert.KernelBIdeal.nD Cert.KernelBIdeal.τ).loc Cert.KernelBIdeal.main_arg10)
      ∧ m' ((c.tc : Thread Cert.ReferenceBIdeal.nD Cert.ReferenceBIdeal.τ).loc Cert.ReferenceBIdeal.main_arg11) = m ((c.tc : Thread Cert.KernelBIdeal.nD Cert.KernelBIdeal.τ).loc Cert.KernelBIdeal.main_arg11)
      ∧ m' ((c.tc : Thread Cert.ReferenceBIdeal.nD Cert.ReferenceBIdeal.τ).loc Cert.ReferenceBIdeal.main_arg12) = m ((c.tc : Thread Cert.KernelBIdeal.nD Cert.KernelBIdeal.τ).loc Cert.KernelBIdeal.main_arg12)
      ∧ m' ((c.tc : Thread Cert.ReferenceBIdeal.nD Cert.ReferenceBIdeal.τ).loc Cert.ReferenceBIdeal.main_arg13) = m ((c.tc : Thread Cert.KernelBIdeal.nD Cert.KernelBIdeal.τ).loc Cert.KernelBIdeal.main_arg13)) →
    ∃ (v0 : (c : Dev Cert.KernelBIdeal.nD) → Buf (Elt Ideal) ((c.tc : Thread Cert.KernelBIdeal.nD Cert.KernelBIdeal.τ).loc Cert.KernelBIdeal.main_v0_0)) (v1 : (c : Dev Cert.KernelBIdeal.nD) → Buf (Elt Ideal) ((c.tc : Thread Cert.KernelBIdeal.nD Cert.KernelBIdeal.τ).loc Cert.KernelBIdeal.main_v0_1)) (v2 : (c : Dev Cert.KernelBIdeal.nD) → Buf (Elt Ideal) ((c.tc : Thread Cert.KernelBIdeal.nD Cert.KernelBIdeal.τ).loc Cert.KernelBIdeal.main_v0_2)) (v3 : (c : Dev Cert.KernelBIdeal.nD) → Buf (Elt Ideal) ((c.tc : Thread Cert.KernelBIdeal.nD Cert.KernelBIdeal.τ).loc Cert.KernelBIdeal.main_v0_3)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          (∀ i : (⟨2, ![128, 2048]⟩ : Shape).Idx, (Cert.On_head_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7)) (m ((c.tc : Thread Cert.KernelBIdeal.nD Cert.KernelBIdeal.τ).loc Cert.KernelBIdeal.main_arg8)) (m ((c.tc : Thread Cert.KernelBIdeal.nD Cert.KernelBIdeal.τ).loc Cert.KernelBIdeal.main_arg9)) (m ((c.tc : Thread Cert.KernelBIdeal.nD Cert.KernelBIdeal.τ).loc Cert.KernelBIdeal.main_arg10)) (m ((c.tc : Thread Cert.KernelBIdeal.nD Cert.KernelBIdeal.τ).loc Cert.KernelBIdeal.main_arg11)) (m ((c.tc : Thread Cert.KernelBIdeal.nD Cert.KernelBIdeal.τ).loc Cert.KernelBIdeal.main_arg12)) (m ((c.tc : Thread Cert.KernelBIdeal.nD Cert.KernelBIdeal.τ).loc Cert.KernelBIdeal.main_arg13))).1 i = 1#1 → r.2.mem ((c.tc : Thread Cert.KernelBIdeal.nD Cert.KernelBIdeal.τ).loc Cert.KernelBIdeal.main_v0_0) i = v0 c i)
          ∧ (∀ i : (⟨4, ![192, 4, 32, 128]⟩ : Shape).Idx, (Cert.On_head_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7)) (m ((c.tc : Thread Cert.KernelBIdeal.nD Cert.KernelBIdeal.τ).loc Cert.KernelBIdeal.main_arg8)) (m ((c.tc : Thread Cert.KernelBIdeal.nD Cert.KernelBIdeal.τ).loc Cert.KernelBIdeal.main_arg9)) (m ((c.tc : Thread Cert.KernelBIdeal.nD Cert.KernelBIdeal.τ).loc Cert.KernelBIdeal.main_arg10)) (m ((c.tc : Thread Cert.KernelBIdeal.nD Cert.KernelBIdeal.τ).loc Cert.KernelBIdeal.main_arg11)) (m ((c.tc : Thread Cert.KernelBIdeal.nD Cert.KernelBIdeal.τ).loc Cert.KernelBIdeal.main_arg12)) (m ((c.tc : Thread Cert.KernelBIdeal.nD Cert.KernelBIdeal.τ).loc Cert.KernelBIdeal.main_arg13))).2.1 i = 1#1 → r.2.mem ((c.tc : Thread Cert.KernelBIdeal.nD Cert.KernelBIdeal.τ).loc Cert.KernelBIdeal.main_v0_1) i = v1 c i)
          ∧ (∀ i : (⟨4, ![192, 4, 32, 128]⟩ : Shape).Idx, (Cert.On_head_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7)) (m ((c.tc : Thread Cert.KernelBIdeal.nD Cert.KernelBIdeal.τ).loc Cert.KernelBIdeal.main_arg8)) (m ((c.tc : Thread Cert.KernelBIdeal.nD Cert.KernelBIdeal.τ).loc Cert.KernelBIdeal.main_arg9)) (m ((c.tc : Thread Cert.KernelBIdeal.nD Cert.KernelBIdeal.τ).loc Cert.KernelBIdeal.main_arg10)) (m ((c.tc : Thread Cert.KernelBIdeal.nD Cert.KernelBIdeal.τ).loc Cert.KernelBIdeal.main_arg11)) (m ((c.tc : Thread Cert.KernelBIdeal.nD Cert.KernelBIdeal.τ).loc Cert.KernelBIdeal.main_arg12)) (m ((c.tc : Thread Cert.KernelBIdeal.nD Cert.KernelBIdeal.τ).loc Cert.KernelBIdeal.main_arg13))).2.2.1 i = 1#1 → r.2.mem ((c.tc : Thread Cert.KernelBIdeal.nD Cert.KernelBIdeal.τ).loc Cert.KernelBIdeal.main_v0_2) i = v2 c i)
          ∧ (∀ i : (⟨3, ![4, 192, 128]⟩ : Shape).Idx, (Cert.On_head_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7)) (m ((c.tc : Thread Cert.KernelBIdeal.nD Cert.KernelBIdeal.τ).loc Cert.KernelBIdeal.main_arg8)) (m ((c.tc : Thread Cert.KernelBIdeal.nD Cert.KernelBIdeal.τ).loc Cert.KernelBIdeal.main_arg9)) (m ((c.tc : Thread Cert.KernelBIdeal.nD Cert.KernelBIdeal.τ).loc Cert.KernelBIdeal.main_arg10)) (m ((c.tc : Thread Cert.KernelBIdeal.nD Cert.KernelBIdeal.τ).loc Cert.KernelBIdeal.main_arg11)) (m ((c.tc : Thread Cert.KernelBIdeal.nD Cert.KernelBIdeal.τ).loc Cert.KernelBIdeal.main_arg12)) (m ((c.tc : Thread Cert.KernelBIdeal.nD Cert.KernelBIdeal.τ).loc Cert.KernelBIdeal.main_arg13))).2.2.2 i = 1#1 → r.2.mem ((c.tc : Thread Cert.KernelBIdeal.nD Cert.KernelBIdeal.τ).loc Cert.KernelBIdeal.main_v0_3) i = v3 c i)
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
          ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
          ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
          ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
          ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
          ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8)
          ∧ r.2.mem ((c.tc : Thread Cert.KernelBIdeal.nD Cert.KernelBIdeal.τ).loc Cert.KernelBIdeal.main_arg9) = m ((c.tc : Thread Cert.KernelBIdeal.nD Cert.KernelBIdeal.τ).loc Cert.KernelBIdeal.main_arg9)
          ∧ r.2.mem ((c.tc : Thread Cert.KernelBIdeal.nD Cert.KernelBIdeal.τ).loc Cert.KernelBIdeal.main_arg10) = m ((c.tc : Thread Cert.KernelBIdeal.nD Cert.KernelBIdeal.τ).loc Cert.KernelBIdeal.main_arg10)
          ∧ r.2.mem ((c.tc : Thread Cert.KernelBIdeal.nD Cert.KernelBIdeal.τ).loc Cert.KernelBIdeal.main_arg11) = m ((c.tc : Thread Cert.KernelBIdeal.nD Cert.KernelBIdeal.τ).loc Cert.KernelBIdeal.main_arg11)
          ∧ r.2.mem ((c.tc : Thread Cert.KernelBIdeal.nD Cert.KernelBIdeal.τ).loc Cert.KernelBIdeal.main_arg12) = m ((c.tc : Thread Cert.KernelBIdeal.nD Cert.KernelBIdeal.τ).loc Cert.KernelBIdeal.main_arg12)
          ∧ r.2.mem ((c.tc : Thread Cert.KernelBIdeal.nD Cert.KernelBIdeal.τ).loc Cert.KernelBIdeal.main_arg13) = m ((c.tc : Thread Cert.KernelBIdeal.nD Cert.KernelBIdeal.τ).loc Cert.KernelBIdeal.main_arg13))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          (∀ i : (⟨2, ![128, 2048]⟩ : Shape).Idx, (Cert.On_head_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7)) (m ((c.tc : Thread Cert.KernelBIdeal.nD Cert.KernelBIdeal.τ).loc Cert.KernelBIdeal.main_arg8)) (m ((c.tc : Thread Cert.KernelBIdeal.nD Cert.KernelBIdeal.τ).loc Cert.KernelBIdeal.main_arg9)) (m ((c.tc : Thread Cert.KernelBIdeal.nD Cert.KernelBIdeal.τ).loc Cert.KernelBIdeal.main_arg10)) (m ((c.tc : Thread Cert.KernelBIdeal.nD Cert.KernelBIdeal.τ).loc Cert.KernelBIdeal.main_arg11)) (m ((c.tc : Thread Cert.KernelBIdeal.nD Cert.KernelBIdeal.τ).loc Cert.KernelBIdeal.main_arg12)) (m ((c.tc : Thread Cert.KernelBIdeal.nD Cert.KernelBIdeal.τ).loc Cert.KernelBIdeal.main_arg13))).1 i = 1#1 → r.2.mem ((c.tc : Thread Cert.ReferenceBIdeal.nD Cert.ReferenceBIdeal.τ).loc Cert.ReferenceBIdeal.main_v99) i = v0 c i)
          ∧ (∀ i : (⟨4, ![192, 4, 32, 128]⟩ : Shape).Idx, (Cert.On_head_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7)) (m ((c.tc : Thread Cert.KernelBIdeal.nD Cert.KernelBIdeal.τ).loc Cert.KernelBIdeal.main_arg8)) (m ((c.tc : Thread Cert.KernelBIdeal.nD Cert.KernelBIdeal.τ).loc Cert.KernelBIdeal.main_arg9)) (m ((c.tc : Thread Cert.KernelBIdeal.nD Cert.KernelBIdeal.τ).loc Cert.KernelBIdeal.main_arg10)) (m ((c.tc : Thread Cert.KernelBIdeal.nD Cert.KernelBIdeal.τ).loc Cert.KernelBIdeal.main_arg11)) (m ((c.tc : Thread Cert.KernelBIdeal.nD Cert.KernelBIdeal.τ).loc Cert.KernelBIdeal.main_arg12)) (m ((c.tc : Thread Cert.KernelBIdeal.nD Cert.KernelBIdeal.τ).loc Cert.KernelBIdeal.main_arg13))).2.1 i = 1#1 → r.2.mem ((c.tc : Thread Cert.ReferenceBIdeal.nD Cert.ReferenceBIdeal.τ).loc Cert.ReferenceBIdeal.main_v102) i = v1 c i)
          ∧ (∀ i : (⟨4, ![192, 4, 32, 128]⟩ : Shape).Idx, (Cert.On_head_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7)) (m ((c.tc : Thread Cert.KernelBIdeal.nD Cert.KernelBIdeal.τ).loc Cert.KernelBIdeal.main_arg8)) (m ((c.tc : Thread Cert.KernelBIdeal.nD Cert.KernelBIdeal.τ).loc Cert.KernelBIdeal.main_arg9)) (m ((c.tc : Thread Cert.KernelBIdeal.nD Cert.KernelBIdeal.τ).loc Cert.KernelBIdeal.main_arg10)) (m ((c.tc : Thread Cert.KernelBIdeal.nD Cert.KernelBIdeal.τ).loc Cert.KernelBIdeal.main_arg11)) (m ((c.tc : Thread Cert.KernelBIdeal.nD Cert.KernelBIdeal.τ).loc Cert.KernelBIdeal.main_arg12)) (m ((c.tc : Thread Cert.KernelBIdeal.nD Cert.KernelBIdeal.τ).loc Cert.KernelBIdeal.main_arg13))).2.2.1 i = 1#1 → r.2.mem ((c.tc : Thread Cert.ReferenceBIdeal.nD Cert.ReferenceBIdeal.τ).loc Cert.ReferenceBIdeal.main_v105) i = v2 c i)
          ∧ (∀ i : (⟨3, ![4, 192, 128]⟩ : Shape).Idx, (Cert.On_head_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7)) (m ((c.tc : Thread Cert.KernelBIdeal.nD Cert.KernelBIdeal.τ).loc Cert.KernelBIdeal.main_arg8)) (m ((c.tc : Thread Cert.KernelBIdeal.nD Cert.KernelBIdeal.τ).loc Cert.KernelBIdeal.main_arg9)) (m ((c.tc : Thread Cert.KernelBIdeal.nD Cert.KernelBIdeal.τ).loc Cert.KernelBIdeal.main_arg10)) (m ((c.tc : Thread Cert.KernelBIdeal.nD Cert.KernelBIdeal.τ).loc Cert.KernelBIdeal.main_arg11)) (m ((c.tc : Thread Cert.KernelBIdeal.nD Cert.KernelBIdeal.τ).loc Cert.KernelBIdeal.main_arg12)) (m ((c.tc : Thread Cert.KernelBIdeal.nD Cert.KernelBIdeal.τ).loc Cert.KernelBIdeal.main_arg13))).2.2.2 i = 1#1 → r.2.mem ((c.tc : Thread Cert.ReferenceBIdeal.nD Cert.ReferenceBIdeal.τ).loc Cert.ReferenceBIdeal.main_v108) i = v3 c i)
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3)
          ∧ r.2.mem ((c.tc : Thread Cert.ReferenceBIdeal.nD Cert.ReferenceBIdeal.τ).loc Cert.ReferenceBIdeal.main_arg4) = m' ((c.tc : Thread Cert.ReferenceBIdeal.nD Cert.ReferenceBIdeal.τ).loc Cert.ReferenceBIdeal.main_arg4)
          ∧ r.2.mem ((c.tc : Thread Cert.ReferenceBIdeal.nD Cert.ReferenceBIdeal.τ).loc Cert.ReferenceBIdeal.main_arg5) = m' ((c.tc : Thread Cert.ReferenceBIdeal.nD Cert.ReferenceBIdeal.τ).loc Cert.ReferenceBIdeal.main_arg5)
          ∧ r.2.mem ((c.tc : Thread Cert.ReferenceBIdeal.nD Cert.ReferenceBIdeal.τ).loc Cert.ReferenceBIdeal.main_arg6) = m' ((c.tc : Thread Cert.ReferenceBIdeal.nD Cert.ReferenceBIdeal.τ).loc Cert.ReferenceBIdeal.main_arg6)
          ∧ r.2.mem ((c.tc : Thread Cert.ReferenceBIdeal.nD Cert.ReferenceBIdeal.τ).loc Cert.ReferenceBIdeal.main_arg7) = m' ((c.tc : Thread Cert.ReferenceBIdeal.nD Cert.ReferenceBIdeal.τ).loc Cert.ReferenceBIdeal.main_arg7)
          ∧ r.2.mem ((c.tc : Thread Cert.ReferenceBIdeal.nD Cert.ReferenceBIdeal.τ).loc Cert.ReferenceBIdeal.main_arg8) = m' ((c.tc : Thread Cert.ReferenceBIdeal.nD Cert.ReferenceBIdeal.τ).loc Cert.ReferenceBIdeal.main_arg8)
          ∧ r.2.mem ((c.tc : Thread Cert.ReferenceBIdeal.nD Cert.ReferenceBIdeal.τ).loc Cert.ReferenceBIdeal.main_arg9) = m' ((c.tc : Thread Cert.ReferenceBIdeal.nD Cert.ReferenceBIdeal.τ).loc Cert.ReferenceBIdeal.main_arg9)
          ∧ r.2.mem ((c.tc : Thread Cert.ReferenceBIdeal.nD Cert.ReferenceBIdeal.τ).loc Cert.ReferenceBIdeal.main_arg10) = m' ((c.tc : Thread Cert.ReferenceBIdeal.nD Cert.ReferenceBIdeal.τ).loc Cert.ReferenceBIdeal.main_arg10)
          ∧ r.2.mem ((c.tc : Thread Cert.ReferenceBIdeal.nD Cert.ReferenceBIdeal.τ).loc Cert.ReferenceBIdeal.main_arg11) = m' ((c.tc : Thread Cert.ReferenceBIdeal.nD Cert.ReferenceBIdeal.τ).loc Cert.ReferenceBIdeal.main_arg11)
          ∧ r.2.mem ((c.tc : Thread Cert.ReferenceBIdeal.nD Cert.ReferenceBIdeal.τ).loc Cert.ReferenceBIdeal.main_arg12) = m' ((c.tc : Thread Cert.ReferenceBIdeal.nD Cert.ReferenceBIdeal.τ).loc Cert.ReferenceBIdeal.main_arg12)
          ∧ r.2.mem ((c.tc : Thread Cert.ReferenceBIdeal.nD Cert.ReferenceBIdeal.τ).loc Cert.ReferenceBIdeal.main_arg13) = m' ((c.tc : Thread Cert.ReferenceBIdeal.nD Cert.ReferenceBIdeal.τ).loc Cert.ReferenceBIdeal.main_arg13))

def preserves_KernelC_KernelCIdeal : Prop :=
  True

def algebraic_KernelCIdeal_ReferenceCIdeal_on_head_c_pre_kept_c [hKernelCIdeal : Cert.KernelCIdeal.Facts] [hReferenceCIdeal : Cert.ReferenceCIdeal.Facts] [hPre_kept_c : Cert.Pre_kept_c.Facts] [hOn_head_c : Cert.On_head_c.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal_kept_c m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
      ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)
      ∧ m' ((c.tc : Thread Cert.ReferenceCIdeal.nD Cert.ReferenceCIdeal.τ).loc Cert.ReferenceCIdeal.main_arg4) = m ((c.tc : Thread Cert.KernelCIdeal.nD Cert.KernelCIdeal.τ).loc Cert.KernelCIdeal.main_arg4)
      ∧ m' ((c.tc : Thread Cert.ReferenceCIdeal.nD Cert.ReferenceCIdeal.τ).loc Cert.ReferenceCIdeal.main_arg5) = m ((c.tc : Thread Cert.KernelCIdeal.nD Cert.KernelCIdeal.τ).loc Cert.KernelCIdeal.main_arg5)
      ∧ m' ((c.tc : Thread Cert.ReferenceCIdeal.nD Cert.ReferenceCIdeal.τ).loc Cert.ReferenceCIdeal.main_arg6) = m ((c.tc : Thread Cert.KernelCIdeal.nD Cert.KernelCIdeal.τ).loc Cert.KernelCIdeal.main_arg6)
      ∧ m' ((c.tc : Thread Cert.ReferenceCIdeal.nD Cert.ReferenceCIdeal.τ).loc Cert.ReferenceCIdeal.main_arg7) = m ((c.tc : Thread Cert.KernelCIdeal.nD Cert.KernelCIdeal.τ).loc Cert.KernelCIdeal.main_arg7)
      ∧ m' ((c.tc : Thread Cert.ReferenceCIdeal.nD Cert.ReferenceCIdeal.τ).loc Cert.ReferenceCIdeal.main_arg8) = m ((c.tc : Thread Cert.KernelCIdeal.nD Cert.KernelCIdeal.τ).loc Cert.KernelCIdeal.main_arg8)
      ∧ m' ((c.tc : Thread Cert.ReferenceCIdeal.nD Cert.ReferenceCIdeal.τ).loc Cert.ReferenceCIdeal.main_arg9) = m ((c.tc : Thread Cert.KernelCIdeal.nD Cert.KernelCIdeal.τ).loc Cert.KernelCIdeal.main_arg9)
      ∧ m' ((c.tc : Thread Cert.ReferenceCIdeal.nD Cert.ReferenceCIdeal.τ).loc Cert.ReferenceCIdeal.main_arg10) = m ((c.tc : Thread Cert.KernelCIdeal.nD Cert.KernelCIdeal.τ).loc Cert.KernelCIdeal.main_arg10)
      ∧ m' ((c.tc : Thread Cert.ReferenceCIdeal.nD Cert.ReferenceCIdeal.τ).loc Cert.ReferenceCIdeal.main_arg11) = m ((c.tc : Thread Cert.KernelCIdeal.nD Cert.KernelCIdeal.τ).loc Cert.KernelCIdeal.main_arg11)
      ∧ m' ((c.tc : Thread Cert.ReferenceCIdeal.nD Cert.ReferenceCIdeal.τ).loc Cert.ReferenceCIdeal.main_arg12) = m ((c.tc : Thread Cert.KernelCIdeal.nD Cert.KernelCIdeal.τ).loc Cert.KernelCIdeal.main_arg12)
      ∧ m' ((c.tc : Thread Cert.ReferenceCIdeal.nD Cert.ReferenceCIdeal.τ).loc Cert.ReferenceCIdeal.main_arg13) = m ((c.tc : Thread Cert.KernelCIdeal.nD Cert.KernelCIdeal.τ).loc Cert.KernelCIdeal.main_arg13)) →
    ∃ (v0 : (c : Dev Cert.KernelCIdeal.nD) → Buf (Elt Ideal) ((c.tc : Thread Cert.KernelCIdeal.nD Cert.KernelCIdeal.τ).loc Cert.KernelCIdeal.main_v0_0)) (v1 : (c : Dev Cert.KernelCIdeal.nD) → Buf (Elt Ideal) ((c.tc : Thread Cert.KernelCIdeal.nD Cert.KernelCIdeal.τ).loc Cert.KernelCIdeal.main_v0_1)) (v2 : (c : Dev Cert.KernelCIdeal.nD) → Buf (Elt Ideal) ((c.tc : Thread Cert.KernelCIdeal.nD Cert.KernelCIdeal.τ).loc Cert.KernelCIdeal.main_v0_2)) (v3 : (c : Dev Cert.KernelCIdeal.nD) → Buf (Elt Ideal) ((c.tc : Thread Cert.KernelCIdeal.nD Cert.KernelCIdeal.τ).loc Cert.KernelCIdeal.main_v0_3)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          (∀ i : (⟨2, ![128, 2048]⟩ : Shape).Idx, (Cert.On_head_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7)) (m ((c.tc : Thread Cert.KernelCIdeal.nD Cert.KernelCIdeal.τ).loc Cert.KernelCIdeal.main_arg8)) (m ((c.tc : Thread Cert.KernelCIdeal.nD Cert.KernelCIdeal.τ).loc Cert.KernelCIdeal.main_arg9)) (m ((c.tc : Thread Cert.KernelCIdeal.nD Cert.KernelCIdeal.τ).loc Cert.KernelCIdeal.main_arg10)) (m ((c.tc : Thread Cert.KernelCIdeal.nD Cert.KernelCIdeal.τ).loc Cert.KernelCIdeal.main_arg11)) (m ((c.tc : Thread Cert.KernelCIdeal.nD Cert.KernelCIdeal.τ).loc Cert.KernelCIdeal.main_arg12)) (m ((c.tc : Thread Cert.KernelCIdeal.nD Cert.KernelCIdeal.τ).loc Cert.KernelCIdeal.main_arg13))).1 i = 1#1 → r.2.mem ((c.tc : Thread Cert.KernelCIdeal.nD Cert.KernelCIdeal.τ).loc Cert.KernelCIdeal.main_v0_0) i = v0 c i)
          ∧ (∀ i : (⟨4, ![192, 4, 32, 128]⟩ : Shape).Idx, (Cert.On_head_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7)) (m ((c.tc : Thread Cert.KernelCIdeal.nD Cert.KernelCIdeal.τ).loc Cert.KernelCIdeal.main_arg8)) (m ((c.tc : Thread Cert.KernelCIdeal.nD Cert.KernelCIdeal.τ).loc Cert.KernelCIdeal.main_arg9)) (m ((c.tc : Thread Cert.KernelCIdeal.nD Cert.KernelCIdeal.τ).loc Cert.KernelCIdeal.main_arg10)) (m ((c.tc : Thread Cert.KernelCIdeal.nD Cert.KernelCIdeal.τ).loc Cert.KernelCIdeal.main_arg11)) (m ((c.tc : Thread Cert.KernelCIdeal.nD Cert.KernelCIdeal.τ).loc Cert.KernelCIdeal.main_arg12)) (m ((c.tc : Thread Cert.KernelCIdeal.nD Cert.KernelCIdeal.τ).loc Cert.KernelCIdeal.main_arg13))).2.1 i = 1#1 → r.2.mem ((c.tc : Thread Cert.KernelCIdeal.nD Cert.KernelCIdeal.τ).loc Cert.KernelCIdeal.main_v0_1) i = v1 c i)
          ∧ (∀ i : (⟨4, ![192, 4, 32, 128]⟩ : Shape).Idx, (Cert.On_head_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7)) (m ((c.tc : Thread Cert.KernelCIdeal.nD Cert.KernelCIdeal.τ).loc Cert.KernelCIdeal.main_arg8)) (m ((c.tc : Thread Cert.KernelCIdeal.nD Cert.KernelCIdeal.τ).loc Cert.KernelCIdeal.main_arg9)) (m ((c.tc : Thread Cert.KernelCIdeal.nD Cert.KernelCIdeal.τ).loc Cert.KernelCIdeal.main_arg10)) (m ((c.tc : Thread Cert.KernelCIdeal.nD Cert.KernelCIdeal.τ).loc Cert.KernelCIdeal.main_arg11)) (m ((c.tc : Thread Cert.KernelCIdeal.nD Cert.KernelCIdeal.τ).loc Cert.KernelCIdeal.main_arg12)) (m ((c.tc : Thread Cert.KernelCIdeal.nD Cert.KernelCIdeal.τ).loc Cert.KernelCIdeal.main_arg13))).2.2.1 i = 1#1 → r.2.mem ((c.tc : Thread Cert.KernelCIdeal.nD Cert.KernelCIdeal.τ).loc Cert.KernelCIdeal.main_v0_2) i = v2 c i)
          ∧ (∀ i : (⟨3, ![4, 192, 128]⟩ : Shape).Idx, (Cert.On_head_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7)) (m ((c.tc : Thread Cert.KernelCIdeal.nD Cert.KernelCIdeal.τ).loc Cert.KernelCIdeal.main_arg8)) (m ((c.tc : Thread Cert.KernelCIdeal.nD Cert.KernelCIdeal.τ).loc Cert.KernelCIdeal.main_arg9)) (m ((c.tc : Thread Cert.KernelCIdeal.nD Cert.KernelCIdeal.τ).loc Cert.KernelCIdeal.main_arg10)) (m ((c.tc : Thread Cert.KernelCIdeal.nD Cert.KernelCIdeal.τ).loc Cert.KernelCIdeal.main_arg11)) (m ((c.tc : Thread Cert.KernelCIdeal.nD Cert.KernelCIdeal.τ).loc Cert.KernelCIdeal.main_arg12)) (m ((c.tc : Thread Cert.KernelCIdeal.nD Cert.KernelCIdeal.τ).loc Cert.KernelCIdeal.main_arg13))).2.2.2 i = 1#1 → r.2.mem ((c.tc : Thread Cert.KernelCIdeal.nD Cert.KernelCIdeal.τ).loc Cert.KernelCIdeal.main_v0_3) i = v3 c i)
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
          ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
          ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
          ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
          ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
          ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7)
          ∧ r.2.mem ((c.tc : Thread Cert.KernelCIdeal.nD Cert.KernelCIdeal.τ).loc Cert.KernelCIdeal.main_arg8) = m ((c.tc : Thread Cert.KernelCIdeal.nD Cert.KernelCIdeal.τ).loc Cert.KernelCIdeal.main_arg8)
          ∧ r.2.mem ((c.tc : Thread Cert.KernelCIdeal.nD Cert.KernelCIdeal.τ).loc Cert.KernelCIdeal.main_arg9) = m ((c.tc : Thread Cert.KernelCIdeal.nD Cert.KernelCIdeal.τ).loc Cert.KernelCIdeal.main_arg9)
          ∧ r.2.mem ((c.tc : Thread Cert.KernelCIdeal.nD Cert.KernelCIdeal.τ).loc Cert.KernelCIdeal.main_arg10) = m ((c.tc : Thread Cert.KernelCIdeal.nD Cert.KernelCIdeal.τ).loc Cert.KernelCIdeal.main_arg10)
          ∧ r.2.mem ((c.tc : Thread Cert.KernelCIdeal.nD Cert.KernelCIdeal.τ).loc Cert.KernelCIdeal.main_arg11) = m ((c.tc : Thread Cert.KernelCIdeal.nD Cert.KernelCIdeal.τ).loc Cert.KernelCIdeal.main_arg11)
          ∧ r.2.mem ((c.tc : Thread Cert.KernelCIdeal.nD Cert.KernelCIdeal.τ).loc Cert.KernelCIdeal.main_arg12) = m ((c.tc : Thread Cert.KernelCIdeal.nD Cert.KernelCIdeal.τ).loc Cert.KernelCIdeal.main_arg12)
          ∧ r.2.mem ((c.tc : Thread Cert.KernelCIdeal.nD Cert.KernelCIdeal.τ).loc Cert.KernelCIdeal.main_arg13) = m ((c.tc : Thread Cert.KernelCIdeal.nD Cert.KernelCIdeal.τ).loc Cert.KernelCIdeal.main_arg13))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          (∀ i : (⟨2, ![128, 2048]⟩ : Shape).Idx, (Cert.On_head_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7)) (m ((c.tc : Thread Cert.KernelCIdeal.nD Cert.KernelCIdeal.τ).loc Cert.KernelCIdeal.main_arg8)) (m ((c.tc : Thread Cert.KernelCIdeal.nD Cert.KernelCIdeal.τ).loc Cert.KernelCIdeal.main_arg9)) (m ((c.tc : Thread Cert.KernelCIdeal.nD Cert.KernelCIdeal.τ).loc Cert.KernelCIdeal.main_arg10)) (m ((c.tc : Thread Cert.KernelCIdeal.nD Cert.KernelCIdeal.τ).loc Cert.KernelCIdeal.main_arg11)) (m ((c.tc : Thread Cert.KernelCIdeal.nD Cert.KernelCIdeal.τ).loc Cert.KernelCIdeal.main_arg12)) (m ((c.tc : Thread Cert.KernelCIdeal.nD Cert.KernelCIdeal.τ).loc Cert.KernelCIdeal.main_arg13))).1 i = 1#1 → r.2.mem ((c.tc : Thread Cert.ReferenceCIdeal.nD Cert.ReferenceCIdeal.τ).loc Cert.ReferenceCIdeal.main_v99) i = v0 c i)
          ∧ (∀ i : (⟨4, ![192, 4, 32, 128]⟩ : Shape).Idx, (Cert.On_head_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7)) (m ((c.tc : Thread Cert.KernelCIdeal.nD Cert.KernelCIdeal.τ).loc Cert.KernelCIdeal.main_arg8)) (m ((c.tc : Thread Cert.KernelCIdeal.nD Cert.KernelCIdeal.τ).loc Cert.KernelCIdeal.main_arg9)) (m ((c.tc : Thread Cert.KernelCIdeal.nD Cert.KernelCIdeal.τ).loc Cert.KernelCIdeal.main_arg10)) (m ((c.tc : Thread Cert.KernelCIdeal.nD Cert.KernelCIdeal.τ).loc Cert.KernelCIdeal.main_arg11)) (m ((c.tc : Thread Cert.KernelCIdeal.nD Cert.KernelCIdeal.τ).loc Cert.KernelCIdeal.main_arg12)) (m ((c.tc : Thread Cert.KernelCIdeal.nD Cert.KernelCIdeal.τ).loc Cert.KernelCIdeal.main_arg13))).2.1 i = 1#1 → r.2.mem ((c.tc : Thread Cert.ReferenceCIdeal.nD Cert.ReferenceCIdeal.τ).loc Cert.ReferenceCIdeal.main_v102) i = v1 c i)
          ∧ (∀ i : (⟨4, ![192, 4, 32, 128]⟩ : Shape).Idx, (Cert.On_head_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7)) (m ((c.tc : Thread Cert.KernelCIdeal.nD Cert.KernelCIdeal.τ).loc Cert.KernelCIdeal.main_arg8)) (m ((c.tc : Thread Cert.KernelCIdeal.nD Cert.KernelCIdeal.τ).loc Cert.KernelCIdeal.main_arg9)) (m ((c.tc : Thread Cert.KernelCIdeal.nD Cert.KernelCIdeal.τ).loc Cert.KernelCIdeal.main_arg10)) (m ((c.tc : Thread Cert.KernelCIdeal.nD Cert.KernelCIdeal.τ).loc Cert.KernelCIdeal.main_arg11)) (m ((c.tc : Thread Cert.KernelCIdeal.nD Cert.KernelCIdeal.τ).loc Cert.KernelCIdeal.main_arg12)) (m ((c.tc : Thread Cert.KernelCIdeal.nD Cert.KernelCIdeal.τ).loc Cert.KernelCIdeal.main_arg13))).2.2.1 i = 1#1 → r.2.mem ((c.tc : Thread Cert.ReferenceCIdeal.nD Cert.ReferenceCIdeal.τ).loc Cert.ReferenceCIdeal.main_v105) i = v2 c i)
          ∧ (∀ i : (⟨3, ![4, 192, 128]⟩ : Shape).Idx, (Cert.On_head_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7)) (m ((c.tc : Thread Cert.KernelCIdeal.nD Cert.KernelCIdeal.τ).loc Cert.KernelCIdeal.main_arg8)) (m ((c.tc : Thread Cert.KernelCIdeal.nD Cert.KernelCIdeal.τ).loc Cert.KernelCIdeal.main_arg9)) (m ((c.tc : Thread Cert.KernelCIdeal.nD Cert.KernelCIdeal.τ).loc Cert.KernelCIdeal.main_arg10)) (m ((c.tc : Thread Cert.KernelCIdeal.nD Cert.KernelCIdeal.τ).loc Cert.KernelCIdeal.main_arg11)) (m ((c.tc : Thread Cert.KernelCIdeal.nD Cert.KernelCIdeal.τ).loc Cert.KernelCIdeal.main_arg12)) (m ((c.tc : Thread Cert.KernelCIdeal.nD Cert.KernelCIdeal.τ).loc Cert.KernelCIdeal.main_arg13))).2.2.2 i = 1#1 → r.2.mem ((c.tc : Thread Cert.ReferenceCIdeal.nD Cert.ReferenceCIdeal.τ).loc Cert.ReferenceCIdeal.main_v108) i = v3 c i)
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2)
          ∧ r.2.mem ((c.tc : Thread Cert.ReferenceCIdeal.nD Cert.ReferenceCIdeal.τ).loc Cert.ReferenceCIdeal.main_arg3) = m' ((c.tc : Thread Cert.ReferenceCIdeal.nD Cert.ReferenceCIdeal.τ).loc Cert.ReferenceCIdeal.main_arg3)
          ∧ r.2.mem ((c.tc : Thread Cert.ReferenceCIdeal.nD Cert.ReferenceCIdeal.τ).loc Cert.ReferenceCIdeal.main_arg4) = m' ((c.tc : Thread Cert.ReferenceCIdeal.nD Cert.ReferenceCIdeal.τ).loc Cert.ReferenceCIdeal.main_arg4)
          ∧ r.2.mem ((c.tc : Thread Cert.ReferenceCIdeal.nD Cert.ReferenceCIdeal.τ).loc Cert.ReferenceCIdeal.main_arg5) = m' ((c.tc : Thread Cert.ReferenceCIdeal.nD Cert.ReferenceCIdeal.τ).loc Cert.ReferenceCIdeal.main_arg5)
          ∧ r.2.mem ((c.tc : Thread Cert.ReferenceCIdeal.nD Cert.ReferenceCIdeal.τ).loc Cert.ReferenceCIdeal.main_arg6) = m' ((c.tc : Thread Cert.ReferenceCIdeal.nD Cert.ReferenceCIdeal.τ).loc Cert.ReferenceCIdeal.main_arg6)
          ∧ r.2.mem ((c.tc : Thread Cert.ReferenceCIdeal.nD Cert.ReferenceCIdeal.τ).loc Cert.ReferenceCIdeal.main_arg7) = m' ((c.tc : Thread Cert.ReferenceCIdeal.nD Cert.ReferenceCIdeal.τ).loc Cert.ReferenceCIdeal.main_arg7)
          ∧ r.2.mem ((c.tc : Thread Cert.ReferenceCIdeal.nD Cert.ReferenceCIdeal.τ).loc Cert.ReferenceCIdeal.main_arg8) = m' ((c.tc : Thread Cert.ReferenceCIdeal.nD Cert.ReferenceCIdeal.τ).loc Cert.ReferenceCIdeal.main_arg8)
          ∧ r.2.mem ((c.tc : Thread Cert.ReferenceCIdeal.nD Cert.ReferenceCIdeal.τ).loc Cert.ReferenceCIdeal.main_arg9) = m' ((c.tc : Thread Cert.ReferenceCIdeal.nD Cert.ReferenceCIdeal.τ).loc Cert.ReferenceCIdeal.main_arg9)
          ∧ r.2.mem ((c.tc : Thread Cert.ReferenceCIdeal.nD Cert.ReferenceCIdeal.τ).loc Cert.ReferenceCIdeal.main_arg10) = m' ((c.tc : Thread Cert.ReferenceCIdeal.nD Cert.ReferenceCIdeal.τ).loc Cert.ReferenceCIdeal.main_arg10)
          ∧ r.2.mem ((c.tc : Thread Cert.ReferenceCIdeal.nD Cert.ReferenceCIdeal.τ).loc Cert.ReferenceCIdeal.main_arg11) = m' ((c.tc : Thread Cert.ReferenceCIdeal.nD Cert.ReferenceCIdeal.τ).loc Cert.ReferenceCIdeal.main_arg11)
          ∧ r.2.mem ((c.tc : Thread Cert.ReferenceCIdeal.nD Cert.ReferenceCIdeal.τ).loc Cert.ReferenceCIdeal.main_arg12) = m' ((c.tc : Thread Cert.ReferenceCIdeal.nD Cert.ReferenceCIdeal.τ).loc Cert.ReferenceCIdeal.main_arg12)
          ∧ r.2.mem ((c.tc : Thread Cert.ReferenceCIdeal.nD Cert.ReferenceCIdeal.τ).loc Cert.ReferenceCIdeal.main_arg13) = m' ((c.tc : Thread Cert.ReferenceCIdeal.nD Cert.ReferenceCIdeal.τ).loc Cert.ReferenceCIdeal.main_arg13))

def preserves_KernelD_KernelDIdeal : Prop :=
  True

def algebraic_KernelDIdeal_ReferenceDIdeal_on_head_d_pre_kept_d [hKernelDIdeal : Cert.KernelDIdeal.Facts] [hReferenceDIdeal : Cert.ReferenceDIdeal.Facts] [hPre_kept_d : Cert.Pre_kept_d.Facts] [hOn_head_d : Cert.On_head_d.Facts] : Prop :=
  ∀ (m : (ℓ : Loc Cert.KernelDIdeal.nD Cert.KernelDIdeal.τ Cert.KernelDIdeal.sig) → Buf (Elt Ideal) ℓ) (g : Dev Cert.KernelDIdeal.nD → PrngReg)
    (m' : (ℓ : Loc Cert.ReferenceDIdeal.nD Cert.ReferenceDIdeal.τ Cert.ReferenceDIdeal.sig) → Buf (Elt Ideal) ℓ) (g' : Dev Cert.ReferenceDIdeal.nD → PrngReg), Pre_KernelDIdeal_kept_d m →
    (∀ c : Dev Cert.KernelDIdeal.nD,
      m' ((c.tc : Thread Cert.ReferenceDIdeal.nD Cert.ReferenceDIdeal.τ).loc Cert.ReferenceDIdeal.main_arg0) = m ((c.tc : Thread Cert.KernelDIdeal.nD Cert.KernelDIdeal.τ).loc Cert.KernelDIdeal.main_arg0)
      ∧ m' ((c.tc : Thread Cert.ReferenceDIdeal.nD Cert.ReferenceDIdeal.τ).loc Cert.ReferenceDIdeal.main_arg1) = m ((c.tc : Thread Cert.KernelDIdeal.nD Cert.KernelDIdeal.τ).loc Cert.KernelDIdeal.main_arg1)
      ∧ m' ((c.tc : Thread Cert.ReferenceDIdeal.nD Cert.ReferenceDIdeal.τ).loc Cert.ReferenceDIdeal.main_arg2) = m ((c.tc : Thread Cert.KernelDIdeal.nD Cert.KernelDIdeal.τ).loc Cert.KernelDIdeal.main_arg2)
      ∧ m' ((c.tc : Thread Cert.ReferenceDIdeal.nD Cert.ReferenceDIdeal.τ).loc Cert.ReferenceDIdeal.main_arg3) = m ((c.tc : Thread Cert.KernelDIdeal.nD Cert.KernelDIdeal.τ).loc Cert.KernelDIdeal.main_arg3)
      ∧ m' ((c.tc : Thread Cert.ReferenceDIdeal.nD Cert.ReferenceDIdeal.τ).loc Cert.ReferenceDIdeal.main_arg4) = m ((c.tc : Thread Cert.KernelDIdeal.nD Cert.KernelDIdeal.τ).loc Cert.KernelDIdeal.main_arg4)
      ∧ m' ((c.tc : Thread Cert.ReferenceDIdeal.nD Cert.ReferenceDIdeal.τ).loc Cert.ReferenceDIdeal.main_arg5) = m ((c.tc : Thread Cert.KernelDIdeal.nD Cert.KernelDIdeal.τ).loc Cert.KernelDIdeal.main_arg5)
      ∧ m' ((c.tc : Thread Cert.ReferenceDIdeal.nD Cert.ReferenceDIdeal.τ).loc Cert.ReferenceDIdeal.main_arg6) = m ((c.tc : Thread Cert.KernelDIdeal.nD Cert.KernelDIdeal.τ).loc Cert.KernelDIdeal.main_arg6)
      ∧ m' ((c.tc : Thread Cert.ReferenceDIdeal.nD Cert.ReferenceDIdeal.τ).loc Cert.ReferenceDIdeal.main_arg7) = m ((c.tc : Thread Cert.KernelDIdeal.nD Cert.KernelDIdeal.τ).loc Cert.KernelDIdeal.main_arg7)
      ∧ m' ((c.tc : Thread Cert.ReferenceDIdeal.nD Cert.ReferenceDIdeal.τ).loc Cert.ReferenceDIdeal.main_arg8) = m ((c.tc : Thread Cert.KernelDIdeal.nD Cert.KernelDIdeal.τ).loc Cert.KernelDIdeal.main_arg8)
      ∧ m' ((c.tc : Thread Cert.ReferenceDIdeal.nD Cert.ReferenceDIdeal.τ).loc Cert.ReferenceDIdeal.main_arg9) = m ((c.tc : Thread Cert.KernelDIdeal.nD Cert.KernelDIdeal.τ).loc Cert.KernelDIdeal.main_arg9)
      ∧ m' ((c.tc : Thread Cert.ReferenceDIdeal.nD Cert.ReferenceDIdeal.τ).loc Cert.ReferenceDIdeal.main_arg10) = m ((c.tc : Thread Cert.KernelDIdeal.nD Cert.KernelDIdeal.τ).loc Cert.KernelDIdeal.main_arg10)
      ∧ m' ((c.tc : Thread Cert.ReferenceDIdeal.nD Cert.ReferenceDIdeal.τ).loc Cert.ReferenceDIdeal.main_arg11) = m ((c.tc : Thread Cert.KernelDIdeal.nD Cert.KernelDIdeal.τ).loc Cert.KernelDIdeal.main_arg11)
      ∧ m' ((c.tc : Thread Cert.ReferenceDIdeal.nD Cert.ReferenceDIdeal.τ).loc Cert.ReferenceDIdeal.main_arg12) = m ((c.tc : Thread Cert.KernelDIdeal.nD Cert.KernelDIdeal.τ).loc Cert.KernelDIdeal.main_arg12)
      ∧ m' ((c.tc : Thread Cert.ReferenceDIdeal.nD Cert.ReferenceDIdeal.τ).loc Cert.ReferenceDIdeal.main_arg13) = m ((c.tc : Thread Cert.KernelDIdeal.nD Cert.KernelDIdeal.τ).loc Cert.KernelDIdeal.main_arg13)) →
    ∃ (v0 : (c : Dev Cert.KernelDIdeal.nD) → Buf (Elt Ideal) ((c.tc : Thread Cert.KernelDIdeal.nD Cert.KernelDIdeal.τ).loc Cert.KernelDIdeal.main_v0_0)) (v1 : (c : Dev Cert.KernelDIdeal.nD) → Buf (Elt Ideal) ((c.tc : Thread Cert.KernelDIdeal.nD Cert.KernelDIdeal.τ).loc Cert.KernelDIdeal.main_v0_1)) (v2 : (c : Dev Cert.KernelDIdeal.nD) → Buf (Elt Ideal) ((c.tc : Thread Cert.KernelDIdeal.nD Cert.KernelDIdeal.τ).loc Cert.KernelDIdeal.main_v0_2)) (v3 : (c : Dev Cert.KernelDIdeal.nD) → Buf (Elt Ideal) ((c.tc : Thread Cert.KernelDIdeal.nD Cert.KernelDIdeal.τ).loc Cert.KernelDIdeal.main_v0_3)),
      θ_run (Cert.KernelDIdeal.defs (F := Ideal)) (onTc (τ := Cert.KernelDIdeal.τ) (Cert.KernelDIdeal.main (F := Ideal))) ⟨m, fun _ => 0, g⟩ (fun r => ∀ c : Dev Cert.KernelDIdeal.nD,
          (∀ i : (⟨2, ![128, 2048]⟩ : Shape).Idx, (Cert.On_head_d.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7)) (m ((c.tc : Thread Cert.KernelDIdeal.nD Cert.KernelDIdeal.τ).loc Cert.KernelDIdeal.main_arg8)) (m ((c.tc : Thread Cert.KernelDIdeal.nD Cert.KernelDIdeal.τ).loc Cert.KernelDIdeal.main_arg9)) (m ((c.tc : Thread Cert.KernelDIdeal.nD Cert.KernelDIdeal.τ).loc Cert.KernelDIdeal.main_arg10)) (m ((c.tc : Thread Cert.KernelDIdeal.nD Cert.KernelDIdeal.τ).loc Cert.KernelDIdeal.main_arg11)) (m ((c.tc : Thread Cert.KernelDIdeal.nD Cert.KernelDIdeal.τ).loc Cert.KernelDIdeal.main_arg12)) (m ((c.tc : Thread Cert.KernelDIdeal.nD Cert.KernelDIdeal.τ).loc Cert.KernelDIdeal.main_arg13))).1 i = 1#1 → r.2.mem ((c.tc : Thread Cert.KernelDIdeal.nD Cert.KernelDIdeal.τ).loc Cert.KernelDIdeal.main_v0_0) i = v0 c i)
          ∧ (∀ i : (⟨4, ![192, 4, 32, 128]⟩ : Shape).Idx, (Cert.On_head_d.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7)) (m ((c.tc : Thread Cert.KernelDIdeal.nD Cert.KernelDIdeal.τ).loc Cert.KernelDIdeal.main_arg8)) (m ((c.tc : Thread Cert.KernelDIdeal.nD Cert.KernelDIdeal.τ).loc Cert.KernelDIdeal.main_arg9)) (m ((c.tc : Thread Cert.KernelDIdeal.nD Cert.KernelDIdeal.τ).loc Cert.KernelDIdeal.main_arg10)) (m ((c.tc : Thread Cert.KernelDIdeal.nD Cert.KernelDIdeal.τ).loc Cert.KernelDIdeal.main_arg11)) (m ((c.tc : Thread Cert.KernelDIdeal.nD Cert.KernelDIdeal.τ).loc Cert.KernelDIdeal.main_arg12)) (m ((c.tc : Thread Cert.KernelDIdeal.nD Cert.KernelDIdeal.τ).loc Cert.KernelDIdeal.main_arg13))).2.1 i = 1#1 → r.2.mem ((c.tc : Thread Cert.KernelDIdeal.nD Cert.KernelDIdeal.τ).loc Cert.KernelDIdeal.main_v0_1) i = v1 c i)
          ∧ (∀ i : (⟨4, ![192, 4, 32, 128]⟩ : Shape).Idx, (Cert.On_head_d.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7)) (m ((c.tc : Thread Cert.KernelDIdeal.nD Cert.KernelDIdeal.τ).loc Cert.KernelDIdeal.main_arg8)) (m ((c.tc : Thread Cert.KernelDIdeal.nD Cert.KernelDIdeal.τ).loc Cert.KernelDIdeal.main_arg9)) (m ((c.tc : Thread Cert.KernelDIdeal.nD Cert.KernelDIdeal.τ).loc Cert.KernelDIdeal.main_arg10)) (m ((c.tc : Thread Cert.KernelDIdeal.nD Cert.KernelDIdeal.τ).loc Cert.KernelDIdeal.main_arg11)) (m ((c.tc : Thread Cert.KernelDIdeal.nD Cert.KernelDIdeal.τ).loc Cert.KernelDIdeal.main_arg12)) (m ((c.tc : Thread Cert.KernelDIdeal.nD Cert.KernelDIdeal.τ).loc Cert.KernelDIdeal.main_arg13))).2.2.1 i = 1#1 → r.2.mem ((c.tc : Thread Cert.KernelDIdeal.nD Cert.KernelDIdeal.τ).loc Cert.KernelDIdeal.main_v0_2) i = v2 c i)
          ∧ (∀ i : (⟨3, ![4, 192, 128]⟩ : Shape).Idx, (Cert.On_head_d.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7)) (m ((c.tc : Thread Cert.KernelDIdeal.nD Cert.KernelDIdeal.τ).loc Cert.KernelDIdeal.main_arg8)) (m ((c.tc : Thread Cert.KernelDIdeal.nD Cert.KernelDIdeal.τ).loc Cert.KernelDIdeal.main_arg9)) (m ((c.tc : Thread Cert.KernelDIdeal.nD Cert.KernelDIdeal.τ).loc Cert.KernelDIdeal.main_arg10)) (m ((c.tc : Thread Cert.KernelDIdeal.nD Cert.KernelDIdeal.τ).loc Cert.KernelDIdeal.main_arg11)) (m ((c.tc : Thread Cert.KernelDIdeal.nD Cert.KernelDIdeal.τ).loc Cert.KernelDIdeal.main_arg12)) (m ((c.tc : Thread Cert.KernelDIdeal.nD Cert.KernelDIdeal.τ).loc Cert.KernelDIdeal.main_arg13))).2.2.2 i = 1#1 → r.2.mem ((c.tc : Thread Cert.KernelDIdeal.nD Cert.KernelDIdeal.τ).loc Cert.KernelDIdeal.main_v0_3) i = v3 c i)
          ∧ r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
          ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
          ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2)
          ∧ r.2.mem ((c.tc : Thread Cert.KernelDIdeal.nD Cert.KernelDIdeal.τ).loc Cert.KernelDIdeal.main_arg3) = m ((c.tc : Thread Cert.KernelDIdeal.nD Cert.KernelDIdeal.τ).loc Cert.KernelDIdeal.main_arg3)
          ∧ r.2.mem ((c.tc : Thread Cert.KernelDIdeal.nD Cert.KernelDIdeal.τ).loc Cert.KernelDIdeal.main_arg4) = m ((c.tc : Thread Cert.KernelDIdeal.nD Cert.KernelDIdeal.τ).loc Cert.KernelDIdeal.main_arg4)
          ∧ r.2.mem ((c.tc : Thread Cert.KernelDIdeal.nD Cert.KernelDIdeal.τ).loc Cert.KernelDIdeal.main_arg5) = m ((c.tc : Thread Cert.KernelDIdeal.nD Cert.KernelDIdeal.τ).loc Cert.KernelDIdeal.main_arg5)
          ∧ r.2.mem ((c.tc : Thread Cert.KernelDIdeal.nD Cert.KernelDIdeal.τ).loc Cert.KernelDIdeal.main_arg6) = m ((c.tc : Thread Cert.KernelDIdeal.nD Cert.KernelDIdeal.τ).loc Cert.KernelDIdeal.main_arg6)
          ∧ r.2.mem ((c.tc : Thread Cert.KernelDIdeal.nD Cert.KernelDIdeal.τ).loc Cert.KernelDIdeal.main_arg7) = m ((c.tc : Thread Cert.KernelDIdeal.nD Cert.KernelDIdeal.τ).loc Cert.KernelDIdeal.main_arg7)
          ∧ r.2.mem ((c.tc : Thread Cert.KernelDIdeal.nD Cert.KernelDIdeal.τ).loc Cert.KernelDIdeal.main_arg8) = m ((c.tc : Thread Cert.KernelDIdeal.nD Cert.KernelDIdeal.τ).loc Cert.KernelDIdeal.main_arg8)
          ∧ r.2.mem ((c.tc : Thread Cert.KernelDIdeal.nD Cert.KernelDIdeal.τ).loc Cert.KernelDIdeal.main_arg9) = m ((c.tc : Thread Cert.KernelDIdeal.nD Cert.KernelDIdeal.τ).loc Cert.KernelDIdeal.main_arg9)
          ∧ r.2.mem ((c.tc : Thread Cert.KernelDIdeal.nD Cert.KernelDIdeal.τ).loc Cert.KernelDIdeal.main_arg10) = m ((c.tc : Thread Cert.KernelDIdeal.nD Cert.KernelDIdeal.τ).loc Cert.KernelDIdeal.main_arg10)
          ∧ r.2.mem ((c.tc : Thread Cert.KernelDIdeal.nD Cert.KernelDIdeal.τ).loc Cert.KernelDIdeal.main_arg11) = m ((c.tc : Thread Cert.KernelDIdeal.nD Cert.KernelDIdeal.τ).loc Cert.KernelDIdeal.main_arg11)
          ∧ r.2.mem ((c.tc : Thread Cert.KernelDIdeal.nD Cert.KernelDIdeal.τ).loc Cert.KernelDIdeal.main_arg12) = m ((c.tc : Thread Cert.KernelDIdeal.nD Cert.KernelDIdeal.τ).loc Cert.KernelDIdeal.main_arg12)
          ∧ r.2.mem ((c.tc : Thread Cert.KernelDIdeal.nD Cert.KernelDIdeal.τ).loc Cert.KernelDIdeal.main_arg13) = m ((c.tc : Thread Cert.KernelDIdeal.nD Cert.KernelDIdeal.τ).loc Cert.KernelDIdeal.main_arg13))
      ∧ θ_run (Cert.ReferenceDIdeal.defs (F := Ideal)) (onTc (τ := Cert.ReferenceDIdeal.τ) (Cert.ReferenceDIdeal.main (F := Ideal))) ⟨m', fun _ => 0, g'⟩ (fun r => ∀ c : Dev Cert.ReferenceDIdeal.nD,
          (∀ i : (⟨2, ![128, 2048]⟩ : Shape).Idx, (Cert.On_head_d.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7)) (m ((c.tc : Thread Cert.KernelDIdeal.nD Cert.KernelDIdeal.τ).loc Cert.KernelDIdeal.main_arg8)) (m ((c.tc : Thread Cert.KernelDIdeal.nD Cert.KernelDIdeal.τ).loc Cert.KernelDIdeal.main_arg9)) (m ((c.tc : Thread Cert.KernelDIdeal.nD Cert.KernelDIdeal.τ).loc Cert.KernelDIdeal.main_arg10)) (m ((c.tc : Thread Cert.KernelDIdeal.nD Cert.KernelDIdeal.τ).loc Cert.KernelDIdeal.main_arg11)) (m ((c.tc : Thread Cert.KernelDIdeal.nD Cert.KernelDIdeal.τ).loc Cert.KernelDIdeal.main_arg12)) (m ((c.tc : Thread Cert.KernelDIdeal.nD Cert.KernelDIdeal.τ).loc Cert.KernelDIdeal.main_arg13))).1 i = 1#1 → r.2.mem ((c.tc : Thread Cert.ReferenceDIdeal.nD Cert.ReferenceDIdeal.τ).loc Cert.ReferenceDIdeal.main_v99) i = v0 c i)
          ∧ (∀ i : (⟨4, ![192, 4, 32, 128]⟩ : Shape).Idx, (Cert.On_head_d.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7)) (m ((c.tc : Thread Cert.KernelDIdeal.nD Cert.KernelDIdeal.τ).loc Cert.KernelDIdeal.main_arg8)) (m ((c.tc : Thread Cert.KernelDIdeal.nD Cert.KernelDIdeal.τ).loc Cert.KernelDIdeal.main_arg9)) (m ((c.tc : Thread Cert.KernelDIdeal.nD Cert.KernelDIdeal.τ).loc Cert.KernelDIdeal.main_arg10)) (m ((c.tc : Thread Cert.KernelDIdeal.nD Cert.KernelDIdeal.τ).loc Cert.KernelDIdeal.main_arg11)) (m ((c.tc : Thread Cert.KernelDIdeal.nD Cert.KernelDIdeal.τ).loc Cert.KernelDIdeal.main_arg12)) (m ((c.tc : Thread Cert.KernelDIdeal.nD Cert.KernelDIdeal.τ).loc Cert.KernelDIdeal.main_arg13))).2.1 i = 1#1 → r.2.mem ((c.tc : Thread Cert.ReferenceDIdeal.nD Cert.ReferenceDIdeal.τ).loc Cert.ReferenceDIdeal.main_v102) i = v1 c i)
          ∧ (∀ i : (⟨4, ![192, 4, 32, 128]⟩ : Shape).Idx, (Cert.On_head_d.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7)) (m ((c.tc : Thread Cert.KernelDIdeal.nD Cert.KernelDIdeal.τ).loc Cert.KernelDIdeal.main_arg8)) (m ((c.tc : Thread Cert.KernelDIdeal.nD Cert.KernelDIdeal.τ).loc Cert.KernelDIdeal.main_arg9)) (m ((c.tc : Thread Cert.KernelDIdeal.nD Cert.KernelDIdeal.τ).loc Cert.KernelDIdeal.main_arg10)) (m ((c.tc : Thread Cert.KernelDIdeal.nD Cert.KernelDIdeal.τ).loc Cert.KernelDIdeal.main_arg11)) (m ((c.tc : Thread Cert.KernelDIdeal.nD Cert.KernelDIdeal.τ).loc Cert.KernelDIdeal.main_arg12)) (m ((c.tc : Thread Cert.KernelDIdeal.nD Cert.KernelDIdeal.τ).loc Cert.KernelDIdeal.main_arg13))).2.2.1 i = 1#1 → r.2.mem ((c.tc : Thread Cert.ReferenceDIdeal.nD Cert.ReferenceDIdeal.τ).loc Cert.ReferenceDIdeal.main_v105) i = v2 c i)
          ∧ (∀ i : (⟨3, ![4, 192, 128]⟩ : Shape).Idx, (Cert.On_head_d.fn (F := Ideal) (m ((c.tc : Thread Cert.KernelDIdeal.nD Cert.KernelDIdeal.τ).loc Cert.KernelDIdeal.main_arg0)) (m ((c.tc : Thread Cert.KernelDIdeal.nD Cert.KernelDIdeal.τ).loc Cert.KernelDIdeal.main_arg1)) (m ((c.tc : Thread Cert.KernelDIdeal.nD Cert.KernelDIdeal.τ).loc Cert.KernelDIdeal.main_arg2)) (m ((c.tc : Thread Cert.KernelDIdeal.nD Cert.KernelDIdeal.τ).loc Cert.KernelDIdeal.main_arg3)) (m ((c.tc : Thread Cert.KernelDIdeal.nD Cert.KernelDIdeal.τ).loc Cert.KernelDIdeal.main_arg4)) (m ((c.tc : Thread Cert.KernelDIdeal.nD Cert.KernelDIdeal.τ).loc Cert.KernelDIdeal.main_arg5)) (m ((c.tc : Thread Cert.KernelDIdeal.nD Cert.KernelDIdeal.τ).loc Cert.KernelDIdeal.main_arg6)) (m ((c.tc : Thread Cert.KernelDIdeal.nD Cert.KernelDIdeal.τ).loc Cert.KernelDIdeal.main_arg7)) (m ((c.tc : Thread Cert.KernelDIdeal.nD Cert.KernelDIdeal.τ).loc Cert.KernelDIdeal.main_arg8)) (m ((c.tc : Thread Cert.KernelDIdeal.nD Cert.KernelDIdeal.τ).loc Cert.KernelDIdeal.main_arg9)) (m ((c.tc : Thread Cert.KernelDIdeal.nD Cert.KernelDIdeal.τ).loc Cert.KernelDIdeal.main_arg10)) (m ((c.tc : Thread Cert.KernelDIdeal.nD Cert.KernelDIdeal.τ).loc Cert.KernelDIdeal.main_arg11)) (m ((c.tc : Thread Cert.KernelDIdeal.nD Cert.KernelDIdeal.τ).loc Cert.KernelDIdeal.main_arg12)) (m ((c.tc : Thread Cert.KernelDIdeal.nD Cert.KernelDIdeal.τ).loc Cert.KernelDIdeal.main_arg13))).2.2.2 i = 1#1 → r.2.mem ((c.tc : Thread Cert.ReferenceDIdeal.nD Cert.ReferenceDIdeal.τ).loc Cert.ReferenceDIdeal.main_v108) i = v3 c i)
          ∧ r.2.mem ((c.tc : Thread Cert.ReferenceDIdeal.nD Cert.ReferenceDIdeal.τ).loc Cert.ReferenceDIdeal.main_arg0) = m' ((c.tc : Thread Cert.ReferenceDIdeal.nD Cert.ReferenceDIdeal.τ).loc Cert.ReferenceDIdeal.main_arg0)
          ∧ r.2.mem ((c.tc : Thread Cert.ReferenceDIdeal.nD Cert.ReferenceDIdeal.τ).loc Cert.ReferenceDIdeal.main_arg1) = m' ((c.tc : Thread Cert.ReferenceDIdeal.nD Cert.ReferenceDIdeal.τ).loc Cert.ReferenceDIdeal.main_arg1)
          ∧ r.2.mem ((c.tc : Thread Cert.ReferenceDIdeal.nD Cert.ReferenceDIdeal.τ).loc Cert.ReferenceDIdeal.main_arg2) = m' ((c.tc : Thread Cert.ReferenceDIdeal.nD Cert.ReferenceDIdeal.τ).loc Cert.ReferenceDIdeal.main_arg2)
          ∧ r.2.mem ((c.tc : Thread Cert.ReferenceDIdeal.nD Cert.ReferenceDIdeal.τ).loc Cert.ReferenceDIdeal.main_arg3) = m' ((c.tc : Thread Cert.ReferenceDIdeal.nD Cert.ReferenceDIdeal.τ).loc Cert.ReferenceDIdeal.main_arg3)
          ∧ r.2.mem ((c.tc : Thread Cert.ReferenceDIdeal.nD Cert.ReferenceDIdeal.τ).loc Cert.ReferenceDIdeal.main_arg4) = m' ((c.tc : Thread Cert.ReferenceDIdeal.nD Cert.ReferenceDIdeal.τ).loc Cert.ReferenceDIdeal.main_arg4)
          ∧ r.2.mem ((c.tc : Thread Cert.ReferenceDIdeal.nD Cert.ReferenceDIdeal.τ).loc Cert.ReferenceDIdeal.main_arg5) = m' ((c.tc : Thread Cert.ReferenceDIdeal.nD Cert.ReferenceDIdeal.τ).loc Cert.ReferenceDIdeal.main_arg5)
          ∧ r.2.mem ((c.tc : Thread Cert.ReferenceDIdeal.nD Cert.ReferenceDIdeal.τ).loc Cert.ReferenceDIdeal.main_arg6) = m' ((c.tc : Thread Cert.ReferenceDIdeal.nD Cert.ReferenceDIdeal.τ).loc Cert.ReferenceDIdeal.main_arg6)
          ∧ r.2.mem ((c.tc : Thread Cert.ReferenceDIdeal.nD Cert.ReferenceDIdeal.τ).loc Cert.ReferenceDIdeal.main_arg7) = m' ((c.tc : Thread Cert.ReferenceDIdeal.nD Cert.ReferenceDIdeal.τ).loc Cert.ReferenceDIdeal.main_arg7)
          ∧ r.2.mem ((c.tc : Thread Cert.ReferenceDIdeal.nD Cert.ReferenceDIdeal.τ).loc Cert.ReferenceDIdeal.main_arg8) = m' ((c.tc : Thread Cert.ReferenceDIdeal.nD Cert.ReferenceDIdeal.τ).loc Cert.ReferenceDIdeal.main_arg8)
          ∧ r.2.mem ((c.tc : Thread Cert.ReferenceDIdeal.nD Cert.ReferenceDIdeal.τ).loc Cert.ReferenceDIdeal.main_arg9) = m' ((c.tc : Thread Cert.ReferenceDIdeal.nD Cert.ReferenceDIdeal.τ).loc Cert.ReferenceDIdeal.main_arg9)
          ∧ r.2.mem ((c.tc : Thread Cert.ReferenceDIdeal.nD Cert.ReferenceDIdeal.τ).loc Cert.ReferenceDIdeal.main_arg10) = m' ((c.tc : Thread Cert.ReferenceDIdeal.nD Cert.ReferenceDIdeal.τ).loc Cert.ReferenceDIdeal.main_arg10)
          ∧ r.2.mem ((c.tc : Thread Cert.ReferenceDIdeal.nD Cert.ReferenceDIdeal.τ).loc Cert.ReferenceDIdeal.main_arg11) = m' ((c.tc : Thread Cert.ReferenceDIdeal.nD Cert.ReferenceDIdeal.τ).loc Cert.ReferenceDIdeal.main_arg11)
          ∧ r.2.mem ((c.tc : Thread Cert.ReferenceDIdeal.nD Cert.ReferenceDIdeal.τ).loc Cert.ReferenceDIdeal.main_arg12) = m' ((c.tc : Thread Cert.ReferenceDIdeal.nD Cert.ReferenceDIdeal.τ).loc Cert.ReferenceDIdeal.main_arg12)
          ∧ r.2.mem ((c.tc : Thread Cert.ReferenceDIdeal.nD Cert.ReferenceDIdeal.τ).loc Cert.ReferenceDIdeal.main_arg13) = m' ((c.tc : Thread Cert.ReferenceDIdeal.nD Cert.ReferenceDIdeal.τ).loc Cert.ReferenceDIdeal.main_arg13))

def Claim : Prop :=
  ∃ (hKernel : Cert.Kernel.Facts) (hKernelIdeal : Cert.KernelIdeal.Facts) (hReferenceIdeal : Cert.ReferenceIdeal.Facts) (hKernelB : Cert.KernelB.Facts) (hKernelBIdeal : Cert.KernelBIdeal.Facts) (hReferenceBIdeal : Cert.ReferenceBIdeal.Facts) (hKernelC : Cert.KernelC.Facts) (hKernelCIdeal : Cert.KernelCIdeal.Facts) (hReferenceCIdeal : Cert.ReferenceCIdeal.Facts) (hKernelD : Cert.KernelD.Facts) (hKernelDIdeal : Cert.KernelDIdeal.Facts) (hReferenceDIdeal : Cert.ReferenceDIdeal.Facts) (hPre_kept : Cert.Pre_kept.Facts) (hPre_kept_b : Cert.Pre_kept_b.Facts) (hPre_kept_c : Cert.Pre_kept_c.Facts) (hPre_kept_d : Cert.Pre_kept_d.Facts) (hOn_head : Cert.On_head.Facts) (hOn_head_b : Cert.On_head_b.Facts) (hOn_head_c : Cert.On_head_c.Facts) (hOn_head_d : Cert.On_head_d.Facts),
    quiescent_Kernel (hKernel := hKernel)
    ∧ quiescent_KernelIdeal (hKernelIdeal := hKernelIdeal)
    ∧ quiescent_KernelIdeal_pre_kept (hKernelIdeal := hKernelIdeal) (hPre_kept := hPre_kept)
    ∧ quiescent_ReferenceIdeal (hReferenceIdeal := hReferenceIdeal)
    ∧ quiescent_ReferenceIdeal_pre_kept (hReferenceIdeal := hReferenceIdeal) (hPre_kept := hPre_kept)
    ∧ quiescent_KernelB (hKernelB := hKernelB)
    ∧ quiescent_KernelBIdeal (hKernelBIdeal := hKernelBIdeal)
    ∧ quiescent_KernelBIdeal_pre_kept_b (hKernelBIdeal := hKernelBIdeal) (hPre_kept_b := hPre_kept_b)
    ∧ quiescent_ReferenceBIdeal (hReferenceBIdeal := hReferenceBIdeal)
    ∧ quiescent_ReferenceBIdeal_pre_kept_b (hReferenceBIdeal := hReferenceBIdeal) (hPre_kept_b := hPre_kept_b)
    ∧ quiescent_KernelC (hKernelC := hKernelC)
    ∧ quiescent_KernelCIdeal (hKernelCIdeal := hKernelCIdeal)
    ∧ quiescent_KernelCIdeal_pre_kept_c (hKernelCIdeal := hKernelCIdeal) (hPre_kept_c := hPre_kept_c)
    ∧ quiescent_ReferenceCIdeal (hReferenceCIdeal := hReferenceCIdeal)
    ∧ quiescent_ReferenceCIdeal_pre_kept_c (hReferenceCIdeal := hReferenceCIdeal) (hPre_kept_c := hPre_kept_c)
    ∧ quiescent_KernelD (hKernelD := hKernelD)
    ∧ quiescent_KernelDIdeal (hKernelDIdeal := hKernelDIdeal)
    ∧ quiescent_KernelDIdeal_pre_kept_d (hKernelDIdeal := hKernelDIdeal) (hPre_kept_d := hPre_kept_d)
    ∧ quiescent_ReferenceDIdeal (hReferenceDIdeal := hReferenceDIdeal)
    ∧ quiescent_ReferenceDIdeal_pre_kept_d (hReferenceDIdeal := hReferenceDIdeal) (hPre_kept_d := hPre_kept_d)
    ∧ preserves_Kernel_KernelIdeal
    ∧ algebraic_KernelIdeal_ReferenceIdeal_on_head_pre_kept (hKernelIdeal := hKernelIdeal) (hReferenceIdeal := hReferenceIdeal) (hPre_kept := hPre_kept) (hOn_head := hOn_head)
    ∧ preserves_KernelB_KernelBIdeal
    ∧ algebraic_KernelBIdeal_ReferenceBIdeal_on_head_b_pre_kept_b (hKernelBIdeal := hKernelBIdeal) (hReferenceBIdeal := hReferenceBIdeal) (hPre_kept_b := hPre_kept_b) (hOn_head_b := hOn_head_b)
    ∧ preserves_KernelC_KernelCIdeal
    ∧ algebraic_KernelCIdeal_ReferenceCIdeal_on_head_c_pre_kept_c (hKernelCIdeal := hKernelCIdeal) (hReferenceCIdeal := hReferenceCIdeal) (hPre_kept_c := hPre_kept_c) (hOn_head_c := hOn_head_c)
    ∧ preserves_KernelD_KernelDIdeal
    ∧ algebraic_KernelDIdeal_ReferenceDIdeal_on_head_d_pre_kept_d (hKernelDIdeal := hKernelDIdeal) (hReferenceDIdeal := hReferenceDIdeal) (hPre_kept_d := hPre_kept_d) (hOn_head_d := hOn_head_d)
-- ==== On_head.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x2048 : Shape := ⟨2, ![128, 2048]⟩
abbrev S_ : Shape := ⟨0, ![]⟩
abbrev S192x4x32x128 : Shape := ⟨4, ![192, 4, 32, 128]⟩
abbrev S4x192x128 : Shape := ⟨3, ![4, 192, 128]⟩

class Facts : Prop where
  bcast_S_S128x2048 : S_.BroadcastsInDim S128x2048 (![] : Fin 0 → Fin S128x2048.rank)
  bcast_S_S192x4x32x128 : S_.BroadcastsInDim S192x4x32x128 (![] : Fin 0 → Fin S192x4x32x128.rank)
  bcast_S_S4x192x128 : S_.BroadcastsInDim S4x192x128 (![] : Fin 0 → Fin S4x192x128.rank)

variable [Facts]

def fn {F : FTy → Type} [FloatOps F] (main_arg0 : IVec S32x16 32) (main_arg1 : IVec S128x256 32) (main_arg2 : FVec F S128x256 .f32) (main_arg3 : FVec F S128x256 .f32) (main_arg4 : FVec F S128x256 .f32) (main_arg5 : FVec F S4x1024x64 .bf16) (main_arg6 : FVec F S4x128x64 .bf16) (main_arg7 : FVec F S4x128x64 .bf16) (main_arg8 : IVec S128x4x32x8192 8) (main_arg9 : IVec S128x4x32x8192 8) : IVec S128x2048 1 × IVec S192x4x32x128 1 × IVec S192x4x32x128 1 × IVec S4x192x128 1 :=
  let main_v0 : IVec S128x2048 32 := iotaInDim S128x2048 32 1
  let main_c : IVec S_ 32 := constantI S_ 32 512#32
  let main_v1 : IVec S128x2048 32 := broadcastInDim S128x2048 ![] bcast_S_S128x2048 main_c
  let main_v2 : IVec S128x2048 1 := cmpi .slt main_v0 main_v1
  let main_v3 : IVec S192x4x32x128 32 := iotaInDim S192x4x32x128 32 1
  let main_c_0 : IVec S_ 32 := constantI S_ 32 1#32
  let main_v4 : IVec S192x4x32x128 32 := broadcastInDim S192x4x32x128 ![] bcast_S_S192x4x32x128 main_c_0
  let main_v5 : IVec S192x4x32x128 1 := cmpi .slt main_v3 main_v4
  let main_v6 : IVec S192x4x32x128 32 := iotaInDim S192x4x32x128 32 1
  let main_c_1 : IVec S_ 32 := constantI S_ 32 1#32
  let main_v7 : IVec S192x4x32x128 32 := broadcastInDim S192x4x32x128 ![] bcast_S_S192x4x32x128 main_c_1
  let main_v8 : IVec S192x4x32x128 1 := cmpi .slt main_v6 main_v7
  let main_v9 : IVec S4x192x128 32 := iotaInDim S4x192x128 32 0
  let main_c_2 : IVec S_ 32 := constantI S_ 32 1#32
  let main_v10 : IVec S4x192x128 32 := broadcastInDim S4x192x128 ![] bcast_S_S4x192x128 main_c_2
  let main_v11 : IVec S4x192x128 1 := cmpi .slt main_v9 main_v10
  (main_v2, main_v5, main_v8, main_v11)
-- ==== On_head_b.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x2048 : Shape := ⟨2, ![128, 2048]⟩
abbrev S192x4x32x128 : Shape := ⟨4, ![192, 4, 32, 128]⟩
abbrev S4x192x128 : Shape := ⟨3, ![4, 192, 128]⟩
abbrev S_ : Shape := ⟨0, ![]⟩

class Facts : Prop where
  bcast_S_S128x2048 : S_.BroadcastsInDim S128x2048 (![] : Fin 0 → Fin S128x2048.rank)
  bcast_S_S192x4x32x128 : S_.BroadcastsInDim S192x4x32x128 (![] : Fin 0 → Fin S192x4x32x128.rank)
  bcast_S_S4x192x128 : S_.BroadcastsInDim S4x192x128 (![] : Fin 0 → Fin S4x192x128.rank)

variable [Facts]

def fn_part1 {F : FTy → Type} [FloatOps F] (main_v5 : IVec S128x2048 1) (main_v11 : IVec S192x4x32x128 1) (main_v17 : IVec S192x4x32x128 1) : IVec S128x2048 1 × IVec S192x4x32x128 1 × IVec S192x4x32x128 1 × IVec S4x192x128 1 :=
  let main_v18 : IVec S4x192x128 32 := iotaInDim S4x192x128 32 0
  let main_c_5 : IVec S_ 32 := constantI S_ 32 1#32
  let main_v19 : IVec S4x192x128 32 := broadcastInDim S4x192x128 ![] bcast_S_S4x192x128 main_c_5
  let main_v20 : IVec S4x192x128 1 := cmpi .sge main_v18 main_v19
  let main_c_6 : IVec S_ 32 := constantI S_ 32 2#32
  let main_v21 : IVec S4x192x128 32 := broadcastInDim S4x192x128 ![] bcast_S_S4x192x128 main_c_6
  let main_v22 : IVec S4x192x128 1 := cmpi .slt main_v18 main_v21
  let main_v23 : IVec S4x192x128 1 := andi main_v20 main_v22
  (main_v5, main_v11, main_v17, main_v23)

def fn {F : FTy → Type} [FloatOps F] (main_arg0 : IVec S32x16 32) (main_arg1 : IVec S128x256 32) (main_arg2 : FVec F S128x256 .f32) (main_arg3 : FVec F S128x256 .f32) (main_arg4 : FVec F S128x256 .f32) (main_arg5 : FVec F S4x1024x64 .bf16) (main_arg6 : FVec F S4x128x64 .bf16) (main_arg7 : FVec F S4x128x64 .bf16) (main_arg8 : IVec S128x4x32x8192 8) (main_arg9 : IVec S128x4x32x8192 8) (main_arg10 : FVec F S128x2048 .bf16) (main_arg11 : IVec S192x4x32x128 8) (main_arg12 : IVec S192x4x32x128 8) (main_arg13 : FVec F S4x192x128 .f32) : IVec S128x2048 1 × IVec S192x4x32x128 1 × IVec S192x4x32x128 1 × IVec S4x192x128 1 :=
  let main_v0 : IVec S128x2048 32 := iotaInDim S128x2048 32 1
  let main_c : IVec S_ 32 := constantI S_ 32 512#32
  let main_v1 : IVec S128x2048 32 := broadcastInDim S128x2048 ![] bcast_S_S128x2048 main_c
  let main_v2 : IVec S128x2048 1 := cmpi .sge main_v0 main_v1
  let main_c_0 : IVec S_ 32 := constantI S_ 32 1024#32
  let main_v3 : IVec S128x2048 32 := broadcastInDim S128x2048 ![] bcast_S_S128x2048 main_c_0
  let main_v4 : IVec S128x2048 1 := cmpi .slt main_v0 main_v3
  let main_v5 : IVec S128x2048 1 := andi main_v2 main_v4
  let main_v6 : IVec S192x4x32x128 32 := iotaInDim S192x4x32x128 32 1
  let main_c_1 : IVec S_ 32 := constantI S_ 32 1#32
  let main_v7 : IVec S192x4x32x128 32 := broadcastInDim S192x4x32x128 ![] bcast_S_S192x4x32x128 main_c_1
  let main_v8 : IVec S192x4x32x128 1 := cmpi .sge main_v6 main_v7
  let main_c_2 : IVec S_ 32 := constantI S_ 32 2#32
  let main_v9 : IVec S192x4x32x128 32 := broadcastInDim S192x4x32x128 ![] bcast_S_S192x4x32x128 main_c_2
  let main_v10 : IVec S192x4x32x128 1 := cmpi .slt main_v6 main_v9
  let main_v11 : IVec S192x4x32x128 1 := andi main_v8 main_v10
  let main_v12 : IVec S192x4x32x128 32 := iotaInDim S192x4x32x128 32 1
  let main_c_3 : IVec S_ 32 := constantI S_ 32 1#32
  let main_v13 : IVec S192x4x32x128 32 := broadcastInDim S192x4x32x128 ![] bcast_S_S192x4x32x128 main_c_3
  let main_v14 : IVec S192x4x32x128 1 := cmpi .sge main_v12 main_v13
  let main_c_4 : IVec S_ 32 := constantI S_ 32 2#32
  let main_v15 : IVec S192x4x32x128 32 := broadcastInDim S192x4x32x128 ![] bcast_S_S192x4x32x128 main_c_4
  let main_v16 : IVec S192x4x32x128 1 := cmpi .slt main_v12 main_v15
  let main_v17 : IVec S192x4x32x128 1 := andi main_v14 main_v16
  fn_part1 (F := F) main_v5 main_v11 main_v17
-- ==== On_head_c.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x2048 : Shape := ⟨2, ![128, 2048]⟩
abbrev S192x4x32x128 : Shape := ⟨4, ![192, 4, 32, 128]⟩
abbrev S4x192x128 : Shape := ⟨3, ![4, 192, 128]⟩
abbrev S_ : Shape := ⟨0, ![]⟩

class Facts : Prop where
  bcast_S_S128x2048 : S_.BroadcastsInDim S128x2048 (![] : Fin 0 → Fin S128x2048.rank)
  bcast_S_S192x4x32x128 : S_.BroadcastsInDim S192x4x32x128 (![] : Fin 0 → Fin S192x4x32x128.rank)
  bcast_S_S4x192x128 : S_.BroadcastsInDim S4x192x128 (![] : Fin 0 → Fin S4x192x128.rank)

variable [Facts]

def fn_part1 {F : FTy → Type} [FloatOps F] (main_v5 : IVec S128x2048 1) (main_v11 : IVec S192x4x32x128 1) (main_v17 : IVec S192x4x32x128 1) : IVec S128x2048 1 × IVec S192x4x32x128 1 × IVec S192x4x32x128 1 × IVec S4x192x128 1 :=
  let main_v18 : IVec S4x192x128 32 := iotaInDim S4x192x128 32 0
  let main_c_5 : IVec S_ 32 := constantI S_ 32 2#32
  let main_v19 : IVec S4x192x128 32 := broadcastInDim S4x192x128 ![] bcast_S_S4x192x128 main_c_5
  let main_v20 : IVec S4x192x128 1 := cmpi .sge main_v18 main_v19
  let main_c_6 : IVec S_ 32 := constantI S_ 32 3#32
  let main_v21 : IVec S4x192x128 32 := broadcastInDim S4x192x128 ![] bcast_S_S4x192x128 main_c_6
  let main_v22 : IVec S4x192x128 1 := cmpi .slt main_v18 main_v21
  let main_v23 : IVec S4x192x128 1 := andi main_v20 main_v22
  (main_v5, main_v11, main_v17, main_v23)

def fn {F : FTy → Type} [FloatOps F] (main_arg0 : IVec S32x16 32) (main_arg1 : IVec S128x256 32) (main_arg2 : FVec F S128x256 .f32) (main_arg3 : FVec F S128x256 .f32) (main_arg4 : FVec F S128x256 .f32) (main_arg5 : FVec F S4x1024x64 .bf16) (main_arg6 : FVec F S4x128x64 .bf16) (main_arg7 : FVec F S4x128x64 .bf16) (main_arg8 : IVec S128x4x32x8192 8) (main_arg9 : IVec S128x4x32x8192 8) (main_arg10 : FVec F S128x2048 .bf16) (main_arg11 : IVec S192x4x32x128 8) (main_arg12 : IVec S192x4x32x128 8) (main_arg13 : FVec F S4x192x128 .f32) : IVec S128x2048 1 × IVec S192x4x32x128 1 × IVec S192x4x32x128 1 × IVec S4x192x128 1 :=
  let main_v0 : IVec S128x2048 32 := iotaInDim S128x2048 32 1
  let main_c : IVec S_ 32 := constantI S_ 32 1024#32
  let main_v1 : IVec S128x2048 32 := broadcastInDim S128x2048 ![] bcast_S_S128x2048 main_c
  let main_v2 : IVec S128x2048 1 := cmpi .sge main_v0 main_v1
  let main_c_0 : IVec S_ 32 := constantI S_ 32 1536#32
  let main_v3 : IVec S128x2048 32 := broadcastInDim S128x2048 ![] bcast_S_S128x2048 main_c_0
  let main_v4 : IVec S128x2048 1 := cmpi .slt main_v0 main_v3
  let main_v5 : IVec S128x2048 1 := andi main_v2 main_v4
  let main_v6 : IVec S192x4x32x128 32 := iotaInDim S192x4x32x128 32 1
  let main_c_1 : IVec S_ 32 := constantI S_ 32 2#32
  let main_v7 : IVec S192x4x32x128 32 := broadcastInDim S192x4x32x128 ![] bcast_S_S192x4x32x128 main_c_1
  let main_v8 : IVec S192x4x32x128 1 := cmpi .sge main_v6 main_v7
  let main_c_2 : IVec S_ 32 := constantI S_ 32 3#32
  let main_v9 : IVec S192x4x32x128 32 := broadcastInDim S192x4x32x128 ![] bcast_S_S192x4x32x128 main_c_2
  let main_v10 : IVec S192x4x32x128 1 := cmpi .slt main_v6 main_v9
  let main_v11 : IVec S192x4x32x128 1 := andi main_v8 main_v10
  let main_v12 : IVec S192x4x32x128 32 := iotaInDim S192x4x32x128 32 1
  let main_c_3 : IVec S_ 32 := constantI S_ 32 2#32
  let main_v13 : IVec S192x4x32x128 32 := broadcastInDim S192x4x32x128 ![] bcast_S_S192x4x32x128 main_c_3
  let main_v14 : IVec S192x4x32x128 1 := cmpi .sge main_v12 main_v13
  let main_c_4 : IVec S_ 32 := constantI S_ 32 3#32
  let main_v15 : IVec S192x4x32x128 32 := broadcastInDim S192x4x32x128 ![] bcast_S_S192x4x32x128 main_c_4
  let main_v16 : IVec S192x4x32x128 1 := cmpi .slt main_v12 main_v15
  let main_v17 : IVec S192x4x32x128 1 := andi main_v14 main_v16
  fn_part1 (F := F) main_v5 main_v11 main_v17
-- ==== On_head_d.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x2048 : Shape := ⟨2, ![128, 2048]⟩
abbrev S192x4x32x128 : Shape := ⟨4, ![192, 4, 32, 128]⟩
abbrev S4x192x128 : Shape := ⟨3, ![4, 192, 128]⟩
abbrev S_ : Shape := ⟨0, ![]⟩

class Facts : Prop where
  bcast_S_S128x2048 : S_.BroadcastsInDim S128x2048 (![] : Fin 0 → Fin S128x2048.rank)
  bcast_S_S192x4x32x128 : S_.BroadcastsInDim S192x4x32x128 (![] : Fin 0 → Fin S192x4x32x128.rank)
  bcast_S_S4x192x128 : S_.BroadcastsInDim S4x192x128 (![] : Fin 0 → Fin S4x192x128.rank)

variable [Facts]

def fn_part1 {F : FTy → Type} [FloatOps F] (main_v5 : IVec S128x2048 1) (main_v11 : IVec S192x4x32x128 1) (main_v17 : IVec S192x4x32x128 1) : IVec S128x2048 1 × IVec S192x4x32x128 1 × IVec S192x4x32x128 1 × IVec S4x192x128 1 :=
  let main_v18 : IVec S4x192x128 32 := iotaInDim S4x192x128 32 0
  let main_c_5 : IVec S_ 32 := constantI S_ 32 3#32
  let main_v19 : IVec S4x192x128 32 := broadcastInDim S4x192x128 ![] bcast_S_S4x192x128 main_c_5
  let main_v20 : IVec S4x192x128 1 := cmpi .sge main_v18 main_v19
  let main_c_6 : IVec S_ 32 := constantI S_ 32 4#32
  let main_v21 : IVec S4x192x128 32 := broadcastInDim S4x192x128 ![] bcast_S_S4x192x128 main_c_6
  let main_v22 : IVec S4x192x128 1 := cmpi .slt main_v18 main_v21
  let main_v23 : IVec S4x192x128 1 := andi main_v20 main_v22
  (main_v5, main_v11, main_v17, main_v23)

def fn {F : FTy → Type} [FloatOps F] (main_arg0 : IVec S32x16 32) (main_arg1 : IVec S128x256 32) (main_arg2 : FVec F S128x256 .f32) (main_arg3 : FVec F S128x256 .f32) (main_arg4 : FVec F S128x256 .f32) (main_arg5 : FVec F S4x1024x64 .bf16) (main_arg6 : FVec F S4x128x64 .bf16) (main_arg7 : FVec F S4x128x64 .bf16) (main_arg8 : IVec S128x4x32x8192 8) (main_arg9 : IVec S128x4x32x8192 8) (main_arg10 : FVec F S128x2048 .bf16) (main_arg11 : IVec S192x4x32x128 8) (main_arg12 : IVec S192x4x32x128 8) (main_arg13 : FVec F S4x192x128 .f32) : IVec S128x2048 1 × IVec S192x4x32x128 1 × IVec S192x4x32x128 1 × IVec S4x192x128 1 :=
  let main_v0 : IVec S128x2048 32 := iotaInDim S128x2048 32 1
  let main_c : IVec S_ 32 := constantI S_ 32 1536#32
  let main_v1 : IVec S128x2048 32 := broadcastInDim S128x2048 ![] bcast_S_S128x2048 main_c
  let main_v2 : IVec S128x2048 1 := cmpi .sge main_v0 main_v1
  let main_c_0 : IVec S_ 32 := constantI S_ 32 2048#32
  let main_v3 : IVec S128x2048 32 := broadcastInDim S128x2048 ![] bcast_S_S128x2048 main_c_0
  let main_v4 : IVec S128x2048 1 := cmpi .slt main_v0 main_v3
  let main_v5 : IVec S128x2048 1 := andi main_v2 main_v4
  let main_v6 : IVec S192x4x32x128 32 := iotaInDim S192x4x32x128 32 1
  let main_c_1 : IVec S_ 32 := constantI S_ 32 3#32
  let main_v7 : IVec S192x4x32x128 32 := broadcastInDim S192x4x32x128 ![] bcast_S_S192x4x32x128 main_c_1
  let main_v8 : IVec S192x4x32x128 1 := cmpi .sge main_v6 main_v7
  let main_c_2 : IVec S_ 32 := constantI S_ 32 4#32
  let main_v9 : IVec S192x4x32x128 32 := broadcastInDim S192x4x32x128 ![] bcast_S_S192x4x32x128 main_c_2
  let main_v10 : IVec S192x4x32x128 1 := cmpi .slt main_v6 main_v9
  let main_v11 : IVec S192x4x32x128 1 := andi main_v8 main_v10
  let main_v12 : IVec S192x4x32x128 32 := iotaInDim S192x4x32x128 32 1
  let main_c_3 : IVec S_ 32 := constantI S_ 32 3#32
  let main_v13 : IVec S192x4x32x128 32 := broadcastInDim S192x4x32x128 ![] bcast_S_S192x4x32x128 main_c_3
  let main_v14 : IVec S192x4x32x128 1 := cmpi .sge main_v12 main_v13
  let main_c_4 : IVec S_ 32 := constantI S_ 32 4#32
  let main_v15 : IVec S192x4x32x128 32 := broadcastInDim S192x4x32x128 ![] bcast_S_S192x4x32x128 main_c_4
  let main_v16 : IVec S192x4x32x128 1 := cmpi .slt main_v12 main_v15
  let main_v17 : IVec S192x4x32x128 1 := andi main_v14 main_v16
  fn_part1 (F := F) main_v5 main_v11 main_v17
-- ==== Pre_kept.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x192 : Shape := ⟨2, ![128, 192]⟩
abbrev S32x4 : Shape := ⟨2, ![32, 4]⟩
abbrev S128x1 : Shape := ⟨2, ![128, 1]⟩
abbrev S_ : Shape := ⟨0, ![]⟩

class Facts : Prop where
  slices_S128x256_S128x192_0_0 : S128x256.Slices ![0, 0] S128x192
  slices_S32x16_S32x4_0_0 : S32x16.Slices ![0, 0] S32x4
  shapeCasts_S32x4_S128x1 : S32x4.ShapeCasts S128x1
  bcast_S128x1_S128x192_0_1 : S128x1.BroadcastsInDim S128x192 (![0, 1] : Fin 2 → Fin S128x192.rank)
  bcast_S_S128x192 : S_.BroadcastsInDim S128x192 (![] : Fin 0 → Fin S128x192.rank)
  reducesTo_S128x192_S_d0_1 : S128x192.ReducesTo [0, 1] S_
  h_S_ : 0 < S_.numel

variable [Facts]

def fn {F : FTy → Type} [FloatOps F] (main_arg0 : IVec S32x16 32) (main_arg1 : IVec S128x256 32) (main_arg2 : FVec F S128x256 .f32) (main_arg3 : FVec F S128x256 .f32) (main_arg4 : FVec F S128x256 .f32) (main_arg5 : FVec F S4x1024x64 .bf16) (main_arg6 : FVec F S4x128x64 .bf16) (main_arg7 : FVec F S4x128x64 .bf16) (main_arg8 : IVec S128x4x32x8192 8) (main_arg9 : IVec S128x4x32x8192 8) : IVec S_ 1 :=
  let main_v0 : IVec S128x192 32 := (extractStridedSlice S128x192 ![0, 0] · slices_S128x256_S128x192_0_0) main_arg1
  let main_v1 : IVec S128x192 32 := iotaInDim S128x192 32 1
  let main_v2 : IVec S32x4 32 := (extractStridedSlice S32x4 ![0, 0] · slices_S32x16_S32x4_0_0) main_arg0
  let main_v3 : IVec S128x1 32 := shapeCast S128x1 main_v2 shapeCasts_S32x4_S128x1
  let main_v4 : IVec S128x192 32 := broadcastInDim S128x192 ![0, 1] bcast_S128x1_S128x192_0_1 main_v3
  let main_v5 : IVec S128x192 1 := cmpi .slt main_v1 main_v4
  let main_c : IVec S_ 32 := constantI S_ 32 0#32
  let main_v6 : IVec S128x192 32 := broadcastInDim S128x192 ![] bcast_S_S128x192 main_c
  let main_v7 : IVec S128x192 1 := cmpi .sge main_v0 main_v6
  let main_c_0 : IVec S_ 32 := constantI S_ 32 8192#32
  let main_v8 : IVec S128x192 32 := broadcastInDim S128x192 ![] bcast_S_S128x192 main_c_0
  let main_v9 : IVec S128x192 1 := cmpi .slt main_v0 main_v8
  let main_v10 : IVec S128x192 1 := andi main_v7 main_v9
  let main_c_1 : IVec S_ 32 := constantI S_ 32 4096#32
  let main_v11 : IVec S128x192 32 := broadcastInDim S128x192 ![] bcast_S_S128x192 main_c_1
  let main_v12 : IVec S128x192 1 := cmpi .slt main_v0 main_v11
  let main_v13 : IVec S128x192 1 := cmpi .eq main_v5 main_v12
  let main_v14 : IVec S128x192 1 := andi main_v10 main_v13
  let main_c_2 : IVec S_ 1 := constantI S_ 1 1#1
  let main_v15 : IVec S_ 1 := (fun x v => Host.reduce IntOp.andi x v reducesTo_S128x192_S_d0_1 h_S_) main_v14 main_c_2
  main_v15
-- ==== Pre_kept_b.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x2048 : Shape := ⟨2, ![128, 2048]⟩
abbrev S192x4x32x128 : Shape := ⟨4, ![192, 4, 32, 128]⟩
abbrev S4x192x128 : Shape := ⟨3, ![4, 192, 128]⟩
abbrev S128x192 : Shape := ⟨2, ![128, 192]⟩
abbrev S32x4 : Shape := ⟨2, ![32, 4]⟩
abbrev S128x1 : Shape := ⟨2, ![128, 1]⟩
abbrev S_ : Shape := ⟨0, ![]⟩

class Facts : Prop where
  slices_S128x256_S128x192_0_0 : S128x256.Slices ![0, 0] S128x192
  slices_S32x16_S32x4_0_0 : S32x16.Slices ![0, 0] S32x4
  shapeCasts_S32x4_S128x1 : S32x4.ShapeCasts S128x1
  bcast_S128x1_S128x192_0_1 : S128x1.BroadcastsInDim S128x192 (![0, 1] : Fin 2 → Fin S128x192.rank)
  bcast_S_S128x192 : S_.BroadcastsInDim S128x192 (![] : Fin 0 → Fin S128x192.rank)
  reducesTo_S128x192_S_d0_1 : S128x192.ReducesTo [0, 1] S_
  h_S_ : 0 < S_.numel

variable [Facts]

def fn {F : FTy → Type} [FloatOps F] (main_arg0 : IVec S32x16 32) (main_arg1 : IVec S128x256 32) (main_arg2 : FVec F S128x256 .f32) (main_arg3 : FVec F S128x256 .f32) (main_arg4 : FVec F S128x256 .f32) (main_arg5 : FVec F S4x1024x64 .bf16) (main_arg6 : FVec F S4x128x64 .bf16) (main_arg7 : FVec F S4x128x64 .bf16) (main_arg8 : IVec S128x4x32x8192 8) (main_arg9 : IVec S128x4x32x8192 8) (main_arg10 : FVec F S128x2048 .bf16) (main_arg11 : IVec S192x4x32x128 8) (main_arg12 : IVec S192x4x32x128 8) (main_arg13 : FVec F S4x192x128 .f32) : IVec S_ 1 :=
  let main_v0 : IVec S128x192 32 := (extractStridedSlice S128x192 ![0, 0] · slices_S128x256_S128x192_0_0) main_arg1
  let main_v1 : IVec S128x192 32 := iotaInDim S128x192 32 1
  let main_v2 : IVec S32x4 32 := (extractStridedSlice S32x4 ![0, 0] · slices_S32x16_S32x4_0_0) main_arg0
  let main_v3 : IVec S128x1 32 := shapeCast S128x1 main_v2 shapeCasts_S32x4_S128x1
  let main_v4 : IVec S128x192 32 := broadcastInDim S128x192 ![0, 1] bcast_S128x1_S128x192_0_1 main_v3
  let main_v5 : IVec S128x192 1 := cmpi .slt main_v1 main_v4
  let main_c : IVec S_ 32 := constantI S_ 32 0#32
  let main_v6 : IVec S128x192 32 := broadcastInDim S128x192 ![] bcast_S_S128x192 main_c
  let main_v7 : IVec S128x192 1 := cmpi .sge main_v0 main_v6
  let main_c_0 : IVec S_ 32 := constantI S_ 32 8192#32
  let main_v8 : IVec S128x192 32 := broadcastInDim S128x192 ![] bcast_S_S128x192 main_c_0
  let main_v9 : IVec S128x192 1 := cmpi .slt main_v0 main_v8
  let main_v10 : IVec S128x192 1 := andi main_v7 main_v9
  let main_c_1 : IVec S_ 32 := constantI S_ 32 4096#32
  let main_v11 : IVec S128x192 32 := broadcastInDim S128x192 ![] bcast_S_S128x192 main_c_1
  let main_v12 : IVec S128x192 1 := cmpi .slt main_v0 main_v11
  let main_v13 : IVec S128x192 1 := cmpi .eq main_v5 main_v12
  let main_v14 : IVec S128x192 1 := andi main_v10 main_v13
  let main_c_2 : IVec S_ 1 := constantI S_ 1 1#1
  let main_v15 : IVec S_ 1 := (fun x v => Host.reduce IntOp.andi x v reducesTo_S128x192_S_d0_1 h_S_) main_v14 main_c_2
  main_v15
-- ==== Pre_kept_c.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x2048 : Shape := ⟨2, ![128, 2048]⟩
abbrev S192x4x32x128 : Shape := ⟨4, ![192, 4, 32, 128]⟩
abbrev S4x192x128 : Shape := ⟨3, ![4, 192, 128]⟩
abbrev S128x192 : Shape := ⟨2, ![128, 192]⟩
abbrev S32x4 : Shape := ⟨2, ![32, 4]⟩
abbrev S128x1 : Shape := ⟨2, ![128, 1]⟩
abbrev S_ : Shape := ⟨0, ![]⟩

class Facts : Prop where
  slices_S128x256_S128x192_0_0 : S128x256.Slices ![0, 0] S128x192
  slices_S32x16_S32x4_0_0 : S32x16.Slices ![0, 0] S32x4
  shapeCasts_S32x4_S128x1 : S32x4.ShapeCasts S128x1
  bcast_S128x1_S128x192_0_1 : S128x1.BroadcastsInDim S128x192 (![0, 1] : Fin 2 → Fin S128x192.rank)
  bcast_S_S128x192 : S_.BroadcastsInDim S128x192 (![] : Fin 0 → Fin S128x192.rank)
  reducesTo_S128x192_S_d0_1 : S128x192.ReducesTo [0, 1] S_
  h_S_ : 0 < S_.numel

variable [Facts]

def fn {F : FTy → Type} [FloatOps F] (main_arg0 : IVec S32x16 32) (main_arg1 : IVec S128x256 32) (main_arg2 : FVec F S128x256 .f32) (main_arg3 : FVec F S128x256 .f32) (main_arg4 : FVec F S128x256 .f32) (main_arg5 : FVec F S4x1024x64 .bf16) (main_arg6 : FVec F S4x128x64 .bf16) (main_arg7 : FVec F S4x128x64 .bf16) (main_arg8 : IVec S128x4x32x8192 8) (main_arg9 : IVec S128x4x32x8192 8) (main_arg10 : FVec F S128x2048 .bf16) (main_arg11 : IVec S192x4x32x128 8) (main_arg12 : IVec S192x4x32x128 8) (main_arg13 : FVec F S4x192x128 .f32) : IVec S_ 1 :=
  let main_v0 : IVec S128x192 32 := (extractStridedSlice S128x192 ![0, 0] · slices_S128x256_S128x192_0_0) main_arg1
  let main_v1 : IVec S128x192 32 := iotaInDim S128x192 32 1
  let main_v2 : IVec S32x4 32 := (extractStridedSlice S32x4 ![0, 0] · slices_S32x16_S32x4_0_0) main_arg0
  let main_v3 : IVec S128x1 32 := shapeCast S128x1 main_v2 shapeCasts_S32x4_S128x1
  let main_v4 : IVec S128x192 32 := broadcastInDim S128x192 ![0, 1] bcast_S128x1_S128x192_0_1 main_v3
  let main_v5 : IVec S128x192 1 := cmpi .slt main_v1 main_v4
  let main_c : IVec S_ 32 := constantI S_ 32 0#32
  let main_v6 : IVec S128x192 32 := broadcastInDim S128x192 ![] bcast_S_S128x192 main_c
  let main_v7 : IVec S128x192 1 := cmpi .sge main_v0 main_v6
  let main_c_0 : IVec S_ 32 := constantI S_ 32 8192#32
  let main_v8 : IVec S128x192 32 := broadcastInDim S128x192 ![] bcast_S_S128x192 main_c_0
  let main_v9 : IVec S128x192 1 := cmpi .slt main_v0 main_v8
  let main_v10 : IVec S128x192 1 := andi main_v7 main_v9
  let main_c_1 : IVec S_ 32 := constantI S_ 32 4096#32
  let main_v11 : IVec S128x192 32 := broadcastInDim S128x192 ![] bcast_S_S128x192 main_c_1
  let main_v12 : IVec S128x192 1 := cmpi .slt main_v0 main_v11
  let main_v13 : IVec S128x192 1 := cmpi .eq main_v5 main_v12
  let main_v14 : IVec S128x192 1 := andi main_v10 main_v13
  let main_c_2 : IVec S_ 1 := constantI S_ 1 1#1
  let main_v15 : IVec S_ 1 := (fun x v => Host.reduce IntOp.andi x v reducesTo_S128x192_S_d0_1 h_S_) main_v14 main_c_2
  main_v15
-- ==== Pre_kept_d.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x2048 : Shape := ⟨2, ![128, 2048]⟩
abbrev S192x4x32x128 : Shape := ⟨4, ![192, 4, 32, 128]⟩
abbrev S4x192x128 : Shape := ⟨3, ![4, 192, 128]⟩
abbrev S128x192 : Shape := ⟨2, ![128, 192]⟩
abbrev S32x4 : Shape := ⟨2, ![32, 4]⟩
abbrev S128x1 : Shape := ⟨2, ![128, 1]⟩
abbrev S_ : Shape := ⟨0, ![]⟩

class Facts : Prop where
  slices_S128x256_S128x192_0_0 : S128x256.Slices ![0, 0] S128x192
  slices_S32x16_S32x4_0_0 : S32x16.Slices ![0, 0] S32x4
  shapeCasts_S32x4_S128x1 : S32x4.ShapeCasts S128x1
  bcast_S128x1_S128x192_0_1 : S128x1.BroadcastsInDim S128x192 (![0, 1] : Fin 2 → Fin S128x192.rank)
  bcast_S_S128x192 : S_.BroadcastsInDim S128x192 (![] : Fin 0 → Fin S128x192.rank)
  reducesTo_S128x192_S_d0_1 : S128x192.ReducesTo [0, 1] S_
  h_S_ : 0 < S_.numel

variable [Facts]

def fn {F : FTy → Type} [FloatOps F] (main_arg0 : IVec S32x16 32) (main_arg1 : IVec S128x256 32) (main_arg2 : FVec F S128x256 .f32) (main_arg3 : FVec F S128x256 .f32) (main_arg4 : FVec F S128x256 .f32) (main_arg5 : FVec F S4x1024x64 .bf16) (main_arg6 : FVec F S4x128x64 .bf16) (main_arg7 : FVec F S4x128x64 .bf16) (main_arg8 : IVec S128x4x32x8192 8) (main_arg9 : IVec S128x4x32x8192 8) (main_arg10 : FVec F S128x2048 .bf16) (main_arg11 : IVec S192x4x32x128 8) (main_arg12 : IVec S192x4x32x128 8) (main_arg13 : FVec F S4x192x128 .f32) : IVec S_ 1 :=
  let main_v0 : IVec S128x192 32 := (extractStridedSlice S128x192 ![0, 0] · slices_S128x256_S128x192_0_0) main_arg1
  let main_v1 : IVec S128x192 32 := iotaInDim S128x192 32 1
  let main_v2 : IVec S32x4 32 := (extractStridedSlice S32x4 ![0, 0] · slices_S32x16_S32x4_0_0) main_arg0
  let main_v3 : IVec S128x1 32 := shapeCast S128x1 main_v2 shapeCasts_S32x4_S128x1
  let main_v4 : IVec S128x192 32 := broadcastInDim S128x192 ![0, 1] bcast_S128x1_S128x192_0_1 main_v3
  let main_v5 : IVec S128x192 1 := cmpi .slt main_v1 main_v4
  let main_c : IVec S_ 32 := constantI S_ 32 0#32
  let main_v6 : IVec S128x192 32 := broadcastInDim S128x192 ![] bcast_S_S128x192 main_c
  let main_v7 : IVec S128x192 1 := cmpi .sge main_v0 main_v6
  let main_c_0 : IVec S_ 32 := constantI S_ 32 8192#32
  let main_v8 : IVec S128x192 32 := broadcastInDim S128x192 ![] bcast_S_S128x192 main_c_0
  let main_v9 : IVec S128x192 1 := cmpi .slt main_v0 main_v8
  let main_v10 : IVec S128x192 1 := andi main_v7 main_v9
  let main_c_1 : IVec S_ 32 := constantI S_ 32 4096#32
  let main_v11 : IVec S128x192 32 := broadcastInDim S128x192 ![] bcast_S_S128x192 main_c_1
  let main_v12 : IVec S128x192 1 := cmpi .slt main_v0 main_v11
  let main_v13 : IVec S128x192 1 := cmpi .eq main_v5 main_v12
  let main_v14 : IVec S128x192 1 := andi main_v10 main_v13
  let main_c_2 : IVec S_ 1 := constantI S_ 1 1#1
  let main_v15 : IVec S_ 1 := (fun x v => Host.reduce IntOp.andi x v reducesTo_S128x192_S_d0_1 h_S_) main_v14 main_c_2
  main_v15
-- ==== Kernel.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x2048 : Shape := ⟨2, ![128, 2048]⟩
abbrev S192x4x32x128 : Shape := ⟨4, ![192, 4, 32, 128]⟩
abbrev S4x192x128 : Shape := ⟨3, ![4, 192, 128]⟩
abbrev S1x64x64 : Shape := ⟨3, ![1, 64, 64]⟩
abbrev S1x128x64 : Shape := ⟨3, ![1, 128, 64]⟩
abbrev S8x1x32x8192 : Shape := ⟨4, ![8, 1, 32, 8192]⟩
abbrev S128x512 : Shape := ⟨2, ![128, 512]⟩
abbrev S192x1x32x128 : Shape := ⟨4, ![192, 1, 32, 128]⟩
abbrev S1x192x128 : Shape := ⟨3, ![1, 192, 128]⟩
abbrev S2x1024x128 : Shape := ⟨3, ![2, 1024, 128]⟩
abbrev S1024x128 : Shape := ⟨2, ![1024, 128]⟩
abbrev S8x128 : Shape := ⟨2, ![8, 128]⟩
abbrev S1x1 : Shape := ⟨2, ![1, 1]⟩
abbrev S1x256 : Shape := ⟨2, ![1, 256]⟩
abbrev S8x256 : Shape := ⟨2, ![8, 256]⟩
abbrev S1x1x32x128 : Shape := ⟨4, ![1, 1, 32, 128]⟩
abbrev S32x128 : Shape := ⟨2, ![32, 128]⟩
abbrev S8x128x1 : Shape := ⟨3, ![8, 128, 1]⟩
abbrev S1x8x128 : Shape := ⟨3, ![1, 8, 128]⟩
abbrev S64x64 : Shape := ⟨2, ![64, 64]⟩
abbrev S1x8x64 : Shape := ⟨3, ![1, 8, 64]⟩
abbrev S8x64 : Shape := ⟨2, ![8, 64]⟩
abbrev S64x8 : Shape := ⟨2, ![64, 8]⟩
abbrev S64 : Shape := ⟨1, ![64]⟩
abbrev S64x1 : Shape := ⟨2, ![64, 1]⟩
abbrev S8x192 : Shape := ⟨2, ![8, 192]⟩
abbrev S64x192 : Shape := ⟨2, ![64, 192]⟩
abbrev S8x1x192 : Shape := ⟨3, ![8, 1, 192]⟩
abbrev S8x8x192 : Shape := ⟨3, ![8, 8, 192]⟩
abbrev S1x192 : Shape := ⟨2, ![1, 192]⟩
abbrev S8x1 : Shape := ⟨2, ![8, 1]⟩
abbrev S8 : Shape := ⟨1, ![8]⟩
abbrev S192 : Shape := ⟨1, ![192]⟩
abbrev S1x64 : Shape := ⟨2, ![1, 64]⟩
abbrev S1x128x128 : Shape := ⟨3, ![1, 128, 128]⟩
abbrev S128x128 : Shape := ⟨2, ![128, 128]⟩
abbrev S512x128 : Shape := ⟨2, ![512, 128]⟩
abbrev S128x4x128 : Shape := ⟨3, ![128, 4, 128]⟩
abbrev S128x1x4x128 : Shape := ⟨4, ![128, 1, 4, 128]⟩
abbrev S64x128 : Shape := ⟨2, ![64, 128]⟩
abbrev S256x128 : Shape := ⟨2, ![256, 128]⟩
abbrev S64x4x128 : Shape := ⟨3, ![64, 4, 128]⟩
abbrev S64x1x4x128 : Shape := ⟨4, ![64, 1, 4, 128]⟩
abbrev S192x128 : Shape := ⟨2, ![192, 128]⟩
abbrev S128x64 : Shape := ⟨2, ![128, 64]⟩

abbrev nBuf : Space → Nat
  | .hbm => 13
  | .vmem => 20
  | .smem => 1
  | _ => 0

abbrev bufTy : (tb : Table) → Fin (tcTables nBuf tb) → BufTy
  | .hbm, ⟨0, _⟩ => ⟨S128x256, .i32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S4x1024x64, .bf16⟩
  | .hbm, ⟨5, _⟩ => ⟨S4x128x64, .bf16⟩
  | .hbm, ⟨6, _⟩ => ⟨S4x128x64, .bf16⟩
  | .hbm, ⟨7, _⟩ => ⟨S128x4x32x8192, .i8⟩
  | .hbm, ⟨8, _⟩ => ⟨S128x4x32x8192, .i8⟩
  | .hbm, ⟨9, _⟩ => ⟨S128x2048, .bf16⟩
  | .hbm, ⟨10, _⟩ => ⟨S192x4x32x128, .i8⟩
  | .hbm, ⟨11, _⟩ => ⟨S192x4x32x128, .i8⟩
  | .hbm, ⟨12, _⟩ => ⟨S4x192x128, .f32⟩
  | .local _ .vmem, ⟨0, _⟩ => ⟨S128x256, .i32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S1x64x64, .bf16⟩
  | .local _ .vmem, ⟨5, _⟩ => ⟨S1x64x64, .bf16⟩
  | .local _ .vmem, ⟨6, _⟩ => ⟨S1x128x64, .bf16⟩
  | .local _ .vmem, ⟨7, _⟩ => ⟨S1x128x64, .bf16⟩
  | .local _ .vmem, ⟨8, _⟩ => ⟨S8x1x32x8192, .i8⟩
  | .local _ .vmem, ⟨9, _⟩ => ⟨S8x1x32x8192, .i8⟩
  | .local _ .vmem, ⟨10, _⟩ => ⟨S8x1x32x8192, .i8⟩
  | .local _ .vmem, ⟨11, _⟩ => ⟨S8x1x32x8192, .i8⟩
  | .local _ .vmem, ⟨12, _⟩ => ⟨S128x512, .bf16⟩
  | .local _ .vmem, ⟨13, _⟩ => ⟨S192x1x32x128, .i8⟩
  | .local _ .vmem, ⟨14, _⟩ => ⟨S192x1x32x128, .i8⟩
  | .local _ .vmem, ⟨15, _⟩ => ⟨S1x192x128, .f32⟩
  | .local _ .vmem, ⟨16, _⟩ => ⟨S2x1024x128, .i32⟩
  | .local _ .vmem, ⟨17, _⟩ => ⟨S2x1024x128, .i32⟩
  | .local _ .vmem, ⟨18, _⟩ => ⟨S1024x128, .f32⟩
  | .local _ .vmem, ⟨19, _⟩ => ⟨S128x256, .f32⟩
  | .local _ .smem, ⟨0, _⟩ => ⟨S32x16, .i32⟩
  | _, _ => ⟨S128x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) (c0_i32_5 : BitVec 32) : Fin 2 → Nat :=
  let arg0 : BitVec 32 := BitVec.ofNat 32 (i 0).val
  let c8_i32 : BitVec 32 := 8#32
  let v0 : BitVec 32 := Scalar.muli arg0 c8_i32
  let v2 : BitVec 32 := Scalar.addi v0 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32 : BitVec 32 := 4#32
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v31 : Index := Scalar.indexCast v19
  let v20 : BitVec 32 := Scalar.addi v0 c0_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v20 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v32 : Index := Scalar.indexCast v30
  ![v31.toNat, v32.toNat]
def k0_off1_at (r : Fin 8) : BitVec 32 × BitVec 32 :=
  if r.val < 4 then
    if r.val < 2 then
      if r.val < 1 then
        (0#32, 0#32)
      else
        (1#32, 1#32)
    else
      if r.val < 3 then
        (2#32, 2#32)
      else
        (3#32, 3#32)
  else
    if r.val < 6 then
      if r.val < 5 then
        (4#32, 4#32)
      else
        (5#32, 5#32)
    else
      if r.val < 7 then
        (6#32, 6#32)
      else
        (7#32, 7#32)
def k0_off2 (i : grid0.Coords) (c0_i32_526 : BitVec 32) : Fin 2 → Nat :=
  let arg0 : BitVec 32 := BitVec.ofNat 32 (i 0).val
  let c8_i32 : BitVec 32 := 8#32
  let v0 : BitVec 32 := Scalar.muli arg0 c8_i32
  let v1433 : BitVec 32 := Scalar.addi v0 c0_i32_526
  let v1434 : Index := Scalar.indexCast v1433
  let c0_527 : Index := 0#32
  ![v1434.toNat, 0]
def k0_off3 (i : grid0.Coords) (c0_i32_1246 : BitVec 32) : Fin 3 → Nat :=
  let c0_1248 : Index := 0#32
  let arg0 : BitVec 32 := BitVec.ofNat 32 (i 0).val
  let c8_i32 : BitVec 32 := 8#32
  let v0 : BitVec 32 := Scalar.muli arg0 c8_i32
  let v3117 : BitVec 32 := Scalar.addi v0 c0_i32_1246
  let c8_i32_1247 : BitVec 32 := 8#32
  let v3118 : BitVec 32 := Scalar.muli v3117 c8_i32_1247
  let v3119 : Index := Scalar.indexCast v3118
  let c0_1249 : Index := 0#32
  ![0, v3119.toNat, 0]
def k0_off4 (i : grid0.Coords) (c0_i32_1246 : BitVec 32) : Fin 3 → Nat :=
  let c1_1250 : Index := 1#32
  let arg0 : BitVec 32 := BitVec.ofNat 32 (i 0).val
  let c8_i32 : BitVec 32 := 8#32
  let v0 : BitVec 32 := Scalar.muli arg0 c8_i32
  let v3117 : BitVec 32 := Scalar.addi v0 c0_i32_1246
  let c8_i32_1247 : BitVec 32 := 8#32
  let v3118 : BitVec 32 := Scalar.muli v3117 c8_i32_1247
  let v3123 : Index := Scalar.indexCast v3118
  let c0_1251 : Index := 0#32
  ![1, v3123.toNat, 0]
def k0_off5 (i : grid0.Coords) (c0_i32_526 : BitVec 32) : Fin 2 → Nat :=
  let arg0 : BitVec 32 := BitVec.ofNat 32 (i 0).val
  let c8_i32 : BitVec 32 := 8#32
  let v0 : BitVec 32 := Scalar.muli arg0 c8_i32
  let v1433 : BitVec 32 := Scalar.addi v0 c0_i32_526
  let v1434 : Index := Scalar.indexCast v1433
  let c0_527 : Index := 0#32
  ![v1434.toNat, 0]
@[reducible] def k0_t1_loop : Scf.Loop 32 :=
  let c0_i32_530 : BitVec 32 := 0#32
  let c64_i32_531 : BitVec 32 := 64#32
  let v1447 : BitVec 32 := Scalar.addi c0_i32_530 c64_i32_531
  let c1_i32_532 : BitVec 32 := 1#32
  ⟨c0_i32_530, v1447, c1_i32_532⟩
def k0_mult1 (k0_t1 : Fin k0_t1_loop.trips) : BitVec 32 :=
  let c0_i32_530 : BitVec 32 := 0#32
  let c1_i32_532 : BitVec 32 := 1#32
  let arg19 : BitVec 32 := Scf.iv c0_i32_530 c1_i32_532 k0_t1
  let c128_i32_677 : BitVec 32 := 128#32
  let v1705 : BitVec 32 := Scalar.muli arg19 c128_i32_677
  v1705
def k0_off6 (k0_t1 : Fin k0_t1_loop.trips) : Fin 4 → Nat :=
  let c0_678 : Index := 0#32
  let c0_679 : Index := 0#32
  let c0_680 : Index := 0#32
  let c0_i32_530 : BitVec 32 := 0#32
  let c1_i32_532 : BitVec 32 := 1#32
  let arg19 : BitVec 32 := Scf.iv c0_i32_530 c1_i32_532 k0_t1
  let c128_i32_677 : BitVec 32 := 128#32
  let v1705 : BitVec 32 := Scalar.muli arg19 c128_i32_677
  let v1706 : BitVec 32 := v1705
  let v1707 : Index := Scalar.indexCast v1706
  ![0, 0, 0, v1707.toNat]
def k0_off7 (i : grid0.Coords) (c0_i32_534 : BitVec 32) : Fin 3 → Nat :=
  let c0_536 : Index := 0#32
  let arg0 : BitVec 32 := BitVec.ofNat 32 (i 0).val
  let c8_i32 : BitVec 32 := 8#32
  let v0 : BitVec 32 := Scalar.muli arg0 c8_i32
  let v1449 : BitVec 32 := Scalar.addi v0 c0_i32_534
  let c8_i32_535 : BitVec 32 := 8#32
  let v1450 : BitVec 32 := Scalar.muli v1449 c8_i32_535
  let v1451 : Index := Scalar.indexCast v1450
  let c0_537 : Index := 0#32
  ![0, v1451.toNat, 0]
def k0_off8 (i : grid0.Coords) (c0_i32_534 : BitVec 32) : Fin 3 → Nat :=
  let c1_538 : Index := 1#32
  let arg0 : BitVec 32 := BitVec.ofNat 32 (i 0).val
  let c8_i32 : BitVec 32 := 8#32
  let v0 : BitVec 32 := Scalar.muli arg0 c8_i32
  let v1449 : BitVec 32 := Scalar.addi v0 c0_i32_534
  let c8_i32_535 : BitVec 32 := 8#32
  let v1450 : BitVec 32 := Scalar.muli v1449 c8_i32_535
  let v1455 : Index := Scalar.indexCast v1450
  let c0_539 : Index := 0#32
  ![1, v1455.toNat, 0]
@[reducible] def k0_t2_loop : Scf.Loop 32 :=
  let c0_i32_549 : BitVec 32 := 0#32
  let c64_i32_550 : BitVec 32 := 64#32
  let v1481 : BitVec 32 := Scalar.addi c0_i32_549 c64_i32_550
  let c1_i32_551 : BitVec 32 := 1#32
  ⟨c0_i32_549, v1481, c1_i32_551⟩
def k0_mult2 (k0_t2 : Fin k0_t2_loop.trips) : BitVec 32 :=
  let c0_i32_549 : BitVec 32 := 0#32
  let c1_i32_551 : BitVec 32 := 1#32
  let arg19 : BitVec 32 := Scf.iv c0_i32_549 c1_i32_551 k0_t2
  let c128_i32_677 : BitVec 32 := 128#32
  let v1705 : BitVec 32 := Scalar.muli arg19 c128_i32_677
  v1705
def k0_off9 (k0_t2 : Fin k0_t2_loop.trips) : Fin 4 → Nat :=
  let c1_678 : Index := 1#32
  let c0_679 : Index := 0#32
  let c0_680 : Index := 0#32
  let c0_i32_549 : BitVec 32 := 0#32
  let c1_i32_551 : BitVec 32 := 1#32
  let arg19 : BitVec 32 := Scf.iv c0_i32_549 c1_i32_551 k0_t2
  let c128_i32_677 : BitVec 32 := 128#32
  let v1705 : BitVec 32 := Scalar.muli arg19 c128_i32_677
  let v1706 : BitVec 32 := v1705
  let v1707 : Index := Scalar.indexCast v1706
  ![1, 0, 0, v1707.toNat]
@[reducible] def k0_t3_loop : Scf.Loop 32 :=
  let c0_i32_568 : BitVec 32 := 0#32
  let c64_i32_569 : BitVec 32 := 64#32
  let v1515 : BitVec 32 := Scalar.addi c0_i32_568 c64_i32_569
  let c1_i32_570 : BitVec 32 := 1#32
  ⟨c0_i32_568, v1515, c1_i32_570⟩
def k0_mult3 (k0_t3 : Fin k0_t3_loop.trips) : BitVec 32 :=
  let c0_i32_568 : BitVec 32 := 0#32
  let c1_i32_570 : BitVec 32 := 1#32
  let arg19 : BitVec 32 := Scf.iv c0_i32_568 c1_i32_570 k0_t3
  let c128_i32_677 : BitVec 32 := 128#32
  let v1705 : BitVec 32 := Scalar.muli arg19 c128_i32_677
  v1705
def k0_off10 (k0_t3 : Fin k0_t3_loop.trips) : Fin 4 → Nat :=
  let c2 : Index := 2#32
  let c0_678 : Index := 0#32
  let c0_679 : Index := 0#32
  let c0_i32_568 : BitVec 32 := 0#32
  let c1_i32_570 : BitVec 32 := 1#32
  let arg19 : BitVec 32 := Scf.iv c0_i32_568 c1_i32_570 k0_t3
  let c128_i32_677 : BitVec 32 := 128#32
  let v1705 : BitVec 32 := Scalar.muli arg19 c128_i32_677
  let v1706 : BitVec 32 := v1705
  let v1707 : Index := Scalar.indexCast v1706
  ![2, 0, 0, v1707.toNat]
@[reducible] def k0_t4_loop : Scf.Loop 32 :=
  let c0_i32_587 : BitVec 32 := 0#32
  let c64_i32_588 : BitVec 32 := 64#32
  let v1549 : BitVec 32 := Scalar.addi c0_i32_587 c64_i32_588
  let c1_i32_589 : BitVec 32 := 1#32
  ⟨c0_i32_587, v1549, c1_i32_589⟩
def k0_mult4 (k0_t4 : Fin k0_t4_loop.trips) : BitVec 32 :=
  let c0_i32_587 : BitVec 32 := 0#32
  let c1_i32_589 : BitVec 32 := 1#32
  let arg19 : BitVec 32 := Scf.iv c0_i32_587 c1_i32_589 k0_t4
  let c128_i32_677 : BitVec 32 := 128#32
  let v1705 : BitVec 32 := Scalar.muli arg19 c128_i32_677
  v1705
def k0_off11 (k0_t4 : Fin k0_t4_loop.trips) : Fin 4 → Nat :=
  let c3 : Index := 3#32
  let c0_678 : Index := 0#32
  let c0_679 : Index := 0#32
  let c0_i32_587 : BitVec 32 := 0#32
  let c1_i32_589 : BitVec 32 := 1#32
  let arg19 : BitVec 32 := Scf.iv c0_i32_587 c1_i32_589 k0_t4
  let c128_i32_677 : BitVec 32 := 128#32
  let v1705 : BitVec 32 := Scalar.muli arg19 c128_i32_677
  let v1706 : BitVec 32 := v1705
  let v1707 : Index := Scalar.indexCast v1706
  ![3, 0, 0, v1707.toNat]
@[reducible] def k0_t5_loop : Scf.Loop 32 :=
  let c0_i32_606 : BitVec 32 := 0#32
  let c64_i32_607 : BitVec 32 := 64#32
  let v1583 : BitVec 32 := Scalar.addi c0_i32_606 c64_i32_607
  let c1_i32_608 : BitVec 32 := 1#32
  ⟨c0_i32_606, v1583, c1_i32_608⟩
def k0_mult5 (k0_t5 : Fin k0_t5_loop.trips) : BitVec 32 :=
  let c0_i32_606 : BitVec 32 := 0#32
  let c1_i32_608 : BitVec 32 := 1#32
  let arg19 : BitVec 32 := Scf.iv c0_i32_606 c1_i32_608 k0_t5
  let c128_i32_677 : BitVec 32 := 128#32
  let v1705 : BitVec 32 := Scalar.muli arg19 c128_i32_677
  v1705
def k0_off12 (k0_t5 : Fin k0_t5_loop.trips) : Fin 4 → Nat :=
  let c4 : Index := 4#32
  let c0_678 : Index := 0#32
  let c0_679 : Index := 0#32
  let c0_i32_606 : BitVec 32 := 0#32
  let c1_i32_608 : BitVec 32 := 1#32
  let arg19 : BitVec 32 := Scf.iv c0_i32_606 c1_i32_608 k0_t5
  let c128_i32_677 : BitVec 32 := 128#32
  let v1705 : BitVec 32 := Scalar.muli arg19 c128_i32_677
  let v1706 : BitVec 32 := v1705
  let v1707 : Index := Scalar.indexCast v1706
  ![4, 0, 0, v1707.toNat]
@[reducible] def k0_t6_loop : Scf.Loop 32 :=
  let c0_i32_625 : BitVec 32 := 0#32
  let c64_i32_626 : BitVec 32 := 64#32
  let v1617 : BitVec 32 := Scalar.addi c0_i32_625 c64_i32_626
  let c1_i32_627 : BitVec 32 := 1#32
  ⟨c0_i32_625, v1617, c1_i32_627⟩
def k0_mult6 (k0_t6 : Fin k0_t6_loop.trips) : BitVec 32 :=
  let c0_i32_625 : BitVec 32 := 0#32
  let c1_i32_627 : BitVec 32 := 1#32
  let arg19 : BitVec 32 := Scf.iv c0_i32_625 c1_i32_627 k0_t6
  let c128_i32_677 : BitVec 32 := 128#32
  let v1705 : BitVec 32 := Scalar.muli arg19 c128_i32_677
  v1705
def k0_off13 (k0_t6 : Fin k0_t6_loop.trips) : Fin 4 → Nat :=
  let c5 : Index := 5#32
  let c0_678 : Index := 0#32
  let c0_679 : Index := 0#32
  let c0_i32_625 : BitVec 32 := 0#32
  let c1_i32_627 : BitVec 32 := 1#32
  let arg19 : BitVec 32 := Scf.iv c0_i32_625 c1_i32_627 k0_t6
  let c128_i32_677 : BitVec 32 := 128#32
  let v1705 : BitVec 32 := Scalar.muli arg19 c128_i32_677
  let v1706 : BitVec 32 := v1705
  let v1707 : Index := Scalar.indexCast v1706
  ![5, 0, 0, v1707.toNat]
@[reducible] def k0_t7_loop : Scf.Loop 32 :=
  let c0_i32_644 : BitVec 32 := 0#32
  let c64_i32_645 : BitVec 32 := 64#32
  let v1651 : BitVec 32 := Scalar.addi c0_i32_644 c64_i32_645
  let c1_i32_646 : BitVec 32 := 1#32
  ⟨c0_i32_644, v1651, c1_i32_646⟩
def k0_mult7 (k0_t7 : Fin k0_t7_loop.trips) : BitVec 32 :=
  let c0_i32_644 : BitVec 32 := 0#32
  let c1_i32_646 : BitVec 32 := 1#32
  let arg19 : BitVec 32 := Scf.iv c0_i32_644 c1_i32_646 k0_t7
  let c128_i32_677 : BitVec 32 := 128#32
  let v1705 : BitVec 32 := Scalar.muli arg19 c128_i32_677
  v1705
def k0_off14 (k0_t7 : Fin k0_t7_loop.trips) : Fin 4 → Nat :=
  let c6 : Index := 6#32
  let c0_678 : Index := 0#32
  let c0_679 : Index := 0#32
  let c0_i32_644 : BitVec 32 := 0#32
  let c1_i32_646 : BitVec 32 := 1#32
  let arg19 : BitVec 32 := Scf.iv c0_i32_644 c1_i32_646 k0_t7
  let c128_i32_677 : BitVec 32 := 128#32
  let v1705 : BitVec 32 := Scalar.muli arg19 c128_i32_677
  let v1706 : BitVec 32 := v1705
  let v1707 : Index := Scalar.indexCast v1706
  ![6, 0, 0, v1707.toNat]
@[reducible] def k0_t8_loop : Scf.Loop 32 :=
  let c0_i32_663 : BitVec 32 := 0#32
  let c64_i32_664 : BitVec 32 := 64#32
  let v1685 : BitVec 32 := Scalar.addi c0_i32_663 c64_i32_664
  let c1_i32_665 : BitVec 32 := 1#32
  ⟨c0_i32_663, v1685, c1_i32_665⟩
def k0_mult8 (k0_t8 : Fin k0_t8_loop.trips) : BitVec 32 :=
  let c0_i32_663 : BitVec 32 := 0#32
  let c1_i32_665 : BitVec 32 := 1#32
  let arg19 : BitVec 32 := Scf.iv c0_i32_663 c1_i32_665 k0_t8
  let c128_i32_677 : BitVec 32 := 128#32
  let v1705 : BitVec 32 := Scalar.muli arg19 c128_i32_677
  v1705
def k0_off15 (k0_t8 : Fin k0_t8_loop.trips) : Fin 4 → Nat :=
  let c7 : Index := 7#32
  let c0_678 : Index := 0#32
  let c0_679 : Index := 0#32
  let c0_i32_663 : BitVec 32 := 0#32
  let c1_i32_665 : BitVec 32 := 1#32
  let arg19 : BitVec 32 := Scf.iv c0_i32_663 c1_i32_665 k0_t8
  let c128_i32_677 : BitVec 32 := 128#32
  let v1705 : BitVec 32 := Scalar.muli arg19 c128_i32_677
  let v1706 : BitVec 32 := v1705
  let v1707 : Index := Scalar.indexCast v1706
  ![7, 0, 0, v1707.toNat]
def k0_off16 (i : grid0.Coords) : Fin 3 → Nat :=
  let c0_130 : Index := 0#32
  let arg0 : BitVec 32 := BitVec.ofNat 32 (i 0).val
  let c8_i32 : BitVec 32 := 8#32
  let v0 : BitVec 32 := Scalar.muli arg0 c8_i32
  let v296 : Index := Scalar.indexCast v0
  let c0_131 : Index := 0#32
  ![0, v296.toNat, 0]
def k0_off17 (i : grid0.Coords) (c0_i32_143 : BitVec 32) : Fin 3 → Nat :=
  let c0_145 : Index := 0#32
  let arg0 : BitVec 32 := BitVec.ofNat 32 (i 0).val
  let c8_i32 : BitVec 32 := 8#32
  let v0 : BitVec 32 := Scalar.muli arg0 c8_i32
  let v335 : BitVec 32 := Scalar.addi v0 c0_i32_143
  let c8_i32_144 : BitVec 32 := 8#32
  let v336 : BitVec 32 := Scalar.muli v335 c8_i32_144
  let v337 : Index := Scalar.indexCast v336
  let c0_146 : Index := 0#32
  ![0, v337.toNat, 0]
def k0_off18 (i : grid0.Coords) (c0_i32_143 : BitVec 32) : Fin 3 → Nat :=
  let c1 : Index := 1#32
  let arg0 : BitVec 32 := BitVec.ofNat 32 (i 0).val
  let c8_i32 : BitVec 32 := 8#32
  let v0 : BitVec 32 := Scalar.muli arg0 c8_i32
  let v335 : BitVec 32 := Scalar.addi v0 c0_i32_143
  let c8_i32_144 : BitVec 32 := 8#32
  let v336 : BitVec 32 := Scalar.muli v335 c8_i32_144
  let v340 : Index := Scalar.indexCast v336
  let c0_147 : Index := 0#32
  ![1, v340.toNat, 0]
def k0_off19 (i : grid0.Coords) (c0_i32_157 : BitVec 32) : Fin 2 → Nat :=
  let arg0 : BitVec 32 := BitVec.ofNat 32 (i 0).val
  let c8_i32 : BitVec 32 := 8#32
  let v0 : BitVec 32 := Scalar.muli arg0 c8_i32
  let v374 : BitVec 32 := Scalar.addi v0 c0_i32_157
  let v375 : Index := Scalar.indexCast v374
  let c0_158 : Index := 0#32
  ![v375.toNat, 0]
def k0_off20 (i : grid0.Coords) (c0_i32_166 : BitVec 32) : Fin 2 → Nat :=
  let arg0 : BitVec 32 := BitVec.ofNat 32 (i 0).val
  let c8_i32 : BitVec 32 := 8#32
  let v0 : BitVec 32 := Scalar.muli arg0 c8_i32
  let v406 : BitVec 32 := Scalar.addi v0 c0_i32_166
  let v407 : Index := Scalar.indexCast v406
  let c0_167 : Index := 0#32
  ![v407.toNat, 0]
def k0_off21 (i : grid0.Coords) (c0_i32_186 : BitVec 32) : Fin 2 → Nat :=
  let arg0 : BitVec 32 := BitVec.ofNat 32 (i 0).val
  let c8_i32 : BitVec 32 := 8#32
  let v0 : BitVec 32 := Scalar.muli arg0 c8_i32
  let v465 : BitVec 32 := Scalar.addi v0 c0_i32_186
  let c8_i32_187 : BitVec 32 := 8#32
  let v466 : BitVec 32 := Scalar.muli v465 c8_i32_187
  let v467 : Index := Scalar.indexCast v466
  let c0_188 : Index := 0#32
  ![v467.toNat, 0]
def k0_cond3 (i : grid0.Coords) : BitVec 1 :=
  let arg0 : BitVec 32 := BitVec.ofNat 32 (i 0).val
  let c15_i32 : BitVec 32 := 15#32
  let v1430 : BitVec 1 := Scalar.cmpi .eq arg0 c15_i32
  let v1431 : BitVec 32 := Scalar.extui v1430
  let c0_i32_525 : BitVec 32 := 0#32
  let v1432 : BitVec 1 := Scalar.cmpi .ne v1431 c0_i32_525
  v1432

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1x32x8192 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x32x8192 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x1x32x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x1x32x128 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x192x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x192 : Shape := ⟨2, ![128, 192]⟩
abbrev S128x1x192 : Shape := ⟨3, ![128, 1, 192]⟩
abbrev S128x1x32x8192 : Shape := ⟨4, ![128, 1, 32, 8192]⟩
abbrev S128x32x8192 : Shape := ⟨3, ![128, 32, 8192]⟩
abbrev S_ : Shape := ⟨0, ![]⟩
abbrev S128x192x1 : Shape := ⟨3, ![128, 192, 1]⟩
abbrev S128x32x192 : Shape := ⟨3, ![128, 32, 192]⟩
abbrev S1x1024x64 : Shape := ⟨3, ![1, 1024, 64]⟩
abbrev S1024x64 : Shape := ⟨2, ![1024, 64]⟩
abbrev S128x8x64 : Shape := ⟨3, ![128, 8, 64]⟩
abbrev S128x8x32 : Shape := ⟨3, ![128, 8, 32]⟩
abbrev S128x8x192 : Shape := ⟨3, ![128, 8, 192]⟩
abbrev S1x128x64 : Shape := ⟨3, ![1, 128, 64]⟩
abbrev S128x64 : Shape := ⟨2, ![128, 64]⟩
abbrev S128x8 : Shape := ⟨2, ![128, 8]⟩
abbrev S128x8x1 : Shape := ⟨3, ![128, 8, 1]⟩
abbrev S128x8x193 : Shape := ⟨3, ![128, 8, 193]⟩
abbrev S128x1x64 : Shape := ⟨3, ![128, 1, 64]⟩
abbrev S128x8x32x1 : Shape := ⟨4, ![128, 8, 32, 1]⟩
abbrev S128x8x32x2 : Shape := ⟨4, ![128, 8, 32, 2]⟩
abbrev S128x1x8x64 : Shape := ⟨4, ![128, 1, 8, 64]⟩
abbrev S128x4x8x64 : Shape := ⟨4, ![128, 4, 8, 64]⟩
abbrev S128x2048 : Shape := ⟨2, ![128, 2048]⟩
abbrev S192x32x128 : Shape := ⟨3, ![192, 32, 128]⟩
abbrev S192x1x32x128 : Shape := ⟨4, ![192, 1, 32, 128]⟩
abbrev S192x4x32x128 : Shape := ⟨4, ![192, 4, 32, 128]⟩
abbrev S192x128 : Shape := ⟨2, ![192, 128]⟩
abbrev S1x192x128 : Shape := ⟨3, ![1, 192, 128]⟩
abbrev S4x192x128 : Shape := ⟨3, ![4, 192, 128]⟩

abbrev nBuf : Space → Nat
  | .hbm => 153
  | .vmem => 0
  | .smem => 0
  | _ => 0

abbrev hbmTy0_0 (i : Nat) : BufTy := match i % 128 with
  | 0 => ⟨S32x16, .i32⟩
  | 1 => ⟨S128x256, .i32⟩
  | 2 => ⟨S128x256, .f32⟩
  | 3 => ⟨S128x256, .f32⟩
  | 4 => ⟨S128x256, .f32⟩
  | 5 => ⟨S4x1024x64, .bf16⟩
  | 6 => ⟨S4x128x64, .bf16⟩
  | 7 => ⟨S4x128x64, .bf16⟩
  | 8 => ⟨S128x4x32x8192, .i8⟩
  | 9 => ⟨S128x4x32x8192, .i8⟩
  | 10 => ⟨S128x192, .i32⟩
  | 11 => ⟨S128x1x192, .i32⟩
  | 12 => ⟨S128x1x32x8192, .i8⟩
  | 13 => ⟨S128x32x8192, .i8⟩
  | 14 => ⟨S_, .i32⟩
  | 15 => ⟨S128x1x192, .i32⟩
  | 16 => ⟨S128x1x192, .i1⟩
  | 17 => ⟨S_, .i32⟩
  | 18 => ⟨S128x1x192, .i32⟩
  | 19 => ⟨S128x1x192, .i32⟩
  | 20 => ⟨S128x1x192, .i32⟩
  | 21 => ⟨S128x192x1, .i32⟩
  | 22 => ⟨S128x32x192, .i8⟩
  | 23 => ⟨S128x1x32x8192, .i8⟩
  | 24 => ⟨S128x32x8192, .i8⟩
  | 25 => ⟨S_, .i32⟩
  | 26 => ⟨S128x1x192, .i32⟩
  | 27 => ⟨S128x1x192, .i1⟩
  | 28 => ⟨S_, .i32⟩
  | 29 => ⟨S128x1x192, .i32⟩
  | 30 => ⟨S128x1x192, .i32⟩
  | 31 => ⟨S128x1x192, .i32⟩
  | 32 => ⟨S128x192x1, .i32⟩
  | 33 => ⟨S128x32x192, .i8⟩
  | 34 => ⟨S1x1024x64, .bf16⟩
  | 35 => ⟨S1024x64, .bf16⟩
  | 36 => ⟨S128x8x64, .bf16⟩
  | 37 => ⟨S128x32x192, .i32⟩
  | 38 => ⟨S_, .i32⟩
  | 39 => ⟨S128x32x192, .i32⟩
  | 40 => ⟨S128x32x192, .i32⟩
  | 41 => ⟨S_, .i32⟩
  | 42 => ⟨S128x32x192, .i32⟩
  | 43 => ⟨S128x32x192, .i32⟩
  | 44 => ⟨S_, .i32⟩
  | 45 => ⟨S128x32x192, .i32⟩
  | 46 => ⟨S128x32x192, .i32⟩
  | 47 => ⟨S_, .i32⟩
  | 48 => ⟨S128x32x192, .i32⟩
  | 49 => ⟨S128x32x192, .i32⟩
  | 50 => ⟨S_, .i32⟩
  | 51 => ⟨S128x32x192, .i32⟩
  | 52 => ⟨S128x32x192, .i32⟩
  | 53 => ⟨S_, .i32⟩
  | 54 => ⟨S128x32x192, .i32⟩
  | 55 => ⟨S128x32x192, .i32⟩
  | 56 => ⟨S128x32x192, .bf16⟩
  | 57 => ⟨S128x32x192, .bf16⟩
  | 58 => ⟨S128x8x32, .bf16⟩
  | 59 => ⟨S128x8x192, .f32⟩
  | 60 => ⟨S128x8x32, .bf16⟩
  | 61 => ⟨S128x8x192, .f32⟩
  | 62 => ⟨S128x8x192, .f32⟩
  | 63 => ⟨S128x192, .f32⟩
  | 64 => ⟨S128x1x192, .f32⟩
  | 65 => ⟨S_, .f32⟩
  | 66 => ⟨S128x1x192, .f32⟩
  | 67 => ⟨S128x1x192, .f32⟩
  | 68 => ⟨S128x8x192, .f32⟩
  | 69 => ⟨S128x8x192, .f32⟩
  | 70 => ⟨S1x128x64, .bf16⟩
  | 71 => ⟨S128x64, .bf16⟩
  | 72 => ⟨S128x8, .f32⟩
  | 73 => ⟨S128x8x1, .f32⟩
  | 74 => ⟨S_, .f32⟩
  | 75 => ⟨S128x8x1, .f32⟩
  | 76 => ⟨S128x8x1, .f32⟩
  | 77 => ⟨S128x8x193, .f32⟩
  | 78 => ⟨S_, .f32⟩
  | 79 => ⟨S128x8, .f32⟩
  | 80 => ⟨S_, .f32⟩
  | 81 => ⟨S128x8, .f32⟩
  | 82 => ⟨S128x8, .f32⟩
  | 83 => ⟨S128x8x1, .f32⟩
  | 84 => ⟨S128x8x193, .f32⟩
  | 85 => ⟨S128x8x193, .f32⟩
  | 86 => ⟨S128x8x193, .f32⟩
  | 87 => ⟨S_, .f32⟩
  | 88 => ⟨S128x8, .f32⟩
  | 89 => ⟨S128x8x1, .f32⟩
  | 90 => ⟨S128x8x193, .f32⟩
  | 91 => ⟨S128x8x193, .f32⟩
  | 92 => ⟨S128x8x192, .f32⟩
  | 93 => ⟨S128x8x1, .f32⟩
  | 94 => ⟨S128x192, .f32⟩
  | 95 => ⟨S128x1x192, .f32⟩
  | 96 => ⟨S128x8x192, .f32⟩
  | 97 => ⟨S128x8x192, .f32⟩
  | 98 => ⟨S128x8x192, .bf16⟩
  | 99 => ⟨S128x32x192, .i32⟩
  | 100 => ⟨S_, .i32⟩
  | 101 => ⟨S128x32x192, .i32⟩
  | 102 => ⟨S128x32x192, .i32⟩
  | 103 => ⟨S_, .i32⟩
  | 104 => ⟨S128x32x192, .i32⟩
  | 105 => ⟨S128x32x192, .i32⟩
  | 106 => ⟨S_, .i32⟩
  | 107 => ⟨S128x32x192, .i32⟩
  | 108 => ⟨S128x32x192, .i32⟩
  | 109 => ⟨S_, .i32⟩
  | 110 => ⟨S128x32x192, .i32⟩
  | 111 => ⟨S128x32x192, .i32⟩
  | 112 => ⟨S_, .i32⟩
  | 113 => ⟨S128x32x192, .i32⟩
  | 114 => ⟨S128x32x192, .i32⟩
  | 115 => ⟨S_, .i32⟩
  | 116 => ⟨S128x32x192, .i32⟩
  | 117 => ⟨S128x32x192, .i32⟩
  | 118 => ⟨S128x32x192, .bf16⟩
  | 119 => ⟨S128x32x192, .bf16⟩
  | 120 => ⟨S128x8x32, .f32⟩
  | 121 => ⟨S128x8x32, .f32⟩
  | 122 => ⟨S128x8x1, .bf16⟩
  | 123 => ⟨S128x8x1, .f32⟩
  | 124 => ⟨S1x128x64, .bf16⟩
  | 125 => ⟨S128x64, .bf16⟩
  | 126 => ⟨S128x1x64, .bf16⟩
  | 127 => ⟨S128x1x64, .f32⟩
  | _ => ⟨S32x16, .i32⟩

abbrev hbmTy0_1 (i : Nat) : BufTy := match i % 128 with
  | 0 => ⟨S128x8x64, .f32⟩
  | 1 => ⟨S128x8x64, .f32⟩
  | 2 => ⟨S128x8x64, .f32⟩
  | 3 => ⟨S128x8x32x1, .f32⟩
  | 4 => ⟨S128x8x32x1, .f32⟩
  | 5 => ⟨S128x8x32x2, .f32⟩
  | 6 => ⟨S128x8x64, .f32⟩
  | 7 => ⟨S128x8x64, .f32⟩
  | 8 => ⟨S128x8x64, .bf16⟩
  | 9 => ⟨S128x192, .f32⟩
  | 10 => ⟨S_, .f32⟩
  | 11 => ⟨S128x192, .f32⟩
  | 12 => ⟨S128x192, .f32⟩
  | 13 => ⟨S128x1x8x64, .bf16⟩
  | 14 => ⟨S128x4x8x64, .bf16⟩
  | 15 => ⟨S128x2048, .bf16⟩
  | 16 => ⟨S192x32x128, .i8⟩
  | 17 => ⟨S192x1x32x128, .i8⟩
  | 18 => ⟨S192x4x32x128, .i8⟩
  | 19 => ⟨S192x32x128, .i8⟩
  | 20 => ⟨S192x1x32x128, .i8⟩
  | 21 => ⟨S192x4x32x128, .i8⟩
  | 22 => ⟨S192x128, .f32⟩
  | 23 => ⟨S1x192x128, .f32⟩
  | 24 => ⟨S4x192x128, .f32⟩
  | _ => ⟨S32x16, .i32⟩

abbrev hbmTy (i : Nat) : BufTy := match i / 128 with
  | 0 => hbmTy0_0 i
  | 1 => hbmTy0_1 i
  | _ => ⟨S32x16, .i32⟩

abbrev bufTy : (tb : Table) → Fin (tcTables nBuf tb) → BufTy
  | .hbm, ⟨i, _⟩ => hbmTy i
  | _, _ => ⟨S32x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c : Ref sig .tc := ⟨.hbm, 38, rfl⟩
abbrev main_v12 : Ref sig .tc := ⟨.hbm, 39, rfl⟩
abbrev main_v13 : Ref sig .tc := ⟨.hbm, 40, rfl⟩
abbrev main_c_0 : Ref sig .tc := ⟨.hbm, 41, rfl⟩
abbrev main_v14 : Ref sig .tc := ⟨.hbm, 42, rfl⟩
abbrev main_v15 : Ref sig .tc := ⟨.hbm, 43, rfl⟩
abbrev main_c_1 : Ref sig .tc := ⟨.hbm, 44, rfl⟩
abbrev main_v16 : Ref sig .tc := ⟨.hbm, 45, rfl⟩
abbrev main_v17 : Ref sig .tc := ⟨.hbm, 46, rfl⟩
abbrev main_c_2 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_c_4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_5 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_6 : Ref sig .tc := ⟨.hbm, 78, rfl⟩
abbrev main_v44 : Ref sig .tc := ⟨.hbm, 79, rfl⟩
abbrev main_cst_7 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_8 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_9 : Ref sig .tc := ⟨.hbm, 100, rfl⟩
abbrev main_v63 : Ref sig .tc := ⟨.hbm, 101, rfl⟩
abbrev main_v64 : Ref sig .tc := ⟨.hbm, 102, rfl⟩
abbrev main_c_10 : Ref sig .tc := ⟨.hbm, 103, rfl⟩
abbrev main_v65 : Ref sig .tc := ⟨.hbm, 104, rfl⟩
abbrev main_v66 : Ref sig .tc := ⟨.hbm, 105, rfl⟩
abbrev main_c_11 : Ref sig .tc := ⟨.hbm, 106, rfl⟩
abbrev main_v67 : Ref sig .tc := ⟨.hbm, 107, rfl⟩
abbrev main_v68 : Ref sig .tc := ⟨.hbm, 108, rfl⟩
abbrev main_c_12 : Ref sig .tc := ⟨.hbm, 109, rfl⟩
abbrev main_v69 : Ref sig .tc := ⟨.hbm, 110, rfl⟩
abbrev main_v70 : Ref sig .tc := ⟨.hbm, 111, rfl⟩
abbrev main_c_13 : Ref sig .tc := ⟨.hbm, 112, rfl⟩
abbrev main_v71 : Ref sig .tc := ⟨.hbm, 113, rfl⟩
abbrev main_v72 : Ref sig .tc := ⟨.hbm, 114, rfl⟩
abbrev main_c_14 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_15 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩

abbrev nD : Nat := 1
abbrev τ : Topo := Topo.v7x

variable {F : FTy → Type} [FloatOps F]
-- ==== KernelB.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x2048 : Shape := ⟨2, ![128, 2048]⟩
abbrev S192x4x32x128 : Shape := ⟨4, ![192, 4, 32, 128]⟩
abbrev S4x192x128 : Shape := ⟨3, ![4, 192, 128]⟩
abbrev S1x64x64 : Shape := ⟨3, ![1, 64, 64]⟩
abbrev S1x128x64 : Shape := ⟨3, ![1, 128, 64]⟩
abbrev S8x1x32x8192 : Shape := ⟨4, ![8, 1, 32, 8192]⟩
abbrev S128x512 : Shape := ⟨2, ![128, 512]⟩
abbrev S192x1x32x128 : Shape := ⟨4, ![192, 1, 32, 128]⟩
abbrev S1x192x128 : Shape := ⟨3, ![1, 192, 128]⟩
abbrev S2x1024x128 : Shape := ⟨3, ![2, 1024, 128]⟩
abbrev S1024x128 : Shape := ⟨2, ![1024, 128]⟩
abbrev S8x128 : Shape := ⟨2, ![8, 128]⟩
abbrev S1x1 : Shape := ⟨2, ![1, 1]⟩
abbrev S1x256 : Shape := ⟨2, ![1, 256]⟩
abbrev S8x256 : Shape := ⟨2, ![8, 256]⟩
abbrev S1x1x32x128 : Shape := ⟨4, ![1, 1, 32, 128]⟩
abbrev S32x128 : Shape := ⟨2, ![32, 128]⟩
abbrev S8x128x1 : Shape := ⟨3, ![8, 128, 1]⟩
abbrev S1x8x128 : Shape := ⟨3, ![1, 8, 128]⟩
abbrev S64x64 : Shape := ⟨2, ![64, 64]⟩
abbrev S1x8x64 : Shape := ⟨3, ![1, 8, 64]⟩
abbrev S8x64 : Shape := ⟨2, ![8, 64]⟩
abbrev S64x8 : Shape := ⟨2, ![64, 8]⟩
abbrev S64 : Shape := ⟨1, ![64]⟩
abbrev S64x1 : Shape := ⟨2, ![64, 1]⟩
abbrev S8x192 : Shape := ⟨2, ![8, 192]⟩
abbrev S64x192 : Shape := ⟨2, ![64, 192]⟩
abbrev S8x1x192 : Shape := ⟨3, ![8, 1, 192]⟩
abbrev S8x8x192 : Shape := ⟨3, ![8, 8, 192]⟩
abbrev S1x192 : Shape := ⟨2, ![1, 192]⟩
abbrev S8x1 : Shape := ⟨2, ![8, 1]⟩
abbrev S8 : Shape := ⟨1, ![8]⟩
abbrev S192 : Shape := ⟨1, ![192]⟩
abbrev S1x64 : Shape := ⟨2, ![1, 64]⟩
abbrev S1x128x128 : Shape := ⟨3, ![1, 128, 128]⟩
abbrev S128x128 : Shape := ⟨2, ![128, 128]⟩
abbrev S512x128 : Shape := ⟨2, ![512, 128]⟩
abbrev S128x4x128 : Shape := ⟨3, ![128, 4, 128]⟩
abbrev S128x1x4x128 : Shape := ⟨4, ![128, 1, 4, 128]⟩
abbrev S64x128 : Shape := ⟨2, ![64, 128]⟩
abbrev S256x128 : Shape := ⟨2, ![256, 128]⟩
abbrev S64x4x128 : Shape := ⟨3, ![64, 4, 128]⟩
abbrev S64x1x4x128 : Shape := ⟨4, ![64, 1, 4, 128]⟩
abbrev S192x128 : Shape := ⟨2, ![192, 128]⟩
abbrev S128x64 : Shape := ⟨2, ![128, 64]⟩

abbrev nBuf : Space → Nat
  | .hbm => 17
  | .vmem => 20
  | .smem => 1
  | _ => 0

abbrev bufTy : (tb : Table) → Fin (tcTables nBuf tb) → BufTy
  | .hbm, ⟨0, _⟩ => ⟨S128x256, .i32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S4x1024x64, .bf16⟩
  | .hbm, ⟨5, _⟩ => ⟨S4x128x64, .bf16⟩
  | .hbm, ⟨6, _⟩ => ⟨S4x128x64, .bf16⟩
  | .hbm, ⟨7, _⟩ => ⟨S128x4x32x8192, .i8⟩
  | .hbm, ⟨8, _⟩ => ⟨S128x4x32x8192, .i8⟩
  | .hbm, ⟨9, _⟩ => ⟨S128x2048, .bf16⟩
  | .hbm, ⟨10, _⟩ => ⟨S192x4x32x128, .i8⟩
  | .hbm, ⟨11, _⟩ => ⟨S192x4x32x128, .i8⟩
  | .hbm, ⟨12, _⟩ => ⟨S4x192x128, .f32⟩
  | .hbm, ⟨13, _⟩ => ⟨S128x2048, .bf16⟩
  | .hbm, ⟨14, _⟩ => ⟨S192x4x32x128, .i8⟩
  | .hbm, ⟨15, _⟩ => ⟨S192x4x32x128, .i8⟩
  | .hbm, ⟨16, _⟩ => ⟨S4x192x128, .f32⟩
  | .local _ .vmem, ⟨0, _⟩ => ⟨S128x256, .i32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S1x64x64, .bf16⟩
  | .local _ .vmem, ⟨5, _⟩ => ⟨S1x64x64, .bf16⟩
  | .local _ .vmem, ⟨6, _⟩ => ⟨S1x128x64, .bf16⟩
  | .local _ .vmem, ⟨7, _⟩ => ⟨S1x128x64, .bf16⟩
  | .local _ .vmem, ⟨8, _⟩ => ⟨S8x1x32x8192, .i8⟩
  | .local _ .vmem, ⟨9, _⟩ => ⟨S8x1x32x8192, .i8⟩
  | .local _ .vmem, ⟨10, _⟩ => ⟨S8x1x32x8192, .i8⟩
  | .local _ .vmem, ⟨11, _⟩ => ⟨S8x1x32x8192, .i8⟩
  | .local _ .vmem, ⟨12, _⟩ => ⟨S128x512, .bf16⟩
  | .local _ .vmem, ⟨13, _⟩ => ⟨S192x1x32x128, .i8⟩
  | .local _ .vmem, ⟨14, _⟩ => ⟨S192x1x32x128, .i8⟩
  | .local _ .vmem, ⟨15, _⟩ => ⟨S1x192x128, .f32⟩
  | .local _ .vmem, ⟨16, _⟩ => ⟨S2x1024x128, .i32⟩
  | .local _ .vmem, ⟨17, _⟩ => ⟨S2x1024x128, .i32⟩
  | .local _ .vmem, ⟨18, _⟩ => ⟨S1024x128, .f32⟩
  | .local _ .vmem, ⟨19, _⟩ => ⟨S128x256, .f32⟩
  | .local _ .smem, ⟨0, _⟩ => ⟨S32x16, .i32⟩
  | _, _ => ⟨S128x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) (c0_i32_5 : BitVec 32) : Fin 2 → Nat :=
  let arg0 : BitVec 32 := BitVec.ofNat 32 (i 0).val
  let c8_i32 : BitVec 32 := 8#32
  let v0 : BitVec 32 := Scalar.muli arg0 c8_i32
  let v2 : BitVec 32 := Scalar.addi v0 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32 : BitVec 32 := 4#32
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v31 : Index := Scalar.indexCast v19
  let v20 : BitVec 32 := Scalar.addi v0 c0_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v20 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v32 : Index := Scalar.indexCast v30
  ![v31.toNat, v32.toNat]
def k0_off1_at (r : Fin 8) : BitVec 32 × BitVec 32 :=
  if r.val < 4 then
    if r.val < 2 then
      if r.val < 1 then
        (0#32, 0#32)
      else
        (1#32, 1#32)
    else
      if r.val < 3 then
        (2#32, 2#32)
      else
        (3#32, 3#32)
  else
    if r.val < 6 then
      if r.val < 5 then
        (4#32, 4#32)
      else
        (5#32, 5#32)
    else
      if r.val < 7 then
        (6#32, 6#32)
      else
        (7#32, 7#32)
def k0_off2 (i : grid0.Coords) (c0_i32_526 : BitVec 32) : Fin 2 → Nat :=
  let arg0 : BitVec 32 := BitVec.ofNat 32 (i 0).val
  let c8_i32 : BitVec 32 := 8#32
  let v0 : BitVec 32 := Scalar.muli arg0 c8_i32
  let v1433 : BitVec 32 := Scalar.addi v0 c0_i32_526
  let v1434 : Index := Scalar.indexCast v1433
  let c0_527 : Index := 0#32
  ![v1434.toNat, 0]
def k0_off3 (i : grid0.Coords) (c0_i32_1246 : BitVec 32) : Fin 3 → Nat :=
  let c0_1248 : Index := 0#32
  let arg0 : BitVec 32 := BitVec.ofNat 32 (i 0).val
  let c8_i32 : BitVec 32 := 8#32
  let v0 : BitVec 32 := Scalar.muli arg0 c8_i32
  let v3117 : BitVec 32 := Scalar.addi v0 c0_i32_1246
  let c8_i32_1247 : BitVec 32 := 8#32
  let v3118 : BitVec 32 := Scalar.muli v3117 c8_i32_1247
  let v3119 : Index := Scalar.indexCast v3118
  let c0_1249 : Index := 0#32
  ![0, v3119.toNat, 0]
def k0_off4 (i : grid0.Coords) (c0_i32_1246 : BitVec 32) : Fin 3 → Nat :=
  let c1_1250 : Index := 1#32
  let arg0 : BitVec 32 := BitVec.ofNat 32 (i 0).val
  let c8_i32 : BitVec 32 := 8#32
  let v0 : BitVec 32 := Scalar.muli arg0 c8_i32
  let v3117 : BitVec 32 := Scalar.addi v0 c0_i32_1246
  let c8_i32_1247 : BitVec 32 := 8#32
  let v3118 : BitVec 32 := Scalar.muli v3117 c8_i32_1247
  let v3123 : Index := Scalar.indexCast v3118
  let c0_1251 : Index := 0#32
  ![1, v3123.toNat, 0]
def k0_off5 (i : grid0.Coords) (c0_i32_526 : BitVec 32) : Fin 2 → Nat :=
  let arg0 : BitVec 32 := BitVec.ofNat 32 (i 0).val
  let c8_i32 : BitVec 32 := 8#32
  let v0 : BitVec 32 := Scalar.muli arg0 c8_i32
  let v1433 : BitVec 32 := Scalar.addi v0 c0_i32_526
  let v1434 : Index := Scalar.indexCast v1433
  let c0_527 : Index := 0#32
  ![v1434.toNat, 0]
@[reducible] def k0_t1_loop : Scf.Loop 32 :=
  let c0_i32_530 : BitVec 32 := 0#32
  let c64_i32_531 : BitVec 32 := 64#32
  let v1447 : BitVec 32 := Scalar.addi c0_i32_530 c64_i32_531
  let c1_i32_532 : BitVec 32 := 1#32
  ⟨c0_i32_530, v1447, c1_i32_532⟩
def k0_mult1 (k0_t1 : Fin k0_t1_loop.trips) : BitVec 32 :=
  let c0_i32_530 : BitVec 32 := 0#32
  let c1_i32_532 : BitVec 32 := 1#32
  let arg23 : BitVec 32 := Scf.iv c0_i32_530 c1_i32_532 k0_t1
  let c128_i32_677 : BitVec 32 := 128#32
  let v1705 : BitVec 32 := Scalar.muli arg23 c128_i32_677
  v1705
def k0_off6 (k0_t1 : Fin k0_t1_loop.trips) : Fin 4 → Nat :=
  let c0_678 : Index := 0#32
  let c0_679 : Index := 0#32
  let c0_680 : Index := 0#32
  let c0_i32_530 : BitVec 32 := 0#32
  let c1_i32_532 : BitVec 32 := 1#32
  let arg23 : BitVec 32 := Scf.iv c0_i32_530 c1_i32_532 k0_t1
  let c128_i32_677 : BitVec 32 := 128#32
  let v1705 : BitVec 32 := Scalar.muli arg23 c128_i32_677
  let v1706 : BitVec 32 := v1705
  let v1707 : Index := Scalar.indexCast v1706
  ![0, 0, 0, v1707.toNat]
def k0_off7 (i : grid0.Coords) (c0_i32_534 : BitVec 32) : Fin 3 → Nat :=
  let c0_536 : Index := 0#32
  let arg0 : BitVec 32 := BitVec.ofNat 32 (i 0).val
  let c8_i32 : BitVec 32 := 8#32
  let v0 : BitVec 32 := Scalar.muli arg0 c8_i32
  let v1449 : BitVec 32 := Scalar.addi v0 c0_i32_534
  let c8_i32_535 : BitVec 32 := 8#32
  let v1450 : BitVec 32 := Scalar.muli v1449 c8_i32_535
  let v1451 : Index := Scalar.indexCast v1450
  let c0_537 : Index := 0#32
  ![0, v1451.toNat, 0]
def k0_off8 (i : grid0.Coords) (c0_i32_534 : BitVec 32) : Fin 3 → Nat :=
  let c1_538 : Index := 1#32
  let arg0 : BitVec 32 := BitVec.ofNat 32 (i 0).val
  let c8_i32 : BitVec 32 := 8#32
  let v0 : BitVec 32 := Scalar.muli arg0 c8_i32
  let v1449 : BitVec 32 := Scalar.addi v0 c0_i32_534
  let c8_i32_535 : BitVec 32 := 8#32
  let v1450 : BitVec 32 := Scalar.muli v1449 c8_i32_535
  let v1455 : Index := Scalar.indexCast v1450
  let c0_539 : Index := 0#32
  ![1, v1455.toNat, 0]
@[reducible] def k0_t2_loop : Scf.Loop 32 :=
  let c0_i32_549 : BitVec 32 := 0#32
  let c64_i32_550 : BitVec 32 := 64#32
  let v1481 : BitVec 32 := Scalar.addi c0_i32_549 c64_i32_550
  let c1_i32_551 : BitVec 32 := 1#32
  ⟨c0_i32_549, v1481, c1_i32_551⟩
def k0_mult2 (k0_t2 : Fin k0_t2_loop.trips) : BitVec 32 :=
  let c0_i32_549 : BitVec 32 := 0#32
  let c1_i32_551 : BitVec 32 := 1#32
  let arg23 : BitVec 32 := Scf.iv c0_i32_549 c1_i32_551 k0_t2
  let c128_i32_677 : BitVec 32 := 128#32
  let v1705 : BitVec 32 := Scalar.muli arg23 c128_i32_677
  v1705
def k0_off9 (k0_t2 : Fin k0_t2_loop.trips) : Fin 4 → Nat :=
  let c1_678 : Index := 1#32
  let c0_679 : Index := 0#32
  let c0_680 : Index := 0#32
  let c0_i32_549 : BitVec 32 := 0#32
  let c1_i32_551 : BitVec 32 := 1#32
  let arg23 : BitVec 32 := Scf.iv c0_i32_549 c1_i32_551 k0_t2
  let c128_i32_677 : BitVec 32 := 128#32
  let v1705 : BitVec 32 := Scalar.muli arg23 c128_i32_677
  let v1706 : BitVec 32 := v1705
  let v1707 : Index := Scalar.indexCast v1706
  ![1, 0, 0, v1707.toNat]
@[reducible] def k0_t3_loop : Scf.Loop 32 :=
  let c0_i32_568 : BitVec 32 := 0#32
  let c64_i32_569 : BitVec 32 := 64#32
  let v1515 : BitVec 32 := Scalar.addi c0_i32_568 c64_i32_569
  let c1_i32_570 : BitVec 32 := 1#32
  ⟨c0_i32_568, v1515, c1_i32_570⟩
def k0_mult3 (k0_t3 : Fin k0_t3_loop.trips) : BitVec 32 :=
  let c0_i32_568 : BitVec 32 := 0#32
  let c1_i32_570 : BitVec 32 := 1#32
  let arg23 : BitVec 32 := Scf.iv c0_i32_568 c1_i32_570 k0_t3
  let c128_i32_677 : BitVec 32 := 128#32
  let v1705 : BitVec 32 := Scalar.muli arg23 c128_i32_677
  v1705
def k0_off10 (k0_t3 : Fin k0_t3_loop.trips) : Fin 4 → Nat :=
  let c2 : Index := 2#32
  let c0_678 : Index := 0#32
  let c0_679 : Index := 0#32
  let c0_i32_568 : BitVec 32 := 0#32
  let c1_i32_570 : BitVec 32 := 1#32
  let arg23 : BitVec 32 := Scf.iv c0_i32_568 c1_i32_570 k0_t3
  let c128_i32_677 : BitVec 32 := 128#32
  let v1705 : BitVec 32 := Scalar.muli arg23 c128_i32_677
  let v1706 : BitVec 32 := v1705
  let v1707 : Index := Scalar.indexCast v1706
  ![2, 0, 0, v1707.toNat]
@[reducible] def k0_t4_loop : Scf.Loop 32 :=
  let c0_i32_587 : BitVec 32 := 0#32
  let c64_i32_588 : BitVec 32 := 64#32
  let v1549 : BitVec 32 := Scalar.addi c0_i32_587 c64_i32_588
  let c1_i32_589 : BitVec 32 := 1#32
  ⟨c0_i32_587, v1549, c1_i32_589⟩
def k0_mult4 (k0_t4 : Fin k0_t4_loop.trips) : BitVec 32 :=
  let c0_i32_587 : BitVec 32 := 0#32
  let c1_i32_589 : BitVec 32 := 1#32
  let arg23 : BitVec 32 := Scf.iv c0_i32_587 c1_i32_589 k0_t4
  let c128_i32_677 : BitVec 32 := 128#32
  let v1705 : BitVec 32 := Scalar.muli arg23 c128_i32_677
  v1705
def k0_off11 (k0_t4 : Fin k0_t4_loop.trips) : Fin 4 → Nat :=
  let c3 : Index := 3#32
  let c0_678 : Index := 0#32
  let c0_679 : Index := 0#32
  let c0_i32_587 : BitVec 32 := 0#32
  let c1_i32_589 : BitVec 32 := 1#32
  let arg23 : BitVec 32 := Scf.iv c0_i32_587 c1_i32_589 k0_t4
  let c128_i32_677 : BitVec 32 := 128#32
  let v1705 : BitVec 32 := Scalar.muli arg23 c128_i32_677
  let v1706 : BitVec 32 := v1705
  let v1707 : Index := Scalar.indexCast v1706
  ![3, 0, 0, v1707.toNat]
@[reducible] def k0_t5_loop : Scf.Loop 32 :=
  let c0_i32_606 : BitVec 32 := 0#32
  let c64_i32_607 : BitVec 32 := 64#32
  let v1583 : BitVec 32 := Scalar.addi c0_i32_606 c64_i32_607
  let c1_i32_608 : BitVec 32 := 1#32
  ⟨c0_i32_606, v1583, c1_i32_608⟩
def k0_mult5 (k0_t5 : Fin k0_t5_loop.trips) : BitVec 32 :=
  let c0_i32_606 : BitVec 32 := 0#32
  let c1_i32_608 : BitVec 32 := 1#32
  let arg23 : BitVec 32 := Scf.iv c0_i32_606 c1_i32_608 k0_t5
  let c128_i32_677 : BitVec 32 := 128#32
  let v1705 : BitVec 32 := Scalar.muli arg23 c128_i32_677
  v1705
def k0_off12 (k0_t5 : Fin k0_t5_loop.trips) : Fin 4 → Nat :=
  let c4 : Index := 4#32
  let c0_678 : Index := 0#32
  let c0_679 : Index := 0#32
  let c0_i32_606 : BitVec 32 := 0#32
  let c1_i32_608 : BitVec 32 := 1#32
  let arg23 : BitVec 32 := Scf.iv c0_i32_606 c1_i32_608 k0_t5
  let c128_i32_677 : BitVec 32 := 128#32
  let v1705 : BitVec 32 := Scalar.muli arg23 c128_i32_677
  let v1706 : BitVec 32 := v1705
  let v1707 : Index := Scalar.indexCast v1706
  ![4, 0, 0, v1707.toNat]
@[reducible] def k0_t6_loop : Scf.Loop 32 :=
  let c0_i32_625 : BitVec 32 := 0#32
  let c64_i32_626 : BitVec 32 := 64#32
  let v1617 : BitVec 32 := Scalar.addi c0_i32_625 c64_i32_626
  let c1_i32_627 : BitVec 32 := 1#32
  ⟨c0_i32_625, v1617, c1_i32_627⟩
def k0_mult6 (k0_t6 : Fin k0_t6_loop.trips) : BitVec 32 :=
  let c0_i32_625 : BitVec 32 := 0#32
  let c1_i32_627 : BitVec 32 := 1#32
  let arg23 : BitVec 32 := Scf.iv c0_i32_625 c1_i32_627 k0_t6
  let c128_i32_677 : BitVec 32 := 128#32
  let v1705 : BitVec 32 := Scalar.muli arg23 c128_i32_677
  v1705
def k0_off13 (k0_t6 : Fin k0_t6_loop.trips) : Fin 4 → Nat :=
  let c5 : Index := 5#32
  let c0_678 : Index := 0#32
  let c0_679 : Index := 0#32
  let c0_i32_625 : BitVec 32 := 0#32
  let c1_i32_627 : BitVec 32 := 1#32
  let arg23 : BitVec 32 := Scf.iv c0_i32_625 c1_i32_627 k0_t6
  let c128_i32_677 : BitVec 32 := 128#32
  let v1705 : BitVec 32 := Scalar.muli arg23 c128_i32_677
  let v1706 : BitVec 32 := v1705
  let v1707 : Index := Scalar.indexCast v1706
  ![5, 0, 0, v1707.toNat]
@[reducible] def k0_t7_loop : Scf.Loop 32 :=
  let c0_i32_644 : BitVec 32 := 0#32
  let c64_i32_645 : BitVec 32 := 64#32
  let v1651 : BitVec 32 := Scalar.addi c0_i32_644 c64_i32_645
  let c1_i32_646 : BitVec 32 := 1#32
  ⟨c0_i32_644, v1651, c1_i32_646⟩
def k0_mult7 (k0_t7 : Fin k0_t7_loop.trips) : BitVec 32 :=
  let c0_i32_644 : BitVec 32 := 0#32
  let c1_i32_646 : BitVec 32 := 1#32
  let arg23 : BitVec 32 := Scf.iv c0_i32_644 c1_i32_646 k0_t7
  let c128_i32_677 : BitVec 32 := 128#32
  let v1705 : BitVec 32 := Scalar.muli arg23 c128_i32_677
  v1705
def k0_off14 (k0_t7 : Fin k0_t7_loop.trips) : Fin 4 → Nat :=
  let c6 : Index := 6#32
  let c0_678 : Index := 0#32
  let c0_679 : Index := 0#32
  let c0_i32_644 : BitVec 32 := 0#32
  let c1_i32_646 : BitVec 32 := 1#32
  let arg23 : BitVec 32 := Scf.iv c0_i32_644 c1_i32_646 k0_t7
  let c128_i32_677 : BitVec 32 := 128#32
  let v1705 : BitVec 32 := Scalar.muli arg23 c128_i32_677
  let v1706 : BitVec 32 := v1705
  let v1707 : Index := Scalar.indexCast v1706
  ![6, 0, 0, v1707.toNat]
@[reducible] def k0_t8_loop : Scf.Loop 32 :=
  let c0_i32_663 : BitVec 32 := 0#32
  let c64_i32_664 : BitVec 32 := 64#32
  let v1685 : BitVec 32 := Scalar.addi c0_i32_663 c64_i32_664
  let c1_i32_665 : BitVec 32 := 1#32
  ⟨c0_i32_663, v1685, c1_i32_665⟩
def k0_mult8 (k0_t8 : Fin k0_t8_loop.trips) : BitVec 32 :=
  let c0_i32_663 : BitVec 32 := 0#32
  let c1_i32_665 : BitVec 32 := 1#32
  let arg23 : BitVec 32 := Scf.iv c0_i32_663 c1_i32_665 k0_t8
  let c128_i32_677 : BitVec 32 := 128#32
  let v1705 : BitVec 32 := Scalar.muli arg23 c128_i32_677
  v1705
def k0_off15 (k0_t8 : Fin k0_t8_loop.trips) : Fin 4 → Nat :=
  let c7 : Index := 7#32
  let c0_678 : Index := 0#32
  let c0_679 : Index := 0#32
  let c0_i32_663 : BitVec 32 := 0#32
  let c1_i32_665 : BitVec 32 := 1#32
  let arg23 : BitVec 32 := Scf.iv c0_i32_663 c1_i32_665 k0_t8
  let c128_i32_677 : BitVec 32 := 128#32
  let v1705 : BitVec 32 := Scalar.muli arg23 c128_i32_677
  let v1706 : BitVec 32 := v1705
  let v1707 : Index := Scalar.indexCast v1706
  ![7, 0, 0, v1707.toNat]
def k0_off16 (i : grid0.Coords) : Fin 3 → Nat :=
  let c0_130 : Index := 0#32
  let arg0 : BitVec 32 := BitVec.ofNat 32 (i 0).val
  let c8_i32 : BitVec 32 := 8#32
  let v0 : BitVec 32 := Scalar.muli arg0 c8_i32
  let v296 : Index := Scalar.indexCast v0
  let c0_131 : Index := 0#32
  ![0, v296.toNat, 0]
def k0_off17 (i : grid0.Coords) (c0_i32_143 : BitVec 32) : Fin 3 → Nat :=
  let c0_145 : Index := 0#32
  let arg0 : BitVec 32 := BitVec.ofNat 32 (i 0).val
  let c8_i32 : BitVec 32 := 8#32
  let v0 : BitVec 32 := Scalar.muli arg0 c8_i32
  let v335 : BitVec 32 := Scalar.addi v0 c0_i32_143
  let c8_i32_144 : BitVec 32 := 8#32
  let v336 : BitVec 32 := Scalar.muli v335 c8_i32_144
  let v337 : Index := Scalar.indexCast v336
  let c0_146 : Index := 0#32
  ![0, v337.toNat, 0]
def k0_off18 (i : grid0.Coords) (c0_i32_143 : BitVec 32) : Fin 3 → Nat :=
  let c1 : Index := 1#32
  let arg0 : BitVec 32 := BitVec.ofNat 32 (i 0).val
  let c8_i32 : BitVec 32 := 8#32
  let v0 : BitVec 32 := Scalar.muli arg0 c8_i32
  let v335 : BitVec 32 := Scalar.addi v0 c0_i32_143
  let c8_i32_144 : BitVec 32 := 8#32
  let v336 : BitVec 32 := Scalar.muli v335 c8_i32_144
  let v340 : Index := Scalar.indexCast v336
  let c0_147 : Index := 0#32
  ![1, v340.toNat, 0]
def k0_off19 (i : grid0.Coords) (c0_i32_157 : BitVec 32) : Fin 2 → Nat :=
  let arg0 : BitVec 32 := BitVec.ofNat 32 (i 0).val
  let c8_i32 : BitVec 32 := 8#32
  let v0 : BitVec 32 := Scalar.muli arg0 c8_i32
  let v374 : BitVec 32 := Scalar.addi v0 c0_i32_157
  let v375 : Index := Scalar.indexCast v374
  let c0_158 : Index := 0#32
  ![v375.toNat, 0]
def k0_off20 (i : grid0.Coords) (c0_i32_166 : BitVec 32) : Fin 2 → Nat :=
  let arg0 : BitVec 32 := BitVec.ofNat 32 (i 0).val
  let c8_i32 : BitVec 32 := 8#32
  let v0 : BitVec 32 := Scalar.muli arg0 c8_i32
  let v406 : BitVec 32 := Scalar.addi v0 c0_i32_166
  let v407 : Index := Scalar.indexCast v406
  let c0_167 : Index := 0#32
  ![v407.toNat, 0]
def k0_off21 (i : grid0.Coords) (c0_i32_186 : BitVec 32) : Fin 2 → Nat :=
  let arg0 : BitVec 32 := BitVec.ofNat 32 (i 0).val
  let c8_i32 : BitVec 32 := 8#32
  let v0 : BitVec 32 := Scalar.muli arg0 c8_i32
  let v465 : BitVec 32 := Scalar.addi v0 c0_i32_186
  let c8_i32_187 : BitVec 32 := 8#32
  let v466 : BitVec 32 := Scalar.muli v465 c8_i32_187
  let v467 : Index := Scalar.indexCast v466
  let c0_188 : Index := 0#32
  ![v467.toNat, 0]
def k0_cond3 (i : grid0.Coords) : BitVec 1 :=
  let arg0 : BitVec 32 := BitVec.ofNat 32 (i 0).val
  let c15_i32 : BitVec 32 := 15#32
  let v1430 : BitVec 1 := Scalar.cmpi .eq arg0 c15_i32
  let v1431 : BitVec 32 := Scalar.extui v1430
  let c0_i32_525 : BitVec 32 := 0#32
  let v1432 : BitVec 1 := Scalar.cmpi .ne v1431 c0_i32_525
  v1432

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_8 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_14 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

abbrev stage0_0 : Fin 1 → Memref sig .tc .vmem S128x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1x32x8192 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x32x8192 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x1x32x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x1x32x128 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x192x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceBIdeal.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x2048 : Shape := ⟨2, ![128, 2048]⟩
abbrev S192x4x32x128 : Shape := ⟨4, ![192, 4, 32, 128]⟩
abbrev S4x192x128 : Shape := ⟨3, ![4, 192, 128]⟩
abbrev S128x192 : Shape := ⟨2, ![128, 192]⟩
abbrev S128x1x192 : Shape := ⟨3, ![128, 1, 192]⟩
abbrev S128x1x32x8192 : Shape := ⟨4, ![128, 1, 32, 8192]⟩
abbrev S128x32x8192 : Shape := ⟨3, ![128, 32, 8192]⟩
abbrev S_ : Shape := ⟨0, ![]⟩
abbrev S128x192x1 : Shape := ⟨3, ![128, 192, 1]⟩
abbrev S128x32x192 : Shape := ⟨3, ![128, 32, 192]⟩
abbrev S1x1024x64 : Shape := ⟨3, ![1, 1024, 64]⟩
abbrev S1024x64 : Shape := ⟨2, ![1024, 64]⟩
abbrev S128x8x64 : Shape := ⟨3, ![128, 8, 64]⟩
abbrev S128x8x32 : Shape := ⟨3, ![128, 8, 32]⟩
abbrev S128x8x192 : Shape := ⟨3, ![128, 8, 192]⟩
abbrev S1x128x64 : Shape := ⟨3, ![1, 128, 64]⟩
abbrev S128x64 : Shape := ⟨2, ![128, 64]⟩
abbrev S128x8 : Shape := ⟨2, ![128, 8]⟩
abbrev S128x8x1 : Shape := ⟨3, ![128, 8, 1]⟩
abbrev S128x8x193 : Shape := ⟨3, ![128, 8, 193]⟩
abbrev S128x1x64 : Shape := ⟨3, ![128, 1, 64]⟩
abbrev S128x8x32x1 : Shape := ⟨4, ![128, 8, 32, 1]⟩
abbrev S128x8x32x2 : Shape := ⟨4, ![128, 8, 32, 2]⟩
abbrev S128x1x8x64 : Shape := ⟨4, ![128, 1, 8, 64]⟩
abbrev S128x4x8x64 : Shape := ⟨4, ![128, 4, 8, 64]⟩
abbrev S192x32x128 : Shape := ⟨3, ![192, 32, 128]⟩
abbrev S192x1x32x128 : Shape := ⟨4, ![192, 1, 32, 128]⟩
abbrev S192x128 : Shape := ⟨2, ![192, 128]⟩
abbrev S1x192x128 : Shape := ⟨3, ![1, 192, 128]⟩

abbrev nBuf : Space → Nat
  | .hbm => 157
  | .vmem => 0
  | .smem => 0
  | _ => 0

abbrev hbmTy0_0 (i : Nat) : BufTy := match i % 128 with
  | 0 => ⟨S32x16, .i32⟩
  | 1 => ⟨S128x256, .i32⟩
  | 2 => ⟨S128x256, .f32⟩
  | 3 => ⟨S128x256, .f32⟩
  | 4 => ⟨S128x256, .f32⟩
  | 5 => ⟨S4x1024x64, .bf16⟩
  | 6 => ⟨S4x128x64, .bf16⟩
  | 7 => ⟨S4x128x64, .bf16⟩
  | 8 => ⟨S128x4x32x8192, .i8⟩
  | 9 => ⟨S128x4x32x8192, .i8⟩
  | 10 => ⟨S128x2048, .bf16⟩
  | 11 => ⟨S192x4x32x128, .i8⟩
  | 12 => ⟨S192x4x32x128, .i8⟩
  | 13 => ⟨S4x192x128, .f32⟩
  | 14 => ⟨S128x192, .i32⟩
  | 15 => ⟨S128x1x192, .i32⟩
  | 16 => ⟨S128x1x32x8192, .i8⟩
  | 17 => ⟨S128x32x8192, .i8⟩
  | 18 => ⟨S_, .i32⟩
  | 19 => ⟨S128x1x192, .i32⟩
  | 20 => ⟨S128x1x192, .i1⟩
  | 21 => ⟨S_, .i32⟩
  | 22 => ⟨S128x1x192, .i32⟩
  | 23 => ⟨S128x1x192, .i32⟩
  | 24 => ⟨S128x1x192, .i32⟩
  | 25 => ⟨S128x192x1, .i32⟩
  | 26 => ⟨S128x32x192, .i8⟩
  | 27 => ⟨S128x1x32x8192, .i8⟩
  | 28 => ⟨S128x32x8192, .i8⟩
  | 29 => ⟨S_, .i32⟩
  | 30 => ⟨S128x1x192, .i32⟩
  | 31 => ⟨S128x1x192, .i1⟩
  | 32 => ⟨S_, .i32⟩
  | 33 => ⟨S128x1x192, .i32⟩
  | 34 => ⟨S128x1x192, .i32⟩
  | 35 => ⟨S128x1x192, .i32⟩
  | 36 => ⟨S128x192x1, .i32⟩
  | 37 => ⟨S128x32x192, .i8⟩
  | 38 => ⟨S1x1024x64, .bf16⟩
  | 39 => ⟨S1024x64, .bf16⟩
  | 40 => ⟨S128x8x64, .bf16⟩
  | 41 => ⟨S128x32x192, .i32⟩
  | 42 => ⟨S_, .i32⟩
  | 43 => ⟨S128x32x192, .i32⟩
  | 44 => ⟨S128x32x192, .i32⟩
  | 45 => ⟨S_, .i32⟩
  | 46 => ⟨S128x32x192, .i32⟩
  | 47 => ⟨S128x32x192, .i32⟩
  | 48 => ⟨S_, .i32⟩
  | 49 => ⟨S128x32x192, .i32⟩
  | 50 => ⟨S128x32x192, .i32⟩
  | 51 => ⟨S_, .i32⟩
  | 52 => ⟨S128x32x192, .i32⟩
  | 53 => ⟨S128x32x192, .i32⟩
  | 54 => ⟨S_, .i32⟩
  | 55 => ⟨S128x32x192, .i32⟩
  | 56 => ⟨S128x32x192, .i32⟩
  | 57 => ⟨S_, .i32⟩
  | 58 => ⟨S128x32x192, .i32⟩
  | 59 => ⟨S128x32x192, .i32⟩
  | 60 => ⟨S128x32x192, .bf16⟩
  | 61 => ⟨S128x32x192, .bf16⟩
  | 62 => ⟨S128x8x32, .bf16⟩
  | 63 => ⟨S128x8x192, .f32⟩
  | 64 => ⟨S128x8x32, .bf16⟩
  | 65 => ⟨S128x8x192, .f32⟩
  | 66 => ⟨S128x8x192, .f32⟩
  | 67 => ⟨S128x192, .f32⟩
  | 68 => ⟨S128x1x192, .f32⟩
  | 69 => ⟨S_, .f32⟩
  | 70 => ⟨S128x1x192, .f32⟩
  | 71 => ⟨S128x1x192, .f32⟩
  | 72 => ⟨S128x8x192, .f32⟩
  | 73 => ⟨S128x8x192, .f32⟩
  | 74 => ⟨S1x128x64, .bf16⟩
  | 75 => ⟨S128x64, .bf16⟩
  | 76 => ⟨S128x8, .f32⟩
  | 77 => ⟨S128x8x1, .f32⟩
  | 78 => ⟨S_, .f32⟩
  | 79 => ⟨S128x8x1, .f32⟩
  | 80 => ⟨S128x8x1, .f32⟩
  | 81 => ⟨S128x8x193, .f32⟩
  | 82 => ⟨S_, .f32⟩
  | 83 => ⟨S128x8, .f32⟩
  | 84 => ⟨S_, .f32⟩
  | 85 => ⟨S128x8, .f32⟩
  | 86 => ⟨S128x8, .f32⟩
  | 87 => ⟨S128x8x1, .f32⟩
  | 88 => ⟨S128x8x193, .f32⟩
  | 89 => ⟨S128x8x193, .f32⟩
  | 90 => ⟨S128x8x193, .f32⟩
  | 91 => ⟨S_, .f32⟩
  | 92 => ⟨S128x8, .f32⟩
  | 93 => ⟨S128x8x1, .f32⟩
  | 94 => ⟨S128x8x193, .f32⟩
  | 95 => ⟨S128x8x193, .f32⟩
  | 96 => ⟨S128x8x192, .f32⟩
  | 97 => ⟨S128x8x1, .f32⟩
  | 98 => ⟨S128x192, .f32⟩
  | 99 => ⟨S128x1x192, .f32⟩
  | 100 => ⟨S128x8x192, .f32⟩
  | 101 => ⟨S128x8x192, .f32⟩
  | 102 => ⟨S128x8x192, .bf16⟩
  | 103 => ⟨S128x32x192, .i32⟩
  | 104 => ⟨S_, .i32⟩
  | 105 => ⟨S128x32x192, .i32⟩
  | 106 => ⟨S128x32x192, .i32⟩
  | 107 => ⟨S_, .i32⟩
  | 108 => ⟨S128x32x192, .i32⟩
  | 109 => ⟨S128x32x192, .i32⟩
  | 110 => ⟨S_, .i32⟩
  | 111 => ⟨S128x32x192, .i32⟩
  | 112 => ⟨S128x32x192, .i32⟩
  | 113 => ⟨S_, .i32⟩
  | 114 => ⟨S128x32x192, .i32⟩
  | 115 => ⟨S128x32x192, .i32⟩
  | 116 => ⟨S_, .i32⟩
  | 117 => ⟨S128x32x192, .i32⟩
  | 118 => ⟨S128x32x192, .i32⟩
  | 119 => ⟨S_, .i32⟩
  | 120 => ⟨S128x32x192, .i32⟩
  | 121 => ⟨S128x32x192, .i32⟩
  | 122 => ⟨S128x32x192, .bf16⟩
  | 123 => ⟨S128x32x192, .bf16⟩
  | 124 => ⟨S128x8x32, .f32⟩
  | 125 => ⟨S128x8x32, .f32⟩
  | 126 => ⟨S128x8x1, .bf16⟩
  | 127 => ⟨S128x8x1, .f32⟩
  | _ => ⟨S32x16, .i32⟩

abbrev hbmTy0_1 (i : Nat) : BufTy := match i % 128 with
  | 0 => ⟨S1x128x64, .bf16⟩
  | 1 => ⟨S128x64, .bf16⟩
  | 2 => ⟨S128x1x64, .bf16⟩
  | 3 => ⟨S128x1x64, .f32⟩
  | 4 => ⟨S128x8x64, .f32⟩
  | 5 => ⟨S128x8x64, .f32⟩
  | 6 => ⟨S128x8x64, .f32⟩
  | 7 => ⟨S128x8x32x1, .f32⟩
  | 8 => ⟨S128x8x32x1, .f32⟩
  | 9 => ⟨S128x8x32x2, .f32⟩
  | 10 => ⟨S128x8x64, .f32⟩
  | 11 => ⟨S128x8x64, .f32⟩
  | 12 => ⟨S128x8x64, .bf16⟩
  | 13 => ⟨S128x192, .f32⟩
  | 14 => ⟨S_, .f32⟩
  | 15 => ⟨S128x192, .f32⟩
  | 16 => ⟨S128x192, .f32⟩
  | 17 => ⟨S128x1x8x64, .bf16⟩
  | 18 => ⟨S128x4x8x64, .bf16⟩
  | 19 => ⟨S128x2048, .bf16⟩
  | 20 => ⟨S192x32x128, .i8⟩
  | 21 => ⟨S192x1x32x128, .i8⟩
  | 22 => ⟨S192x4x32x128, .i8⟩
  | 23 => ⟨S192x32x128, .i8⟩
  | 24 => ⟨S192x1x32x128, .i8⟩
  | 25 => ⟨S192x4x32x128, .i8⟩
  | 26 => ⟨S192x128, .f32⟩
  | 27 => ⟨S1x192x128, .f32⟩
  | 28 => ⟨S4x192x128, .f32⟩
  | _ => ⟨S32x16, .i32⟩

abbrev hbmTy (i : Nat) : BufTy := match i / 128 with
  | 0 => hbmTy0_0 i
  | 1 => hbmTy0_1 i
  | _ => ⟨S32x16, .i32⟩

abbrev bufTy : (tb : Table) → Fin (tcTables nBuf tb) → BufTy
  | .hbm, ⟨i, _⟩ => hbmTy i
  | _, _ => ⟨S32x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_c : Ref sig .tc := ⟨.hbm, 42, rfl⟩
abbrev main_v12 : Ref sig .tc := ⟨.hbm, 43, rfl⟩
abbrev main_v13 : Ref sig .tc := ⟨.hbm, 44, rfl⟩
abbrev main_c_0 : Ref sig .tc := ⟨.hbm, 45, rfl⟩
abbrev main_v14 : Ref sig .tc := ⟨.hbm, 46, rfl⟩
abbrev main_v15 : Ref sig .tc := ⟨.hbm, 47, rfl⟩
abbrev main_c_1 : Ref sig .tc := ⟨.hbm, 48, rfl⟩
abbrev main_v16 : Ref sig .tc := ⟨.hbm, 49, rfl⟩
abbrev main_v17 : Ref sig .tc := ⟨.hbm, 50, rfl⟩
abbrev main_c_2 : Ref sig .tc := ⟨.hbm, 51, rfl⟩
abbrev main_v18 : Ref sig .tc := ⟨.hbm, 52, rfl⟩
abbrev main_v19 : Ref sig .tc := ⟨.hbm, 53, rfl⟩
abbrev main_c_3 : Ref sig .tc := ⟨.hbm, 54, rfl⟩
abbrev main_v20 : Ref sig .tc := ⟨.hbm, 55, rfl⟩
abbrev main_v21 : Ref sig .tc := ⟨.hbm, 56, rfl⟩
abbrev main_c_4 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_5 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_6 : Ref sig .tc := ⟨.hbm, 82, rfl⟩
abbrev main_v44 : Ref sig .tc := ⟨.hbm, 83, rfl⟩
abbrev main_cst_7 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_8 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_9 : Ref sig .tc := ⟨.hbm, 104, rfl⟩
abbrev main_v63 : Ref sig .tc := ⟨.hbm, 105, rfl⟩
abbrev main_v64 : Ref sig .tc := ⟨.hbm, 106, rfl⟩
abbrev main_c_10 : Ref sig .tc := ⟨.hbm, 107, rfl⟩
abbrev main_v65 : Ref sig .tc := ⟨.hbm, 108, rfl⟩
abbrev main_v66 : Ref sig .tc := ⟨.hbm, 109, rfl⟩
abbrev main_c_11 : Ref sig .tc := ⟨.hbm, 110, rfl⟩
abbrev main_v67 : Ref sig .tc := ⟨.hbm, 111, rfl⟩
abbrev main_v68 : Ref sig .tc := ⟨.hbm, 112, rfl⟩
abbrev main_c_12 : Ref sig .tc := ⟨.hbm, 113, rfl⟩
abbrev main_v69 : Ref sig .tc := ⟨.hbm, 114, rfl⟩
abbrev main_v70 : Ref sig .tc := ⟨.hbm, 115, rfl⟩
abbrev main_c_13 : Ref sig .tc := ⟨.hbm, 116, rfl⟩
abbrev main_v71 : Ref sig .tc := ⟨.hbm, 117, rfl⟩
abbrev main_v72 : Ref sig .tc := ⟨.hbm, 118, rfl⟩
abbrev main_c_14 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_15 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩

abbrev nD : Nat := 1
abbrev τ : Topo := Topo.v7x

variable {F : FTy → Type} [FloatOps F]
-- ==== KernelC.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x2048 : Shape := ⟨2, ![128, 2048]⟩
abbrev S192x4x32x128 : Shape := ⟨4, ![192, 4, 32, 128]⟩
abbrev S4x192x128 : Shape := ⟨3, ![4, 192, 128]⟩
abbrev S1x64x64 : Shape := ⟨3, ![1, 64, 64]⟩
abbrev S1x128x64 : Shape := ⟨3, ![1, 128, 64]⟩
abbrev S8x1x32x8192 : Shape := ⟨4, ![8, 1, 32, 8192]⟩
abbrev S128x512 : Shape := ⟨2, ![128, 512]⟩
abbrev S192x1x32x128 : Shape := ⟨4, ![192, 1, 32, 128]⟩
abbrev S1x192x128 : Shape := ⟨3, ![1, 192, 128]⟩
abbrev S2x1024x128 : Shape := ⟨3, ![2, 1024, 128]⟩
abbrev S1024x128 : Shape := ⟨2, ![1024, 128]⟩
abbrev S8x128 : Shape := ⟨2, ![8, 128]⟩
abbrev S1x1 : Shape := ⟨2, ![1, 1]⟩
abbrev S1x256 : Shape := ⟨2, ![1, 256]⟩
abbrev S8x256 : Shape := ⟨2, ![8, 256]⟩
abbrev S1x1x32x128 : Shape := ⟨4, ![1, 1, 32, 128]⟩
abbrev S32x128 : Shape := ⟨2, ![32, 128]⟩
abbrev S8x128x1 : Shape := ⟨3, ![8, 128, 1]⟩
abbrev S1x8x128 : Shape := ⟨3, ![1, 8, 128]⟩
abbrev S64x64 : Shape := ⟨2, ![64, 64]⟩
abbrev S1x8x64 : Shape := ⟨3, ![1, 8, 64]⟩
abbrev S8x64 : Shape := ⟨2, ![8, 64]⟩
abbrev S64x8 : Shape := ⟨2, ![64, 8]⟩
abbrev S64 : Shape := ⟨1, ![64]⟩
abbrev S64x1 : Shape := ⟨2, ![64, 1]⟩
abbrev S8x192 : Shape := ⟨2, ![8, 192]⟩
abbrev S64x192 : Shape := ⟨2, ![64, 192]⟩
abbrev S8x1x192 : Shape := ⟨3, ![8, 1, 192]⟩
abbrev S8x8x192 : Shape := ⟨3, ![8, 8, 192]⟩
abbrev S1x192 : Shape := ⟨2, ![1, 192]⟩
abbrev S8x1 : Shape := ⟨2, ![8, 1]⟩
abbrev S8 : Shape := ⟨1, ![8]⟩
abbrev S192 : Shape := ⟨1, ![192]⟩
abbrev S1x64 : Shape := ⟨2, ![1, 64]⟩
abbrev S1x128x128 : Shape := ⟨3, ![1, 128, 128]⟩
abbrev S128x128 : Shape := ⟨2, ![128, 128]⟩
abbrev S512x128 : Shape := ⟨2, ![512, 128]⟩
abbrev S128x4x128 : Shape := ⟨3, ![128, 4, 128]⟩
abbrev S128x1x4x128 : Shape := ⟨4, ![128, 1, 4, 128]⟩
abbrev S64x128 : Shape := ⟨2, ![64, 128]⟩
abbrev S256x128 : Shape := ⟨2, ![256, 128]⟩
abbrev S64x4x128 : Shape := ⟨3, ![64, 4, 128]⟩
abbrev S64x1x4x128 : Shape := ⟨4, ![64, 1, 4, 128]⟩
abbrev S192x128 : Shape := ⟨2, ![192, 128]⟩
abbrev S128x64 : Shape := ⟨2, ![128, 64]⟩

abbrev nBuf : Space → Nat
  | .hbm => 17
  | .vmem => 20
  | .smem => 1
  | _ => 0

abbrev bufTy : (tb : Table) → Fin (tcTables nBuf tb) → BufTy
  | .hbm, ⟨0, _⟩ => ⟨S128x256, .i32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S4x1024x64, .bf16⟩
  | .hbm, ⟨5, _⟩ => ⟨S4x128x64, .bf16⟩
  | .hbm, ⟨6, _⟩ => ⟨S4x128x64, .bf16⟩
  | .hbm, ⟨7, _⟩ => ⟨S128x4x32x8192, .i8⟩
  | .hbm, ⟨8, _⟩ => ⟨S128x4x32x8192, .i8⟩
  | .hbm, ⟨9, _⟩ => ⟨S128x2048, .bf16⟩
  | .hbm, ⟨10, _⟩ => ⟨S192x4x32x128, .i8⟩
  | .hbm, ⟨11, _⟩ => ⟨S192x4x32x128, .i8⟩
  | .hbm, ⟨12, _⟩ => ⟨S4x192x128, .f32⟩
  | .hbm, ⟨13, _⟩ => ⟨S128x2048, .bf16⟩
  | .hbm, ⟨14, _⟩ => ⟨S192x4x32x128, .i8⟩
  | .hbm, ⟨15, _⟩ => ⟨S192x4x32x128, .i8⟩
  | .hbm, ⟨16, _⟩ => ⟨S4x192x128, .f32⟩
  | .local _ .vmem, ⟨0, _⟩ => ⟨S128x256, .i32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S1x64x64, .bf16⟩
  | .local _ .vmem, ⟨5, _⟩ => ⟨S1x64x64, .bf16⟩
  | .local _ .vmem, ⟨6, _⟩ => ⟨S1x128x64, .bf16⟩
  | .local _ .vmem, ⟨7, _⟩ => ⟨S1x128x64, .bf16⟩
  | .local _ .vmem, ⟨8, _⟩ => ⟨S8x1x32x8192, .i8⟩
  | .local _ .vmem, ⟨9, _⟩ => ⟨S8x1x32x8192, .i8⟩
  | .local _ .vmem, ⟨10, _⟩ => ⟨S8x1x32x8192, .i8⟩
  | .local _ .vmem, ⟨11, _⟩ => ⟨S8x1x32x8192, .i8⟩
  | .local _ .vmem, ⟨12, _⟩ => ⟨S128x512, .bf16⟩
  | .local _ .vmem, ⟨13, _⟩ => ⟨S192x1x32x128, .i8⟩
  | .local _ .vmem, ⟨14, _⟩ => ⟨S192x1x32x128, .i8⟩
  | .local _ .vmem, ⟨15, _⟩ => ⟨S1x192x128, .f32⟩
  | .local _ .vmem, ⟨16, _⟩ => ⟨S2x1024x128, .i32⟩
  | .local _ .vmem, ⟨17, _⟩ => ⟨S2x1024x128, .i32⟩
  | .local _ .vmem, ⟨18, _⟩ => ⟨S1024x128, .f32⟩
  | .local _ .vmem, ⟨19, _⟩ => ⟨S128x256, .f32⟩
  | .local _ .smem, ⟨0, _⟩ => ⟨S32x16, .i32⟩
  | _, _ => ⟨S128x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) (c0_i32_5 : BitVec 32) : Fin 2 → Nat :=
  let arg0 : BitVec 32 := BitVec.ofNat 32 (i 0).val
  let c8_i32 : BitVec 32 := 8#32
  let v0 : BitVec 32 := Scalar.muli arg0 c8_i32
  let v2 : BitVec 32 := Scalar.addi v0 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32 : BitVec 32 := 4#32
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v31 : Index := Scalar.indexCast v19
  let v20 : BitVec 32 := Scalar.addi v0 c0_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v20 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v32 : Index := Scalar.indexCast v30
  ![v31.toNat, v32.toNat]
def k0_off1_at (r : Fin 8) : BitVec 32 × BitVec 32 :=
  if r.val < 4 then
    if r.val < 2 then
      if r.val < 1 then
        (0#32, 0#32)
      else
        (1#32, 1#32)
    else
      if r.val < 3 then
        (2#32, 2#32)
      else
        (3#32, 3#32)
  else
    if r.val < 6 then
      if r.val < 5 then
        (4#32, 4#32)
      else
        (5#32, 5#32)
    else
      if r.val < 7 then
        (6#32, 6#32)
      else
        (7#32, 7#32)
def k0_off2 (i : grid0.Coords) (c0_i32_526 : BitVec 32) : Fin 2 → Nat :=
  let arg0 : BitVec 32 := BitVec.ofNat 32 (i 0).val
  let c8_i32 : BitVec 32 := 8#32
  let v0 : BitVec 32 := Scalar.muli arg0 c8_i32
  let v1433 : BitVec 32 := Scalar.addi v0 c0_i32_526
  let v1434 : Index := Scalar.indexCast v1433
  let c0_527 : Index := 0#32
  ![v1434.toNat, 0]
def k0_off3 (i : grid0.Coords) (c0_i32_1246 : BitVec 32) : Fin 3 → Nat :=
  let c0_1248 : Index := 0#32
  let arg0 : BitVec 32 := BitVec.ofNat 32 (i 0).val
  let c8_i32 : BitVec 32 := 8#32
  let v0 : BitVec 32 := Scalar.muli arg0 c8_i32
  let v3117 : BitVec 32 := Scalar.addi v0 c0_i32_1246
  let c8_i32_1247 : BitVec 32 := 8#32
  let v3118 : BitVec 32 := Scalar.muli v3117 c8_i32_1247
  let v3119 : Index := Scalar.indexCast v3118
  let c0_1249 : Index := 0#32
  ![0, v3119.toNat, 0]
def k0_off4 (i : grid0.Coords) (c0_i32_1246 : BitVec 32) : Fin 3 → Nat :=
  let c1_1250 : Index := 1#32
  let arg0 : BitVec 32 := BitVec.ofNat 32 (i 0).val
  let c8_i32 : BitVec 32 := 8#32
  let v0 : BitVec 32 := Scalar.muli arg0 c8_i32
  let v3117 : BitVec 32 := Scalar.addi v0 c0_i32_1246
  let c8_i32_1247 : BitVec 32 := 8#32
  let v3118 : BitVec 32 := Scalar.muli v3117 c8_i32_1247
  let v3123 : Index := Scalar.indexCast v3118
  let c0_1251 : Index := 0#32
  ![1, v3123.toNat, 0]
def k0_off5 (i : grid0.Coords) (c0_i32_526 : BitVec 32) : Fin 2 → Nat :=
  let arg0 : BitVec 32 := BitVec.ofNat 32 (i 0).val
  let c8_i32 : BitVec 32 := 8#32
  let v0 : BitVec 32 := Scalar.muli arg0 c8_i32
  let v1433 : BitVec 32 := Scalar.addi v0 c0_i32_526
  let v1434 : Index := Scalar.indexCast v1433
  let c0_527 : Index := 0#32
  ![v1434.toNat, 0]
@[reducible] def k0_t1_loop : Scf.Loop 32 :=
  let c0_i32_530 : BitVec 32 := 0#32
  let c64_i32_531 : BitVec 32 := 64#32
  let v1447 : BitVec 32 := Scalar.addi c0_i32_530 c64_i32_531
  let c1_i32_532 : BitVec 32 := 1#32
  ⟨c0_i32_530, v1447, c1_i32_532⟩
def k0_mult1 (k0_t1 : Fin k0_t1_loop.trips) : BitVec 32 :=
  let c0_i32_530 : BitVec 32 := 0#32
  let c1_i32_532 : BitVec 32 := 1#32
  let arg23 : BitVec 32 := Scf.iv c0_i32_530 c1_i32_532 k0_t1
  let c128_i32_677 : BitVec 32 := 128#32
  let v1705 : BitVec 32 := Scalar.muli arg23 c128_i32_677
  v1705
def k0_off6 (k0_t1 : Fin k0_t1_loop.trips) : Fin 4 → Nat :=
  let c0_678 : Index := 0#32
  let c0_679 : Index := 0#32
  let c0_680 : Index := 0#32
  let c0_i32_530 : BitVec 32 := 0#32
  let c1_i32_532 : BitVec 32 := 1#32
  let arg23 : BitVec 32 := Scf.iv c0_i32_530 c1_i32_532 k0_t1
  let c128_i32_677 : BitVec 32 := 128#32
  let v1705 : BitVec 32 := Scalar.muli arg23 c128_i32_677
  let v1706 : BitVec 32 := v1705
  let v1707 : Index := Scalar.indexCast v1706
  ![0, 0, 0, v1707.toNat]
def k0_off7 (i : grid0.Coords) (c0_i32_534 : BitVec 32) : Fin 3 → Nat :=
  let c0_536 : Index := 0#32
  let arg0 : BitVec 32 := BitVec.ofNat 32 (i 0).val
  let c8_i32 : BitVec 32 := 8#32
  let v0 : BitVec 32 := Scalar.muli arg0 c8_i32
  let v1449 : BitVec 32 := Scalar.addi v0 c0_i32_534
  let c8_i32_535 : BitVec 32 := 8#32
  let v1450 : BitVec 32 := Scalar.muli v1449 c8_i32_535
  let v1451 : Index := Scalar.indexCast v1450
  let c0_537 : Index := 0#32
  ![0, v1451.toNat, 0]
def k0_off8 (i : grid0.Coords) (c0_i32_534 : BitVec 32) : Fin 3 → Nat :=
  let c1_538 : Index := 1#32
  let arg0 : BitVec 32 := BitVec.ofNat 32 (i 0).val
  let c8_i32 : BitVec 32 := 8#32
  let v0 : BitVec 32 := Scalar.muli arg0 c8_i32
  let v1449 : BitVec 32 := Scalar.addi v0 c0_i32_534
  let c8_i32_535 : BitVec 32 := 8#32
  let v1450 : BitVec 32 := Scalar.muli v1449 c8_i32_535
  let v1455 : Index := Scalar.indexCast v1450
  let c0_539 : Index := 0#32
  ![1, v1455.toNat, 0]
@[reducible] def k0_t2_loop : Scf.Loop 32 :=
  let c0_i32_549 : BitVec 32 := 0#32
  let c64_i32_550 : BitVec 32 := 64#32
  let v1481 : BitVec 32 := Scalar.addi c0_i32_549 c64_i32_550
  let c1_i32_551 : BitVec 32 := 1#32
  ⟨c0_i32_549, v1481, c1_i32_551⟩
def k0_mult2 (k0_t2 : Fin k0_t2_loop.trips) : BitVec 32 :=
  let c0_i32_549 : BitVec 32 := 0#32
  let c1_i32_551 : BitVec 32 := 1#32
  let arg23 : BitVec 32 := Scf.iv c0_i32_549 c1_i32_551 k0_t2
  let c128_i32_677 : BitVec 32 := 128#32
  let v1705 : BitVec 32 := Scalar.muli arg23 c128_i32_677
  v1705
def k0_off9 (k0_t2 : Fin k0_t2_loop.trips) : Fin 4 → Nat :=
  let c1_678 : Index := 1#32
  let c0_679 : Index := 0#32
  let c0_680 : Index := 0#32
  let c0_i32_549 : BitVec 32 := 0#32
  let c1_i32_551 : BitVec 32 := 1#32
  let arg23 : BitVec 32 := Scf.iv c0_i32_549 c1_i32_551 k0_t2
  let c128_i32_677 : BitVec 32 := 128#32
  let v1705 : BitVec 32 := Scalar.muli arg23 c128_i32_677
  let v1706 : BitVec 32 := v1705
  let v1707 : Index := Scalar.indexCast v1706
  ![1, 0, 0, v1707.toNat]
@[reducible] def k0_t3_loop : Scf.Loop 32 :=
  let c0_i32_568 : BitVec 32 := 0#32
  let c64_i32_569 : BitVec 32 := 64#32
  let v1515 : BitVec 32 := Scalar.addi c0_i32_568 c64_i32_569
  let c1_i32_570 : BitVec 32 := 1#32
  ⟨c0_i32_568, v1515, c1_i32_570⟩
def k0_mult3 (k0_t3 : Fin k0_t3_loop.trips) : BitVec 32 :=
  let c0_i32_568 : BitVec 32 := 0#32
  let c1_i32_570 : BitVec 32 := 1#32
  let arg23 : BitVec 32 := Scf.iv c0_i32_568 c1_i32_570 k0_t3
  let c128_i32_677 : BitVec 32 := 128#32
  let v1705 : BitVec 32 := Scalar.muli arg23 c128_i32_677
  v1705
def k0_off10 (k0_t3 : Fin k0_t3_loop.trips) : Fin 4 → Nat :=
  let c2 : Index := 2#32
  let c0_678 : Index := 0#32
  let c0_679 : Index := 0#32
  let c0_i32_568 : BitVec 32 := 0#32
  let c1_i32_570 : BitVec 32 := 1#32
  let arg23 : BitVec 32 := Scf.iv c0_i32_568 c1_i32_570 k0_t3
  let c128_i32_677 : BitVec 32 := 128#32
  let v1705 : BitVec 32 := Scalar.muli arg23 c128_i32_677
  let v1706 : BitVec 32 := v1705
  let v1707 : Index := Scalar.indexCast v1706
  ![2, 0, 0, v1707.toNat]
@[reducible] def k0_t4_loop : Scf.Loop 32 :=
  let c0_i32_587 : BitVec 32 := 0#32
  let c64_i32_588 : BitVec 32 := 64#32
  let v1549 : BitVec 32 := Scalar.addi c0_i32_587 c64_i32_588
  let c1_i32_589 : BitVec 32 := 1#32
  ⟨c0_i32_587, v1549, c1_i32_589⟩
def k0_mult4 (k0_t4 : Fin k0_t4_loop.trips) : BitVec 32 :=
  let c0_i32_587 : BitVec 32 := 0#32
  let c1_i32_589 : BitVec 32 := 1#32
  let arg23 : BitVec 32 := Scf.iv c0_i32_587 c1_i32_589 k0_t4
  let c128_i32_677 : BitVec 32 := 128#32
  let v1705 : BitVec 32 := Scalar.muli arg23 c128_i32_677
  v1705
def k0_off11 (k0_t4 : Fin k0_t4_loop.trips) : Fin 4 → Nat :=
  let c3 : Index := 3#32
  let c0_678 : Index := 0#32
  let c0_679 : Index := 0#32
  let c0_i32_587 : BitVec 32 := 0#32
  let c1_i32_589 : BitVec 32 := 1#32
  let arg23 : BitVec 32 := Scf.iv c0_i32_587 c1_i32_589 k0_t4
  let c128_i32_677 : BitVec 32 := 128#32
  let v1705 : BitVec 32 := Scalar.muli arg23 c128_i32_677
  let v1706 : BitVec 32 := v1705
  let v1707 : Index := Scalar.indexCast v1706
  ![3, 0, 0, v1707.toNat]
@[reducible] def k0_t5_loop : Scf.Loop 32 :=
  let c0_i32_606 : BitVec 32 := 0#32
  let c64_i32_607 : BitVec 32 := 64#32
  let v1583 : BitVec 32 := Scalar.addi c0_i32_606 c64_i32_607
  let c1_i32_608 : BitVec 32 := 1#32
  ⟨c0_i32_606, v1583, c1_i32_608⟩
def k0_mult5 (k0_t5 : Fin k0_t5_loop.trips) : BitVec 32 :=
  let c0_i32_606 : BitVec 32 := 0#32
  let c1_i32_608 : BitVec 32 := 1#32
  let arg23 : BitVec 32 := Scf.iv c0_i32_606 c1_i32_608 k0_t5
  let c128_i32_677 : BitVec 32 := 128#32
  let v1705 : BitVec 32 := Scalar.muli arg23 c128_i32_677
  v1705
def k0_off12 (k0_t5 : Fin k0_t5_loop.trips) : Fin 4 → Nat :=
  let c4 : Index := 4#32
  let c0_678 : Index := 0#32
  let c0_679 : Index := 0#32
  let c0_i32_606 : BitVec 32 := 0#32
  let c1_i32_608 : BitVec 32 := 1#32
  let arg23 : BitVec 32 := Scf.iv c0_i32_606 c1_i32_608 k0_t5
  let c128_i32_677 : BitVec 32 := 128#32
  let v1705 : BitVec 32 := Scalar.muli arg23 c128_i32_677
  let v1706 : BitVec 32 := v1705
  let v1707 : Index := Scalar.indexCast v1706
  ![4, 0, 0, v1707.toNat]
@[reducible] def k0_t6_loop : Scf.Loop 32 :=
  let c0_i32_625 : BitVec 32 := 0#32
  let c64_i32_626 : BitVec 32 := 64#32
  let v1617 : BitVec 32 := Scalar.addi c0_i32_625 c64_i32_626
  let c1_i32_627 : BitVec 32 := 1#32
  ⟨c0_i32_625, v1617, c1_i32_627⟩
def k0_mult6 (k0_t6 : Fin k0_t6_loop.trips) : BitVec 32 :=
  let c0_i32_625 : BitVec 32 := 0#32
  let c1_i32_627 : BitVec 32 := 1#32
  let arg23 : BitVec 32 := Scf.iv c0_i32_625 c1_i32_627 k0_t6
  let c128_i32_677 : BitVec 32 := 128#32
  let v1705 : BitVec 32 := Scalar.muli arg23 c128_i32_677
  v1705
def k0_off13 (k0_t6 : Fin k0_t6_loop.trips) : Fin 4 → Nat :=
  let c5 : Index := 5#32
  let c0_678 : Index := 0#32
  let c0_679 : Index := 0#32
  let c0_i32_625 : BitVec 32 := 0#32
  let c1_i32_627 : BitVec 32 := 1#32
  let arg23 : BitVec 32 := Scf.iv c0_i32_625 c1_i32_627 k0_t6
  let c128_i32_677 : BitVec 32 := 128#32
  let v1705 : BitVec 32 := Scalar.muli arg23 c128_i32_677
  let v1706 : BitVec 32 := v1705
  let v1707 : Index := Scalar.indexCast v1706
  ![5, 0, 0, v1707.toNat]
@[reducible] def k0_t7_loop : Scf.Loop 32 :=
  let c0_i32_644 : BitVec 32 := 0#32
  let c64_i32_645 : BitVec 32 := 64#32
  let v1651 : BitVec 32 := Scalar.addi c0_i32_644 c64_i32_645
  let c1_i32_646 : BitVec 32 := 1#32
  ⟨c0_i32_644, v1651, c1_i32_646⟩
def k0_mult7 (k0_t7 : Fin k0_t7_loop.trips) : BitVec 32 :=
  let c0_i32_644 : BitVec 32 := 0#32
  let c1_i32_646 : BitVec 32 := 1#32
  let arg23 : BitVec 32 := Scf.iv c0_i32_644 c1_i32_646 k0_t7
  let c128_i32_677 : BitVec 32 := 128#32
  let v1705 : BitVec 32 := Scalar.muli arg23 c128_i32_677
  v1705
def k0_off14 (k0_t7 : Fin k0_t7_loop.trips) : Fin 4 → Nat :=
  let c6 : Index := 6#32
  let c0_678 : Index := 0#32
  let c0_679 : Index := 0#32
  let c0_i32_644 : BitVec 32 := 0#32
  let c1_i32_646 : BitVec 32 := 1#32
  let arg23 : BitVec 32 := Scf.iv c0_i32_644 c1_i32_646 k0_t7
  let c128_i32_677 : BitVec 32 := 128#32
  let v1705 : BitVec 32 := Scalar.muli arg23 c128_i32_677
  let v1706 : BitVec 32 := v1705
  let v1707 : Index := Scalar.indexCast v1706
  ![6, 0, 0, v1707.toNat]
@[reducible] def k0_t8_loop : Scf.Loop 32 :=
  let c0_i32_663 : BitVec 32 := 0#32
  let c64_i32_664 : BitVec 32 := 64#32
  let v1685 : BitVec 32 := Scalar.addi c0_i32_663 c64_i32_664
  let c1_i32_665 : BitVec 32 := 1#32
  ⟨c0_i32_663, v1685, c1_i32_665⟩
def k0_mult8 (k0_t8 : Fin k0_t8_loop.trips) : BitVec 32 :=
  let c0_i32_663 : BitVec 32 := 0#32
  let c1_i32_665 : BitVec 32 := 1#32
  let arg23 : BitVec 32 := Scf.iv c0_i32_663 c1_i32_665 k0_t8
  let c128_i32_677 : BitVec 32 := 128#32
  let v1705 : BitVec 32 := Scalar.muli arg23 c128_i32_677
  v1705
def k0_off15 (k0_t8 : Fin k0_t8_loop.trips) : Fin 4 → Nat :=
  let c7 : Index := 7#32
  let c0_678 : Index := 0#32
  let c0_679 : Index := 0#32
  let c0_i32_663 : BitVec 32 := 0#32
  let c1_i32_665 : BitVec 32 := 1#32
  let arg23 : BitVec 32 := Scf.iv c0_i32_663 c1_i32_665 k0_t8
  let c128_i32_677 : BitVec 32 := 128#32
  let v1705 : BitVec 32 := Scalar.muli arg23 c128_i32_677
  let v1706 : BitVec 32 := v1705
  let v1707 : Index := Scalar.indexCast v1706
  ![7, 0, 0, v1707.toNat]
def k0_off16 (i : grid0.Coords) : Fin 3 → Nat :=
  let c0_130 : Index := 0#32
  let arg0 : BitVec 32 := BitVec.ofNat 32 (i 0).val
  let c8_i32 : BitVec 32 := 8#32
  let v0 : BitVec 32 := Scalar.muli arg0 c8_i32
  let v296 : Index := Scalar.indexCast v0
  let c0_131 : Index := 0#32
  ![0, v296.toNat, 0]
def k0_off17 (i : grid0.Coords) (c0_i32_143 : BitVec 32) : Fin 3 → Nat :=
  let c0_145 : Index := 0#32
  let arg0 : BitVec 32 := BitVec.ofNat 32 (i 0).val
  let c8_i32 : BitVec 32 := 8#32
  let v0 : BitVec 32 := Scalar.muli arg0 c8_i32
  let v335 : BitVec 32 := Scalar.addi v0 c0_i32_143
  let c8_i32_144 : BitVec 32 := 8#32
  let v336 : BitVec 32 := Scalar.muli v335 c8_i32_144
  let v337 : Index := Scalar.indexCast v336
  let c0_146 : Index := 0#32
  ![0, v337.toNat, 0]
def k0_off18 (i : grid0.Coords) (c0_i32_143 : BitVec 32) : Fin 3 → Nat :=
  let c1 : Index := 1#32
  let arg0 : BitVec 32 := BitVec.ofNat 32 (i 0).val
  let c8_i32 : BitVec 32 := 8#32
  let v0 : BitVec 32 := Scalar.muli arg0 c8_i32
  let v335 : BitVec 32 := Scalar.addi v0 c0_i32_143
  let c8_i32_144 : BitVec 32 := 8#32
  let v336 : BitVec 32 := Scalar.muli v335 c8_i32_144
  let v340 : Index := Scalar.indexCast v336
  let c0_147 : Index := 0#32
  ![1, v340.toNat, 0]
def k0_off19 (i : grid0.Coords) (c0_i32_157 : BitVec 32) : Fin 2 → Nat :=
  let arg0 : BitVec 32 := BitVec.ofNat 32 (i 0).val
  let c8_i32 : BitVec 32 := 8#32
  let v0 : BitVec 32 := Scalar.muli arg0 c8_i32
  let v374 : BitVec 32 := Scalar.addi v0 c0_i32_157
  let v375 : Index := Scalar.indexCast v374
  let c0_158 : Index := 0#32
  ![v375.toNat, 0]
def k0_off20 (i : grid0.Coords) (c0_i32_166 : BitVec 32) : Fin 2 → Nat :=
  let arg0 : BitVec 32 := BitVec.ofNat 32 (i 0).val
  let c8_i32 : BitVec 32 := 8#32
  let v0 : BitVec 32 := Scalar.muli arg0 c8_i32
  let v406 : BitVec 32 := Scalar.addi v0 c0_i32_166
  let v407 : Index := Scalar.indexCast v406
  let c0_167 : Index := 0#32
  ![v407.toNat, 0]
def k0_off21 (i : grid0.Coords) (c0_i32_186 : BitVec 32) : Fin 2 → Nat :=
  let arg0 : BitVec 32 := BitVec.ofNat 32 (i 0).val
  let c8_i32 : BitVec 32 := 8#32
  let v0 : BitVec 32 := Scalar.muli arg0 c8_i32
  let v465 : BitVec 32 := Scalar.addi v0 c0_i32_186
  let c8_i32_187 : BitVec 32 := 8#32
  let v466 : BitVec 32 := Scalar.muli v465 c8_i32_187
  let v467 : Index := Scalar.indexCast v466
  let c0_188 : Index := 0#32
  ![v467.toNat, 0]
def k0_cond3 (i : grid0.Coords) : BitVec 1 :=
  let arg0 : BitVec 32 := BitVec.ofNat 32 (i 0).val
  let c15_i32 : BitVec 32 := 15#32
  let v1430 : BitVec 1 := Scalar.cmpi .eq arg0 c15_i32
  let v1431 : BitVec 32 := Scalar.extui v1430
  let c0_i32_525 : BitVec 32 := 0#32
  let v1432 : BitVec 1 := Scalar.cmpi .ne v1431 c0_i32_525
  v1432

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_8 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_14 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_16 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

abbrev stage0_0 : Fin 1 → Memref sig .tc .vmem S128x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1x32x8192 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x32x8192 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x1x32x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x1x32x128 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x192x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceCIdeal.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x2048 : Shape := ⟨2, ![128, 2048]⟩
abbrev S192x4x32x128 : Shape := ⟨4, ![192, 4, 32, 128]⟩
abbrev S4x192x128 : Shape := ⟨3, ![4, 192, 128]⟩
abbrev S128x192 : Shape := ⟨2, ![128, 192]⟩
abbrev S128x1x192 : Shape := ⟨3, ![128, 1, 192]⟩
abbrev S128x1x32x8192 : Shape := ⟨4, ![128, 1, 32, 8192]⟩
abbrev S128x32x8192 : Shape := ⟨3, ![128, 32, 8192]⟩
abbrev S_ : Shape := ⟨0, ![]⟩
abbrev S128x192x1 : Shape := ⟨3, ![128, 192, 1]⟩
abbrev S128x32x192 : Shape := ⟨3, ![128, 32, 192]⟩
abbrev S1x1024x64 : Shape := ⟨3, ![1, 1024, 64]⟩
abbrev S1024x64 : Shape := ⟨2, ![1024, 64]⟩
abbrev S128x8x64 : Shape := ⟨3, ![128, 8, 64]⟩
abbrev S128x8x32 : Shape := ⟨3, ![128, 8, 32]⟩
abbrev S128x8x192 : Shape := ⟨3, ![128, 8, 192]⟩
abbrev S1x128x64 : Shape := ⟨3, ![1, 128, 64]⟩
abbrev S128x64 : Shape := ⟨2, ![128, 64]⟩
abbrev S128x8 : Shape := ⟨2, ![128, 8]⟩
abbrev S128x8x1 : Shape := ⟨3, ![128, 8, 1]⟩
abbrev S128x8x193 : Shape := ⟨3, ![128, 8, 193]⟩
abbrev S128x1x64 : Shape := ⟨3, ![128, 1, 64]⟩
abbrev S128x8x32x1 : Shape := ⟨4, ![128, 8, 32, 1]⟩
abbrev S128x8x32x2 : Shape := ⟨4, ![128, 8, 32, 2]⟩
abbrev S128x1x8x64 : Shape := ⟨4, ![128, 1, 8, 64]⟩
abbrev S128x4x8x64 : Shape := ⟨4, ![128, 4, 8, 64]⟩
abbrev S192x32x128 : Shape := ⟨3, ![192, 32, 128]⟩
abbrev S192x1x32x128 : Shape := ⟨4, ![192, 1, 32, 128]⟩
abbrev S192x128 : Shape := ⟨2, ![192, 128]⟩
abbrev S1x192x128 : Shape := ⟨3, ![1, 192, 128]⟩

abbrev nBuf : Space → Nat
  | .hbm => 157
  | .vmem => 0
  | .smem => 0
  | _ => 0

abbrev hbmTy0_0 (i : Nat) : BufTy := match i % 128 with
  | 0 => ⟨S32x16, .i32⟩
  | 1 => ⟨S128x256, .i32⟩
  | 2 => ⟨S128x256, .f32⟩
  | 3 => ⟨S128x256, .f32⟩
  | 4 => ⟨S128x256, .f32⟩
  | 5 => ⟨S4x1024x64, .bf16⟩
  | 6 => ⟨S4x128x64, .bf16⟩
  | 7 => ⟨S4x128x64, .bf16⟩
  | 8 => ⟨S128x4x32x8192, .i8⟩
  | 9 => ⟨S128x4x32x8192, .i8⟩
  | 10 => ⟨S128x2048, .bf16⟩
  | 11 => ⟨S192x4x32x128, .i8⟩
  | 12 => ⟨S192x4x32x128, .i8⟩
  | 13 => ⟨S4x192x128, .f32⟩
  | 14 => ⟨S128x192, .i32⟩
  | 15 => ⟨S128x1x192, .i32⟩
  | 16 => ⟨S128x1x32x8192, .i8⟩
  | 17 => ⟨S128x32x8192, .i8⟩
  | 18 => ⟨S_, .i32⟩
  | 19 => ⟨S128x1x192, .i32⟩
  | 20 => ⟨S128x1x192, .i1⟩
  | 21 => ⟨S_, .i32⟩
  | 22 => ⟨S128x1x192, .i32⟩
  | 23 => ⟨S128x1x192, .i32⟩
  | 24 => ⟨S128x1x192, .i32⟩
  | 25 => ⟨S128x192x1, .i32⟩
  | 26 => ⟨S128x32x192, .i8⟩
  | 27 => ⟨S128x1x32x8192, .i8⟩
  | 28 => ⟨S128x32x8192, .i8⟩
  | 29 => ⟨S_, .i32⟩
  | 30 => ⟨S128x1x192, .i32⟩
  | 31 => ⟨S128x1x192, .i1⟩
  | 32 => ⟨S_, .i32⟩
  | 33 => ⟨S128x1x192, .i32⟩
  | 34 => ⟨S128x1x192, .i32⟩
  | 35 => ⟨S128x1x192, .i32⟩
  | 36 => ⟨S128x192x1, .i32⟩
  | 37 => ⟨S128x32x192, .i8⟩
  | 38 => ⟨S1x1024x64, .bf16⟩
  | 39 => ⟨S1024x64, .bf16⟩
  | 40 => ⟨S128x8x64, .bf16⟩
  | 41 => ⟨S128x32x192, .i32⟩
  | 42 => ⟨S_, .i32⟩
  | 43 => ⟨S128x32x192, .i32⟩
  | 44 => ⟨S128x32x192, .i32⟩
  | 45 => ⟨S_, .i32⟩
  | 46 => ⟨S128x32x192, .i32⟩
  | 47 => ⟨S128x32x192, .i32⟩
  | 48 => ⟨S_, .i32⟩
  | 49 => ⟨S128x32x192, .i32⟩
  | 50 => ⟨S128x32x192, .i32⟩
  | 51 => ⟨S_, .i32⟩
  | 52 => ⟨S128x32x192, .i32⟩
  | 53 => ⟨S128x32x192, .i32⟩
  | 54 => ⟨S_, .i32⟩
  | 55 => ⟨S128x32x192, .i32⟩
  | 56 => ⟨S128x32x192, .i32⟩
  | 57 => ⟨S_, .i32⟩
  | 58 => ⟨S128x32x192, .i32⟩
  | 59 => ⟨S128x32x192, .i32⟩
  | 60 => ⟨S128x32x192, .bf16⟩
  | 61 => ⟨S128x32x192, .bf16⟩
  | 62 => ⟨S128x8x32, .bf16⟩
  | 63 => ⟨S128x8x192, .f32⟩
  | 64 => ⟨S128x8x32, .bf16⟩
  | 65 => ⟨S128x8x192, .f32⟩
  | 66 => ⟨S128x8x192, .f32⟩
  | 67 => ⟨S128x192, .f32⟩
  | 68 => ⟨S128x1x192, .f32⟩
  | 69 => ⟨S_, .f32⟩
  | 70 => ⟨S128x1x192, .f32⟩
  | 71 => ⟨S128x1x192, .f32⟩
  | 72 => ⟨S128x8x192, .f32⟩
  | 73 => ⟨S128x8x192, .f32⟩
  | 74 => ⟨S1x128x64, .bf16⟩
  | 75 => ⟨S128x64, .bf16⟩
  | 76 => ⟨S128x8, .f32⟩
  | 77 => ⟨S128x8x1, .f32⟩
  | 78 => ⟨S_, .f32⟩
  | 79 => ⟨S128x8x1, .f32⟩
  | 80 => ⟨S128x8x1, .f32⟩
  | 81 => ⟨S128x8x193, .f32⟩
  | 82 => ⟨S_, .f32⟩
  | 83 => ⟨S128x8, .f32⟩
  | 84 => ⟨S_, .f32⟩
  | 85 => ⟨S128x8, .f32⟩
  | 86 => ⟨S128x8, .f32⟩
  | 87 => ⟨S128x8x1, .f32⟩
  | 88 => ⟨S128x8x193, .f32⟩
  | 89 => ⟨S128x8x193, .f32⟩
  | 90 => ⟨S128x8x193, .f32⟩
  | 91 => ⟨S_, .f32⟩
  | 92 => ⟨S128x8, .f32⟩
  | 93 => ⟨S128x8x1, .f32⟩
  | 94 => ⟨S128x8x193, .f32⟩
  | 95 => ⟨S128x8x193, .f32⟩
  | 96 => ⟨S128x8x192, .f32⟩
  | 97 => ⟨S128x8x1, .f32⟩
  | 98 => ⟨S128x192, .f32⟩
  | 99 => ⟨S128x1x192, .f32⟩
  | 100 => ⟨S128x8x192, .f32⟩
  | 101 => ⟨S128x8x192, .f32⟩
  | 102 => ⟨S128x8x192, .bf16⟩
  | 103 => ⟨S128x32x192, .i32⟩
  | 104 => ⟨S_, .i32⟩
  | 105 => ⟨S128x32x192, .i32⟩
  | 106 => ⟨S128x32x192, .i32⟩
  | 107 => ⟨S_, .i32⟩
  | 108 => ⟨S128x32x192, .i32⟩
  | 109 => ⟨S128x32x192, .i32⟩
  | 110 => ⟨S_, .i32⟩
  | 111 => ⟨S128x32x192, .i32⟩
  | 112 => ⟨S128x32x192, .i32⟩
  | 113 => ⟨S_, .i32⟩
  | 114 => ⟨S128x32x192, .i32⟩
  | 115 => ⟨S128x32x192, .i32⟩
  | 116 => ⟨S_, .i32⟩
  | 117 => ⟨S128x32x192, .i32⟩
  | 118 => ⟨S128x32x192, .i32⟩
  | 119 => ⟨S_, .i32⟩
  | 120 => ⟨S128x32x192, .i32⟩
  | 121 => ⟨S128x32x192, .i32⟩
  | 122 => ⟨S128x32x192, .bf16⟩
  | 123 => ⟨S128x32x192, .bf16⟩
  | 124 => ⟨S128x8x32, .f32⟩
  | 125 => ⟨S128x8x32, .f32⟩
  | 126 => ⟨S128x8x1, .bf16⟩
  | 127 => ⟨S128x8x1, .f32⟩
  | _ => ⟨S32x16, .i32⟩

abbrev hbmTy0_1 (i : Nat) : BufTy := match i % 128 with
  | 0 => ⟨S1x128x64, .bf16⟩
  | 1 => ⟨S128x64, .bf16⟩
  | 2 => ⟨S128x1x64, .bf16⟩
  | 3 => ⟨S128x1x64, .f32⟩
  | 4 => ⟨S128x8x64, .f32⟩
  | 5 => ⟨S128x8x64, .f32⟩
  | 6 => ⟨S128x8x64, .f32⟩
  | 7 => ⟨S128x8x32x1, .f32⟩
  | 8 => ⟨S128x8x32x1, .f32⟩
  | 9 => ⟨S128x8x32x2, .f32⟩
  | 10 => ⟨S128x8x64, .f32⟩
  | 11 => ⟨S128x8x64, .f32⟩
  | 12 => ⟨S128x8x64, .bf16⟩
  | 13 => ⟨S128x192, .f32⟩
  | 14 => ⟨S_, .f32⟩
  | 15 => ⟨S128x192, .f32⟩
  | 16 => ⟨S128x192, .f32⟩
  | 17 => ⟨S128x1x8x64, .bf16⟩
  | 18 => ⟨S128x4x8x64, .bf16⟩
  | 19 => ⟨S128x2048, .bf16⟩
  | 20 => ⟨S192x32x128, .i8⟩
  | 21 => ⟨S192x1x32x128, .i8⟩
  | 22 => ⟨S192x4x32x128, .i8⟩
  | 23 => ⟨S192x32x128, .i8⟩
  | 24 => ⟨S192x1x32x128, .i8⟩
  | 25 => ⟨S192x4x32x128, .i8⟩
  | 26 => ⟨S192x128, .f32⟩
  | 27 => ⟨S1x192x128, .f32⟩
  | 28 => ⟨S4x192x128, .f32⟩
  | _ => ⟨S32x16, .i32⟩

abbrev hbmTy (i : Nat) : BufTy := match i / 128 with
  | 0 => hbmTy0_0 i
  | 1 => hbmTy0_1 i
  | _ => ⟨S32x16, .i32⟩

abbrev bufTy : (tb : Table) → Fin (tcTables nBuf tb) → BufTy
  | .hbm, ⟨i, _⟩ => hbmTy i
  | _, _ => ⟨S32x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_c : Ref sig .tc := ⟨.hbm, 42, rfl⟩
abbrev main_v12 : Ref sig .tc := ⟨.hbm, 43, rfl⟩
abbrev main_v13 : Ref sig .tc := ⟨.hbm, 44, rfl⟩
abbrev main_c_0 : Ref sig .tc := ⟨.hbm, 45, rfl⟩
abbrev main_v14 : Ref sig .tc := ⟨.hbm, 46, rfl⟩
abbrev main_v15 : Ref sig .tc := ⟨.hbm, 47, rfl⟩
abbrev main_c_1 : Ref sig .tc := ⟨.hbm, 48, rfl⟩
abbrev main_v16 : Ref sig .tc := ⟨.hbm, 49, rfl⟩
abbrev main_v17 : Ref sig .tc := ⟨.hbm, 50, rfl⟩
abbrev main_c_2 : Ref sig .tc := ⟨.hbm, 51, rfl⟩
abbrev main_v18 : Ref sig .tc := ⟨.hbm, 52, rfl⟩
abbrev main_v19 : Ref sig .tc := ⟨.hbm, 53, rfl⟩
abbrev main_c_3 : Ref sig .tc := ⟨.hbm, 54, rfl⟩
abbrev main_v20 : Ref sig .tc := ⟨.hbm, 55, rfl⟩
abbrev main_v21 : Ref sig .tc := ⟨.hbm, 56, rfl⟩
abbrev main_c_4 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_5 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_6 : Ref sig .tc := ⟨.hbm, 82, rfl⟩
abbrev main_v44 : Ref sig .tc := ⟨.hbm, 83, rfl⟩
abbrev main_cst_7 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_8 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_9 : Ref sig .tc := ⟨.hbm, 104, rfl⟩
abbrev main_v63 : Ref sig .tc := ⟨.hbm, 105, rfl⟩
abbrev main_v64 : Ref sig .tc := ⟨.hbm, 106, rfl⟩
abbrev main_c_10 : Ref sig .tc := ⟨.hbm, 107, rfl⟩
abbrev main_v65 : Ref sig .tc := ⟨.hbm, 108, rfl⟩
abbrev main_v66 : Ref sig .tc := ⟨.hbm, 109, rfl⟩
abbrev main_c_11 : Ref sig .tc := ⟨.hbm, 110, rfl⟩
abbrev main_v67 : Ref sig .tc := ⟨.hbm, 111, rfl⟩
abbrev main_v68 : Ref sig .tc := ⟨.hbm, 112, rfl⟩
abbrev main_c_12 : Ref sig .tc := ⟨.hbm, 113, rfl⟩
abbrev main_v69 : Ref sig .tc := ⟨.hbm, 114, rfl⟩
abbrev main_v70 : Ref sig .tc := ⟨.hbm, 115, rfl⟩
abbrev main_c_13 : Ref sig .tc := ⟨.hbm, 116, rfl⟩
abbrev main_v71 : Ref sig .tc := ⟨.hbm, 117, rfl⟩
abbrev main_v72 : Ref sig .tc := ⟨.hbm, 118, rfl⟩
abbrev main_c_14 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_15 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩

abbrev nD : Nat := 1
abbrev τ : Topo := Topo.v7x

variable {F : FTy → Type} [FloatOps F]
-- ==== KernelD.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x2048 : Shape := ⟨2, ![128, 2048]⟩
abbrev S192x4x32x128 : Shape := ⟨4, ![192, 4, 32, 128]⟩
abbrev S4x192x128 : Shape := ⟨3, ![4, 192, 128]⟩
abbrev S1x64x64 : Shape := ⟨3, ![1, 64, 64]⟩
abbrev S1x128x64 : Shape := ⟨3, ![1, 128, 64]⟩
abbrev S8x1x32x8192 : Shape := ⟨4, ![8, 1, 32, 8192]⟩
abbrev S128x512 : Shape := ⟨2, ![128, 512]⟩
abbrev S192x1x32x128 : Shape := ⟨4, ![192, 1, 32, 128]⟩
abbrev S1x192x128 : Shape := ⟨3, ![1, 192, 128]⟩
abbrev S2x1024x128 : Shape := ⟨3, ![2, 1024, 128]⟩
abbrev S1024x128 : Shape := ⟨2, ![1024, 128]⟩
abbrev S8x128 : Shape := ⟨2, ![8, 128]⟩
abbrev S1x1 : Shape := ⟨2, ![1, 1]⟩
abbrev S1x256 : Shape := ⟨2, ![1, 256]⟩
abbrev S8x256 : Shape := ⟨2, ![8, 256]⟩
abbrev S1x1x32x128 : Shape := ⟨4, ![1, 1, 32, 128]⟩
abbrev S32x128 : Shape := ⟨2, ![32, 128]⟩
abbrev S8x128x1 : Shape := ⟨3, ![8, 128, 1]⟩
abbrev S1x8x128 : Shape := ⟨3, ![1, 8, 128]⟩
abbrev S64x64 : Shape := ⟨2, ![64, 64]⟩
abbrev S1x8x64 : Shape := ⟨3, ![1, 8, 64]⟩
abbrev S8x64 : Shape := ⟨2, ![8, 64]⟩
abbrev S64x8 : Shape := ⟨2, ![64, 8]⟩
abbrev S64 : Shape := ⟨1, ![64]⟩
abbrev S64x1 : Shape := ⟨2, ![64, 1]⟩
abbrev S8x192 : Shape := ⟨2, ![8, 192]⟩
abbrev S64x192 : Shape := ⟨2, ![64, 192]⟩
abbrev S8x1x192 : Shape := ⟨3, ![8, 1, 192]⟩
abbrev S8x8x192 : Shape := ⟨3, ![8, 8, 192]⟩
abbrev S1x192 : Shape := ⟨2, ![1, 192]⟩
abbrev S8x1 : Shape := ⟨2, ![8, 1]⟩
abbrev S8 : Shape := ⟨1, ![8]⟩
abbrev S192 : Shape := ⟨1, ![192]⟩
abbrev S1x64 : Shape := ⟨2, ![1, 64]⟩
abbrev S1x128x128 : Shape := ⟨3, ![1, 128, 128]⟩
abbrev S128x128 : Shape := ⟨2, ![128, 128]⟩
abbrev S512x128 : Shape := ⟨2, ![512, 128]⟩
abbrev S128x4x128 : Shape := ⟨3, ![128, 4, 128]⟩
abbrev S128x1x4x128 : Shape := ⟨4, ![128, 1, 4, 128]⟩
abbrev S64x128 : Shape := ⟨2, ![64, 128]⟩
abbrev S256x128 : Shape := ⟨2, ![256, 128]⟩
abbrev S64x4x128 : Shape := ⟨3, ![64, 4, 128]⟩
abbrev S64x1x4x128 : Shape := ⟨4, ![64, 1, 4, 128]⟩
abbrev S192x128 : Shape := ⟨2, ![192, 128]⟩
abbrev S128x64 : Shape := ⟨2, ![128, 64]⟩

abbrev nBuf : Space → Nat
  | .hbm => 17
  | .vmem => 20
  | .smem => 1
  | _ => 0

abbrev bufTy : (tb : Table) → Fin (tcTables nBuf tb) → BufTy
  | .hbm, ⟨0, _⟩ => ⟨S128x256, .i32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S4x1024x64, .bf16⟩
  | .hbm, ⟨5, _⟩ => ⟨S4x128x64, .bf16⟩
  | .hbm, ⟨6, _⟩ => ⟨S4x128x64, .bf16⟩
  | .hbm, ⟨7, _⟩ => ⟨S128x4x32x8192, .i8⟩
  | .hbm, ⟨8, _⟩ => ⟨S128x4x32x8192, .i8⟩
  | .hbm, ⟨9, _⟩ => ⟨S128x2048, .bf16⟩
  | .hbm, ⟨10, _⟩ => ⟨S192x4x32x128, .i8⟩
  | .hbm, ⟨11, _⟩ => ⟨S192x4x32x128, .i8⟩
  | .hbm, ⟨12, _⟩ => ⟨S4x192x128, .f32⟩
  | .hbm, ⟨13, _⟩ => ⟨S128x2048, .bf16⟩
  | .hbm, ⟨14, _⟩ => ⟨S192x4x32x128, .i8⟩
  | .hbm, ⟨15, _⟩ => ⟨S192x4x32x128, .i8⟩
  | .hbm, ⟨16, _⟩ => ⟨S4x192x128, .f32⟩
  | .local _ .vmem, ⟨0, _⟩ => ⟨S128x256, .i32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S1x64x64, .bf16⟩
  | .local _ .vmem, ⟨5, _⟩ => ⟨S1x64x64, .bf16⟩
  | .local _ .vmem, ⟨6, _⟩ => ⟨S1x128x64, .bf16⟩
  | .local _ .vmem, ⟨7, _⟩ => ⟨S1x128x64, .bf16⟩
  | .local _ .vmem, ⟨8, _⟩ => ⟨S8x1x32x8192, .i8⟩
  | .local _ .vmem, ⟨9, _⟩ => ⟨S8x1x32x8192, .i8⟩
  | .local _ .vmem, ⟨10, _⟩ => ⟨S8x1x32x8192, .i8⟩
  | .local _ .vmem, ⟨11, _⟩ => ⟨S8x1x32x8192, .i8⟩
  | .local _ .vmem, ⟨12, _⟩ => ⟨S128x512, .bf16⟩
  | .local _ .vmem, ⟨13, _⟩ => ⟨S192x1x32x128, .i8⟩
  | .local _ .vmem, ⟨14, _⟩ => ⟨S192x1x32x128, .i8⟩
  | .local _ .vmem, ⟨15, _⟩ => ⟨S1x192x128, .f32⟩
  | .local _ .vmem, ⟨16, _⟩ => ⟨S2x1024x128, .i32⟩
  | .local _ .vmem, ⟨17, _⟩ => ⟨S2x1024x128, .i32⟩
  | .local _ .vmem, ⟨18, _⟩ => ⟨S1024x128, .f32⟩
  | .local _ .vmem, ⟨19, _⟩ => ⟨S128x256, .f32⟩
  | .local _ .smem, ⟨0, _⟩ => ⟨S32x16, .i32⟩
  | _, _ => ⟨S128x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) (c0_i32_5 : BitVec 32) : Fin 2 → Nat :=
  let arg0 : BitVec 32 := BitVec.ofNat 32 (i 0).val
  let c8_i32 : BitVec 32 := 8#32
  let v0 : BitVec 32 := Scalar.muli arg0 c8_i32
  let v2 : BitVec 32 := Scalar.addi v0 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c4_i32 : BitVec 32 := 4#32
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let v3 : BitVec 32 := Scalar.divsi v2 c4_i32
  let c1_i32 : BitVec 32 := 1#32
  let v18 : BitVec 32 := Scalar.subi v3 c1_i32
  let v19 : BitVec 32 := Scalar.select v17 v18 v3
  let v31 : Index := Scalar.indexCast v19
  let v20 : BitVec 32 := Scalar.addi v0 c0_i32_5
  let c4_i32_6 : BitVec 32 := 4#32
  let c0_i32_7 : BitVec 32 := 0#32
  let v21 : BitVec 1 := Scalar.cmpi .eq c4_i32_6 c0_i32_7
  let c1_i32_8 : BitVec 32 := 1#32
  let v22 : BitVec 32 := Scalar.select v21 c1_i32_8 c4_i32_6
  let v23 : BitVec 32 := Scalar.remsi v20 v22
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let c0_i32_9 : BitVec 32 := 0#32
  let v24 : BitVec 1 := Scalar.cmpi .ne v23 c0_i32_9
  let v28 : BitVec 1 := Scalar.andi v27 v24
  let v29 : BitVec 32 := Scalar.addi v23 v22
  let v30 : BitVec 32 := Scalar.select v28 v29 v23
  let v32 : Index := Scalar.indexCast v30
  ![v31.toNat, v32.toNat]
def k0_off1_at (r : Fin 8) : BitVec 32 × BitVec 32 :=
  if r.val < 4 then
    if r.val < 2 then
      if r.val < 1 then
        (0#32, 0#32)
      else
        (1#32, 1#32)
    else
      if r.val < 3 then
        (2#32, 2#32)
      else
        (3#32, 3#32)
  else
    if r.val < 6 then
      if r.val < 5 then
        (4#32, 4#32)
      else
        (5#32, 5#32)
    else
      if r.val < 7 then
        (6#32, 6#32)
      else
        (7#32, 7#32)
def k0_off2 (i : grid0.Coords) (c0_i32_526 : BitVec 32) : Fin 2 → Nat :=
  let arg0 : BitVec 32 := BitVec.ofNat 32 (i 0).val
  let c8_i32 : BitVec 32 := 8#32
  let v0 : BitVec 32 := Scalar.muli arg0 c8_i32
  let v1433 : BitVec 32 := Scalar.addi v0 c0_i32_526
  let v1434 : Index := Scalar.indexCast v1433
  let c0_527 : Index := 0#32
  ![v1434.toNat, 0]
def k0_off3 (i : grid0.Coords) (c0_i32_1246 : BitVec 32) : Fin 3 → Nat :=
  let c0_1248 : Index := 0#32
  let arg0 : BitVec 32 := BitVec.ofNat 32 (i 0).val
  let c8_i32 : BitVec 32 := 8#32
  let v0 : BitVec 32 := Scalar.muli arg0 c8_i32
  let v3117 : BitVec 32 := Scalar.addi v0 c0_i32_1246
  let c8_i32_1247 : BitVec 32 := 8#32
  let v3118 : BitVec 32 := Scalar.muli v3117 c8_i32_1247
  let v3119 : Index := Scalar.indexCast v3118
  let c0_1249 : Index := 0#32
  ![0, v3119.toNat, 0]
def k0_off4 (i : grid0.Coords) (c0_i32_1246 : BitVec 32) : Fin 3 → Nat :=
  let c1_1250 : Index := 1#32
  let arg0 : BitVec 32 := BitVec.ofNat 32 (i 0).val
  let c8_i32 : BitVec 32 := 8#32
  let v0 : BitVec 32 := Scalar.muli arg0 c8_i32
  let v3117 : BitVec 32 := Scalar.addi v0 c0_i32_1246
  let c8_i32_1247 : BitVec 32 := 8#32
  let v3118 : BitVec 32 := Scalar.muli v3117 c8_i32_1247
  let v3123 : Index := Scalar.indexCast v3118
  let c0_1251 : Index := 0#32
  ![1, v3123.toNat, 0]
def k0_off5 (i : grid0.Coords) (c0_i32_526 : BitVec 32) : Fin 2 → Nat :=
  let arg0 : BitVec 32 := BitVec.ofNat 32 (i 0).val
  let c8_i32 : BitVec 32 := 8#32
  let v0 : BitVec 32 := Scalar.muli arg0 c8_i32
  let v1433 : BitVec 32 := Scalar.addi v0 c0_i32_526
  let v1434 : Index := Scalar.indexCast v1433
  let c0_527 : Index := 0#32
  ![v1434.toNat, 0]
@[reducible] def k0_t1_loop : Scf.Loop 32 :=
  let c0_i32_530 : BitVec 32 := 0#32
  let c64_i32_531 : BitVec 32 := 64#32
  let v1447 : BitVec 32 := Scalar.addi c0_i32_530 c64_i32_531
  let c1_i32_532 : BitVec 32 := 1#32
  ⟨c0_i32_530, v1447, c1_i32_532⟩
def k0_mult1 (k0_t1 : Fin k0_t1_loop.trips) : BitVec 32 :=
  let c0_i32_530 : BitVec 32 := 0#32
  let c1_i32_532 : BitVec 32 := 1#32
  let arg23 : BitVec 32 := Scf.iv c0_i32_530 c1_i32_532 k0_t1
  let c128_i32_677 : BitVec 32 := 128#32
  let v1705 : BitVec 32 := Scalar.muli arg23 c128_i32_677
  v1705
def k0_off6 (k0_t1 : Fin k0_t1_loop.trips) : Fin 4 → Nat :=
  let c0_678 : Index := 0#32
  let c0_679 : Index := 0#32
  let c0_680 : Index := 0#32
  let c0_i32_530 : BitVec 32 := 0#32
  let c1_i32_532 : BitVec 32 := 1#32
  let arg23 : BitVec 32 := Scf.iv c0_i32_530 c1_i32_532 k0_t1
  let c128_i32_677 : BitVec 32 := 128#32
  let v1705 : BitVec 32 := Scalar.muli arg23 c128_i32_677
  let v1706 : BitVec 32 := v1705
  let v1707 : Index := Scalar.indexCast v1706
  ![0, 0, 0, v1707.toNat]
def k0_off7 (i : grid0.Coords) (c0_i32_534 : BitVec 32) : Fin 3 → Nat :=
  let c0_536 : Index := 0#32
  let arg0 : BitVec 32 := BitVec.ofNat 32 (i 0).val
  let c8_i32 : BitVec 32 := 8#32
  let v0 : BitVec 32 := Scalar.muli arg0 c8_i32
  let v1449 : BitVec 32 := Scalar.addi v0 c0_i32_534
  let c8_i32_535 : BitVec 32 := 8#32
  let v1450 : BitVec 32 := Scalar.muli v1449 c8_i32_535
  let v1451 : Index := Scalar.indexCast v1450
  let c0_537 : Index := 0#32
  ![0, v1451.toNat, 0]
def k0_off8 (i : grid0.Coords) (c0_i32_534 : BitVec 32) : Fin 3 → Nat :=
  let c1_538 : Index := 1#32
  let arg0 : BitVec 32 := BitVec.ofNat 32 (i 0).val
  let c8_i32 : BitVec 32 := 8#32
  let v0 : BitVec 32 := Scalar.muli arg0 c8_i32
  let v1449 : BitVec 32 := Scalar.addi v0 c0_i32_534
  let c8_i32_535 : BitVec 32 := 8#32
  let v1450 : BitVec 32 := Scalar.muli v1449 c8_i32_535
  let v1455 : Index := Scalar.indexCast v1450
  let c0_539 : Index := 0#32
  ![1, v1455.toNat, 0]
@[reducible] def k0_t2_loop : Scf.Loop 32 :=
  let c0_i32_549 : BitVec 32 := 0#32
  let c64_i32_550 : BitVec 32 := 64#32
  let v1481 : BitVec 32 := Scalar.addi c0_i32_549 c64_i32_550
  let c1_i32_551 : BitVec 32 := 1#32
  ⟨c0_i32_549, v1481, c1_i32_551⟩
def k0_mult2 (k0_t2 : Fin k0_t2_loop.trips) : BitVec 32 :=
  let c0_i32_549 : BitVec 32 := 0#32
  let c1_i32_551 : BitVec 32 := 1#32
  let arg23 : BitVec 32 := Scf.iv c0_i32_549 c1_i32_551 k0_t2
  let c128_i32_677 : BitVec 32 := 128#32
  let v1705 : BitVec 32 := Scalar.muli arg23 c128_i32_677
  v1705
def k0_off9 (k0_t2 : Fin k0_t2_loop.trips) : Fin 4 → Nat :=
  let c1_678 : Index := 1#32
  let c0_679 : Index := 0#32
  let c0_680 : Index := 0#32
  let c0_i32_549 : BitVec 32 := 0#32
  let c1_i32_551 : BitVec 32 := 1#32
  let arg23 : BitVec 32 := Scf.iv c0_i32_549 c1_i32_551 k0_t2
  let c128_i32_677 : BitVec 32 := 128#32
  let v1705 : BitVec 32 := Scalar.muli arg23 c128_i32_677
  let v1706 : BitVec 32 := v1705
  let v1707 : Index := Scalar.indexCast v1706
  ![1, 0, 0, v1707.toNat]
@[reducible] def k0_t3_loop : Scf.Loop 32 :=
  let c0_i32_568 : BitVec 32 := 0#32
  let c64_i32_569 : BitVec 32 := 64#32
  let v1515 : BitVec 32 := Scalar.addi c0_i32_568 c64_i32_569
  let c1_i32_570 : BitVec 32 := 1#32
  ⟨c0_i32_568, v1515, c1_i32_570⟩
def k0_mult3 (k0_t3 : Fin k0_t3_loop.trips) : BitVec 32 :=
  let c0_i32_568 : BitVec 32 := 0#32
  let c1_i32_570 : BitVec 32 := 1#32
  let arg23 : BitVec 32 := Scf.iv c0_i32_568 c1_i32_570 k0_t3
  let c128_i32_677 : BitVec 32 := 128#32
  let v1705 : BitVec 32 := Scalar.muli arg23 c128_i32_677
  v1705
def k0_off10 (k0_t3 : Fin k0_t3_loop.trips) : Fin 4 → Nat :=
  let c2 : Index := 2#32
  let c0_678 : Index := 0#32
  let c0_679 : Index := 0#32
  let c0_i32_568 : BitVec 32 := 0#32
  let c1_i32_570 : BitVec 32 := 1#32
  let arg23 : BitVec 32 := Scf.iv c0_i32_568 c1_i32_570 k0_t3
  let c128_i32_677 : BitVec 32 := 128#32
  let v1705 : BitVec 32 := Scalar.muli arg23 c128_i32_677
  let v1706 : BitVec 32 := v1705
  let v1707 : Index := Scalar.indexCast v1706
  ![2, 0, 0, v1707.toNat]
@[reducible] def k0_t4_loop : Scf.Loop 32 :=
  let c0_i32_587 : BitVec 32 := 0#32
  let c64_i32_588 : BitVec 32 := 64#32
  let v1549 : BitVec 32 := Scalar.addi c0_i32_587 c64_i32_588
  let c1_i32_589 : BitVec 32 := 1#32
  ⟨c0_i32_587, v1549, c1_i32_589⟩
def k0_mult4 (k0_t4 : Fin k0_t4_loop.trips) : BitVec 32 :=
  let c0_i32_587 : BitVec 32 := 0#32
  let c1_i32_589 : BitVec 32 := 1#32
  let arg23 : BitVec 32 := Scf.iv c0_i32_587 c1_i32_589 k0_t4
  let c128_i32_677 : BitVec 32 := 128#32
  let v1705 : BitVec 32 := Scalar.muli arg23 c128_i32_677
  v1705
def k0_off11 (k0_t4 : Fin k0_t4_loop.trips) : Fin 4 → Nat :=
  let c3 : Index := 3#32
  let c0_678 : Index := 0#32
  let c0_679 : Index := 0#32
  let c0_i32_587 : BitVec 32 := 0#32
  let c1_i32_589 : BitVec 32 := 1#32
  let arg23 : BitVec 32 := Scf.iv c0_i32_587 c1_i32_589 k0_t4
  let c128_i32_677 : BitVec 32 := 128#32
  let v1705 : BitVec 32 := Scalar.muli arg23 c128_i32_677
  let v1706 : BitVec 32 := v1705
  let v1707 : Index := Scalar.indexCast v1706
  ![3, 0, 0, v1707.toNat]
@[reducible] def k0_t5_loop : Scf.Loop 32 :=
  let c0_i32_606 : BitVec 32 := 0#32
  let c64_i32_607 : BitVec 32 := 64#32
  let v1583 : BitVec 32 := Scalar.addi c0_i32_606 c64_i32_607
  let c1_i32_608 : BitVec 32 := 1#32
  ⟨c0_i32_606, v1583, c1_i32_608⟩
def k0_mult5 (k0_t5 : Fin k0_t5_loop.trips) : BitVec 32 :=
  let c0_i32_606 : BitVec 32 := 0#32
  let c1_i32_608 : BitVec 32 := 1#32
  let arg23 : BitVec 32 := Scf.iv c0_i32_606 c1_i32_608 k0_t5
  let c128_i32_677 : BitVec 32 := 128#32
  let v1705 : BitVec 32 := Scalar.muli arg23 c128_i32_677
  v1705
def k0_off12 (k0_t5 : Fin k0_t5_loop.trips) : Fin 4 → Nat :=
  let c4 : Index := 4#32
  let c0_678 : Index := 0#32
  let c0_679 : Index := 0#32
  let c0_i32_606 : BitVec 32 := 0#32
  let c1_i32_608 : BitVec 32 := 1#32
  let arg23 : BitVec 32 := Scf.iv c0_i32_606 c1_i32_608 k0_t5
  let c128_i32_677 : BitVec 32 := 128#32
  let v1705 : BitVec 32 := Scalar.muli arg23 c128_i32_677
  let v1706 : BitVec 32 := v1705
  let v1707 : Index := Scalar.indexCast v1706
  ![4, 0, 0, v1707.toNat]
@[reducible] def k0_t6_loop : Scf.Loop 32 :=
  let c0_i32_625 : BitVec 32 := 0#32
  let c64_i32_626 : BitVec 32 := 64#32
  let v1617 : BitVec 32 := Scalar.addi c0_i32_625 c64_i32_626
  let c1_i32_627 : BitVec 32 := 1#32
  ⟨c0_i32_625, v1617, c1_i32_627⟩
def k0_mult6 (k0_t6 : Fin k0_t6_loop.trips) : BitVec 32 :=
  let c0_i32_625 : BitVec 32 := 0#32
  let c1_i32_627 : BitVec 32 := 1#32
  let arg23 : BitVec 32 := Scf.iv c0_i32_625 c1_i32_627 k0_t6
  let c128_i32_677 : BitVec 32 := 128#32
  let v1705 : BitVec 32 := Scalar.muli arg23 c128_i32_677
  v1705
def k0_off13 (k0_t6 : Fin k0_t6_loop.trips) : Fin 4 → Nat :=
  let c5 : Index := 5#32
  let c0_678 : Index := 0#32
  let c0_679 : Index := 0#32
  let c0_i32_625 : BitVec 32 := 0#32
  let c1_i32_627 : BitVec 32 := 1#32
  let arg23 : BitVec 32 := Scf.iv c0_i32_625 c1_i32_627 k0_t6
  let c128_i32_677 : BitVec 32 := 128#32
  let v1705 : BitVec 32 := Scalar.muli arg23 c128_i32_677
  let v1706 : BitVec 32 := v1705
  let v1707 : Index := Scalar.indexCast v1706
  ![5, 0, 0, v1707.toNat]
@[reducible] def k0_t7_loop : Scf.Loop 32 :=
  let c0_i32_644 : BitVec 32 := 0#32
  let c64_i32_645 : BitVec 32 := 64#32
  let v1651 : BitVec 32 := Scalar.addi c0_i32_644 c64_i32_645
  let c1_i32_646 : BitVec 32 := 1#32
  ⟨c0_i32_644, v1651, c1_i32_646⟩
def k0_mult7 (k0_t7 : Fin k0_t7_loop.trips) : BitVec 32 :=
  let c0_i32_644 : BitVec 32 := 0#32
  let c1_i32_646 : BitVec 32 := 1#32
  let arg23 : BitVec 32 := Scf.iv c0_i32_644 c1_i32_646 k0_t7
  let c128_i32_677 : BitVec 32 := 128#32
  let v1705 : BitVec 32 := Scalar.muli arg23 c128_i32_677
  v1705
def k0_off14 (k0_t7 : Fin k0_t7_loop.trips) : Fin 4 → Nat :=
  let c6 : Index := 6#32
  let c0_678 : Index := 0#32
  let c0_679 : Index := 0#32
  let c0_i32_644 : BitVec 32 := 0#32
  let c1_i32_646 : BitVec 32 := 1#32
  let arg23 : BitVec 32 := Scf.iv c0_i32_644 c1_i32_646 k0_t7
  let c128_i32_677 : BitVec 32 := 128#32
  let v1705 : BitVec 32 := Scalar.muli arg23 c128_i32_677
  let v1706 : BitVec 32 := v1705
  let v1707 : Index := Scalar.indexCast v1706
  ![6, 0, 0, v1707.toNat]
@[reducible] def k0_t8_loop : Scf.Loop 32 :=
  let c0_i32_663 : BitVec 32 := 0#32
  let c64_i32_664 : BitVec 32 := 64#32
  let v1685 : BitVec 32 := Scalar.addi c0_i32_663 c64_i32_664
  let c1_i32_665 : BitVec 32 := 1#32
  ⟨c0_i32_663, v1685, c1_i32_665⟩
def k0_mult8 (k0_t8 : Fin k0_t8_loop.trips) : BitVec 32 :=
  let c0_i32_663 : BitVec 32 := 0#32
  let c1_i32_665 : BitVec 32 := 1#32
  let arg23 : BitVec 32 := Scf.iv c0_i32_663 c1_i32_665 k0_t8
  let c128_i32_677 : BitVec 32 := 128#32
  let v1705 : BitVec 32 := Scalar.muli arg23 c128_i32_677
  v1705
def k0_off15 (k0_t8 : Fin k0_t8_loop.trips) : Fin 4 → Nat :=
  let c7 : Index := 7#32
  let c0_678 : Index := 0#32
  let c0_679 : Index := 0#32
  let c0_i32_663 : BitVec 32 := 0#32
  let c1_i32_665 : BitVec 32 := 1#32
  let arg23 : BitVec 32 := Scf.iv c0_i32_663 c1_i32_665 k0_t8
  let c128_i32_677 : BitVec 32 := 128#32
  let v1705 : BitVec 32 := Scalar.muli arg23 c128_i32_677
  let v1706 : BitVec 32 := v1705
  let v1707 : Index := Scalar.indexCast v1706
  ![7, 0, 0, v1707.toNat]
def k0_off16 (i : grid0.Coords) : Fin 3 → Nat :=
  let c0_130 : Index := 0#32
  let arg0 : BitVec 32 := BitVec.ofNat 32 (i 0).val
  let c8_i32 : BitVec 32 := 8#32
  let v0 : BitVec 32 := Scalar.muli arg0 c8_i32
  let v296 : Index := Scalar.indexCast v0
  let c0_131 : Index := 0#32
  ![0, v296.toNat, 0]
def k0_off17 (i : grid0.Coords) (c0_i32_143 : BitVec 32) : Fin 3 → Nat :=
  let c0_145 : Index := 0#32
  let arg0 : BitVec 32 := BitVec.ofNat 32 (i 0).val
  let c8_i32 : BitVec 32 := 8#32
  let v0 : BitVec 32 := Scalar.muli arg0 c8_i32
  let v335 : BitVec 32 := Scalar.addi v0 c0_i32_143
  let c8_i32_144 : BitVec 32 := 8#32
  let v336 : BitVec 32 := Scalar.muli v335 c8_i32_144
  let v337 : Index := Scalar.indexCast v336
  let c0_146 : Index := 0#32
  ![0, v337.toNat, 0]
def k0_off18 (i : grid0.Coords) (c0_i32_143 : BitVec 32) : Fin 3 → Nat :=
  let c1 : Index := 1#32
  let arg0 : BitVec 32 := BitVec.ofNat 32 (i 0).val
  let c8_i32 : BitVec 32 := 8#32
  let v0 : BitVec 32 := Scalar.muli arg0 c8_i32
  let v335 : BitVec 32 := Scalar.addi v0 c0_i32_143
  let c8_i32_144 : BitVec 32 := 8#32
  let v336 : BitVec 32 := Scalar.muli v335 c8_i32_144
  let v340 : Index := Scalar.indexCast v336
  let c0_147 : Index := 0#32
  ![1, v340.toNat, 0]
def k0_off19 (i : grid0.Coords) (c0_i32_157 : BitVec 32) : Fin 2 → Nat :=
  let arg0 : BitVec 32 := BitVec.ofNat 32 (i 0).val
  let c8_i32 : BitVec 32 := 8#32
  let v0 : BitVec 32 := Scalar.muli arg0 c8_i32
  let v374 : BitVec 32 := Scalar.addi v0 c0_i32_157
  let v375 : Index := Scalar.indexCast v374
  let c0_158 : Index := 0#32
  ![v375.toNat, 0]
def k0_off20 (i : grid0.Coords) (c0_i32_166 : BitVec 32) : Fin 2 → Nat :=
  let arg0 : BitVec 32 := BitVec.ofNat 32 (i 0).val
  let c8_i32 : BitVec 32 := 8#32
  let v0 : BitVec 32 := Scalar.muli arg0 c8_i32
  let v406 : BitVec 32 := Scalar.addi v0 c0_i32_166
  let v407 : Index := Scalar.indexCast v406
  let c0_167 : Index := 0#32
  ![v407.toNat, 0]
def k0_off21 (i : grid0.Coords) (c0_i32_186 : BitVec 32) : Fin 2 → Nat :=
  let arg0 : BitVec 32 := BitVec.ofNat 32 (i 0).val
  let c8_i32 : BitVec 32 := 8#32
  let v0 : BitVec 32 := Scalar.muli arg0 c8_i32
  let v465 : BitVec 32 := Scalar.addi v0 c0_i32_186
  let c8_i32_187 : BitVec 32 := 8#32
  let v466 : BitVec 32 := Scalar.muli v465 c8_i32_187
  let v467 : Index := Scalar.indexCast v466
  let c0_188 : Index := 0#32
  ![v467.toNat, 0]
def k0_cond3 (i : grid0.Coords) : BitVec 1 :=
  let arg0 : BitVec 32 := BitVec.ofNat 32 (i 0).val
  let c15_i32 : BitVec 32 := 15#32
  let v1430 : BitVec 1 := Scalar.cmpi .eq arg0 c15_i32
  let v1431 : BitVec 32 := Scalar.extui v1430
  let c0_i32_525 : BitVec 32 := 0#32
  let v1432 : BitVec 1 := Scalar.cmpi .ne v1431 c0_i32_525
  v1432

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_8 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_14 (i : grid0.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_16 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

abbrev stage0_0 : Fin 1 → Memref sig .tc .vmem S128x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1x32x8192 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1x32x8192 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x1x32x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S192x1x32x128 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x192x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceDIdeal.lean ====
abbrev S32x16 : Shape := ⟨2, ![32, 16]⟩
abbrev S128x256 : Shape := ⟨2, ![128, 256]⟩
abbrev S4x1024x64 : Shape := ⟨3, ![4, 1024, 64]⟩
abbrev S4x128x64 : Shape := ⟨3, ![4, 128, 64]⟩
abbrev S128x4x32x8192 : Shape := ⟨4, ![128, 4, 32, 8192]⟩
abbrev S128x2048 : Shape := ⟨2, ![128, 2048]⟩
abbrev S192x4x32x128 : Shape := ⟨4, ![192, 4, 32, 128]⟩
abbrev S4x192x128 : Shape := ⟨3, ![4, 192, 128]⟩
abbrev S128x192 : Shape := ⟨2, ![128, 192]⟩
abbrev S128x1x192 : Shape := ⟨3, ![128, 1, 192]⟩
abbrev S128x1x32x8192 : Shape := ⟨4, ![128, 1, 32, 8192]⟩
abbrev S128x32x8192 : Shape := ⟨3, ![128, 32, 8192]⟩
abbrev S_ : Shape := ⟨0, ![]⟩
abbrev S128x192x1 : Shape := ⟨3, ![128, 192, 1]⟩
abbrev S128x32x192 : Shape := ⟨3, ![128, 32, 192]⟩
abbrev S1x1024x64 : Shape := ⟨3, ![1, 1024, 64]⟩
abbrev S1024x64 : Shape := ⟨2, ![1024, 64]⟩
abbrev S128x8x64 : Shape := ⟨3, ![128, 8, 64]⟩
abbrev S128x8x32 : Shape := ⟨3, ![128, 8, 32]⟩
abbrev S128x8x192 : Shape := ⟨3, ![128, 8, 192]⟩
abbrev S1x128x64 : Shape := ⟨3, ![1, 128, 64]⟩
abbrev S128x64 : Shape := ⟨2, ![128, 64]⟩
abbrev S128x8 : Shape := ⟨2, ![128, 8]⟩
abbrev S128x8x1 : Shape := ⟨3, ![128, 8, 1]⟩
abbrev S128x8x193 : Shape := ⟨3, ![128, 8, 193]⟩
abbrev S128x1x64 : Shape := ⟨3, ![128, 1, 64]⟩
abbrev S128x8x32x1 : Shape := ⟨4, ![128, 8, 32, 1]⟩
abbrev S128x8x32x2 : Shape := ⟨4, ![128, 8, 32, 2]⟩
abbrev S128x1x8x64 : Shape := ⟨4, ![128, 1, 8, 64]⟩
abbrev S128x4x8x64 : Shape := ⟨4, ![128, 4, 8, 64]⟩
abbrev S192x32x128 : Shape := ⟨3, ![192, 32, 128]⟩
abbrev S192x1x32x128 : Shape := ⟨4, ![192, 1, 32, 128]⟩
abbrev S192x128 : Shape := ⟨2, ![192, 128]⟩
abbrev S1x192x128 : Shape := ⟨3, ![1, 192, 128]⟩

abbrev nBuf : Space → Nat
  | .hbm => 157
  | .vmem => 0
  | .smem => 0
  | _ => 0

abbrev hbmTy0_0 (i : Nat) : BufTy := match i % 128 with
  | 0 => ⟨S32x16, .i32⟩
  | 1 => ⟨S128x256, .i32⟩
  | 2 => ⟨S128x256, .f32⟩
  | 3 => ⟨S128x256, .f32⟩
  | 4 => ⟨S128x256, .f32⟩
  | 5 => ⟨S4x1024x64, .bf16⟩
  | 6 => ⟨S4x128x64, .bf16⟩
  | 7 => ⟨S4x128x64, .bf16⟩
  | 8 => ⟨S128x4x32x8192, .i8⟩
  | 9 => ⟨S128x4x32x8192, .i8⟩
  | 10 => ⟨S128x2048, .bf16⟩
  | 11 => ⟨S192x4x32x128, .i8⟩
  | 12 => ⟨S192x4x32x128, .i8⟩
  | 13 => ⟨S4x192x128, .f32⟩
  | 14 => ⟨S128x192, .i32⟩
  | 15 => ⟨S128x1x192, .i32⟩
  | 16 => ⟨S128x1x32x8192, .i8⟩
  | 17 => ⟨S128x32x8192, .i8⟩
  | 18 => ⟨S_, .i32⟩
  | 19 => ⟨S128x1x192, .i32⟩
  | 20 => ⟨S128x1x192, .i1⟩
  | 21 => ⟨S_, .i32⟩
  | 22 => ⟨S128x1x192, .i32⟩
  | 23 => ⟨S128x1x192, .i32⟩
  | 24 => ⟨S128x1x192, .i32⟩
  | 25 => ⟨S128x192x1, .i32⟩
  | 26 => ⟨S128x32x192, .i8⟩
  | 27 => ⟨S128x1x32x8192, .i8⟩
  | 28 => ⟨S128x32x8192, .i8⟩
  | 29 => ⟨S_, .i32⟩
  | 30 => ⟨S128x1x192, .i32⟩
  | 31 => ⟨S128x1x192, .i1⟩
  | 32 => ⟨S_, .i32⟩
  | 33 => ⟨S128x1x192, .i32⟩
  | 34 => ⟨S128x1x192, .i32⟩
  | 35 => ⟨S128x1x192, .i32⟩
  | 36 => ⟨S128x192x1, .i32⟩
  | 37 => ⟨S128x32x192, .i8⟩
  | 38 => ⟨S1x1024x64, .bf16⟩
  | 39 => ⟨S1024x64, .bf16⟩
  | 40 => ⟨S128x8x64, .bf16⟩
  | 41 => ⟨S128x32x192, .i32⟩
  | 42 => ⟨S_, .i32⟩
  | 43 => ⟨S128x32x192, .i32⟩
  | 44 => ⟨S128x32x192, .i32⟩
  | 45 => ⟨S_, .i32⟩
  | 46 => ⟨S128x32x192, .i32⟩
  | 47 => ⟨S128x32x192, .i32⟩
  | 48 => ⟨S_, .i32⟩
  | 49 => ⟨S128x32x192, .i32⟩
  | 50 => ⟨S128x32x192, .i32⟩
  | 51 => ⟨S_, .i32⟩
  | 52 => ⟨S128x32x192, .i32⟩
  | 53 => ⟨S128x32x192, .i32⟩
  | 54 => ⟨S_, .i32⟩
  | 55 => ⟨S128x32x192, .i32⟩
  | 56 => ⟨S128x32x192, .i32⟩
  | 57 => ⟨S_, .i32⟩
  | 58 => ⟨S128x32x192, .i32⟩
  | 59 => ⟨S128x32x192, .i32⟩
  | 60 => ⟨S128x32x192, .bf16⟩
  | 61 => ⟨S128x32x192, .bf16⟩
  | 62 => ⟨S128x8x32, .bf16⟩
  | 63 => ⟨S128x8x192, .f32⟩
  | 64 => ⟨S128x8x32, .bf16⟩
  | 65 => ⟨S128x8x192, .f32⟩
  | 66 => ⟨S128x8x192, .f32⟩
  | 67 => ⟨S128x192, .f32⟩
  | 68 => ⟨S128x1x192, .f32⟩
  | 69 => ⟨S_, .f32⟩
  | 70 => ⟨S128x1x192, .f32⟩
  | 71 => ⟨S128x1x192, .f32⟩
  | 72 => ⟨S128x8x192, .f32⟩
  | 73 => ⟨S128x8x192, .f32⟩
  | 74 => ⟨S1x128x64, .bf16⟩
  | 75 => ⟨S128x64, .bf16⟩
  | 76 => ⟨S128x8, .f32⟩
  | 77 => ⟨S128x8x1, .f32⟩
  | 78 => ⟨S_, .f32⟩
  | 79 => ⟨S128x8x1, .f32⟩
  | 80 => ⟨S128x8x1, .f32⟩
  | 81 => ⟨S128x8x193, .f32⟩
  | 82 => ⟨S_, .f32⟩
  | 83 => ⟨S128x8, .f32⟩
  | 84 => ⟨S_, .f32⟩
  | 85 => ⟨S128x8, .f32⟩
  | 86 => ⟨S128x8, .f32⟩
  | 87 => ⟨S128x8x1, .f32⟩
  | 88 => ⟨S128x8x193, .f32⟩
  | 89 => ⟨S128x8x193, .f32⟩
  | 90 => ⟨S128x8x193, .f32⟩
  | 91 => ⟨S_, .f32⟩
  | 92 => ⟨S128x8, .f32⟩
  | 93 => ⟨S128x8x1, .f32⟩
  | 94 => ⟨S128x8x193, .f32⟩
  | 95 => ⟨S128x8x193, .f32⟩
  | 96 => ⟨S128x8x192, .f32⟩
  | 97 => ⟨S128x8x1, .f32⟩
  | 98 => ⟨S128x192, .f32⟩
  | 99 => ⟨S128x1x192, .f32⟩
  | 100 => ⟨S128x8x192, .f32⟩
  | 101 => ⟨S128x8x192, .f32⟩
  | 102 => ⟨S128x8x192, .bf16⟩
  | 103 => ⟨S128x32x192, .i32⟩
  | 104 => ⟨S_, .i32⟩
  | 105 => ⟨S128x32x192, .i32⟩
  | 106 => ⟨S128x32x192, .i32⟩
  | 107 => ⟨S_, .i32⟩
  | 108 => ⟨S128x32x192, .i32⟩
  | 109 => ⟨S128x32x192, .i32⟩
  | 110 => ⟨S_, .i32⟩
  | 111 => ⟨S128x32x192, .i32⟩
  | 112 => ⟨S128x32x192, .i32⟩
  | 113 => ⟨S_, .i32⟩
  | 114 => ⟨S128x32x192, .i32⟩
  | 115 => ⟨S128x32x192, .i32⟩
  | 116 => ⟨S_, .i32⟩
  | 117 => ⟨S128x32x192, .i32⟩
  | 118 => ⟨S128x32x192, .i32⟩
  | 119 => ⟨S_, .i32⟩
  | 120 => ⟨S128x32x192, .i32⟩
  | 121 => ⟨S128x32x192, .i32⟩
  | 122 => ⟨S128x32x192, .bf16⟩
  | 123 => ⟨S128x32x192, .bf16⟩
  | 124 => ⟨S128x8x32, .f32⟩
  | 125 => ⟨S128x8x32, .f32⟩
  | 126 => ⟨S128x8x1, .bf16⟩
  | 127 => ⟨S128x8x1, .f32⟩
  | _ => ⟨S32x16, .i32⟩

abbrev hbmTy0_1 (i : Nat) : BufTy := match i % 128 with
  | 0 => ⟨S1x128x64, .bf16⟩
  | 1 => ⟨S128x64, .bf16⟩
  | 2 => ⟨S128x1x64, .bf16⟩
  | 3 => ⟨S128x1x64, .f32⟩
  | 4 => ⟨S128x8x64, .f32⟩
  | 5 => ⟨S128x8x64, .f32⟩
  | 6 => ⟨S128x8x64, .f32⟩
  | 7 => ⟨S128x8x32x1, .f32⟩
  | 8 => ⟨S128x8x32x1, .f32⟩
  | 9 => ⟨S128x8x32x2, .f32⟩
  | 10 => ⟨S128x8x64, .f32⟩
  | 11 => ⟨S128x8x64, .f32⟩
  | 12 => ⟨S128x8x64, .bf16⟩
  | 13 => ⟨S128x192, .f32⟩
  | 14 => ⟨S_, .f32⟩
  | 15 => ⟨S128x192, .f32⟩
  | 16 => ⟨S128x192, .f32⟩
  | 17 => ⟨S128x1x8x64, .bf16⟩
  | 18 => ⟨S128x4x8x64, .bf16⟩
  | 19 => ⟨S128x2048, .bf16⟩
  | 20 => ⟨S192x32x128, .i8⟩
  | 21 => ⟨S192x1x32x128, .i8⟩
  | 22 => ⟨S192x4x32x128, .i8⟩
  | 23 => ⟨S192x32x128, .i8⟩
  | 24 => ⟨S192x1x32x128, .i8⟩
  | 25 => ⟨S192x4x32x128, .i8⟩
  | 26 => ⟨S192x128, .f32⟩
  | 27 => ⟨S1x192x128, .f32⟩
  | 28 => ⟨S4x192x128, .f32⟩
  | _ => ⟨S32x16, .i32⟩

abbrev hbmTy (i : Nat) : BufTy := match i / 128 with
  | 0 => hbmTy0_0 i
  | 1 => hbmTy0_1 i
  | _ => ⟨S32x16, .i32⟩

abbrev bufTy : (tb : Table) → Fin (tcTables nBuf tb) → BufTy
  | .hbm, ⟨i, _⟩ => hbmTy i
  | _, _ => ⟨S32x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_c : Ref sig .tc := ⟨.hbm, 42, rfl⟩
abbrev main_v12 : Ref sig .tc := ⟨.hbm, 43, rfl⟩
abbrev main_v13 : Ref sig .tc := ⟨.hbm, 44, rfl⟩
abbrev main_c_0 : Ref sig .tc := ⟨.hbm, 45, rfl⟩
abbrev main_v14 : Ref sig .tc := ⟨.hbm, 46, rfl⟩
abbrev main_v15 : Ref sig .tc := ⟨.hbm, 47, rfl⟩
abbrev main_c_1 : Ref sig .tc := ⟨.hbm, 48, rfl⟩
abbrev main_v16 : Ref sig .tc := ⟨.hbm, 49, rfl⟩
abbrev main_v17 : Ref sig .tc := ⟨.hbm, 50, rfl⟩
abbrev main_c_2 : Ref sig .tc := ⟨.hbm, 51, rfl⟩
abbrev main_v18 : Ref sig .tc := ⟨.hbm, 52, rfl⟩
abbrev main_v19 : Ref sig .tc := ⟨.hbm, 53, rfl⟩
abbrev main_c_3 : Ref sig .tc := ⟨.hbm, 54, rfl⟩
abbrev main_v20 : Ref sig .tc := ⟨.hbm, 55, rfl⟩
abbrev main_v21 : Ref sig .tc := ⟨.hbm, 56, rfl⟩
abbrev main_c_4 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_5 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_6 : Ref sig .tc := ⟨.hbm, 82, rfl⟩
abbrev main_v44 : Ref sig .tc := ⟨.hbm, 83, rfl⟩
abbrev main_cst_7 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_8 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_9 : Ref sig .tc := ⟨.hbm, 104, rfl⟩
abbrev main_v63 : Ref sig .tc := ⟨.hbm, 105, rfl⟩
abbrev main_v64 : Ref sig .tc := ⟨.hbm, 106, rfl⟩
abbrev main_c_10 : Ref sig .tc := ⟨.hbm, 107, rfl⟩
abbrev main_v65 : Ref sig .tc := ⟨.hbm, 108, rfl⟩
abbrev main_v66 : Ref sig .tc := ⟨.hbm, 109, rfl⟩
abbrev main_c_11 : Ref sig .tc := ⟨.hbm, 110, rfl⟩
abbrev main_v67 : Ref sig .tc := ⟨.hbm, 111, rfl⟩
abbrev main_v68 : Ref sig .tc := ⟨.hbm, 112, rfl⟩
abbrev main_c_12 : Ref sig .tc := ⟨.hbm, 113, rfl⟩
abbrev main_v69 : Ref sig .tc := ⟨.hbm, 114, rfl⟩
abbrev main_v70 : Ref sig .tc := ⟨.hbm, 115, rfl⟩
abbrev main_c_13 : Ref sig .tc := ⟨.hbm, 116, rfl⟩
abbrev main_v71 : Ref sig .tc := ⟨.hbm, 117, rfl⟩
abbrev main_v72 : Ref sig .tc := ⟨.hbm, 118, rfl⟩
abbrev main_c_14 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_15 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩

abbrev nD : Nat := 1
abbrev τ : Topo := Topo.v7x

variable {F : FTy → Type} [FloatOps F]
-- ==== Proof.Compact.lean ====
module

public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.Pipeline.Regions

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ₀ : Labels} {F : FTy → Type} [FloatOps F]

/-- A piece of the kernel's body. -/
abbrev PR (nD : ℕ) (τ : Topo) (sig : RefSig) (Λ₀ : Labels) (F : FTy → Type) [FloatOps F] (α : Type) := Prog (TpuEff nD τ sig (Elt F) Λ₀ .tc) α

/-- A key or value window: the eight rows' packed codes. -/
abbrev KRef (sig : RefSig) := Memref sig .tc .vmem S8x1x32x8192 .i8
/-- A scratch of gathered words. -/
abbrev WRef (sig : RefSig) := Memref sig .tc .vmem S2x1024x128 .i32

/-- Where tile `j` of row `r` starts. -/
def tOff (r : Fin 8) (j : ℕ) : Fin 4 → Nat := ![r.val, 0, 0, 128 * (j % 64)]
theorem tOff_inb (r : Fin 8) (j : ℕ) : ∀ a, tOff r j a + S1x1x32x128.size a ≤ S8x1x32x8192.size a := by
  have h1 := r.isLt
  have h2 : j % 64 < 64 := Nat.mod_lt _ (by decide)
  intro a
  match a with
  | 0 => show r.val + 1 ≤ 8; omega
  | 1 => show 0 + 1 ≤ 1; omega
  | 2 => show 0 + 32 ≤ 32; omega
  | 3 => show 128 * (j % 64) + 128 ≤ 8192; omega

/-- One tile's words. -/
def tileWords (x : Vec F S1x1x32x128 .i8) : IVec S8x128 32 :=
  bitcast S8x128 32 (shapeCast S32x128 x shapeCasts_S1x1x32x128_S32x128 : IVec S32x128 8) bitcasts_S32x128_w8_S8x128_w32

/-- The load of tile `j` of row `r`. -/
def ldTile (k : KRef sig) (r : Fin 8) (j : ℕ) : PR nD τ sig Λ₀ F (IVec S8x128 32) := do
  let x : Vec F S1x1x32x128 .i8 ← Prog.lift (.load k (Rect.unit (s := S8x1x32x8192) (tOff r j) S1x1x32x128.size (tOff_inb r j)).toLoadRect (View.loadsAt_vmem h_S1x1x32x128))
  pure (tileWords x)

/-- The lanes `idx` of `x`, as the kernel takes them. -/
def takeL (x idx : IVec S8x128 32) : IVec S8x128 32 :=
  dynamicGather 1 x (shapeCast S8x128 (shapeCast S8x128x1 (select (cmpi .slt idx (broadcast S8x128 (0#32 : BitVec 32))) (addi idx (broadcast S8x128 (128#32 : BitVec 32))) idx) shapeCasts_S8x128_S8x128x1) shapeCasts_S8x128x1_S8x128)

/-- Take tile `j`'s lanes where the tile number is `j`. -/
def upd (lane tile : IVec S8x128 32) (j : BitVec 32) (x acc : IVec S8x128 32) : IVec S8x128 32 :=
  select (cmpi .eq tile (broadcast S8x128 j)) (takeL x lane) acc

/-- `n` steps from number `j`. -/
def tileRun {S : Type} (step : ℕ → S → PR nD τ sig Λ₀ F S) (n : ℕ) : ℕ → S → PR nD τ sig Λ₀ F S :=
  Nat.rec (motive := fun _ => ℕ → S → PR nD τ sig Λ₀ F S) (fun _ s => pure s) (fun _ ih j s => step j s >>= ih (j + 1)) n

def evStep (k v : KRef sig) (r : Fin 8) (lane tile : IVec S8x128 32) (j : ℕ) (s : IVec S8x128 32 × IVec S8x128 32) :
    PR nD τ sig Λ₀ F (IVec S8x128 32 × IVec S8x128 32) := do
  let kt ← ldTile k r j
  let vt ← ldTile v r j
  pure (upd lane tile (BitVec.ofNat 32 j) kt s.1, upd lane tile (BitVec.ofNat 32 j) vt s.2)

/-- The gathered words to the scratch. -/
def put (kw vw : WRef sig) (o0 o1 : Fin 3 → Nat) (h0 : ∀ a, o0 a + S1x8x128.size a ≤ S2x1024x128.size a)
    (h1 : ∀ a, o1 a + S1x8x128.size a ≤ S2x1024x128.size a) (k0 k1 v0 v1 : IVec S8x128 32) : PR nD τ sig Λ₀ F PUnit := do
  let _ : Vec F S1x8x128 .i32 ← Prog.lift (.load kw (Rect.unit (s := S2x1024x128) o0 S1x8x128.size h0).toLoadRect (View.loadsAt_vmem h_S1x8x128))
  Prog.lift (.store kw (Rect.unit (s := S2x1024x128) o0 S1x8x128.size h0) (shapeCast S1x8x128 k0 shapeCasts_S8x128_S1x8x128 : IVec S1x8x128 32) Finset.univ (View.stores_vmem_bits_univ h_S1x8x128 rfl) (.inl rfl))
  let _ : Vec F S1x8x128 .i32 ← Prog.lift (.load kw (Rect.unit (s := S2x1024x128) o1 S1x8x128.size h1).toLoadRect (View.loadsAt_vmem h_S1x8x128))
  Prog.lift (.store kw (Rect.unit (s := S2x1024x128) o1 S1x8x128.size h1) (shapeCast S1x8x128 k1 shapeCasts_S8x128_S1x8x128 : IVec S1x8x128 32) Finset.univ (View.stores_vmem_bits_univ h_S1x8x128 rfl) (.inl rfl))
  let _ : Vec F S1x8x128 .i32 ← Prog.lift (.load vw (Rect.unit (s := S2x1024x128) o0 S1x8x128.size h0).toLoadRect (View.loadsAt_vmem h_S1x8x128))
  Prog.lift (.store vw (Rect.unit (s := S2x1024x128) o0 S1x8x128.size h0) (shapeCast S1x8x128 v0 shapeCasts_S8x128_S1x8x128 : IVec S1x8x128 32) Finset.univ (View.stores_vmem_bits_univ h_S1x8x128 rfl) (.inl rfl))
  let _ : Vec F S1x8x128 .i32 ← Prog.lift (.load vw (Rect.unit (s := S2x1024x128) o1 S1x8x128.size h1).toLoadRect (View.loadsAt_vmem h_S1x8x128))
  Prog.lift (.store vw (Rect.unit (s := S2x1024x128) o1 S1x8x128.size h1) (shapeCast S1x8x128 v1 shapeCasts_S8x128_S1x8x128 : IVec S1x8x128 32) Finset.univ (View.stores_vmem_bits_univ h_S1x8x128 rfl) (.inl rfl))

/-- The row's positions on every sublane. -/
def rowPos (p : Vec F S1x256 .i32) : IVec S8x256 32 :=
  broadcastTo S8x256 (shapeCast S1x256 p shapeCasts_S1x256_S1x256 : IVec S1x256 32) broadcasts_S1x256_S8x256
def lanes (p : Vec F S1x256 .i32) : IVec S8x256 32 := andi (rowPos p) (broadcast S8x256 (127#32 : BitVec 32))
def tiles (p : Vec F S1x256 .i32) : IVec S8x256 32 := shrui (rowPos p) (broadcast S8x256 (7#32 : BitVec 32))
def lo (x : IVec S8x256 32) : IVec S8x128 32 := extractStridedSlice S8x128 ![0, 0] x slices_S8x256_o0_0_S8x128
def hi (x : IVec S8x256 32) : IVec S8x128 32 := extractStridedSlice S8x128 ![0, 128] x slices_S8x256_o0_128_S8x128

def zero8 : IVec S8x128 32 := broadcast S8x128 (0#32 : BitVec 32)

/-- One row of the branch whose split lies in `[64, 128]`. -/
def evRow (i : grid0.Coords) (pos : Memref sig .tc .vmem S128x256 .i32) (k v : KRef sig) (kw vw : WRef sig) (r : Fin 8) (io : IVec S8x128 32) (c : Elt F .i32) : PR nD τ sig Λ₀ F PUnit := do
  let p : Vec F S1x256 .i32 ← Prog.lift (.load pos (Rect.unit (s := S128x256) (k0_off2 i (BitVec.ofNat 32 r.val)) S1x256.size (k0_off2_inb i r)).toLoadRect (View.loadsAt_vmem h_S1x256))
  let low : IVec S8x128 1 := cmpi .slt io (broadcast S8x128 c)
  let a ← tileRun (evStep k v r (lo (lanes p)) (lo (tiles p))) 32 0 (zero8, zero8)
  let b ← tileRun (evStep k v r (select low (hi (lanes p)) (lo (lanes p))) (select low (hi (tiles p)) (lo (tiles p)))) 32 32 (zero8, zero8)
  put kw vw (k0_off3 i (BitVec.ofNat 32 r.val)) (k0_off4 i (BitVec.ofNat 32 r.val)) (k0_off3_inb i r) (k0_off4_inb i r)
    (select low a.1 b.1) b.1 (select low a.2 b.2) b.2

def evAll (i : grid0.Coords) (pos : Memref sig .tc .vmem S128x256 .i32) (k v : KRef sig) (kw vw : WRef sig) (io : IVec S8x128 32) (c : Fin 8 → Elt F .i32) : PR nD τ sig Λ₀ F PUnit := do
  evRow i pos k v kw vw 0 io (c 0)
  evRow i pos k v kw vw 1 io (c 1)
  evRow i pos k v kw vw 2 io (c 2)
  evRow i pos k v kw vw 3 io (c 3)
  evRow i pos k v kw vw 4 io (c 4)
  evRow i pos k v kw vw 5 io (c 5)
  evRow i pos k v kw vw 6 io (c 6)
  evRow i pos k v kw vw 7 io (c 7)

def odStep (k v : KRef sig) (r : Fin 8) (l0 t0 l1 t1 : IVec S8x128 32) (j : ℕ) (s : IVec S8x128 32 × IVec S8x128 32 × IVec S8x128 32 × IVec S8x128 32) :
    PR nD τ sig Λ₀ F (IVec S8x128 32 × IVec S8x128 32 × IVec S8x128 32 × IVec S8x128 32) := do
  let kt ← ldTile k r j
  let vt ← ldTile v r j
  pure (upd l0 t0 (BitVec.ofNat 32 j) kt s.1, upd l1 t1 (BitVec.ofNat 32 j) kt s.2.1, upd l0 t0 (BitVec.ofNat 32 j) vt s.2.2.1, upd l1 t1 (BitVec.ofNat 32 j) vt s.2.2.2)

/-- One row of the branch whose split lies anywhere. -/
def odRow (i : grid0.Coords) (pos : Memref sig .tc .vmem S128x256 .i32) (k v : KRef sig) (kw vw : WRef sig) (r : Fin 8) : PR nD τ sig Λ₀ F PUnit := do
  let p : Vec F S1x256 .i32 ← Prog.lift (.load pos (Rect.unit (s := S128x256) (k0_off5 i (BitVec.ofNat 32 r.val)) S1x256.size (k0_off5_inb i r)).toLoadRect (View.loadsAt_vmem h_S1x256))
  let a ← tileRun (odStep k v r (lo (lanes p)) (lo (tiles p)) (hi (lanes p)) (hi (tiles p))) 64 0 (zero8, zero8, zero8, zero8)
  put kw vw (k0_off7 i (BitVec.ofNat 32 r.val)) (k0_off8 i (BitVec.ofNat 32 r.val)) (k0_off7_inb i r) (k0_off8_inb i r)
    a.1 a.2.1 a.2.2.1 a.2.2.2

def odAll (i : grid0.Coords) (pos : Memref sig .tc .vmem S128x256 .i32) (k v : KRef sig) (kw vw : WRef sig) : PR nD τ sig Λ₀ F PUnit := do
  odRow i pos k v kw vw 0
  odRow i pos k v kw vw 1
  odRow i pos k v kw vw 2
  odRow i pos k v kw vw 3
  odRow i pos k v kw vw 4
  odRow i pos k v kw vw 5
  odRow i pos k v kw vw 6
  odRow i pos k v kw vw 7

/-- A counted loop as its trips. -/
def forX {w : ℕ} {E : Type → Type} {σ : Type} (l : Scf.Loop w) (_ : l.OK) (init : σ) (body : Fin l.trips → σ → Prog E σ) : Prog E σ :=
  Scf.forFrom body (List.finRange l.trips) init
theorem loop_eq : @Scf.Loop.for = @forX := by
  funext w E σ l h init body
  exact Scf.for_eq _ _ _ _ _ _

end Cert.Kernel.Hand
-- ==== Proof.Compact2.lean ====
module

public import proofs.«01_k».proof.Proof.Gen.Kernel.Skeleton
public import proofs.«01_k».proof.Proof.Compact
public import Idealize.ShloMosaic.Lib.Exec
public import Idealize.ShloMosaic.Lib.Tactic
public import Idealize.ShloMosaic.Lib.Pipeline.Kit
public import Idealize.ShloMosaic.Lib.Pipeline.Regions

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option pp.maxSteps 200
variable {nD : ℕ} {τ : Topo} {sig : RefSig} {Λ₀ : Labels} {F : FTy → Type} [FloatOps F]

/-- Sixty-four codes of every kept position, one row per nibble, out of eight rows of words. -/
def nibShift : IVec S64x192 32 :=
  let a : IVec S64x192 32 := iota .tc S64x192 32 [0] iota_S64x192_d0_w32
  let e : BitVec 32 := Scalar.select (Scalar.cmpi .eq (8#32 : BitVec 32) 0#32) 1#32 8#32
  let r : IVec S64x192 32 := remsi a (broadcast S64x192 e)
  let neg : IVec S64x192 1 := andi (xori (cmpi .slt r (broadcast S64x192 (0#32 : BitVec 32))) (broadcastTo S64x192 (broadcast S64x192 (Scalar.cmpi .slt e 0#32) : IVec S64x192 1) broadcasts_S64x192_S64x192)) (cmpi .ne r (broadcast S64x192 (0#32 : BitVec 32)))
  subi (broadcast S64x192 (28#32 : BitVec 32)) (muli (broadcast S64x192 (4#32 : BitVec 32)) (select neg (addi r (broadcast S64x192 e)) r))

def nibbles (a : Vec F S1x8x128 .i32) (b : Vec F S1x8x64 .i32) : IVec S64x192 32 :=
  let w : IVec S8x192 32 := concatenate S8x192 1 [⟨S8x128, (shapeCast S8x128 a shapeCasts_S1x8x128_S8x128 : IVec S8x128 32)⟩, ⟨S8x64, (shapeCast S8x64 b shapeCasts_S1x8x64_S8x64 : IVec S8x64 32)⟩] concatenates_S8x128_S8x64_S8x192_d1
  let u : IVec S64x192 32 := shapeCast S64x192 (broadcastTo S8x8x192 (shapeCast S8x1x192 (shapeCast S8x1x192 w shapeCasts_S8x192_S8x1x192 : IVec S8x1x192 32) shapeCasts_S8x1x192_S8x1x192 : IVec S8x1x192 32) broadcasts_S8x1x192_S8x8x192 : IVec S8x8x192 32) shapeCasts_S8x8x192_S64x192
  shrsi (shli u nibShift) (broadcast S64x192 (28#32 : BitVec 32))

def codesOf (a : Vec F S1x8x128 .i32) (b : Vec F S1x8x64 .i32) : FVec F S64x192 .bf16 := sitofp .bf16 (nibbles a b)

/-- The new position's scores, one per query row. -/
def newScores (q : FVec F S64x64 .bf16) (kn : FVec F S8x64 .bf16) : FVec F S64x1 .f32 :=
  let s : FVec F S64x8 .f32 := matmul dot_S64x64_S8x64_S64x8_1_1_0_0_n_n none q kn (constant S64x8 .f32 0x00000000#32)
  let a : IVec S64x8 32 := iota .tc S64x8 32 [0] iota_S64x8_d0_w32
  let d : IVec S64x8 32 := divsi a (broadcast S64x8 (8#32 : BitVec 32))
  let sg : IVec S64x8 32 := subi (extui 32 (cmpi .sgt a (broadcast S64x8 (0#32 : BitVec 32)) : IVec S64x8 1) natLt_1_32) (extui 32 (cmpi .slt a (broadcast S64x8 (0#32 : BitVec 32)) : IVec S64x8 1) natLt_1_32)
  let s8 : BitVec 32 := Scalar.subi (Scalar.extui (Scalar.cmpi .sgt (8#32 : BitVec 32) 0#32)) (Scalar.extui (Scalar.cmpi .slt (8#32 : BitVec 32) 0#32))
  let c : IVec S64x8 1 := andi (cmpi .ne sg (broadcast S64x8 s8)) (cmpi .ne (remsi a (broadcast S64x8 (8#32 : BitVec 32))) (broadcast S64x8 (0#32 : BitVec 32)))
  let g : IVec S64x8 32 := select c (subi d (broadcast S64x8 (1#32 : BitVec 32))) d
  let own : IVec S64x8 1 := cmpi .eq g (iota .tc S64x8 32 [1] iota_S64x8_d1_w32)
  let m : FVec F S64x8 .f32 := select own s (broadcast S64x8 (Scalar.ofBits .f32 0x00000000#32 : F .f32))
  let z : FVec F S64 .f32 := multiReduction .add [1] S64 m 0x00000000#32 reduces_S64x8_S64 (.inl rfl) rfl
  shapeCast S64x1 z shapeCasts_S64_S64x1

theorem qSlices (r : Fin 8) : S64x64.Slices ![8 * r.val, 0] S8x64 := by
  revert r; decide
theorem sSlices (r : Fin 8) : S64x1.Slices ![8 * r.val, 0] S8x1 := by
  revert r; decide
theorem vSlices (r : Fin 8) : S8x64.Slices ![r.val, 0] S1x64 := by
  revert r; decide

/-- Scores of the kept positions, scaled. -/
def sOf (r : Fin 8) (q : FVec F S64x64 .bf16) (kc : FVec F S64x192 .bf16) (ks : Vec F S1x256 .f32) : FVec F S8x192 .f32 :=
  let q8 : FVec F S8x64 .bf16 := extractStridedSlice S8x64 ![8 * r.val, 0] q (qSlices r)
  let s : FVec F S8x192 .f32 := matmul dot_S8x64_S64x192_S8x192_1_0_0_1_n_n none q8 kc (constant S8x192 .f32 0x00000000#32)
  let sc : FVec F S1x192 .f32 := mulf (extractStridedSlice S1x192 ![0, 0] ks slices_S1x256_o0_0_S1x192) (broadcast S1x192 (Scalar.ofBits .f32 0x3E000000#32 : F .f32))
  mulf s (broadcastTo S8x192 sc broadcasts_S1x192_S8x192)
def snOf (r : Fin 8) (sn : FVec F S64x1 .f32) : FVec F S8x1 .f32 :=
  mulf (extractStridedSlice S8x1 ![8 * r.val, 0] sn (sSlices r)) (broadcast S8x1 (Scalar.ofBits .f32 0x3E000000#32 : F .f32))
def topOf (s : FVec F S8x192 .f32) (sn : FVec F S8x1 .f32) : FVec F S8x1 .f32 :=
  let z : FVec F S8 .f32 := multiReduction .maximumf [1] S8 s 0xFF800000#32 reduces_S8x192_S8 (.inl rfl) rfl
  maximumf (shapeCast S8x1 z shapeCasts_S8_S8x1) sn
def eOf (s : FVec F S8x192 .f32) (top : FVec F S8x1 .f32) : FVec F S8x192 .f32 :=
  exp (subf s (broadcastTo S8x192 top broadcasts_S8x1_S8x192))
def enOf (sn top : FVec F S8x1 .f32) : FVec F S8x1 .f32 := exp (subf sn top)
def normOf (e : FVec F S8x192 .f32) (en : FVec F S8x1 .f32) : FVec F S8x1 .f32 :=
  let z : FVec F S8 .f32 := multiReduction .add [1] S8 e 0x00000000#32 reduces_S8x192_S8 (.inl rfl) rfl
  addf (shapeCast S8x1 z shapeCasts_S8_S8x1) en
/-- The kept positions' weights. -/
def pOf (s : FVec F S8x192 .f32) (sn : FVec F S8x1 .f32) : FVec F S8x192 .f32 :=
  let e := eOf s (topOf s sn)
  divf e (broadcastTo S8x192 (normOf e (enOf sn (topOf s sn))) broadcasts_S8x1_S8x192)
/-- The new position's weight. -/
def pnOf (s : FVec F S8x192 .f32) (sn : FVec F S8x1 .f32) : FVec F S8x1 .f32 :=
  divf (enOf sn (topOf s sn)) (normOf (eOf s (topOf s sn)) (enOf sn (topOf s sn)))
/-- The kept positions' new scores. -/
def saOf (p : FVec F S8x192 .f32) (ss : Vec F S1x256 .f32) : FVec F S1x192 .f32 :=
  let z : FVec F S192 .f32 := multiReduction .add [0] S192 p 0x00000000#32 reduces_S8x192_S192 (.inl rfl) rfl
  addf (extractStridedSlice S1x192 ![0, 0] ss slices_S1x256_o0_0_S1x192) (shapeCast S1x192 z shapeCasts_S192_S1x192)
/-- The attention's output. -/
def oOf (r : Fin 8) (p : FVec F S8x192 .f32) (pn : FVec F S8x1 .f32) (vs : Vec F S1x256 .f32) (vc : FVec F S64x192 .bf16) (vn : FVec F S8x64 .bf16) : FVec F S8x64 .f32 :=
  let pv : FVec F S8x192 .bf16 := truncf .bf16 (mulf p (broadcastTo S8x192 (extractStridedSlice S1x192 ![0, 0] vs slices_S1x256_o0_0_S1x192 : FVec F S1x192 .f32) broadcasts_S1x192_S8x192)) bitsLt_bf16_f32
  let o : FVec F S8x64 .f32 := matmul dot_S8x192_S64x192_S8x64_1_1_0_0_n_n none pv vc (constant S8x64 .f32 0x00000000#32)
  let pf : FVec F S8x1 .f32 := extf .f32 (truncf .bf16 pn bitsLt_bf16_f32 : FVec F S8x1 .bf16) bitsLt_bf16_f32
  let vf : FVec F S1x64 .f32 := extf .f32 (extractStridedSlice S1x64 ![r.val, 0] vn (vSlices r) : FVec F S1x64 .bf16) bitsLt_bf16_f32
  addf o (mulf (broadcastTo S8x64 pf broadcasts_S8x1_S8x64) (broadcastTo S8x64 vf broadcasts_S1x64_S8x64))

abbrev RRef (sig : RefSig) := Memref sig .tc .vmem S128x256 .f32
abbrev ORef (sig : RefSig) := Memref sig .tc .vmem S1024x128 .f32

/-- One row's attention. -/
def attnRow (i : grid0.Coords) (ks vs ss : RRef sig) (kw vw : WRef sig) (os : ORef sig) (sa : RRef sig)
    (q : FVec F S64x64 .bf16) (vn : FVec F S8x64 .bf16) (sn : FVec F S64x1 .f32) (r : Fin 8) : PR nD τ sig Λ₀ F PUnit := do
  let ka : Vec F S1x8x128 .i32 ← Prog.lift (.load kw (Rect.unit (s := S2x1024x128) (k0_off17 i (BitVec.ofNat 32 r.val)) S1x8x128.size (k0_off17_inb i r)).toLoadRect (View.loadsAt_vmem h_S1x8x128))
  let kb : Vec F S1x8x64 .i32 ← Prog.lift (.load kw (Rect.unit (s := S2x1024x128) (k0_off18 i (BitVec.ofNat 32 r.val)) S1x8x64.size (k0_off18_inb i r)).toLoadRect (View.loadsAt_vmem h_S1x8x64))
  let kr : Vec F S1x256 .f32 ← Prog.lift (.load ks (Rect.unit (s := S128x256) (k0_off19 i (BitVec.ofNat 32 r.val)) S1x256.size (k0_off19_inb i r)).toLoadRect (View.loadsAt_vmem h_S1x256))
  let s : FVec F S8x192 .f32 := sOf r q (codesOf ka kb) kr
  let sr : Vec F S1x256 .f32 ← Prog.lift (.load ss (Rect.unit (s := S128x256) (k0_off19 i (BitVec.ofNat 32 r.val)) S1x256.size (k0_off19_inb i r)).toLoadRect (View.loadsAt_vmem h_S1x256))
  let _ : Vec F S1x192 .f32 ← Prog.lift (.load sa (Rect.unit (s := S128x256) (k0_off20 i (BitVec.ofNat 32 r.val)) S1x192.size (k0_off20_inb i r)).toLoadRect (View.loadsAt_vmem h_S1x192))
  Prog.lift (.store sa (Rect.unit (s := S128x256) (k0_off20 i (BitVec.ofNat 32 r.val)) S1x192.size (k0_off20_inb i r)) (shapeCast S1x192 (saOf (pOf s (snOf r sn)) sr) shapeCasts_S1x192_S1x192 : FVec F S1x192 .f32) Finset.univ (View.stores_vmem_bits_univ h_S1x192 rfl) (.inl rfl))
  let vr : Vec F S1x256 .f32 ← Prog.lift (.load vs (Rect.unit (s := S128x256) (k0_off19 i (BitVec.ofNat 32 r.val)) S1x256.size (k0_off19_inb i r)).toLoadRect (View.loadsAt_vmem h_S1x256))
  let va : Vec F S1x8x128 .i32 ← Prog.lift (.load vw (Rect.unit (s := S2x1024x128) (k0_off17 i (BitVec.ofNat 32 r.val)) S1x8x128.size (k0_off17_inb i r)).toLoadRect (View.loadsAt_vmem h_S1x8x128))
  let vb : Vec F S1x8x64 .i32 ← Prog.lift (.load vw (Rect.unit (s := S2x1024x128) (k0_off18 i (BitVec.ofNat 32 r.val)) S1x8x64.size (k0_off18_inb i r)).toLoadRect (View.loadsAt_vmem h_S1x8x64))
  let _ : Vec F S8x64 .f32 ← Prog.lift (.load os (Rect.unit (s := S1024x128) (k0_off21 i (BitVec.ofNat 32 r.val)) S8x64.size (k0_off21_inb i r)).toLoadRect (View.loadsAt_vmem h_S8x64))
  Prog.lift (.store os (Rect.unit (s := S1024x128) (k0_off21 i (BitVec.ofNat 32 r.val)) S8x64.size (k0_off21_inb i r)) (shapeCast S8x64 (oOf r (pOf s (snOf r sn)) (pnOf s (snOf r sn)) vr (codesOf va vb) vn) shapeCasts_S8x64_S8x64 : FVec F S8x64 .f32) Finset.univ (View.stores_vmem_bits_univ h_S8x64 rfl) (.inl rfl))

/-! ## The last step's copies -/

/-- The words of sublane `w` of every batch row. -/
def ldW (p w : ℕ) (hp : p < 2) (hw : w < 8) : LoadRect S2x1024x128 :=
  ⟨![p, w, 0], S1x128x128.size, ![1, 8, 1], by
    intro a
    match a with
    | 0 => right; show p + 1 * (1 - 1) < 2; omega
    | 1 => right; show w + 8 * (128 - 1) < 1024; omega
    | 2 => right; show 0 + 1 * (128 - 1) < 128; omega⟩
def ldO (g : ℕ) (hg : g < 8) : LoadRect S1024x128 :=
  ⟨![g, 0], S128x128.size, ![8, 1], by
    intro a
    match a with
    | 0 => right; show g + 8 * (128 - 1) < 1024; omega
    | 1 => right; show 0 + 1 * (128 - 1) < 128; omega⟩
def loR (w : Fin 8) : Rect S192x1x32x128 := Rect.unit (s := S192x1x32x128) ![0, 0, 4 * w.val, 0] S128x1x4x128.size (by
  have := w.isLt
  intro a
  match a with
  | 0 => show 0 + 128 ≤ 192; omega
  | 1 => show 0 + 1 ≤ 1; omega
  | 2 => show 4 * w.val + 4 ≤ 32; omega
  | 3 => show 0 + 128 ≤ 128; omega)
def hiR (w : Fin 8) : Rect S192x1x32x128 := Rect.unit (s := S192x1x32x128) ![128, 0, 4 * w.val, 0] S64x1x4x128.size (by
  have := w.isLt
  intro a
  match a with
  | 0 => show 128 + 64 ≤ 192; omega
  | 1 => show 0 + 1 ≤ 1; omega
  | 2 => show 4 * w.val + 4 ≤ 32; omega
  | 3 => show 0 + 128 ≤ 128; omega)
def outR (g : Fin 8) : Rect S128x512 := Rect.unit (s := S128x512) ![0, 64 * g.val] S128x64.size (by
  have := g.isLt
  intro a
  match a with
  | 0 => show 0 + 128 ≤ 128; omega
  | 1 => show 64 * g.val + 64 ≤ 512; omega)

def turn (x : Vec F S1x128x128 .i32) : IVec S128x128 32 :=
  transpose S128x128 [1, 0] (shapeCast S128x128 x shapeCasts_S1x128x128_S128x128 : IVec S128x128 32) transposes_S128x128_p1_0_S128x128
def loB (x : Vec F S1x128x128 .i32) : IVec S128x1x4x128 8 :=
  shapeCast S128x1x4x128 (shapeCast S128x4x128 (bitcast S512x128 8 (turn x) bitcasts_S128x128_w32_S512x128_w8 : IVec S512x128 8) shapeCasts_S512x128_S128x4x128 : IVec S128x4x128 8) shapeCasts_S128x4x128_S128x1x4x128
def hiB (x : Vec F S1x128x128 .i32) : IVec S64x1x4x128 8 :=
  shapeCast S64x1x4x128 (shapeCast S64x4x128 (bitcast S256x128 8 (extractStridedSlice S64x128 ![0, 0] (turn x) slices_S128x128_o0_0_S64x128 : IVec S64x128 32) bitcasts_S64x128_w32_S256x128_w8 : IVec S256x128 8) shapeCasts_S256x128_S64x4x128 : IVec S64x4x128 8) shapeCasts_S64x4x128_S64x1x4x128

abbrev BRef (sig : RefSig) := Memref sig .tc .vmem S192x1x32x128 .i8

def epiW (src : WRef sig) (dst : BRef sig) (w : Fin 8) (h0 : (dst.access (loR w)).Stores Finset.univ) (h1 : (dst.access (hiR w)).Stores Finset.univ) : PR nD τ sig Λ₀ F PUnit := do
  let a : Vec F S1x128x128 .i32 ← Prog.lift (.load src (ldW 0 w.val (by omega) w.isLt) (View.loadsAt_vmem h_S1x128x128))
  let b : Vec F S1x128x128 .i32 ← Prog.lift (.load src (ldW 1 w.val (by omega) w.isLt) (View.loadsAt_vmem h_S1x128x128))
  let _ : Vec F S128x1x4x128 .i8 ← Prog.lift (.load dst (loR w).toLoadRect (View.loadsAt_vmem h_S128x1x4x128))
  Prog.lift (.store dst (loR w) (loB a) Finset.univ h0 (.inl rfl))
  let _ : Vec F S64x1x4x128 .i8 ← Prog.lift (.load dst (hiR w).toLoadRect (View.loadsAt_vmem h_S64x1x4x128))
  Prog.lift (.store dst (hiR w) (hiB b) Finset.univ h1 (.inl rfl))

def saT (x : Vec F S128x256 .f32) : FVec F S1x192x128 .f32 :=
  shapeCast S1x192x128 (extractStridedSlice S192x128 ![0, 0] (transpose S256x128 [1, 0] x transposes_S128x256_p1_0_S256x128 : FVec F S256x128 .f32) slices_S256x128_o0_0_S192x128 : FVec F S192x128 .f32) shapeCasts_S192x128_S1x192x128
def epiS (sa : RRef sig) (so : Memref sig .tc .vmem S1x192x128 .f32) : PR nD τ sig Λ₀ F PUnit := do
  let x : Vec F S128x256 .f32 ← Prog.lift (.load sa (Rect.unit (s := S128x256) ![0, 0] S128x256.size inb_S128x256_S128x256_0_0).toLoadRect (View.loadsAt_vmem h_S128x256))
  let _ : Vec F S1x192x128 .f32 ← Prog.lift (.load so (Rect.unit (s := S1x192x128) ![0, 0, 0] S1x192x128.size inb_S1x192x128_S1x192x128_0_0_0).toLoadRect (View.loadsAt_vmem h_S1x192x128))
  Prog.lift (.store so (Rect.unit (s := S1x192x128) ![0, 0, 0] S1x192x128.size inb_S1x192x128_S1x192x128_0_0_0) (saT x) Finset.univ (View.stores_vmem_bits_univ h_S1x192x128 rfl) (.inl rfl))

def outB (x : Vec F S128x128 .f32) : FVec F S128x64 .bf16 :=
  truncf .bf16 (extractStridedSlice S128x64 ![0, 0] x slices_S128x128_o0_0_S128x64 : FVec F S128x64 .f32) bitsLt_bf16_f32
def epiG (os : ORef sig) (out : Memref sig .tc .vmem S128x512 .bf16) (g : Fin 8) (h0 : (out.access (outR g)).Stores Finset.univ) : PR nD τ sig Λ₀ F PUnit := do
  let x : Vec F S128x128 .f32 ← Prog.lift (.load os (ldO g.val g.isLt) (View.loadsAt_vmem h_S128x128))
  let _ : Vec F S128x64 .bf16 ← Prog.lift (.load out (outR g).toLoadRect (View.loadsAt_vmem h_S128x64))
  Prog.lift (.store out (outR g) (outB x) Finset.univ h0 (.inl rfl))

theorem koSt (dst : BRef sig) (h : dst.IsWhole) : ∀ w : Fin 8, (dst.access (loR w)).Stores Finset.univ
  | 0 => View.stores_vmem h_S128x1x4x128 (h.storeExact_slice rfl _ packedi8_S192x1x32x128_S128x1x4x128_0_0_0_0) (fun _ => rfl)
  | 1 => View.stores_vmem h_S128x1x4x128 (h.storeExact_slice rfl _ packedi8_S192x1x32x128_S128x1x4x128_0_0_4_0) (fun _ => rfl)
  | 2 => View.stores_vmem h_S128x1x4x128 (h.storeExact_slice rfl _ packedi8_S192x1x32x128_S128x1x4x128_0_0_8_0) (fun _ => rfl)
  | 3 => View.stores_vmem h_S128x1x4x128 (h.storeExact_slice rfl _ packedi8_S192x1x32x128_S128x1x4x128_0_0_12_0) (fun _ => rfl)
  | 4 => View.stores_vmem h_S128x1x4x128 (h.storeExact_slice rfl _ packedi8_S192x1x32x128_S128x1x4x128_0_0_16_0) (fun _ => rfl)
  | 5 => View.stores_vmem h_S128x1x4x128 (h.storeExact_slice rfl _ packedi8_S192x1x32x128_S128x1x4x128_0_0_20_0) (fun _ => rfl)
  | 6 => View.stores_vmem h_S128x1x4x128 (h.storeExact_slice rfl _ packedi8_S192x1x32x128_S128x1x4x128_0_0_24_0) (fun _ => rfl)
  | 7 => View.stores_vmem h_S128x1x4x128 (h.storeExact_slice rfl _ packedi8_S192x1x32x128_S128x1x4x128_0_0_28_0) (fun _ => rfl)
theorem kiSt (dst : BRef sig) (h : dst.IsWhole) : ∀ w : Fin 8, (dst.access (hiR w)).Stores Finset.univ
  | 0 => View.stores_vmem h_S64x1x4x128 (h.storeExact_slice rfl _ packedi8_S192x1x32x128_S64x1x4x128_128_0_0_0) (fun _ => rfl)
  | 1 => View.stores_vmem h_S64x1x4x128 (h.storeExact_slice rfl _ packedi8_S192x1x32x128_S64x1x4x128_128_0_4_0) (fun _ => rfl)
  | 2 => View.stores_vmem h_S64x1x4x128 (h.storeExact_slice rfl _ packedi8_S192x1x32x128_S64x1x4x128_128_0_8_0) (fun _ => rfl)
  | 3 => View.stores_vmem h_S64x1x4x128 (h.storeExact_slice rfl _ packedi8_S192x1x32x128_S64x1x4x128_128_0_12_0) (fun _ => rfl)
  | 4 => View.stores_vmem h_S64x1x4x128 (h.storeExact_slice rfl _ packedi8_S192x1x32x128_S64x1x4x128_128_0_16_0) (fun _ => rfl)
  | 5 => View.stores_vmem h_S64x1x4x128 (h.storeExact_slice rfl _ packedi8_S192x1x32x128_S64x1x4x128_128_0_20_0) (fun _ => rfl)
  | 6 => View.stores_vmem h_S64x1x4x128 (h.storeExact_slice rfl _ packedi8_S192x1x32x128_S64x1x4x128_128_0_24_0) (fun _ => rfl)
  | 7 => View.stores_vmem h_S64x1x4x128 (h.storeExact_slice rfl _ packedi8_S192x1x32x128_S64x1x4x128_128_0_28_0) (fun _ => rfl)
theorem ouSt (dst : Memref sig .tc .vmem S128x512 .bf16) (h : dst.IsWhole) : ∀ w : Fin 8, (dst.access (outR w)).Stores Finset.univ
  | 0 => View.stores_vmem h_S128x64 (h.storeExact_slice rfl _ packedbf16_S128x512_S128x64_0_0) (fun _ => rfl)
  | 1 => View.stores_vmem h_S128x64 (h.storeExact_slice rfl _ packedbf16_S128x512_S128x64_0_64) (fun _ => rfl)
  | 2 => View.stores_vmem h_S128x64 (h.storeExact_slice rfl _ packedbf16_S128x512_S128x64_0_128) (fun _ => rfl)
  | 3 => View.stores_vmem h_S128x64 (h.storeExact_slice rfl _ packedbf16_S128x512_S128x64_0_192) (fun _ => rfl)
  | 4 => View.stores_vmem h_S128x64 (h.storeExact_slice rfl _ packedbf16_S128x512_S128x64_0_256) (fun _ => rfl)
  | 5 => View.stores_vmem h_S128x64 (h.storeExact_slice rfl _ packedbf16_S128x512_S128x64_0_320) (fun _ => rfl)
  | 6 => View.stores_vmem h_S128x64 (h.storeExact_slice rfl _ packedbf16_S128x512_S128x64_0_384) (fun _ => rfl)
  | 7 => View.stores_vmem h_S128x64 (h.storeExact_slice rfl _ packedbf16_S128x512_S128x64_0_448) (fun _ => rfl)

/-- The last step. -/
def epi (out : Memref sig .tc .vmem S128x512 .bf16) (hout : out.IsWhole) (ko : BRef sig) (hko : ko.IsWhole) (vo : BRef sig) (hvo : vo.IsWhole)
    (so : Memref sig .tc .vmem S1x192x128 .f32) (kw vw : WRef sig) (os : ORef sig) (sa : RRef sig) : PR nD τ sig Λ₀ F PUnit := do
  epiW kw ko 0 (koSt ko hko 0) (kiSt ko hko 0)
  epiW kw ko 1 (koSt ko hko 1) (kiSt ko hko 1)
  epiW kw ko 2 (koSt ko hko 2) (kiSt ko hko 2)
  epiW kw ko 3 (koSt ko hko 3) (kiSt ko hko 3)
  epiW kw ko 4 (koSt ko hko 4) (kiSt ko hko 4)
  epiW kw ko 5 (koSt ko hko 5) (kiSt ko hko 5)
  epiW kw ko 6 (koSt ko hko 6) (kiSt ko hko 6)
  epiW kw ko 7 (koSt ko hko 7) (kiSt ko hko 7)
  epiW vw vo 0 (koSt vo hvo 0) (kiSt vo hvo 0)
  epiW vw vo 1 (koSt vo hvo 1) (kiSt vo hvo 1)
  epiW vw vo 2 (koSt vo hvo 2) (kiSt vo hvo 2)
  epiW vw vo 3 (koSt vo hvo 3) (kiSt vo hvo 3)
  epiW vw vo 4 (koSt vo hvo 4) (kiSt vo hvo 4)
  epiW vw vo 5 (koSt vo hvo 5) (kiSt vo hvo 5)
  epiW vw vo 6 (koSt vo hvo 6) (kiSt vo hvo 6)
  epiW vw vo 7 (koSt vo hvo 7) (kiSt vo hvo 7)
  epiS sa so
  epiG os out 0 (ouSt out hout 0)
  epiG os out 1 (ouSt out hout 1)
  epiG os out 2 (ouSt out hout 2)
  epiG os out 3 (ouSt out hout 3)
  epiG os out 4 (ouSt out hout 4)
  epiG os out 5 (ouSt out hout 5)
  epiG os out 6 (ouSt out hout 6)
  epiG os out 7 (ouSt out hout 7)

abbrev TRef (sig : RefSig) := Memref sig .tc .smem S32x16 .i32
/-- The split of row `r` of the step's block. -/
def ldC (i : grid0.Coords) (ca : TRef sig) (r : Fin 8) : PR nD τ sig Λ₀ F (Elt F .i32) :=
  smemLoad ca (Rect.unit (s := S32x16) (k0_off1 i (k0_off1_at r).1 (k0_off1_at r).2) S1x1.size (k0_off1_inb i r)) numel1_S1x1 rfl

def okC (c : BitVec 32) : BitVec 1 := Scalar.andi (Scalar.cmpi .sge c 64#32) (Scalar.cmpi .sle c 128#32)
def allC (c : Fin 8 → BitVec 32) : BitVec 1 :=
  Scalar.andi (Scalar.andi (Scalar.andi (Scalar.andi (Scalar.andi (Scalar.andi (Scalar.andi (okC (c 0)) (okC (c 1))) (okC (c 2))) (okC (c 3))) (okC (c 4))) (okC (c 5))) (okC (c 6))) (okC (c 7))

def brE (i : grid0.Coords) (pos : Memref sig .tc .vmem S128x256 .i32) (k v : KRef sig) (kw vw : WRef sig) (cs : Fin 8 → Elt F .i32) : PR nD τ sig Λ₀ F PUnit :=
  if Scalar.cmpi .ne (Scalar.extui (allC cs) : BitVec 32) 0#32 = 1#1 then
    evAll i pos k v kw vw (iota .tc S8x128 32 [1] iota_S8x128_d1_w32) cs
  else pure ⟨⟩
def brO (i : grid0.Coords) (pos : Memref sig .tc .vmem S128x256 .i32) (k v : KRef sig) (kw vw : WRef sig) (cs : Fin 8 → Elt F .i32) : PR nD τ sig Λ₀ F PUnit :=
  if Scalar.cmpi .ne (Scalar.extui (Scalar.xori (allC cs) 1#1) : BitVec 32) 0#32 = 1#1 then
    odAll i pos k v kw vw
  else pure ⟨⟩

/-- The body. -/
def bodyH (i : grid0.Coords) (arg1 : Memref sig .tc .smem S32x16 .i32) (harg1 : arg1.IsWhole) (arg2 : Memref sig .tc .vmem S128x256 .i32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x64x64 .bf16) (harg6 : arg6.IsWhole) (arg7 : Memref sig .tc .vmem S1x128x64 .bf16) (harg7 : arg7.IsWhole) (arg8 : Memref sig .tc .vmem S1x128x64 .bf16) (harg8 : arg8.IsWhole) (arg9 : Memref sig .tc .vmem S8x1x32x8192 .i8) (harg9 : arg9.IsWhole) (arg10 : Memref sig .tc .vmem S8x1x32x8192 .i8) (harg10 : arg10.IsWhole) (arg11 : Memref sig .tc .vmem S128x512 .bf16) (harg11 : arg11.IsWhole) (arg12 : Memref sig .tc .vmem S192x1x32x128 .i8) (harg12 : arg12.IsWhole) (arg13 : Memref sig .tc .vmem S192x1x32x128 .i8) (harg13 : arg13.IsWhole) (arg14 : Memref sig .tc .vmem S1x192x128 .f32) (harg14 : arg14.IsWhole) (arg15 : Memref sig .tc .vmem S2x1024x128 .i32) (harg15 : arg15.IsWhole) (arg16 : Memref sig .tc .vmem S2x1024x128 .i32) (harg16 : arg16.IsWhole) (arg17 : Memref sig .tc .vmem S1024x128 .f32) (harg17 : arg17.IsWhole) (arg18 : Memref sig .tc .vmem S128x256 .f32) (harg18 : arg18.IsWhole) : PR nD τ sig Λ₀ F PUnit := do
  let c0 ← ldC i arg1 0
  let c1 ← ldC i arg1 1
  let c2 ← ldC i arg1 2
  let c3 ← ldC i arg1 3
  let c4 ← ldC i arg1 4
  let c5 ← ldC i arg1 5
  let c6 ← ldC i arg1 6
  let c7 ← ldC i arg1 7
  let cs : Fin 8 → Elt F .i32 := ![c0, c1, c2, c3, c4, c5, c6, c7]
  brE i arg2 arg9 arg10 arg15 arg16 cs >>= fun _ => brO i arg2 arg9 arg10 arg15 arg16 cs >>= fun _ => do
  let q : Vec F S1x64x64 .bf16 ← Prog.lift (.load arg6 (Rect.unit (s := S1x64x64) ![0, 0, 0] S1x64x64.size inb_S1x64x64_S1x64x64_0_0_0).toLoadRect (View.loadsAt_vmem h_S1x64x64))
  let kn : Vec F S1x8x64 .bf16 ← Prog.lift (.load arg7 (Rect.unit (s := S1x128x64) (k0_off16 i) S1x8x64.size (k0_off16_inb i)).toLoadRect (View.loadsAt_vmem h_S1x8x64))
  let vn : Vec F S1x8x64 .bf16 ← Prog.lift (.load arg8 (Rect.unit (s := S1x128x64) (k0_off16 i) S1x8x64.size (k0_off16_inb i)).toLoadRect (View.loadsAt_vmem h_S1x8x64))
  let q' : FVec F S64x64 .bf16 := shapeCast S64x64 q shapeCasts_S1x64x64_S64x64
  let kn' : FVec F S8x64 .bf16 := shapeCast S8x64 kn shapeCasts_S1x8x64_S8x64
  let vn' : FVec F S8x64 .bf16 := shapeCast S8x64 vn shapeCasts_S1x8x64_S8x64
  let sn : FVec F S64x1 .f32 := newScores q' kn'
  attnRow i arg3 arg4 arg5 arg15 arg16 arg17 arg18 q' vn' sn 0
  attnRow i arg3 arg4 arg5 arg15 arg16 arg17 arg18 q' vn' sn 1
  attnRow i arg3 arg4 arg5 arg15 arg16 arg17 arg18 q' vn' sn 2
  attnRow i arg3 arg4 arg5 arg15 arg16 arg17 arg18 q' vn' sn 3
  attnRow i arg3 arg4 arg5 arg15 arg16 arg17 arg18 q' vn' sn 4
  attnRow i arg3 arg4 arg5 arg15 arg16 arg17 arg18 q' vn' sn 5
  attnRow i arg3 arg4 arg5 arg15 arg16 arg17 arg18 q' vn' sn 6
  attnRow i arg3 arg4 arg5 arg15 arg16 arg17 arg18 q' vn' sn 7
  if _h : k0_cond3 i = 1#1 then epi arg11 harg11 arg12 harg12 arg13 harg13 arg14 arg15 arg16 arg17 arg18
  else pure ⟨⟩

/-- The part of the body with its two branches, the branches in the short form. -/
def part379J (i : grid0.Coords) (arg1 : Memref sig .tc .smem S32x16 .i32) (harg1 : arg1.IsWhole) (arg2 : Memref sig .tc .vmem S128x256 .i32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x64x64 .bf16) (harg6 : arg6.IsWhole) (arg7 : Memref sig .tc .vmem S1x128x64 .bf16) (harg7 : arg7.IsWhole) (arg8 : Memref sig .tc .vmem S1x128x64 .bf16) (harg8 : arg8.IsWhole) (arg9 : Memref sig .tc .vmem S8x1x32x8192 .i8) (harg9 : arg9.IsWhole) (arg10 : Memref sig .tc .vmem S8x1x32x8192 .i8) (harg10 : arg10.IsWhole) (arg11 : Memref sig .tc .vmem S128x512 .bf16) (harg11 : arg11.IsWhole) (arg12 : Memref sig .tc .vmem S192x1x32x128 .i8) (harg12 : arg12.IsWhole) (arg13 : Memref sig .tc .vmem S192x1x32x128 .i8) (harg13 : arg13.IsWhole) (arg14 : Memref sig .tc .vmem S1x192x128 .f32) (harg14 : arg14.IsWhole) (arg15 : Memref sig .tc .vmem S2x1024x128 .i32) (harg15 : arg15.IsWhole) (arg16 : Memref sig .tc .vmem S2x1024x128 .i32) (harg16 : arg16.IsWhole) (arg17 : Memref sig .tc .vmem S1024x128 .f32) (harg17 : arg17.IsWhole) (arg18 : Memref sig .tc .vmem S128x256 .f32) (harg18 : arg18.IsWhole) (v0 : BitVec 32) (v1 : IVec S8x128 32) (v33 : Elt F .i32) (v65 : Elt F .i32) (v97 : Elt F .i32) (v129 : Elt F .i32) (v161 : Elt F .i32) (v193 : Elt F .i32) (v225 : Elt F .i32) (v257 : Elt F .i32) (v260 : BitVec 1) (v263 : BitVec 1) (v266 : BitVec 1) (v269 : BitVec 1) (v272 : BitVec 1) (v275 : BitVec 1) (v278 : BitVec 1) (v281 : BitVec 1) :
    Prog (TpuEff nD τ sig (Elt F) Λ₀ .tc) (Σ' (v295 : FVec F S64x64 .bf16) (v301 : FVec F S8x64 .bf16) (v302 : FVec F S64x8 .f32) (v305 : IVec S64x8 32) (v319 : IVec S64x8 1) (v321 : IVec S64x8 32), IVec S64x8 32)  := do
  let v282 : BitVec 1 := Scalar.andi v260 v263
  let v283 : BitVec 1 := Scalar.andi v282 v266
  let v284 : BitVec 1 := Scalar.andi v283 v269
  let v285 : BitVec 1 := Scalar.andi v284 v272
  let v286 : BitVec 1 := Scalar.andi v285 v275
  let v287 : BitVec 1 := Scalar.andi v286 v278
  let v288 : BitVec 1 := Scalar.andi v287 v281
  let v289 : BitVec 32 := Scalar.extui v288
  let c0_i32_126 : BitVec 32 := 0#32
  let v290 : BitVec 1 := Scalar.cmpi .ne v289 c0_i32_126
  let v_true : BitVec 1 := 1#1
  let v291 : BitVec 1 := Scalar.xori v288 v_true
  let v292 : BitVec 32 := Scalar.extui v291
  let c0_i32_127 : BitVec 32 := 0#32
  let v293 : BitVec 1 := Scalar.cmpi .ne v292 c0_i32_127
  if v290 = 1#1 then (evAll i arg2 arg9 arg10 arg15 arg16 v1 ![v33, v65, v97, v129, v161, v193, v225, v257] >>= fun _ => (if v293 = 1#1 then (odAll i arg2 arg9 arg10 arg15 arg16 >>= fun _ => (do
  let c0 : Index := 0#32
  let c0_128 : Index := 0#32
  let c0_129 : Index := 0#32
  let v294 : Vec F S1x64x64 .bf16 ← Prog.lift (.load arg6 (Rect.unit (s := S1x64x64) ![0, 0, 0] S1x64x64.size inb_S1x64x64_S1x64x64_0_0_0).toLoadRect (View.loadsAt_vmem h_S1x64x64))
  have v295 : FVec F S64x64 .bf16 := shapeCast S64x64 v294 shapeCasts_S1x64x64_S64x64
  let c0_130 : Index := 0#32
  let v296 : Index := Scalar.indexCast v0
  let c0_131 : Index := 0#32
  let v297 : Vec F S1x8x64 .bf16 ← Prog.lift (.load arg7 (Rect.unit (s := S1x128x64) (k0_off16 i) S1x8x64.size (k0_off16_inb i)).toLoadRect (View.loadsAt_vmem h_S1x8x64))
  have v298 : FVec F S8x64 .bf16 := shapeCast S8x64 v297 shapeCasts_S1x8x64_S8x64
  let c0_132 : Index := 0#32
  let v299 : Index := Scalar.indexCast v0
  let c0_133 : Index := 0#32
  let v300 : Vec F S1x8x64 .bf16 ← Prog.lift (.load arg8 (Rect.unit (s := S1x128x64) (k0_off16 i) S1x8x64.size (k0_off16_inb i)).toLoadRect (View.loadsAt_vmem h_S1x8x64))
  have v301 : FVec F S8x64 .bf16 := shapeCast S8x64 v300 shapeCasts_S1x8x64_S8x64
  have cst : FVec F S64x8 .f32 := constant S64x8 .f32 0x00000000#32
  have v302 : FVec F S64x8 .f32 := matmul dot_S64x64_S8x64_S64x8_1_1_0_0_n_n none v295 v298 cst
  have v303 : IVec S64x8 32 := iota .tc S64x8 32 [0] iota_S64x8_d0_w32
  let c8_i32_134 : BitVec 32 := 8#32
  have v304 : IVec S64x8 32 := broadcast S64x8 c8_i32_134
  have v305 : IVec S64x8 32 := divsi v303 v304
  let c0_i32_135 : BitVec 32 := 0#32
  have v306 : IVec S64x8 32 := broadcast S64x8 c0_i32_135
  have v307 : IVec S64x8 1 := cmpi .sgt v303 v306
  have v308 : IVec S64x8 32 := extui 32 v307 natLt_1_32
  let c0_i32_136 : BitVec 32 := 0#32
  have v309 : IVec S64x8 32 := broadcast S64x8 c0_i32_136
  have v310 : IVec S64x8 1 := cmpi .slt v303 v309
  have v311 : IVec S64x8 32 := extui 32 v310 natLt_1_32
  have v312 : IVec S64x8 32 := subi v308 v311
  let c0_i32_137 : BitVec 32 := 0#32
  let v313 : BitVec 1 := Scalar.cmpi .sgt c8_i32_134 c0_i32_137
  let v314 : BitVec 32 := Scalar.extui v313
  let c0_i32_138 : BitVec 32 := 0#32
  let v315 : BitVec 1 := Scalar.cmpi .slt c8_i32_134 c0_i32_138
  let v316 : BitVec 32 := Scalar.extui v315
  let v317 : BitVec 32 := Scalar.subi v314 v316
  have v318 : IVec S64x8 32 := broadcast S64x8 v317
  have v319 : IVec S64x8 1 := cmpi .ne v312 v318
  have v320 : IVec S64x8 32 := broadcast S64x8 c8_i32_134
  have v321 : IVec S64x8 32 := remsi v303 v320
  let c0_i32_139 : BitVec 32 := 0#32
  have v322 : IVec S64x8 32 := broadcast S64x8 c0_i32_139
  pure ⟨v295, v301, v302, v305, v319, v321, v322⟩
)) else (do
  let c0 : Index := 0#32
  let c0_128 : Index := 0#32
  let c0_129 : Index := 0#32
  let v294 : Vec F S1x64x64 .bf16 ← Prog.lift (.load arg6 (Rect.unit (s := S1x64x64) ![0, 0, 0] S1x64x64.size inb_S1x64x64_S1x64x64_0_0_0).toLoadRect (View.loadsAt_vmem h_S1x64x64))
  have v295 : FVec F S64x64 .bf16 := shapeCast S64x64 v294 shapeCasts_S1x64x64_S64x64
  let c0_130 : Index := 0#32
  let v296 : Index := Scalar.indexCast v0
  let c0_131 : Index := 0#32
  let v297 : Vec F S1x8x64 .bf16 ← Prog.lift (.load arg7 (Rect.unit (s := S1x128x64) (k0_off16 i) S1x8x64.size (k0_off16_inb i)).toLoadRect (View.loadsAt_vmem h_S1x8x64))
  have v298 : FVec F S8x64 .bf16 := shapeCast S8x64 v297 shapeCasts_S1x8x64_S8x64
  let c0_132 : Index := 0#32
  let v299 : Index := Scalar.indexCast v0
  let c0_133 : Index := 0#32
  let v300 : Vec F S1x8x64 .bf16 ← Prog.lift (.load arg8 (Rect.unit (s := S1x128x64) (k0_off16 i) S1x8x64.size (k0_off16_inb i)).toLoadRect (View.loadsAt_vmem h_S1x8x64))
  have v301 : FVec F S8x64 .bf16 := shapeCast S8x64 v300 shapeCasts_S1x8x64_S8x64
  have cst : FVec F S64x8 .f32 := constant S64x8 .f32 0x00000000#32
  have v302 : FVec F S64x8 .f32 := matmul dot_S64x64_S8x64_S64x8_1_1_0_0_n_n none v295 v298 cst
  have v303 : IVec S64x8 32 := iota .tc S64x8 32 [0] iota_S64x8_d0_w32
  let c8_i32_134 : BitVec 32 := 8#32
  have v304 : IVec S64x8 32 := broadcast S64x8 c8_i32_134
  have v305 : IVec S64x8 32 := divsi v303 v304
  let c0_i32_135 : BitVec 32 := 0#32
  have v306 : IVec S64x8 32 := broadcast S64x8 c0_i32_135
  have v307 : IVec S64x8 1 := cmpi .sgt v303 v306
  have v308 : IVec S64x8 32 := extui 32 v307 natLt_1_32
  let c0_i32_136 : BitVec 32 := 0#32
  have v309 : IVec S64x8 32 := broadcast S64x8 c0_i32_136
  have v310 : IVec S64x8 1 := cmpi .slt v303 v309
  have v311 : IVec S64x8 32 := extui 32 v310 natLt_1_32
  have v312 : IVec S64x8 32 := subi v308 v311
  let c0_i32_137 : BitVec 32 := 0#32
  let v313 : BitVec 1 := Scalar.cmpi .sgt c8_i32_134 c0_i32_137
  let v314 : BitVec 32 := Scalar.extui v313
  let c0_i32_138 : BitVec 32 := 0#32
  let v315 : BitVec 1 := Scalar.cmpi .slt c8_i32_134 c0_i32_138
  let v316 : BitVec 32 := Scalar.extui v315
  let v317 : BitVec 32 := Scalar.subi v314 v316
  have v318 : IVec S64x8 32 := broadcast S64x8 v317
  have v319 : IVec S64x8 1 := cmpi .ne v312 v318
  have v320 : IVec S64x8 32 := broadcast S64x8 c8_i32_134
  have v321 : IVec S64x8 32 := remsi v303 v320
  let c0_i32_139 : BitVec 32 := 0#32
  have v322 : IVec S64x8 32 := broadcast S64x8 c0_i32_139
  pure ⟨v295, v301, v302, v305, v319, v321, v322⟩
))) else (if v293 = 1#1 then (odAll i arg2 arg9 arg10 arg15 arg16 >>= fun _ => (do
  let c0 : Index := 0#32
  let c0_128 : Index := 0#32
  let c0_129 : Index := 0#32
  let v294 : Vec F S1x64x64 .bf16 ← Prog.lift (.load arg6 (Rect.unit (s := S1x64x64) ![0, 0, 0] S1x64x64.size inb_S1x64x64_S1x64x64_0_0_0).toLoadRect (View.loadsAt_vmem h_S1x64x64))
  have v295 : FVec F S64x64 .bf16 := shapeCast S64x64 v294 shapeCasts_S1x64x64_S64x64
  let c0_130 : Index := 0#32
  let v296 : Index := Scalar.indexCast v0
  let c0_131 : Index := 0#32
  let v297 : Vec F S1x8x64 .bf16 ← Prog.lift (.load arg7 (Rect.unit (s := S1x128x64) (k0_off16 i) S1x8x64.size (k0_off16_inb i)).toLoadRect (View.loadsAt_vmem h_S1x8x64))
  have v298 : FVec F S8x64 .bf16 := shapeCast S8x64 v297 shapeCasts_S1x8x64_S8x64
  let c0_132 : Index := 0#32
  let v299 : Index := Scalar.indexCast v0
  let c0_133 : Index := 0#32
  let v300 : Vec F S1x8x64 .bf16 ← Prog.lift (.load arg8 (Rect.unit (s := S1x128x64) (k0_off16 i) S1x8x64.size (k0_off16_inb i)).toLoadRect (View.loadsAt_vmem h_S1x8x64))
  have v301 : FVec F S8x64 .bf16 := shapeCast S8x64 v300 shapeCasts_S1x8x64_S8x64
  have cst : FVec F S64x8 .f32 := constant S64x8 .f32 0x00000000#32
  have v302 : FVec F S64x8 .f32 := matmul dot_S64x64_S8x64_S64x8_1_1_0_0_n_n none v295 v298 cst
  have v303 : IVec S64x8 32 := iota .tc S64x8 32 [0] iota_S64x8_d0_w32
  let c8_i32_134 : BitVec 32 := 8#32
  have v304 : IVec S64x8 32 := broadcast S64x8 c8_i32_134
  have v305 : IVec S64x8 32 := divsi v303 v304
  let c0_i32_135 : BitVec 32 := 0#32
  have v306 : IVec S64x8 32 := broadcast S64x8 c0_i32_135
  have v307 : IVec S64x8 1 := cmpi .sgt v303 v306
  have v308 : IVec S64x8 32 := extui 32 v307 natLt_1_32
  let c0_i32_136 : BitVec 32 := 0#32
  have v309 : IVec S64x8 32 := broadcast S64x8 c0_i32_136
  have v310 : IVec S64x8 1 := cmpi .slt v303 v309
  have v311 : IVec S64x8 32 := extui 32 v310 natLt_1_32
  have v312 : IVec S64x8 32 := subi v308 v311
  let c0_i32_137 : BitVec 32 := 0#32
  let v313 : BitVec 1 := Scalar.cmpi .sgt c8_i32_134 c0_i32_137
  let v314 : BitVec 32 := Scalar.extui v313
  let c0_i32_138 : BitVec 32 := 0#32
  let v315 : BitVec 1 := Scalar.cmpi .slt c8_i32_134 c0_i32_138
  let v316 : BitVec 32 := Scalar.extui v315
  let v317 : BitVec 32 := Scalar.subi v314 v316
  have v318 : IVec S64x8 32 := broadcast S64x8 v317
  have v319 : IVec S64x8 1 := cmpi .ne v312 v318
  have v320 : IVec S64x8 32 := broadcast S64x8 c8_i32_134
  have v321 : IVec S64x8 32 := remsi v303 v320
  let c0_i32_139 : BitVec 32 := 0#32
  have v322 : IVec S64x8 32 := broadcast S64x8 c0_i32_139
  pure ⟨v295, v301, v302, v305, v319, v321, v322⟩
)) else (do
  let c0 : Index := 0#32
  let c0_128 : Index := 0#32
  let c0_129 : Index := 0#32
  let v294 : Vec F S1x64x64 .bf16 ← Prog.lift (.load arg6 (Rect.unit (s := S1x64x64) ![0, 0, 0] S1x64x64.size inb_S1x64x64_S1x64x64_0_0_0).toLoadRect (View.loadsAt_vmem h_S1x64x64))
  have v295 : FVec F S64x64 .bf16 := shapeCast S64x64 v294 shapeCasts_S1x64x64_S64x64
  let c0_130 : Index := 0#32
  let v296 : Index := Scalar.indexCast v0
  let c0_131 : Index := 0#32
  let v297 : Vec F S1x8x64 .bf16 ← Prog.lift (.load arg7 (Rect.unit (s := S1x128x64) (k0_off16 i) S1x8x64.size (k0_off16_inb i)).toLoadRect (View.loadsAt_vmem h_S1x8x64))
  have v298 : FVec F S8x64 .bf16 := shapeCast S8x64 v297 shapeCasts_S1x8x64_S8x64
  let c0_132 : Index := 0#32
  let v299 : Index := Scalar.indexCast v0
  let c0_133 : Index := 0#32
  let v300 : Vec F S1x8x64 .bf16 ← Prog.lift (.load arg8 (Rect.unit (s := S1x128x64) (k0_off16 i) S1x8x64.size (k0_off16_inb i)).toLoadRect (View.loadsAt_vmem h_S1x8x64))
  have v301 : FVec F S8x64 .bf16 := shapeCast S8x64 v300 shapeCasts_S1x8x64_S8x64
  have cst : FVec F S64x8 .f32 := constant S64x8 .f32 0x00000000#32
  have v302 : FVec F S64x8 .f32 := matmul dot_S64x64_S8x64_S64x8_1_1_0_0_n_n none v295 v298 cst
  have v303 : IVec S64x8 32 := iota .tc S64x8 32 [0] iota_S64x8_d0_w32
  let c8_i32_134 : BitVec 32 := 8#32
  have v304 : IVec S64x8 32 := broadcast S64x8 c8_i32_134
  have v305 : IVec S64x8 32 := divsi v303 v304
  let c0_i32_135 : BitVec 32 := 0#32
  have v306 : IVec S64x8 32 := broadcast S64x8 c0_i32_135
  have v307 : IVec S64x8 1 := cmpi .sgt v303 v306
  have v308 : IVec S64x8 32 := extui 32 v307 natLt_1_32
  let c0_i32_136 : BitVec 32 := 0#32
  have v309 : IVec S64x8 32 := broadcast S64x8 c0_i32_136
  have v310 : IVec S64x8 1 := cmpi .slt v303 v309
  have v311 : IVec S64x8 32 := extui 32 v310 natLt_1_32
  have v312 : IVec S64x8 32 := subi v308 v311
  let c0_i32_137 : BitVec 32 := 0#32
  let v313 : BitVec 1 := Scalar.cmpi .sgt c8_i32_134 c0_i32_137
  let v314 : BitVec 32 := Scalar.extui v313
  let c0_i32_138 : BitVec 32 := 0#32
  let v315 : BitVec 1 := Scalar.cmpi .slt c8_i32_134 c0_i32_138
  let v316 : BitVec 32 := Scalar.extui v315
  let v317 : BitVec 32 := Scalar.subi v314 v316
  have v318 : IVec S64x8 32 := broadcast S64x8 v317
  have v319 : IVec S64x8 1 := cmpi .ne v312 v318
  have v320 : IVec S64x8 32 := broadcast S64x8 c8_i32_134
  have v321 : IVec S64x8 32 := remsi v303 v320
  let c0_i32_139 : BitVec 32 := 0#32
  have v322 : IVec S64x8 32 := broadcast S64x8 c0_i32_139
  pure ⟨v295, v301, v302, v305, v319, v321, v322⟩
))

def part379H (i : grid0.Coords) (arg1 : Memref sig .tc .smem S32x16 .i32) (harg1 : arg1.IsWhole) (arg2 : Memref sig .tc .vmem S128x256 .i32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x64x64 .bf16) (harg6 : arg6.IsWhole) (arg7 : Memref sig .tc .vmem S1x128x64 .bf16) (harg7 : arg7.IsWhole) (arg8 : Memref sig .tc .vmem S1x128x64 .bf16) (harg8 : arg8.IsWhole) (arg9 : Memref sig .tc .vmem S8x1x32x8192 .i8) (harg9 : arg9.IsWhole) (arg10 : Memref sig .tc .vmem S8x1x32x8192 .i8) (harg10 : arg10.IsWhole) (arg11 : Memref sig .tc .vmem S128x512 .bf16) (harg11 : arg11.IsWhole) (arg12 : Memref sig .tc .vmem S192x1x32x128 .i8) (harg12 : arg12.IsWhole) (arg13 : Memref sig .tc .vmem S192x1x32x128 .i8) (harg13 : arg13.IsWhole) (arg14 : Memref sig .tc .vmem S1x192x128 .f32) (harg14 : arg14.IsWhole) (arg15 : Memref sig .tc .vmem S2x1024x128 .i32) (harg15 : arg15.IsWhole) (arg16 : Memref sig .tc .vmem S2x1024x128 .i32) (harg16 : arg16.IsWhole) (arg17 : Memref sig .tc .vmem S1024x128 .f32) (harg17 : arg17.IsWhole) (arg18 : Memref sig .tc .vmem S128x256 .f32) (harg18 : arg18.IsWhole) (v0 : BitVec 32) (v1 : IVec S8x128 32) (v33 : Elt F .i32) (v65 : Elt F .i32) (v97 : Elt F .i32) (v129 : Elt F .i32) (v161 : Elt F .i32) (v193 : Elt F .i32) (v225 : Elt F .i32) (v257 : Elt F .i32) (v260 : BitVec 1) (v263 : BitVec 1) (v266 : BitVec 1) (v269 : BitVec 1) (v272 : BitVec 1) (v275 : BitVec 1) (v278 : BitVec 1) (v281 : BitVec 1) :
    Prog (TpuEff nD τ sig (Elt F) Λ₀ .tc) (Σ' (v295 : FVec F S64x64 .bf16) (v301 : FVec F S8x64 .bf16) (v302 : FVec F S64x8 .f32) (v305 : IVec S64x8 32) (v319 : IVec S64x8 1) (v321 : IVec S64x8 32), IVec S64x8 32)  := do
  let v282 : BitVec 1 := Scalar.andi v260 v263
  let v283 : BitVec 1 := Scalar.andi v282 v266
  let v284 : BitVec 1 := Scalar.andi v283 v269
  let v285 : BitVec 1 := Scalar.andi v284 v272
  let v286 : BitVec 1 := Scalar.andi v285 v275
  let v287 : BitVec 1 := Scalar.andi v286 v278
  let v288 : BitVec 1 := Scalar.andi v287 v281
  let v289 : BitVec 32 := Scalar.extui v288
  let c0_i32_126 : BitVec 32 := 0#32
  let v290 : BitVec 1 := Scalar.cmpi .ne v289 c0_i32_126
  let v_true : BitVec 1 := 1#1
  let v291 : BitVec 1 := Scalar.xori v288 v_true
  let v292 : BitVec 32 := Scalar.extui v291
  let c0_i32_127 : BitVec 32 := 0#32
  let v293 : BitVec 1 := Scalar.cmpi .ne v292 c0_i32_127
  (if v290 = 1#1 then evAll i arg2 arg9 arg10 arg15 arg16 v1 ![v33, v65, v97, v129, v161, v193, v225, v257] else pure ⟨⟩ : Prog (TpuEff nD τ sig (Elt F) Λ₀ .tc) PUnit) >>= fun _ => (if v293 = 1#1 then odAll i arg2 arg9 arg10 arg15 arg16 else pure ⟨⟩ : Prog (TpuEff nD τ sig (Elt F) Λ₀ .tc) PUnit) >>= fun _ => (do
  let c0 : Index := 0#32
  let c0_128 : Index := 0#32
  let c0_129 : Index := 0#32
  let v294 : Vec F S1x64x64 .bf16 ← Prog.lift (.load arg6 (Rect.unit (s := S1x64x64) ![0, 0, 0] S1x64x64.size inb_S1x64x64_S1x64x64_0_0_0).toLoadRect (View.loadsAt_vmem h_S1x64x64))
  have v295 : FVec F S64x64 .bf16 := shapeCast S64x64 v294 shapeCasts_S1x64x64_S64x64
  let c0_130 : Index := 0#32
  let v296 : Index := Scalar.indexCast v0
  let c0_131 : Index := 0#32
  let v297 : Vec F S1x8x64 .bf16 ← Prog.lift (.load arg7 (Rect.unit (s := S1x128x64) (k0_off16 i) S1x8x64.size (k0_off16_inb i)).toLoadRect (View.loadsAt_vmem h_S1x8x64))
  have v298 : FVec F S8x64 .bf16 := shapeCast S8x64 v297 shapeCasts_S1x8x64_S8x64
  let c0_132 : Index := 0#32
  let v299 : Index := Scalar.indexCast v0
  let c0_133 : Index := 0#32
  let v300 : Vec F S1x8x64 .bf16 ← Prog.lift (.load arg8 (Rect.unit (s := S1x128x64) (k0_off16 i) S1x8x64.size (k0_off16_inb i)).toLoadRect (View.loadsAt_vmem h_S1x8x64))
  have v301 : FVec F S8x64 .bf16 := shapeCast S8x64 v300 shapeCasts_S1x8x64_S8x64
  have cst : FVec F S64x8 .f32 := constant S64x8 .f32 0x00000000#32
  have v302 : FVec F S64x8 .f32 := matmul dot_S64x64_S8x64_S64x8_1_1_0_0_n_n none v295 v298 cst
  have v303 : IVec S64x8 32 := iota .tc S64x8 32 [0] iota_S64x8_d0_w32
  let c8_i32_134 : BitVec 32 := 8#32
  have v304 : IVec S64x8 32 := broadcast S64x8 c8_i32_134
  have v305 : IVec S64x8 32 := divsi v303 v304
  let c0_i32_135 : BitVec 32 := 0#32
  have v306 : IVec S64x8 32 := broadcast S64x8 c0_i32_135
  have v307 : IVec S64x8 1 := cmpi .sgt v303 v306
  have v308 : IVec S64x8 32 := extui 32 v307 natLt_1_32
  let c0_i32_136 : BitVec 32 := 0#32
  have v309 : IVec S64x8 32 := broadcast S64x8 c0_i32_136
  have v310 : IVec S64x8 1 := cmpi .slt v303 v309
  have v311 : IVec S64x8 32 := extui 32 v310 natLt_1_32
  have v312 : IVec S64x8 32 := subi v308 v311
  let c0_i32_137 : BitVec 32 := 0#32
  let v313 : BitVec 1 := Scalar.cmpi .sgt c8_i32_134 c0_i32_137
  let v314 : BitVec 32 := Scalar.extui v313
  let c0_i32_138 : BitVec 32 := 0#32
  let v315 : BitVec 1 := Scalar.cmpi .slt c8_i32_134 c0_i32_138
  let v316 : BitVec 32 := Scalar.extui v315
  let v317 : BitVec 32 := Scalar.subi v314 v316
  have v318 : IVec S64x8 32 := broadcast S64x8 v317
  have v319 : IVec S64x8 1 := cmpi .ne v312 v318
  have v320 : IVec S64x8 32 := broadcast S64x8 c8_i32_134
  have v321 : IVec S64x8 32 := remsi v303 v320
  let c0_i32_139 : BitVec 32 := 0#32
  have v322 : IVec S64x8 32 := broadcast S64x8 c0_i32_139
  pure ⟨v295, v301, v302, v305, v319, v321, v322⟩
)

theorem part379_JH (i : grid0.Coords) (arg1 : Memref sig .tc .smem S32x16 .i32) (harg1 : arg1.IsWhole) (arg2 : Memref sig .tc .vmem S128x256 .i32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x64x64 .bf16) (harg6 : arg6.IsWhole) (arg7 : Memref sig .tc .vmem S1x128x64 .bf16) (harg7 : arg7.IsWhole) (arg8 : Memref sig .tc .vmem S1x128x64 .bf16) (harg8 : arg8.IsWhole) (arg9 : Memref sig .tc .vmem S8x1x32x8192 .i8) (harg9 : arg9.IsWhole) (arg10 : Memref sig .tc .vmem S8x1x32x8192 .i8) (harg10 : arg10.IsWhole) (arg11 : Memref sig .tc .vmem S128x512 .bf16) (harg11 : arg11.IsWhole) (arg12 : Memref sig .tc .vmem S192x1x32x128 .i8) (harg12 : arg12.IsWhole) (arg13 : Memref sig .tc .vmem S192x1x32x128 .i8) (harg13 : arg13.IsWhole) (arg14 : Memref sig .tc .vmem S1x192x128 .f32) (harg14 : arg14.IsWhole) (arg15 : Memref sig .tc .vmem S2x1024x128 .i32) (harg15 : arg15.IsWhole) (arg16 : Memref sig .tc .vmem S2x1024x128 .i32) (harg16 : arg16.IsWhole) (arg17 : Memref sig .tc .vmem S1024x128 .f32) (harg17 : arg17.IsWhole) (arg18 : Memref sig .tc .vmem S128x256 .f32) (harg18 : arg18.IsWhole) (v0 : BitVec 32) (v1 : IVec S8x128 32) (v33 : Elt F .i32) (v65 : Elt F .i32) (v97 : Elt F .i32) (v129 : Elt F .i32) (v161 : Elt F .i32) (v193 : Elt F .i32) (v225 : Elt F .i32) (v257 : Elt F .i32) (v260 : BitVec 1) (v263 : BitVec 1) (v266 : BitVec 1) (v269 : BitVec 1) (v272 : BitVec 1) (v275 : BitVec 1) (v278 : BitVec 1) (v281 : BitVec 1) :
    part379J (nD := nD) (τ := τ) (Λ₀ := Λ₀) (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 v33 v65 v97 v129 v161 v193 v225 v257 v260 v263 v266 v269 v272 v275 v278 v281 = part379H i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 v33 v65 v97 v129 v161 v193 v225 v257 v260 v263 v266 v269 v272 v275 v278 v281 := by
  unfold part379J part379H
  dsimp only
  split <;> split <;> rfl

end Cert.Kernel.Hand
-- ==== Proof.Triples.lean ====
module

public import proofs.«01_k».proof.Proof.Compact2
public import Idealize.ShloMosaic.Lib.Exec
public import Idealize.ShloMosaic.Lib.Tactic
public import Idealize.ShloMosaic.Lib.Pipeline.Kit
public import Idealize.ShloMosaic.Lib.Pipeline.Regions

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ₀ : Labels} {F : FTy → Type} [FloatOps F]

local notation "𝕄" => MT nD τ sig Unit (Elt F) ℕ (UR sig nD τ) ℕ

/-- The buffers the body is handed. -/
structure Ar (sig : RefSig) where
  a1 : Memref sig .tc .smem S32x16 .i32
  a2 : Memref sig .tc .vmem S128x256 .i32
  a3 : Memref sig .tc .vmem S128x256 .f32
  a4 : Memref sig .tc .vmem S128x256 .f32
  a5 : Memref sig .tc .vmem S128x256 .f32
  a6 : Memref sig .tc .vmem S1x64x64 .bf16
  a7 : Memref sig .tc .vmem S1x128x64 .bf16
  a8 : Memref sig .tc .vmem S1x128x64 .bf16
  a9 : Memref sig .tc .vmem S8x1x32x8192 .i8
  a10 : Memref sig .tc .vmem S8x1x32x8192 .i8
  a11 : Memref sig .tc .vmem S128x512 .bf16
  a12 : Memref sig .tc .vmem S192x1x32x128 .i8
  a13 : Memref sig .tc .vmem S192x1x32x128 .i8
  a14 : Memref sig .tc .vmem S1x192x128 .f32
  a15 : Memref sig .tc .vmem S2x1024x128 .i32
  a16 : Memref sig .tc .vmem S2x1024x128 .i32
  a17 : Memref sig .tc .vmem S1024x128 .f32
  a18 : Memref sig .tc .vmem S128x256 .f32

/-- What the inputs hold. -/
structure In (F : FTy → Type) [FloatOps F] where
  x1 : Vec F S32x16 .i32
  x2 : Vec F S128x256 .i32
  x3 : Vec F S128x256 .f32
  x4 : Vec F S128x256 .f32
  x5 : Vec F S128x256 .f32
  x6 : Vec F S1x64x64 .bf16
  x7 : Vec F S1x128x64 .bf16
  x8 : Vec F S1x128x64 .bf16
  x9 : Vec F S8x1x32x8192 .i8
  x10 : Vec F S8x1x32x8192 .i8

/-- What the outputs and the scratch hold. -/
structure St (F : FTy → Type) [FloatOps F] where
  out : Vec F S128x512 .bf16
  ko : Vec F S192x1x32x128 .i8
  vo : Vec F S192x1x32x128 .i8
  so : Vec F S1x192x128 .f32
  kw : Vec F S2x1024x128 .i32
  vw : Vec F S2x1024x128 .i32
  o : Vec F S1024x128 .f32
  sa : Vec F S128x256 .f32

/-- All of it held. -/
def Own (c : Dev nD) (A : Ar sig) (I : In F) (s : St F) : sProp 𝕄 :=
  iprop(owns (c : Thread nD τ) A.a1 fullShare.right I.x1 ∗ owns (c : Thread nD τ) A.a2 fullShare I.x2 ∗ owns (c : Thread nD τ) A.a3 fullShare I.x3 ∗ owns (c : Thread nD τ) A.a4 fullShare I.x4 ∗ owns (c : Thread nD τ) A.a5 fullShare I.x5 ∗ owns (c : Thread nD τ) A.a6 fullShare I.x6 ∗ owns (c : Thread nD τ) A.a7 fullShare I.x7 ∗ owns (c : Thread nD τ) A.a8 fullShare I.x8 ∗ owns (c : Thread nD τ) A.a9 fullShare I.x9 ∗ owns (c : Thread nD τ) A.a10 fullShare I.x10 ∗ owns (c : Thread nD τ) A.a11 fullShare s.out ∗ owns (c : Thread nD τ) A.a12 fullShare s.ko ∗ owns (c : Thread nD τ) A.a13 fullShare s.vo ∗ owns (c : Thread nD τ) A.a14 fullShare s.so ∗ owns (c : Thread nD τ) A.a15 fullShare s.kw ∗ owns (c : Thread nD τ) A.a16 fullShare s.vw ∗ owns (c : Thread nD τ) A.a17 fullShare s.o ∗ owns (c : Thread nD τ) A.a18 fullShare s.sa)

abbrev W (D : Defs nD τ sig (Elt F) Λ₀) (c : Dev nD) {α : Type} (p : PR nD τ sig Λ₀ F α) (Q : α → sProp 𝕄) : sProp 𝕄 :=
  wp frame (wpE D Variants.none (c : Thread nD τ) none) Set.univ p Q

/-- From `s` the piece `p` returns `a` and leaves `s'`. -/
structure Tr (D : Defs nD τ sig (Elt F) Λ₀) (c : Dev nD) (A : Ar sig) (I : In F) {α : Type} (s : St F) (p : PR nD τ sig Λ₀ F α) (a : α) (s' : St F) : Prop where
  run : ∀ (β : Type) (k : α → PR nD τ sig Λ₀ F β) (Q : β → sProp 𝕄), iprop(Own c A I s ∗ (Own c A I s' -∗ W D c (k a) Q)) ⊢ W D c (p >>= k) Q

/-- What is held after a store through the rectangle `r`. -/
def setR {s : Shape} {V : Type} (X : s.Idx → V) (r : Rect s) (w : r.shape.Idx → V) : s.Idx → V :=
  fun x => by
    classical
    exact if h : ∃ y, r.emb y = x then w h.choose else X x

theorem setR_emb {s : Shape} {V : Type} (X : s.Idx → V) (r : Rect s) (w : r.shape.Idx → V) (y : r.shape.Idx) :
    setR X r w (r.emb y) = w y := by
  have h : ∃ z, r.emb z = r.emb y := ⟨y, rfl⟩
  unfold setR
  rw [dif_pos h, r.emb.injective h.choose_spec]

theorem setR_out {s : Shape} {V : Type} (X : s.Idx → V) (r : Rect s) (w : r.shape.Idx → V) (x : s.Idx) (h : ∀ y, r.emb y ≠ x) :
    setR X r w x = X x := by
  unfold setR
  rw [dif_neg (fun ⟨y, hy⟩ => h y hy)]

/-- A store. -/
def St.w_out (s : St F) (r : Rect S128x512) (w : r.shape.Idx → Elt F .bf16) : St F := { s with out := setR s.out r w }
@[simp] theorem St.out_w_out (s : St F) (r : Rect S128x512) (w : r.shape.Idx → Elt F .bf16) : (s.w_out r w).out = setR s.out r w := rfl
@[simp] theorem St.ko_w_out (s : St F) (r : Rect S128x512) (w : r.shape.Idx → Elt F .bf16) : (s.w_out r w).ko = s.ko := rfl
@[simp] theorem St.vo_w_out (s : St F) (r : Rect S128x512) (w : r.shape.Idx → Elt F .bf16) : (s.w_out r w).vo = s.vo := rfl
@[simp] theorem St.so_w_out (s : St F) (r : Rect S128x512) (w : r.shape.Idx → Elt F .bf16) : (s.w_out r w).so = s.so := rfl
@[simp] theorem St.kw_w_out (s : St F) (r : Rect S128x512) (w : r.shape.Idx → Elt F .bf16) : (s.w_out r w).kw = s.kw := rfl
@[simp] theorem St.vw_w_out (s : St F) (r : Rect S128x512) (w : r.shape.Idx → Elt F .bf16) : (s.w_out r w).vw = s.vw := rfl
@[simp] theorem St.o_w_out (s : St F) (r : Rect S128x512) (w : r.shape.Idx → Elt F .bf16) : (s.w_out r w).o = s.o := rfl
@[simp] theorem St.sa_w_out (s : St F) (r : Rect S128x512) (w : r.shape.Idx → Elt F .bf16) : (s.w_out r w).sa = s.sa := rfl
/-- A store. -/
def St.w_ko (s : St F) (r : Rect S192x1x32x128) (w : r.shape.Idx → Elt F .i8) : St F := { s with ko := setR s.ko r w }
@[simp] theorem St.out_w_ko (s : St F) (r : Rect S192x1x32x128) (w : r.shape.Idx → Elt F .i8) : (s.w_ko r w).out = s.out := rfl
@[simp] theorem St.ko_w_ko (s : St F) (r : Rect S192x1x32x128) (w : r.shape.Idx → Elt F .i8) : (s.w_ko r w).ko = setR s.ko r w := rfl
@[simp] theorem St.vo_w_ko (s : St F) (r : Rect S192x1x32x128) (w : r.shape.Idx → Elt F .i8) : (s.w_ko r w).vo = s.vo := rfl
@[simp] theorem St.so_w_ko (s : St F) (r : Rect S192x1x32x128) (w : r.shape.Idx → Elt F .i8) : (s.w_ko r w).so = s.so := rfl
@[simp] theorem St.kw_w_ko (s : St F) (r : Rect S192x1x32x128) (w : r.shape.Idx → Elt F .i8) : (s.w_ko r w).kw = s.kw := rfl
@[simp] theorem St.vw_w_ko (s : St F) (r : Rect S192x1x32x128) (w : r.shape.Idx → Elt F .i8) : (s.w_ko r w).vw = s.vw := rfl
@[simp] theorem St.o_w_ko (s : St F) (r : Rect S192x1x32x128) (w : r.shape.Idx → Elt F .i8) : (s.w_ko r w).o = s.o := rfl
@[simp] theorem St.sa_w_ko (s : St F) (r : Rect S192x1x32x128) (w : r.shape.Idx → Elt F .i8) : (s.w_ko r w).sa = s.sa := rfl
/-- A store. -/
def St.w_vo (s : St F) (r : Rect S192x1x32x128) (w : r.shape.Idx → Elt F .i8) : St F := { s with vo := setR s.vo r w }
@[simp] theorem St.out_w_vo (s : St F) (r : Rect S192x1x32x128) (w : r.shape.Idx → Elt F .i8) : (s.w_vo r w).out = s.out := rfl
@[simp] theorem St.ko_w_vo (s : St F) (r : Rect S192x1x32x128) (w : r.shape.Idx → Elt F .i8) : (s.w_vo r w).ko = s.ko := rfl
@[simp] theorem St.vo_w_vo (s : St F) (r : Rect S192x1x32x128) (w : r.shape.Idx → Elt F .i8) : (s.w_vo r w).vo = setR s.vo r w := rfl
@[simp] theorem St.so_w_vo (s : St F) (r : Rect S192x1x32x128) (w : r.shape.Idx → Elt F .i8) : (s.w_vo r w).so = s.so := rfl
@[simp] theorem St.kw_w_vo (s : St F) (r : Rect S192x1x32x128) (w : r.shape.Idx → Elt F .i8) : (s.w_vo r w).kw = s.kw := rfl
@[simp] theorem St.vw_w_vo (s : St F) (r : Rect S192x1x32x128) (w : r.shape.Idx → Elt F .i8) : (s.w_vo r w).vw = s.vw := rfl
@[simp] theorem St.o_w_vo (s : St F) (r : Rect S192x1x32x128) (w : r.shape.Idx → Elt F .i8) : (s.w_vo r w).o = s.o := rfl
@[simp] theorem St.sa_w_vo (s : St F) (r : Rect S192x1x32x128) (w : r.shape.Idx → Elt F .i8) : (s.w_vo r w).sa = s.sa := rfl
/-- A store. -/
def St.w_so (s : St F) (r : Rect S1x192x128) (w : r.shape.Idx → Elt F .f32) : St F := { s with so := setR s.so r w }
@[simp] theorem St.out_w_so (s : St F) (r : Rect S1x192x128) (w : r.shape.Idx → Elt F .f32) : (s.w_so r w).out = s.out := rfl
@[simp] theorem St.ko_w_so (s : St F) (r : Rect S1x192x128) (w : r.shape.Idx → Elt F .f32) : (s.w_so r w).ko = s.ko := rfl
@[simp] theorem St.vo_w_so (s : St F) (r : Rect S1x192x128) (w : r.shape.Idx → Elt F .f32) : (s.w_so r w).vo = s.vo := rfl
@[simp] theorem St.so_w_so (s : St F) (r : Rect S1x192x128) (w : r.shape.Idx → Elt F .f32) : (s.w_so r w).so = setR s.so r w := rfl
@[simp] theorem St.kw_w_so (s : St F) (r : Rect S1x192x128) (w : r.shape.Idx → Elt F .f32) : (s.w_so r w).kw = s.kw := rfl
@[simp] theorem St.vw_w_so (s : St F) (r : Rect S1x192x128) (w : r.shape.Idx → Elt F .f32) : (s.w_so r w).vw = s.vw := rfl
@[simp] theorem St.o_w_so (s : St F) (r : Rect S1x192x128) (w : r.shape.Idx → Elt F .f32) : (s.w_so r w).o = s.o := rfl
@[simp] theorem St.sa_w_so (s : St F) (r : Rect S1x192x128) (w : r.shape.Idx → Elt F .f32) : (s.w_so r w).sa = s.sa := rfl
/-- A store. -/
def St.w_kw (s : St F) (r : Rect S2x1024x128) (w : r.shape.Idx → Elt F .i32) : St F := { s with kw := setR s.kw r w }
@[simp] theorem St.out_w_kw (s : St F) (r : Rect S2x1024x128) (w : r.shape.Idx → Elt F .i32) : (s.w_kw r w).out = s.out := rfl
@[simp] theorem St.ko_w_kw (s : St F) (r : Rect S2x1024x128) (w : r.shape.Idx → Elt F .i32) : (s.w_kw r w).ko = s.ko := rfl
@[simp] theorem St.vo_w_kw (s : St F) (r : Rect S2x1024x128) (w : r.shape.Idx → Elt F .i32) : (s.w_kw r w).vo = s.vo := rfl
@[simp] theorem St.so_w_kw (s : St F) (r : Rect S2x1024x128) (w : r.shape.Idx → Elt F .i32) : (s.w_kw r w).so = s.so := rfl
@[simp] theorem St.kw_w_kw (s : St F) (r : Rect S2x1024x128) (w : r.shape.Idx → Elt F .i32) : (s.w_kw r w).kw = setR s.kw r w := rfl
@[simp] theorem St.vw_w_kw (s : St F) (r : Rect S2x1024x128) (w : r.shape.Idx → Elt F .i32) : (s.w_kw r w).vw = s.vw := rfl
@[simp] theorem St.o_w_kw (s : St F) (r : Rect S2x1024x128) (w : r.shape.Idx → Elt F .i32) : (s.w_kw r w).o = s.o := rfl
@[simp] theorem St.sa_w_kw (s : St F) (r : Rect S2x1024x128) (w : r.shape.Idx → Elt F .i32) : (s.w_kw r w).sa = s.sa := rfl
/-- A store. -/
def St.w_vw (s : St F) (r : Rect S2x1024x128) (w : r.shape.Idx → Elt F .i32) : St F := { s with vw := setR s.vw r w }
@[simp] theorem St.out_w_vw (s : St F) (r : Rect S2x1024x128) (w : r.shape.Idx → Elt F .i32) : (s.w_vw r w).out = s.out := rfl
@[simp] theorem St.ko_w_vw (s : St F) (r : Rect S2x1024x128) (w : r.shape.Idx → Elt F .i32) : (s.w_vw r w).ko = s.ko := rfl
@[simp] theorem St.vo_w_vw (s : St F) (r : Rect S2x1024x128) (w : r.shape.Idx → Elt F .i32) : (s.w_vw r w).vo = s.vo := rfl
@[simp] theorem St.so_w_vw (s : St F) (r : Rect S2x1024x128) (w : r.shape.Idx → Elt F .i32) : (s.w_vw r w).so = s.so := rfl
@[simp] theorem St.kw_w_vw (s : St F) (r : Rect S2x1024x128) (w : r.shape.Idx → Elt F .i32) : (s.w_vw r w).kw = s.kw := rfl
@[simp] theorem St.vw_w_vw (s : St F) (r : Rect S2x1024x128) (w : r.shape.Idx → Elt F .i32) : (s.w_vw r w).vw = setR s.vw r w := rfl
@[simp] theorem St.o_w_vw (s : St F) (r : Rect S2x1024x128) (w : r.shape.Idx → Elt F .i32) : (s.w_vw r w).o = s.o := rfl
@[simp] theorem St.sa_w_vw (s : St F) (r : Rect S2x1024x128) (w : r.shape.Idx → Elt F .i32) : (s.w_vw r w).sa = s.sa := rfl
/-- A store. -/
def St.w_o (s : St F) (r : Rect S1024x128) (w : r.shape.Idx → Elt F .f32) : St F := { s with o := setR s.o r w }
@[simp] theorem St.out_w_o (s : St F) (r : Rect S1024x128) (w : r.shape.Idx → Elt F .f32) : (s.w_o r w).out = s.out := rfl
@[simp] theorem St.ko_w_o (s : St F) (r : Rect S1024x128) (w : r.shape.Idx → Elt F .f32) : (s.w_o r w).ko = s.ko := rfl
@[simp] theorem St.vo_w_o (s : St F) (r : Rect S1024x128) (w : r.shape.Idx → Elt F .f32) : (s.w_o r w).vo = s.vo := rfl
@[simp] theorem St.so_w_o (s : St F) (r : Rect S1024x128) (w : r.shape.Idx → Elt F .f32) : (s.w_o r w).so = s.so := rfl
@[simp] theorem St.kw_w_o (s : St F) (r : Rect S1024x128) (w : r.shape.Idx → Elt F .f32) : (s.w_o r w).kw = s.kw := rfl
@[simp] theorem St.vw_w_o (s : St F) (r : Rect S1024x128) (w : r.shape.Idx → Elt F .f32) : (s.w_o r w).vw = s.vw := rfl
@[simp] theorem St.o_w_o (s : St F) (r : Rect S1024x128) (w : r.shape.Idx → Elt F .f32) : (s.w_o r w).o = setR s.o r w := rfl
@[simp] theorem St.sa_w_o (s : St F) (r : Rect S1024x128) (w : r.shape.Idx → Elt F .f32) : (s.w_o r w).sa = s.sa := rfl
/-- A store. -/
def St.w_sa (s : St F) (r : Rect S128x256) (w : r.shape.Idx → Elt F .f32) : St F := { s with sa := setR s.sa r w }
@[simp] theorem St.out_w_sa (s : St F) (r : Rect S128x256) (w : r.shape.Idx → Elt F .f32) : (s.w_sa r w).out = s.out := rfl
@[simp] theorem St.ko_w_sa (s : St F) (r : Rect S128x256) (w : r.shape.Idx → Elt F .f32) : (s.w_sa r w).ko = s.ko := rfl
@[simp] theorem St.vo_w_sa (s : St F) (r : Rect S128x256) (w : r.shape.Idx → Elt F .f32) : (s.w_sa r w).vo = s.vo := rfl
@[simp] theorem St.so_w_sa (s : St F) (r : Rect S128x256) (w : r.shape.Idx → Elt F .f32) : (s.w_sa r w).so = s.so := rfl
@[simp] theorem St.kw_w_sa (s : St F) (r : Rect S128x256) (w : r.shape.Idx → Elt F .f32) : (s.w_sa r w).kw = s.kw := rfl
@[simp] theorem St.vw_w_sa (s : St F) (r : Rect S128x256) (w : r.shape.Idx → Elt F .f32) : (s.w_sa r w).vw = s.vw := rfl
@[simp] theorem St.o_w_sa (s : St F) (r : Rect S128x256) (w : r.shape.Idx → Elt F .f32) : (s.w_sa r w).o = s.o := rfl
@[simp] theorem St.sa_w_sa (s : St F) (r : Rect S128x256) (w : r.shape.Idx → Elt F .f32) : (s.w_sa r w).sa = setR s.sa r w := rfl

theorem read_store {sp : Space} {s : Shape} {e : EltTy} (m : Memref sig .tc sp s e) (r : Rect s) (f : m.view.ty.Contents (Elt F))
    (w : r.shape.Idx → Elt F e) :
    m.view.read (Elt F) ((m.access r).write (Elt F) f w Finset.univ) = setR (m.view.read (Elt F) f) r w := by
  funext x
  by_cases h : ∃ y, r.emb y = x
  · obtain ⟨y, rfl⟩ := h
    rw [setR_emb]
    exact View.read_slice_write_emb r f w (Finset.mem_univ y)
  · rw [setR_out _ _ _ _ (fun y hy => h ⟨y, hy⟩)]
    refine View.read_slice_write_of_not_mem r f w Finset.univ ?_
    intro hm
    obtain ⟨y, -, hy⟩ := Finset.mem_map.mp hm
    exact h ⟨y, hy⟩

section
variable {D : Defs nD τ sig (Elt F) Λ₀} {c : Dev nD} {A : Ar sig} {I : In F}

theorem Tr.bind {α β : Type} {s s1 s2 : St F} {p : PR nD τ sig Λ₀ F α} {a : α} {f : α → PR nD τ sig Λ₀ F β} {b : β}
    (h1 : Tr D c A I s p a s1) (h2 : Tr D c A I s1 (f a) b s2) : Tr D c A I s (p >>= f) b s2 := by
  refine ⟨fun γ k Q => ?_⟩
  rw [bind_assoc]
  refine BIBase.Entails.trans ?_ (h1.run _ (fun x => f x >>= k) Q)
  iintro ⟨H, K⟩
  isplitl [H]; · iexact H
  iintro H
  iapply (h2.run _ k Q)
  isplitl [H]; · iexact H
  iexact K

theorem Tr.pure {α : Type} {s : St F} (a : α) : Tr D c A I s (pure a : PR nD τ sig Λ₀ F α) a s := by
  refine ⟨fun γ k Q => ?_⟩
  rw [pure_bind]
  iintro ⟨H, K⟩
  iapply K
  iexact H

theorem Tr.ite {α : Type} {s s1 s2 : St F} {C : Prop} [Decidable C] {p q : PR nD τ sig Λ₀ F α} {a b : α}
    (h1 : Tr D c A I s p a s1) (h2 : Tr D c A I s q b s2) : Tr D c A I s (if C then p else q) (if C then a else b) (if C then s1 else s2) := by
  split
  · exact h1
  · exact h2

theorem Tr.load {cs : CoreSpace} {sh : Shape} {e : EltTy} {s : St F} {m : Memref sig .tc cs sh e} {q : PosShare TreeShare} {X : sh.Idx → Elt F e}
    (hacc : Own c A I s ⊢ iprop(owns (c : Thread nD τ) m q X ∗ (owns (c : Thread nD τ) m q X -∗ Own c A I s)))
    (r : LoadRect sh) (hl : m.view.LoadsAt r) :
    Tr D c A I s (Prog.lift (.load m r hl) : PR nD τ sig Λ₀ F (r.shape.Idx → Elt F e)) (fun x => X (r.idx x)) s := by
  refine ⟨fun γ k Q => ?_⟩
  refine BIBase.Entails.trans (sep_mono_left hacc) ?_
  unfold owns
  iintro ⟨⟨⟨%f, %hf, H⟩, B⟩, K⟩
  subst hf
  iapply (wp_load (defs := D) Variants.none (c : Thread nD τ) none Set.univ (m := m) (r := r) (hl := hl) (k := k) (Q := Q) (S := m.view.set) (q := q) (f := f) (m.view.setOn_subset_set _)) $$ H
  iintro H
  iapply K
  iapply B
  iexists f
  isplitr; · ipureintro; rfl
  iexact H

theorem Tr.word {sh : Shape} {e : EltTy} {s : St F} {m : Memref sig .tc .smem sh e} {q : PosShare TreeShare} {X : sh.Idx → Elt F e}
    (hacc : Own c A I s ⊢ iprop(owns (c : Thread nD τ) m q X ∗ (owns (c : Thread nD τ) m q X -∗ Own c A I s)))
    (r : Rect sh) (h1 : r.shape.numel = 1) (hp : e.packing = 1) :
    Tr D c A I s (smemLoad m r h1 hp : PR nD τ sig Λ₀ F (Elt F e)) (X (r.emb (Shape.Idx.first (h1.symm ▸ Nat.one_pos)))) s := by
  refine ⟨fun γ k Q => ?_⟩
  exact (Tr.load hacc r.toLoadRect (View.loadsAt_rect (View.loads_smem_one hp h1))).run _ (fun f => k (f (Shape.Idx.first (h1.symm ▸ Nat.one_pos)))) Q

theorem Tr.store {cs : CoreSpace} {sh : Shape} {e : EltTy} {s s' : St F} {m : Memref sig .tc cs sh e} {X : sh.Idx → Elt F e} {r : Rect sh} {w : r.shape.Idx → Elt F e}
    (hacc : Own c A I s ⊢ iprop(owns (c : Thread nD τ) m fullShare X ∗ (owns (c : Thread nD τ) m fullShare (setR X r w) -∗ Own c A I s')))
    {hx : (m.access r).Stores Finset.univ} {hm : (Finset.univ : Finset r.shape.Idx) = Finset.univ ∨ ∀ a, r.stride a = 1} :
    Tr D c A I s (Prog.lift (.store m r w Finset.univ hx hm) : PR nD τ sig Λ₀ F PUnit) ⟨⟩ s' := by
  refine ⟨fun γ k Q => ?_⟩
  refine BIBase.Entails.trans (sep_mono_left hacc) ?_
  unfold owns
  iintro ⟨⟨⟨%f, %hf, H⟩, B⟩, K⟩
  subst hf
  iapply (wp_store (defs := D) Variants.none (c : Thread nD τ) none Set.univ (m := m) (r := r) (w := w) (Mk := Finset.univ) (hx := hx) (hm := hm) (k := k) (Q := Q) (S := m.view.set) (f := f) (((m.access r).setOn_subset_set _).trans (m.view.set_slice_subset r))) $$ H
  iintro H
  iapply K
  iapply B
  iexists _
  isplitr
  · ipureintro; exact read_store m r f w
  iexact H

theorem Tr.steps {S : Type} (step : ℕ → S → PR nD τ sig Λ₀ F S) (g : ℕ → S → S) {s : St F} (h : ∀ j x, Tr D c A I s (step j x) (g j x) s) :
    ∀ n j x, Tr D c A I s (tileRun step n j x) ((Nat.rec (motive := fun _ => ℕ → S → S) (fun _ x => x) (fun _ ih j x => ih (j + 1) (g j x)) n : ℕ → S → S) j x) s
  | 0, j, x => Tr.pure x
  | n + 1, j, x => (h j x).bind (Tr.steps step g h n (j + 1) (g j x))

theorem acc_a1 (s : St F) : Own c A I s ⊢ iprop(owns (c : Thread nD τ) A.a1 fullShare.right I.x1 ∗ (owns (c : Thread nD τ) A.a1 fullShare.right I.x1 -∗ Own c A I s)) := by
  unfold Own
  iintro ⟨H0, H1, H2, H3, H4, H5, H6, H7, H8, H9, H10, H11, H12, H13, H14, H15, H16, H17⟩
  isplitl [H0]; · iexact H0
  iintro H0
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a2 (s : St F) : Own c A I s ⊢ iprop(owns (c : Thread nD τ) A.a2 fullShare I.x2 ∗ (owns (c : Thread nD τ) A.a2 fullShare I.x2 -∗ Own c A I s)) := by
  unfold Own
  iintro ⟨H0, H1, H2, H3, H4, H5, H6, H7, H8, H9, H10, H11, H12, H13, H14, H15, H16, H17⟩
  isplitl [H1]; · iexact H1
  iintro H1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a3 (s : St F) : Own c A I s ⊢ iprop(owns (c : Thread nD τ) A.a3 fullShare I.x3 ∗ (owns (c : Thread nD τ) A.a3 fullShare I.x3 -∗ Own c A I s)) := by
  unfold Own
  iintro ⟨H0, H1, H2, H3, H4, H5, H6, H7, H8, H9, H10, H11, H12, H13, H14, H15, H16, H17⟩
  isplitl [H2]; · iexact H2
  iintro H2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a4 (s : St F) : Own c A I s ⊢ iprop(owns (c : Thread nD τ) A.a4 fullShare I.x4 ∗ (owns (c : Thread nD τ) A.a4 fullShare I.x4 -∗ Own c A I s)) := by
  unfold Own
  iintro ⟨H0, H1, H2, H3, H4, H5, H6, H7, H8, H9, H10, H11, H12, H13, H14, H15, H16, H17⟩
  isplitl [H3]; · iexact H3
  iintro H3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a5 (s : St F) : Own c A I s ⊢ iprop(owns (c : Thread nD τ) A.a5 fullShare I.x5 ∗ (owns (c : Thread nD τ) A.a5 fullShare I.x5 -∗ Own c A I s)) := by
  unfold Own
  iintro ⟨H0, H1, H2, H3, H4, H5, H6, H7, H8, H9, H10, H11, H12, H13, H14, H15, H16, H17⟩
  isplitl [H4]; · iexact H4
  iintro H4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a6 (s : St F) : Own c A I s ⊢ iprop(owns (c : Thread nD τ) A.a6 fullShare I.x6 ∗ (owns (c : Thread nD τ) A.a6 fullShare I.x6 -∗ Own c A I s)) := by
  unfold Own
  iintro ⟨H0, H1, H2, H3, H4, H5, H6, H7, H8, H9, H10, H11, H12, H13, H14, H15, H16, H17⟩
  isplitl [H5]; · iexact H5
  iintro H5
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a7 (s : St F) : Own c A I s ⊢ iprop(owns (c : Thread nD τ) A.a7 fullShare I.x7 ∗ (owns (c : Thread nD τ) A.a7 fullShare I.x7 -∗ Own c A I s)) := by
  unfold Own
  iintro ⟨H0, H1, H2, H3, H4, H5, H6, H7, H8, H9, H10, H11, H12, H13, H14, H15, H16, H17⟩
  isplitl [H6]; · iexact H6
  iintro H6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a8 (s : St F) : Own c A I s ⊢ iprop(owns (c : Thread nD τ) A.a8 fullShare I.x8 ∗ (owns (c : Thread nD τ) A.a8 fullShare I.x8 -∗ Own c A I s)) := by
  unfold Own
  iintro ⟨H0, H1, H2, H3, H4, H5, H6, H7, H8, H9, H10, H11, H12, H13, H14, H15, H16, H17⟩
  isplitl [H7]; · iexact H7
  iintro H7
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a9 (s : St F) : Own c A I s ⊢ iprop(owns (c : Thread nD τ) A.a9 fullShare I.x9 ∗ (owns (c : Thread nD τ) A.a9 fullShare I.x9 -∗ Own c A I s)) := by
  unfold Own
  iintro ⟨H0, H1, H2, H3, H4, H5, H6, H7, H8, H9, H10, H11, H12, H13, H14, H15, H16, H17⟩
  isplitl [H8]; · iexact H8
  iintro H8
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a10 (s : St F) : Own c A I s ⊢ iprop(owns (c : Thread nD τ) A.a10 fullShare I.x10 ∗ (owns (c : Thread nD τ) A.a10 fullShare I.x10 -∗ Own c A I s)) := by
  unfold Own
  iintro ⟨H0, H1, H2, H3, H4, H5, H6, H7, H8, H9, H10, H11, H12, H13, H14, H15, H16, H17⟩
  isplitl [H9]; · iexact H9
  iintro H9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a11 (s : St F) : Own c A I s ⊢ iprop(owns (c : Thread nD τ) A.a11 fullShare s.out ∗ (owns (c : Thread nD τ) A.a11 fullShare s.out -∗ Own c A I s)) := by
  unfold Own
  iintro ⟨H0, H1, H2, H3, H4, H5, H6, H7, H8, H9, H10, H11, H12, H13, H14, H15, H16, H17⟩
  isplitl [H10]; · iexact H10
  iintro H10
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem upd_a11 (s : St F) (X : Vec F S128x512 .bf16) : Own c A I s ⊢ iprop(owns (c : Thread nD τ) A.a11 fullShare s.out ∗ (owns (c : Thread nD τ) A.a11 fullShare X -∗ Own c A I { s with out := X })) := by
  unfold Own
  iintro ⟨H0, H1, H2, H3, H4, H5, H6, H7, H8, H9, H10, H11, H12, H13, H14, H15, H16, H17⟩
  isplitl [H10]; · iexact H10
  iintro H10
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a12 (s : St F) : Own c A I s ⊢ iprop(owns (c : Thread nD τ) A.a12 fullShare s.ko ∗ (owns (c : Thread nD τ) A.a12 fullShare s.ko -∗ Own c A I s)) := by
  unfold Own
  iintro ⟨H0, H1, H2, H3, H4, H5, H6, H7, H8, H9, H10, H11, H12, H13, H14, H15, H16, H17⟩
  isplitl [H11]; · iexact H11
  iintro H11
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem upd_a12 (s : St F) (X : Vec F S192x1x32x128 .i8) : Own c A I s ⊢ iprop(owns (c : Thread nD τ) A.a12 fullShare s.ko ∗ (owns (c : Thread nD τ) A.a12 fullShare X -∗ Own c A I { s with ko := X })) := by
  unfold Own
  iintro ⟨H0, H1, H2, H3, H4, H5, H6, H7, H8, H9, H10, H11, H12, H13, H14, H15, H16, H17⟩
  isplitl [H11]; · iexact H11
  iintro H11
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a13 (s : St F) : Own c A I s ⊢ iprop(owns (c : Thread nD τ) A.a13 fullShare s.vo ∗ (owns (c : Thread nD τ) A.a13 fullShare s.vo -∗ Own c A I s)) := by
  unfold Own
  iintro ⟨H0, H1, H2, H3, H4, H5, H6, H7, H8, H9, H10, H11, H12, H13, H14, H15, H16, H17⟩
  isplitl [H12]; · iexact H12
  iintro H12
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem upd_a13 (s : St F) (X : Vec F S192x1x32x128 .i8) : Own c A I s ⊢ iprop(owns (c : Thread nD τ) A.a13 fullShare s.vo ∗ (owns (c : Thread nD τ) A.a13 fullShare X -∗ Own c A I { s with vo := X })) := by
  unfold Own
  iintro ⟨H0, H1, H2, H3, H4, H5, H6, H7, H8, H9, H10, H11, H12, H13, H14, H15, H16, H17⟩
  isplitl [H12]; · iexact H12
  iintro H12
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a14 (s : St F) : Own c A I s ⊢ iprop(owns (c : Thread nD τ) A.a14 fullShare s.so ∗ (owns (c : Thread nD τ) A.a14 fullShare s.so -∗ Own c A I s)) := by
  unfold Own
  iintro ⟨H0, H1, H2, H3, H4, H5, H6, H7, H8, H9, H10, H11, H12, H13, H14, H15, H16, H17⟩
  isplitl [H13]; · iexact H13
  iintro H13
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem upd_a14 (s : St F) (X : Vec F S1x192x128 .f32) : Own c A I s ⊢ iprop(owns (c : Thread nD τ) A.a14 fullShare s.so ∗ (owns (c : Thread nD τ) A.a14 fullShare X -∗ Own c A I { s with so := X })) := by
  unfold Own
  iintro ⟨H0, H1, H2, H3, H4, H5, H6, H7, H8, H9, H10, H11, H12, H13, H14, H15, H16, H17⟩
  isplitl [H13]; · iexact H13
  iintro H13
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a15 (s : St F) : Own c A I s ⊢ iprop(owns (c : Thread nD τ) A.a15 fullShare s.kw ∗ (owns (c : Thread nD τ) A.a15 fullShare s.kw -∗ Own c A I s)) := by
  unfold Own
  iintro ⟨H0, H1, H2, H3, H4, H5, H6, H7, H8, H9, H10, H11, H12, H13, H14, H15, H16, H17⟩
  isplitl [H14]; · iexact H14
  iintro H14
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem upd_a15 (s : St F) (X : Vec F S2x1024x128 .i32) : Own c A I s ⊢ iprop(owns (c : Thread nD τ) A.a15 fullShare s.kw ∗ (owns (c : Thread nD τ) A.a15 fullShare X -∗ Own c A I { s with kw := X })) := by
  unfold Own
  iintro ⟨H0, H1, H2, H3, H4, H5, H6, H7, H8, H9, H10, H11, H12, H13, H14, H15, H16, H17⟩
  isplitl [H14]; · iexact H14
  iintro H14
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a16 (s : St F) : Own c A I s ⊢ iprop(owns (c : Thread nD τ) A.a16 fullShare s.vw ∗ (owns (c : Thread nD τ) A.a16 fullShare s.vw -∗ Own c A I s)) := by
  unfold Own
  iintro ⟨H0, H1, H2, H3, H4, H5, H6, H7, H8, H9, H10, H11, H12, H13, H14, H15, H16, H17⟩
  isplitl [H15]; · iexact H15
  iintro H15
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem upd_a16 (s : St F) (X : Vec F S2x1024x128 .i32) : Own c A I s ⊢ iprop(owns (c : Thread nD τ) A.a16 fullShare s.vw ∗ (owns (c : Thread nD τ) A.a16 fullShare X -∗ Own c A I { s with vw := X })) := by
  unfold Own
  iintro ⟨H0, H1, H2, H3, H4, H5, H6, H7, H8, H9, H10, H11, H12, H13, H14, H15, H16, H17⟩
  isplitl [H15]; · iexact H15
  iintro H15
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a17 (s : St F) : Own c A I s ⊢ iprop(owns (c : Thread nD τ) A.a17 fullShare s.o ∗ (owns (c : Thread nD τ) A.a17 fullShare s.o -∗ Own c A I s)) := by
  unfold Own
  iintro ⟨H0, H1, H2, H3, H4, H5, H6, H7, H8, H9, H10, H11, H12, H13, H14, H15, H16, H17⟩
  isplitl [H16]; · iexact H16
  iintro H16
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem upd_a17 (s : St F) (X : Vec F S1024x128 .f32) : Own c A I s ⊢ iprop(owns (c : Thread nD τ) A.a17 fullShare s.o ∗ (owns (c : Thread nD τ) A.a17 fullShare X -∗ Own c A I { s with o := X })) := by
  unfold Own
  iintro ⟨H0, H1, H2, H3, H4, H5, H6, H7, H8, H9, H10, H11, H12, H13, H14, H15, H16, H17⟩
  isplitl [H16]; · iexact H16
  iintro H16
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem acc_a18 (s : St F) : Own c A I s ⊢ iprop(owns (c : Thread nD τ) A.a18 fullShare s.sa ∗ (owns (c : Thread nD τ) A.a18 fullShare s.sa -∗ Own c A I s)) := by
  unfold Own
  iintro ⟨H0, H1, H2, H3, H4, H5, H6, H7, H8, H9, H10, H11, H12, H13, H14, H15, H16, H17⟩
  isplitl [H17]; · iexact H17
  iintro H17
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem upd_a18 (s : St F) (X : Vec F S128x256 .f32) : Own c A I s ⊢ iprop(owns (c : Thread nD τ) A.a18 fullShare s.sa ∗ (owns (c : Thread nD τ) A.a18 fullShare X -∗ Own c A I { s with sa := X })) := by
  unfold Own
  iintro ⟨H0, H1, H2, H3, H4, H5, H6, H7, H8, H9, H10, H11, H12, H13, H14, H15, H16, H17⟩
  isplitl [H17]; · iexact H17
  iintro H17
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem ld_a2 (s : St F) (r : LoadRect S128x256) (hl : A.a2.view.LoadsAt r) : Tr D c A I s (Prog.lift (.load A.a2 r hl) : PR nD τ sig Λ₀ F (r.shape.Idx → Elt F .i32)) (fun x => I.x2 (r.idx x)) s :=
  Tr.load (acc_a2 s) r hl
theorem ld_a3 (s : St F) (r : LoadRect S128x256) (hl : A.a3.view.LoadsAt r) : Tr D c A I s (Prog.lift (.load A.a3 r hl) : PR nD τ sig Λ₀ F (r.shape.Idx → Elt F .f32)) (fun x => I.x3 (r.idx x)) s :=
  Tr.load (acc_a3 s) r hl
theorem ld_a4 (s : St F) (r : LoadRect S128x256) (hl : A.a4.view.LoadsAt r) : Tr D c A I s (Prog.lift (.load A.a4 r hl) : PR nD τ sig Λ₀ F (r.shape.Idx → Elt F .f32)) (fun x => I.x4 (r.idx x)) s :=
  Tr.load (acc_a4 s) r hl
theorem ld_a5 (s : St F) (r : LoadRect S128x256) (hl : A.a5.view.LoadsAt r) : Tr D c A I s (Prog.lift (.load A.a5 r hl) : PR nD τ sig Λ₀ F (r.shape.Idx → Elt F .f32)) (fun x => I.x5 (r.idx x)) s :=
  Tr.load (acc_a5 s) r hl
theorem ld_a6 (s : St F) (r : LoadRect S1x64x64) (hl : A.a6.view.LoadsAt r) : Tr D c A I s (Prog.lift (.load A.a6 r hl) : PR nD τ sig Λ₀ F (r.shape.Idx → Elt F .bf16)) (fun x => I.x6 (r.idx x)) s :=
  Tr.load (acc_a6 s) r hl
theorem ld_a7 (s : St F) (r : LoadRect S1x128x64) (hl : A.a7.view.LoadsAt r) : Tr D c A I s (Prog.lift (.load A.a7 r hl) : PR nD τ sig Λ₀ F (r.shape.Idx → Elt F .bf16)) (fun x => I.x7 (r.idx x)) s :=
  Tr.load (acc_a7 s) r hl
theorem ld_a8 (s : St F) (r : LoadRect S1x128x64) (hl : A.a8.view.LoadsAt r) : Tr D c A I s (Prog.lift (.load A.a8 r hl) : PR nD τ sig Λ₀ F (r.shape.Idx → Elt F .bf16)) (fun x => I.x8 (r.idx x)) s :=
  Tr.load (acc_a8 s) r hl
theorem ld_a9 (s : St F) (r : LoadRect S8x1x32x8192) (hl : A.a9.view.LoadsAt r) : Tr D c A I s (Prog.lift (.load A.a9 r hl) : PR nD τ sig Λ₀ F (r.shape.Idx → Elt F .i8)) (fun x => I.x9 (r.idx x)) s :=
  Tr.load (acc_a9 s) r hl
theorem ld_a10 (s : St F) (r : LoadRect S8x1x32x8192) (hl : A.a10.view.LoadsAt r) : Tr D c A I s (Prog.lift (.load A.a10 r hl) : PR nD τ sig Λ₀ F (r.shape.Idx → Elt F .i8)) (fun x => I.x10 (r.idx x)) s :=
  Tr.load (acc_a10 s) r hl
theorem ld_a11 (s : St F) (r : LoadRect S128x512) (hl : A.a11.view.LoadsAt r) : Tr D c A I s (Prog.lift (.load A.a11 r hl) : PR nD τ sig Λ₀ F (r.shape.Idx → Elt F .bf16)) (fun x => s.out (r.idx x)) s :=
  Tr.load (acc_a11 s) r hl
theorem st_a11 (s : St F) (r : Rect S128x512) (w : r.shape.Idx → Elt F .bf16) (hx : (A.a11.access r).Stores Finset.univ) (hm : (Finset.univ : Finset r.shape.Idx) = Finset.univ ∨ ∀ a, r.stride a = 1) :
    Tr D c A I s (Prog.lift (.store A.a11 r w Finset.univ hx hm) : PR nD τ sig Λ₀ F PUnit) ⟨⟩ (s.w_out r w) :=
  Tr.store (upd_a11 s _)
theorem ld_a12 (s : St F) (r : LoadRect S192x1x32x128) (hl : A.a12.view.LoadsAt r) : Tr D c A I s (Prog.lift (.load A.a12 r hl) : PR nD τ sig Λ₀ F (r.shape.Idx → Elt F .i8)) (fun x => s.ko (r.idx x)) s :=
  Tr.load (acc_a12 s) r hl
theorem st_a12 (s : St F) (r : Rect S192x1x32x128) (w : r.shape.Idx → Elt F .i8) (hx : (A.a12.access r).Stores Finset.univ) (hm : (Finset.univ : Finset r.shape.Idx) = Finset.univ ∨ ∀ a, r.stride a = 1) :
    Tr D c A I s (Prog.lift (.store A.a12 r w Finset.univ hx hm) : PR nD τ sig Λ₀ F PUnit) ⟨⟩ (s.w_ko r w) :=
  Tr.store (upd_a12 s _)
theorem ld_a13 (s : St F) (r : LoadRect S192x1x32x128) (hl : A.a13.view.LoadsAt r) : Tr D c A I s (Prog.lift (.load A.a13 r hl) : PR nD τ sig Λ₀ F (r.shape.Idx → Elt F .i8)) (fun x => s.vo (r.idx x)) s :=
  Tr.load (acc_a13 s) r hl
theorem st_a13 (s : St F) (r : Rect S192x1x32x128) (w : r.shape.Idx → Elt F .i8) (hx : (A.a13.access r).Stores Finset.univ) (hm : (Finset.univ : Finset r.shape.Idx) = Finset.univ ∨ ∀ a, r.stride a = 1) :
    Tr D c A I s (Prog.lift (.store A.a13 r w Finset.univ hx hm) : PR nD τ sig Λ₀ F PUnit) ⟨⟩ (s.w_vo r w) :=
  Tr.store (upd_a13 s _)
theorem ld_a14 (s : St F) (r : LoadRect S1x192x128) (hl : A.a14.view.LoadsAt r) : Tr D c A I s (Prog.lift (.load A.a14 r hl) : PR nD τ sig Λ₀ F (r.shape.Idx → Elt F .f32)) (fun x => s.so (r.idx x)) s :=
  Tr.load (acc_a14 s) r hl
theorem st_a14 (s : St F) (r : Rect S1x192x128) (w : r.shape.Idx → Elt F .f32) (hx : (A.a14.access r).Stores Finset.univ) (hm : (Finset.univ : Finset r.shape.Idx) = Finset.univ ∨ ∀ a, r.stride a = 1) :
    Tr D c A I s (Prog.lift (.store A.a14 r w Finset.univ hx hm) : PR nD τ sig Λ₀ F PUnit) ⟨⟩ (s.w_so r w) :=
  Tr.store (upd_a14 s _)
theorem ld_a15 (s : St F) (r : LoadRect S2x1024x128) (hl : A.a15.view.LoadsAt r) : Tr D c A I s (Prog.lift (.load A.a15 r hl) : PR nD τ sig Λ₀ F (r.shape.Idx → Elt F .i32)) (fun x => s.kw (r.idx x)) s :=
  Tr.load (acc_a15 s) r hl
theorem st_a15 (s : St F) (r : Rect S2x1024x128) (w : r.shape.Idx → Elt F .i32) (hx : (A.a15.access r).Stores Finset.univ) (hm : (Finset.univ : Finset r.shape.Idx) = Finset.univ ∨ ∀ a, r.stride a = 1) :
    Tr D c A I s (Prog.lift (.store A.a15 r w Finset.univ hx hm) : PR nD τ sig Λ₀ F PUnit) ⟨⟩ (s.w_kw r w) :=
  Tr.store (upd_a15 s _)
theorem ld_a16 (s : St F) (r : LoadRect S2x1024x128) (hl : A.a16.view.LoadsAt r) : Tr D c A I s (Prog.lift (.load A.a16 r hl) : PR nD τ sig Λ₀ F (r.shape.Idx → Elt F .i32)) (fun x => s.vw (r.idx x)) s :=
  Tr.load (acc_a16 s) r hl
theorem st_a16 (s : St F) (r : Rect S2x1024x128) (w : r.shape.Idx → Elt F .i32) (hx : (A.a16.access r).Stores Finset.univ) (hm : (Finset.univ : Finset r.shape.Idx) = Finset.univ ∨ ∀ a, r.stride a = 1) :
    Tr D c A I s (Prog.lift (.store A.a16 r w Finset.univ hx hm) : PR nD τ sig Λ₀ F PUnit) ⟨⟩ (s.w_vw r w) :=
  Tr.store (upd_a16 s _)
theorem ld_a17 (s : St F) (r : LoadRect S1024x128) (hl : A.a17.view.LoadsAt r) : Tr D c A I s (Prog.lift (.load A.a17 r hl) : PR nD τ sig Λ₀ F (r.shape.Idx → Elt F .f32)) (fun x => s.o (r.idx x)) s :=
  Tr.load (acc_a17 s) r hl
theorem st_a17 (s : St F) (r : Rect S1024x128) (w : r.shape.Idx → Elt F .f32) (hx : (A.a17.access r).Stores Finset.univ) (hm : (Finset.univ : Finset r.shape.Idx) = Finset.univ ∨ ∀ a, r.stride a = 1) :
    Tr D c A I s (Prog.lift (.store A.a17 r w Finset.univ hx hm) : PR nD τ sig Λ₀ F PUnit) ⟨⟩ (s.w_o r w) :=
  Tr.store (upd_a17 s _)
theorem ld_a18 (s : St F) (r : LoadRect S128x256) (hl : A.a18.view.LoadsAt r) : Tr D c A I s (Prog.lift (.load A.a18 r hl) : PR nD τ sig Λ₀ F (r.shape.Idx → Elt F .f32)) (fun x => s.sa (r.idx x)) s :=
  Tr.load (acc_a18 s) r hl
theorem st_a18 (s : St F) (r : Rect S128x256) (w : r.shape.Idx → Elt F .f32) (hx : (A.a18.access r).Stores Finset.univ) (hm : (Finset.univ : Finset r.shape.Idx) = Finset.univ ∨ ∀ a, r.stride a = 1) :
    Tr D c A I s (Prog.lift (.store A.a18 r w Finset.univ hx hm) : PR nD τ sig Λ₀ F PUnit) ⟨⟩ (s.w_sa r w) :=
  Tr.store (upd_a18 s _)
end

end Cert.Kernel.Hand
-- ==== Proof.Body.lean ====
module

public import proofs.«01_k».proof.Proof.Triples
public import Idealize.ShloMosaic.Lib.Exec
public import Idealize.ShloMosaic.Lib.Tactic
public import Idealize.ShloMosaic.Lib.Pipeline.Kit
public import Idealize.ShloMosaic.Lib.Pipeline.Regions

@[expose] public section

set_option maxRecDepth 65536
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ₀ : Labels} {F : FTy → Type} [FloatOps F]

/-! ## What each piece does, as a function -/

def runN {S : Type} (g : ℕ → S → S) (n j : ℕ) (x : S) : S :=
  (Nat.rec (motive := fun _ => ℕ → S → S) (fun _ x => x) (fun _ ih j x => ih (j + 1) (g j x)) n : ℕ → S → S) j x

def tileOf (X : Vec F S8x1x32x8192 .i8) (r : Fin 8) (j : ℕ) : IVec S8x128 32 :=
  tileWords (F := F) (fun x => X ((Rect.unit (s := S8x1x32x8192) (tOff r j) S1x1x32x128.size (tOff_inb r j)).toLoadRect.idx x))

def evG (I : In F) (r : Fin 8) (lane tile : IVec S8x128 32) (j : ℕ) (s : IVec S8x128 32 × IVec S8x128 32) : IVec S8x128 32 × IVec S8x128 32 :=
  (upd lane tile (BitVec.ofNat 32 j) (tileOf I.x9 r j) s.1, upd lane tile (BitVec.ofNat 32 j) (tileOf I.x10 r j) s.2)

def putF (s : St F) (o0 o1 : Fin 3 → Nat) (h0 : ∀ a, o0 a + S1x8x128.size a ≤ S2x1024x128.size a)
    (h1 : ∀ a, o1 a + S1x8x128.size a ≤ S2x1024x128.size a) (k0 k1 v0 v1 : IVec S8x128 32) : St F :=
  (((s.w_kw (Rect.unit (s := S2x1024x128) o0 S1x8x128.size h0) (shapeCast S1x8x128 k0 shapeCasts_S8x128_S1x8x128 : IVec S1x8x128 32)).w_kw
      (Rect.unit (s := S2x1024x128) o1 S1x8x128.size h1) (shapeCast S1x8x128 k1 shapeCasts_S8x128_S1x8x128 : IVec S1x8x128 32)).w_vw
      (Rect.unit (s := S2x1024x128) o0 S1x8x128.size h0) (shapeCast S1x8x128 v0 shapeCasts_S8x128_S1x8x128 : IVec S1x8x128 32)).w_vw
      (Rect.unit (s := S2x1024x128) o1 S1x8x128.size h1) (shapeCast S1x8x128 v1 shapeCasts_S8x128_S1x8x128 : IVec S1x8x128 32)

def posE (i : grid0.Coords) (I : In F) (r : Fin 8) : Vec F S1x256 .i32 :=
  fun x => I.x2 ((Rect.unit (s := S128x256) (k0_off2 i (BitVec.ofNat 32 r.val)) S1x256.size (k0_off2_inb i r)).toLoadRect.idx x)
def posO (i : grid0.Coords) (I : In F) (r : Fin 8) : Vec F S1x256 .i32 :=
  fun x => I.x2 ((Rect.unit (s := S128x256) (k0_off5 i (BitVec.ofNat 32 r.val)) S1x256.size (k0_off5_inb i r)).toLoadRect.idx x)

def evA (I : In F) (r : Fin 8) (p : Vec F S1x256 .i32) : IVec S8x128 32 × IVec S8x128 32 :=
  runN (evG I r (lo (lanes p)) (lo (tiles p))) 32 0 (zero8, zero8)
def evB (I : In F) (r : Fin 8) (p : Vec F S1x256 .i32) (low : IVec S8x128 1) : IVec S8x128 32 × IVec S8x128 32 :=
  runN (evG I r (select low (hi (lanes p)) (lo (lanes p))) (select low (hi (tiles p)) (lo (tiles p)))) 32 32 (zero8, zero8)

def evRowF (i : grid0.Coords) (I : In F) (r : Fin 8) (io : IVec S8x128 32) (c : BitVec 32) (s : St F) : St F :=
  let low : IVec S8x128 1 := cmpi .slt io (broadcast S8x128 c)
  let a := evA I r (posE i I r)
  let b := evB I r (posE i I r) low
  putF s (k0_off3 i (BitVec.ofNat 32 r.val)) (k0_off4 i (BitVec.ofNat 32 r.val)) (k0_off3_inb i r) (k0_off4_inb i r)
    (select low a.1 b.1) b.1 (select low a.2 b.2) b.2

def evAllF (i : grid0.Coords) (I : In F) (io : IVec S8x128 32) (c : Fin 8 → BitVec 32) (s : St F) : St F :=
  evRowF i I 7 io (c 7) (evRowF i I 6 io (c 6) (evRowF i I 5 io (c 5) (evRowF i I 4 io (c 4) (evRowF i I 3 io (c 3) (evRowF i I 2 io (c 2) (evRowF i I 1 io (c 1) (evRowF i I 0 io (c 0) s)))))))

def odG (I : In F) (r : Fin 8) (l0 t0 l1 t1 : IVec S8x128 32) (j : ℕ) (s : IVec S8x128 32 × IVec S8x128 32 × IVec S8x128 32 × IVec S8x128 32) :
    IVec S8x128 32 × IVec S8x128 32 × IVec S8x128 32 × IVec S8x128 32 :=
  (upd l0 t0 (BitVec.ofNat 32 j) (tileOf I.x9 r j) s.1, upd l1 t1 (BitVec.ofNat 32 j) (tileOf I.x9 r j) s.2.1,
    upd l0 t0 (BitVec.ofNat 32 j) (tileOf I.x10 r j) s.2.2.1, upd l1 t1 (BitVec.ofNat 32 j) (tileOf I.x10 r j) s.2.2.2)
def odA (I : In F) (r : Fin 8) (p : Vec F S1x256 .i32) : IVec S8x128 32 × IVec S8x128 32 × IVec S8x128 32 × IVec S8x128 32 :=
  runN (odG I r (lo (lanes p)) (lo (tiles p)) (hi (lanes p)) (hi (tiles p))) 64 0 (zero8, zero8, zero8, zero8)
def odRowF (i : grid0.Coords) (I : In F) (r : Fin 8) (s : St F) : St F :=
  let a := odA I r (posO i I r)
  putF s (k0_off7 i (BitVec.ofNat 32 r.val)) (k0_off8 i (BitVec.ofNat 32 r.val)) (k0_off7_inb i r) (k0_off8_inb i r) a.1 a.2.1 a.2.2.1 a.2.2.2
def odAllF (i : grid0.Coords) (I : In F) (s : St F) : St F :=
  odRowF i I 7 (odRowF i I 6 (odRowF i I 5 (odRowF i I 4 (odRowF i I 3 (odRowF i I 2 (odRowF i I 1 (odRowF i I 0 s)))))))

def row256 (i : grid0.Coords) (r : Fin 8) (X : Vec F S128x256 .f32) : Vec F S1x256 .f32 :=
  fun x => X ((Rect.unit (s := S128x256) (k0_off19 i (BitVec.ofNat 32 r.val)) S1x256.size (k0_off19_inb i r)).toLoadRect.idx x)
def codesAt (i : grid0.Coords) (r : Fin 8) (X : Vec F S2x1024x128 .i32) : FVec F S64x192 .bf16 :=
  codesOf (F := F) (fun x => X ((Rect.unit (s := S2x1024x128) (k0_off17 i (BitVec.ofNat 32 r.val)) S1x8x128.size (k0_off17_inb i r)).toLoadRect.idx x))
    (fun x => X ((Rect.unit (s := S2x1024x128) (k0_off18 i (BitVec.ofNat 32 r.val)) S1x8x64.size (k0_off18_inb i r)).toLoadRect.idx x))

def sAt (i : grid0.Coords) (I : In F) (q : FVec F S64x64 .bf16) (r : Fin 8) (s : St F) : FVec F S8x192 .f32 :=
  sOf r q (codesAt i r s.kw) (row256 i r I.x3)

def attnRowF (i : grid0.Coords) (I : In F) (q : FVec F S64x64 .bf16) (vn : FVec F S8x64 .bf16) (sn : FVec F S64x1 .f32) (r : Fin 8) (s : St F) : St F :=
  (s.w_sa (Rect.unit (s := S128x256) (k0_off20 i (BitVec.ofNat 32 r.val)) S1x192.size (k0_off20_inb i r))
      (shapeCast S1x192 (saOf (pOf (sAt i I q r s) (snOf r sn)) (row256 i r I.x5)) shapeCasts_S1x192_S1x192 : FVec F S1x192 .f32)).w_o
    (Rect.unit (s := S1024x128) (k0_off21 i (BitVec.ofNat 32 r.val)) S8x64.size (k0_off21_inb i r))
      (shapeCast S8x64 (oOf r (pOf (sAt i I q r s) (snOf r sn)) (pnOf (sAt i I q r s) (snOf r sn)) (row256 i r I.x4) (codesAt i r s.vw) vn) shapeCasts_S8x64_S8x64 : FVec F S8x64 .f32)

def attnAllF (i : grid0.Coords) (I : In F) (q : FVec F S64x64 .bf16) (vn : FVec F S8x64 .bf16) (sn : FVec F S64x1 .f32) (s : St F) : St F :=
  attnRowF i I q vn sn 7 (attnRowF i I q vn sn 6 (attnRowF i I q vn sn 5 (attnRowF i I q vn sn 4 (attnRowF i I q vn sn 3 (attnRowF i I q vn sn 2 (attnRowF i I q vn sn 1 (attnRowF i I q vn sn 0 s)))))))

def wordsAt (p w : ℕ) (hp : p < 2) (hw : w < 8) (X : Vec F S2x1024x128 .i32) : Vec F S1x128x128 .i32 := fun x => X ((ldW p w hp hw).idx x)
def outAt (g : ℕ) (hg : g < 8) (X : Vec F S1024x128 .f32) : Vec F S128x128 .f32 := fun x => X ((ldO g hg).idx x)

def epiKF (w : Fin 8) (s : St F) : St F :=
  (s.w_ko (loR w) (loB (F := F) (wordsAt 0 w.val (by omega) w.isLt s.kw))).w_ko (hiR w) (hiB (F := F) (wordsAt 1 w.val (by omega) w.isLt s.kw))
def epiVF (w : Fin 8) (s : St F) : St F :=
  (s.w_vo (loR w) (loB (F := F) (wordsAt 0 w.val (by omega) w.isLt s.vw))).w_vo (hiR w) (hiB (F := F) (wordsAt 1 w.val (by omega) w.isLt s.vw))
def epiSF (s : St F) : St F :=
  s.w_so (Rect.unit (s := S1x192x128) ![0, 0, 0] S1x192x128.size inb_S1x192x128_S1x192x128_0_0_0) (saT (fun x => s.sa ((Rect.unit (s := S128x256) ![0, 0] S128x256.size inb_S128x256_S128x256_0_0).toLoadRect.idx x)))
def epiGF (g : Fin 8) (s : St F) : St F := s.w_out (outR g) (outB (outAt g.val g.isLt s.o))
def eight (g : Fin 8 → St F → St F) (s : St F) : St F := g 7 (g 6 (g 5 (g 4 (g 3 (g 2 (g 1 (g 0 s)))))))
def epiF (s : St F) : St F := eight epiGF (epiSF (eight epiVF (eight epiKF s)))

def splitOf (i : grid0.Coords) (I : In F) (r : Fin 8) : BitVec 32 :=
  I.x1 ((Rect.unit (s := S32x16) (k0_off1 i (k0_off1_at r).1 (k0_off1_at r).2) S1x1.size (k0_off1_inb i r)).emb (Shape.Idx.first ((numel1_S1x1 : (Rect.unit (s := S32x16) (k0_off1 i (k0_off1_at r).1 (k0_off1_at r).2) S1x1.size (k0_off1_inb i r)).shape.numel = 1).symm ▸ Nat.one_pos)))
def splits (i : grid0.Coords) (I : In F) : Fin 8 → BitVec 32 := ![splitOf i I 0, splitOf i I 1, splitOf i I 2, splitOf i I 3, splitOf i I 4, splitOf i I 5, splitOf i I 6, splitOf i I 7]

def condE (cs : Fin 8 → BitVec 32) : Prop := Scalar.cmpi .ne (Scalar.extui (allC cs) : BitVec 32) 0#32 = 1#1
def condO (cs : Fin 8 → BitVec 32) : Prop := Scalar.cmpi .ne (Scalar.extui (Scalar.xori (allC cs) 1#1) : BitVec 32) 0#32 = 1#1
instance (cs) : Decidable (condE cs) := by unfold condE; infer_instance
instance (cs) : Decidable (condO cs) := by unfold condO; infer_instance

def gatherE (i : grid0.Coords) (I : In F) (s : St F) : St F :=
  if condE (splits i I) then evAllF i I (iota .tc S8x128 32 [1] iota_S8x128_d1_w32) (splits i I) s else s
def gatherO (i : grid0.Coords) (I : In F) (s : St F) : St F := if condO (splits i I) then odAllF i I s else s

def qOf (I : In F) : FVec F S64x64 .bf16 :=
  shapeCast S64x64 (fun x => I.x6 ((Rect.unit (s := S1x64x64) ![0, 0, 0] S1x64x64.size inb_S1x64x64_S1x64x64_0_0_0).toLoadRect.idx x)) shapeCasts_S1x64x64_S64x64
def newOf (i : grid0.Coords) (X : Vec F S1x128x64 .bf16) : FVec F S8x64 .bf16 :=
  shapeCast S8x64 (fun x => X ((Rect.unit (s := S1x128x64) (k0_off16 i) S1x8x64.size (k0_off16_inb i)).toLoadRect.idx x)) shapeCasts_S1x8x64_S8x64

def bodyM (i : grid0.Coords) (I : In F) (s : St F) : St F :=
  attnAllF i I (qOf I) (newOf i I.x8) (newScores (qOf I) (newOf i I.x7)) (gatherO i I (gatherE i I s))

/-- What one step leaves. -/
def bodyF (i : grid0.Coords) (I : In F) (s : St F) : St F :=
  if k0_cond3 i = 1#1 then epiF (bodyM i I s) else bodyM i I s

/-! ## and that it does -/

section
variable {D : Defs nD τ sig (Elt F) Λ₀} {c : Dev nD} {A : Ar sig} {I : In F}

theorem put_tr (s : St F) (o0 o1 : Fin 3 → Nat) (h0 h1) (k0 k1 v0 v1 : IVec S8x128 32) :
    Tr D c A I s (put A.a15 A.a16 o0 o1 h0 h1 k0 k1 v0 v1) ⟨⟩ (putF s o0 o1 h0 h1 k0 k1 v0 v1) := by
  unfold put putF
  refine Tr.bind (ld_a15 _ _ _) ?_
  refine Tr.bind (st_a15 _ _ _ _ _) ?_
  refine Tr.bind (ld_a15 _ _ _) ?_
  refine Tr.bind (st_a15 _ _ _ _ _) ?_
  refine Tr.bind (ld_a16 _ _ _) ?_
  refine Tr.bind (st_a16 _ _ _ _ _) ?_
  refine Tr.bind (ld_a16 _ _ _) ?_
  exact st_a16 _ _ _ _ _

theorem ldk_tr (s : St F) (r : Fin 8) (j : ℕ) : Tr D c A I s (ldTile A.a9 r j) (tileOf I.x9 r j) s :=
  (ld_a9 _ _ _).bind (Tr.pure _)
theorem ldv_tr (s : St F) (r : Fin 8) (j : ℕ) : Tr D c A I s (ldTile A.a10 r j) (tileOf I.x10 r j) s :=
  (ld_a10 _ _ _).bind (Tr.pure _)

theorem evStep_tr (s : St F) (r : Fin 8) (l t : IVec S8x128 32) (j : ℕ) (x : IVec S8x128 32 × IVec S8x128 32) :
    Tr D c A I s (evStep A.a9 A.a10 r l t j x) (evG I r l t j x) s := by
  unfold evStep evG
  exact Tr.bind (ldk_tr s r j) <| Tr.bind (ldv_tr s r j) <| Tr.pure _
theorem odStep_tr (s : St F) (r : Fin 8) (l0 t0 l1 t1 : IVec S8x128 32) (j : ℕ) (x : IVec S8x128 32 × IVec S8x128 32 × IVec S8x128 32 × IVec S8x128 32) :
    Tr D c A I s (odStep A.a9 A.a10 r l0 t0 l1 t1 j x) (odG I r l0 t0 l1 t1 j x) s := by
  unfold odStep odG
  exact Tr.bind (ldk_tr s r j) <| Tr.bind (ldv_tr s r j) <| Tr.pure _

/-- Eight pieces in turn. -/
theorem Tr.seq8 {α : Type} {s s' : St F} {p : Fin 8 → PR nD τ sig Λ₀ F PUnit} {g : Fin 8 → St F → St F} (h : ∀ r s, Tr D c A I s (p r) ⟨⟩ (g r s)) {q : PR nD τ sig Λ₀ F α} {a : α}
    (hq : Tr D c A I (g 7 (g 6 (g 5 (g 4 (g 3 (g 2 (g 1 (g 0 s)))))))) q a s') :
    Tr D c A I s (p 0 >>= fun _ => p 1 >>= fun _ => p 2 >>= fun _ => p 3 >>= fun _ => p 4 >>= fun _ => p 5 >>= fun _ => p 6 >>= fun _ => p 7 >>= fun _ => q) a s' :=
  Tr.bind (h 0 _) <| Tr.bind (h 1 _) <| Tr.bind (h 2 _) <| Tr.bind (h 3 _) <| Tr.bind (h 4 _) <| Tr.bind (h 5 _) <| Tr.bind (h 6 _) <| Tr.bind (h 7 _) hq

theorem Tr.seq8' {s : St F} {p : Fin 8 → PR nD τ sig Λ₀ F PUnit} {g : Fin 8 → St F → St F} (h : ∀ r s, Tr D c A I s (p r) ⟨⟩ (g r s)) :
    Tr D c A I s (p 0 >>= fun _ => p 1 >>= fun _ => p 2 >>= fun _ => p 3 >>= fun _ => p 4 >>= fun _ => p 5 >>= fun _ => p 6 >>= fun _ => p 7) ⟨⟩ (g 7 (g 6 (g 5 (g 4 (g 3 (g 2 (g 1 (g 0 s)))))))) :=
  Tr.bind (h 0 _) <| Tr.bind (h 1 _) <| Tr.bind (h 2 _) <| Tr.bind (h 3 _) <| Tr.bind (h 4 _) <| Tr.bind (h 5 _) <| Tr.bind (h 6 _) <| h 7 _

theorem evRow_tr (i : grid0.Coords) (r : Fin 8) (io : IVec S8x128 32) (d : BitVec 32) (s : St F) :
    Tr D c A I s (evRow i A.a2 A.a9 A.a10 A.a15 A.a16 r io d) ⟨⟩ (evRowF i I r io d s) :=
  (ld_a2 _ _ _).bind <|
    (Tr.steps _ (evG I r (lo (lanes (posE i I r))) (lo (tiles (posE i I r)))) (fun j x => evStep_tr s r _ _ j x) 32 0 (zero8, zero8)).bind <|
    (Tr.steps _ (evG I r (select (cmpi .slt io (broadcast S8x128 d)) (hi (lanes (posE i I r))) (lo (lanes (posE i I r)))) (select (cmpi .slt io (broadcast S8x128 d)) (hi (tiles (posE i I r))) (lo (tiles (posE i I r)))))
      (fun j x => evStep_tr s r _ _ j x) 32 32 (zero8, zero8)).bind <|
    put_tr s _ _ _ _ _ _ _ _

theorem odRow_tr (i : grid0.Coords) (r : Fin 8) (s : St F) :
    Tr D c A I s (odRow i A.a2 A.a9 A.a10 A.a15 A.a16 r) ⟨⟩ (odRowF i I r s) :=
  (ld_a2 _ _ _).bind <|
    (Tr.steps _ (odG I r (lo (lanes (posO i I r))) (lo (tiles (posO i I r))) (hi (lanes (posO i I r))) (hi (tiles (posO i I r)))) (fun j x => odStep_tr s r _ _ _ _ j x) 64 0 (zero8, zero8, zero8, zero8)).bind <|
    put_tr s _ _ _ _ _ _ _ _

theorem evAll_tr (i : grid0.Coords) (io : IVec S8x128 32) (d : Fin 8 → BitVec 32) (s : St F) :
    Tr D c A I s (evAll i A.a2 A.a9 A.a10 A.a15 A.a16 io d) ⟨⟩ (evAllF i I io d s) :=
  Tr.seq8' (p := fun r => evRow i A.a2 A.a9 A.a10 A.a15 A.a16 r io (d r)) (g := fun r s => evRowF i I r io (d r) s) (fun r s => evRow_tr i r io (d r) s)

theorem odAll_tr (i : grid0.Coords) (s : St F) :
    Tr D c A I s (odAll i A.a2 A.a9 A.a10 A.a15 A.a16) ⟨⟩ (odAllF i I s) :=
  Tr.seq8' (p := fun r => odRow i A.a2 A.a9 A.a10 A.a15 A.a16 r) (g := fun r s => odRowF i I r s) (fun r s => odRow_tr i r s)

theorem attnRow_tr (i : grid0.Coords) (q : FVec F S64x64 .bf16) (vn : FVec F S8x64 .bf16) (sn : FVec F S64x1 .f32) (r : Fin 8) (s : St F) :
    Tr D c A I s (attnRow i A.a3 A.a4 A.a5 A.a15 A.a16 A.a17 A.a18 q vn sn r) ⟨⟩ (attnRowF i I q vn sn r s) := by
  unfold attnRow attnRowF
  refine Tr.bind (ld_a15 _ _ _) ?_
  refine Tr.bind (ld_a15 _ _ _) ?_
  refine Tr.bind (ld_a3 _ _ _) ?_
  refine Tr.bind (ld_a5 _ _ _) ?_
  refine Tr.bind (ld_a18 _ _ _) ?_
  refine Tr.bind (st_a18 _ _ _ _ _) ?_
  refine Tr.bind (ld_a4 _ _ _) ?_
  refine Tr.bind (ld_a16 _ _ _) ?_
  refine Tr.bind (ld_a16 _ _ _) ?_
  refine Tr.bind (ld_a17 _ _ _) ?_
  exact st_a17 _ _ _ _ _

theorem epiK_tr (s : St F) (w : Fin 8) (h0 h1) : Tr D c A I s (epiW A.a15 A.a12 w h0 h1) ⟨⟩ (epiKF w s) := by
  unfold epiW epiKF
  refine Tr.bind (ld_a15 _ _ _) ?_
  refine Tr.bind (ld_a15 _ _ _) ?_
  refine Tr.bind (ld_a12 _ _ _) ?_
  refine Tr.bind (st_a12 _ _ _ _ _) ?_
  refine Tr.bind (ld_a12 _ _ _) ?_
  exact st_a12 _ _ _ _ _

theorem epiV_tr (s : St F) (w : Fin 8) (h0 h1) : Tr D c A I s (epiW A.a16 A.a13 w h0 h1) ⟨⟩ (epiVF w s) := by
  unfold epiW epiVF
  refine Tr.bind (ld_a16 _ _ _) ?_
  refine Tr.bind (ld_a16 _ _ _) ?_
  refine Tr.bind (ld_a13 _ _ _) ?_
  refine Tr.bind (st_a13 _ _ _ _ _) ?_
  refine Tr.bind (ld_a13 _ _ _) ?_
  exact st_a13 _ _ _ _ _

theorem epiS_tr (s : St F) : Tr D c A I s (epiS A.a18 A.a14) ⟨⟩ (epiSF s) := by
  unfold epiS epiSF
  refine Tr.bind (ld_a18 _ _ _) ?_
  refine Tr.bind (ld_a14 _ _ _) ?_
  exact st_a14 _ _ _ _ _

theorem epiG_tr (s : St F) (g : Fin 8) (h0) : Tr D c A I s (epiG A.a17 A.a11 g h0) ⟨⟩ (epiGF g s) := by
  unfold epiG epiGF
  refine Tr.bind (ld_a17 _ _ _) ?_
  refine Tr.bind (ld_a11 _ _ _) ?_
  exact st_a11 _ _ _ _ _

theorem epi_tr (s : St F) (h11 : A.a11.IsWhole) (h12 : A.a12.IsWhole) (h13 : A.a13.IsWhole) :
    Tr D c A I s (epi A.a11 h11 A.a12 h12 A.a13 h13 A.a14 A.a15 A.a16 A.a17 A.a18) ⟨⟩ (epiF s) := by
  unfold epi
  refine Tr.seq8 (p := fun w => epiW A.a15 A.a12 w (koSt A.a12 h12 w) (kiSt A.a12 h12 w)) (g := epiKF) (fun w s => epiK_tr s w _ _) ?_
  refine Tr.seq8 (p := fun w => epiW A.a16 A.a13 w (koSt A.a13 h13 w) (kiSt A.a13 h13 w)) (g := epiVF) (fun w s => epiV_tr s w _ _) ?_
  refine Tr.bind (epiS_tr _) ?_
  exact Tr.seq8' (p := fun w => epiG A.a17 A.a11 w (ouSt A.a11 h11 w)) (g := epiGF) (fun w s => epiG_tr s w _)

theorem brE_tr (i : grid0.Coords) (s : St F) : Tr D c A I s (brE i A.a2 A.a9 A.a10 A.a15 A.a16 (splits i I)) ⟨⟩ (gatherE i I s) :=
  Tr.ite (C := condE (splits i I)) (evAll_tr i (iota .tc S8x128 32 [1] iota_S8x128_d1_w32) (splits i I) s) (Tr.pure PUnit.unit)
theorem brO_tr (i : grid0.Coords) (s : St F) : Tr D c A I s (brO i A.a2 A.a9 A.a10 A.a15 A.a16 (splits i I)) ⟨⟩ (gatherO i I s) :=
  Tr.ite (C := condO (splits i I)) (odAll_tr i s) (Tr.pure PUnit.unit)

theorem last_tr (i : grid0.Coords) (s : St F) (h11 : A.a11.IsWhole) (h12 : A.a12.IsWhole) (h13 : A.a13.IsWhole) :
    Tr D c A I s (if _h : k0_cond3 i = 1#1 then epi A.a11 h11 A.a12 h12 A.a13 h13 A.a14 A.a15 A.a16 A.a17 A.a18 else pure ⟨⟩ : PR nD τ sig Λ₀ F PUnit) ⟨⟩
      (if k0_cond3 i = 1#1 then epiF s else s) := by
  split
  · exact epi_tr _ _ _ _
  · exact Tr.pure _

theorem ldC_tr (i : grid0.Coords) (s : St F) (r : Fin 8) : Tr D c A I s (ldC i A.a1 r) (splitOf i I r) s :=
  Tr.word (acc_a1 _) _ _ _

theorem body_tr (i : grid0.Coords) (s : St F) (harg1 : A.a1.IsWhole) (harg2 : A.a2.IsWhole) (harg3 : A.a3.IsWhole) (harg4 : A.a4.IsWhole) (harg5 : A.a5.IsWhole) (harg6 : A.a6.IsWhole) (harg7 : A.a7.IsWhole) (harg8 : A.a8.IsWhole) (harg9 : A.a9.IsWhole) (harg10 : A.a10.IsWhole) (harg11 : A.a11.IsWhole) (harg12 : A.a12.IsWhole) (harg13 : A.a13.IsWhole) (harg14 : A.a14.IsWhole) (harg15 : A.a15.IsWhole) (harg16 : A.a16.IsWhole) (harg17 : A.a17.IsWhole) (harg18 : A.a18.IsWhole) :
    Tr D c A I s (bodyH i A.a1 harg1 A.a2 harg2 A.a3 harg3 A.a4 harg4 A.a5 harg5 A.a6 harg6 A.a7 harg7 A.a8 harg8 A.a9 harg9 A.a10 harg10 A.a11 harg11 A.a12 harg12 A.a13 harg13 A.a14 harg14 A.a15 harg15 A.a16 harg16 A.a17 harg17 A.a18 harg18) ⟨⟩ (bodyF i I s) := by
  unfold bodyH bodyF
  refine Tr.bind (ldC_tr i s 0) ?_
  refine Tr.bind (ldC_tr i s 1) ?_
  refine Tr.bind (ldC_tr i s 2) ?_
  refine Tr.bind (ldC_tr i s 3) ?_
  refine Tr.bind (ldC_tr i s 4) ?_
  refine Tr.bind (ldC_tr i s 5) ?_
  refine Tr.bind (ldC_tr i s 6) ?_
  refine Tr.bind (ldC_tr i s 7) ?_
  refine Tr.bind (brE_tr i s) ?_
  refine Tr.bind (brO_tr i _) ?_
  unfold bodyM
  generalize gatherO i I (gatherE i I s) = s1
  refine Tr.bind (ld_a6 _ _ _) ?_
  refine Tr.bind (ld_a7 _ _ _) ?_
  refine Tr.bind (ld_a8 _ _ _) ?_
  exact Tr.seq8 (p := fun r => attnRow i A.a3 A.a4 A.a5 A.a15 A.a16 A.a17 A.a18 (qOf I) (newOf i I.x8) (newScores (qOf I) (newOf i I.x7)) r) (g := fun r s => attnRowF i I (qOf I) (newOf i I.x8) (newScores (qOf I) (newOf i I.x7)) r s)
    (fun r s => attnRow_tr i _ _ _ r s) (last_tr i _ _ _ _)
end

end Cert.Kernel.Hand
-- ==== Proof.PrintedA.lean ====
module

public import proofs.«01_k».proof.Proof.Gen.Kernel.Skeleton
public import proofs.«01_k».proof.Proof.Compact2
public import Idealize.ShloMosaic.Lib.Exec
public import Idealize.ShloMosaic.Lib.Tactic
public import Idealize.ShloMosaic.Lib.Pipeline.Kit
public import Idealize.ShloMosaic.Lib.Pipeline.Regions

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option pp.maxSteps 200
variable {F : FTy → Type} [FloatOps F]

theorem part379_eqJ (i : grid0.Coords) (arg1 : Memref sig .tc .smem S32x16 .i32) (harg1 : arg1.IsWhole) (arg2 : Memref sig .tc .vmem S128x256 .i32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x64x64 .bf16) (harg6 : arg6.IsWhole) (arg7 : Memref sig .tc .vmem S1x128x64 .bf16) (harg7 : arg7.IsWhole) (arg8 : Memref sig .tc .vmem S1x128x64 .bf16) (harg8 : arg8.IsWhole) (arg9 : Memref sig .tc .vmem S8x1x32x8192 .i8) (harg9 : arg9.IsWhole) (arg10 : Memref sig .tc .vmem S8x1x32x8192 .i8) (harg10 : arg10.IsWhole) (arg11 : Memref sig .tc .vmem S128x512 .bf16) (harg11 : arg11.IsWhole) (arg12 : Memref sig .tc .vmem S192x1x32x128 .i8) (harg12 : arg12.IsWhole) (arg13 : Memref sig .tc .vmem S192x1x32x128 .i8) (harg13 : arg13.IsWhole) (arg14 : Memref sig .tc .vmem S1x192x128 .f32) (harg14 : arg14.IsWhole) (arg15 : Memref sig .tc .vmem S2x1024x128 .i32) (harg15 : arg15.IsWhole) (arg16 : Memref sig .tc .vmem S2x1024x128 .i32) (harg16 : arg16.IsWhole) (arg17 : Memref sig .tc .vmem S1024x128 .f32) (harg17 : arg17.IsWhole) (arg18 : Memref sig .tc .vmem S128x256 .f32) (harg18 : arg18.IsWhole) (v0 : BitVec 32) (v1 : IVec S8x128 32) (v33 : Elt F .i32) (v65 : Elt F .i32) (v97 : Elt F .i32) (v129 : Elt F .i32) (v161 : Elt F .i32) (v193 : Elt F .i32) (v225 : Elt F .i32) (v257 : Elt F .i32) (v260 : BitVec 1) (v263 : BitVec 1) (v266 : BitVec 1) (v269 : BitVec 1) (v272 : BitVec 1) (v275 : BitVec 1) (v278 : BitVec 1) (v281 : BitVec 1) :
    k0_part379 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 v33 v65 v97 v129 v161 v193 v225 v257 v260 v263 v266 v269 v272 v275 v278 v281 = part379J i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 v33 v65 v97 v129 v161 v193 v225 v257 v260 v263 v266 v269 v272 v275 v278 v281 := by
  unfold k0_part379 part379J
  unfold k0_part355 k0_part356 k0_part357 k0_part358 k0_part359 k0_part360 k0_part361
  rw [loop_eq]
  chain_rfl

theorem part379_eq (i : grid0.Coords) (arg1 : Memref sig .tc .smem S32x16 .i32) (harg1 : arg1.IsWhole) (arg2 : Memref sig .tc .vmem S128x256 .i32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x64x64 .bf16) (harg6 : arg6.IsWhole) (arg7 : Memref sig .tc .vmem S1x128x64 .bf16) (harg7 : arg7.IsWhole) (arg8 : Memref sig .tc .vmem S1x128x64 .bf16) (harg8 : arg8.IsWhole) (arg9 : Memref sig .tc .vmem S8x1x32x8192 .i8) (harg9 : arg9.IsWhole) (arg10 : Memref sig .tc .vmem S8x1x32x8192 .i8) (harg10 : arg10.IsWhole) (arg11 : Memref sig .tc .vmem S128x512 .bf16) (harg11 : arg11.IsWhole) (arg12 : Memref sig .tc .vmem S192x1x32x128 .i8) (harg12 : arg12.IsWhole) (arg13 : Memref sig .tc .vmem S192x1x32x128 .i8) (harg13 : arg13.IsWhole) (arg14 : Memref sig .tc .vmem S1x192x128 .f32) (harg14 : arg14.IsWhole) (arg15 : Memref sig .tc .vmem S2x1024x128 .i32) (harg15 : arg15.IsWhole) (arg16 : Memref sig .tc .vmem S2x1024x128 .i32) (harg16 : arg16.IsWhole) (arg17 : Memref sig .tc .vmem S1024x128 .f32) (harg17 : arg17.IsWhole) (arg18 : Memref sig .tc .vmem S128x256 .f32) (harg18 : arg18.IsWhole) (v0 : BitVec 32) (v1 : IVec S8x128 32) (v33 : Elt F .i32) (v65 : Elt F .i32) (v97 : Elt F .i32) (v129 : Elt F .i32) (v161 : Elt F .i32) (v193 : Elt F .i32) (v225 : Elt F .i32) (v257 : Elt F .i32) (v260 : BitVec 1) (v263 : BitVec 1) (v266 : BitVec 1) (v269 : BitVec 1) (v272 : BitVec 1) (v275 : BitVec 1) (v278 : BitVec 1) (v281 : BitVec 1) :
    k0_part379 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 v33 v65 v97 v129 v161 v193 v225 v257 v260 v263 v266 v269 v272 v275 v278 v281 = part379H i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 v33 v65 v97 v129 v161 v193 v225 v257 v260 v263 v266 v269 v272 v275 v278 v281 := by
  rw [part379_eqJ, part379_JH]

theorem body_eq (i : grid0.Coords) (arg1 : Memref sig .tc .smem S32x16 .i32) (harg1 : arg1.IsWhole) (arg2 : Memref sig .tc .vmem S128x256 .i32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x64x64 .bf16) (harg6 : arg6.IsWhole) (arg7 : Memref sig .tc .vmem S1x128x64 .bf16) (harg7 : arg7.IsWhole) (arg8 : Memref sig .tc .vmem S1x128x64 .bf16) (harg8 : arg8.IsWhole) (arg9 : Memref sig .tc .vmem S8x1x32x8192 .i8) (harg9 : arg9.IsWhole) (arg10 : Memref sig .tc .vmem S8x1x32x8192 .i8) (harg10 : arg10.IsWhole) (arg11 : Memref sig .tc .vmem S128x512 .bf16) (harg11 : arg11.IsWhole) (arg12 : Memref sig .tc .vmem S192x1x32x128 .i8) (harg12 : arg12.IsWhole) (arg13 : Memref sig .tc .vmem S192x1x32x128 .i8) (harg13 : arg13.IsWhole) (arg14 : Memref sig .tc .vmem S1x192x128 .f32) (harg14 : arg14.IsWhole) (arg15 : Memref sig .tc .vmem S2x1024x128 .i32) (harg15 : arg15.IsWhole) (arg16 : Memref sig .tc .vmem S2x1024x128 .i32) (harg16 : arg16.IsWhole) (arg17 : Memref sig .tc .vmem S1024x128 .f32) (harg17 : arg17.IsWhole) (arg18 : Memref sig .tc .vmem S128x256 .f32) (harg18 : arg18.IsWhole) :
    cc0_attend0 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = bodyH i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 := by
  unfold cc0_attend0
  simp only [part379_eq]
  unfold part379H
  simp only [bind_assoc]
  unfold bodyH
  chain_rfl

end Cert.Kernel.Hand
-- ==== Proof.Kit.lean ====
module

public import proofs.«01_k».proof.Proof.Gen.Kernel.Launch
public import proofs.«01_k».proof.Proof.Body
public import proofs.«01_k».proof.Proof.PrintedA
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule of the windows -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at the first point only, at any contents of the tables (its index map reads none). -/
theorem fetch0_0 (a : (pcfg0 (F := F)).Adm) : ∀ t : Fin (cfg0 a).N, ((cfg0 a).win 0).fetch t = true ↔ t.val % 16 = 0 :=
  (fun t => Pipeline.Window.fetchOf_const cc0_transform_0 (fun _ _ => rfl) (n := 16) (by decide) t : ∀ t : Fin grid0.N, Pipeline.Window.fetchOf grid0 false cc0_transform_0 t = true ↔ t.val % 16 = 0)
/-- Window 1 (operand 2 (%arg2)) is fetched at the first point only, at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_const cc0_transform_1 (fun _ _ => rfl) (n := 16) (by decide) t : ∀ t : Fin grid0.N, Pipeline.Window.fetchOf grid0 false cc0_transform_1 t = true ↔ t.val % 16 = 0)
/-- Window 2 (operand 3 (%arg3)) is fetched at the first point only, at any contents of the tables (its index map reads none). -/
theorem fetch0_2 (a : (pcfg0 (F := F)).Adm) : ∀ t : Fin (cfg0 a).N, ((cfg0 a).win 2).fetch t = true ↔ t.val % 16 = 0 :=
  (fun t => Pipeline.Window.fetchOf_const cc0_transform_2 (fun _ _ => rfl) (n := 16) (by decide) t : ∀ t : Fin grid0.N, Pipeline.Window.fetchOf grid0 false cc0_transform_2 t = true ↔ t.val % 16 = 0)
/-- Window 3 (operand 4 (%arg4)) is fetched at the first point only, at any contents of the tables (its index map reads none). -/
theorem fetch0_3 (a : (pcfg0 (F := F)).Adm) : ∀ t : Fin (cfg0 a).N, ((cfg0 a).win 3).fetch t = true ↔ t.val % 16 = 0 :=
  (fun t => Pipeline.Window.fetchOf_const cc0_transform_3 (fun _ _ => rfl) (n := 16) (by decide) t : ∀ t : Fin grid0.N, Pipeline.Window.fetchOf grid0 false cc0_transform_3 t = true ↔ t.val % 16 = 0)
/-- Window 4 (operand 5 (%arg5)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 1 (fun _ => rfl) (by decide)) (P := 1) (by decide) t).mpr (Nat.mod_one _) : ∀ t : Fin grid0.N, Pipeline.Window.fetchOf grid0 false cc0_transform_4 t = true)
/-- Window 5 (operand 6 (%arg6)) is fetched at the first point only, at any contents of the tables (its index map reads none). -/
theorem fetch0_5 (a : (pcfg0 (F := F)).Adm) : ∀ t : Fin (cfg0 a).N, ((cfg0 a).win 5).fetch t = true ↔ t.val % 16 = 0 :=
  (fun t => Pipeline.Window.fetchOf_const cc0_transform_5 (fun _ _ => rfl) (n := 16) (by decide) t : ∀ t : Fin grid0.N, Pipeline.Window.fetchOf grid0 false cc0_transform_5 t = true ↔ t.val % 16 = 0)
/-- Window 6 (operand 7 (%arg7)) is fetched at the first point only, at any contents of the tables (its index map reads none). -/
theorem fetch0_6 (a : (pcfg0 (F := F)).Adm) : ∀ t : Fin (cfg0 a).N, ((cfg0 a).win 6).fetch t = true ↔ t.val % 16 = 0 :=
  (fun t => Pipeline.Window.fetchOf_const cc0_transform_6 (fun _ _ => rfl) (n := 16) (by decide) t : ∀ t : Fin grid0.N, Pipeline.Window.fetchOf grid0 false cc0_transform_6 t = true ↔ t.val % 16 = 0)
/-- Window 7 (operand 8 (%arg8)) is fetched at every point, at any contents of the tables (its index map reads none). -/
theorem fetch0_7 (a : (pcfg0 (F := F)).Adm) : ∀ t : Fin (cfg0 a).N, ((cfg0 a).win 7).fetch t = true :=
  (fun t => (Pipeline.Window.fetchOf_reads cc0_transform_7 reads0_7 hreads0_7 0 (by decide) (by decide) (Pipeline.Window.sep_of_coord cc0_transform_7 0 0 (fun _ => rfl) (by decide)) (P := 1) (by decide) t).mpr (Nat.mod_one _) : ∀ t : Fin grid0.N, Pipeline.Window.fetchOf grid0 false cc0_transform_7 t = true)
/-- Window 8 (operand 9 (%arg9)) is fetched at every point, at any contents of the tables (its index map reads none). -/
theorem fetch0_8 (a : (pcfg0 (F := F)).Adm) : ∀ t : Fin (cfg0 a).N, ((cfg0 a).win 8).fetch t = true :=
  (fun t => (Pipeline.Window.fetchOf_reads cc0_transform_8 reads0_8 hreads0_8 0 (by decide) (by decide) (Pipeline.Window.sep_of_coord cc0_transform_8 0 0 (fun _ => rfl) (by decide)) (P := 1) (by decide) t).mpr (Nat.mod_one _) : ∀ t : Fin grid0.N, Pipeline.Window.fetchOf grid0 false cc0_transform_8 t = true)
/-- Window 9 (result 0 (%0#0)) is written back at the last point only, at any contents of the tables (its index map reads none). -/
theorem flush0_9 (a : (pcfg0 (F := F)).Adm) : ∀ t : Fin (cfg0 a).N, ((cfg0 a).win 9).flush t = true ↔ t.val % 16 = 15 :=
  (fun t => Pipeline.Window.flushOf_const cc0_transform_9 (fun _ _ => rfl) (n := 16) (by decide) rfl t : ∀ t : Fin grid0.N, Pipeline.Window.flushOf grid0 true cc0_transform_9 t = true ↔ t.val % 16 = 15)
/-- Window 10 (result 1 (%0#1)) is written back at the last point only, at any contents of the tables (its index map reads none). -/
theorem flush0_10 (a : (pcfg0 (F := F)).Adm) : ∀ t : Fin (cfg0 a).N, ((cfg0 a).win 10).flush t = true ↔ t.val % 16 = 15 :=
  (fun t => Pipeline.Window.flushOf_const cc0_transform_10 (fun _ _ => rfl) (n := 16) (by decide) rfl t : ∀ t : Fin grid0.N, Pipeline.Window.flushOf grid0 true cc0_transform_10 t = true ↔ t.val % 16 = 15)
/-- Window 11 (result 2 (%0#2)) is written back at the last point only, at any contents of the tables (its index map reads none). -/
theorem flush0_11 (a : (pcfg0 (F := F)).Adm) : ∀ t : Fin (cfg0 a).N, ((cfg0 a).win 11).flush t = true ↔ t.val % 16 = 15 :=
  (fun t => Pipeline.Window.flushOf_const cc0_transform_11 (fun _ _ => rfl) (n := 16) (by decide) rfl t : ∀ t : Fin grid0.N, Pipeline.Window.flushOf grid0 true cc0_transform_11 t = true ↔ t.val % 16 = 15)
/-- Window 12 (result 3 (%0#3)) is written back at the last point only, at any contents of the tables (its index map reads none). -/
theorem flush0_12 (a : (pcfg0 (F := F)).Adm) : ∀ t : Fin (cfg0 a).N, ((cfg0 a).win 12).flush t = true ↔ t.val % 16 = 15 :=
  (fun t => Pipeline.Window.flushOf_const cc0_transform_12 (fun _ _ => rfl) (n := 16) (by decide) rfl t : ∀ t : Fin grid0.N, Pipeline.Window.flushOf grid0 true cc0_transform_12 t = true ↔ t.val % 16 = 15)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend0 (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S32x16 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c)),
      (Pipeline.RDat.FramePost.arr_in h c 6 rfl).trans ((hA c 6).trans (V_main_arg7 m c)),
      (Pipeline.RDat.FramePost.arr_in h c 7 rfl).trans ((hA c 7).trans (V_main_arg8 m c)),
      (Pipeline.RDat.FramePost.arr_in h c 8 rfl).trans ((hA c 8).trans (V_main_arg9 m c))⟩) h

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 8 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S128x256 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S128x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S128x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S128x256 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x64x64 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x128x64 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x128x64 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S8x1x32x8192 .i8 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S8x1x32x8192 .i8 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S128x512 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S192x1x32x128 .i8 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S192x1x32x128 .i8 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x192x128 .f32 := spec0_12.stage ((cfgM m hO).slots t 12)
abbrev hs0_12 (hO : Ok m) (t : Fin (cfgM m hO).N) : (ms0_12 m hO t).IsWhole := hstage0_12 (((cfgM m hO).slots t 12).cast nbuf0_12)
/-- The scratch operands: whole scoped buffers of the kernel's own, passed beside the windows. -/
abbrev scM0_0 : Memref sig .tc .vmem S2x1024x128 .i32 := Memref.whole cc0_scratch0
abbrev scM0_1 : Memref sig .tc .vmem S2x1024x128 .i32 := Memref.whole cc0_scratch1
abbrev scM0_2 : Memref sig .tc .vmem S1024x128 .f32 := Memref.whole cc0_scratch2
abbrev scM0_3 : Memref sig .tc .vmem S128x256 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The body at a point -/

/-- The buffers the body is handed at point `t`. -/
abbrev arAt (hO : Ok m) (t : Fin (cfgM m hO).N) : Ar sig :=
  ⟨tbM0_0, ms0_0 m hO t, ms0_1 m hO t, ms0_2 m hO t, ms0_3 m hO t, ms0_4 m hO t, ms0_5 m hO t, ms0_6 m hO t, ms0_7 m hO t, ms0_8 m hO t, ms0_9 m hO t, ms0_10 m hO t, ms0_11 m hO t, ms0_12 m hO t, scM0_0, scM0_1, scM0_2, scM0_3⟩
/-- What the inputs hold at point `t`. -/
abbrev inAt (hO : Ok m) (c : Dev nD) (t : Fin (cfgM m hO).N) : In F :=
  ⟨tbl m 0, iblk m hO c 0 t, iblk m hO c 1 t, iblk m hO c 2 t, iblk m hO c 3 t, iblk m hO c 4 t, iblk m hO c 5 t, iblk m hO c 6 t, iblk m hO c 7 t, iblk m hO c 8 t⟩

theorem tbOwn (c : Dev nD) : (tbPt0 c tbM0_0 (tbl m 0) : sProp 𝕄) = owns (c : Thread nD τ) tbM0_0 fullShare.right (tbl m 0) :=
  (owns_whole (c : Thread nD τ) main_arg0 fullShare.right (tbl m 0)).symm

/-- The body on any buffers, all it touches held. -/
theorem run_body (c : Dev nD) (A : Ar sig) (I : In F) (i : grid0.Coords) (s : St F) (Q : PUnit → sProp 𝕄) (harg1 : A.a1.IsWhole) (harg2 : A.a2.IsWhole) (harg3 : A.a3.IsWhole) (harg4 : A.a4.IsWhole) (harg5 : A.a5.IsWhole) (harg6 : A.a6.IsWhole) (harg7 : A.a7.IsWhole) (harg8 : A.a8.IsWhole) (harg9 : A.a9.IsWhole) (harg10 : A.a10.IsWhole) (harg11 : A.a11.IsWhole) (harg12 : A.a12.IsWhole) (harg13 : A.a13.IsWhole) (harg14 : A.a14.IsWhole) (harg15 : A.a15.IsWhole) (harg16 : A.a16.IsWhole) (harg17 : A.a17.IsWhole) (harg18 : A.a18.IsWhole) :
    iprop(Own c A I s ∗ (Own c A I (bodyF i I s) -∗ Q ⟨⟩))
      ⊢ wp frame (wpE (defs₀ (F := F)) Variants.none (c : Thread nD τ) none) Set.univ (cc0_attend0 i A.a1 harg1 A.a2 harg2 A.a3 harg3 A.a4 harg4 A.a5 harg5 A.a6 harg6 A.a7 harg7 A.a8 harg8 A.a9 harg9 A.a10 harg10 A.a11 harg11 A.a12 harg12 A.a13 harg13 A.a14 harg14 A.a15 harg15 A.a16 harg16 A.a17 harg17 A.a18 harg18) Q := by
  rw [body_eq]
  have h := (body_tr (D := defs₀ (F := F)) (c := c) (A := A) (I := I) i s harg1 harg2 harg3 harg4 harg5 harg6 harg7 harg8 harg9 harg10 harg11 harg12 harg13 harg14 harg15 harg16 harg17 harg18).run _ pure Q
  rw [bind_pure] at h
  refine BIBase.Entails.trans ?_ h
  iintro ⟨H, K⟩
  isplitl [H]; · iexact H
  iintro H
  iapply (le_wp_ret _ _ _ _ Q)
  iapply K
  iexact H

/-- The body at point `t`, all it touches held. -/
theorem run_at (hO : Ok m) (c : Dev nD) (t : Fin (cfgM m hO).N) (s : St F) (Q : PUnit → sProp 𝕄) :
    iprop(Own c (arAt m hO t) (inAt m hO c t) s ∗ (Own c (arAt m hO t) (inAt m hO c t) (bodyF (grid0.coords t) (inAt m hO c t) s) -∗ Q ⟨⟩))
      ⊢ wp frame (wpE (defs₀ (F := F)) Variants.none (c : Thread nD τ) none) Set.univ (bodyAt0 (adm m hO) t) Q :=
  run_body c (arAt m hO t) (inAt m hO c t) (grid0.coords t) s Q htbM0_0 (hs0_0 m hO t) (hs0_1 m hO t) (hs0_2 m hO t) (hs0_3 m hO t) (hs0_4 m hO t) (hs0_5 m hO t) (hs0_6 m hO t) (hs0_7 m hO t) (hs0_8 m hO t) (hs0_9 m hO t) (hs0_10 m hO t) (hs0_11 m hO t) (hs0_12 m hO t) (Memref.isWhole_whole _) (Memref.isWhole_whole _) (Memref.isWhole_whole _) (Memref.isWhole_whole _)

end Cert.Kernel.Hand
-- ==== Proof.Frame.lean ====
module

public import proofs.«01_k».proof.Proof.Gen.Kernel.Launch
public import proofs.«01_k».proof.Proof.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The index maps read nothing of the prefetched table, so every contents of it is admissible. -/
theorem ok_all : Ok m := by
  trivial

def forgets0 : Fin 13 → Bool := fun w => w.val == 9 || w.val == 10 || w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d))

set_option maxHeartbeats 1600000 in
/-- The body at any point: the inputs' buffers hold their blocks, everything else holds anything. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost
  simp only [before0_0, before0_1, before0_2, before0_3, before0_4, before0_5, before0_6, before0_7, before0_8]
  rw [show (dats m hO 0 c).owesAt () t.succ = (dats m hO 0 c).owesAt () t.castSucc from rfl]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq, tbOwn]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  iintro ⟨⟨⟨⟨⟨%e0, HS0⟩, ⟨%e1, HS1⟩, ⟨%e2, HS2⟩, ⟨%e3, HS3⟩⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_at m hO c t ⟨d9, d10, d11, d12, e0, e1, e2, e3⟩ _)
  isplitl [HT0 H0 H1 H2 H3 H4 H5 H6 H7 H8 H9 H10 H11 H12 HS0 HS1 HS2 HS3]
  · unfold Own
    isplitl [HT0]; · iexact HT0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    iexact HS3
  unfold Own
  iintro ⟨HT0, H0, H1, H2, H3, H4, H5, H6, H7, H8, H9, H10, H11, H12, HS0, HS1, HS2, HS3⟩
  isplitl [HS0 HS1 HS2 HS3 Hg HT0]
  · isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 :=
  Idealize.SL.BI.Entails.refl _

/-- After the last point the invariant gives the scratch back. -/
theorem hout (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨H, -⟩
  iexact H

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- At the compiled mesh, for any values, from any memory with zero counters: every weakly fair execution of @main on the
    TensorCores terminates, and every final state has every INPUT array of the pipeline unchanged, nothing stated of the
    FORGOTTEN outputs (windows 9, 10, 11, 12) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ hO (fun c => (dats m hO 0 c).toRForget forgets0) (A_eq m hO) (run_main m ρ hO)

/-- The frame: @main runs, its arguments end unchanged, every semaphore counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ hO) ((θ_run defs _ _).mono (fun _ h => h.2) (run_main_quiescent m ρ hO))

end Cert.Kernel.Hand
-- ==== Proof.Spec.lean ====
module

public import Idealize.ShloMosaic.Lib.Pointwise

@[expose] public section

noncomputable section
namespace Cert.Spec
open Idealize.ShloMosaic

/-! ## Attention over the kept positions of one sequence, over the reals -/

/-- The signed four-bit code in the lower (`0`) or upper (`1`) half of a byte. -/
def nib (b : BitVec 8) (u : Fin 2) : BitVec 32 :=
  if u = 0 then (((b.setWidth 32) &&& 15#32) ^^^ 8#32) - 8#32 else (((b.setWidth 32) >>> 4) ^^^ 8#32) - 8#32

/-- Element `d` of a packed vector of 64 codes. -/
def code (f : Fin 32 → BitVec 8) (d : Fin 64) : EReal :=
  (FloatOps.sitofp .bf16 (nib (f ⟨d.val / 2, by omega⟩) ⟨d.val % 2, by omega⟩) : Ideal .bf16)

/-- The softmax's scale, an eighth. -/
def c8 : EReal := Ideal.ofBits FTy.f32 0x3E000000#32
def ninf : EReal := Ideal.ofBits FTy.f32 0xFF800000#32

/-- What one sequence brings. -/
@[ext] structure Row where
  q : Fin 8 → Fin 64 → EReal
  K : Fin 192 → Fin 32 → BitVec 8
  V : Fin 192 → Fin 32 → BitVec 8
  ks : Fin 192 → EReal
  vs : Fin 192 → EReal
  ss : Fin 192 → EReal
  kn : Fin 64 → EReal
  vn : Fin 64 → EReal

variable (R : Row)

def s (g : Fin 8) (k : Fin 192) : EReal := (∑ d, R.q g d * code (R.K k) d) * (R.ks k * c8)
def sn (g : Fin 8) : EReal := (∑ d, R.q g d * R.kn d) * c8
def top (g : Fin 8) : EReal := max (Finset.fold max ninf (fun k => s R g k) Finset.univ) (sn R g)
def norm (g : Fin 8) : EReal := ∑ k, Ideal.exp (s R g k - top R g) + Ideal.exp (sn R g - top R g)
def p (g : Fin 8) (k : Fin 192) : EReal := Ideal.div (Ideal.exp (s R g k - top R g)) (norm R g)
def pn (g : Fin 8) : EReal := Ideal.div (Ideal.exp (sn R g - top R g)) (norm R g)
def score (k : Fin 192) : EReal := R.ss k + ∑ g, p R g k
def out (g : Fin 8) (d : Fin 64) : EReal := ∑ k, p R g k * R.vs k * code (R.V k) d + pn R g * R.vn d

/-- The column a position names. -/
def col (p : BitVec 32) : Fin 8192 := ⟨p.toNat % 8192, Nat.mod_lt _ (by decide)⟩

/-- Sequence `b`, key head `n`, out of the call's arrays. -/
def rowAt (n : Fin 4) (P : IVec ⟨2, ![128, 256]⟩ 32) (ks vs ss : FVec Ideal ⟨2, ![128, 256]⟩ .f32) (q : FVec Ideal ⟨3, ![4, 1024, 64]⟩ .bf16)
    (kn vn : FVec Ideal ⟨3, ![4, 128, 64]⟩ .bf16) (kt vt : IVec ⟨4, ![128, 4, 32, 8192]⟩ 8) (b : Fin 128) : Row where
  q g d := q (ix3 n ⟨b.val * 8 + g.val, by omega⟩ d)
  K k cc := kt (ix4 b n cc (col (P (ix2 b ⟨k.val, by omega⟩))))
  V k cc := vt (ix4 b n cc (col (P (ix2 b ⟨k.val, by omega⟩))))
  ks k := ks (ix2 b ⟨k.val, by omega⟩)
  vs k := vs (ix2 b ⟨k.val, by omega⟩)
  ss k := ss (ix2 b ⟨k.val, by omega⟩)
  kn d := kn (ix3 n b d)
  vn d := vn (ix3 n b d)

/-! ## Sums and maxima split -/

theorem sum_halves (f : Fin 64 → EReal) : ∑ d, f d = ∑ x : Fin 32, f ⟨2 * x.val, by omega⟩ + ∑ x : Fin 32, f ⟨1 + 2 * x.val, by omega⟩ := by
  rw [← Equiv.sum_comp (finProdFinEquiv (m := 32) (n := 2)) f, Fintype.sum_prod_type, ← Finset.sum_add_distrib]
  refine Finset.sum_congr rfl fun x _ => ?_
  rw [Fin.sum_univ_two]
  congr 2
  · exact Fin.ext (by show 0 + 2 * x.val = 2 * x.val; omega)
theorem sum_last (f : Fin 193 → EReal) : ∑ d, f d = ∑ x : Fin 192, f ⟨x.val, by omega⟩ + f 192 := Fin.sum_univ_castSucc f
theorem max_last (a : EReal) (f : Fin 193 → EReal) :
    max a (Finset.fold max a f Finset.univ) = max (Finset.fold max a (fun x : Fin 192 => f ⟨x.val, by omega⟩) Finset.univ) (f 192) := by
  have h : a ≤ Finset.fold max a f Finset.univ := (Finset.le_fold_max a).2 (Or.inl le_rfl)
  rw [max_eq_right h, Fin.univ_castSuccEmb, Finset.fold_cons, Finset.fold_map, max_comm]
  rfl

theorem nib_bit : ∀ (b : BitVec 8) (u : Fin 2) (q : Fin 32), (nib b u).getLsbD q.val = b.getLsbD (4 * u.val + min q.val 3) := by
  decide +kernel

end Cert.Spec
-- ==== Proof.IdealWords.lean ====
module

public import proofs.«01_k».proof.Proof.Body
public import Idealize.ShloMosaic.PureOps.Ideal
public import proofs.«01_k».proof.Proof.Spec
public import Idealize.ShloMosaic.Lib.Pointwise
public import Idealize.ShloMosaic.Lib.BitcastFour

@[expose] public section

set_option maxRecDepth 16384
set_option pp.maxSteps 300

noncomputable section
namespace Cert.Kernel.Hand
open Cert.Kernel Cert.Kernel.Gen
open Idealize.ShloMosaic

variable {F : FTy → Type} [FloatOps F]

/-! ## Where the body's loads and stores start -/

theorem off1_at (t : Fin grid0.N) (r : Fin 8) : k0_off1 (grid0.coords t) (k0_off1_at r).1 (k0_off1_at r).2 = ![(8 * t.val + r.val) / 4, (8 * t.val + r.val) % 4] :=
  (by decide +kernel : ∀ (t : Fin grid0.N) (r : Fin 8), k0_off1 (grid0.coords t) (k0_off1_at r).1 (k0_off1_at r).2 = ![(8 * t.val + r.val) / 4, (8 * t.val + r.val) % 4]) t r
theorem off2_at (t : Fin grid0.N) (r : Fin 8) : k0_off2 (grid0.coords t) (BitVec.ofNat 32 r.val) = ![8 * t.val + r.val, 0] :=
  (by decide +kernel : ∀ (t : Fin grid0.N) (r : Fin 8), k0_off2 (grid0.coords t) (BitVec.ofNat 32 r.val) = ![8 * t.val + r.val, 0]) t r
theorem off5_at (t : Fin grid0.N) (r : Fin 8) : k0_off5 (grid0.coords t) (BitVec.ofNat 32 r.val) = ![8 * t.val + r.val, 0] :=
  (by decide +kernel : ∀ (t : Fin grid0.N) (r : Fin 8), k0_off5 (grid0.coords t) (BitVec.ofNat 32 r.val) = ![8 * t.val + r.val, 0]) t r
theorem off19_at (t : Fin grid0.N) (r : Fin 8) : k0_off19 (grid0.coords t) (BitVec.ofNat 32 r.val) = ![8 * t.val + r.val, 0] :=
  (by decide +kernel : ∀ (t : Fin grid0.N) (r : Fin 8), k0_off19 (grid0.coords t) (BitVec.ofNat 32 r.val) = ![8 * t.val + r.val, 0]) t r
theorem off20_at (t : Fin grid0.N) (r : Fin 8) : k0_off20 (grid0.coords t) (BitVec.ofNat 32 r.val) = ![8 * t.val + r.val, 0] :=
  (by decide +kernel : ∀ (t : Fin grid0.N) (r : Fin 8), k0_off20 (grid0.coords t) (BitVec.ofNat 32 r.val) = ![8 * t.val + r.val, 0]) t r
theorem off21_at (t : Fin grid0.N) (r : Fin 8) : k0_off21 (grid0.coords t) (BitVec.ofNat 32 r.val) = ![64 * t.val + 8 * r.val, 0] :=
  (by decide +kernel : ∀ (t : Fin grid0.N) (r : Fin 8), k0_off21 (grid0.coords t) (BitVec.ofNat 32 r.val) = ![64 * t.val + 8 * r.val, 0]) t r
theorem off3_at (t : Fin grid0.N) (r : Fin 8) : k0_off3 (grid0.coords t) (BitVec.ofNat 32 r.val) = ![0, 64 * t.val + 8 * r.val, 0] :=
  (by decide +kernel : ∀ (t : Fin grid0.N) (r : Fin 8), k0_off3 (grid0.coords t) (BitVec.ofNat 32 r.val) = ![0, 64 * t.val + 8 * r.val, 0]) t r
theorem off7_at (t : Fin grid0.N) (r : Fin 8) : k0_off7 (grid0.coords t) (BitVec.ofNat 32 r.val) = ![0, 64 * t.val + 8 * r.val, 0] :=
  (by decide +kernel : ∀ (t : Fin grid0.N) (r : Fin 8), k0_off7 (grid0.coords t) (BitVec.ofNat 32 r.val) = ![0, 64 * t.val + 8 * r.val, 0]) t r
theorem off17_at (t : Fin grid0.N) (r : Fin 8) : k0_off17 (grid0.coords t) (BitVec.ofNat 32 r.val) = ![0, 64 * t.val + 8 * r.val, 0] :=
  (by decide +kernel : ∀ (t : Fin grid0.N) (r : Fin 8), k0_off17 (grid0.coords t) (BitVec.ofNat 32 r.val) = ![0, 64 * t.val + 8 * r.val, 0]) t r
theorem off4_at (t : Fin grid0.N) (r : Fin 8) : k0_off4 (grid0.coords t) (BitVec.ofNat 32 r.val) = ![1, 64 * t.val + 8 * r.val, 0] :=
  (by decide +kernel : ∀ (t : Fin grid0.N) (r : Fin 8), k0_off4 (grid0.coords t) (BitVec.ofNat 32 r.val) = ![1, 64 * t.val + 8 * r.val, 0]) t r
theorem off8_at (t : Fin grid0.N) (r : Fin 8) : k0_off8 (grid0.coords t) (BitVec.ofNat 32 r.val) = ![1, 64 * t.val + 8 * r.val, 0] :=
  (by decide +kernel : ∀ (t : Fin grid0.N) (r : Fin 8), k0_off8 (grid0.coords t) (BitVec.ofNat 32 r.val) = ![1, 64 * t.val + 8 * r.val, 0]) t r
theorem off18_at (t : Fin grid0.N) (r : Fin 8) : k0_off18 (grid0.coords t) (BitVec.ofNat 32 r.val) = ![1, 64 * t.val + 8 * r.val, 0] :=
  (by decide +kernel : ∀ (t : Fin grid0.N) (r : Fin 8), k0_off18 (grid0.coords t) (BitVec.ofNat 32 r.val) = ![1, 64 * t.val + 8 * r.val, 0]) t r
theorem off16_at (t : Fin grid0.N) : k0_off16 (grid0.coords t) = ![0, 8 * t.val, 0] :=
  (by decide +kernel : ∀ (t : Fin grid0.N), k0_off16 (grid0.coords t) = ![0, 8 * t.val, 0]) t

/-! ## A store read back -/

/-- Inside the stored rectangle. -/
theorem setR_in {s : Shape} {V : Type} (X : s.Idx → V) (off size : Fin s.rank → ℕ) (h) (w : (Rect.unit (s := s) off size h).shape.Idx → V)
    (y : (Rect.unit (s := s) off size h).shape.Idx) (x : s.Idx) (o : Fin s.rank → ℕ) (ho : off = o) (e : ∀ a, (x a).val = o a + (y a).val) : setR X (Rect.unit (s := s) off size h) w x = w y := by
  subst ho
  have : (Rect.unit (s := s) off size h).emb y = x := by
    funext a; apply Fin.ext
    rw [e a, Rect.emb_apply]
    show off a + 1 * (y a).val = _
    rw [Nat.one_mul]
  rw [← this, setR_emb]

/-- Outside it. -/
theorem setR_off {s : Shape} {V : Type} (X : s.Idx → V) (off size : Fin s.rank → ℕ) (h) (w : (Rect.unit (s := s) off size h).shape.Idx → V)
    (x : s.Idx) (o : Fin s.rank → ℕ) (ho : off = o) (a : Fin s.rank) (e : (x a).val < o a ∨ o a + size a ≤ (x a).val) : setR X (Rect.unit (s := s) off size h) w x = X x := by
  subst ho
  refine setR_out _ _ _ _ fun y hy => ?_
  have h1 : ((Rect.unit (s := s) off size h).emb y a).val = off a + 1 * (y a).val := rfl
  have h2 : (y a).val < size a := (y a).isLt
  rw [hy] at h1
  omega

/-- A load read at an index. -/
theorem load_at {s : Shape} {V : Type} (X : s.Idx → V) (off size : Fin s.rank → ℕ) (h) (y : (Rect.unit (s := s) off size h).shape.Idx) (x : s.Idx)
    (o : Fin s.rank → ℕ) (ho : off = o) (e : ∀ a, (x a).val = o a + (y a).val) : X ((Rect.unit (s := s) off size h).toLoadRect.idx y) = X x := by
  subst ho
  congr 1
  funext a; apply Fin.ext
  rw [e a]
  show off a + 1 * (y a).val = _
  rw [Nat.one_mul]

/-! ## Words of four packed bytes -/

/-- Bytes `4w` to `4w + 3` of a column as one word, the first the lowest. -/
def word4 (f : Fin 32 → BitVec 8) (w : Fin 8) : BitVec 32 :=
  (f ⟨4 * w.val, by omega⟩).setWidth 32 ||| ((f ⟨4 * w.val + 1, by omega⟩).setWidth 32 <<< 8) ||| ((f ⟨4 * w.val + 2, by omega⟩).setWidth 32 <<< 16)
    ||| ((f ⟨4 * w.val + 3, by omega⟩).setWidth 32 <<< 24)

theorem word4_bit (f : Fin 32 → BitVec 8) (w : Fin 8) (q : ℕ) (hq : q < 32) :
    (word4 f w).getLsbD q = (f ⟨4 * w.val + q / 8, by omega⟩).getLsbD (q % 8) :=
  four_bytes_getLsbD (fun k => f ⟨4 * w.val + k.val, by omega⟩) q hq

theorem tileWords_apply (x : Vec F S1x1x32x128 .i8) (w : Fin 8) (l : Fin 128) :
    tileWords x (ix2 w l) = word4 (fun cc => x (ix4 0 0 cc l)) w := by
  apply BitVec.eq_of_getLsbD_eq
  intro q hq
  rw [word4_bit _ _ _ hq]
  refine (bitcast_8_32_getLsbD_ix2 _ bitcasts_S32x128_w8_S8x128_w32 w l q hq ⟨4 * w.val + q / 8, by omega⟩ rfl).trans ?_
  congr 1
  show (shapeCast S32x128 x shapeCasts_S1x1x32x128_S32x128 : IVec S32x128 8) (ix2 _ _) = _
  pointwise

theorem tileOf_apply (X : Vec F S8x1x32x8192 .i8) (r : Fin 8) (j : ℕ) (w : Fin 8) (l : Fin 128) :
    tileOf X r j (ix2 w l) = word4 (fun cc => X (ix4 r 0 cc ⟨128 * (j % 64) + l.val, by omega⟩)) w := by
  unfold tileOf
  rw [tileWords_apply]
  congr 1
  funext cc
  refine load_at X _ _ _ _ _ _ rfl fun a => ?_
  fin_cases a
  · rfl
  · rfl
  · show cc.val = 0 + cc.val; omega
  · rfl

open Cert.Spec (col)

theorem lane_and (p : BitVec 32) : (IntOp.andi p 127#32).toNat = p.toNat % 128 := by
  show (p &&& 127#32).toNat = _
  rw [BitVec.toNat_and]
  exact Nat.and_two_pow_sub_one_eq_mod p.toNat 7
theorem lane_sel (p : BitVec 32) : Scalar.select (IntOp.cmpi .slt (IntOp.andi p 127#32) 0#32) (IntOp.addi (IntOp.andi p 127#32) 128#32) (IntOp.andi p 127#32) = IntOp.andi p 127#32 := by
  have h : ¬ (IntOp.andi p 127#32).slt 0#32 := by
    have := lane_and p
    rw [BitVec.slt_iff_toInt_lt]
    rw [BitVec.toInt_eq_toNat_of_lt (by omega)]
    simp
  have h' : IntOp.cmpi .slt (IntOp.andi p 127#32) 0#32 = 0#1 := by
    simp [IntOp.cmpi, h]
  rw [h']; rfl
theorem tile_eq (p : BitVec 32) (j : ℕ) (hj : j < 64) : IntOp.cmpi .eq (IntOp.shrui .vector p 7#32) (BitVec.ofNat 32 j) = 1#1 ↔ p.toNat / 128 = j := by
  have e : (IntOp.shrui .vector p 7#32).toNat = p.toNat / 128 := by
    simp [IntOp.shrui, Nat.shiftRight_eq_div_pow]
  have : (IntOp.shrui .vector p 7#32 = BitVec.ofNat 32 j) ↔ p.toNat / 128 = j := by
    rw [← BitVec.toNat_inj, e, BitVec.toNat_ofNat, Nat.mod_eq_of_lt (by omega)]
  rw [← this]
  show BitVec.ofBool (IntOp.shrui .vector p 7#32 == BitVec.ofNat 32 j) = 1#1 ↔ _
  by_cases h : IntOp.shrui .vector p 7#32 = BitVec.ofNat 32 j
  · simp [h]
  · simp only [h, iff_false, beq_eq_false_iff_ne.2 h]; decide

theorem upd_at (lane tile : IVec S8x128 32) (j : BitVec 32) (x acc : IVec S8x128 32) (w : Fin 8) (l : Fin 128) :
    upd lane tile j x acc (ix2 w l) = Scalar.select (IntOp.cmpi .eq (tile (ix2 w l)) j)
      (x (ix2 w ⟨(Scalar.select (IntOp.cmpi .slt (lane (ix2 w l)) 0#32) (IntOp.addi (lane (ix2 w l)) 128#32) (lane (ix2 w l))).toNat % 128, Nat.mod_lt _ (by decide)⟩)) (acc (ix2 w l)) := by
  pointwise [upd, takeL]

theorem upd_apply (lane tile : IVec S8x128 32) (j : ℕ) (hj : j < 64) (X : Vec F S8x1x32x8192 .i8) (r : Fin 8) (acc : IVec S8x128 32) (w : Fin 8) (l : Fin 128)
    (p : BitVec 32) (hl : lane (ix2 w l) = IntOp.andi p 127#32) (ht : tile (ix2 w l) = IntOp.shrui .vector p 7#32) (hp : p.toNat < 8192) :
    upd lane tile (BitVec.ofNat 32 j) (tileOf X r j) acc (ix2 w l)
      = if p.toNat / 128 = j then word4 (fun cc => X (ix4 r 0 cc (col p))) w else acc (ix2 w l) := by
  rw [upd_at, ht]
  have hs := tile_eq p j hj
  by_cases h : p.toNat / 128 = j
  · rw [hs.2 h, if_pos h]
    show tileOf X r j (ix2 w _) = _
    rw [tileOf_apply]
    refine congrArg (fun f => word4 f w) (funext fun cc => congrArg (fun k => X (ix4 r 0 cc k)) (Fin.ext ?_))
    show 128 * (j % 64) + _ % 128 = p.toNat % 8192
    rw [hl, lane_sel, lane_and]
    omega
  · rw [if_neg h]
    have h0 : IntOp.cmpi .eq (IntOp.shrui .vector p 7#32) (BitVec.ofNat 32 j) = 0#1 := by
      rcases BitVec.eq_zero_or_eq_one (IntOp.cmpi .eq (IntOp.shrui .vector p 7#32) (BitVec.ofNat 32 j)) with h' | h'
      · exact h'
      · exact absurd (hs.1 h') h
    rw [h0]; rfl

/-- A run of tiles, one of the gathered arrays at an element. -/
theorem run_apply {S : Type} (π : S → IVec S8x128 32) (g : ℕ → S → S) (X : Vec F S8x1x32x8192 .i8) (r : Fin 8) (lane tile : IVec S8x128 32)
    (hg : ∀ j s, π (g j s) = upd lane tile (BitVec.ofNat 32 j) (tileOf X r j) (π s)) (w : Fin 8) (l : Fin 128)
    (p : BitVec 32) (hl : lane (ix2 w l) = IntOp.andi p 127#32) (ht : tile (ix2 w l) = IntOp.shrui .vector p 7#32) (hp : p.toNat < 8192)
    (n : ℕ) : ∀ (j : ℕ) (s : S), j + n ≤ 64 → π (runN g n j s) (ix2 w l)
      = if j ≤ p.toNat / 128 ∧ p.toNat / 128 < j + n then word4 (fun cc => X (ix4 r 0 cc (col p))) w else π s (ix2 w l) := by
  induction n with
  | zero => intro j s _; rw [if_neg (by omega)]; rfl
  | succ n ih =>
    intro j s h
    show π (runN g n (j + 1) (g j s)) (ix2 w l) = _
    rw [ih (j + 1) (g j s) (by omega), hg, upd_apply lane tile j (by omega) X r _ w l p hl ht hp]
    by_cases h1 : j + 1 ≤ p.toNat / 128 ∧ p.toNat / 128 < j + 1 + n
    · rw [if_pos h1, if_pos (by omega)]
    · rw [if_neg h1]
      by_cases h2 : p.toNat / 128 = j
      · rw [if_pos h2, if_pos (by omega)]
      · rw [if_neg h2, if_neg (by omega)]

theorem lo_lanes (p : Vec F S1x256 .i32) (w : Fin 8) (l : Fin 128) : lo (lanes p) (ix2 w l) = IntOp.andi (p (ix2 0 ⟨l.val, by omega⟩)) 127#32 := by
  pointwise [lo, lanes, rowPos]
theorem hi_lanes (p : Vec F S1x256 .i32) (w : Fin 8) (l : Fin 128) : hi (lanes p) (ix2 w l) = IntOp.andi (p (ix2 0 ⟨128 + l.val, by omega⟩)) 127#32 := by
  pointwise [hi, lanes, rowPos]
theorem lo_tiles (p : Vec F S1x256 .i32) (w : Fin 8) (l : Fin 128) : lo (tiles p) (ix2 w l) = IntOp.shrui .vector (p (ix2 0 ⟨l.val, by omega⟩)) 7#32 := by
  pointwise [lo, tiles, rowPos]
theorem hi_tiles (p : Vec F S1x256 .i32) (w : Fin 8) (l : Fin 128) : hi (tiles p) (ix2 w l) = IntOp.shrui .vector (p (ix2 0 ⟨128 + l.val, by omega⟩)) 7#32 := by
  pointwise [hi, tiles, rowPos]

end Cert.Kernel.Hand
-- ==== Proof.IdealKV.lean ====
module

public import proofs.«01_k».proof.Proof.IdealWords

@[expose] public section

set_option maxRecDepth 16384
set_option pp.maxSteps 300

noncomputable section
namespace Cert.Kernel.Hand
open Cert.Kernel Cert.Kernel.Gen
open Idealize.ShloMosaic
open Cert.Spec (col)

variable {F : FTy → Type} [FloatOps F]

/-! ## The gathered rows -/

/-- Row `B` of a gathered cache holds the bytes `f`. -/
def KVrow (f : Fin 192 → Fin 32 → BitVec 8) (B : Fin 128) (kw : Vec F S2x1024x128 .i32) : Prop :=
  ∀ (w : Fin 8) (k : Fin 192), kw (ix3 ⟨k.val / 128, by omega⟩ ⟨8 * B.val + w.val, by omega⟩ ⟨k.val % 128, by omega⟩) = word4 (f k) w

section
variable (kw : Vec F S2x1024x128 .i32) (o0 o1 : Fin 3 → ℕ) (h0 : ∀ a, o0 a + S1x8x128.size a ≤ S2x1024x128.size a)
  (h1 : ∀ a, o1 a + S1x8x128.size a ≤ S2x1024x128.size a) (k0 k1 : IVec S8x128 32)

/-- Both halves of a row written. -/
def put2 : Vec F S2x1024x128 .i32 :=
  setR (setR kw (Rect.unit (s := S2x1024x128) o0 S1x8x128.size h0) (shapeCast S1x8x128 k0 shapeCasts_S8x128_S1x8x128 : IVec S1x8x128 32))
    (Rect.unit (s := S2x1024x128) o1 S1x8x128.size h1) (shapeCast S1x8x128 k1 shapeCasts_S8x128_S1x8x128 : IVec S1x8x128 32)

theorem cast_row (k : IVec S8x128 32) (w : Fin 8) (l : Fin 128) : (shapeCast S1x8x128 k shapeCasts_S8x128_S1x8x128 : IVec S1x8x128 32) (ix3 0 w l) = k (ix2 w l) := by
  pointwise

theorem put2_row (B : Fin 128) (f : Fin 192 → Fin 32 → BitVec 8) (e0 : o0 = ![0, 8 * B.val, 0]) (e1 : o1 = ![1, 8 * B.val, 0])
    (H0 : ∀ (w : Fin 8) (k : Fin 192) (h : k.val < 128), k0 (ix2 w ⟨k.val, h⟩) = word4 (f k) w)
    (H1 : ∀ (w : Fin 8) (k : Fin 192), 128 ≤ k.val → k1 (ix2 w ⟨k.val - 128, by omega⟩) = word4 (f k) w) : KVrow f B (put2 kw o0 o1 h0 h1 k0 k1) := by
  intro w k
  unfold put2
  by_cases h : k.val < 128
  · refine (setR_off (s := S2x1024x128) _ o1 _ h1 _ _ _ e1 (0 : Fin 3) (Or.inl (by show k.val / 128 < 1; omega))).trans ?_
    refine Eq.trans ?_ ((cast_row k0 w ⟨k.val, h⟩).trans (H0 w k h))
    refine setR_in (s := S2x1024x128) _ o0 _ h0 _ _ _ _ e0 fun a => ?_
    fin_cases a
    · show k.val / 128 = 0 + 0; omega
    · rfl
    · show k.val % 128 = 0 + k.val; omega
  · refine Eq.trans ?_ ((cast_row k1 w ⟨k.val - 128, by omega⟩).trans (H1 w k (by omega)))
    refine setR_in (s := S2x1024x128) _ o1 _ h1 _ _ _ _ e1 fun a => ?_
    fin_cases a
    · show k.val / 128 = 1 + 0; omega
    · rfl
    · show k.val % 128 = 0 + (k.val - 128); omega

theorem put2_keep (B B' : Fin 128) (hB : B' ≠ B) (f : Fin 192 → Fin 32 → BitVec 8) (e0 : o0 = ![0, 8 * B.val, 0]) (e1 : o1 = ![1, 8 * B.val, 0])
    (H : KVrow f B' kw) : KVrow f B' (put2 kw o0 o1 h0 h1 k0 k1) := by
  intro w k
  have hn : B'.val ≠ B.val := fun h => hB (Fin.ext h)
  unfold put2
  refine (setR_off (s := S2x1024x128) _ o1 _ h1 _ _ _ e1 (1 : Fin 3) (by show 8 * B'.val + w.val < 8 * B.val ∨ 8 * B.val + 8 ≤ 8 * B'.val + w.val; omega)).trans ?_
  refine (setR_off (s := S2x1024x128) _ o0 _ h0 _ _ _ e0 (1 : Fin 3) (by show 8 * B'.val + w.val < 8 * B.val ∨ 8 * B.val + 8 ≤ 8 * B'.val + w.val; omega)).trans ?_
  exact H w k
end

/-! ## What the two branches gather -/

variable (t : Fin grid0.N) (I : In F) (r : Fin 8)

/-- The row of the step. -/
def bat (t : Fin grid0.N) (r : Fin 8) : Fin 128 := ⟨8 * t.val + r.val, by have : t.val < 16 := t.isLt; omega⟩
def pAt (k : Fin 256) : BitVec 32 := I.x2 (ix2 (bat t r) k)
def p192 (k : Fin 192) : BitVec 32 := pAt t I r ⟨k.val, by omega⟩
def bytesOf (X : Vec F S8x1x32x8192 .i8) (k : Fin 192) (cc : Fin 32) : BitVec 8 := X (ix4 r 0 cc (col (p192 t I r k)))

theorem posE_apply (k : Fin 256) : posE (grid0.coords t) I r (ix2 0 k) = pAt t I r k := by
  refine load_at I.x2 _ _ _ _ _ _ (off2_at t r) fun a => ?_
  fin_cases a
  · rfl
  · show k.val = 0 + k.val; omega
theorem posO_apply (k : Fin 256) : posO (grid0.coords t) I r (ix2 0 k) = pAt t I r k := by
  refine load_at I.x2 _ _ _ _ _ _ (off5_at t r) fun a => ?_
  fin_cases a
  · rfl
  · show k.val = 0 + k.val; omega

theorem low_iff (c : BitVec 32) (h1 : 64 ≤ c.toNat) (h2 : c.toNat ≤ 128) (w : Fin 8) (l : Fin 128) :
    (cmpi .slt (iota .tc S8x128 32 [1] iota_S8x128_d1_w32) (broadcast S8x128 c) : IVec S8x128 1) (ix2 w l) = if l.val < c.toNat then 1#1 else 0#1 := by
  show BitVec.ofBool ((BitVec.ofNat 32 _).slt c) = _
  have e : (BitVec.ofNat 32 l.val).slt c = decide (l.val < c.toNat) := by
    rw [BitVec.slt_eq_decide, BitVec.toInt_eq_toNat_of_lt (by rw [BitVec.toNat_ofNat]; omega), BitVec.toInt_eq_toNat_of_lt (by omega), BitVec.toNat_ofNat, Nat.mod_eq_of_lt (by omega)]
    simp
  have e' : List.foldl (fun n a => n * S8x128.size a + (ix2 (n0 := 8) (n1 := 128) w l a).val) 0 [1] = l.val := by
    show 0 * 128 + l.val = l.val; omega
  rw [show (BitVec.ofNat 32 (List.foldl (fun n a => n * S8x128.size a + (ix2 w l a).val) 0 [1]) : BitVec 32) = BitVec.ofNat 32 l.val from congrArg _ e', e]
  by_cases h : l.val < c.toNat <;> simp [h]

theorem sel_apply {α : Type} (m : IVec S8x128 1) (x y : S8x128.Idx → α) (i : S8x128.Idx) (P : Prop) [Decidable P] (h : m i = if P then 1#1 else 0#1) :
    (select m x y) i = if P then x i else y i := by
  show Scalar.select (m i) _ _ = _
  rw [h]
  by_cases hP : P <;> simp [hP, Scalar.select]

theorem evRow_kv (c : BitVec 32) (h1 : 64 ≤ c.toNat) (h2 : c.toNat ≤ 128) (hp : ∀ k, (p192 t I r k).toNat < 8192)
    (hs : ∀ k : Fin 192, k.val < c.toNat ↔ (p192 t I r k).toNat < 4096) (X : Vec F S8x1x32x8192 .i8) (π : IVec S8x128 32 × IVec S8x128 32 → IVec S8x128 32)
    (hπ : ∀ l u j s, π (evG I r l u j s) = upd l u (BitVec.ofNat 32 j) (tileOf X r j) (π s))
    (kw : Vec F S2x1024x128 .i32) (h3 h4) :
    KVrow (bytesOf t I r X) (bat t r)
      (put2 kw (k0_off3 (grid0.coords t) (BitVec.ofNat 32 r.val)) (k0_off4 (grid0.coords t) (BitVec.ofNat 32 r.val)) h3 h4
        (select (cmpi .slt (iota .tc S8x128 32 [1] iota_S8x128_d1_w32) (broadcast S8x128 c)) (π (evA I r (posE (grid0.coords t) I r)))
          (π (evB I r (posE (grid0.coords t) I r) (cmpi .slt (iota .tc S8x128 32 [1] iota_S8x128_d1_w32) (broadcast S8x128 c)))))
        (π (evB I r (posE (grid0.coords t) I r) (cmpi .slt (iota .tc S8x128 32 [1] iota_S8x128_d1_w32) (broadcast S8x128 c))))) := by
  refine put2_row kw _ _ h3 h4 _ _ (bat t r) _ ((off3_at t r).trans ?_) ((off4_at t r).trans ?_) ?_ ?_
  · simp only [bat]; congr 2; omega
  · simp only [bat]; congr 2; omega
  · intro w k h
    rw [sel_apply _ _ _ _ _ (low_iff c h1 h2 w ⟨k.val, h⟩)]
    have hpk := hp k
    have hsk := hs k
    by_cases hk : k.val < c.toNat
    · rw [if_pos hk]
      refine (run_apply π _ X r _ _ (hπ _ _) w ⟨k.val, h⟩ (p192 t I r k) ?_ ?_ hpk 32 0 _ (by omega)).trans (if_pos (by omega))
      · rw [lo_lanes, posE_apply]; rfl
      · rw [lo_tiles, posE_apply]; rfl
    · rw [if_neg hk]
      refine (run_apply π _ X r _ _ (hπ _ _) w ⟨k.val, h⟩ (p192 t I r k) ?_ ?_ hpk 32 32 _ (by omega)).trans (if_pos (by omega))
      · rw [sel_apply _ _ _ _ _ (low_iff c h1 h2 w ⟨k.val, h⟩), if_neg hk, lo_lanes, posE_apply]; rfl
      · rw [sel_apply _ _ _ _ _ (low_iff c h1 h2 w ⟨k.val, h⟩), if_neg hk, lo_tiles, posE_apply]; rfl
  · intro w k h
    have hpk := hp k
    have hsk := hs k
    have hk : k.val - 128 < c.toNat := by omega
    have e : (⟨128 + (k.val - 128), by omega⟩ : Fin 256) = ⟨k.val, by omega⟩ := Fin.ext (by show 128 + (k.val - 128) = k.val; omega)
    refine (run_apply π _ X r _ _ (hπ _ _) w ⟨k.val - 128, by omega⟩ (p192 t I r k) ?_ ?_ hpk 32 32 _ (by omega)).trans (if_pos (by omega))
    · rw [sel_apply _ _ _ _ _ (low_iff c h1 h2 w ⟨k.val - 128, by omega⟩), if_pos hk, hi_lanes, posE_apply, e]; rfl
    · rw [sel_apply _ _ _ _ _ (low_iff c h1 h2 w ⟨k.val - 128, by omega⟩), if_pos hk, hi_tiles, posE_apply, e]; rfl

theorem odRow_kv (hp : ∀ k, (p192 t I r k).toNat < 8192) (X : Vec F S8x1x32x8192 .i8)
    (π π' : IVec S8x128 32 × IVec S8x128 32 × IVec S8x128 32 × IVec S8x128 32 → IVec S8x128 32)
    (hπ : ∀ l u l' u' j s, π (odG I r l u l' u' j s) = upd l u (BitVec.ofNat 32 j) (tileOf X r j) (π s))
    (hπ' : ∀ l u l' u' j s, π' (odG I r l u l' u' j s) = upd l' u' (BitVec.ofNat 32 j) (tileOf X r j) (π' s))
    (kw : Vec F S2x1024x128 .i32) (h3 h4) :
    KVrow (bytesOf t I r X) (bat t r)
      (put2 kw (k0_off7 (grid0.coords t) (BitVec.ofNat 32 r.val)) (k0_off8 (grid0.coords t) (BitVec.ofNat 32 r.val)) h3 h4
        (π (odA I r (posO (grid0.coords t) I r))) (π' (odA I r (posO (grid0.coords t) I r)))) := by
  refine put2_row kw _ _ h3 h4 _ _ (bat t r) _ ((off7_at t r).trans ?_) ((off8_at t r).trans ?_) ?_ ?_
  · simp only [bat]; congr 2; omega
  · simp only [bat]; congr 2; omega
  · intro w k h
    have hpk := hp k
    refine (run_apply π _ X r _ _ (hπ _ _ _ _) w ⟨k.val, h⟩ (p192 t I r k) ?_ ?_ hpk 64 0 _ (by omega)).trans (if_pos (by omega))
    · rw [lo_lanes, posO_apply]; rfl
    · rw [lo_tiles, posO_apply]; rfl
  · intro w k h
    have hpk := hp k
    have e : (⟨128 + (k.val - 128), by omega⟩ : Fin 256) = ⟨k.val, by omega⟩ := Fin.ext (by show 128 + (k.val - 128) = k.val; omega)
    refine (run_apply π' _ X r _ _ (hπ' _ _ _ _) w ⟨k.val - 128, by omega⟩ (p192 t I r k) ?_ ?_ hpk 64 0 _ (by omega)).trans (if_pos (by omega))
    · rw [hi_lanes, posO_apply, e]; rfl
    · rw [hi_tiles, posO_apply, e]; rfl

/-- Both caches at a row. -/
def KVs (f g : Fin 192 → Fin 32 → BitVec 8) (B : Fin 128) (s : St F) : Prop := KVrow f B s.kw ∧ KVrow g B s.vw

theorem bat_ne {r r' : Fin 8} (h : r ≠ r') : bat t r ≠ bat t r' := fun e => h (Fin.ext (by have := congrArg Fin.val e; simp only [bat] at this; omega))

theorem putF_kw (s : St F) (o0 o1 h0 h1 k0 k1 v0 v1) : (putF s o0 o1 h0 h1 k0 k1 v0 v1).kw = put2 s.kw o0 o1 h0 h1 k0 k1 := by
  unfold putF put2
  rw [St.kw_w_vw, St.kw_w_vw, St.kw_w_kw, St.kw_w_kw]
theorem putF_vw (s : St F) (o0 o1 h0 h1 k0 k1 v0 v1) : (putF s o0 o1 h0 h1 k0 k1 v0 v1).vw = put2 s.vw o0 o1 h0 h1 v0 v1 := by
  unfold putF put2
  rw [St.vw_w_vw, St.vw_w_vw, St.vw_w_kw, St.vw_w_kw]
theorem putF_o (s : St F) (o0 o1 h0 h1 k0 k1 v0 v1) : (putF s o0 o1 h0 h1 k0 k1 v0 v1).o = s.o := by
  unfold putF
  rw [St.o_w_vw, St.o_w_vw, St.o_w_kw, St.o_w_kw]
theorem putF_sa (s : St F) (o0 o1 h0 h1 k0 k1 v0 v1) : (putF s o0 o1 h0 h1 k0 k1 v0 v1).sa = s.sa := by
  unfold putF
  rw [St.sa_w_vw, St.sa_w_vw, St.sa_w_kw, St.sa_w_kw]

theorem evRowF_kv (c : BitVec 32) (s : St F) (h1 : 64 ≤ c.toNat) (h2 : c.toNat ≤ 128) (hp : ∀ k, (p192 t I r k).toNat < 8192)
    (hs : ∀ k : Fin 192, k.val < c.toNat ↔ (p192 t I r k).toNat < 4096) :
    KVs (bytesOf t I r I.x9) (bytesOf t I r I.x10) (bat t r) (evRowF (grid0.coords t) I r (iota .tc S8x128 32 [1] iota_S8x128_d1_w32) c s) := by
  unfold evRowF KVs
  rw [putF_kw, putF_vw]
  exact ⟨evRow_kv t I r c h1 h2 hp hs I.x9 Prod.fst (fun _ _ _ _ => rfl) s.kw _ _, evRow_kv t I r c h1 h2 hp hs I.x10 Prod.snd (fun _ _ _ _ => rfl) s.vw _ _⟩
theorem odRowF_kv (s : St F) (hp : ∀ k, (p192 t I r k).toNat < 8192) :
    KVs (bytesOf t I r I.x9) (bytesOf t I r I.x10) (bat t r) (odRowF (grid0.coords t) I r s) := by
  unfold odRowF KVs
  rw [putF_kw, putF_vw]
  exact ⟨odRow_kv t I r hp I.x9 (fun x => x.1) (fun x => x.2.1) (fun _ _ _ _ _ _ => rfl) (fun _ _ _ _ _ _ => rfl) s.kw _ _,
    odRow_kv t I r hp I.x10 (fun x => x.2.2.1) (fun x => x.2.2.2) (fun _ _ _ _ _ _ => rfl) (fun _ _ _ _ _ _ => rfl) s.vw _ _⟩

theorem off3_bat : k0_off3 (grid0.coords t) (BitVec.ofNat 32 r.val) = ![0, 8 * (bat t r).val, 0] := (off3_at t r).trans (by simp only [bat]; congr 2; omega)
theorem off4_bat : k0_off4 (grid0.coords t) (BitVec.ofNat 32 r.val) = ![1, 8 * (bat t r).val, 0] := (off4_at t r).trans (by simp only [bat]; congr 2; omega)
theorem off7_bat : k0_off7 (grid0.coords t) (BitVec.ofNat 32 r.val) = ![0, 8 * (bat t r).val, 0] := (off7_at t r).trans (by simp only [bat]; congr 2; omega)
theorem off8_bat : k0_off8 (grid0.coords t) (BitVec.ofNat 32 r.val) = ![1, 8 * (bat t r).val, 0] := (off8_at t r).trans (by simp only [bat]; congr 2; omega)

theorem evRowF_keep (io : IVec S8x128 32) (c : BitVec 32) (s : St F) (f g) (B : Fin 128) (hB : B ≠ bat t r) (H : KVs f g B s) :
    KVs f g B (evRowF (grid0.coords t) I r io c s) := by
  unfold evRowF KVs
  rw [putF_kw, putF_vw]
  exact ⟨put2_keep s.kw _ _ _ _ _ _ (bat t r) B hB f (off3_bat t r) (off4_bat t r) H.1, put2_keep s.vw _ _ _ _ _ _ (bat t r) B hB g (off3_bat t r) (off4_bat t r) H.2⟩
theorem odRowF_keep (s : St F) (f g) (B : Fin 128) (hB : B ≠ bat t r) (H : KVs f g B s) :
    KVs f g B (odRowF (grid0.coords t) I r s) := by
  unfold odRowF KVs
  rw [putF_kw, putF_vw]
  exact ⟨put2_keep s.kw _ _ _ _ _ _ (bat t r) B hB f (off7_bat t r) (off8_bat t r) H.1, put2_keep s.vw _ _ _ _ _ _ (bat t r) B hB g (off7_bat t r) (off8_bat t r) H.2⟩

/-- Eight steps, each settling one thing and keeping the others. -/
theorem eight_all (g : Fin 8 → St F → St F) (P : Fin 8 → St F → Prop) (hset : ∀ r s, P r (g r s)) (hkeep : ∀ r r' s, r' ≠ r → P r' s → P r' (g r s)) (s : St F) :
    ∀ r, P r (eight g s) := by
  intro r
  unfold eight
  fin_cases r
  · exact hkeep 7 _ _ (by decide) <| hkeep 6 _ _ (by decide) <| hkeep 5 _ _ (by decide) <| hkeep 4 _ _ (by decide) <| hkeep 3 _ _ (by decide) <| hkeep 2 _ _ (by decide) <| hkeep 1 _ _ (by decide) <| hset 0 _
  · exact hkeep 7 _ _ (by decide) <| hkeep 6 _ _ (by decide) <| hkeep 5 _ _ (by decide) <| hkeep 4 _ _ (by decide) <| hkeep 3 _ _ (by decide) <| hkeep 2 _ _ (by decide) <| hset 1 _
  · exact hkeep 7 _ _ (by decide) <| hkeep 6 _ _ (by decide) <| hkeep 5 _ _ (by decide) <| hkeep 4 _ _ (by decide) <| hkeep 3 _ _ (by decide) <| hset 2 _
  · exact hkeep 7 _ _ (by decide) <| hkeep 6 _ _ (by decide) <| hkeep 5 _ _ (by decide) <| hkeep 4 _ _ (by decide) <| hset 3 _
  · exact hkeep 7 _ _ (by decide) <| hkeep 6 _ _ (by decide) <| hkeep 5 _ _ (by decide) <| hset 4 _
  · exact hkeep 7 _ _ (by decide) <| hkeep 6 _ _ (by decide) <| hset 5 _
  · exact hkeep 7 _ _ (by decide) <| hset 6 _
  · exact hset 7 _

/-- Eight steps that keep a thing keep it. -/
theorem eight_keep (g : Fin 8 → St F → St F) (P : St F → Prop) (h : ∀ r s, P s → P (g r s)) (s : St F) (H : P s) : P (eight g s) :=
  h 7 _ <| h 6 _ <| h 5 _ <| h 4 _ <| h 3 _ <| h 2 _ <| h 1 _ <| h 0 _ H

theorem evAllF_eight (cs : Fin 8 → BitVec 32) (io : IVec S8x128 32) (s : St F) :
    evAllF (grid0.coords t) I io cs s = eight (fun r s => evRowF (grid0.coords t) I r io (cs r) s) s := rfl
theorem odAllF_eight (s : St F) : odAllF (grid0.coords t) I s = eight (fun r s => odRowF (grid0.coords t) I r s) s := rfl

theorem okC_iff (c : BitVec 32) : okC c = 1#1 ↔ 64 ≤ c.toInt ∧ c.toInt ≤ 128 := by
  show BitVec.ofBool ((64#32).sle c) &&& BitVec.ofBool (c.sle 128#32) = 1#1 ↔ _
  rw [BitVec.sle_eq_decide, BitVec.sle_eq_decide]
  show BitVec.ofBool (decide ((64 : ℤ) ≤ c.toInt)) &&& BitVec.ofBool (decide (c.toInt ≤ 128)) = 1#1 ↔ _
  by_cases h1 : (64 : ℤ) ≤ c.toInt <;> by_cases h2 : c.toInt ≤ 128 <;> simp [h1, h2]

theorem and1 (a b : BitVec 1) : Scalar.andi a b = 1#1 ↔ a = 1#1 ∧ b = 1#1 := by
  revert a b; decide
theorem allC_ok (cs : Fin 8 → BitVec 32) (h : allC cs = 1#1) (r : Fin 8) : okC (cs r) = 1#1 := by
  simp only [allC, and1] at h
  obtain ⟨⟨⟨⟨⟨⟨⟨h0, h1⟩, h2⟩, h3⟩, h4⟩, h5⟩, h6⟩, h7⟩ := h
  fin_cases r <;> assumption
theorem condE_iff (cs : Fin 8 → BitVec 32) : condE cs ↔ allC cs = 1#1 := by
  unfold condE
  generalize allC cs = a
  revert a; decide
theorem condO_iff (cs : Fin 8 → BitVec 32) : condO cs ↔ ¬ allC cs = 1#1 := by
  unfold condO
  generalize allC cs = a
  revert a; decide

/-- After the gather every row of the step holds the bytes its positions name. -/
theorem gather_kv (s : St F) (hp : ∀ r k, (p192 t I r k).toNat < 8192)
    (hs : ∀ r (k : Fin 192), (k.val : ℤ) < (splits (grid0.coords t) I r).toInt ↔ (p192 t I r k).toNat < 4096) (r : Fin 8) :
    KVs (bytesOf t I r I.x9) (bytesOf t I r I.x10) (bat t r) (gatherO (grid0.coords t) I (gatherE (grid0.coords t) I s)) := by
  unfold gatherO gatherE
  by_cases h : allC (splits (grid0.coords t) I) = 1#1
  · rw [if_pos ((condE_iff _).2 h), if_neg (fun h' => (condO_iff _).1 h' h), evAllF_eight]
    refine eight_all _ (fun r s => KVs (bytesOf t I r I.x9) (bytesOf t I r I.x10) (bat t r) s) (fun r s => ?_) (fun r r' s hr H => evRowF_keep t I r _ _ s _ _ _ (bat_ne t hr) H) s r
    have hc := (okC_iff _).1 (allC_ok _ h r)
    have e : ((splits (grid0.coords t) I r).toInt : ℤ) = (splits (grid0.coords t) I r).toNat := by
      rw [BitVec.toInt_eq_toNat_cond] at hc ⊢
      split at hc
      · rw [if_pos (by assumption)]
      · have := (splits (grid0.coords t) I r).isLt; omega
    refine evRowF_kv t I r _ s (by omega) (by omega) (hp r) fun k => ?_
    rw [← hs r k, e]; omega
  · rw [if_neg (fun h' => h ((condE_iff _).1 h')), if_pos ((condO_iff _).2 h), odAllF_eight]
    exact eight_all _ (fun r s => KVs (bytesOf t I r I.x9) (bytesOf t I r I.x10) (bat t r) s) (fun r s => odRowF_kv t I r s (hp r)) (fun r r' s hr H => odRowF_keep t I r s _ _ _ (bat_ne t hr) H) s r

/-- Rows of other steps keep theirs. -/
theorem gather_keep (s : St F) (f g) (B : Fin 128) (hB : ∀ r, B ≠ bat t r) (H : KVs f g B s) :
    KVs f g B (gatherO (grid0.coords t) I (gatherE (grid0.coords t) I s)) := by
  unfold gatherO gatherE
  have h1 : KVs f g B (if condE (splits (grid0.coords t) I) then evAllF (grid0.coords t) I (iota .tc S8x128 32 [1] iota_S8x128_d1_w32) (splits (grid0.coords t) I) s else s) := by
    split
    · rw [evAllF_eight]; exact eight_keep _ _ (fun r s => evRowF_keep t I r _ _ s f g B (hB r)) s H
    · exact H
  split
  · rw [odAllF_eight]; exact eight_keep _ _ (fun r s => odRowF_keep t I r s f g B (hB r)) _ h1
  · exact h1

/-- The gather leaves the other arrays. -/
theorem gather_rest (s : St F) : (gatherO (grid0.coords t) I (gatherE (grid0.coords t) I s)).o = s.o ∧ (gatherO (grid0.coords t) I (gatherE (grid0.coords t) I s)).sa = s.sa := by
  unfold gatherO gatherE
  have h1 : ∀ (cs) (io) (s' : St F), s'.o = s.o ∧ s'.sa = s.sa → (evAllF (grid0.coords t) I io cs s').o = s.o ∧ (evAllF (grid0.coords t) I io cs s').sa = s.sa := by
    intro cs io s' H
    rw [evAllF_eight]
    exact eight_keep _ (fun x : St F => x.o = s.o ∧ x.sa = s.sa) (fun r x hx => by unfold evRowF; rw [putF_o, putF_sa]; exact hx) s' H
  have h2 : ∀ (s' : St F), s'.o = s.o ∧ s'.sa = s.sa → (odAllF (grid0.coords t) I s').o = s.o ∧ (odAllF (grid0.coords t) I s').sa = s.sa := by
    intro s' H
    rw [odAllF_eight]
    exact eight_keep _ (fun x : St F => x.o = s.o ∧ x.sa = s.sa) (fun r x hx => by unfold odRowF; rw [putF_o, putF_sa]; exact hx) s' H
  split <;> split
  · exact h2 _ (h1 _ _ _ ⟨rfl, rfl⟩)
  · exact h2 _ ⟨rfl, rfl⟩
  · exact h1 _ _ _ ⟨rfl, rfl⟩
  · exact ⟨rfl, rfl⟩

theorem splits_apply : splits (grid0.coords t) I r = I.x1 (ix2 ⟨(8 * t.val + r.val) / 4, by have : t.val < 16 := t.isLt; omega⟩ ⟨(8 * t.val + r.val) % 4, by omega⟩) := by
  have e : splits (grid0.coords t) I r = splitOf (grid0.coords t) I r := by fin_cases r <;> rfl
  rw [e]
  unfold splitOf
  refine load_at I.x1 _ _ (k0_off1_inb (grid0.coords t) r) _ _ _ (off1_at t r) fun a => ?_
  fin_cases a <;> rfl

end Cert.Kernel.Hand
-- ==== Proof.IdealAttn.lean ====
module

public import proofs.«01_k».proof.Proof.IdealKV
public import proofs.«01_k».proof.Proof.Spec

@[expose] public section

set_option maxRecDepth 16384
set_option pp.maxSteps 300

noncomputable section
namespace Cert.Kernel.Hand
open Cert.Kernel Cert.Kernel.Gen
open Idealize.ShloMosaic

/-! ## One row of the attention, element by element -/

theorem sOf_at (r : Fin 8) (q : FVec Ideal S64x64 .bf16) (kc : FVec Ideal S64x192 .bf16) (ks : Vec Ideal S1x256 .f32) (g : Fin 8) (k : Fin 192) :
    sOf r q kc ks (ix2 g k) = (∑ x, q (ix2 ⟨8 * r.val + g.val, by omega⟩ x) * kc (ix2 x k)) * (ks (ix2 0 ⟨k.val, by omega⟩) * Cert.Spec.c8) := by
  pointwise [sOf, Cert.Spec.c8]
theorem snOf_at (r : Fin 8) (sn : FVec Ideal S64x1 .f32) (g : Fin 8) :
    snOf r sn (ix2 g 0) = sn (ix2 ⟨8 * r.val + g.val, by omega⟩ 0) * Cert.Spec.c8 := by
  pointwise [snOf, Cert.Spec.c8]
theorem topOf_at (s : FVec Ideal S8x192 .f32) (sn : FVec Ideal S8x1 .f32) (g : Fin 8) :
    topOf s sn (ix2 g 0) = max (Finset.fold max Cert.Spec.ninf (fun k => s (ix2 g k)) Finset.univ) (sn (ix2 g 0)) := by
  pointwise [topOf, Cert.Spec.ninf]
theorem pOf_at (s : FVec Ideal S8x192 .f32) (sn : FVec Ideal S8x1 .f32) (g : Fin 8) (k : Fin 192) :
    pOf s sn (ix2 g k) = Ideal.div (Ideal.exp (s (ix2 g k) - topOf s sn (ix2 g 0)))
      (∑ x, Ideal.exp (s (ix2 g x) - topOf s sn (ix2 g 0)) + Ideal.exp (sn (ix2 g 0) - topOf s sn (ix2 g 0))) := by
  pointwise [pOf, eOf, enOf, normOf]
theorem pnOf_at (s : FVec Ideal S8x192 .f32) (sn : FVec Ideal S8x1 .f32) (g : Fin 8) :
    pnOf s sn (ix2 g 0) = Ideal.div (Ideal.exp (sn (ix2 g 0) - topOf s sn (ix2 g 0)))
      (∑ x, Ideal.exp (s (ix2 g x) - topOf s sn (ix2 g 0)) + Ideal.exp (sn (ix2 g 0) - topOf s sn (ix2 g 0))) := by
  pointwise [pnOf, eOf, enOf, normOf]
theorem saOf_at (p : FVec Ideal S8x192 .f32) (ss : Vec Ideal S1x256 .f32) (k : Fin 192) :
    saOf p ss (ix2 0 k) = ss (ix2 0 ⟨k.val, by omega⟩) + ∑ x, p (ix2 x k) := by
  pointwise [saOf]
theorem oOf_at (r : Fin 8) (p : FVec Ideal S8x192 .f32) (pn : FVec Ideal S8x1 .f32) (vs : Vec Ideal S1x256 .f32) (vc : FVec Ideal S64x192 .bf16)
    (vn : FVec Ideal S8x64 .bf16) (g : Fin 8) (d : Fin 64) :
    oOf r p pn vs vc vn (ix2 g d) = ∑ x, p (ix2 g x) * vs (ix2 0 ⟨x.val, by omega⟩) * vc (ix2 d x) + pn (ix2 g 0) * vn (ix2 r d) := by
  pointwise [oOf]

theorem shl_shr (x : BitVec 32) (j : Fin 8) (q : ℕ) (hq : q < 32) :
    (IntOp.shrsi .vector (IntOp.shli .vector x (BitVec.ofNat 32 (28 - 4 * j.val))) 28#32).getLsbD q = x.getLsbD (4 * j.val + min q 3) := by
  have e : (BitVec.ofNat 32 (28 - 4 * j.val)).toNat = 28 - 4 * j.val := by rw [BitVec.toNat_ofNat]; omega
  unfold IntOp.shrsi IntOp.shli
  rw [if_pos (by decide), if_pos (by omega), BitVec.shiftLeft_eq', e]
  rw [BitVec.sshiftRight_eq', show (28#32).toNat = 28 from rfl, BitVec.getLsbD_sshiftRight, BitVec.msb_eq_getLsbD_last]
  simp only [BitVec.getLsbD_shiftLeft]
  by_cases h : q < 4
  · rw [if_pos (by omega)]
    have e1 : min q 3 = q := by omega
    have e2 : 28 + q - (28 - 4 * j.val) = 4 * j.val + q := by omega
    have h1 : ¬ 32 ≤ q := by omega
    have h2 : 28 + q < 32 := by omega
    have h3 : ¬ 28 + q < 28 - 4 * j.val := by omega
    simp [e1, e2, h1, h2, h3]
  · rw [if_neg (by omega)]
    have e1 : min q 3 = 3 := by omega
    have e2 : 32 - 1 - (28 - 4 * j.val) = 4 * j.val + 3 := by omega
    have h1 : ¬ 32 ≤ q := by omega
    have h3 : ¬ 31 < 28 - 4 * j.val := by omega
    simp [e1, e2, h1, h3]

theorem nib_word (f : Fin 32 → BitVec 8) (d : Fin 64) :
    IntOp.shrsi .vector (IntOp.shli .vector (word4 f ⟨d.val / 8, by omega⟩) (BitVec.ofNat 32 (28 - 4 * (d.val % 8)))) 28#32
      = Cert.Spec.nib (f ⟨d.val / 2, by omega⟩) ⟨d.val % 2, by omega⟩ := by
  apply BitVec.eq_of_getLsbD_eq
  intro q hq
  rw [Cert.Spec.nib_bit _ _ ⟨q, hq⟩, shl_shr _ ⟨d.val % 8, by omega⟩ q hq, word4_bit _ _ _ (by show 4 * (d.val % 8) + _ < 32; omega)]
  have e1 : 4 * (d.val / 8) + (4 * (d.val % 8) + min q 3) / 8 = d.val / 2 := by omega
  have e2 : (4 * (d.val % 8) + min q 3) % 8 = 4 * (d.val % 2) + min q 3 := by omega
  simp only [e1, e2]

theorem nibShift_at (d : Fin 64) (k : Fin 192) : nibShift (ix2 d k) = BitVec.ofNat 32 (28 - 4 * (d.val % 8)) := by
  pointwise [nibShift]
  revert d
  decide +kernel

theorem codesOf_at (a : Vec Ideal S1x8x128 .i32) (b : Vec Ideal S1x8x64 .i32) (f : Fin 192 → Fin 32 → BitVec 8)
    (ha : ∀ (w : Fin 8) (k : Fin 192) (h : k.val < 128), a (ix3 0 w ⟨k.val, h⟩) = word4 (f k) w)
    (hb : ∀ (w : Fin 8) (k : Fin 192), 128 ≤ k.val → b (ix3 0 w ⟨k.val - 128, by omega⟩) = word4 (f k) w) (d : Fin 64) (k : Fin 192) :
    codesOf (F := Ideal) a b (ix2 d k) = Cert.Spec.code (f k) d := by
  unfold Cert.Spec.code
  rw [← nib_word, ← nibShift_at d k]
  have e : (if h : k.val < 128 then a (ix3 0 ⟨d.val / 8, by omega⟩ ⟨k.val, h⟩) else b (ix3 0 ⟨d.val / 8, by omega⟩ ⟨k.val - 128, by omega⟩)) = word4 (f k) ⟨d.val / 8, by omega⟩ := by
    split
    · exact ha _ _ _
    · exact hb _ _ (by omega)
  rw [← e]
  pointwise [codesOf, nibbles]

theorem own_at : ∀ (a : Fin 64) (x : Fin 8),
    IntOp.cmpi CmpIPredicate.eq
          (Scalar.select
            (IntOp.andi
              (IntOp.cmpi CmpIPredicate.ne
                (IntOp.subi (BitVec.setWidth 32 (IntOp.cmpi CmpIPredicate.sgt (BitVec.ofNat 32 a.val) 0#32))
                  (BitVec.setWidth 32 (IntOp.cmpi CmpIPredicate.slt (BitVec.ofNat 32 a.val) 0#32)))
                (Scalar.subi (Scalar.extui (Scalar.cmpi CmpIPredicate.sgt (8#32 : BitVec 32) 0#32))
                  (Scalar.extui (Scalar.cmpi CmpIPredicate.slt (8#32 : BitVec 32) 0#32))))
              (IntOp.cmpi CmpIPredicate.ne (IntOp.remsi ArithUnit.vector (BitVec.ofNat 32 a.val) 8#32) 0#32))
            (IntOp.subi (IntOp.divsi ArithUnit.vector (BitVec.ofNat 32 a.val) 8#32) 1#32)
            (IntOp.divsi ArithUnit.vector (BitVec.ofNat 32 a.val) 8#32))
          (BitVec.ofNat 32 x.val) = if x.val = a.val / 8 then 1#1 else 0#1 := by
  decide +kernel

theorem newScores_at (q : FVec Ideal S64x64 .bf16) (kn : FVec Ideal S8x64 .bf16) (a : Fin 64) :
    newScores q kn (ix2 a 0) = ∑ y, q (ix2 a y) * kn (ix2 ⟨a.val / 8, by omega⟩ y) := by
  pointwise [newScores]
  refine (Finset.sum_eq_single (⟨a.val / 8, by omega⟩ : Fin 8) (fun x _ hx => ?_) (fun h => absurd (Finset.mem_univ _) h)).trans ?_
  · rw [own_at a x, if_neg (fun h => hx (Fin.ext h))]; rfl
  · rw [own_at a ⟨a.val / 8, by omega⟩, if_pos rfl]; rfl

/-! ## A row of the step -/

variable (t : Fin grid0.N) (I : In Ideal) (r : Fin 8)

theorem row256_at (X : Vec Ideal S128x256 .f32) (k : Fin 256) : row256 (grid0.coords t) r X (ix2 0 k) = X (ix2 (bat t r) k) := by
  refine load_at (s := S128x256) X _ _ _ _ _ _ (off19_at t r) fun a => ?_
  fin_cases a
  · rfl
  · show k.val = 0 + k.val; omega
theorem cast_new (Y : FVec Ideal S1x8x64 .bf16) (r : Fin 8) (d : Fin 64) : (shapeCast S8x64 Y shapeCasts_S1x8x64_S8x64 : FVec Ideal S8x64 .bf16) (ix2 r d) = Y (ix3 0 r d) := by
  pointwise
theorem cast_q (Y : FVec Ideal S1x64x64 .bf16) (a d : Fin 64) : (shapeCast S64x64 Y shapeCasts_S1x64x64_S64x64 : FVec Ideal S64x64 .bf16) (ix2 a d) = Y (ix3 0 a d) := by
  pointwise
theorem newOf_at (X : Vec Ideal S1x128x64 .bf16) (d : Fin 64) : newOf (grid0.coords t) X (ix2 r d) = X (ix3 0 (bat t r) d) := by
  refine (cast_new _ r d).trans (load_at (s := S1x128x64) X _ _ _ _ _ _ (off16_at t) fun a => ?_)
  fin_cases a
  · rfl
  · rfl
  · show d.val = 0 + d.val; omega
theorem qOf_at (a d : Fin 64) : qOf I (ix2 a d) = I.x6 (ix3 0 a d) := by
  refine (cast_q _ a d).trans (load_at (s := S1x64x64) I.x6 _ _ _ _ _ _ rfl fun x => ?_)
  fin_cases x
  · rfl
  · show a.val = 0 + a.val; omega
  · show d.val = 0 + d.val; omega

theorem codesAt_at (X : Vec Ideal S2x1024x128 .i32) (f : Fin 192 → Fin 32 → BitVec 8) (H : KVrow f (bat t r) X) (d : Fin 64) (k : Fin 192) :
    codesAt (grid0.coords t) r X (ix2 d k) = Cert.Spec.code (f k) d := by
  unfold codesAt
  refine codesOf_at _ _ f (fun w k h => ?_) (fun w k h => ?_) d k
  · rw [← H w k]
    refine load_at (s := S2x1024x128) X _ _ _ _ _ _ (off17_at t r) fun a => ?_
    fin_cases a
    · show k.val / 128 = 0 + 0; omega
    · show 8 * (8 * t.val + r.val) + w.val = 64 * t.val + 8 * r.val + w.val; omega
    · show k.val % 128 = 0 + k.val; omega
  · rw [← H w k]
    refine load_at (s := S2x1024x128) X _ _ _ _ _ _ (off18_at t r) fun a => ?_
    fin_cases a
    · show k.val / 128 = 1 + 0; omega
    · show 8 * (8 * t.val + r.val) + w.val = 64 * t.val + 8 * r.val + w.val; omega
    · show k.val % 128 = 0 + (k.val - 128); omega

/-- What row `r` of the step brings. -/
def rowOf : Cert.Spec.Row where
  q g d := I.x6 (ix3 0 ⟨8 * r.val + g.val, by omega⟩ d)
  K := bytesOf t I r I.x9
  V := bytesOf t I r I.x10
  ks k := I.x3 (ix2 (bat t r) ⟨k.val, by omega⟩)
  vs k := I.x4 (ix2 (bat t r) ⟨k.val, by omega⟩)
  ss k := I.x5 (ix2 (bat t r) ⟨k.val, by omega⟩)
  kn d := I.x7 (ix3 0 (bat t r) d)
  vn d := I.x8 (ix3 0 (bat t r) d)

variable (s : St Ideal) (H : KVs (bytesOf t I r I.x9) (bytesOf t I r I.x10) (bat t r) s)
include H

theorem s_spec (g : Fin 8) (k : Fin 192) : sAt (grid0.coords t) I (qOf I) r s (ix2 g k) = Cert.Spec.s (rowOf t I r) g k := by
  unfold sAt Cert.Spec.s
  rw [sOf_at, row256_at]
  congr 1
  refine Finset.sum_congr rfl fun d _ => ?_
  rw [qOf_at, codesAt_at t r s.kw _ H.1]
  rfl
omit H in
theorem sn_spec (g : Fin 8) : snOf r (newScores (qOf I) (newOf (grid0.coords t) I.x7)) (ix2 g 0) = Cert.Spec.sn (rowOf t I r) g := by
  unfold Cert.Spec.sn
  rw [snOf_at, newScores_at]
  congr 1
  refine Finset.sum_congr rfl fun d _ => ?_
  have e : (⟨(8 * r.val + g.val) / 8, by omega⟩ : Fin 8) = r := Fin.ext (by show (8 * r.val + g.val) / 8 = r.val; omega)
  rw [qOf_at, e, newOf_at]
  rfl
theorem top_spec (g : Fin 8) : topOf (sAt (grid0.coords t) I (qOf I) r s) (snOf r (newScores (qOf I) (newOf (grid0.coords t) I.x7))) (ix2 g 0) = Cert.Spec.top (rowOf t I r) g := by
  rw [topOf_at, sn_spec]
  unfold Cert.Spec.top
  simp only [s_spec t I r s H]
theorem p_spec (g : Fin 8) (k : Fin 192) : pOf (sAt (grid0.coords t) I (qOf I) r s) (snOf r (newScores (qOf I) (newOf (grid0.coords t) I.x7))) (ix2 g k) = Cert.Spec.p (rowOf t I r) g k := by
  rw [pOf_at, sn_spec, top_spec t I r s H]
  simp only [s_spec t I r s H]
  rfl
theorem pn_spec (g : Fin 8) : pnOf (sAt (grid0.coords t) I (qOf I) r s) (snOf r (newScores (qOf I) (newOf (grid0.coords t) I.x7))) (ix2 g 0) = Cert.Spec.pn (rowOf t I r) g := by
  rw [pnOf_at, sn_spec, top_spec t I r s H]
  simp only [s_spec t I r s H]
  rfl
theorem score_spec (k : Fin 192) : saOf (pOf (sAt (grid0.coords t) I (qOf I) r s) (snOf r (newScores (qOf I) (newOf (grid0.coords t) I.x7)))) (row256 (grid0.coords t) r I.x5) (ix2 0 k) = Cert.Spec.score (rowOf t I r) k := by
  rw [saOf_at, row256_at]
  simp only [p_spec t I r s H]
  rfl
theorem out_spec (g : Fin 8) (d : Fin 64) : oOf r (pOf (sAt (grid0.coords t) I (qOf I) r s) (snOf r (newScores (qOf I) (newOf (grid0.coords t) I.x7))))
    (pnOf (sAt (grid0.coords t) I (qOf I) r s) (snOf r (newScores (qOf I) (newOf (grid0.coords t) I.x7)))) (row256 (grid0.coords t) r I.x4) (codesAt (grid0.coords t) r s.vw) (newOf (grid0.coords t) I.x8) (ix2 g d)
      = Cert.Spec.out (rowOf t I r) g d := by
  rw [oOf_at, newOf_at, pn_spec t I r s H]
  simp only [p_spec t I r s H, row256_at, codesAt_at t r s.vw _ H.2]
  rfl

end Cert.Kernel.Hand
-- ==== Proof.IdealStep.lean ====
module

public import proofs.«01_k».proof.Proof.IdealAttn

@[expose] public section

set_option maxRecDepth 16384
set_option pp.maxSteps 300

noncomputable section
namespace Cert.Kernel.Hand
open Cert.Kernel Cert.Kernel.Gen
open Idealize.ShloMosaic

/-! ## One step of the grid, row by row -/

section
variable (t : Fin grid0.N) (I : In Ideal)

/-- The attention of row `r`. -/
def att (r : Fin 8) (s : St Ideal) : St Ideal := attnRowF (grid0.coords t) I (qOf I) (newOf (grid0.coords t) I.x8) (newScores (qOf I) (newOf (grid0.coords t) I.x7)) r s

theorem bodyM_eq (s : St Ideal) : bodyM (grid0.coords t) I s = eight (fun r s => att t I r s) (gatherO (grid0.coords t) I (gatherE (grid0.coords t) I s)) := rfl

/-- Score row `b` is that of `R`. -/
def ScoreRow (R : Cert.Spec.Row) (b : Fin 128) (sa : Vec Ideal S128x256 .f32) : Prop := ∀ k : Fin 192, sa (ix2 b ⟨k.val, by omega⟩) = Cert.Spec.score R k
/-- Output rows `8 b` to `8 b + 7` are those of `R`. -/
def OutRow (R : Cert.Spec.Row) (b : Fin 128) (o : Vec Ideal S1024x128 .f32) : Prop :=
  ∀ (g : Fin 8) (d : Fin 64), o (ix2 ⟨8 * b.val + g.val, by omega⟩ ⟨d.val, by omega⟩) = Cert.Spec.out R g d

theorem cast_sa (x : FVec Ideal S1x192 .f32) (k : Fin 192) : (shapeCast S1x192 x shapeCasts_S1x192_S1x192 : FVec Ideal S1x192 .f32) (ix2 0 k) = x (ix2 0 k) := by pointwise
theorem cast_o (x : FVec Ideal S8x64 .f32) (g : Fin 8) (d : Fin 64) : (shapeCast S8x64 x shapeCasts_S8x64_S8x64 : FVec Ideal S8x64 .f32) (ix2 g d) = x (ix2 g d) := by pointwise

theorem att_kv (r : Fin 8) (s : St Ideal) : (att t I r s).kw = s.kw ∧ (att t I r s).vw = s.vw := by
  unfold att attnRowF; simp
theorem att_score (r : Fin 8) (s : St Ideal) (H : KVs (bytesOf t I r I.x9) (bytesOf t I r I.x10) (bat t r) s) : ScoreRow (rowOf t I r) (bat t r) (att t I r s).sa := by
  intro k
  unfold att attnRowF
  simp only [St.o_w_sa, St.sa_w_o, St.sa_w_sa]
  refine (setR_in (s := S128x256) s.sa _ _ _ _ (ix2 0 k) _ _ (off20_at t r) fun a => ?_).trans ?_
  · fin_cases a
    · rfl
    · show k.val = 0 + k.val; omega
  · exact (cast_sa _ k).trans (score_spec t I r s H k)
theorem att_out (r : Fin 8) (s : St Ideal) (H : KVs (bytesOf t I r I.x9) (bytesOf t I r I.x10) (bat t r) s) : OutRow (rowOf t I r) (bat t r) (att t I r s).o := by
  intro g d
  unfold att attnRowF
  simp only [St.o_w_o, St.o_w_sa]
  refine (setR_in (s := S1024x128) s.o _ _ _ _ (ix2 g d) _ _ (off21_at t r) fun a => ?_).trans ?_
  · fin_cases a
    · show 8 * (8 * t.val + r.val) + g.val = 64 * t.val + 8 * r.val + g.val; omega
    · show d.val = 0 + d.val; omega
  · exact (cast_o _ g d).trans (out_spec t I r s H g d)
theorem att_score_keep (r : Fin 8) (s : St Ideal) (R) (B : Fin 128) (hB : B ≠ bat t r) (H : ScoreRow R B s.sa) : ScoreRow R B (att t I r s).sa := by
  intro k
  have hn : B.val ≠ 8 * t.val + r.val := fun h => hB (Fin.ext h)
  unfold att attnRowF
  simp only [St.o_w_sa, St.sa_w_o, St.sa_w_sa]
  exact (setR_off (s := S128x256) s.sa _ _ _ _ _ _ (off20_at t r) (0 : Fin 2) (by show B.val < 8 * t.val + r.val ∨ 8 * t.val + r.val + 1 ≤ B.val; omega)).trans (H k)
theorem att_out_keep (r : Fin 8) (s : St Ideal) (R) (B : Fin 128) (hB : B ≠ bat t r) (H : OutRow R B s.o) : OutRow R B (att t I r s).o := by
  intro g d
  have hn : B.val ≠ 8 * t.val + r.val := fun h => hB (Fin.ext h)
  unfold att attnRowF
  simp only [St.o_w_o, St.o_w_sa]
  exact (setR_off (s := S1024x128) s.o _ _ _ _ _ _ (off21_at t r) (0 : Fin 2) (by show 8 * B.val + g.val < 64 * t.val + 8 * r.val ∨ 64 * t.val + 8 * r.val + 8 ≤ 8 * B.val + g.val; omega)).trans (H g d)

/-- Everything the kernel keeps of sequence `B` is that of `R`. -/
def Done (R : Cert.Spec.Row) (B : Fin 128) (s : St Ideal) : Prop := KVs R.K R.V B s ∧ ScoreRow R B s.sa ∧ OutRow R B s.o

theorem kvs_congr {f g} {B : Fin 128} {s s' : St Ideal} (h : s'.kw = s.kw ∧ s'.vw = s.vw) : KVs f g B s' ↔ KVs f g B s := by
  unfold KVs; rw [h.1, h.2]

/-- After the step its eight sequences are done, -/
theorem bodyM_done (s : St Ideal) (hp : ∀ r k, (p192 t I r k).toNat < 8192)
    (hs : ∀ r (k : Fin 192), (k.val : ℤ) < (splits (grid0.coords t) I r).toInt ↔ (p192 t I r k).toNat < 4096) (r : Fin 8) :
    Done (rowOf t I r) (bat t r) (bodyM (grid0.coords t) I s) := by
  rw [bodyM_eq]
  have h0 := gather_kv t I s hp hs
  have h1 : ∀ r, KVs (bytesOf t I r I.x9) (bytesOf t I r I.x10) (bat t r) (eight (fun r s => att t I r s) (gatherO (grid0.coords t) I (gatherE (grid0.coords t) I s))) :=
    eight_keep _ (fun s => ∀ r, KVs (bytesOf t I r I.x9) (bytesOf t I r I.x10) (bat t r) s) (fun r s h r' => (kvs_congr (att_kv t I r s)).2 (h r')) _ h0
  have h2 := eight_all (fun r s => att t I r s) (fun r s => (∀ r, KVs (bytesOf t I r I.x9) (bytesOf t I r I.x10) (bat t r) s) → ScoreRow (rowOf t I r) (bat t r) s.sa ∧ OutRow (rowOf t I r) (bat t r) s.o)
    (fun r s h => have h' := (kvs_congr (att_kv t I r s)).1 (h r); ⟨att_score t I r s h', att_out t I r s h'⟩)
    (fun r r' s hr H h => have h' := H fun r' => (kvs_congr (att_kv t I r s)).1 (h r')
      ⟨att_score_keep t I r s _ _ (bat_ne t hr) h'.1, att_out_keep t I r s _ _ (bat_ne t hr) h'.2⟩)
    (gatherO (grid0.coords t) I (gatherE (grid0.coords t) I s)) r h1
  exact ⟨h1 r, h2⟩

/-- and those done before stay so. -/
theorem bodyM_keep (s : St Ideal) (R) (B : Fin 128) (hB : ∀ r, B ≠ bat t r) (H : Done R B s) : Done R B (bodyM (grid0.coords t) I s) := by
  rw [bodyM_eq]
  have hr := gather_rest t I s
  have h0 : Done R B (gatherO (grid0.coords t) I (gatherE (grid0.coords t) I s)) := ⟨gather_keep t I s _ _ B hB H.1, by rw [hr.2]; exact H.2.1, by rw [hr.1]; exact H.2.2⟩
  exact eight_keep _ (Done R B) (fun r s h => ⟨(kvs_congr (att_kv t I r s)).2 h.1, att_score_keep t I r s R B (hB r) h.2.1, att_out_keep t I r s R B (hB r) h.2.2⟩) _ h0
end

end Cert.Kernel.Hand
-- ==== Proof.IdealEpi.lean ====
module

public import proofs.«01_k».proof.Proof.IdealStep
public import Idealize.ShloMosaic.Lib.BitcastPair

@[expose] public section

set_option maxRecDepth 16384
set_option pp.maxSteps 300

noncomputable section
namespace Cert.Kernel.Hand
open Cert.Kernel Cert.Kernel.Gen
open Idealize.ShloMosaic

/-! ## The last step's writes, element by element -/

/-- Thirty-two-bit rows read as bytes: byte `4 a + j` of a column is byte `j` of word `a`. -/
theorem bitcast_32_8 {R r n : ℕ} (x : (⟨2, ![r, n]⟩ : Shape).Idx → BitVec 32) (h : (⟨2, ![r, n]⟩ : Shape).Bitcasts 32 ⟨2, ![R, n]⟩ 8)
    (a : Fin R) (l : Fin n) (p : Fin r) (j q : ℕ) (hq : q < 8) (hj : j < 4) (hp : a.val = p.val * 4 + j) :
    (bitcast ⟨2, ![R, n]⟩ 8 x h (ix2 a l)).getLsbD q = (x (ix2 p l)).getLsbD (8 * j + q) := by
  rw [bitcast_getLsbD x h _ q hq (by decide)]
  have hr : (⟨2, ![R, n]⟩ : Shape).row (ix2 a l) = a.val := rfl
  have e1 : ((⟨2, ![R, n]⟩ : Shape).row (ix2 a l) * 8 + q) / 32 = p.val := by rw [hr]; omega
  have e2 : ((⟨2, ![R, n]⟩ : Shape).row (ix2 a l) * 8 + q) % 32 = 8 * j + q := by rw [hr]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

theorem turn_at (x : Vec Ideal S1x128x128 .i32) (k b : Fin 128) : turn (F := Ideal) x (ix2 k b) = x (ix3 0 b k) := by
  pointwise [turn]
theorem loB_at (x : Vec Ideal S1x128x128 .i32) (k : Fin 128) (j : Fin 4) (b : Fin 128) :
    loB (F := Ideal) x (ix4 k 0 j b) = bitcast S512x128 8 (turn (F := Ideal) x) bitcasts_S128x128_w32_S512x128_w8 (ix2 ⟨k.val * 4 + j.val, by omega⟩ b) := by
  unfold loB
  generalize (bitcast S512x128 8 (turn (F := Ideal) x) bitcasts_S128x128_w32_S512x128_w8 : IVec S512x128 8) = y
  pointwise
theorem hiB_at (x : Vec Ideal S1x128x128 .i32) (k : Fin 64) (j : Fin 4) (b : Fin 128) :
    hiB (F := Ideal) x (ix4 k 0 j b) = bitcast S256x128 8 (extractStridedSlice S64x128 ![0, 0] (turn (F := Ideal) x) slices_S128x128_o0_0_S64x128 : IVec S64x128 32) bitcasts_S64x128_w32_S256x128_w8 (ix2 ⟨k.val * 4 + j.val, by omega⟩ b) := by
  unfold hiB
  generalize (bitcast S256x128 8 (extractStridedSlice S64x128 ![0, 0] (turn (F := Ideal) x) slices_S128x128_o0_0_S64x128 : IVec S64x128 32) bitcasts_S64x128_w32_S256x128_w8 : IVec S256x128 8) = y
  pointwise
theorem half_at (y : IVec S128x128 32) (k : Fin 64) (b : Fin 128) : (extractStridedSlice S64x128 ![0, 0] y slices_S128x128_o0_0_S64x128 : IVec S64x128 32) (ix2 k b) = y (ix2 ⟨k.val, by omega⟩ b) := by
  pointwise
theorem saT_at (x : Vec Ideal S128x256 .f32) (k : Fin 192) (b : Fin 128) : saT x (ix3 0 k b) = x (ix2 b ⟨k.val, by omega⟩) := by
  pointwise [saT]
theorem outB_at (x : Vec Ideal S128x128 .f32) (b : Fin 128) (d : Fin 64) : outB x (ix2 b d) = x (ix2 b ⟨d.val, by omega⟩) := by
  pointwise [outB]

theorem wordsAt_at (p w : ℕ) (hp : p < 2) (hw : w < 8) (X : Vec Ideal S2x1024x128 .i32) (b k : Fin 128) :
    wordsAt p w hp hw X (ix3 0 b k) = X (ix3 ⟨p, hp⟩ ⟨8 * b.val + w, by omega⟩ k) := by
  unfold wordsAt
  congr 1
  funext a; apply Fin.ext
  fin_cases a
  · show p + 1 * 0 = p; omega
  · show w + 8 * b.val = 8 * b.val + w; omega
  · show 0 + 1 * k.val = k.val; omega
theorem outAt_at (g : ℕ) (hg : g < 8) (X : Vec Ideal S1024x128 .f32) (b d : Fin 128) : outAt g hg X (ix2 b d) = X (ix2 ⟨8 * b.val + g, by omega⟩ d) := by
  unfold outAt
  congr 1
  funext a; apply Fin.ext
  fin_cases a
  · show g + 8 * b.val = 8 * b.val + g; omega
  · show 0 + 1 * d.val = d.val; omega

theorem hiB_bit (x : Vec Ideal S1x128x128 .i32) (k : Fin 64) (j : Fin 4) (b : Fin 128) (q : ℕ) (hq : q < 8) :
    (hiB (F := Ideal) x (ix4 k 0 j b)).getLsbD q = (x (ix3 0 b ⟨k.val, by omega⟩)).getLsbD (8 * j.val + q) := by
  rw [hiB_at, ← turn_at x ⟨k.val, by omega⟩ b]
  generalize turn (F := Ideal) x = y
  rw [← half_at y k b]
  generalize (extractStridedSlice S64x128 ![0, 0] y slices_S128x128_o0_0_S64x128 : IVec S64x128 32) = z
  exact bitcast_32_8 z _ _ b k j.val q hq j.isLt rfl

/-- Rows of words back to bytes, the first 128 positions, -/
theorem lo_bytes (f : Fin 128 → Fin 192 → Fin 32 → BitVec 8) (X : Vec Ideal S2x1024x128 .i32) (H : ∀ b, KVrow (f b) b X) (w : Fin 8) (k : Fin 128) (j : Fin 4) (b : Fin 128) :
    loB (F := Ideal) (wordsAt 0 w.val (by omega) w.isLt X) (ix4 k 0 j b) = f b ⟨k.val, by omega⟩ ⟨4 * w.val + j.val, by omega⟩ := by
  rw [loB_at]
  apply BitVec.eq_of_getLsbD_eq
  intro q hq
  refine (bitcast_32_8 (turn (F := Ideal) (wordsAt 0 w.val (by omega) w.isLt X)) _ _ b k j.val q hq j.isLt rfl).trans ?_
  rw [turn_at, wordsAt_at]
  have h := H b w ⟨k.val, by omega⟩
  have e1 : (⟨k.val / 128, by omega⟩ : Fin 2) = ⟨0, by omega⟩ := Fin.ext (by show k.val / 128 = 0; omega)
  have e2 : (⟨k.val % 128, by omega⟩ : Fin 128) = k := Fin.ext (by show k.val % 128 = k.val; omega)
  rw [e1, e2] at h
  rw [h, word4_bit _ _ _ (by omega)]
  have e3 : (⟨4 * w.val + (8 * j.val + q) / 8, by omega⟩ : Fin 32) = ⟨4 * w.val + j.val, by omega⟩ := Fin.ext (by show 4 * w.val + (8 * j.val + q) / 8 = 4 * w.val + j.val; omega)
  have e4 : (8 * j.val + q) % 8 = q := by omega
  rw [e3, e4]
/-- and the rest. -/
theorem hi_bytes (f : Fin 128 → Fin 192 → Fin 32 → BitVec 8) (X : Vec Ideal S2x1024x128 .i32) (H : ∀ b, KVrow (f b) b X) (w : Fin 8) (k : Fin 64) (j : Fin 4) (b : Fin 128) :
    hiB (F := Ideal) (wordsAt 1 w.val (by omega) w.isLt X) (ix4 k 0 j b) = f b ⟨128 + k.val, by omega⟩ ⟨4 * w.val + j.val, by omega⟩ := by
  apply BitVec.eq_of_getLsbD_eq
  intro q hq
  rw [hiB_bit _ k j b q hq, wordsAt_at]
  have h := H b w ⟨128 + k.val, by omega⟩
  have e1 : (⟨(128 + k.val) / 128, by omega⟩ : Fin 2) = ⟨1, by omega⟩ := Fin.ext (by show (128 + k.val) / 128 = 1; omega)
  have e2 : (⟨(128 + k.val) % 128, by omega⟩ : Fin 128) = ⟨k.val, by omega⟩ := Fin.ext (by show (128 + k.val) % 128 = k.val; omega)
  rw [e1, e2] at h
  rw [h, word4_bit _ _ _ (by omega)]
  have e3 : (⟨4 * w.val + (8 * j.val + q) / 8, by omega⟩ : Fin 32) = ⟨4 * w.val + j.val, by omega⟩ := Fin.ext (by show 4 * w.val + (8 * j.val + q) / 8 = 4 * w.val + j.val; omega)
  have e4 : (8 * j.val + q) % 8 = q := by omega
  rw [e3, e4]

/-- Bytes `4 w` to `4 w + 3` of every kept position are those of `f`. -/
def BytesW (f : Fin 128 → Fin 192 → Fin 32 → BitVec 8) (w : Fin 8) (y : Vec Ideal S192x1x32x128 .i8) : Prop :=
  ∀ (k : Fin 192) (j : Fin 4) (b : Fin 128), y (ix4 k 0 ⟨4 * w.val + j.val, by omega⟩ b) = f b k ⟨4 * w.val + j.val, by omega⟩

theorem two_set (f) (X : Vec Ideal S2x1024x128 .i32) (H : ∀ b, KVrow (f b) b X) (w : Fin 8) (y : Vec Ideal S192x1x32x128 .i8) :
    BytesW f w (setR (setR y (loR w) (loB (F := Ideal) (wordsAt 0 w.val (by omega) w.isLt X))) (hiR w) (hiB (F := Ideal) (wordsAt 1 w.val (by omega) w.isLt X))) := by
  intro k j b
  by_cases h : k.val < 128
  · refine (setR_off (s := S192x1x32x128) _ _ _ _ _ _ _ rfl (0 : Fin 4) (Or.inl h)).trans ?_
    refine (setR_in (s := S192x1x32x128) y _ _ _ _ (ix4 ⟨k.val, h⟩ 0 j b) _ _ rfl fun a => ?_).trans (lo_bytes f X H w ⟨k.val, h⟩ j b)
    fin_cases a
    · show k.val = 0 + k.val; omega
    · rfl
    · rfl
    · show b.val = 0 + b.val; omega
  · have e : (⟨128 + (k.val - 128), by omega⟩ : Fin 192) = k := Fin.ext (by show 128 + (k.val - 128) = k.val; omega)
    refine (setR_in (s := S192x1x32x128) _ _ _ _ _ (ix4 ⟨k.val - 128, by omega⟩ 0 j b) _ _ rfl fun a => ?_).trans ((hi_bytes f X H w ⟨k.val - 128, by omega⟩ j b).trans (by rw [e]))
    fin_cases a
    · show k.val = 128 + (k.val - 128); omega
    · rfl
    · rfl
    · show b.val = 0 + b.val; omega
theorem two_keep (f) (w w' : Fin 8) (hw : w' ≠ w) (y : Vec Ideal S192x1x32x128 .i8) (x1 x2) (h : BytesW f w' y) : BytesW f w' (setR (setR y (loR w) x1) (hiR w) x2) := by
  intro k j b
  have hn : w'.val ≠ w.val := fun h => hw (Fin.ext h)
  have hd : 4 * w'.val + j.val < 4 * w.val ∨ 4 * w.val + 4 ≤ 4 * w'.val + j.val := by omega
  refine (setR_off (s := S192x1x32x128) _ _ _ _ _ _ _ rfl (2 : Fin 4) hd).trans ?_
  exact (setR_off (s := S192x1x32x128) _ _ _ _ _ _ _ rfl (2 : Fin 4) hd).trans (h k j b)

/-- All four bytes of all eight words: every byte. -/
theorem bytes_all (f) (y : Vec Ideal S192x1x32x128 .i8) (h : ∀ w, BytesW f w y) : y = fun i => f (i 3) (i 0) (i 2) := by
  funext i
  obtain ⟨k, u, cc, b, rfl⟩ : ∃ k u cc b, i = ix4 k u cc b := ⟨i 0, i 1, i 2, i 3, by funext a; fin_cases a <;> rfl⟩
  have hu : u = 0 := Subsingleton.elim (α := Fin 1) _ _
  subst hu
  have hc : cc.val < 32 := cc.isLt
  have h' := h ⟨cc.val / 4, by omega⟩ k ⟨cc.val % 4, by omega⟩ b
  have e : (⟨4 * (cc.val / 4) + cc.val % 4, by omega⟩ : Fin 32) = cc := Fin.ext (by show 4 * (cc.val / 4) + cc.val % 4 = cc.val; omega)
  exact (e ▸ h' : _)

end Cert.Kernel.Hand
-- ==== Proof.IdealTail.lean ====
module

public import proofs.«01_k».proof.Proof.IdealEpi

@[expose] public section

set_option maxRecDepth 16384
set_option pp.maxSteps 300

noncomputable section
namespace Cert.Kernel.Hand
open Cert.Kernel Cert.Kernel.Gen
open Idealize.ShloMosaic

/-! ## What the last step leaves -/

/-- The scratch of `s'` is that of `s`. -/
def SameScratch (s s' : St Ideal) : Prop := (s'.kw = s.kw ∧ s'.vw = s.vw) ∧ s'.o = s.o ∧ s'.sa = s.sa
theorem SameScratch.done {s s' : St Ideal} (h : SameScratch s s') (R B) : Done R B s' ↔ Done R B s := by
  unfold Done; rw [kvs_congr h.1, h.2.1, h.2.2]

/-- The bytes the last step writes for word `w`. -/
def byLo (w : Fin 8) (X : Vec Ideal S2x1024x128 .i32) : (loR w).shape.Idx → Elt Ideal .i8 := loB (F := Ideal) (wordsAt 0 w.val (by omega) w.isLt X)
def byHi (w : Fin 8) (X : Vec Ideal S2x1024x128 .i32) : (hiR w).shape.Idx → Elt Ideal .i8 := hiB (F := Ideal) (wordsAt 1 w.val (by omega) w.isLt X)
theorem by_set (f) (X : Vec Ideal S2x1024x128 .i32) (H : ∀ b, KVrow (f b) b X) (w : Fin 8) (y : Vec Ideal S192x1x32x128 .i8) :
    BytesW f w (setR (setR y (loR w) (byLo w X)) (hiR w) (byHi w X)) := two_set f X H w y
theorem ko2 (s : St Ideal) (r1 r2 : Rect S192x1x32x128) (v1 : r1.shape.Idx → Elt Ideal .i8) (v2 : r2.shape.Idx → Elt Ideal .i8) : ((s.w_ko r1 v1).w_ko r2 v2).ko = setR (setR s.ko r1 v1) r2 v2 := rfl
theorem vo2 (s : St Ideal) (r1 r2 : Rect S192x1x32x128) (v1 : r1.shape.Idx → Elt Ideal .i8) (v2 : r2.shape.Idx → Elt Ideal .i8) : ((s.w_vo r1 v1).w_vo r2 v2).vo = setR (setR s.vo r1 v1) r2 v2 := rfl

section
variable (w : Fin 8) (x : St Ideal)
theorem epiKF_eq : epiKF w x = (x.w_ko (loR w) (byLo w x.kw)).w_ko (hiR w) (byHi w x.kw) := rfl
theorem epiVF_eq : epiVF w x = (x.w_vo (loR w) (byLo w x.vw)).w_vo (hiR w) (byHi w x.vw) := rfl
theorem epiKF_kw : (epiKF w x).kw = x.kw := (St.kw_w_ko _ _ _).trans (St.kw_w_ko _ _ _)
theorem epiKF_vw : (epiKF w x).vw = x.vw := (St.vw_w_ko _ _ _).trans (St.vw_w_ko _ _ _)
theorem epiKF_o : (epiKF w x).o = x.o := (St.o_w_ko _ _ _).trans (St.o_w_ko _ _ _)
theorem epiKF_sa : (epiKF w x).sa = x.sa := (St.sa_w_ko _ _ _).trans (St.sa_w_ko _ _ _)
theorem epiKF_ko : (epiKF w x).ko = setR (setR x.ko (loR w) (byLo w x.kw)) (hiR w) (byHi w x.kw) := by rw [epiKF_eq]; exact ko2 _ _ _ _ _
theorem epiVF_kw : (epiVF w x).kw = x.kw := (St.kw_w_vo _ _ _).trans (St.kw_w_vo _ _ _)
theorem epiVF_vw : (epiVF w x).vw = x.vw := (St.vw_w_vo _ _ _).trans (St.vw_w_vo _ _ _)
theorem epiVF_o : (epiVF w x).o = x.o := (St.o_w_vo _ _ _).trans (St.o_w_vo _ _ _)
theorem epiVF_sa : (epiVF w x).sa = x.sa := (St.sa_w_vo _ _ _).trans (St.sa_w_vo _ _ _)
theorem epiVF_ko : (epiVF w x).ko = x.ko := (St.ko_w_vo _ _ _).trans (St.ko_w_vo _ _ _)
theorem epiVF_vo : (epiVF w x).vo = setR (setR x.vo (loR w) (byLo w x.vw)) (hiR w) (byHi w x.vw) := by rw [epiVF_eq]; exact vo2 _ _ _ _ _
theorem epiSF_kw : (epiSF x).kw = x.kw := St.kw_w_so _ _ _
theorem epiSF_vw : (epiSF x).vw = x.vw := St.vw_w_so _ _ _
theorem epiSF_o : (epiSF x).o = x.o := St.o_w_so _ _ _
theorem epiSF_sa : (epiSF x).sa = x.sa := St.sa_w_so _ _ _
theorem epiSF_ko : (epiSF x).ko = x.ko := St.ko_w_so _ _ _
theorem epiSF_vo : (epiSF x).vo = x.vo := St.vo_w_so _ _ _
theorem epiGF_kw : (epiGF w x).kw = x.kw := St.kw_w_out _ _ _
theorem epiGF_vw : (epiGF w x).vw = x.vw := St.vw_w_out _ _ _
theorem epiGF_o : (epiGF w x).o = x.o := St.o_w_out _ _ _
theorem epiGF_sa : (epiGF w x).sa = x.sa := St.sa_w_out _ _ _
theorem epiGF_ko : (epiGF w x).ko = x.ko := St.ko_w_out _ _ _
theorem epiGF_vo : (epiGF w x).vo = x.vo := St.vo_w_out _ _ _
theorem epiGF_so : (epiGF w x).so = x.so := St.so_w_out _ _ _
theorem epiGF_out : (epiGF w x).out = setR x.out (outR w) (outB (outAt w.val w.isLt x.o)) := St.out_w_out _ _ _
end

theorem epiKF_same (s0 : St Ideal) (w : Fin 8) (s : St Ideal) (h : SameScratch s0 s) : SameScratch s0 (epiKF w s) := by
  unfold SameScratch at *; rw [epiKF_kw, epiKF_vw, epiKF_o, epiKF_sa]; exact h
theorem epiVF_same (s0 : St Ideal) (w : Fin 8) (s : St Ideal) (h : SameScratch s0 s) : SameScratch s0 (epiVF w s) := by
  unfold SameScratch at *; rw [epiVF_kw, epiVF_vw, epiVF_o, epiVF_sa]; exact h
theorem epiSF_same (s0 : St Ideal) (s : St Ideal) (h : SameScratch s0 s) : SameScratch s0 (epiSF s) := by
  unfold SameScratch at *; rw [epiSF_kw, epiSF_vw, epiSF_o, epiSF_sa]; exact h
theorem epiGF_same (s0 : St Ideal) (g : Fin 8) (s : St Ideal) (h : SameScratch s0 s) : SameScratch s0 (epiGF g s) := by
  unfold SameScratch at *; rw [epiGF_kw, epiGF_vw, epiGF_o, epiGF_sa]; exact h
theorem SameScratch.refl (s : St Ideal) : SameScratch s s := ⟨⟨rfl, rfl⟩, rfl, rfl⟩

theorem epiF_same (s : St Ideal) : SameScratch s (epiF s) := by
  unfold epiF
  exact eight_keep _ (SameScratch s) (fun g x => epiGF_same s g x) _ <| epiSF_same s _ <| eight_keep _ (SameScratch s) (fun g x => epiVF_same s g x) _ <|
    eight_keep _ (SameScratch s) (fun g x => epiKF_same s g x) _ (SameScratch.refl s)

theorem eight_proj {α : Type} {g : Fin 8 → St Ideal → St Ideal} (π : St Ideal → α) (h : ∀ r x, π (g r x) = π x) (s : St Ideal) : π (eight g s) = π s := by
  unfold eight; rw [h, h, h, h, h, h, h, h]
theorem epiK_bytes (f) (s : St Ideal) (w : Fin 8) : (∀ b, KVrow (f b) b (eight epiKF s).kw) → BytesW f w (eight epiKF s).ko :=
  eight_all (F := Ideal) epiKF (fun w x => (∀ b, KVrow (f b) b x.kw) → BytesW f w x.ko)
    (fun w x hx => by
      rw [epiKF_kw] at hx
      rw [epiKF_ko]
      exact by_set f x.kw hx w x.ko)
    (fun w w' x hw hP hx => by
      rw [epiKF_kw] at hx
      rw [epiKF_ko]
      exact two_keep f w w' hw x.ko _ _ (hP hx)) s w
theorem epiV_bytes (f) (s : St Ideal) (w : Fin 8) : (∀ b, KVrow (f b) b (eight epiVF s).vw) → BytesW f w (eight epiVF s).vo :=
  eight_all (F := Ideal) epiVF (fun w x => (∀ b, KVrow (f b) b x.vw) → BytesW f w x.vo)
    (fun w x hx => by
      rw [epiVF_vw] at hx
      rw [epiVF_vo]
      exact by_set f x.vw hx w x.vo)
    (fun w w' x hw hP hx => by
      rw [epiVF_vw] at hx
      rw [epiVF_vo]
      exact two_keep f w w' hw x.vo _ _ (hP hx)) s w

section
variable (s : St Ideal) (R : Fin 128 → Cert.Spec.Row) (H : ∀ b, Done (R b) b s)
include H

theorem epiF_ko : (epiF s).ko = fun i => (R (i 3)).K (i 0) (i 2) := by
  have h1 : (epiF s).ko = (eight epiKF s).ko :=
    (eight_proj St.ko epiGF_ko (epiSF (eight epiVF (eight epiKF s)))).trans ((epiSF_ko _).trans (eight_proj St.ko epiVF_ko (eight epiKF s)))
  rw [h1]
  have hk : ∀ b, KVrow (R b).K b (eight epiKF s).kw := fun b => by rw [eight_proj St.kw epiKF_kw]; exact (H b).1.1
  exact bytes_all (fun b => (R b).K) _ fun w => epiK_bytes (fun b => (R b).K) s w hk
theorem epiF_vo : (epiF s).vo = fun i => (R (i 3)).V (i 0) (i 2) := by
  have h1 : (epiF s).vo = (eight epiVF (eight epiKF s)).vo :=
    (eight_proj St.vo epiGF_vo (epiSF (eight epiVF (eight epiKF s)))).trans (epiSF_vo _)
  rw [h1]
  have hk : ∀ b, KVrow (R b).V b (eight epiVF (eight epiKF s)).vw := fun b => by rw [eight_proj St.vw epiVF_vw, eight_proj St.vw epiKF_vw]; exact (H b).1.2
  exact bytes_all (fun b => (R b).V) _ fun w => epiV_bytes (fun b => (R b).V) (eight epiKF s) w hk
theorem epiF_so : (epiF s).so = fun i => Cert.Spec.score (R (i 2)) (i 1) := by
  have h3 : SameScratch s (eight epiVF (eight epiKF s)) := eight_keep _ (SameScratch s) (fun g x => epiVF_same s g x) _ <|
    eight_keep _ (SameScratch s) (fun g x => epiKF_same s g x) _ (SameScratch.refl s)
  have h1 : (epiF s).so = (epiSF (eight epiVF (eight epiKF s))).so := by
    unfold epiF
    exact eight_keep _ (fun x : St Ideal => x.so = (epiSF (eight epiVF (eight epiKF s))).so) (fun g x h => (epiGF_so g x).trans h) _ rfl
  rw [h1]
  generalize eight epiVF (eight epiKF s) = x at h3
  funext i
  obtain ⟨u, k, b, rfl⟩ : ∃ u k b, i = ix3 u k b := ⟨i 0, i 1, i 2, by funext a; fin_cases a <;> rfl⟩
  have hu : u = 0 := Subsingleton.elim (α := Fin 1) _ _
  subst hu
  unfold epiSF
  rw [St.so_w_so]
  refine (setR_in (s := S1x192x128) _ _ _ _ _ (ix3 0 k b) _ _ rfl fun a => ?_).trans ?_
  · fin_cases a
    · rfl
    · show k.val = 0 + k.val; omega
    · show b.val = 0 + b.val; omega
  refine (saT_at _ k b).trans ?_
  refine (load_at (s := S128x256) x.sa _ _ _ _ (ix2 b ⟨k.val, by omega⟩) _ rfl fun a => ?_).trans ?_
  · fin_cases a
    · show b.val = 0 + b.val; omega
    · show k.val = 0 + k.val; omega
  rw [h3.2.2]
  exact (H b).2.1 k
/-- Column block `g` of the output is the attention of query head `g`. -/
def BlkG (R : Fin 128 → Cert.Spec.Row) (g : Fin 8) (y : Vec Ideal S128x512 .bf16) : Prop :=
  ∀ (b : Fin 128) (d : Fin 64), y (ix2 b ⟨64 * g.val + d.val, by omega⟩) = Cert.Spec.out (R b) g d
theorem epiF_out : (epiF s).out = fun i => Cert.Spec.out (R (i 0)) ⟨(i 1).val / 64, by have : (i 1).val < 512 := (i 1).isLt; omega⟩ ⟨(i 1).val % 64, by omega⟩ := by
  have h3 : SameScratch s (epiSF (eight epiVF (eight epiKF s))) := epiSF_same s _ <| eight_keep _ (SameScratch s) (fun g x => epiVF_same s g x) _ <|
    eight_keep _ (SameScratch s) (fun g x => epiKF_same s g x) _ (SameScratch.refl s)
  unfold epiF
  generalize epiSF (eight epiVF (eight epiKF s)) = x0 at h3
  have h2 := eight_all (F := Ideal) epiGF (fun g x => SameScratch s x → BlkG R g x.out)
    (fun g x hx => by
      have hx' : x.o = s.o := (epiGF_o g x).symm.trans hx.2.1
      rw [epiGF_out]
      intro b d
      refine (setR_in (s := S128x512) _ _ _ _ _ (ix2 b d) _ _ rfl fun a => ?_).trans ?_
      · fin_cases a
        · show b.val = 0 + b.val; omega
        · rfl
      refine (outB_at _ b d).trans ((outAt_at g.val g.isLt x.o b ⟨d.val, by omega⟩).trans ?_)
      rw [hx']
      exact (H b).2.2 g d)
    (fun g g' x hg hP hx => by
      have hn : g'.val ≠ g.val := fun h => hg (Fin.ext h)
      have hx' : SameScratch s x := ⟨⟨(epiGF_kw g x).symm.trans hx.1.1, (epiGF_vw g x).symm.trans hx.1.2⟩, (epiGF_o g x).symm.trans hx.2.1, (epiGF_sa g x).symm.trans hx.2.2⟩
      rw [epiGF_out]
      intro b d
      exact (setR_off (s := S128x512) _ _ _ _ _ _ _ rfl (1 : Fin 2) (by show 64 * g'.val + d.val < 64 * g.val ∨ 64 * g.val + 64 ≤ 64 * g'.val + d.val; omega)).trans (hP hx' b d)) x0
  have h4 : SameScratch s (eight epiGF x0) := eight_keep _ (SameScratch s) (fun g x => epiGF_same s g x) _ h3
  funext i
  obtain ⟨b, j, rfl⟩ : ∃ b j, i = ix2 b j := ⟨i 0, i 1, by funext a; fin_cases a <;> rfl⟩
  have hj : j.val < 512 := j.isLt
  have h' := h2 ⟨j.val / 64, by omega⟩ h4 b ⟨j.val % 64, by omega⟩
  have e : (⟨64 * (j.val / 64) + j.val % 64, by omega⟩ : Fin 512) = j := Fin.ext (by show 64 * (j.val / 64) + j.val % 64 = j.val; omega)
  exact (e ▸ h' : _)
end

theorem bodyF_same (i : grid0.Coords) (I : In Ideal) (s : St Ideal) : SameScratch (bodyM i I s) (bodyF i I s) := by
  unfold bodyF
  split
  · exact epiF_same _
  · exact SameScratch.refl _

end Cert.Kernel.Hand
-- ==== Proof.IdealInputs.lean ====
module

public import proofs.«01_k».proof.Proof.Kit
public import Idealize.ShloMosaic.Lib.Pipeline.ValueKit
public import Idealize.ShloMosaic.Lib.Pointwise

@[expose] public section

set_option maxRecDepth 16384
set_option pp.maxSteps 300

noncomputable section
namespace Cert.Kernel.Hand
open Cert.Kernel Cert.Kernel.Gen
open Idealize.ShloMosaic Idealize.ShloMosaic.TcCoe

variable {F : FTy → Type} [FloatOps F]
variable (m : (ℓ : Loc nD τ sig) → Buf (Elt F) ℓ)

/-! ## The input blocks, element by element -/

theorem coords_0 (t : Fin grid0.N) : (grid0.coords t 0).val = t.val := by
  have h : t.val < 16 := t.isLt
  have e0 : (grid0.coords t 0).val = t.val / 1 % 16 := Pipeline.Grid.coords_val t 0 (by decide) rfl
  omega

theorem in_x1 (hO : Ok m) (c : Dev nD) (t : Fin (cfgM m hO).N) (a : Fin 32) (b : Fin 16) :
    (inAt m hO c t).x1 (ix2 a b) = m ((c : Thread nD τ).loc main_arg0) (ix2 a b) := by
  obtain rfl : c = 0 := Subsingleton.elim _ _
  rfl
theorem idx_0 (hO : Ok m) (t : Fin (cfgM m hO).N) : (pcfg0.win (adm m hO) 0).index t = ![0, 0] :=
  (by decide +kernel : ∀ t : Fin grid0.N, cc0_transform_0 (grid0.coords t) = ![0, 0]) t
theorem idx_1 (hO : Ok m) (t : Fin (cfgM m hO).N) : (pcfg0.win (adm m hO) 1).index t = ![0, 0] :=
  (by decide +kernel : ∀ t : Fin grid0.N, cc0_transform_1 (grid0.coords t) = ![0, 0]) t
theorem idx_2 (hO : Ok m) (t : Fin (cfgM m hO).N) : (pcfg0.win (adm m hO) 2).index t = ![0, 0] :=
  (by decide +kernel : ∀ t : Fin grid0.N, cc0_transform_2 (grid0.coords t) = ![0, 0]) t
theorem idx_3 (hO : Ok m) (t : Fin (cfgM m hO).N) : (pcfg0.win (adm m hO) 3).index t = ![0, 0] :=
  (by decide +kernel : ∀ t : Fin grid0.N, cc0_transform_3 (grid0.coords t) = ![0, 0]) t
theorem idx_4 (hO : Ok m) (t : Fin (cfgM m hO).N) : (pcfg0.win (adm m hO) 4).index t = ![0, t.val, 0] :=
  (by decide +kernel : ∀ t : Fin grid0.N, cc0_transform_4 (grid0.coords t) = ![0, t.val, 0]) t
theorem idx_5 (hO : Ok m) (t : Fin (cfgM m hO).N) : (pcfg0.win (adm m hO) 5).index t = ![0, 0, 0] :=
  (by decide +kernel : ∀ t : Fin grid0.N, cc0_transform_5 (grid0.coords t) = ![0, 0, 0]) t
theorem idx_6 (hO : Ok m) (t : Fin (cfgM m hO).N) : (pcfg0.win (adm m hO) 6).index t = ![0, 0, 0] :=
  (by decide +kernel : ∀ t : Fin grid0.N, cc0_transform_6 (grid0.coords t) = ![0, 0, 0]) t
theorem idx_7 (hO : Ok m) (t : Fin (cfgM m hO).N) : (pcfg0.win (adm m hO) 7).index t = ![t.val, 0, 0, 0] :=
  (by decide +kernel : ∀ t : Fin grid0.N, cc0_transform_7 (grid0.coords t) = ![t.val, 0, 0, 0]) t
theorem idx_8 (hO : Ok m) (t : Fin (cfgM m hO).N) : (pcfg0.win (adm m hO) 8).index t = ![t.val, 0, 0, 0] :=
  (by decide +kernel : ∀ t : Fin grid0.N, cc0_transform_8 (grid0.coords t) = ![t.val, 0, 0, 0]) t
theorem in_x2 (hO : Ok m) (c : Dev nD) (t : Fin (cfgM m hO).N) (b : Fin 128) (k : Fin 256) :
    (inAt m hO c t).x2 (ix2 b k) = m ((c : Thread nD τ).loc main_arg1) (ix2 b k) := by
  show iblk m hO c 0 t _ = _
  blk_ext! [iblk, idx_0 m hO t]
  all_goals first | omega | rfl | trace_state
theorem in_x3 (hO : Ok m) (c : Dev nD) (t : Fin (cfgM m hO).N) (b : Fin 128) (k : Fin 256) :
    (inAt m hO c t).x3 (ix2 b k) = m ((c : Thread nD τ).loc main_arg2) (ix2 b k) := by
  show iblk m hO c 1 t _ = _
  blk_ext! [iblk, idx_1 m hO t]
  all_goals first | omega | rfl | trace_state
theorem in_x4 (hO : Ok m) (c : Dev nD) (t : Fin (cfgM m hO).N) (b : Fin 128) (k : Fin 256) :
    (inAt m hO c t).x4 (ix2 b k) = m ((c : Thread nD τ).loc main_arg3) (ix2 b k) := by
  show iblk m hO c 2 t _ = _
  blk_ext! [iblk, idx_2 m hO t]
  all_goals first | omega | rfl | trace_state
theorem in_x5 (hO : Ok m) (c : Dev nD) (t : Fin (cfgM m hO).N) (b : Fin 128) (k : Fin 256) :
    (inAt m hO c t).x5 (ix2 b k) = m ((c : Thread nD τ).loc main_arg4) (ix2 b k) := by
  show iblk m hO c 3 t _ = _
  blk_ext! [iblk, idx_3 m hO t]
  all_goals first | omega | rfl | trace_state
theorem in_x6 (hO : Ok m) (c : Dev nD) (t : Fin (cfgM m hO).N) (a d : Fin 64) (ht : t.val < 16) :
    (inAt m hO c t).x6 (ix3 0 a d) = m ((c : Thread nD τ).loc main_arg5) (ix3 0 ⟨64 * t.val + a.val, by omega⟩ d) := by
  show iblk m hO c 4 t _ = _
  blk_ext! [iblk, idx_4 m hO t]
  all_goals first | omega | rfl | trace_state
theorem in_x7 (hO : Ok m) (c : Dev nD) (t : Fin (cfgM m hO).N) (b : Fin 128) (d : Fin 64) :
    (inAt m hO c t).x7 (ix3 0 b d) = m ((c : Thread nD τ).loc main_arg6) (ix3 0 b d) := by
  show iblk m hO c 5 t _ = _
  blk_ext! [iblk, idx_5 m hO t]
  all_goals first | omega | rfl | trace_state
theorem in_x8 (hO : Ok m) (c : Dev nD) (t : Fin (cfgM m hO).N) (b : Fin 128) (d : Fin 64) :
    (inAt m hO c t).x8 (ix3 0 b d) = m ((c : Thread nD τ).loc main_arg7) (ix3 0 b d) := by
  show iblk m hO c 6 t _ = _
  blk_ext! [iblk, idx_6 m hO t]
  all_goals first | omega | rfl | trace_state
theorem in_x9 (hO : Ok m) (c : Dev nD) (t : Fin (cfgM m hO).N) (r : Fin 8) (cc : Fin 32) (p : Fin 8192) (ht : t.val < 16) :
    (inAt m hO c t).x9 (ix4 r 0 cc p) = m ((c : Thread nD τ).loc main_arg8) (ix4 ⟨8 * t.val + r.val, by omega⟩ 0 cc p) := by
  show iblk m hO c 7 t _ = _
  blk_ext! [iblk, idx_7 m hO t]
  all_goals first | omega | rfl | trace_state
theorem in_x10 (hO : Ok m) (c : Dev nD) (t : Fin (cfgM m hO).N) (r : Fin 8) (cc : Fin 32) (p : Fin 8192) (ht : t.val < 16) :
    (inAt m hO c t).x10 (ix4 r 0 cc p) = m ((c : Thread nD τ).loc main_arg9) (ix4 ⟨8 * t.val + r.val, by omega⟩ 0 cc p) := by
  show iblk m hO c 8 t _ = _
  blk_ext! [iblk, idx_8 m hO t]
  all_goals first | omega | rfl | trace_state

end Cert.Kernel.Hand
-- ==== Proof.Same.lean ====
module

public import proofs.«01_k».proof.Proof.Body
public import Idealize.ShloMosaic.Lib.Pipeline.ValueKit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384
set_option pp.maxSteps 300

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What a step leaves alone -/

/-- The outputs are those of `s`. -/
def SameOut (s s' : St F) : Prop := s'.out = s.out ∧ s'.ko = s.ko ∧ s'.vo = s.vo ∧ s'.so = s.so
theorem SameOut.trans {s s' s'' : St F} (h : SameOut s s') (h' : SameOut s' s'') : SameOut s s'' :=
  ⟨h'.1.trans h.1, h'.2.1.trans h.2.1, h'.2.2.1.trans h.2.2.1, h'.2.2.2.trans h.2.2.2⟩
theorem SameOut.eight {g : Fin 8 → St F → St F} (h : ∀ r s, SameOut s (g r s)) (s : St F) :
    SameOut s (g 7 (g 6 (g 5 (g 4 (g 3 (g 2 (g 1 (g 0 s)))))))) :=
  (h 0 _).trans <| (h 1 _).trans <| (h 2 _).trans <| (h 3 _).trans <| (h 4 _).trans <| (h 5 _).trans <| (h 6 _).trans <| h 7 _
theorem putF_same (s : St F) (o0 o1 h0 h1 k0 k1 v0 v1) : SameOut s (putF s o0 o1 h0 h1 k0 k1 v0 v1) := by
  unfold putF SameOut; simp
theorem gatherE_same (i : grid0.Coords) (I : In F) (s : St F) : SameOut s (gatherE i I s) := by
  unfold gatherE
  split
  · exact SameOut.eight (g := fun r s => evRowF i I r (iota .tc S8x128 32 [1] iota_S8x128_d1_w32) (splits i I r) s) (fun r s => putF_same s _ _ _ _ _ _ _ _) s
  · exact ⟨rfl, rfl, rfl, rfl⟩
theorem gatherO_same (i : grid0.Coords) (I : In F) (s : St F) : SameOut s (gatherO i I s) := by
  unfold gatherO
  split
  · exact SameOut.eight (g := fun r s => odRowF i I r s) (fun r s => putF_same s _ _ _ _ _ _ _ _) s
  · exact ⟨rfl, rfl, rfl, rfl⟩
theorem attnRowF_same (i : grid0.Coords) (I : In F) (q vn sn r) (s : St F) : SameOut s (attnRowF i I q vn sn r s) := by
  unfold attnRowF SameOut; simp
theorem bodyM_same (i : grid0.Coords) (I : In F) (s : St F) : SameOut s (bodyM i I s) :=
  ((gatherE_same i I s).trans (gatherO_same i I _)).trans
    (SameOut.eight (g := fun r s => attnRowF i I (qOf I) (newOf i I.x8) (newScores (qOf I) (newOf i I.x7)) r s) (fun r s => attnRowF_same i I _ _ _ r s) _)
theorem cond3_iff (t : Fin grid0.N) : k0_cond3 (grid0.coords t) = 1#1 ↔ t.val % 16 = 15 := by
  have e0 : (grid0.coords t 0).val = t.val / 1 % 16 := Pipeline.Grid.coords_val t 0 (by decide) rfl
  simp only [k0_cond3, e0]
  word_cmp

end Cert.Kernel.Hand
-- ==== Proof.IdealValue.lean ====
module

public import proofs.«01_k».proof.Proof.Gen.Kernel.Launch
public import proofs.«01_k».proof.Proof.Kit
public import proofs.«01_k».proof.Proof.Same
public import Idealize.ShloMosaic.Lib.Pipeline.ValueKit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384
set_option pp.maxSteps 300

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What holds of the scratch before each point, and what the outputs end at. -/
structure Goal where
  /-- of the key words, the value words, the output rows and the score rows before point `n` -/
  inv : Dev nD → ℕ → Vec F S2x1024x128 .i32 → Vec F S2x1024x128 .i32 → Vec F S1024x128 .f32 → Vec F S128x256 .f32 → Prop
  fin : Dev nD → St F
  zero : ∀ c a b d e, inv c 0 a b d e
  step : ∀ (hO : Ok m) (c : Dev nD) (t : Fin (cfgM m hO).N) (s : St F), inv c t.val s.kw s.vw s.o s.sa →
    inv c (t.val + 1) (bodyF (grid0.coords t) (inAt m hO c t) s).kw (bodyF (grid0.coords t) (inAt m hO c t) s).vw
      (bodyF (grid0.coords t) (inAt m hO c t) s).o (bodyF (grid0.coords t) (inAt m hO c t) s).sa
  last : ∀ (hO : Ok m) (c : Dev nD) (t : Fin (cfgM m hO).N) (s : St F), inv c t.val s.kw s.vw s.o s.sa → t.val % 16 = 15 →
    (bodyF (grid0.coords t) (inAt m hO c t) s).out = (fin c).out ∧ (bodyF (grid0.coords t) (inAt m hO c t) s).ko = (fin c).ko
    ∧ (bodyF (grid0.coords t) (inAt m hO c t) s).vo = (fin c).vo ∧ (bodyF (grid0.coords t) (inAt m hO c t) s).so = (fin c).so

variable (g : Goal m)

theorem idleV_9 (hO : Ok m) : ∀ t : Fin (cfgM m hO).N, ¬t.val % 16 = 15 → (cfgM m hO).idle 9 (grid0.coords t) = true :=
  (by decide +kernel : ∀ t : Fin grid0.N, ¬t.val % 16 = 15 → idle0 9 (grid0.coords t) = true)
theorem noFlushV_9 (hO : Ok m) : ∀ t : Fin (cfgM m hO).N, ¬t.val % 16 = 15 → ((cfgM m hO).win 9).flush t = false :=
  (by decide +kernel : ∀ t : Fin grid0.N, ¬t.val % 16 = 15 → Pipeline.Window.flushOf grid0 true cc0_transform_9 t = false)
theorem liveV_9 (hO : Ok m) : ∀ t : Fin (cfgM m hO).N, t.val % 16 = 15 → (cfgM m hO).idle 9 (grid0.coords t) = false :=
  (by decide +kernel : ∀ t : Fin grid0.N, t.val % 16 = 15 → idle0 9 (grid0.coords t) = false)
theorem idleV_10 (hO : Ok m) : ∀ t : Fin (cfgM m hO).N, ¬t.val % 16 = 15 → (cfgM m hO).idle 10 (grid0.coords t) = true :=
  (by decide +kernel : ∀ t : Fin grid0.N, ¬t.val % 16 = 15 → idle0 10 (grid0.coords t) = true)
theorem noFlushV_10 (hO : Ok m) : ∀ t : Fin (cfgM m hO).N, ¬t.val % 16 = 15 → ((cfgM m hO).win 10).flush t = false :=
  (by decide +kernel : ∀ t : Fin grid0.N, ¬t.val % 16 = 15 → Pipeline.Window.flushOf grid0 true cc0_transform_10 t = false)
theorem liveV_10 (hO : Ok m) : ∀ t : Fin (cfgM m hO).N, t.val % 16 = 15 → (cfgM m hO).idle 10 (grid0.coords t) = false :=
  (by decide +kernel : ∀ t : Fin grid0.N, t.val % 16 = 15 → idle0 10 (grid0.coords t) = false)
theorem idleV_11 (hO : Ok m) : ∀ t : Fin (cfgM m hO).N, ¬t.val % 16 = 15 → (cfgM m hO).idle 11 (grid0.coords t) = true :=
  (by decide +kernel : ∀ t : Fin grid0.N, ¬t.val % 16 = 15 → idle0 11 (grid0.coords t) = true)
theorem noFlushV_11 (hO : Ok m) : ∀ t : Fin (cfgM m hO).N, ¬t.val % 16 = 15 → ((cfgM m hO).win 11).flush t = false :=
  (by decide +kernel : ∀ t : Fin grid0.N, ¬t.val % 16 = 15 → Pipeline.Window.flushOf grid0 true cc0_transform_11 t = false)
theorem liveV_11 (hO : Ok m) : ∀ t : Fin (cfgM m hO).N, t.val % 16 = 15 → (cfgM m hO).idle 11 (grid0.coords t) = false :=
  (by decide +kernel : ∀ t : Fin grid0.N, t.val % 16 = 15 → idle0 11 (grid0.coords t) = false)
theorem idleV_12 (hO : Ok m) : ∀ t : Fin (cfgM m hO).N, ¬t.val % 16 = 15 → (cfgM m hO).idle 12 (grid0.coords t) = true :=
  (by decide +kernel : ∀ t : Fin grid0.N, ¬t.val % 16 = 15 → idle0 12 (grid0.coords t) = true)
theorem noFlushV_12 (hO : Ok m) : ∀ t : Fin (cfgM m hO).N, ¬t.val % 16 = 15 → ((cfgM m hO).win 12).flush t = false :=
  (by decide +kernel : ∀ t : Fin grid0.N, ¬t.val % 16 = 15 → Pipeline.Window.flushOf grid0 true cc0_transform_12 t = false)
theorem liveV_12 (hO : Ok m) : ∀ t : Fin (cfgM m hO).N, t.val % 16 = 15 → (cfgM m hO).idle 12 (grid0.coords t) = false :=
  (by decide +kernel : ∀ t : Fin grid0.N, t.val % 16 = 15 → idle0 12 (grid0.coords t) = false)

/-- The invariant before point `n`. -/
def PhiV (c : Dev nD) (n : ℕ) : sProp 𝕄 :=
  iprop(∃ e0, ∃ e1, ∃ e2, ∃ e3, ⌜g.inv c n e0 e1 e2 e3⌝ ∗ owns (c : Thread nD τ) scM0_0 fullShare e0 ∗ owns (c : Thread nD τ) scM0_1 fullShare e1
    ∗ owns (c : Thread nD τ) scM0_2 fullShare e2 ∗ owns (c : Thread nD τ) scM0_3 fullShare e3 ∗ (∃ r, prngReg c r) ∗ owns (c : Thread nD τ) tbM0_0 fullShare.right (tbl m 0))

def datV (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => (g.fin c).out
    | ⟨10, _⟩ => (g.fin c).ko
    | ⟨11, _⟩ => (g.fin c).vo
    | ⟨12, _⟩ => (g.fin c).so
  Φ t := PhiV m g c t.val
  q _ := fullShare
  owed _ := 0

/-- The proof data's arrays are the region-entry contents: the proof data's definition projected (`dsimp`), so that
    `V` — a fold over @main's host prefix, long for some programs — is never unfolded to check it. -/
theorem A_eqV (hO : Ok m) (c : Dev nD) (w : Fin (cfgM m hO).W) : (datV m g hO 0 c).A w = V m c (Pipeline.arrRef spec0 w) := by
  dsimp only [datV]

/-- What the body leaves, window by window (the proof data's `match` reduced by `dsimp`). -/
theorem afterV_0 (hO : Ok m) (c : Dev nD) (t : Fin (cfgM m hO).N) : (datV m g hO 0 c).after 0 t = iblk m hO c 0 t := by dsimp only [datV]; try rfl
theorem afterV_1 (hO : Ok m) (c : Dev nD) (t : Fin (cfgM m hO).N) : (datV m g hO 0 c).after 1 t = iblk m hO c 1 t := by dsimp only [datV]; try rfl
theorem afterV_2 (hO : Ok m) (c : Dev nD) (t : Fin (cfgM m hO).N) : (datV m g hO 0 c).after 2 t = iblk m hO c 2 t := by dsimp only [datV]; try rfl
theorem afterV_3 (hO : Ok m) (c : Dev nD) (t : Fin (cfgM m hO).N) : (datV m g hO 0 c).after 3 t = iblk m hO c 3 t := by dsimp only [datV]; try rfl
theorem afterV_4 (hO : Ok m) (c : Dev nD) (t : Fin (cfgM m hO).N) : (datV m g hO 0 c).after 4 t = iblk m hO c 4 t := by dsimp only [datV]; try rfl
theorem afterV_5 (hO : Ok m) (c : Dev nD) (t : Fin (cfgM m hO).N) : (datV m g hO 0 c).after 5 t = iblk m hO c 5 t := by dsimp only [datV]; try rfl
theorem afterV_6 (hO : Ok m) (c : Dev nD) (t : Fin (cfgM m hO).N) : (datV m g hO 0 c).after 6 t = iblk m hO c 6 t := by dsimp only [datV]; try rfl
theorem afterV_7 (hO : Ok m) (c : Dev nD) (t : Fin (cfgM m hO).N) : (datV m g hO 0 c).after 7 t = iblk m hO c 7 t := by dsimp only [datV]; try rfl
theorem afterV_8 (hO : Ok m) (c : Dev nD) (t : Fin (cfgM m hO).N) : (datV m g hO 0 c).after 8 t = iblk m hO c 8 t := by dsimp only [datV]; try rfl

/-- Each input's current staging buffer holds its block at every point, fetched there or not (`beforeK_W_of`). -/
theorem beforeV_0 (hO : Ok m) (c : Dev nD) (t : Fin (cfgM m hO).N) (d) : (datV m g hO 0 c).before 0 t d = iblk m hO c 0 t :=
  before0_0_of m hO (datV m g hO 0 c) (A_eqV m g hO c 0) (afterV_0 m g hO c) t d
theorem beforeV_1 (hO : Ok m) (c : Dev nD) (t : Fin (cfgM m hO).N) (d) : (datV m g hO 0 c).before 1 t d = iblk m hO c 1 t :=
  before0_1_of m hO (datV m g hO 0 c) (A_eqV m g hO c 1) (afterV_1 m g hO c) t d
theorem beforeV_2 (hO : Ok m) (c : Dev nD) (t : Fin (cfgM m hO).N) (d) : (datV m g hO 0 c).before 2 t d = iblk m hO c 2 t :=
  before0_2_of m hO (datV m g hO 0 c) (A_eqV m g hO c 2) (afterV_2 m g hO c) t d
theorem beforeV_3 (hO : Ok m) (c : Dev nD) (t : Fin (cfgM m hO).N) (d) : (datV m g hO 0 c).before 3 t d = iblk m hO c 3 t :=
  before0_3_of m hO (datV m g hO 0 c) (A_eqV m g hO c 3) (afterV_3 m g hO c) t d
theorem beforeV_4 (hO : Ok m) (c : Dev nD) (t : Fin (cfgM m hO).N) (d) : (datV m g hO 0 c).before 4 t d = iblk m hO c 4 t :=
  before0_4_of m hO (datV m g hO 0 c) (A_eqV m g hO c 4) (afterV_4 m g hO c) t d
theorem beforeV_5 (hO : Ok m) (c : Dev nD) (t : Fin (cfgM m hO).N) (d) : (datV m g hO 0 c).before 5 t d = iblk m hO c 5 t :=
  before0_5_of m hO (datV m g hO 0 c) (A_eqV m g hO c 5) (afterV_5 m g hO c) t d
theorem beforeV_6 (hO : Ok m) (c : Dev nD) (t : Fin (cfgM m hO).N) (d) : (datV m g hO 0 c).before 6 t d = iblk m hO c 6 t :=
  before0_6_of m hO (datV m g hO 0 c) (A_eqV m g hO c 6) (afterV_6 m g hO c) t d
theorem beforeV_7 (hO : Ok m) (c : Dev nD) (t : Fin (cfgM m hO).N) (d) : (datV m g hO 0 c).before 7 t d = iblk m hO c 7 t :=
  before0_7_of m hO (datV m g hO 0 c) (A_eqV m g hO c 7) (afterV_7 m g hO c) t d
theorem beforeV_8 (hO : Ok m) (c : Dev nD) (t : Fin (cfgM m hO).N) (d) : (datV m g hO 0 c).before 8 t d = iblk m hO c 8 t :=
  before0_8_of m hO (datV m g hO 0 c) (A_eqV m g hO c 8) (afterV_8 m g hO c) t d

theorem afterV_9 (hO : Ok m) (c : Dev nD) (t : Fin (cfgM m hO).N) : (datV m g hO 0 c).after 9 t = (g.fin c).out := by dsimp only [datV]; try rfl
theorem afterV_10 (hO : Ok m) (c : Dev nD) (t : Fin (cfgM m hO).N) : (datV m g hO 0 c).after 10 t = (g.fin c).ko := by dsimp only [datV]; try rfl
theorem afterV_11 (hO : Ok m) (c : Dev nD) (t : Fin (cfgM m hO).N) : (datV m g hO 0 c).after 11 t = (g.fin c).vo := by dsimp only [datV]; try rfl
theorem afterV_12 (hO : Ok m) (c : Dev nD) (t : Fin (cfgM m hO).N) : (datV m g hO 0 c).after 12 t = (g.fin c).so := by dsimp only [datV]; try rfl
/-! ## The body obligation, at a generic point -/

/-- What the body is called with at point `t` (Lib/Pipeline.lean `BodyObligation`'s precondition, the windows one by one), -/
def bodyPreV (hO : Ok m) (c : Dev nD) (t : Fin (cfgM m hO).N) : sProp 𝕄 :=
  iprop((datV m g hO 0 c).Φ t.castSucc ∗ (datV m g hO 0 c).owesAt () t.castSucc
    ∗ (∃ d, owns (c : Thread nD τ) (ms0_0 m hO t) fullShare ((datV m g hO 0 c).before 0 t d))
    ∗ (∃ d, owns (c : Thread nD τ) (ms0_1 m hO t) fullShare ((datV m g hO 0 c).before 1 t d))
    ∗ (∃ d, owns (c : Thread nD τ) (ms0_2 m hO t) fullShare ((datV m g hO 0 c).before 2 t d))
    ∗ (∃ d, owns (c : Thread nD τ) (ms0_3 m hO t) fullShare ((datV m g hO 0 c).before 3 t d))
    ∗ (∃ d, owns (c : Thread nD τ) (ms0_4 m hO t) fullShare ((datV m g hO 0 c).before 4 t d))
    ∗ (∃ d, owns (c : Thread nD τ) (ms0_5 m hO t) fullShare ((datV m g hO 0 c).before 5 t d))
    ∗ (∃ d, owns (c : Thread nD τ) (ms0_6 m hO t) fullShare ((datV m g hO 0 c).before 6 t d))
    ∗ (∃ d, owns (c : Thread nD τ) (ms0_7 m hO t) fullShare ((datV m g hO 0 c).before 7 t d))
    ∗ (∃ d, owns (c : Thread nD τ) (ms0_8 m hO t) fullShare ((datV m g hO 0 c).before 8 t d))
    ∗ (∃ d, owns (c : Thread nD τ) (ms0_9 m hO t) fullShare ((datV m g hO 0 c).before 9 t d))
    ∗ (∃ d, owns (c : Thread nD τ) (ms0_10 m hO t) fullShare ((datV m g hO 0 c).before 10 t d))
    ∗ (∃ d, owns (c : Thread nD τ) (ms0_11 m hO t) fullShare ((datV m g hO 0 c).before 11 t d))
    ∗ (∃ d, owns (c : Thread nD τ) (ms0_12 m hO t) fullShare ((datV m g hO 0 c).before 12 t d)))

/-- and what it returns. -/
def bodyPostV (hO : Ok m) (c : Dev nD) (t : Fin (cfgM m hO).N) : sProp 𝕄 :=
  iprop((datV m g hO 0 c).Φ t.succ ∗ (datV m g hO 0 c).owesAt () t.succ
    ∗ (datV m g hO 0 c).leavesExact 0 t
    ∗ (datV m g hO 0 c).leavesExact 1 t
    ∗ (datV m g hO 0 c).leavesExact 2 t
    ∗ (datV m g hO 0 c).leavesExact 3 t
    ∗ (datV m g hO 0 c).leavesExact 4 t
    ∗ (datV m g hO 0 c).leavesExact 5 t
    ∗ (datV m g hO 0 c).leavesExact 6 t
    ∗ (datV m g hO 0 c).leavesExact 7 t
    ∗ (datV m g hO 0 c).leavesExact 8 t
    ∗ (datV m g hO 0 c).leavesExact 9 t
    ∗ (datV m g hO 0 c).leavesExact 10 t
    ∗ (datV m g hO 0 c).leavesExact 11 t
    ∗ (datV m g hO 0 c).leavesExact 12 t)

set_option maxHeartbeats 1600000 in
/-- The body at any point: the inputs' buffers hold their blocks, everything else holds anything. -/
theorem sound_bodyV (hO : Ok m) (c : Dev nD) (t : Fin (cfgM m hO).N) :
    bodyPreV m g hO c t ⊢ wp frame (wpE (defs₀ (F := F)) Variants.none c none) Set.univ (bodyAt0 (adm m hO) t) (fun _ => bodyPostV m g hO c t) := by
  unfold bodyPreV bodyPostV
  simp only [beforeV_0, beforeV_1, beforeV_2, beforeV_3, beforeV_4, beforeV_5, beforeV_6, beforeV_7, beforeV_8]
  rw [show (datV m g hO 0 c).owesAt () t.succ = (datV m g hO 0 c).owesAt () t.castSucc from rfl]
  rw [show (datV m g hO 0 c).Φ t.succ = PhiV m g c (t.val + 1) from rfl, show (datV m g hO 0 c).Φ t.castSucc = PhiV m g c t.val from rfl]
  unfold PhiV
  rw [show (datV m g hO 0 c).leavesExact 0 t = owns (c : Thread nD τ) (ms0_0 m hO t) fullShare ((datV m g hO 0 c).after 0 t) from by
    unfold Dat.leavesExact; rw [liveAt0_0 m hO t]; try rfl, afterV_0]
  rw [show (datV m g hO 0 c).leavesExact 1 t = owns (c : Thread nD τ) (ms0_1 m hO t) fullShare ((datV m g hO 0 c).after 1 t) from by
    unfold Dat.leavesExact; rw [liveAt0_1 m hO t]; try rfl, afterV_1]
  rw [show (datV m g hO 0 c).leavesExact 2 t = owns (c : Thread nD τ) (ms0_2 m hO t) fullShare ((datV m g hO 0 c).after 2 t) from by
    unfold Dat.leavesExact; rw [liveAt0_2 m hO t]; try rfl, afterV_2]
  rw [show (datV m g hO 0 c).leavesExact 3 t = owns (c : Thread nD τ) (ms0_3 m hO t) fullShare ((datV m g hO 0 c).after 3 t) from by
    unfold Dat.leavesExact; rw [liveAt0_3 m hO t]; try rfl, afterV_3]
  rw [show (datV m g hO 0 c).leavesExact 4 t = owns (c : Thread nD τ) (ms0_4 m hO t) fullShare ((datV m g hO 0 c).after 4 t) from by
    unfold Dat.leavesExact; rw [liveAt0_4 m hO t]; try rfl, afterV_4]
  rw [show (datV m g hO 0 c).leavesExact 5 t = owns (c : Thread nD τ) (ms0_5 m hO t) fullShare ((datV m g hO 0 c).after 5 t) from by
    unfold Dat.leavesExact; rw [liveAt0_5 m hO t]; try rfl, afterV_5]
  rw [show (datV m g hO 0 c).leavesExact 6 t = owns (c : Thread nD τ) (ms0_6 m hO t) fullShare ((datV m g hO 0 c).after 6 t) from by
    unfold Dat.leavesExact; rw [liveAt0_6 m hO t]; try rfl, afterV_6]
  rw [show (datV m g hO 0 c).leavesExact 7 t = owns (c : Thread nD τ) (ms0_7 m hO t) fullShare ((datV m g hO 0 c).after 7 t) from by
    unfold Dat.leavesExact; rw [liveAt0_7 m hO t]; try rfl, afterV_7]
  rw [show (datV m g hO 0 c).leavesExact 8 t = owns (c : Thread nD τ) (ms0_8 m hO t) fullShare ((datV m g hO 0 c).after 8 t) from by
    unfold Dat.leavesExact; rw [liveAt0_8 m hO t]; try rfl, afterV_8]
  iintro ⟨⟨%e0, %e1, %e2, %e3, %hg, HS0, HS1, HS2, HS3, Hg, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_at m hO c t ⟨(datV m g hO 0 c).before 9 t d9, (datV m g hO 0 c).before 10 t d10, (datV m g hO 0 c).before 11 t d11, (datV m g hO 0 c).before 12 t d12, e0, e1, e2, e3⟩ _)
  isplitl [HT0 H0 H1 H2 H3 H4 H5 H6 H7 H8 H9 H10 H11 H12 HS0 HS1 HS2 HS3]
  · unfold Own
    isplitl [HT0]; · iexact HT0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    iexact HS3
  have hstep := g.step hO c t ⟨(datV m g hO 0 c).before 9 t d9, (datV m g hO 0 c).before 10 t d10, (datV m g hO 0 c).before 11 t d11, (datV m g hO 0 c).before 12 t d12, e0, e1, e2, e3⟩ hg
  have hlast := g.last hO c t ⟨(datV m g hO 0 c).before 9 t d9, (datV m g hO 0 c).before 10 t d10, (datV m g hO 0 c).before 11 t d11, (datV m g hO 0 c).before 12 t d12, e0, e1, e2, e3⟩ hg
  have hkeep := fun h : ¬t.val % 16 = 15 => show SameOut ⟨(datV m g hO 0 c).before 9 t d9, (datV m g hO 0 c).before 10 t d10, (datV m g hO 0 c).before 11 t d11, (datV m g hO 0 c).before 12 t d12, e0, e1, e2, e3⟩ (bodyF (grid0.coords t) (inAt m hO c t) ⟨(datV m g hO 0 c).before 9 t d9, (datV m g hO 0 c).before 10 t d10, (datV m g hO 0 c).before 11 t d11, (datV m g hO 0 c).before 12 t d12, e0, e1, e2, e3⟩) from by
    unfold bodyF; rw [if_neg (fun h' => h ((cond3_iff t).1 h'))]; exact bodyM_same _ _ _
  revert hstep hlast hkeep
  generalize bodyF (grid0.coords t) (inAt m hO c t) _ = s'
  intro hstep hlast hkeep
  unfold Own
  iintro ⟨HT0, H0, H1, H2, H3, H4, H5, H6, H7, H8, H9, H10, H11, H12, HS0, HS1, HS2, HS3⟩
  isplitl [HS0 HS1 HS2 HS3 Hg HT0]
  · iexists _; iexists _; iexists _; iexists _
    isplitr; · ipureintro; exact hstep
    isplitl [HS0]; · iexact HS0
    isplitl [HS1]; · iexact HS1
    isplitl [HS2]; · iexact HS2
    isplitl [HS3]; · iexact HS3
    isplitl [Hg]; · iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  by_cases h : t.val % 16 = 15
  · obtain ⟨q9, q10, q11, q12⟩ := hlast h
    rw [show (datV m g hO 0 c).leavesExact 9 t = owns (c : Thread nD τ) (ms0_9 m hO t) fullShare ((datV m g hO 0 c).after 9 t) from by
      unfold Dat.leavesExact; rw [liveV_9 m hO t h]; try rfl, afterV_9, ← q9]
    rw [show (datV m g hO 0 c).leavesExact 10 t = owns (c : Thread nD τ) (ms0_10 m hO t) fullShare ((datV m g hO 0 c).after 10 t) from by
      unfold Dat.leavesExact; rw [liveV_10 m hO t h]; try rfl, afterV_10, ← q10]
    rw [show (datV m g hO 0 c).leavesExact 11 t = owns (c : Thread nD τ) (ms0_11 m hO t) fullShare ((datV m g hO 0 c).after 11 t) from by
      unfold Dat.leavesExact; rw [liveV_11 m hO t h]; try rfl, afterV_11, ← q11]
    rw [show (datV m g hO 0 c).leavesExact 12 t = owns (c : Thread nD τ) (ms0_12 m hO t) fullShare ((datV m g hO 0 c).after 12 t) from by
      unfold Dat.leavesExact; rw [liveV_12 m hO t h]; try rfl, afterV_12, ← q12]
    isplitl [H9]; · iexact H9
    isplitl [H10]; · iexact H10
    isplitl [H11]; · iexact H11
    iexact H12
  · rw [Dat.leavesExact_idle (datV m g hO 0 c) 9 t (idleV_9 m hO t h) (noFlushV_9 m hO t h), Dat.leavesExact_idle (datV m g hO 0 c) 10 t (idleV_10 m hO t h) (noFlushV_10 m hO t h),
      Dat.leavesExact_idle (datV m g hO 0 c) 11 t (idleV_11 m hO t h) (noFlushV_11 m hO t h), Dat.leavesExact_idle (datV m g hO 0 c) 12 t (idleV_12 m hO t h) (noFlushV_12 m hO t h)]
    obtain ⟨q9, q10, q11, q12⟩ := hkeep h
    rw [q9, q10, q11, q12]
    isplitl [H9]; · iexists d9; iexact H9
    isplitl [H10]; · iexists d10; iexact H10
    isplitl [H11]; · iexists d11; iexact H11
    iexists d12; iexact H12

/-- The body table's row at point `t`'s slots is the body as `bodyAt0` spells it. -/
theorem defs₀_rowV (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligationV (hO : Ok m) (c : Dev nD) : BodyObligation (datV (F := F) m g hO 0 c) (defs₀ (F := F)) Variants.none () Set.univ := fun t => by
  rw [bigSep_W0, bigSep_W0, defs₀_rowV m hO]
  exact triple_restated (sound_bodyV m g hO c t) rfl .rfl fun _ => .rfl

/-- What the launch hands the region is the invariant before the first point. -/
theorem hinV (hO : Ok m) (c : Dev nD) : iprop(Pipeline.ΦA spec0 c ∗ Pipeline.ΦT pre0 (tbl m) c) ⊢ (datV m g hO 0 c).Φ 0 := by
  rw [show (datV m g hO 0 c).Φ 0 = PhiV m g c 0 from rfl, PhiT0_eq, PhiA0_eq, tbOwn]
  unfold PhiV
  iintro ⟨⟨⟨⟨%e0, HS0⟩, ⟨%e1, HS1⟩, ⟨%e2, HS2⟩, ⟨%e3, HS3⟩⟩, Hg⟩, HT0⟩
  iexists e0; iexists e1; iexists e2; iexists e3
  isplitr; · ipureintro; exact g.zero c e0 e1 e2 e3
  isplitl [HS0]; · iexact HS0
  isplitl [HS1]; · iexact HS1
  isplitl [HS2]; · iexact HS2
  isplitl [HS3]; · iexact HS3
  isplitl [Hg]; · iexact Hg
  iexact HT0

/-- After the last point the invariant gives the scratch back. -/
theorem houtV (hO : Ok m) (c : Dev nD) : (datV m g hO 0 c).Φ (Fin.last (cfgM m hO).N) ⊢ Pipeline.ΦA spec0 c := by
  rw [show (datV m g hO 0 c).Φ (Fin.last (cfgM m hO).N) = PhiV m g c (cfgM m hO).N from rfl, PhiA0_eq]
  unfold PhiV
  iintro ⟨%e0, %e1, %e2, %e3, -, HS0, HS1, HS2, HS3, Hg, -⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- The launch, the outputs named. -/
theorem run_mainV (hO : Ok m) : θ_run defs (onTc (τ := τ) (main (F := F))) (s₀ m ρ) (fun r => (Pipeline.FramePost (Pipeline.pin pcfgs fun _ => adm m hO) (datV m g hO) 0 (V m)) r ∧ r.2.sem = fun _ => 0) :=
  Pipeline.θ_run_frameP_track (Q' := _) pcfgs (fun _ => adm m hO) (datV m g hO) (0 : Fin 1) launch0 defs₀ Variants.none m ρ main
    (hbody := fun c => (body_obligationV m g hO c).loose) (hshare := fun c => (datV m g hO 0 c).share_full fun _ => rfl)
    (howed := fun _ _ => rfl) (V := V m) (hmain := hmain m Variants.none) (hA := A_eqV m g hO) (hpf := V_pre m)
    (hin := hinV m g hO) (hout := houtV m g hO)

/-- The last grid point. -/
def tLast (hO : Ok m) : Fin (cfgM m hO).N := ⟨15, by rw [show (cfgM m hO).N = 16 from N_0]; decide⟩

theorem flushV_9 (hO : Ok m) : ∀ t : Fin (cfgM m hO).N, ((cfgM m hO).win 9).flush t = true → t = tLast m hO :=
  (by decide +kernel : ∀ t : Fin grid0.N, Pipeline.Window.flushOf grid0 true cc0_transform_9 t = true → t = ⟨15, by decide⟩)
theorem flushV_9' (hO : Ok m) : ((cfgM m hO).win 9).flush (tLast m hO) = true :=
  (by decide +kernel : Pipeline.Window.flushOf grid0 true cc0_transform_9 ⟨15, by decide⟩ = true)
/-- Output 9's block at the end. -/
theorem outV_9 (hO : Ok m) (c : Dev nD) (y : (((cfgM m hO).win 9).xblock ((cfgM m hO).grid.coords (tLast m hO))).Idx) :
    (((cfgM m hO).win 9).blk (tLast m hO)).view.read (Elt F) ((datV m g hO 0 c).arrAt 9 (cfgM m hO).N) y = (datV m g hO 0 c).flushed 9 (tLast m hO) y := by
  rw [(datV m g hO 0 c).read_blk_arrAt_eq_flushed 9 (fun t t' hf hf' hne => absurd ((flushV_9 m hO t hf).trans (flushV_9 m hO t' hf').symm) hne) _ (tLast m hO) (tLast m hO).isLt (flushV_9' m hO)]
theorem flushV_10 (hO : Ok m) : ∀ t : Fin (cfgM m hO).N, ((cfgM m hO).win 10).flush t = true → t = tLast m hO :=
  (by decide +kernel : ∀ t : Fin grid0.N, Pipeline.Window.flushOf grid0 true cc0_transform_10 t = true → t = ⟨15, by decide⟩)
theorem flushV_10' (hO : Ok m) : ((cfgM m hO).win 10).flush (tLast m hO) = true :=
  (by decide +kernel : Pipeline.Window.flushOf grid0 true cc0_transform_10 ⟨15, by decide⟩ = true)
/-- Output 10's block at the end. -/
theorem outV_10 (hO : Ok m) (c : Dev nD) (y : (((cfgM m hO).win 10).xblock ((cfgM m hO).grid.coords (tLast m hO))).Idx) :
    (((cfgM m hO).win 10).blk (tLast m hO)).view.read (Elt F) ((datV m g hO 0 c).arrAt 10 (cfgM m hO).N) y = (datV m g hO 0 c).flushed 10 (tLast m hO) y := by
  rw [(datV m g hO 0 c).read_blk_arrAt_eq_flushed 10 (fun t t' hf hf' hne => absurd ((flushV_10 m hO t hf).trans (flushV_10 m hO t' hf').symm) hne) _ (tLast m hO) (tLast m hO).isLt (flushV_10' m hO)]
theorem flushV_11 (hO : Ok m) : ∀ t : Fin (cfgM m hO).N, ((cfgM m hO).win 11).flush t = true → t = tLast m hO :=
  (by decide +kernel : ∀ t : Fin grid0.N, Pipeline.Window.flushOf grid0 true cc0_transform_11 t = true → t = ⟨15, by decide⟩)
theorem flushV_11' (hO : Ok m) : ((cfgM m hO).win 11).flush (tLast m hO) = true :=
  (by decide +kernel : Pipeline.Window.flushOf grid0 true cc0_transform_11 ⟨15, by decide⟩ = true)
/-- Output 11's block at the end. -/
theorem outV_11 (hO : Ok m) (c : Dev nD) (y : (((cfgM m hO).win 11).xblock ((cfgM m hO).grid.coords (tLast m hO))).Idx) :
    (((cfgM m hO).win 11).blk (tLast m hO)).view.read (Elt F) ((datV m g hO 0 c).arrAt 11 (cfgM m hO).N) y = (datV m g hO 0 c).flushed 11 (tLast m hO) y := by
  rw [(datV m g hO 0 c).read_blk_arrAt_eq_flushed 11 (fun t t' hf hf' hne => absurd ((flushV_11 m hO t hf).trans (flushV_11 m hO t' hf').symm) hne) _ (tLast m hO) (tLast m hO).isLt (flushV_11' m hO)]
theorem flushV_12 (hO : Ok m) : ∀ t : Fin (cfgM m hO).N, ((cfgM m hO).win 12).flush t = true → t = tLast m hO :=
  (by decide +kernel : ∀ t : Fin grid0.N, Pipeline.Window.flushOf grid0 true cc0_transform_12 t = true → t = ⟨15, by decide⟩)
theorem flushV_12' (hO : Ok m) : ((cfgM m hO).win 12).flush (tLast m hO) = true :=
  (by decide +kernel : Pipeline.Window.flushOf grid0 true cc0_transform_12 ⟨15, by decide⟩ = true)
/-- Output 12's block at the end. -/
theorem outV_12 (hO : Ok m) (c : Dev nD) (y : (((cfgM m hO).win 12).xblock ((cfgM m hO).grid.coords (tLast m hO))).Idx) :
    (((cfgM m hO).win 12).blk (tLast m hO)).view.read (Elt F) ((datV m g hO 0 c).arrAt 12 (cfgM m hO).N) y = (datV m g hO 0 c).flushed 12 (tLast m hO) y := by
  rw [(datV m g hO 0 c).read_blk_arrAt_eq_flushed 12 (fun t t' hf hf' hne => absurd ((flushV_12 m hO t hf).trans (flushV_12 m hO t' hf').symm) hne) _ (tLast m hO) (tLast m hO).isLt (flushV_12' m hO)]

end Cert.Kernel.Hand
-- ==== Proof.IdealGoal.lean ====
module

public import proofs.«01_k».proof.Proof.IdealTail
public import proofs.«01_k».proof.Proof.IdealInputs
public import proofs.«01_k».proof.Proof.IdealValue

@[expose] public section

set_option maxRecDepth 16384
set_option pp.maxSteps 300

noncomputable section
namespace Cert.Kernel.Hand
open Cert.Kernel Cert.Kernel.Gen
open Idealize.ShloMosaic

/-! ## The invariant -/

section
variable (m : (ℓ : Loc nD τ sig) → Buf (Elt Ideal) ℓ)

/-- Sequence `b` of the arrays. -/
def rowM (c : Dev nD) (b : Fin 128) : Cert.Spec.Row := Cert.Spec.rowAt 0 (m ((c.tc : Thread nD τ).loc main_arg1)) (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) b

/-- What is asked of the positions. -/
structure Kept : Prop where
  pos : ∀ (c : Dev nD) (b : Fin 128) (k : Fin 192), ((m ((c.tc : Thread nD τ).loc main_arg1) : IVec S128x256 32) (ix2 b ⟨k.val, by omega⟩)).toNat < 8192
  split : ∀ (c : Dev nD) (b : Fin 128) (k : Fin 192), (k.val : ℤ) < ((m ((c.tc : Thread nD τ).loc main_arg0) : IVec S32x16 32) (ix2 ⟨b.val / 4, by omega⟩ ⟨b.val % 4, by omega⟩)).toInt
    ↔ ((m ((c.tc : Thread nD τ).loc main_arg1) : IVec S128x256 32) (ix2 b ⟨k.val, by omega⟩)).toNat < 4096

section
variable (hO : Ok m) (c : Dev nD) (t : Fin grid0.N) (r : Fin 8)

theorem p192_in (k : Fin 192) : p192 t (inAt m hO c t) r k = (m ((c.tc : Thread nD τ).loc main_arg1) : IVec S128x256 32) (ix2 (bat t r) ⟨k.val, by omega⟩) := in_x2 m hO c t _ _
theorem rowOf_in : rowOf t (inAt m hO c t) r = rowM m c (bat t r) := by
  have ht : t.val < 16 := t.isLt
  apply Cert.Spec.Row.ext
  · funext g d
    refine (in_x6 m hO c t ⟨8 * r.val + g.val, by omega⟩ d ht).trans ?_
    have e : (⟨64 * t.val + (8 * r.val + g.val), by omega⟩ : Fin 1024) = ⟨(bat t r).val * 8 + g.val, by simp only [bat]; omega⟩ := Fin.ext (by show 64 * t.val + (8 * r.val + g.val) = (8 * t.val + r.val) * 8 + g.val; omega)
    exact e ▸ rfl
  · funext k cc
    refine (in_x9 m hO c t r cc _ ht).trans ?_
    rw [p192_in]; rfl
  · funext k cc
    refine (in_x10 m hO c t r cc _ ht).trans ?_
    rw [p192_in]; rfl
  · funext k; exact in_x3 m hO c t _ _
  · funext k; exact in_x4 m hO c t _ _
  · funext k; exact in_x5 m hO c t _ _
  · funext d; exact in_x7 m hO c t _ _
  · funext d; exact in_x8 m hO c t _ _

theorem done_step (K : Kept m) (s : St Ideal) (H : ∀ b : Fin 128, b.val < 8 * t.val → Done (rowM m c b) b s) (b : Fin 128) (hb : b.val < 8 * (t.val + 1)) :
    Done (rowM m c b) b (bodyM (grid0.coords t) (inAt m hO c t) s) := by
  have ht : t.val < 16 := t.isLt
  by_cases h : b.val < 8 * t.val
  · exact bodyM_keep t _ s _ b (fun r e => by have := congrArg Fin.val e; simp only [bat] at this; omega) (H b h)
  · have e : b = bat t ⟨b.val - 8 * t.val, by omega⟩ := Fin.ext (by show b.val = 8 * t.val + (b.val - 8 * t.val); omega)
    rw [e, ← rowOf_in m hO c t]
    refine bodyM_done t _ s (fun r k => ?_) (fun r k => ?_) _
    · rw [p192_in]; exact K.pos c _ k
    · rw [p192_in, splits_apply, in_x1 m hO c t]; exact K.split c (bat t r) k
end

/-- The goal of the launch. -/
def goal (K : Kept m) : Goal m where
  inv c n kw vw o sa := ∀ b : Fin 128, b.val < 8 * n → (KVrow (rowM m c b).K b kw ∧ KVrow (rowM m c b).V b vw) ∧ ScoreRow (rowM m c b) b sa ∧ OutRow (rowM m c b) b o
  fin c := { out := fun i => Cert.Spec.out (rowM m c (i 0)) ⟨(i 1).val / 64, by have : (i 1).val < 512 := (i 1).isLt; omega⟩ ⟨(i 1).val % 64, by omega⟩
             ko := fun i => (rowM m c (i 3)).K (i 0) (i 2)
             vo := fun i => (rowM m c (i 3)).V (i 0) (i 2)
             so := fun i => Cert.Spec.score (rowM m c (i 2)) (i 1)
             kw := fun _ => 0#32, vw := fun _ => 0#32, o := fun _ => (0 : EReal), sa := fun _ => (0 : EReal) }
  zero c a b d e := fun b h => absurd h (by omega)
  step hO c t s h := fun b hb => ((bodyF_same (grid0.coords t) (inAt m hO c t) s).done _ _).2 (done_step m hO c t K s h b hb)
  last hO c t s h h15 := by
    have hN : t.val < 16 := t.isLt
    have hd : ∀ b, Done (rowM m c b) b (bodyM (grid0.coords t) (inAt m hO c t) s) := fun b => done_step m hO c t K s h b (by omega)
    have e : bodyF (grid0.coords t) (inAt m hO c t) s = epiF (bodyM (grid0.coords t) (inAt m hO c t) s) := by
      unfold bodyF; rw [if_pos ((cond3_iff t).2 h15)]
    rw [e]
    exact ⟨epiF_out _ _ hd, epiF_ko _ _ hd, epiF_vo _ _ hd, epiF_so _ _ hd⟩
end

end Cert.Kernel.Hand
-- ==== Proof.IdealOut.lean ====
module

public import proofs.«01_k».proof.Proof.IdealGoal
public import proofs.«01_k».proof.Proof.Frame

@[expose] public section

set_option maxRecDepth 16384

noncomputable section
namespace Cert.Kernel.Hand
open Cert.Kernel Cert.Kernel.Gen
open Idealize.ShloMosaic Idealize.ShloMosaic.TcCoe Idealize.ShloMosaic.Tactic
open Idealize.SL.Sem

/-! ## The results in memory -/

variable (m : (ℓ : Loc nD τ sig) → Buf (Elt Ideal) ℓ) (ρ : Dev nD → PrngReg)

theorem idx_9 (hO : Ok m) (t : Fin (cfgM m hO).N) : (pcfg0.win (adm m hO) 9).index t = ![0, 0] :=
  (by decide +kernel : ∀ t : Fin grid0.N, cc0_transform_9 (grid0.coords t) = ![0, 0]) t
theorem idx_10 (hO : Ok m) (t : Fin (cfgM m hO).N) : (pcfg0.win (adm m hO) 10).index t = ![0, 0, 0, 0] :=
  (by decide +kernel : ∀ t : Fin grid0.N, cc0_transform_10 (grid0.coords t) = ![0, 0, 0, 0]) t
theorem idx_11 (hO : Ok m) (t : Fin (cfgM m hO).N) : (pcfg0.win (adm m hO) 11).index t = ![0, 0, 0, 0] :=
  (by decide +kernel : ∀ t : Fin grid0.N, cc0_transform_11 (grid0.coords t) = ![0, 0, 0, 0]) t
theorem idx_12 (hO : Ok m) (t : Fin (cfgM m hO).N) : (pcfg0.win (adm m hO) 12).index t = ![0, 0, 0] :=
  (by decide +kernel : ∀ t : Fin grid0.N, cc0_transform_12 (grid0.coords t) = ![0, 0, 0]) t

variable (g : Goal m) (hO : Ok m) (c : Dev nD)

theorem arr_9 (b : Fin 128) (j : Fin 512) : (datV m g hO 0 c).arrAt 9 (cfgM m hO).N (ix2 b ⟨j.val, by omega⟩) = (g.fin c).out (ix2 b j) := by
  have h := (outV_9 m g hO c (ix2 b j)).trans (show _ = (g.fin c).out (ix2 b j) from congrFun (afterV_9 m g hO c (tLast m hO)) _)
  refine Eq.trans ?_ h
  generalize (datV m g hO 0 c).arrAt 9 (cfgM m hO).N = X
  symm
  have e : ∀ a, (pcfg0.win (adm m hO) 9).index (tLast m hO) a = 0 := fun a => (congrFun (idx_9 m hO (tLast m hO)) a).trans (by fin_cases a <;> rfl)
  blk_ext! [e]
  all_goals first | exact e 0 | exact e 1 | (refine (congrArg (fun z => z * _ + _) (e _)).trans ?_; omega)
theorem arr_10 (k : Fin 192) (cc : Fin 32) (b : Fin 128) : (datV m g hO 0 c).arrAt 10 (cfgM m hO).N (ix4 k 0 cc b) = (g.fin c).ko (ix4 k 0 cc b) := by
  have h := (outV_10 m g hO c (ix4 k 0 cc b)).trans (show _ = (g.fin c).ko (ix4 k 0 cc b) from congrFun (afterV_10 m g hO c (tLast m hO)) _)
  refine Eq.trans ?_ h
  generalize (datV m g hO 0 c).arrAt 10 (cfgM m hO).N = X
  symm
  have e : ∀ a, (pcfg0.win (adm m hO) 10).index (tLast m hO) a = 0 := fun a => (congrFun (idx_10 m hO (tLast m hO)) a).trans (by fin_cases a <;> rfl)
  blk_ext! [e]
  all_goals first | exact e 0 | exact e 1 | (refine (congrArg (fun z => z * _ + _) (e _)).trans ?_; omega)
theorem arr_11 (k : Fin 192) (cc : Fin 32) (b : Fin 128) : (datV m g hO 0 c).arrAt 11 (cfgM m hO).N (ix4 k 0 cc b) = (g.fin c).vo (ix4 k 0 cc b) := by
  have h := (outV_11 m g hO c (ix4 k 0 cc b)).trans (show _ = (g.fin c).vo (ix4 k 0 cc b) from congrFun (afterV_11 m g hO c (tLast m hO)) _)
  refine Eq.trans ?_ h
  generalize (datV m g hO 0 c).arrAt 11 (cfgM m hO).N = X
  symm
  have e : ∀ a, (pcfg0.win (adm m hO) 11).index (tLast m hO) a = 0 := fun a => (congrFun (idx_11 m hO (tLast m hO)) a).trans (by fin_cases a <;> rfl)
  blk_ext! [e]
  all_goals first | exact e 0 | exact e 1 | (refine (congrArg (fun z => z * _ + _) (e _)).trans ?_; omega)
theorem arr_12 (k : Fin 192) (b : Fin 128) : (datV m g hO 0 c).arrAt 12 (cfgM m hO).N (ix3 0 k b) = (g.fin c).so (ix3 0 k b) := by
  have h := (outV_12 m g hO c (ix3 0 k b)).trans (show _ = (g.fin c).so (ix3 0 k b) from congrFun (afterV_12 m g hO c (tLast m hO)) _)
  refine Eq.trans ?_ h
  generalize (datV m g hO 0 c).arrAt 12 (cfgM m hO).N = X
  symm
  have e : ∀ a, (pcfg0.win (adm m hO) 12).index (tLast m hO) a = 0 := fun a => (congrFun (idx_12 m hO (tLast m hO)) a).trans (by fin_cases a <;> rfl)
  blk_ext! [e]
  all_goals first | exact e 0 | exact e 1 | (refine (congrArg (fun z => z * _ + _) (e _)).trans ?_; omega)

/-- The launch leaves the attention of every sequence in the block of the first key head. -/
theorem run_value (K : Kept m) : θ_run defs (onTc (τ := τ) (main (F := Ideal))) ⟨m, fun _ => 0, ρ⟩ (fun r => ∀ c : Dev nD,
    (∀ (b : Fin 128) (j : Fin 512), (r.2.mem ((c.tc : Thread nD τ).loc main_v0_0) : Vec Ideal S128x2048 .bf16) (ix2 b ⟨j.val, by omega⟩) = Cert.Spec.out (rowM m c b) ⟨j.val / 64, by omega⟩ ⟨j.val % 64, by omega⟩)
    ∧ (∀ (k : Fin 192) (cc : Fin 32) (b : Fin 128), (r.2.mem ((c.tc : Thread nD τ).loc main_v0_1) : Vec Ideal S192x4x32x128 .i8) (ix4 k 0 cc b) = (rowM m c b).K k cc)
    ∧ (∀ (k : Fin 192) (cc : Fin 32) (b : Fin 128), (r.2.mem ((c.tc : Thread nD τ).loc main_v0_2) : Vec Ideal S192x4x32x128 .i8) (ix4 k 0 cc b) = (rowM m c b).V k cc)
    ∧ (∀ (k : Fin 192) (b : Fin 128), (r.2.mem ((c.tc : Thread nD τ).loc main_v0_3) : Vec Ideal S4x192x128 .f32) (ix3 0 k b) = Cert.Spec.score (rowM m c b) k)) :=
  (θ_run defs _ _).mono (fun r h c => ⟨
    fun b j => (congrFun (h.1.out_eq c 9) _).trans (arr_9 m (goal m K) (ok_all m) c b j),
    fun k cc b => (congrFun (h.1.out_eq c 10) _).trans (arr_10 m (goal m K) (ok_all m) c k cc b),
    fun k cc b => (congrFun (h.1.out_eq c 11) _).trans (arr_11 m (goal m K) (ok_all m) c k cc b),
    fun k b => (congrFun (h.1.out_eq c 12) _).trans (arr_12 m (goal m K) (ok_all m) c k b)⟩) (run_mainV m ρ (goal m K) (ok_all m))

end Cert.Kernel.Hand
-- ==== Proof.Moved.lean ====
module

public import proofs.«01_k».proof.Proof.IdealOut
public import proofs.«01_k».proof.Proof.Gen.KernelIdeal
public import Idealize.ShloMosaic.PureOps.Ideal
public import Idealize.ShloMosaic.Lib.Pipeline.Regions

@[expose] public section

set_option maxRecDepth 65536

noncomputable section
namespace Cert.Kernel.Moved
open Idealize.ShloMosaic Idealize.SL.Sem

instance : Cert.Kernel.Facts := Cert.Kernel.Gen.facts
instance : Cert.KernelIdeal.Facts := Cert.KernelIdeal.Gen.facts

/-! ## From the kernel to its ideal copy

No operation was rewritten, so the ideal copy of the call of the first head is the same program over the extended reals, and what is proved of
the one is the same statement as what is asked of the other. -/

def FrameK : Prop := ∀ (m : (ℓ : Loc Cert.Kernel.nD Cert.Kernel.τ Cert.Kernel.sig) → Buf (Elt Ideal) ℓ) (g : Dev Cert.Kernel.nD → PrngReg),
    θ_run (Cert.Kernel.defs (F := Ideal)) (onTc (τ := Cert.Kernel.τ) (Cert.Kernel.main (F := Ideal))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)
def FrameI : Prop := ∀ (m : (ℓ : Loc Cert.KernelIdeal.nD Cert.KernelIdeal.τ Cert.KernelIdeal.sig) → Buf (Elt Ideal) ℓ) (g : Dev Cert.KernelIdeal.nD → PrngReg),
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)
theorem frame_same : FrameK = FrameI := by chain_rfl
def ValueK : Prop := ∀ (m : (ℓ : Loc Cert.Kernel.nD Cert.Kernel.τ Cert.Kernel.sig) → Buf (Elt Ideal) ℓ) (g : Dev Cert.Kernel.nD → PrngReg), Cert.Kernel.Hand.Kept m →
    θ_run (Cert.Kernel.defs (F := Ideal)) (onTc (τ := Cert.Kernel.τ) (Cert.Kernel.main (F := Ideal))) ⟨m, fun _ => 0, g⟩ (fun r => ∀ c : Dev Cert.Kernel.nD,
      (∀ (b : Fin 128) (j : Fin 512), (r.2.mem ((c.tc : Thread Cert.Kernel.nD Cert.Kernel.τ).loc Cert.Kernel.main_v0_0) : Vec Ideal ⟨2, ![128, 2048]⟩ .bf16) (ix2 b ⟨j.val, by omega⟩) = Cert.Spec.out (Cert.Kernel.Hand.rowM m c b) ⟨j.val / 64, by omega⟩ ⟨j.val % 64, by omega⟩)
      ∧ (∀ (k : Fin 192) (cc : Fin 32) (b : Fin 128), (r.2.mem ((c.tc : Thread Cert.Kernel.nD Cert.Kernel.τ).loc Cert.Kernel.main_v0_1) : Vec Ideal ⟨4, ![192, 4, 32, 128]⟩ .i8) (ix4 k 0 cc b) = (Cert.Kernel.Hand.rowM m c b).K k cc)
      ∧ (∀ (k : Fin 192) (cc : Fin 32) (b : Fin 128), (r.2.mem ((c.tc : Thread Cert.Kernel.nD Cert.Kernel.τ).loc Cert.Kernel.main_v0_2) : Vec Ideal ⟨4, ![192, 4, 32, 128]⟩ .i8) (ix4 k 0 cc b) = (Cert.Kernel.Hand.rowM m c b).V k cc)
      ∧ (∀ (k : Fin 192) (b : Fin 128), (r.2.mem ((c.tc : Thread Cert.Kernel.nD Cert.Kernel.τ).loc Cert.Kernel.main_v0_3) : Vec Ideal ⟨3, ![4, 192, 128]⟩ .f32) (ix3 0 k b) = Cert.Spec.score (Cert.Kernel.Hand.rowM m c b) k))
def ValueI : Prop := ∀ (m : (ℓ : Loc Cert.KernelIdeal.nD Cert.KernelIdeal.τ Cert.KernelIdeal.sig) → Buf (Elt Ideal) ℓ) (g : Dev Cert.KernelIdeal.nD → PrngReg), Cert.Kernel.Hand.Kept m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      (∀ (b : Fin 128) (j : Fin 512), (r.2.mem ((c.tc : Thread Cert.KernelIdeal.nD Cert.KernelIdeal.τ).loc Cert.KernelIdeal.main_v0_0) : Vec Ideal ⟨2, ![128, 2048]⟩ .bf16) (ix2 b ⟨j.val, by omega⟩) = Cert.Spec.out (Cert.Kernel.Hand.rowM m c b) ⟨j.val / 64, by omega⟩ ⟨j.val % 64, by omega⟩)
      ∧ (∀ (k : Fin 192) (cc : Fin 32) (b : Fin 128), (r.2.mem ((c.tc : Thread Cert.KernelIdeal.nD Cert.KernelIdeal.τ).loc Cert.KernelIdeal.main_v0_1) : Vec Ideal ⟨4, ![192, 4, 32, 128]⟩ .i8) (ix4 k 0 cc b) = (Cert.Kernel.Hand.rowM m c b).K k cc)
      ∧ (∀ (k : Fin 192) (cc : Fin 32) (b : Fin 128), (r.2.mem ((c.tc : Thread Cert.KernelIdeal.nD Cert.KernelIdeal.τ).loc Cert.KernelIdeal.main_v0_2) : Vec Ideal ⟨4, ![192, 4, 32, 128]⟩ .i8) (ix4 k 0 cc b) = (Cert.Kernel.Hand.rowM m c b).V k cc)
      ∧ (∀ (k : Fin 192) (b : Fin 128), (r.2.mem ((c.tc : Thread Cert.KernelIdeal.nD Cert.KernelIdeal.τ).loc Cert.KernelIdeal.main_v0_3) : Vec Ideal ⟨3, ![4, 192, 128]⟩ .f32) (ix3 0 k b) = Cert.Spec.score (Cert.Kernel.Hand.rowM m c b) k))
theorem value_same : ValueK = ValueI := by chain_rfl

theorem frame : FrameI := frame_same.mp fun m g => Cert.Kernel.Hand.frame m g (Cert.Kernel.Hand.ok_all m)
theorem value : ValueI := value_same.mp fun m g K => Cert.Kernel.Hand.run_value m g K

end Cert.Kernel.Moved
-- ==== Proof.Sides.lean ====
module

public import proofs.«01_k».proof.Proof.Gen.On_head
public import proofs.«01_k».proof.Proof.Gen.Pre_kept
public import proofs.«01_k».proof.Proof.IdealGoal
public import Idealize.ShloMosaic.Lib.Pointwise
public import Idealize.ShloMosaic.Lib.ReduceAll

@[expose] public section

set_option maxRecDepth 16384

noncomputable section
namespace Cert.Sides
open Idealize.ShloMosaic

/-! ## The mask and the precondition read -/

instance : Cert.On_head.Facts := Cert.On_head.Gen.facts
instance : Cert.Pre_kept.Facts := Cert.Pre_kept.Gen.facts

section
variable (a0 : IVec ⟨2, ![32, 16]⟩ 32) (a1 : IVec ⟨2, ![128, 256]⟩ 32) (a2 a3 a4 : FVec Ideal ⟨2, ![128, 256]⟩ .f32) (a5 : FVec Ideal ⟨3, ![4, 1024, 64]⟩ .bf16)
  (a6 a7 : FVec Ideal ⟨3, ![4, 128, 64]⟩ .bf16) (a8 a9 : IVec ⟨4, ![128, 4, 32, 8192]⟩ 8)

theorem slt_of (a b : ℕ) (ha : a < 2 ^ 31) (hb : b < 2 ^ 31) (h : IntOp.cmpi .slt (BitVec.ofNat 32 a) (BitVec.ofNat 32 b) = 1#1) : a < b := by
  have h' : BitVec.ofBool ((BitVec.ofNat 32 a).slt (BitVec.ofNat 32 b)) = 1#1 := h
  rw [BitVec.slt_eq_decide, BitVec.toInt_eq_toNat_of_lt (by rw [BitVec.toNat_ofNat]; omega), BitVec.toInt_eq_toNat_of_lt (by rw [BitVec.toNat_ofNat]; omega), BitVec.toNat_ofNat, BitVec.toNat_ofNat] at h'
  by_cases hh : ((a % 2 ^ 32 : ℕ) : ℤ) < ((b % 2 ^ 32 : ℕ) : ℤ)
  · omega
  · rw [decide_eq_false hh] at h'; exact absurd h' (by decide)

theorem sge_of (a b : ℕ) (ha : a < 2 ^ 31) (hb : b < 2 ^ 31) (h : IntOp.cmpi .sge (BitVec.ofNat 32 a) (BitVec.ofNat 32 b) = 1#1) : b ≤ a := by
  have h' : BitVec.ofBool ((BitVec.ofNat 32 b).sle (BitVec.ofNat 32 a)) = 1#1 := h
  rw [BitVec.sle_eq_decide, BitVec.toInt_eq_toNat_of_lt (by rw [BitVec.toNat_ofNat]; omega), BitVec.toInt_eq_toNat_of_lt (by rw [BitVec.toNat_ofNat]; omega), BitVec.toNat_ofNat, BitVec.toNat_ofNat] at h'
  by_cases hh : ((b % 2 ^ 32 : ℕ) : ℤ) ≤ ((a % 2 ^ 32 : ℕ) : ℤ)
  · omega
  · rw [decide_eq_false hh] at h'; exact absurd h' (by decide)
theorem between (a l u : ℕ) (ha : a < 2 ^ 31) (hl : l < 2 ^ 31) (hu : u < 2 ^ 31)
    (h : IntOp.andi (IntOp.cmpi .sge (BitVec.ofNat 32 a) (BitVec.ofNat 32 l)) (IntOp.cmpi .slt (BitVec.ofNat 32 a) (BitVec.ofNat 32 u)) = 1#1) : l ≤ a ∧ a < u :=
  ⟨sge_of a l ha hl (IntOp.andi_eq_one.1 h).1, slt_of a u ha hu (IntOp.andi_eq_one.1 h).2⟩

theorem mask_out (b : Fin 128) (j : Fin 2048) (h : (Cert.On_head.fn (F := Ideal) a0 a1 a2 a3 a4 a5 a6 a7 a8 a9).1 (ix2 b j) = 1#1) : j.val < 512 :=
  slt_of j.val 512 (by omega) (by omega) h
theorem mask_k (k : Fin 192) (n : Fin 4) (cc : Fin 32) (b : Fin 128) (h : (Cert.On_head.fn (F := Ideal) a0 a1 a2 a3 a4 a5 a6 a7 a8 a9).2.1 (ix4 k n cc b) = 1#1) : n = 0 :=
  Fin.ext (by have := slt_of n.val 1 (by omega) (by omega) h; show n.val = 0; omega)
theorem mask_v (k : Fin 192) (n : Fin 4) (cc : Fin 32) (b : Fin 128) (h : (Cert.On_head.fn (F := Ideal) a0 a1 a2 a3 a4 a5 a6 a7 a8 a9).2.2.1 (ix4 k n cc b) = 1#1) : n = 0 :=
  Fin.ext (by have := slt_of n.val 1 (by omega) (by omega) h; show n.val = 0; omega)
theorem mask_s (n : Fin 4) (k : Fin 192) (b : Fin 128) (h : (Cert.On_head.fn (F := Ideal) a0 a1 a2 a3 a4 a5 a6 a7 a8 a9).2.2.2 (ix3 n k b) = 1#1) : n = 0 :=
  Fin.ext (by have := slt_of n.val 1 (by omega) (by omega) h; show n.val = 0; omega)

/-- The three parts of what is asked at one position, read. -/
theorem parts (p c : BitVec 32) (k : Fin 192)
    (h : IntOp.andi (IntOp.andi (IntOp.cmpi .sge p 0#32) (IntOp.cmpi .slt p 8192#32)) (IntOp.cmpi .eq (IntOp.cmpi .slt (BitVec.ofNat 32 k.val) c) (IntOp.cmpi .slt p 4096#32)) = 1#1) :
    p.toNat < 8192 ∧ ((k.val : ℤ) < c.toInt ↔ p.toNat < 4096) := by
  obtain ⟨h12, h3⟩ := IntOp.andi_eq_one.1 h
  obtain ⟨h1, h2⟩ := IntOp.andi_eq_one.1 h12
  have g1 : BitVec.ofBool ((0#32).sle p) = 1#1 := h1
  have g2 : BitVec.ofBool (p.slt 8192#32) = 1#1 := h2
  have g3 : BitVec.ofBool (BitVec.ofBool ((BitVec.ofNat 32 k.val).slt c) == BitVec.ofBool (p.slt 4096#32)) = 1#1 := h3
  have of1 : ∀ x : Bool, BitVec.ofBool x = 1#1 → x = true := by decide
  have of2 : ∀ x y : Bool, (BitVec.ofBool x == BitVec.ofBool y) = true → x = y := by decide
  have k1 := of1 _ g1
  have k2 := of1 _ g2
  have k3 := of2 _ _ (of1 _ g3)
  have e0 : (0#32).toInt = 0 := rfl
  have e1 : (8192#32).toInt = 8192 := rfl
  have e2 : (4096#32).toInt = 4096 := rfl
  have e3 : (BitVec.ofNat 32 k.val).toInt = k.val := by
    rw [BitVec.toInt_eq_toNat_of_lt (by rw [BitVec.toNat_ofNat]; omega), BitVec.toNat_ofNat]; omega
  rw [BitVec.sle_eq_decide, decide_eq_true_eq, e0] at k1
  rw [BitVec.slt_eq_decide, decide_eq_true_eq, e1] at k2
  rw [BitVec.slt_eq_decide, BitVec.slt_eq_decide, e2, e3, decide_eq_decide] at k3
  have ep : p.toInt = p.toNat := by
    rw [BitVec.toInt_eq_toNat_cond] at k1 ⊢
    split at k1
    · rw [if_pos (by assumption)]
    · have := p.isLt; omega
  refine ⟨by omega, k3.trans ?_⟩
  rw [ep]; omega

theorem kept_at (h : Cert.Pre_kept.fn (F := Ideal) a0 a1 a2 a3 a4 a5 a6 a7 a8 a9 = fun _ => 1#1) (b : Fin 128) (k : Fin 192) :
    (a1 (ix2 b ⟨k.val, by omega⟩)).toNat < 8192 ∧ ((k.val : ℤ) < (a0 (ix2 ⟨b.val / 4, by omega⟩ ⟨b.val % 4, by omega⟩)).toInt ↔ (a1 (ix2 b ⟨k.val, by omega⟩)).toNat < 4096) := by
  have h0 := congrFun h (fun a => a.elim0)
  have h1 := Host.reduce_andi_all _ _ _ _ _ h0 (ix2 b k)
  refine parts _ _ k ?_
  rw [← h1]
  pointwise
end

end Cert.Sides
-- ==== Proof.RefTerms.lean ====
module

public import proofs.«01_k».proof.Proof.Gen.ReferenceIdeal.Run
public import proofs.«01_k».proof.Proof.Spec
public import Idealize.ShloMosaic.Lib.Pointwise

@[expose] public section

set_option maxRecDepth 16384
set_option pp.maxSteps 300

noncomputable section
namespace Cert.ReferenceIdeal.Hand
open Cert.ReferenceIdeal Cert.ReferenceIdeal.Gen
open Idealize.ShloMosaic

variable {F : FTy → Type} [FloatOps F]

/-! ## The reference's steps, each a function of the arrays before it -/

theorem slices_x (n : Fin 4) : S128x4x32x8192.Slices ![0, n.val, 0, 0] S128x1x32x8192 := by fin_cases n <;> decide
theorem slices_q (n : Fin 4) : S4x1024x64.Slices ![n.val, 0, 0] S1x1024x64 := by fin_cases n <;> decide
theorem slices_n (n : Fin 4) : S4x128x64.Slices ![n.val, 0, 0] S1x128x64 := by fin_cases n <;> decide

def posR (P : IVec S128x256 32) : IVec S128x1x192 32 :=
  broadcastInDim S128x1x192 ![0, 2] bcast_S128x192_S128x1x192_0_2 (extractStridedSlice S128x192 ![0, 0] P slices_S128x256_S128x192_0_0)
def idxR (P : IVec S128x256 32) : IVec S128x192x1 32 :=
  shapeCast _ (select (cmpi .slt (posR P) (broadcastInDim S128x1x192 ![] bcast_S_S128x1x192 (constantI S_ 32 0#32))) (addi (posR P) (broadcastInDim S128x1x192 ![] bcast_S_S128x1x192 (constantI S_ 32 8192#32))) (posR P)) shapeCasts_S128x1x192_S128x192x1
def gatR (n : Fin 4) (P : IVec S128x256 32) (X : IVec S128x4x32x8192 8) : IVec S128x32x192 8 :=
  Host.gather gather_S128x32x8192_S128x192x1_S128x32x192_1_2_0_0_2_2_1321 (shapeCast _ (extractStridedSlice S128x1x32x8192 ![0, n.val, 0, 0] X (slices_x n)) shapeCasts_S128x1x32x8192_S128x32x8192) (idxR P)
def loR (G : IVec S128x32x192 8) : FVec F S128x32x192 .bf16 :=
  sitofp .bf16 (subi (xori (andi (extui 32 G natLt_8_32) (broadcastInDim S128x32x192 ![] bcast_S_S128x32x192 (constantI S_ 32 15#32))) (broadcastInDim S128x32x192 ![] bcast_S_S128x32x192 (constantI S_ 32 8#32))) (broadcastInDim S128x32x192 ![] bcast_S_S128x32x192 (constantI S_ 32 8#32)))
def hiR (G : IVec S128x32x192 8) : FVec F S128x32x192 .bf16 :=
  sitofp .bf16 (subi (xori (Host.shrsi (extui 32 G natLt_8_32) (broadcastInDim S128x32x192 ![] bcast_S_S128x32x192 (constantI S_ 32 4#32))) (broadcastInDim S128x32x192 ![] bcast_S_S128x32x192 (constantI S_ 32 8#32))) (broadcastInDim S128x32x192 ![] bcast_S_S128x32x192 (constantI S_ 32 8#32)))
def qR (n : Fin 4) (q : FVec F S4x1024x64 .bf16) : FVec F S128x8x64 .bf16 :=
  shapeCast _ (shapeCast _ (extractStridedSlice S1x1024x64 ![n.val, 0, 0] q (slices_q n)) shapeCasts_S1x1024x64_S1024x64) shapeCasts_S1024x64_S128x8x64
def newR (n : Fin 4) (k : FVec F S4x128x64 .bf16) : FVec F S128x64 .bf16 :=
  shapeCast _ (extractStridedSlice S1x128x64 ![n.val, 0, 0] k (slices_n n)) shapeCasts_S1x128x64_S128x64
def keptR (X : FVec F S128x256 .f32) : FVec F S128x1x192 .f32 :=
  broadcastInDim S128x1x192 ![0, 2] bcast_S128x192_S128x1x192_0_2 (extractStridedSlice S128x192 ![0, 0] X slices_S128x256_S128x192_0_0)
def sR (q : FVec F S128x8x64 .bf16) (lo hi : FVec F S128x32x192 .bf16) (ks : FVec F S128x256 .f32) : FVec F S128x8x192 .f32 :=
  mulf (addf (Host.dotGeneral dot_S128x8x32_S128x32x192_S128x8x192_2_1_1_2_0_0 none (Host.slice S128x8x32 ![0, 0, 0] ![1, 1, 2] q slicesBy_S128x8x64_S128x8x32_0s1_0s1_0s2) lo) (Host.dotGeneral dot_S128x8x32_S128x32x192_S128x8x192_2_1_1_2_0_0 none (Host.slice S128x8x32 ![0, 0, 1] ![1, 1, 2] q slicesBy_S128x8x64_S128x8x32_0s1_0s1_1s2) hi)) (broadcastInDim S128x8x192 ![0, 1, 2] bcast_S128x1x192_S128x8x192_0_1_2 (mulf (keptR ks) (broadcastInDim S128x1x192 ![] bcast_S_S128x1x192 (constant S_ .f32 0x3E000000#32))))
def snR (q : FVec F S128x8x64 .bf16) (kn : FVec F S128x64 .bf16) : FVec F S128x8x1 .f32 :=
  mulf (broadcastInDim S128x8x1 ![0, 1] bcast_S128x8_S128x8x1_0_1 (Host.dotGeneral dot_S128x8x64_S128x64_S128x8_2_1_1_n_0_0 none q kn)) (broadcastInDim S128x8x1 ![] bcast_S_S128x8x1 (constant S_ .f32 0x3E000000#32))
def catR (a : FVec F S128x8x192 .f32) (b : FVec F S128x8x1 .f32) : FVec F S128x8x193 .f32 :=
  concatenate S128x8x193 2 [⟨S128x8x192, a⟩, ⟨S128x8x1, b⟩] concatenates_S128x8x192_S128x8x1_S128x8x193_d2
def topR (c : FVec F S128x8x193 .f32) : FVec F S128x8x1 .f32 :=
  broadcastInDim S128x8x1 ![0, 1] bcast_S128x8_S128x8x1_0_1 (maximumf (broadcastInDim S128x8 ![] bcast_S_S128x8 (constant S_ .f32 0xFF800000#32)) (Host.reduce FloatOps.maximumf c (constant S_ .f32 0xFF800000#32) reducesTo_S128x8x193_S128x8_d2 h_S_))
def eR (c : FVec F S128x8x193 .f32) (t : FVec F S128x8x1 .f32) : FVec F S128x8x193 .f32 :=
  Host.exp (subf c (broadcastInDim S128x8x193 ![0, 1, 2] bcast_S128x8x1_S128x8x193_0_1_2 t))
def pR (e : FVec F S128x8x193 .f32) : FVec F S128x8x193 .f32 :=
  Host.divf e (broadcastInDim S128x8x193 ![0, 1, 2] bcast_S128x8x1_S128x8x193_0_1_2 (broadcastInDim S128x8x1 ![0, 1] bcast_S128x8_S128x8x1_0_1 (Host.reduceAdd e (constant S_ .f32 0x00000000#32) reducesTo_S128x8x193_S128x8_d2 h_S_)))
def scoreR (ss : FVec F S128x256 .f32) (p : FVec F S128x8x193 .f32) : FVec F S4x192x128 .f32 :=
  broadcastInDim S4x192x128 ![0, 1, 2] bcast_S1x192x128_S4x192x128_0_1_2 (broadcastInDim S1x192x128 ![1, 2] bcast_S192x128_S1x192x128_1_2 (transpose S192x128 [1, 0] (addf (extractStridedSlice S128x192 ![0, 0] ss slices_S128x256_S128x192_0_0) (Host.reduceAdd (extractStridedSlice S128x8x192 ![0, 0, 0] p slices_S128x8x193_S128x8x192_0_0_0) (constant S_ .f32 0x00000000#32) reducesTo_S128x8x192_S128x192_d1 h_S_)) transposes_S128x192_S192x128_1_0))
def pvR (p : FVec F S128x8x193 .f32) (vs : FVec F S128x256 .f32) : FVec F S128x8x192 .bf16 :=
  truncf .bf16 (mulf (extractStridedSlice S128x8x192 ![0, 0, 0] p slices_S128x8x193_S128x8x192_0_0_0) (broadcastInDim S128x8x192 ![0, 1, 2] bcast_S128x1x192_S128x8x192_0_1_2 (keptR vs))) bitsLt_bf16_f32
def halfR (a : FVec F S128x8x192 .bf16) (b : FVec F S128x32x192 .bf16) : FVec F S128x8x32x1 .f32 :=
  broadcastInDim S128x8x32x1 ![0, 1, 2] bcast_S128x8x32_S128x8x32x1_0_1_2 (Host.dotGeneral dot_S128x8x192_S128x32x192_S128x8x32_2_2_1_1_0_0 none a b)
def onR (p : FVec F S128x8x193 .f32) (vn : FVec F S128x64 .bf16) : FVec F S128x8x64 .f32 :=
  mulf (broadcastInDim S128x8x64 ![0, 1, 2] bcast_S128x8x1_S128x8x64_0_1_2 (extf .f32 (truncf .bf16 (extractStridedSlice S128x8x1 ![0, 0, 192] p slices_S128x8x193_S128x8x1_0_0_192) bitsLt_bf16_f32) bitsLt_bf16_f32)) (broadcastInDim S128x8x64 ![0, 1, 2] bcast_S128x1x64_S128x8x64_0_1_2 (extf .f32 (broadcastInDim S128x1x64 ![0, 2] bcast_S128x64_S128x1x64_0_2 vn) bitsLt_bf16_f32))
def okR (a b : FVec F S128x8x32x1 .f32) : FVec F S128x8x64 .f32 :=
  shapeCast _ (concatenate S128x8x32x2 3 [⟨S128x8x32x1, a⟩, ⟨S128x8x32x1, b⟩] concatenates_S128x8x32x1_S128x8x32x1_S128x8x32x2_d3) shapeCasts_S128x8x32x2_S128x8x64
def outR (a b : FVec F S128x8x64 .f32) : FVec F S128x2048 .bf16 :=
  shapeCast _ (broadcastInDim S128x4x8x64 ![0, 1, 2, 3] bcast_S128x1x8x64_S128x4x8x64_0_1_2_3 (broadcastInDim S128x1x8x64 ![0, 2, 3] bcast_S128x8x64_S128x1x8x64_0_2_3 (truncf .bf16 (addf a b) bitsLt_bf16_f32))) shapeCasts_S128x4x8x64_S128x2048
def koR (G : IVec S128x32x192 8) : IVec S192x4x32x128 8 :=
  broadcastInDim S192x4x32x128 ![0, 1, 2, 3] bcast_S192x1x32x128_S192x4x32x128_0_1_2_3 (broadcastInDim S192x1x32x128 ![0, 2, 3] bcast_S192x32x128_S192x1x32x128_0_2_3 (transpose S192x32x128 [2, 1, 0] G transposes_S128x32x192_S192x32x128_2_1_0))

/-- The arrays the attention of a head reads. -/
structure Arrs (F : FTy → Type) [FloatOps F] where
  P : IVec S128x256 32
  ks : FVec F S128x256 .f32
  vs : FVec F S128x256 .f32
  ss : FVec F S128x256 .f32
  q : FVec F S4x1024x64 .bf16
  kn : FVec F S4x128x64 .bf16
  vn : FVec F S4x128x64 .bf16
  kt : IVec S128x4x32x8192 8
  vt : IVec S128x4x32x8192 8

section
variable (n : Fin 4) (A : Arrs F)

def sM : FVec F S128x8x192 .f32 := sR (qR n A.q) (loR (gatR n A.P A.kt)) (hiR (gatR n A.P A.kt)) A.ks
def snM : FVec F S128x8x1 .f32 := snR (qR n A.q) (newR n A.kn)
def pM : FVec F S128x8x193 .f32 := pR (eR (catR (sM n A) (snM n A)) (topR (catR (sM n A) (snM n A))))
def scoreM : FVec F S4x192x128 .f32 := scoreR A.ss (pM n A)
def outM : FVec F S128x2048 .bf16 := outR
  (okR (halfR (pvR (pM n A) A.vs) (loR (gatR n A.P A.vt))) (halfR (pvR (pM n A) A.vs) (hiR (gatR n A.P A.vt)))) (onR (pM n A) (newR n A.vn))
end

/-- The reference of the first head is these steps at head 0. -/
def arrs (m : (ℓ : Loc nD τ sig) → Buf (Elt F) ℓ) (c : Dev nD) : Arrs F :=
  ⟨m ((c.tc : Thread nD τ).loc main_arg1), m ((c.tc : Thread nD τ).loc main_arg2), m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8), m ((c.tc : Thread nD τ).loc main_arg9)⟩

theorem score_eq (m : (ℓ : Loc nD τ sig) → Buf (Elt F) ℓ) (c : Dev nD) : Value.res_main_v108 m c = scoreM 0 (arrs m c) := rfl
theorem out_eq (m : (ℓ : Loc nD τ sig) → Buf (Elt F) ℓ) (c : Dev nD) : Value.res_main_v99 m c = outM 0 (arrs m c) := rfl

end Cert.ReferenceIdeal.Hand
-- ==== Proof.RefValue.lean ====
module

public import proofs.«01_k».proof.Proof.RefTerms

@[expose] public section

set_option maxRecDepth 16384
set_option pp.maxSteps 300

noncomputable section
namespace Cert.ReferenceIdeal.Hand
open Cert.ReferenceIdeal Cert.ReferenceIdeal.Gen
open Idealize.ShloMosaic

theorem posR_at (P : IVec S128x256 32) (b : Fin 128) (k : Fin 192) : posR P (ix3 b 0 k) = P (ix2 b ⟨k.val, by omega⟩) := by
  pointwise [posR]
theorem idxR_at (P : IVec S128x256 32) (b : Fin 128) (k : Fin 192) : idxR P (ix3 b k 0) =
   Scalar.select (IntOp.cmpi .slt (posR P (ix3 b 0 k)) 0#32) (IntOp.addi (posR P (ix3 b 0 k)) 8192#32) (posR P (ix3 b 0 k)) := by
  pointwise [idxR]
theorem shr4 : ∀ b : BitVec 8, IntOp.shrsi ArithUnit.host (BitVec.setWidth 32 b) 4#32 = (b.setWidth 32) >>> 4 := by
  decide +kernel
theorem loR_at (G : IVec S128x32x192 8) (b : Fin 128) (cc : Fin 32) (k : Fin 192) : (loR G : FVec Ideal S128x32x192 .bf16) (ix3 b cc k) =
   FloatOps.sitofp .bf16 (Cert.Spec.nib (G (ix3 b cc k)) 0) := by
  pointwise [loR]
  rfl
theorem hiR_at (G : IVec S128x32x192 8) (b : Fin 128) (cc : Fin 32) (k : Fin 192) : (hiR G : FVec Ideal S128x32x192 .bf16) (ix3 b cc k) =
   FloatOps.sitofp .bf16 (Cert.Spec.nib (G (ix3 b cc k)) 1) := by
  pointwise [hiR]
  rw [shr4]; rfl
theorem qR_at (n : Fin 4) (q : FVec Ideal S4x1024x64 .bf16) (b : Fin 128) (g : Fin 8) (d : Fin 64) : qR n q (ix3 b g d) = q (ix3 n ⟨b.val * 8 + g.val, by omega⟩ d) := by
  pointwise [qR]
theorem newR_at (n : Fin 4) (q : FVec Ideal S4x128x64 .bf16) (b : Fin 128) (d : Fin 64) : newR n q (ix2 b d) = q (ix3 n b d) := by
  pointwise [newR]
theorem keptR_at (X : FVec Ideal S128x256 .f32) (b : Fin 128) (k : Fin 192) : keptR X (ix3 b 0 k) = X (ix2 b ⟨k.val, by omega⟩) := by
  pointwise [keptR]
theorem sR_at (q : FVec Ideal S128x8x64 .bf16) (lo hi : FVec Ideal S128x32x192 .bf16) (ks : FVec Ideal S128x256 .f32) (b : Fin 128) (g : Fin 8) (k : Fin 192) :
    sR q lo hi ks (ix3 b g k) = (∑ x : Fin 32, q (ix3 b g ⟨2 * x.val, by omega⟩) * lo (ix3 b x k) + ∑ x : Fin 32, q (ix3 b g ⟨1 + 2 * x.val, by omega⟩) * hi (ix3 b x k))
      * (ks (ix2 b ⟨k.val, by omega⟩) * Cert.Spec.c8) := by
  have e := keptR_at ks b k
  rw [← e]
  pointwise [sR, Cert.Spec.c8]
theorem snR_at (q : FVec Ideal S128x8x64 .bf16) (kn : FVec Ideal S128x64 .bf16) (b : Fin 128) (g : Fin 8) :
    snR q kn (ix3 b g 0) = (∑ d, q (ix3 b g d) * kn (ix2 b d)) * Cert.Spec.c8 := by
  pointwise [snR, Cert.Spec.c8]
theorem catR_at (x : FVec Ideal S128x8x192 .f32) (y : FVec Ideal S128x8x1 .f32) (b : Fin 128) (g : Fin 8) (k : Fin 193) :
    catR x y (ix3 b g k) = if h : k.val < 192 then x (ix3 b g ⟨k.val, h⟩) else y (ix3 b g 0) := by
  pointwise [catR]
  split
  · rfl
  · congr 2; exact Subsingleton.elim (α := Fin 1) _ _
theorem topR_at (c : FVec Ideal S128x8x193 .f32) (b : Fin 128) (g : Fin 8) : topR c (ix3 b g 0) = max Cert.Spec.ninf (Finset.fold max Cert.Spec.ninf (fun k => c (ix3 b g k)) Finset.univ) := by
  pointwise [topR, Cert.Spec.ninf]
theorem eR_at (c : FVec Ideal S128x8x193 .f32) (t : FVec Ideal S128x8x1 .f32) (b : Fin 128) (g : Fin 8) (k : Fin 193) : eR c t (ix3 b g k) = Ideal.exp (c (ix3 b g k) - t (ix3 b g 0)) := by
  pointwise [eR]
theorem pR_at (e : FVec Ideal S128x8x193 .f32) (b : Fin 128) (g : Fin 8) (k : Fin 193) : pR e (ix3 b g k) = Ideal.div (e (ix3 b g k)) (∑ x, e (ix3 b g x)) := by
  pointwise [pR]
theorem scoreR_at (n : Fin 4) (ss : FVec Ideal S128x256 .f32) (p : FVec Ideal S128x8x193 .f32) (b : Fin 128) (k : Fin 192) :
    scoreR ss p (ix3 n k b) = ss (ix2 b ⟨k.val, by omega⟩) + ∑ g, p (ix3 b g ⟨k.val, by omega⟩) := by
  pointwise [scoreR]
theorem pvR_at (p : FVec Ideal S128x8x193 .f32) (vs : FVec Ideal S128x256 .f32) (b : Fin 128) (g : Fin 8) (k : Fin 192) :
    pvR p vs (ix3 b g k) = p (ix3 b g ⟨k.val, by omega⟩) * vs (ix2 b ⟨k.val, by omega⟩) := by
  pointwise [pvR, keptR]
theorem halfR_at (x : FVec Ideal S128x8x192 .bf16) (y : FVec Ideal S128x32x192 .bf16) (b : Fin 128) (g : Fin 8) (cc : Fin 32) :
    halfR x y (ix4 b g cc 0) = ∑ k, x (ix3 b g k) * y (ix3 b cc k) := by
  pointwise [halfR]
theorem onR_at (p : FVec Ideal S128x8x193 .f32) (vn : FVec Ideal S128x64 .bf16) (b : Fin 128) (g : Fin 8) (d : Fin 64) :
    onR p vn (ix3 b g d) = p (ix3 b g 192) * vn (ix2 b d) := by
  pointwise [onR]
theorem okR_at (x y : FVec Ideal S128x8x32x1 .f32) (b : Fin 128) (g : Fin 8) (d : Fin 64) :
    okR x y (ix3 b g d) = if d.val % 2 < 1 then x (ix4 b g ⟨d.val / 2, by omega⟩ 0) else y (ix4 b g ⟨d.val / 2, by omega⟩ 0) := by
  pointwise [okR]
  split
  · congr 2; exact Subsingleton.elim (α := Fin 1) _ _
  · congr 2; exact Subsingleton.elim (α := Fin 1) _ _
theorem outR_at (n : Fin 4) (x y : FVec Ideal S128x8x64 .f32) (b : Fin 128) (j : Fin 512) :
    outR x y (ix2 b ⟨512 * n.val + j.val, by omega⟩) = x (ix3 b ⟨j.val / 64, by omega⟩ ⟨j.val % 64, by omega⟩) + y (ix3 b ⟨j.val / 64, by omega⟩ ⟨j.val % 64, by omega⟩) := by
  pointwise [outR]
  have e : (⟨(512 * n.val + j.val) / 64 % 8, by omega⟩ : Fin 8) = ⟨j.val / 64, by omega⟩ := Fin.ext (by show (512 * n.val + j.val) / 64 % 8 = j.val / 64; omega)
  rw [e]
  have e2 : (⟨(512 * n.val + j.val) % 64, by omega⟩ : Fin 64) = ⟨j.val % 64, by omega⟩ := Fin.ext (by show (512 * n.val + j.val) % 64 = j.val % 64; omega)
  rw [e2]
theorem koR_at (n : Fin 4) (G : IVec S128x32x192 8) (k : Fin 192) (cc : Fin 32) (b : Fin 128) : koR G (ix4 k n cc b) = G (ix3 b cc k) := by
  pointwise [koR]
theorem gather_at (x : IVec S128x32x8192 8) (idx : IVec S128x192x1 32) (b : Fin 128) (cc : Fin 32) (k : Fin 192) :
    Host.gather gather_S128x32x8192_S128x192x1_S128x32x192_1_2_0_0_2_2_1321 x idx (ix3 b cc k)
      = x (ix3 b cc ⟨min (idx (ix3 b k 0)).toInt.toNat 8191, by omega⟩) := by
  unfold Host.gather
  congr 1
  funext a
  refine Fin.ext ?_
  show GatherDims.start _ _ _ a + GatherDims.batchCoord _ _ a + GatherDims.offCoord _ _ a = _
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide)]
    have h0 : GatherDims.start gather_S128x32x8192_S128x192x1_S128x32x192_1_2_0_0_2_2_1321 (ix3 b cc k) idx 1 = 0 := by
      unfold GatherDims.start
      rw [dif_neg (by decide)]
    rw [h0]
    simp only [Nat.zero_add]
    unfold GatherDims.offCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : GatherDims.siIdx gather_S128x32x8192_S128x192x1_S128x32x192_1_2_0_0_2_2_1321 (ix3 b cc k) ⟨List.idxOf (2 : Fin 3) (GatherDims.startIndexMap gather_S128x32x8192_S128x192x1_S128x32x192_1_2_0_0_2_2_1321),
        List.idxOf_lt_length_iff.2 (by decide)⟩ = ix3 b k 0 := by
      funext b; refine Fin.ext ?_
      match b with
      | ⟨0, _⟩ => rfl
      | ⟨1, _⟩ => rfl
      | ⟨2, _⟩ => rfl
    rw [hsi]
    rfl

theorem head_at (n : Fin 4) (X : IVec S128x4x32x8192 8) (b : Fin 128) (cc : Fin 32) (p : Fin 8192) :
    (shapeCast _ (extractStridedSlice S128x1x32x8192 ![0, n.val, 0, 0] X (slices_x n)) shapeCasts_S128x1x32x8192_S128x32x8192 : IVec S128x32x8192 8) (ix3 b cc p)
      = X (ix4 b n cc p) := by
  pointwise

theorem gatR_at (n : Fin 4) (P : IVec S128x256 32) (X : IVec S128x4x32x8192 8) (b : Fin 128) (cc : Fin 32) (k : Fin 192) (hp : (P (ix2 b ⟨k.val, by omega⟩)).toNat < 8192) :
    gatR n P X (ix3 b cc k) = X (ix4 b n cc (Cert.Spec.col (P (ix2 b ⟨k.val, by omega⟩)))) := by
  unfold gatR
  rw [gather_at, head_at]
  congr 2
  apply Fin.ext
  show min (idxR P (ix3 b k 0)).toInt.toNat 8191 = (P (ix2 b ⟨k.val, by omega⟩)).toNat % 8192
  rw [idxR_at, posR_at]
  generalize P (ix2 b ⟨k.val, by omega⟩) = p at hp ⊢
  have e : p.toInt = p.toNat := BitVec.toInt_eq_toNat_of_lt (by omega)
  have hs : IntOp.cmpi .slt p 0#32 = 0#1 := by
    show BitVec.ofBool (p.slt 0#32) = 0#1
    rw [BitVec.slt_eq_decide, e]
    have : ¬ ((p.toNat : ℤ) < (0#32 : BitVec 32).toInt) := by show ¬ ((p.toNat : ℤ) < 0); omega
    rw [decide_eq_false this]; rfl
  rw [hs]
  show min p.toInt.toNat 8191 = _
  rw [e]
  omega

/-! ## The reference is the attention -/

section
variable (n : Fin 4) (A : Arrs Ideal) (b : Fin 128)

def rowM : Cert.Spec.Row := Cert.Spec.rowAt n A.P A.ks A.vs A.ss
  A.q A.kn A.vn A.kt A.vt b

variable (hp : ∀ k : Fin 192, (A.P (ix2 b ⟨k.val, by omega⟩)).toNat < 8192)
include hp

theorem gatK (cc : Fin 32) (k : Fin 192) : gatR n A.P A.kt (ix3 b cc k) = (rowM n A b).K k cc := gatR_at n _ _ b cc k (hp k)
theorem gatV (cc : Fin 32) (k : Fin 192) : gatR n A.P A.vt (ix3 b cc k) = (rowM n A b).V k cc := gatR_at n _ _ b cc k (hp k)

omit hp in
theorem code_even (f : Fin 32 → BitVec 8) (x : Fin 32) : Cert.Spec.code f ⟨2 * x.val, by omega⟩ = FloatOps.sitofp (F := Ideal) .bf16 (Cert.Spec.nib (f x) 0) := by
  unfold Cert.Spec.code
  have e1 : (⟨2 * x.val / 2, by omega⟩ : Fin 32) = x := Fin.ext (by show 2 * x.val / 2 = _; omega)
  have e2 : (⟨2 * x.val % 2, by omega⟩ : Fin 2) = 0 := Fin.ext (by show 2 * x.val % 2 = 0; omega)
  show FloatOps.sitofp (F := Ideal) .bf16 (Cert.Spec.nib (f ⟨2 * x.val / 2, _⟩) ⟨2 * x.val % 2, _⟩) = _
  rw [e1, e2]
omit hp in
theorem code_odd (f : Fin 32 → BitVec 8) (x : Fin 32) : Cert.Spec.code f ⟨1 + 2 * x.val, by omega⟩ = FloatOps.sitofp (F := Ideal) .bf16 (Cert.Spec.nib (f x) 1) := by
  unfold Cert.Spec.code
  have e1 : (⟨(1 + 2 * x.val) / 2, by omega⟩ : Fin 32) = x := Fin.ext (by show (1 + 2 * x.val) / 2 = _; omega)
  have e2 : (⟨(1 + 2 * x.val) % 2, by omega⟩ : Fin 2) = 1 := Fin.ext (by show (1 + 2 * x.val) % 2 = 1; omega)
  show FloatOps.sitofp (F := Ideal) .bf16 (Cert.Spec.nib (f ⟨(1 + 2 * x.val) / 2, _⟩) ⟨(1 + 2 * x.val) % 2, _⟩) = _
  rw [e1, e2]

theorem s_ref (g : Fin 8) (k : Fin 192) : sM n A (ix3 b g k) = Cert.Spec.s (rowM n A b) g k := by
  unfold sM Cert.Spec.s
  rw [sR_at, Cert.Spec.sum_halves]
  simp only [code_even, code_odd, qR_at, loR_at, hiR_at, gatK n A b hp]
  rfl
omit hp in
theorem sn_ref (g : Fin 8) : snM n A (ix3 b g 0) = Cert.Spec.sn (rowM n A b) g := by
  unfold snM Cert.Spec.sn
  rw [snR_at]
  simp only [qR_at, newR_at]
  rfl
theorem cat_kept (g : Fin 8) (k : Fin 192) : catR (sM n A) (snM n A) (ix3 b g ⟨k.val, by omega⟩) = Cert.Spec.s (rowM n A b) g k := by
  rw [catR_at, dif_pos k.isLt]
  exact s_ref n A b hp g k
omit hp in
theorem cat_new (g : Fin 8) : catR (sM n A) (snM n A) (ix3 b g 192) = Cert.Spec.sn (rowM n A b) g := by
  rw [catR_at, dif_neg (by decide)]
  exact sn_ref n A b g
theorem top_ref (g : Fin 8) : topR (catR (sM n A) (snM n A)) (ix3 b g 0) = Cert.Spec.top (rowM n A b) g := by
  rw [topR_at, Cert.Spec.max_last, cat_new]
  simp only [cat_kept n A b hp]
  rfl
theorem p_ref (g : Fin 8) (k : Fin 192) : pM n A (ix3 b g ⟨k.val, by omega⟩) = Cert.Spec.p (rowM n A b) g k := by
  unfold pM
  rw [pR_at, Cert.Spec.sum_last]
  simp only [eR_at, top_ref n A b hp, cat_kept n A b hp, cat_new]
  rfl
theorem pn_ref (g : Fin 8) : pM n A (ix3 b g 192) = Cert.Spec.pn (rowM n A b) g := by
  unfold pM
  rw [pR_at, Cert.Spec.sum_last]
  simp only [eR_at, top_ref n A b hp, cat_kept n A b hp, cat_new]
  rfl
theorem score_ref (k : Fin 192) : scoreM n A (ix3 n k b) = Cert.Spec.score (rowM n A b) k := by
  rw [scoreM, scoreR_at]
  simp only [p_ref n A b hp]
  rfl
theorem out_ref (j : Fin 512) : outM n A (ix2 b ⟨512 * n.val + j.val, by omega⟩) = Cert.Spec.out (rowM n A b) ⟨j.val / 64, by omega⟩ ⟨j.val % 64, by omega⟩ := by
  rw [outM, outR_at, onR_at, okR_at, pn_ref n A b hp, newR_at]
  unfold Cert.Spec.out
  congr 1
  by_cases h : j.val % 2 = 0
  · rw [if_pos (by show j.val % 64 % 2 < 1; omega), halfR_at]
    refine Finset.sum_congr rfl fun k _ => ?_
    rw [pvR_at, p_ref n A b hp, loR_at, gatV n A b hp, ← code_even]
    have e : (⟨2 * (j.val % 64 / 2), by omega⟩ : Fin 64) = ⟨j.val % 64, by omega⟩ := Fin.ext (by show 2 * (j.val % 64 / 2) = j.val % 64; omega)
    rw [e]; rfl
  · rw [if_neg (by show ¬ j.val % 64 % 2 < 1; omega), halfR_at]
    refine Finset.sum_congr rfl fun k _ => ?_
    rw [pvR_at, p_ref n A b hp, hiR_at, gatV n A b hp, ← code_odd]
    have e : (⟨1 + 2 * (j.val % 64 / 2), by omega⟩ : Fin 64) = ⟨j.val % 64, by omega⟩ := Fin.ext (by show 1 + 2 * (j.val % 64 / 2) = j.val % 64; omega)
    rw [e]; rfl

end

end Cert.ReferenceIdeal.Hand
-- ==== Proof.Meet.lean ====
module

public import proofs.«01_k».proof.Proof.RefValue

@[expose] public section

noncomputable section
namespace Cert.Meet
open Idealize.ShloMosaic
open Cert.ReferenceIdeal.Hand (Arrs outM scoreM koR gatR koR_at gatK gatV out_ref score_ref)

/-! ## The two programs meet, at any head

The kernel and the reference read the same arguments, so they speak of the same rows; on the mask both give the row's attention. -/

/-- The blocks of head `n` hold the attention of the rows `R`. -/
structure Gives (n : Fin 4) (R : Fin 128 → Cert.Spec.Row) (o : Vec Ideal ⟨2, ![128, 2048]⟩ .bf16) (ko vo : Vec Ideal ⟨4, ![192, 4, 32, 128]⟩ .i8)
    (so : Vec Ideal ⟨3, ![4, 192, 128]⟩ .f32) : Prop where
  out : ∀ (b : Fin 128) (j : Fin 512), o (ix2 b ⟨512 * n.val + j.val, by omega⟩) = Cert.Spec.out (R b) ⟨j.val / 64, by omega⟩ ⟨j.val % 64, by omega⟩
  k : ∀ (k : Fin 192) (cc : Fin 32) (b : Fin 128), ko (ix4 k n cc b) = (R b).K k cc
  v : ∀ (k : Fin 192) (cc : Fin 32) (b : Fin 128), vo (ix4 k n cc b) = (R b).V k cc
  score : ∀ (k : Fin 192) (b : Fin 128), so (ix3 n k b) = Cert.Spec.score (R b) k

theorem idx2 (i : (⟨2, ![128, 2048]⟩ : Shape).Idx) : ∃ (b : Fin 128) (j : Fin 2048), i = ix2 b j := ⟨i 0, i 1, by funext a; fin_cases a <;> rfl⟩
theorem idx3 (i : (⟨3, ![4, 192, 128]⟩ : Shape).Idx) : ∃ (n : Fin 4) (k : Fin 192) (b : Fin 128), i = ix3 n k b := ⟨i 0, i 1, i 2, by funext a; fin_cases a <;> rfl⟩
theorem idx4 (i : (⟨4, ![192, 4, 32, 128]⟩ : Shape).Idx) : ∃ (k : Fin 192) (n : Fin 4) (cc : Fin 32) (b : Fin 128), i = ix4 k n cc b :=
  ⟨i 0, i 1, i 2, i 3, by funext a; fin_cases a <;> rfl⟩

theorem row_eq (n : Fin 4) (A A' : Cert.ReferenceIdeal.Hand.Arrs Ideal) (b : Fin 128) (h1 : A.P = A'.P) (h2 : A.ks = A'.ks) (h3 : A.vs = A'.vs) (h4 : A.ss = A'.ss) (h5 : A.q = A'.q)
    (h6 : A.kn = A'.kn) (h7 : A.vn = A'.vn) (h8 : A.kt = A'.kt) (h9 : A.vt = A'.vt) : Cert.ReferenceIdeal.Hand.rowM n A b = Cert.ReferenceIdeal.Hand.rowM n A' b := by
  obtain ⟨⟩ := A; obtain ⟨⟩ := A'
  subst h1 h2 h3 h4 h5 h6 h7 h8 h9
  rfl

theorem col_lt (n : Fin 4) (j : Fin 512) : 512 * n.val + j.val < 2048 := by omega

theorem meets {n : Fin 4} {R : Fin 128 → Cert.Spec.Row} {o : Vec Ideal ⟨2, ![128, 2048]⟩ .bf16} {ko vo : Vec Ideal ⟨4, ![192, 4, 32, 128]⟩ .i8} {so : Vec Ideal ⟨3, ![4, 192, 128]⟩ .f32}
    (G : Gives n R o ko vo so) (A : Arrs Ideal) (er : ∀ b, Cert.ReferenceIdeal.Hand.rowM n A b = R b) (ep : ∀ (b : Fin 128) (k : Fin 192), (A.P (ix2 b ⟨k.val, by omega⟩)).toNat < 8192)
    {M0 : IVec ⟨2, ![128, 2048]⟩ 1} {M1 M2 : IVec ⟨4, ![192, 4, 32, 128]⟩ 1} {M3 : IVec ⟨3, ![4, 192, 128]⟩ 1}
    (h0 : ∀ b j, M0 (ix2 b j) = 1#1 → 512 * n.val ≤ j.val ∧ j.val < 512 * n.val + 512) (h1 : ∀ k n' cc b, M1 (ix4 k n' cc b) = 1#1 → n' = n)
    (h2 : ∀ k n' cc b, M2 (ix4 k n' cc b) = 1#1 → n' = n) (h3 : ∀ n' k b, M3 (ix3 n' k b) = 1#1 → n' = n) :
    (∀ i, M0 i = 1#1 → o i = outM n A i) ∧ (∀ i, M1 i = 1#1 → ko i = koR (gatR n A.P A.kt) i) ∧ (∀ i, M2 i = 1#1 → vo i = koR (gatR n A.P A.vt) i) ∧ (∀ i, M3 i = 1#1 → so i = scoreM n A i) := by
  obtain ⟨o0, o1, o2, o3⟩ := G
  refine ⟨?_, ?_, ?_, ?_⟩
  · intro i hi
    obtain ⟨b, j, rfl⟩ := idx2 i
    obtain ⟨hl, hu⟩ := h0 b j hi
    obtain ⟨j', rfl⟩ : ∃ j' : Fin 512, j = ⟨512 * n.val + j'.val, col_lt n j'⟩ := ⟨⟨j.val - 512 * n.val, by omega⟩, Fin.ext (by show j.val = 512 * n.val + (j.val - 512 * n.val); omega)⟩
    exact (o0 b j').trans ((congrArg (fun R => Cert.Spec.out R ⟨j'.val / 64, by omega⟩ ⟨j'.val % 64, by omega⟩) (er b)).symm.trans (out_ref n A b (ep b) j').symm)
  · intro i hi
    obtain ⟨k, n', cc, b, rfl⟩ := idx4 i
    obtain rfl := h1 k n' cc b hi
    exact (o1 k cc b).trans ((congrArg (fun R : Cert.Spec.Row => R.K k cc) (er b)).symm.trans ((koR_at _ _ k cc b).trans (gatK _ A b (ep b) cc k)).symm)
  · intro i hi
    obtain ⟨k, n', cc, b, rfl⟩ := idx4 i
    obtain rfl := h2 k n' cc b hi
    exact (o2 k cc b).trans ((congrArg (fun R : Cert.Spec.Row => R.V k cc) (er b)).symm.trans ((koR_at _ _ k cc b).trans (gatV _ A b (ep b) cc k)).symm)
  · intro i hi
    obtain ⟨n', k, b, rfl⟩ := idx3 i
    obtain rfl := h3 n' k b hi
    exact (o3 k b).trans ((congrArg (fun R => Cert.Spec.score R k) (er b)).symm.trans (score_ref _ A b (ep b) k).symm)

end Cert.Meet
-- ==== Proof.Value.lean ====
module

public import proofs.«01_k».proof.Defs
public import proofs.«01_k».proof.Proof.Sides
public import proofs.«01_k».proof.Proof.Moved
public import proofs.«01_k».proof.Proof.Meet
public import Idealize.ShloMosaic.Lib.Claim
public import Idealize.ShloMosaic.Lib.Quiescent

@[expose] public section

noncomputable section
namespace Cert.Value
open Idealize.ShloMosaic Idealize.SL.Sem
open Cert.Meet (row_eq meets)

/-! ## The two programs meet

The kernel and the reference read the same arguments, so they speak of the same rows; on the mask both give the row's attention. -/

instance : Cert.KernelIdeal.Facts := Cert.KernelIdeal.Gen.facts
instance : Cert.ReferenceIdeal.Facts := Cert.ReferenceIdeal.Gen.facts
instance : Cert.Pre_kept.Facts := Cert.Pre_kept.Gen.facts
instance : Cert.On_head.Facts := Cert.On_head.Gen.facts

theorem kept_of (m : (ℓ : Loc Cert.KernelIdeal.nD Cert.KernelIdeal.τ Cert.KernelIdeal.sig) → Buf (Elt Ideal) ℓ) (h : Pre_KernelIdeal_kept m) : Cert.Kernel.Hand.Kept m :=
  ⟨fun c b k => (Cert.Sides.kept_at _ _ _ _ _ _ _ _ _ _ (h c) b k).1, fun c b k => (Cert.Sides.kept_at _ _ _ _ _ _ _ _ _ _ (h c) b k).2⟩

/-- The reference writes no argument, and declares no semaphore. -/
theorem frame_ref : quiescent_ReferenceIdeal := fun m g _ =>
  (θ_run _ _ _).mono (fun r h => ⟨fun c => (h c).2.2.2.2, Idealize.ShloMosaic.sem_eq_zero_of_no_sems (by decide) r.2⟩) (Cert.ReferenceIdeal.Value.run m g)

theorem algebraic : algebraic_KernelIdeal_ReferenceIdeal_on_head_pre_kept := by
  intro m g m' g' hp hm
  have K := kept_of m hp
  have er : ∀ c b, Cert.ReferenceIdeal.Hand.rowM 0 (Cert.ReferenceIdeal.Hand.arrs m' c) b = Cert.Kernel.Hand.rowM m c b := by
    intro c b
    obtain ⟨-, h1, h2, h3, h4, h5, h6, h7, h8, h9⟩ := hm c
    exact row_eq 0 (Cert.ReferenceIdeal.Hand.arrs m' c)
      ⟨m ((c.tc : Thread Cert.KernelIdeal.nD Cert.KernelIdeal.τ).loc Cert.KernelIdeal.main_arg1), m ((c.tc : Thread Cert.KernelIdeal.nD Cert.KernelIdeal.τ).loc Cert.KernelIdeal.main_arg2), m ((c.tc : Thread Cert.KernelIdeal.nD Cert.KernelIdeal.τ).loc Cert.KernelIdeal.main_arg3), m ((c.tc : Thread Cert.KernelIdeal.nD Cert.KernelIdeal.τ).loc Cert.KernelIdeal.main_arg4), m ((c.tc : Thread Cert.KernelIdeal.nD Cert.KernelIdeal.τ).loc Cert.KernelIdeal.main_arg5), m ((c.tc : Thread Cert.KernelIdeal.nD Cert.KernelIdeal.τ).loc Cert.KernelIdeal.main_arg6), m ((c.tc : Thread Cert.KernelIdeal.nD Cert.KernelIdeal.τ).loc Cert.KernelIdeal.main_arg7), m ((c.tc : Thread Cert.KernelIdeal.nD Cert.KernelIdeal.τ).loc Cert.KernelIdeal.main_arg8), m ((c.tc : Thread Cert.KernelIdeal.nD Cert.KernelIdeal.τ).loc Cert.KernelIdeal.main_arg9)⟩ b h1 h2 h3 h4 h5 h6 h7 h8 h9
  have ep : ∀ (c : Dev Cert.ReferenceIdeal.nD) (b : Fin 128) (k : Fin 192), ((m' ((c.tc : Thread Cert.ReferenceIdeal.nD Cert.ReferenceIdeal.τ).loc Cert.ReferenceIdeal.main_arg1) : IVec ⟨2, ![128, 256]⟩ 32) (ix2 b ⟨k.val, by omega⟩)).toNat < 8192 := by
    intro c b k
    have := K.pos c b k
    rw [(hm c).2.1]
    exact this
  refine ⟨fun c => Cert.ReferenceIdeal.Value.res_main_v99 m' c,
    fun c => Cert.ReferenceIdeal.Hand.koR (Cert.ReferenceIdeal.Hand.gatR 0 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg8))),
    fun c => Cert.ReferenceIdeal.Hand.koR (Cert.ReferenceIdeal.Hand.gatR 0 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg9))),
    fun c => Cert.ReferenceIdeal.Value.res_main_v108 m' c, ?_, ?_⟩
  · refine (θ_run _ _ _).mono (fun r h c => ?_) (θ_run_and (Cert.Kernel.Moved.value m g K) (Cert.Kernel.Moved.frame m g))
    obtain ⟨o0, o1, o2, o3⟩ := meets (n := 0) ⟨fun b j => (congrArg _ (congrArg (ix2 b) (Fin.ext (by show 512 * 0 + j.val = j.val; omega)))).trans ((h.1 c).1 b j), (h.1 c).2.1, (h.1 c).2.2.1, (h.1 c).2.2.2⟩ (Cert.ReferenceIdeal.Hand.arrs m' c) (er c) (ep c)
      (fun b j hi => ⟨Nat.zero_le _, Cert.Sides.mask_out _ _ _ _ _ _ _ _ _ _ b j hi⟩) (fun k n cc b hi => Cert.Sides.mask_k _ _ _ _ _ _ _ _ _ _ k n cc b hi) (fun k n cc b hi => Cert.Sides.mask_v _ _ _ _ _ _ _ _ _ _ k n cc b hi) (fun n k b hi => Cert.Sides.mask_s _ _ _ _ _ _ _ _ _ _ n k b hi)
    exact ⟨o0, o1, o2, o3, h.2.1 c⟩
  · refine (θ_run _ _ _).mono (fun r h c => ?_) (Cert.ReferenceIdeal.Value.run m' g')
    obtain ⟨o0, o1, o2, o3, ha⟩ := h c
    exact ⟨fun i _ => congrFun o0 i, fun i _ => congrFun o1 i, fun i _ => congrFun o2 i, fun i _ => congrFun o3 i, ha⟩

end Cert.Value
-- ==== Proof.Family.lean ====
module

public import proofs.«01_k».proof.Proof.Gen.KernelB.Launch
public import Idealize.ShloMosaic.Lib.Affine
public import Idealize.ShloMosaic.Lib.Pipeline.Kit
public import Idealize.ShloMosaic.Lib.Pipeline.Regions

@[expose] public section

set_option synthInstance.maxSize 4096

noncomputable section

/-! # One launch for every key head

The calls of the second, third and fourth head are the same program but for the head their index maps name. Here it is a parameter: the windows,
the body and the buffers are those of the second head's print, the index maps name the head `hd.n`. At each head this IS the printed program (Moved.lean). -/

namespace Cert.KernelN

/-- The head a launch is of. -/
class Head where
  n : Fin 4
@[elab_as_elim] theorem Head.all (hd : Head) {p : Head → Prop} (h : ∀ n : Fin 4, p ⟨n⟩) : p hd := h hd.n

open Cert.KernelB Cert.KernelB.Gen
open Idealize.ShloMosaic Idealize.ShloMosaic.TcCoe
open Idealize.SL.Sem

variable {F : FTy → Type} [FloatOps F] [hd : Head]

/-! ## The index maps -/

def cc0_transform_4 (i : grid0.Coords) : Fin 3 → Nat := ![hd.n.val, (BitVec.ofNat 32 (i 0).val).toNat, 0]
def cc0_transform_5 (i : grid0.Coords) : Fin 3 → Nat := ![hd.n.val, 0, 0]
def cc0_transform_6 (i : grid0.Coords) : Fin 3 → Nat := ![hd.n.val, 0, 0]
def cc0_transform_7 (i : grid0.Coords) : Fin 4 → Nat := ![(BitVec.ofNat 32 (i 0).val).toNat, hd.n.val, 0, 0]
def cc0_transform_8 (i : grid0.Coords) : Fin 4 → Nat := ![(BitVec.ofNat 32 (i 0).val).toNat, hd.n.val, 0, 0]
def cc0_transform_13 (i : grid0.Coords) : Fin 2 → Nat := ![0, hd.n.val]
def cc0_transform_14 (i : grid0.Coords) : Fin 4 → Nat := ![0, hd.n.val, 0, 0]
def cc0_transform_15 (i : grid0.Coords) : Fin 4 → Nat := ![0, hd.n.val, 0, 0]
def cc0_transform_16 (i : grid0.Coords) : Fin 3 → Nat := ![hd.n.val, 0, 0]

theorem hreads0_4 : ∀ i i' : grid0.Coords, (∀ a, reads0_4 a = true → i a = i' a) → cc0_transform_4 i = cc0_transform_4 i' := fun i i' h => by unfold cc0_transform_4; rw [h 0 rfl]
theorem hinb0_4 : ∀ (i : grid0.Coords) a, (cc0_transform_4 i a + 1) * S1x64x64.size a ≤ S4x1024x64.size a := Head.all hd (by decide +kernel)
theorem hwx0_4 : ∀ i : grid0.Coords, EltTy.bits .bf16 = 32 ∨ (Rect.block (s := S4x1024x64) S1x64x64.size (cc0_transform_4 i) (hinb0_4 i)).WholeWords (EltTy.packing .bf16) := fun _ => .inr (Affine.block_words_dvd (of_decide_eq_true rfl) (by decide))
theorem hreads0_5 : ∀ i i' : grid0.Coords, (∀ a, reads0_5 a = true → i a = i' a) → cc0_transform_5 i = cc0_transform_5 i' := fun _ _ _ => rfl
theorem hinb0_5 : ∀ (i : grid0.Coords) a, (cc0_transform_5 i a + 1) * S1x128x64.size a ≤ S4x128x64.size a := Head.all hd (by decide +kernel)
theorem hwx0_5 : ∀ i : grid0.Coords, EltTy.bits .bf16 = 32 ∨ (Rect.block (s := S4x128x64) S1x128x64.size (cc0_transform_5 i) (hinb0_5 i)).WholeWords (EltTy.packing .bf16) := fun _ => .inr (Affine.block_words_dvd (of_decide_eq_true rfl) (by decide))
theorem hreads0_6 : ∀ i i' : grid0.Coords, (∀ a, reads0_6 a = true → i a = i' a) → cc0_transform_6 i = cc0_transform_6 i' := fun _ _ _ => rfl
theorem hinb0_6 : ∀ (i : grid0.Coords) a, (cc0_transform_6 i a + 1) * S1x128x64.size a ≤ S4x128x64.size a := Head.all hd (by decide +kernel)
theorem hwx0_6 : ∀ i : grid0.Coords, EltTy.bits .bf16 = 32 ∨ (Rect.block (s := S4x128x64) S1x128x64.size (cc0_transform_6 i) (hinb0_6 i)).WholeWords (EltTy.packing .bf16) := fun _ => .inr (Affine.block_words_dvd (of_decide_eq_true rfl) (by decide))
theorem hreads0_7 : ∀ i i' : grid0.Coords, (∀ a, reads0_7 a = true → i a = i' a) → cc0_transform_7 i = cc0_transform_7 i' := fun i i' h => by unfold cc0_transform_7; rw [h 0 rfl]
theorem hinb0_7 : ∀ (i : grid0.Coords) a, (cc0_transform_7 i a + 1) * S8x1x32x8192.size a ≤ S128x4x32x8192.size a := Head.all hd (by decide +kernel)
theorem hwx0_7 : ∀ i : grid0.Coords, EltTy.bits .i8 = 32 ∨ (Rect.block (s := S128x4x32x8192) S8x1x32x8192.size (cc0_transform_7 i) (hinb0_7 i)).WholeWords (EltTy.packing .i8) := fun _ => .inr (Affine.block_words_dvd (of_decide_eq_true rfl) (by decide))
theorem hreads0_8 : ∀ i i' : grid0.Coords, (∀ a, reads0_8 a = true → i a = i' a) → cc0_transform_8 i = cc0_transform_8 i' := fun i i' h => by unfold cc0_transform_8; rw [h 0 rfl]
theorem hinb0_8 : ∀ (i : grid0.Coords) a, (cc0_transform_8 i a + 1) * S8x1x32x8192.size a ≤ S128x4x32x8192.size a := Head.all hd (by decide +kernel)
theorem hwx0_8 : ∀ i : grid0.Coords, EltTy.bits .i8 = 32 ∨ (Rect.block (s := S128x4x32x8192) S8x1x32x8192.size (cc0_transform_8 i) (hinb0_8 i)).WholeWords (EltTy.packing .i8) := fun _ => .inr (Affine.block_words_dvd (of_decide_eq_true rfl) (by decide))
theorem hreads0_9 : ∀ i i' : grid0.Coords, (∀ a, reads0_9 a = true → i a = i' a) → cc0_transform_13 i = cc0_transform_13 i' := fun _ _ _ => rfl
theorem hinb0_9 : ∀ (i : grid0.Coords) a, (cc0_transform_13 i a + 1) * S128x512.size a ≤ S128x2048.size a := Head.all hd (by decide +kernel)
theorem hwx0_9 : ∀ i : grid0.Coords, EltTy.bits .bf16 = 32 ∨ (Rect.block (s := S128x2048) S128x512.size (cc0_transform_13 i) (hinb0_9 i)).WholeWords (EltTy.packing .bf16) := fun _ => .inr (Affine.block_words_dvd (of_decide_eq_true rfl) (by decide))
theorem hreads0_10 : ∀ i i' : grid0.Coords, (∀ a, reads0_10 a = true → i a = i' a) → cc0_transform_14 i = cc0_transform_14 i' := fun _ _ _ => rfl
theorem hinb0_10 : ∀ (i : grid0.Coords) a, (cc0_transform_14 i a + 1) * S192x1x32x128.size a ≤ S192x4x32x128.size a := Head.all hd (by decide +kernel)
theorem hwx0_10 : ∀ i : grid0.Coords, EltTy.bits .i8 = 32 ∨ (Rect.block (s := S192x4x32x128) S192x1x32x128.size (cc0_transform_14 i) (hinb0_10 i)).WholeWords (EltTy.packing .i8) := fun _ => .inr (Affine.block_words_dvd (of_decide_eq_true rfl) (by decide))
theorem hreads0_11 : ∀ i i' : grid0.Coords, (∀ a, reads0_11 a = true → i a = i' a) → cc0_transform_15 i = cc0_transform_15 i' := fun _ _ _ => rfl
theorem hinb0_11 : ∀ (i : grid0.Coords) a, (cc0_transform_15 i a + 1) * S192x1x32x128.size a ≤ S192x4x32x128.size a := Head.all hd (by decide +kernel)
theorem hwx0_11 : ∀ i : grid0.Coords, EltTy.bits .i8 = 32 ∨ (Rect.block (s := S192x4x32x128) S192x1x32x128.size (cc0_transform_15 i) (hinb0_11 i)).WholeWords (EltTy.packing .i8) := fun _ => .inr (Affine.block_words_dvd (of_decide_eq_true rfl) (by decide))
theorem hreads0_12 : ∀ i i' : grid0.Coords, (∀ a, reads0_12 a = true → i a = i' a) → cc0_transform_16 i = cc0_transform_16 i' := fun _ _ _ => rfl
theorem hinb0_12 : ∀ (i : grid0.Coords) a, (cc0_transform_16 i a + 1) * S1x192x128.size a ≤ S4x192x128.size a := Head.all hd (by decide +kernel)
theorem hwx0_12 : ∀ i : grid0.Coords, EltTy.bits .f32 = 32 ∨ (Rect.block (s := S4x192x128) S1x192x128.size (cc0_transform_16 i) (hinb0_12 i)).WholeWords (EltTy.packing .f32) := fun _ => .inl rfl

abbrev ix0 (pf : pre0.Contents (Elt F)) : (w : Fin 13) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | 9 => cc0_transform_13 | 10 => cc0_transform_14 | 11 => cc0_transform_15 | 12 => cc0_transform_16 | ⟨_ + 13, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | 10 => hreads0_10 | 11 => hreads0_11 | 12 => hreads0_12 | ⟨_ + 13, h⟩ => absurd h (Nat.not_lt.2 (Nat.le_add_left _ _))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | 10 => hinb0_10 | 11 => hinb0_11 | 12 => hinb0_12 | ⟨_ + 13, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | 10 => hwx0_10 | 11 => hwx0_11 | 12 => hwx0_12 | ⟨_ + 13, h⟩ => absurd h (Nat.not_lt.2 (Nat.le_add_left _ _))

/-! ## The launch -/

abbrev pcfg0 : Pipeline.PCfg sig Λ₀ (Elt F) :=
  Pipeline.PCfg.ofSpecs pre0 grid0 hrank0 (fun _ => grid0.bound) (fun _ _ _ => rfl)
    13 spec0 hcount0 harr0 ix0 hreads0 ok0 hinb0 hwx0 0 (fun _ _ t s => (t, s)) (fun _ => idle0)
abbrev cfg0 (a : (pcfg0 (F := F)).Adm) : Pipeline.Cfg sig Λ₀ := pcfg0.at a
abbrev win0 (a : (pcfg0 (F := F)).Adm) : Fin 13 → Pipeline.Window sig grid0 := (cfg0 a).win

abbrev pcfgs : Fin 1 → Pipeline.PCfg sig Λ₀ (Elt F) := fun _ => pcfg0

def defs : Defs nD τ sig (Elt F) (Pipeline.Sig Λ₀ (Fin 1) fun p => (pcfgs (F := F) p).Adm) := Pipeline.defs pcfgs defs₀

noncomputable def main : Dev nD → Prog (TpuEff nD τ sig (Elt F) (Pipeline.Sig Λ₀ (Fin 1) fun p => (pcfgs (F := F) p).Adm) .tc) PUnit := fun _ => do
  hlo rfl (StableHlo.unary main_arg10 main_v0_0 id) (fun _ => .ret ⟨⟩)
  hlo rfl (StableHlo.unary main_arg11 main_v0_1 id) (fun _ => .ret ⟨⟩)
  hlo rfl (StableHlo.unary main_arg12 main_v0_2 id) (fun _ => .ret ⟨⟩)
  hlo rfl (StableHlo.unary main_arg13 main_v0_3 id) (fun _ => .ret ⟨⟩)
  Prog.lift (.customCall (Pipeline.entry 0) ())
  pure ⟨⟩

theorem cellOf_inj (a : (p : Fin 1) → (pcfgs (F := F) p).Adm) :
    Function.Injective (Pipeline.cellOf (nD := nD) (τ := τ) (Pipeline.pin (pcfgs (F := F)) a)) :=
  Pipeline.cellOf_injective_of_table (Pipeline.pin (pcfgs (F := F)) a) semTab (fun | 0 => rfl | ⟨_ + 1, h⟩ => absurd h (Nat.not_lt.2 (Nat.le_add_left _ _))) semsDistinct semsDisjoint
theorem launch0 : Pipeline.PLaunchFacts (nD := nD) (τ := τ) (pcfgs (F := F)) 0 :=
  ⟨cellOf_inj, winFacts0, preFacts0, block_pos0, arr_whole0, stage_whole0⟩
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

end Cert.KernelN
-- ==== Proof.PrintedB.lean ====
module

public import proofs.«01_k».proof.Proof.Gen.KernelB.Skeleton
public import proofs.«01_k».proof.Proof.Compact2
public import Idealize.ShloMosaic.Lib.Exec
public import Idealize.ShloMosaic.Lib.Tactic
public import Idealize.ShloMosaic.Lib.Pipeline.Kit
public import Idealize.ShloMosaic.Lib.Pipeline.Regions

@[expose] public section

set_option maxRecDepth 65536
set_option maxHeartbeats 4000000

noncomputable section

namespace Cert.KernelB.Hand

open Cert.KernelB Cert.KernelB.Gen
open Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option pp.maxSteps 200
variable {F : FTy → Type} [FloatOps F]

theorem part379_eqJ (i : grid0.Coords) (arg1 : Memref sig .tc .smem S32x16 .i32) (harg1 : arg1.IsWhole) (arg2 : Memref sig .tc .vmem S128x256 .i32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x64x64 .bf16) (harg6 : arg6.IsWhole) (arg7 : Memref sig .tc .vmem S1x128x64 .bf16) (harg7 : arg7.IsWhole) (arg8 : Memref sig .tc .vmem S1x128x64 .bf16) (harg8 : arg8.IsWhole) (arg9 : Memref sig .tc .vmem S8x1x32x8192 .i8) (harg9 : arg9.IsWhole) (arg10 : Memref sig .tc .vmem S8x1x32x8192 .i8) (harg10 : arg10.IsWhole) (parg11 : Memref sig .tc .hbm S128x2048 .bf16) (hparg11 : parg11.IsWhole) (parg12 : Memref sig .tc .hbm S192x4x32x128 .i8) (hparg12 : parg12.IsWhole) (parg13 : Memref sig .tc .hbm S192x4x32x128 .i8) (hparg13 : parg13.IsWhole) (parg14 : Memref sig .tc .hbm S4x192x128 .f32) (hparg14 : parg14.IsWhole) (arg11 : Memref sig .tc .vmem S128x512 .bf16) (harg11 : arg11.IsWhole) (arg12 : Memref sig .tc .vmem S192x1x32x128 .i8) (harg12 : arg12.IsWhole) (arg13 : Memref sig .tc .vmem S192x1x32x128 .i8) (harg13 : arg13.IsWhole) (arg14 : Memref sig .tc .vmem S1x192x128 .f32) (harg14 : arg14.IsWhole) (arg15 : Memref sig .tc .vmem S2x1024x128 .i32) (harg15 : arg15.IsWhole) (arg16 : Memref sig .tc .vmem S2x1024x128 .i32) (harg16 : arg16.IsWhole) (arg17 : Memref sig .tc .vmem S1024x128 .f32) (harg17 : arg17.IsWhole) (arg18 : Memref sig .tc .vmem S128x256 .f32) (harg18 : arg18.IsWhole) (v0 : BitVec 32) (v1 : IVec S8x128 32) (v33 : Elt F .i32) (v65 : Elt F .i32) (v97 : Elt F .i32) (v129 : Elt F .i32) (v161 : Elt F .i32) (v193 : Elt F .i32) (v225 : Elt F .i32) (v257 : Elt F .i32) (v260 : BitVec 1) (v263 : BitVec 1) (v266 : BitVec 1) (v269 : BitVec 1) (v272 : BitVec 1) (v275 : BitVec 1) (v278 : BitVec 1) (v281 : BitVec 1) :
    k0_part379 (F := F) i arg1 harg1 arg2 harg2 arg3 harg3 arg4 harg4 arg5 harg5 arg6 harg6 arg7 harg7 arg8 harg8 arg9 harg9 arg10 harg10 parg11 hparg11 parg12 hparg12 parg13 hparg13 parg14 hparg14 arg11 harg11 arg12 harg12 arg13 harg13 arg14 harg14 arg15 harg15 arg16 harg16 arg17 harg17 arg18 harg18 v0 v1 v33 v65 v97 v129 v161 v193 v225 v257 v260 v263 v266 v269 v272 v275 v278 v281 = part379J i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 v33 v65 v97 v129 v161 v193 v225 v257 v260 v263 v266 v269 v272 v275 v278 v281 := by
  unfold k0_part379 part379J
  unfold k0_part355 k0_part356 k0_part357 k0_part358 k0_part359 k0_part360 k0_part361
  rw [loop_eq]
  chain_rfl

theorem part379_eq (i : grid0.Coords) (arg1 : Memref sig .tc .smem S32x16 .i32) (harg1 : arg1.IsWhole) (arg2 : Memref sig .tc .vmem S128x256 .i32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x64x64 .bf16) (harg6 : arg6.IsWhole) (arg7 : Memref sig .tc .vmem S1x128x64 .bf16) (harg7 : arg7.IsWhole) (arg8 : Memref sig .tc .vmem S1x128x64 .bf16) (harg8 : arg8.IsWhole) (arg9 : Memref sig .tc .vmem S8x1x32x8192 .i8) (harg9 : arg9.IsWhole) (arg10 : Memref sig .tc .vmem S8x1x32x8192 .i8) (harg10 : arg10.IsWhole) (parg11 : Memref sig .tc .hbm S128x2048 .bf16) (hparg11 : parg11.IsWhole) (parg12 : Memref sig .tc .hbm S192x4x32x128 .i8) (hparg12 : parg12.IsWhole) (parg13 : Memref sig .tc .hbm S192x4x32x128 .i8) (hparg13 : parg13.IsWhole) (parg14 : Memref sig .tc .hbm S4x192x128 .f32) (hparg14 : parg14.IsWhole) (arg11 : Memref sig .tc .vmem S128x512 .bf16) (harg11 : arg11.IsWhole) (arg12 : Memref sig .tc .vmem S192x1x32x128 .i8) (harg12 : arg12.IsWhole) (arg13 : Memref sig .tc .vmem S192x1x32x128 .i8) (harg13 : arg13.IsWhole) (arg14 : Memref sig .tc .vmem S1x192x128 .f32) (harg14 : arg14.IsWhole) (arg15 : Memref sig .tc .vmem S2x1024x128 .i32) (harg15 : arg15.IsWhole) (arg16 : Memref sig .tc .vmem S2x1024x128 .i32) (harg16 : arg16.IsWhole) (arg17 : Memref sig .tc .vmem S1024x128 .f32) (harg17 : arg17.IsWhole) (arg18 : Memref sig .tc .vmem S128x256 .f32) (harg18 : arg18.IsWhole) (v0 : BitVec 32) (v1 : IVec S8x128 32) (v33 : Elt F .i32) (v65 : Elt F .i32) (v97 : Elt F .i32) (v129 : Elt F .i32) (v161 : Elt F .i32) (v193 : Elt F .i32) (v225 : Elt F .i32) (v257 : Elt F .i32) (v260 : BitVec 1) (v263 : BitVec 1) (v266 : BitVec 1) (v269 : BitVec 1) (v272 : BitVec 1) (v275 : BitVec 1) (v278 : BitVec 1) (v281 : BitVec 1) :
    k0_part379 (F := F) i arg1 harg1 arg2 harg2 arg3 harg3 arg4 harg4 arg5 harg5 arg6 harg6 arg7 harg7 arg8 harg8 arg9 harg9 arg10 harg10 parg11 hparg11 parg12 hparg12 parg13 hparg13 parg14 hparg14 arg11 harg11 arg12 harg12 arg13 harg13 arg14 harg14 arg15 harg15 arg16 harg16 arg17 harg17 arg18 harg18 v0 v1 v33 v65 v97 v129 v161 v193 v225 v257 v260 v263 v266 v269 v272 v275 v278 v281 = part379H i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v1 v33 v65 v97 v129 v161 v193 v225 v257 v260 v263 v266 v269 v272 v275 v278 v281 := by
  rw [part379_eqJ, part379_JH]

theorem body_eq (i : grid0.Coords) (arg1 : Memref sig .tc .smem S32x16 .i32) (harg1 : arg1.IsWhole) (arg2 : Memref sig .tc .vmem S128x256 .i32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S1x64x64 .bf16) (harg6 : arg6.IsWhole) (arg7 : Memref sig .tc .vmem S1x128x64 .bf16) (harg7 : arg7.IsWhole) (arg8 : Memref sig .tc .vmem S1x128x64 .bf16) (harg8 : arg8.IsWhole) (arg9 : Memref sig .tc .vmem S8x1x32x8192 .i8) (harg9 : arg9.IsWhole) (arg10 : Memref sig .tc .vmem S8x1x32x8192 .i8) (harg10 : arg10.IsWhole) (parg11 : Memref sig .tc .hbm S128x2048 .bf16) (hparg11 : parg11.IsWhole) (parg12 : Memref sig .tc .hbm S192x4x32x128 .i8) (hparg12 : parg12.IsWhole) (parg13 : Memref sig .tc .hbm S192x4x32x128 .i8) (hparg13 : parg13.IsWhole) (parg14 : Memref sig .tc .hbm S4x192x128 .f32) (hparg14 : parg14.IsWhole) (arg11 : Memref sig .tc .vmem S128x512 .bf16) (harg11 : arg11.IsWhole) (arg12 : Memref sig .tc .vmem S192x1x32x128 .i8) (harg12 : arg12.IsWhole) (arg13 : Memref sig .tc .vmem S192x1x32x128 .i8) (harg13 : arg13.IsWhole) (arg14 : Memref sig .tc .vmem S1x192x128 .f32) (harg14 : arg14.IsWhole) (arg15 : Memref sig .tc .vmem S2x1024x128 .i32) (harg15 : arg15.IsWhole) (arg16 : Memref sig .tc .vmem S2x1024x128 .i32) (harg16 : arg16.IsWhole) (arg17 : Memref sig .tc .vmem S1024x128 .f32) (harg17 : arg17.IsWhole) (arg18 : Memref sig .tc .vmem S128x256 .f32) (harg18 : arg18.IsWhole) :
    cc0_attend1 (F := F) i arg1 harg1 arg2 harg2 arg3 harg3 arg4 harg4 arg5 harg5 arg6 harg6 arg7 harg7 arg8 harg8 arg9 harg9 arg10 harg10 parg11 hparg11 parg12 hparg12 parg13 hparg13 parg14 hparg14 arg11 harg11 arg12 harg12 arg13 harg13 arg14 harg14 arg15 harg15 arg16 harg16 arg17 harg17 arg18 harg18 = bodyH i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 := by
  unfold cc0_attend1
  simp only [part379_eq]
  unfold part379H
  simp only [bind_assoc]
  unfold bodyH
  chain_rfl

end Cert.KernelB.Hand
-- ==== Proof.KitN.lean ====
module

public import proofs.«01_k».proof.Proof.Family
public import proofs.«01_k».proof.Proof.Body
public import proofs.«01_k».proof.Proof.PrintedB
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelN.Hand

open Cert.KernelB Cert.KernelB.Gen Cert.KernelN
open Cert.KernelB.Hand (body_eq)
open Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [hd : Head]

local notation "𝕄" => MT nD τ sig Unit (Elt F) ℕ (UR sig nD τ) ℕ

/-! ## The schedule of the windows -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at the first point only, at any contents of the tables (its index map reads none). -/
theorem fetch0_0 (a : (pcfg0 (F := F)).Adm) : ∀ t : Fin (cfg0 a).N, ((cfg0 a).win 0).fetch t = true ↔ t.val % 16 = 0 :=
  (fun t => Pipeline.Window.fetchOf_const cc0_transform_0 (fun _ _ => rfl) (n := 16) (by decide) t : ∀ t : Fin grid0.N, Pipeline.Window.fetchOf grid0 false cc0_transform_0 t = true ↔ t.val % 16 = 0)
/-- Window 1 (operand 2 (%arg2)) is fetched at the first point only, at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_const cc0_transform_1 (fun _ _ => rfl) (n := 16) (by decide) t : ∀ t : Fin grid0.N, Pipeline.Window.fetchOf grid0 false cc0_transform_1 t = true ↔ t.val % 16 = 0)
/-- Window 2 (operand 3 (%arg3)) is fetched at the first point only, at any contents of the tables (its index map reads none). -/
theorem fetch0_2 (a : (pcfg0 (F := F)).Adm) : ∀ t : Fin (cfg0 a).N, ((cfg0 a).win 2).fetch t = true ↔ t.val % 16 = 0 :=
  (fun t => Pipeline.Window.fetchOf_const cc0_transform_2 (fun _ _ => rfl) (n := 16) (by decide) t : ∀ t : Fin grid0.N, Pipeline.Window.fetchOf grid0 false cc0_transform_2 t = true ↔ t.val % 16 = 0)
/-- Window 3 (operand 4 (%arg4)) is fetched at the first point only, at any contents of the tables (its index map reads none). -/
theorem fetch0_3 (a : (pcfg0 (F := F)).Adm) : ∀ t : Fin (cfg0 a).N, ((cfg0 a).win 3).fetch t = true ↔ t.val % 16 = 0 :=
  (fun t => Pipeline.Window.fetchOf_const cc0_transform_3 (fun _ _ => rfl) (n := 16) (by decide) t : ∀ t : Fin grid0.N, Pipeline.Window.fetchOf grid0 false cc0_transform_3 t = true ↔ t.val % 16 = 0)
/-- Window 4 (operand 5 (%arg5)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 1 (fun _ => rfl) (by decide)) (P := 1) (by decide) t).mpr (Nat.mod_one _) : ∀ t : Fin grid0.N, Pipeline.Window.fetchOf grid0 false cc0_transform_4 t = true)
/-- Window 5 (operand 6 (%arg6)) is fetched at the first point only, at any contents of the tables (its index map reads none). -/
theorem fetch0_5 (a : (pcfg0 (F := F)).Adm) : ∀ t : Fin (cfg0 a).N, ((cfg0 a).win 5).fetch t = true ↔ t.val % 16 = 0 :=
  (fun t => Pipeline.Window.fetchOf_const cc0_transform_5 (fun _ _ => rfl) (n := 16) (by decide) t : ∀ t : Fin grid0.N, Pipeline.Window.fetchOf grid0 false cc0_transform_5 t = true ↔ t.val % 16 = 0)
/-- Window 6 (operand 7 (%arg7)) is fetched at the first point only, at any contents of the tables (its index map reads none). -/
theorem fetch0_6 (a : (pcfg0 (F := F)).Adm) : ∀ t : Fin (cfg0 a).N, ((cfg0 a).win 6).fetch t = true ↔ t.val % 16 = 0 :=
  (fun t => Pipeline.Window.fetchOf_const cc0_transform_6 (fun _ _ => rfl) (n := 16) (by decide) t : ∀ t : Fin grid0.N, Pipeline.Window.fetchOf grid0 false cc0_transform_6 t = true ↔ t.val % 16 = 0)
/-- Window 7 (operand 8 (%arg8)) is fetched at every point, at any contents of the tables (its index map reads none). -/
theorem fetch0_7 (a : (pcfg0 (F := F)).Adm) : ∀ t : Fin (cfg0 a).N, ((cfg0 a).win 7).fetch t = true :=
  (fun t => (Pipeline.Window.fetchOf_reads cc0_transform_7 reads0_7 hreads0_7 0 (by decide) (by decide) (Pipeline.Window.sep_of_coord cc0_transform_7 0 0 (fun _ => rfl) (by decide)) (P := 1) (by decide) t).mpr (Nat.mod_one _) : ∀ t : Fin grid0.N, Pipeline.Window.fetchOf grid0 false cc0_transform_7 t = true)
/-- Window 8 (operand 9 (%arg9)) is fetched at every point, at any contents of the tables (its index map reads none). -/
theorem fetch0_8 (a : (pcfg0 (F := F)).Adm) : ∀ t : Fin (cfg0 a).N, ((cfg0 a).win 8).fetch t = true :=
  (fun t => (Pipeline.Window.fetchOf_reads cc0_transform_8 reads0_8 hreads0_8 0 (by decide) (by decide) (Pipeline.Window.sep_of_coord cc0_transform_8 0 0 (fun _ => rfl) (by decide)) (P := 1) (by decide) t).mpr (Nat.mod_one _) : ∀ t : Fin grid0.N, Pipeline.Window.fetchOf grid0 false cc0_transform_8 t = true)
/-- Window 9 (result 0 (%0#0)) is written back at the last point only, at any contents of the tables (its index map reads none). -/
theorem flush0_9 (a : (pcfg0 (F := F)).Adm) : ∀ t : Fin (cfg0 a).N, ((cfg0 a).win 9).flush t = true ↔ t.val % 16 = 15 :=
  (fun t => Pipeline.Window.flushOf_const cc0_transform_13 (fun _ _ => rfl) (n := 16) (by decide) rfl t : ∀ t : Fin grid0.N, Pipeline.Window.flushOf grid0 true cc0_transform_13 t = true ↔ t.val % 16 = 15)
/-- Window 10 (result 1 (%0#1)) is written back at the last point only, at any contents of the tables (its index map reads none). -/
theorem flush0_10 (a : (pcfg0 (F := F)).Adm) : ∀ t : Fin (cfg0 a).N, ((cfg0 a).win 10).flush t = true ↔ t.val % 16 = 15 :=
  (fun t => Pipeline.Window.flushOf_const cc0_transform_14 (fun _ _ => rfl) (n := 16) (by decide) rfl t : ∀ t : Fin grid0.N, Pipeline.Window.flushOf grid0 true cc0_transform_14 t = true ↔ t.val % 16 = 15)
/-- Window 11 (result 2 (%0#2)) is written back at the last point only, at any contents of the tables (its index map reads none). -/
theorem flush0_11 (a : (pcfg0 (F := F)).Adm) : ∀ t : Fin (cfg0 a).N, ((cfg0 a).win 11).flush t = true ↔ t.val % 16 = 15 :=
  (fun t => Pipeline.Window.flushOf_const cc0_transform_15 (fun _ _ => rfl) (n := 16) (by decide) rfl t : ∀ t : Fin grid0.N, Pipeline.Window.flushOf grid0 true cc0_transform_15 t = true ↔ t.val % 16 = 15)
/-- Window 12 (result 3 (%0#3)) is written back at the last point only, at any contents of the tables (its index map reads none). -/
theorem flush0_12 (a : (pcfg0 (F := F)).Adm) : ∀ t : Fin (cfg0 a).N, ((cfg0 a).win 12).flush t = true ↔ t.val % 16 = 15 :=
  (fun t => Pipeline.Window.flushOf_const cc0_transform_16 (fun _ _ => rfl) (n := 16) (by decide) rfl t : ∀ t : Fin grid0.N, Pipeline.Window.flushOf grid0 true cc0_transform_16 t = true ↔ t.val % 16 = 15)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend1 (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole main_arg10) (Memref.isWhole_whole _) (Memref.whole main_arg11) (Memref.isWhole_whole _) (Memref.whole main_arg12) (Memref.isWhole_whole _) (Memref.whole main_arg13) (Memref.isWhole_whole _) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _)

variable (m : (ℓ : Loc nD τ sig) → Buf (Elt F) ℓ) (ρ : Dev nD → PrngReg)
/-! ## @main up to the region -/

/-- Core `c`'s TensorCore buffers when the region is entered: after the copies of the outputs before. -/
abbrev V (c : Dev nD) (b : Ref sig .tc) : Buf (Elt F) ((c : Thread nD τ).loc b) := StableHlo.after (hostOps0 (F := F)) (fun b => m (c, b)) b

theorem hostOps0_fresh : (hostOps0 (F := F) : List (HloOp τ sig (Elt F))).Forall fun op => op.fresh = ∅ := by
  simp only [List.Forall]; repeat' constructor

/-- What the copies write. -/
abbrev hostOps0_W : List (Ref sig .tc) := [main_v0_0, main_v0_1, main_v0_2, main_v0_3]
theorem hostOps0_writes : (hostOps0 (F := F) : List (HloOp τ sig (Elt F))).Forall fun op => op.writes ⊆ (hostOps0_W.map (Proc.devRef (τ := τ) .tc)).toFinset :=
  StableHlo.forall_writes_sub_of_map rfl

set_option maxHeartbeats 800000 in
/-- @main up to the region: the copies, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main (hostOps0 (F := F)) hostOps0_sub hostOps0_fresh main_chain

/-- A buffer the copies do not write is as launched. -/
theorem V_kept (c : Dev nD) (b : Ref sig .tc) (h : b ∉ hostOps0_W) : V m c b = m ((c : Thread nD τ).loc b) :=
  StableHlo.after_of_writes_sub (hostOps0 (F := F)) _ hostOps0_writes h
theorem V_main_arg0 (c : Dev nD) : V m c main_arg0 = m ((c : Thread nD τ).loc main_arg0) := V_kept m c main_arg0 (by decide)
theorem V_main_arg1 (c : Dev nD) : V m c main_arg1 = m ((c : Thread nD τ).loc main_arg1) := V_kept m c main_arg1 (by decide)
theorem V_main_arg2 (c : Dev nD) : V m c main_arg2 = m ((c : Thread nD τ).loc main_arg2) := V_kept m c main_arg2 (by decide)
theorem V_main_arg3 (c : Dev nD) : V m c main_arg3 = m ((c : Thread nD τ).loc main_arg3) := V_kept m c main_arg3 (by decide)
theorem V_main_arg4 (c : Dev nD) : V m c main_arg4 = m ((c : Thread nD τ).loc main_arg4) := V_kept m c main_arg4 (by decide)
theorem V_main_arg5 (c : Dev nD) : V m c main_arg5 = m ((c : Thread nD τ).loc main_arg5) := V_kept m c main_arg5 (by decide)
theorem V_main_arg6 (c : Dev nD) : V m c main_arg6 = m ((c : Thread nD τ).loc main_arg6) := V_kept m c main_arg6 (by decide)
theorem V_main_arg7 (c : Dev nD) : V m c main_arg7 = m ((c : Thread nD τ).loc main_arg7) := V_kept m c main_arg7 (by decide)
theorem V_main_arg8 (c : Dev nD) : V m c main_arg8 = m ((c : Thread nD τ).loc main_arg8) := V_kept m c main_arg8 (by decide)
theorem V_main_arg9 (c : Dev nD) : V m c main_arg9 = m ((c : Thread nD τ).loc main_arg9) := V_kept m c main_arg9 (by decide)
theorem V_main_arg10 (c : Dev nD) : V m c main_arg10 = m ((c : Thread nD τ).loc main_arg10) := V_kept m c main_arg10 (by decide)
theorem V_main_arg11 (c : Dev nD) : V m c main_arg11 = m ((c : Thread nD τ).loc main_arg11) := V_kept m c main_arg11 (by decide)
theorem V_main_arg12 (c : Dev nD) : V m c main_arg12 = m ((c : Thread nD τ).loc main_arg12) := V_kept m c main_arg12 (by decide)
theorem V_main_arg13 (c : Dev nD) : V m c main_arg13 = m ((c : Thread nD τ).loc main_arg13) := V_kept m c main_arg13 (by decide)

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S32x16 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelB`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c)),
      (Pipeline.RDat.FramePost.arr_in h c 5 rfl).trans ((hA c 5).trans (V_main_arg6 m c)),
      (Pipeline.RDat.FramePost.arr_in h c 6 rfl).trans ((hA c 6).trans (V_main_arg7 m c)),
      (Pipeline.RDat.FramePost.arr_in h c 7 rfl).trans ((hA c 7).trans (V_main_arg8 m c)),
      (Pipeline.RDat.FramePost.arr_in h c 8 rfl).trans ((hA c 8).trans (V_main_arg9 m c)),
      ((h c).2 main_arg10 (by decide : main_arg10 ∈ Pipeline.restRefs sig spec0)).trans (V_main_arg10 m c),
      ((h c).2 main_arg11 (by decide : main_arg11 ∈ Pipeline.restRefs sig spec0)).trans (V_main_arg11 m c),
      ((h c).2 main_arg12 (by decide : main_arg12 ∈ Pipeline.restRefs sig spec0)).trans (V_main_arg12 m c),
      ((h c).2 main_arg13 (by decide : main_arg13 ∈ Pipeline.restRefs sig spec0)).trans (V_main_arg13 m c)⟩) h

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 8 is never idle (an input). -/
theorem liveAt0_8 (hO : Ok m) : ∀ t : Fin (cfgM m hO).N, (cfgM m hO).idle 8 (grid0.coords t) = false :=
  (fun _ => rfl : ∀ t : Fin grid0.N, idle0 8 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S128x256 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S128x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S128x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S128x256 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x64x64 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x128x64 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x128x64 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S8x1x32x8192 .i8 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S8x1x32x8192 .i8 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S128x512 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S192x1x32x128 .i8 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S192x1x32x128 .i8 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x192x128 .f32 := spec0_12.stage ((cfgM m hO).slots t 12)
abbrev hs0_12 (hO : Ok m) (t : Fin (cfgM m hO).N) : (ms0_12 m hO t).IsWhole := hstage0_12 (((cfgM m hO).slots t 12).cast nbuf0_12)
/-- The scratch operands: whole scoped buffers of the kernel's own, passed beside the windows. -/
abbrev scM0_0 : Memref sig .tc .vmem S2x1024x128 .i32 := Memref.whole cc0_scratch0
abbrev scM0_1 : Memref sig .tc .vmem S2x1024x128 .i32 := Memref.whole cc0_scratch1
abbrev scM0_2 : Memref sig .tc .vmem S1024x128 .f32 := Memref.whole cc0_scratch2
abbrev scM0_3 : Memref sig .tc .vmem S128x256 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The body at a point -/

/-- The buffers the body is handed at point `t`. -/
abbrev arAt (hO : Ok m) (t : Fin (cfgM m hO).N) : Ar sig :=
  ⟨tbM0_0, ms0_0 m hO t, ms0_1 m hO t, ms0_2 m hO t, ms0_3 m hO t, ms0_4 m hO t, ms0_5 m hO t, ms0_6 m hO t, ms0_7 m hO t, ms0_8 m hO t, ms0_9 m hO t, ms0_10 m hO t, ms0_11 m hO t, ms0_12 m hO t, scM0_0, scM0_1, scM0_2, scM0_3⟩
/-- What the inputs hold at point `t`. -/
abbrev inAt (hO : Ok m) (c : Dev nD) (t : Fin (cfgM m hO).N) : In F :=
  ⟨tbl m 0, iblk m hO c 0 t, iblk m hO c 1 t, iblk m hO c 2 t, iblk m hO c 3 t, iblk m hO c 4 t, iblk m hO c 5 t, iblk m hO c 6 t, iblk m hO c 7 t, iblk m hO c 8 t⟩

theorem tbOwn (c : Dev nD) : (tbPt0 c tbM0_0 (tbl m 0) : sProp 𝕄) = owns (c : Thread nD τ) tbM0_0 fullShare.right (tbl m 0) :=
  (owns_whole (c : Thread nD τ) main_arg0 fullShare.right (tbl m 0)).symm

/-- The body on any buffers, all it touches held. -/
theorem run_body (c : Dev nD) (A : Ar sig) (I : In F) (i : grid0.Coords) (s : St F) (Q : PUnit → sProp 𝕄) (harg1 : A.a1.IsWhole) (harg2 : A.a2.IsWhole) (harg3 : A.a3.IsWhole) (harg4 : A.a4.IsWhole) (harg5 : A.a5.IsWhole) (harg6 : A.a6.IsWhole) (harg7 : A.a7.IsWhole) (harg8 : A.a8.IsWhole) (harg9 : A.a9.IsWhole) (harg10 : A.a10.IsWhole) (harg11 : A.a11.IsWhole) (harg12 : A.a12.IsWhole) (harg13 : A.a13.IsWhole) (harg14 : A.a14.IsWhole) (harg15 : A.a15.IsWhole) (harg16 : A.a16.IsWhole) (harg17 : A.a17.IsWhole) (harg18 : A.a18.IsWhole) :
    iprop(Own c A I s ∗ (Own c A I (bodyF i I s) -∗ Q ⟨⟩))
      ⊢ wp frame (wpE (defs₀ (F := F)) Variants.none (c : Thread nD τ) none) Set.univ (cc0_attend1 i A.a1 harg1 A.a2 harg2 A.a3 harg3 A.a4 harg4 A.a5 harg5 A.a6 harg6 A.a7 harg7 A.a8 harg8 A.a9 harg9 A.a10 harg10 (Memref.whole main_arg10) (Memref.isWhole_whole _) (Memref.whole main_arg11) (Memref.isWhole_whole _) (Memref.whole main_arg12) (Memref.isWhole_whole _) (Memref.whole main_arg13) (Memref.isWhole_whole _) A.a11 harg11 A.a12 harg12 A.a13 harg13 A.a14 harg14 A.a15 harg15 A.a16 harg16 A.a17 harg17 A.a18 harg18) Q := by
  rw [body_eq]
  have h := (body_tr (D := defs₀ (F := F)) (c := c) (A := A) (I := I) i s harg1 harg2 harg3 harg4 harg5 harg6 harg7 harg8 harg9 harg10 harg11 harg12 harg13 harg14 harg15 harg16 harg17 harg18).run _ pure Q
  rw [bind_pure] at h
  refine BIBase.Entails.trans ?_ h
  iintro ⟨H, K⟩
  isplitl [H]; · iexact H
  iintro H
  iapply (le_wp_ret _ _ _ _ Q)
  iapply K
  iexact H

/-- The body at point `t`, all it touches held. -/
theorem run_at (hO : Ok m) (c : Dev nD) (t : Fin (cfgM m hO).N) (s : St F) (Q : PUnit → sProp 𝕄) :
    iprop(Own c (arAt m hO t) (inAt m hO c t) s ∗ (Own c (arAt m hO t) (inAt m hO c t) (bodyF (grid0.coords t) (inAt m hO c t) s) -∗ Q ⟨⟩))
      ⊢ wp frame (wpE (defs₀ (F := F)) Variants.none (c : Thread nD τ) none) Set.univ (bodyAt0 (adm m hO) t) Q :=
  run_body c (arAt m hO t) (inAt m hO c t) (grid0.coords t) s Q htbM0_0 (hs0_0 m hO t) (hs0_1 m hO t) (hs0_2 m hO t) (hs0_3 m hO t) (hs0_4 m hO t) (hs0_5 m hO t) (hs0_6 m hO t) (hs0_7 m hO t) (hs0_8 m hO t) (hs0_9 m hO t) (hs0_10 m hO t) (hs0_11 m hO t) (hs0_12 m hO t) (Memref.isWhole_whole _) (Memref.isWhole_whole _) (Memref.isWhole_whole _) (Memref.isWhole_whole _)

end Cert.KernelN.Hand
-- ==== Proof.IdealInputsN.lean ====
module

public import proofs.«01_k».proof.Proof.KitN
public import Idealize.ShloMosaic.Lib.Pipeline.ValueKit
public import Idealize.ShloMosaic.Lib.Pointwise

@[expose] public section

set_option maxRecDepth 16384
set_option pp.maxSteps 300

noncomputable section
namespace Cert.KernelN.Hand
open Cert.KernelB Cert.KernelB.Gen Cert.KernelN
open Cert.KernelB.Hand (body_eq)
open Cert.Kernel.Hand
open Idealize.ShloMosaic Idealize.ShloMosaic.TcCoe

variable {F : FTy → Type} [FloatOps F] [hd : Head]
variable (m : (ℓ : Loc nD τ sig) → Buf (Elt F) ℓ)

/-! ## The input blocks, element by element -/

theorem coords_0 (t : Fin grid0.N) : (grid0.coords t 0).val = t.val := by
  have h : t.val < 16 := t.isLt
  have e0 : (grid0.coords t 0).val = t.val / 1 % 16 := Pipeline.Grid.coords_val t 0 (by decide) rfl
  omega

theorem in_x1 (hO : Ok m) (c : Dev nD) (t : Fin (cfgM m hO).N) (a : Fin 32) (b : Fin 16) :
    (inAt m hO c t).x1 (ix2 a b) = m ((c : Thread nD τ).loc main_arg0) (ix2 a b) := by
  obtain rfl : c = 0 := Subsingleton.elim _ _
  exact congrFun (V_main_arg0 m 0) (ix2 a b)
theorem idx_0 (hO : Ok m) (t : Fin (cfgM m hO).N) : (pcfg0.win (adm m hO) 0).index t = ![0, 0] :=
  (by decide +kernel : ∀ t : Fin grid0.N, cc0_transform_0 (grid0.coords t) = ![0, 0]) t
theorem idx_1 (hO : Ok m) (t : Fin (cfgM m hO).N) : (pcfg0.win (adm m hO) 1).index t = ![0, 0] :=
  (by decide +kernel : ∀ t : Fin grid0.N, cc0_transform_1 (grid0.coords t) = ![0, 0]) t
theorem idx_2 (hO : Ok m) (t : Fin (cfgM m hO).N) : (pcfg0.win (adm m hO) 2).index t = ![0, 0] :=
  (by decide +kernel : ∀ t : Fin grid0.N, cc0_transform_2 (grid0.coords t) = ![0, 0]) t
theorem idx_3 (hO : Ok m) (t : Fin (cfgM m hO).N) : (pcfg0.win (adm m hO) 3).index t = ![0, 0] :=
  (by decide +kernel : ∀ t : Fin grid0.N, cc0_transform_3 (grid0.coords t) = ![0, 0]) t
theorem idx_4 (hO : Ok m) (t : Fin (cfgM m hO).N) : (pcfg0.win (adm m hO) 4).index t = ![hd.n.val, t.val, 0] :=
  (Head.all hd (by decide +kernel) : ∀ t : Fin grid0.N, cc0_transform_4 (grid0.coords t) = ![hd.n.val, t.val, 0]) t
theorem idx_5 (hO : Ok m) (t : Fin (cfgM m hO).N) : (pcfg0.win (adm m hO) 5).index t = ![hd.n.val, 0, 0] :=
  (Head.all hd (by decide +kernel) : ∀ t : Fin grid0.N, cc0_transform_5 (grid0.coords t) = ![hd.n.val, 0, 0]) t
theorem idx_6 (hO : Ok m) (t : Fin (cfgM m hO).N) : (pcfg0.win (adm m hO) 6).index t = ![hd.n.val, 0, 0] :=
  (Head.all hd (by decide +kernel) : ∀ t : Fin grid0.N, cc0_transform_6 (grid0.coords t) = ![hd.n.val, 0, 0]) t
theorem idx_7 (hO : Ok m) (t : Fin (cfgM m hO).N) : (pcfg0.win (adm m hO) 7).index t = ![t.val, hd.n.val, 0, 0] :=
  (Head.all hd (by decide +kernel) : ∀ t : Fin grid0.N, cc0_transform_7 (grid0.coords t) = ![t.val, hd.n.val, 0, 0]) t
theorem idx_8 (hO : Ok m) (t : Fin (cfgM m hO).N) : (pcfg0.win (adm m hO) 8).index t = ![t.val, hd.n.val, 0, 0] :=
  (Head.all hd (by decide +kernel) : ∀ t : Fin grid0.N, cc0_transform_8 (grid0.coords t) = ![t.val, hd.n.val, 0, 0]) t
theorem in_x2 (hO : Ok m) (c : Dev nD) (t : Fin (cfgM m hO).N) (b : Fin 128) (k : Fin 256) :
    (inAt m hO c t).x2 (ix2 b k) = m ((c : Thread nD τ).loc main_arg1) (ix2 b k) := by
  show iblk m hO c 0 t _ = _
  refine (congrFun (show iblk m hO c 0 t = (((cfgM m hO).win 0).blk t).view.read (Elt F) (m ((c : Thread nD τ).loc main_arg1)) from congrArg ((((cfgM m hO).win 0).blk t).view.read (Elt F)) (V_main_arg1 m c)) _).trans ?_
  blk_ext! [idx_0 m hO t]
  all_goals first | omega | rfl | trace_state
theorem in_x3 (hO : Ok m) (c : Dev nD) (t : Fin (cfgM m hO).N) (b : Fin 128) (k : Fin 256) :
    (inAt m hO c t).x3 (ix2 b k) = m ((c : Thread nD τ).loc main_arg2) (ix2 b k) := by
  show iblk m hO c 1 t _ = _
  refine (congrFun (show iblk m hO c 1 t = (((cfgM m hO).win 1).blk t).view.read (Elt F) (m ((c : Thread nD τ).loc main_arg2)) from congrArg ((((cfgM m hO).win 1).blk t).view.read (Elt F)) (V_main_arg2 m c)) _).trans ?_
  blk_ext! [idx_1 m hO t]
  all_goals first | omega | rfl | trace_state
theorem in_x4 (hO : Ok m) (c : Dev nD) (t : Fin (cfgM m hO).N) (b : Fin 128) (k : Fin 256) :
    (inAt m hO c t).x4 (ix2 b k) = m ((c : Thread nD τ).loc main_arg3) (ix2 b k) := by
  show iblk m hO c 2 t _ = _
  refine (congrFun (show iblk m hO c 2 t = (((cfgM m hO).win 2).blk t).view.read (Elt F) (m ((c : Thread nD τ).loc main_arg3)) from congrArg ((((cfgM m hO).win 2).blk t).view.read (Elt F)) (V_main_arg3 m c)) _).trans ?_
  blk_ext! [idx_2 m hO t]
  all_goals first | omega | rfl | trace_state
theorem in_x5 (hO : Ok m) (c : Dev nD) (t : Fin (cfgM m hO).N) (b : Fin 128) (k : Fin 256) :
    (inAt m hO c t).x5 (ix2 b k) = m ((c : Thread nD τ).loc main_arg4) (ix2 b k) := by
  show iblk m hO c 3 t _ = _
  refine (congrFun (show iblk m hO c 3 t = (((cfgM m hO).win 3).blk t).view.read (Elt F) (m ((c : Thread nD τ).loc main_arg4)) from congrArg ((((cfgM m hO).win 3).blk t).view.read (Elt F)) (V_main_arg4 m c)) _).trans ?_
  blk_ext! [idx_3 m hO t]
  all_goals first | omega | rfl | trace_state
theorem in_x6 (hO : Ok m) (c : Dev nD) (t : Fin (cfgM m hO).N) (a d : Fin 64) (ht : t.val < 16) :
    (inAt m hO c t).x6 (ix3 0 a d) = m ((c : Thread nD τ).loc main_arg5) (ix3 hd.n ⟨64 * t.val + a.val, by omega⟩ d) := by
  show iblk m hO c 4 t _ = _
  refine (congrFun (show iblk m hO c 4 t = (((cfgM m hO).win 4).blk t).view.read (Elt F) (m ((c : Thread nD τ).loc main_arg5)) from congrArg ((((cfgM m hO).win 4).blk t).view.read (Elt F)) (V_main_arg5 m c)) _).trans ?_
  blk_ext! [idx_4 m hO t]
  all_goals first | omega | rfl | trace_state
theorem in_x7 (hO : Ok m) (c : Dev nD) (t : Fin (cfgM m hO).N) (b : Fin 128) (d : Fin 64) :
    (inAt m hO c t).x7 (ix3 0 b d) = m ((c : Thread nD τ).loc main_arg6) (ix3 hd.n b d) := by
  show iblk m hO c 5 t _ = _
  refine (congrFun (show iblk m hO c 5 t = (((cfgM m hO).win 5).blk t).view.read (Elt F) (m ((c : Thread nD τ).loc main_arg6)) from congrArg ((((cfgM m hO).win 5).blk t).view.read (Elt F)) (V_main_arg6 m c)) _).trans ?_
  blk_ext! [idx_5 m hO t]
  all_goals first | omega | rfl | trace_state
theorem in_x8 (hO : Ok m) (c : Dev nD) (t : Fin (cfgM m hO).N) (b : Fin 128) (d : Fin 64) :
    (inAt m hO c t).x8 (ix3 0 b d) = m ((c : Thread nD τ).loc main_arg7) (ix3 hd.n b d) := by
  show iblk m hO c 6 t _ = _
  refine (congrFun (show iblk m hO c 6 t = (((cfgM m hO).win 6).blk t).view.read (Elt F) (m ((c : Thread nD τ).loc main_arg7)) from congrArg ((((cfgM m hO).win 6).blk t).view.read (Elt F)) (V_main_arg7 m c)) _).trans ?_
  blk_ext! [idx_6 m hO t]
  all_goals first | omega | rfl | trace_state
theorem in_x9 (hO : Ok m) (c : Dev nD) (t : Fin (cfgM m hO).N) (r : Fin 8) (cc : Fin 32) (p : Fin 8192) (ht : t.val < 16) :
    (inAt m hO c t).x9 (ix4 r 0 cc p) = m ((c : Thread nD τ).loc main_arg8) (ix4 ⟨8 * t.val + r.val, by omega⟩ hd.n cc p) := by
  show iblk m hO c 7 t _ = _
  refine (congrFun (show iblk m hO c 7 t = (((cfgM m hO).win 7).blk t).view.read (Elt F) (m ((c : Thread nD τ).loc main_arg8)) from congrArg ((((cfgM m hO).win 7).blk t).view.read (Elt F)) (V_main_arg8 m c)) _).trans ?_
  blk_ext! [idx_7 m hO t]
  all_goals first | omega | rfl | trace_state
theorem in_x10 (hO : Ok m) (c : Dev nD) (t : Fin (cfgM m hO).N) (r : Fin 8) (cc : Fin 32) (p : Fin 8192) (ht : t.val < 16) :
    (inAt m hO c t).x10 (ix4 r 0 cc p) = m ((c : Thread nD τ).loc main_arg9) (ix4 ⟨8 * t.val + r.val, by omega⟩ hd.n cc p) := by
  show iblk m hO c 8 t _ = _
  refine (congrFun (show iblk m hO c 8 t = (((cfgM m hO).win 8).blk t).view.read (Elt F) (m ((c : Thread nD τ).loc main_arg9)) from congrArg ((((cfgM m hO).win 8).blk t).view.read (Elt F)) (V_main_arg9 m c)) _).trans ?_
  blk_ext! [idx_8 m hO t]
  all_goals first | omega | rfl | trace_state

end Cert.KernelN.Hand
-- ==== Proof.IdealValueN.lean ====
module

public import proofs.«01_k».proof.Proof.Family
public import proofs.«01_k».proof.Proof.KitN
public import proofs.«01_k».proof.Proof.Same
public import Idealize.ShloMosaic.Lib.Pipeline.ValueKit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384
set_option pp.maxSteps 300

noncomputable section

namespace Cert.KernelN.Hand

open Cert.KernelB Cert.KernelB.Gen Cert.KernelN
open Cert.KernelB.Hand (body_eq)
open Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [hd : Head]

local notation "𝕄" => MT nD τ sig Unit (Elt F) ℕ (UR sig nD τ) ℕ

variable (m : (ℓ : Loc nD τ sig) → Buf (Elt F) ℓ) (ρ : Dev nD → PrngReg)

/-- What holds of the scratch before each point, and what the outputs end at. -/
structure Goal where
  /-- of the key words, the value words, the output rows and the score rows before point `n` -/
  inv : Dev nD → ℕ → Vec F S2x1024x128 .i32 → Vec F S2x1024x128 .i32 → Vec F S1024x128 .f32 → Vec F S128x256 .f32 → Prop
  fin : Dev nD → St F
  zero : ∀ c a b d e, inv c 0 a b d e
  step : ∀ (hO : Ok m) (c : Dev nD) (t : Fin (cfgM m hO).N) (s : St F), inv c t.val s.kw s.vw s.o s.sa →
    inv c (t.val + 1) (bodyF (grid0.coords t) (inAt m hO c t) s).kw (bodyF (grid0.coords t) (inAt m hO c t) s).vw
      (bodyF (grid0.coords t) (inAt m hO c t) s).o (bodyF (grid0.coords t) (inAt m hO c t) s).sa
  last : ∀ (hO : Ok m) (c : Dev nD) (t : Fin (cfgM m hO).N) (s : St F), inv c t.val s.kw s.vw s.o s.sa → t.val % 16 = 15 →
    (bodyF (grid0.coords t) (inAt m hO c t) s).out = (fin c).out ∧ (bodyF (grid0.coords t) (inAt m hO c t) s).ko = (fin c).ko
    ∧ (bodyF (grid0.coords t) (inAt m hO c t) s).vo = (fin c).vo ∧ (bodyF (grid0.coords t) (inAt m hO c t) s).so = (fin c).so

variable (g : Goal m)

theorem idleV_9 (hO : Ok m) : ∀ t : Fin (cfgM m hO).N, ¬t.val % 16 = 15 → (cfgM m hO).idle 9 (grid0.coords t) = true :=
  (by decide +kernel : ∀ t : Fin grid0.N, ¬t.val % 16 = 15 → idle0 9 (grid0.coords t) = true)
theorem noFlushV_9 (hO : Ok m) : ∀ t : Fin (cfgM m hO).N, ¬t.val % 16 = 15 → ((cfgM m hO).win 9).flush t = false :=
  (Head.all hd (by decide +kernel) : ∀ t : Fin grid0.N, ¬t.val % 16 = 15 → Pipeline.Window.flushOf grid0 true cc0_transform_13 t = false)
theorem liveV_9 (hO : Ok m) : ∀ t : Fin (cfgM m hO).N, t.val % 16 = 15 → (cfgM m hO).idle 9 (grid0.coords t) = false :=
  (by decide +kernel : ∀ t : Fin grid0.N, t.val % 16 = 15 → idle0 9 (grid0.coords t) = false)
theorem idleV_10 (hO : Ok m) : ∀ t : Fin (cfgM m hO).N, ¬t.val % 16 = 15 → (cfgM m hO).idle 10 (grid0.coords t) = true :=
  (by decide +kernel : ∀ t : Fin grid0.N, ¬t.val % 16 = 15 → idle0 10 (grid0.coords t) = true)
theorem noFlushV_10 (hO : Ok m) : ∀ t : Fin (cfgM m hO).N, ¬t.val % 16 = 15 → ((cfgM m hO).win 10).flush t = false :=
  (Head.all hd (by decide +kernel) : ∀ t : Fin grid0.N, ¬t.val % 16 = 15 → Pipeline.Window.flushOf grid0 true cc0_transform_14 t = false)
theorem liveV_10 (hO : Ok m) : ∀ t : Fin (cfgM m hO).N, t.val % 16 = 15 → (cfgM m hO).idle 10 (grid0.coords t) = false :=
  (by decide +kernel : ∀ t : Fin grid0.N, t.val % 16 = 15 → idle0 10 (grid0.coords t) = false)
theorem idleV_11 (hO : Ok m) : ∀ t : Fin (cfgM m hO).N, ¬t.val % 16 = 15 → (cfgM m hO).idle 11 (grid0.coords t) = true :=
  (by decide +kernel : ∀ t : Fin grid0.N, ¬t.val % 16 = 15 → idle0 11 (grid0.coords t) = true)
theorem noFlushV_11 (hO : Ok m) : ∀ t : Fin (cfgM m hO).N, ¬t.val % 16 = 15 → ((cfgM m hO).win 11).flush t = false :=
  (Head.all hd (by decide +kernel) : ∀ t : Fin grid0.N, ¬t.val % 16 = 15 → Pipeline.Window.flushOf grid0 true cc0_transform_15 t = false)
theorem liveV_11 (hO : Ok m) : ∀ t : Fin (cfgM m hO).N, t.val % 16 = 15 → (cfgM m hO).idle 11 (grid0.coords t) = false :=
  (by decide +kernel : ∀ t : Fin grid0.N, t.val % 16 = 15 → idle0 11 (grid0.coords t) = false)
theorem idleV_12 (hO : Ok m) : ∀ t : Fin (cfgM m hO).N, ¬t.val % 16 = 15 → (cfgM m hO).idle 12 (grid0.coords t) = true :=
  (by decide +kernel : ∀ t : Fin grid0.N, ¬t.val % 16 = 15 → idle0 12 (grid0.coords t) = true)
theorem noFlushV_12 (hO : Ok m) : ∀ t : Fin (cfgM m hO).N, ¬t.val % 16 = 15 → ((cfgM m hO).win 12).flush t = false :=
  (Head.all hd (by decide +kernel) : ∀ t : Fin grid0.N, ¬t.val % 16 = 15 → Pipeline.Window.flushOf grid0 true cc0_transform_16 t = false)
theorem liveV_12 (hO : Ok m) : ∀ t : Fin (cfgM m hO).N, t.val % 16 = 15 → (cfgM m hO).idle 12 (grid0.coords t) = false :=
  (by decide +kernel : ∀ t : Fin grid0.N, t.val % 16 = 15 → idle0 12 (grid0.coords t) = false)

/-- The invariant before point `n`. -/
def PhiV (c : Dev nD) (n : ℕ) : sProp 𝕄 :=
  iprop(∃ e0, ∃ e1, ∃ e2, ∃ e3, ⌜g.inv c n e0 e1 e2 e3⌝ ∗ owns (c : Thread nD τ) scM0_0 fullShare e0 ∗ owns (c : Thread nD τ) scM0_1 fullShare e1
    ∗ owns (c : Thread nD τ) scM0_2 fullShare e2 ∗ owns (c : Thread nD τ) scM0_3 fullShare e3 ∗ (∃ r, prngReg c r) ∗ owns (c : Thread nD τ) tbM0_0 fullShare.right (tbl m 0))

def datV (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => (g.fin c).out
    | ⟨10, _⟩ => (g.fin c).ko
    | ⟨11, _⟩ => (g.fin c).vo
    | ⟨12, _⟩ => (g.fin c).so
  Φ t := PhiV m g c t.val
  q _ := fullShare
  owed _ := 0

/-- The proof data's arrays are the region-entry contents: the proof data's definition projected (`dsimp`), so that
    `V` — a fold over @main's host prefix, long for some programs — is never unfolded to check it. -/
theorem A_eqV (hO : Ok m) (c : Dev nD) (w : Fin (cfgM m hO).W) : (datV m g hO 0 c).A w = V m c (Pipeline.arrRef spec0 w) := by
  dsimp only [datV]

/-- What the body leaves, window by window (the proof data's `match` reduced by `dsimp`). -/
theorem afterV_0 (hO : Ok m) (c : Dev nD) (t : Fin (cfgM m hO).N) : (datV m g hO 0 c).after 0 t = iblk m hO c 0 t := by dsimp only [datV]; try rfl
theorem afterV_1 (hO : Ok m) (c : Dev nD) (t : Fin (cfgM m hO).N) : (datV m g hO 0 c).after 1 t = iblk m hO c 1 t := by dsimp only [datV]; try rfl
theorem afterV_2 (hO : Ok m) (c : Dev nD) (t : Fin (cfgM m hO).N) : (datV m g hO 0 c).after 2 t = iblk m hO c 2 t := by dsimp only [datV]; try rfl
theorem afterV_3 (hO : Ok m) (c : Dev nD) (t : Fin (cfgM m hO).N) : (datV m g hO 0 c).after 3 t = iblk m hO c 3 t := by dsimp only [datV]; try rfl
theorem afterV_4 (hO : Ok m) (c : Dev nD) (t : Fin (cfgM m hO).N) : (datV m g hO 0 c).after 4 t = iblk m hO c 4 t := by dsimp only [datV]; try rfl
theorem afterV_5 (hO : Ok m) (c : Dev nD) (t : Fin (cfgM m hO).N) : (datV m g hO 0 c).after 5 t = iblk m hO c 5 t := by dsimp only [datV]; try rfl
theorem afterV_6 (hO : Ok m) (c : Dev nD) (t : Fin (cfgM m hO).N) : (datV m g hO 0 c).after 6 t = iblk m hO c 6 t := by dsimp only [datV]; try rfl
theorem afterV_7 (hO : Ok m) (c : Dev nD) (t : Fin (cfgM m hO).N) : (datV m g hO 0 c).after 7 t = iblk m hO c 7 t := by dsimp only [datV]; try rfl
theorem afterV_8 (hO : Ok m) (c : Dev nD) (t : Fin (cfgM m hO).N) : (datV m g hO 0 c).after 8 t = iblk m hO c 8 t := by dsimp only [datV]; try rfl

/-- Each input's current staging buffer holds its block at every point, fetched there or not (`beforeK_W_of`). -/
theorem beforeV_0 (hO : Ok m) (c : Dev nD) (t : Fin (cfgM m hO).N) (d) : (datV m g hO 0 c).before 0 t d = iblk m hO c 0 t :=
  before0_0_of m hO (datV m g hO 0 c) (A_eqV m g hO c 0) (afterV_0 m g hO c) t d
theorem beforeV_1 (hO : Ok m) (c : Dev nD) (t : Fin (cfgM m hO).N) (d) : (datV m g hO 0 c).before 1 t d = iblk m hO c 1 t :=
  before0_1_of m hO (datV m g hO 0 c) (A_eqV m g hO c 1) (afterV_1 m g hO c) t d
theorem beforeV_2 (hO : Ok m) (c : Dev nD) (t : Fin (cfgM m hO).N) (d) : (datV m g hO 0 c).before 2 t d = iblk m hO c 2 t :=
  before0_2_of m hO (datV m g hO 0 c) (A_eqV m g hO c 2) (afterV_2 m g hO c) t d
theorem beforeV_3 (hO : Ok m) (c : Dev nD) (t : Fin (cfgM m hO).N) (d) : (datV m g hO 0 c).before 3 t d = iblk m hO c 3 t :=
  before0_3_of m hO (datV m g hO 0 c) (A_eqV m g hO c 3) (afterV_3 m g hO c) t d
theorem beforeV_4 (hO : Ok m) (c : Dev nD) (t : Fin (cfgM m hO).N) (d) : (datV m g hO 0 c).before 4 t d = iblk m hO c 4 t :=
  before0_4_of m hO (datV m g hO 0 c) (A_eqV m g hO c 4) (afterV_4 m g hO c) t d
theorem beforeV_5 (hO : Ok m) (c : Dev nD) (t : Fin (cfgM m hO).N) (d) : (datV m g hO 0 c).before 5 t d = iblk m hO c 5 t :=
  before0_5_of m hO (datV m g hO 0 c) (A_eqV m g hO c 5) (afterV_5 m g hO c) t d
theorem beforeV_6 (hO : Ok m) (c : Dev nD) (t : Fin (cfgM m hO).N) (d) : (datV m g hO 0 c).before 6 t d = iblk m hO c 6 t :=
  before0_6_of m hO (datV m g hO 0 c) (A_eqV m g hO c 6) (afterV_6 m g hO c) t d
theorem beforeV_7 (hO : Ok m) (c : Dev nD) (t : Fin (cfgM m hO).N) (d) : (datV m g hO 0 c).before 7 t d = iblk m hO c 7 t :=
  before0_7_of m hO (datV m g hO 0 c) (A_eqV m g hO c 7) (afterV_7 m g hO c) t d
theorem beforeV_8 (hO : Ok m) (c : Dev nD) (t : Fin (cfgM m hO).N) (d) : (datV m g hO 0 c).before 8 t d = iblk m hO c 8 t :=
  before0_8_of m hO (datV m g hO 0 c) (A_eqV m g hO c 8) (afterV_8 m g hO c) t d

theorem afterV_9 (hO : Ok m) (c : Dev nD) (t : Fin (cfgM m hO).N) : (datV m g hO 0 c).after 9 t = (g.fin c).out := by dsimp only [datV]; try rfl
theorem afterV_10 (hO : Ok m) (c : Dev nD) (t : Fin (cfgM m hO).N) : (datV m g hO 0 c).after 10 t = (g.fin c).ko := by dsimp only [datV]; try rfl
theorem afterV_11 (hO : Ok m) (c : Dev nD) (t : Fin (cfgM m hO).N) : (datV m g hO 0 c).after 11 t = (g.fin c).vo := by dsimp only [datV]; try rfl
theorem afterV_12 (hO : Ok m) (c : Dev nD) (t : Fin (cfgM m hO).N) : (datV m g hO 0 c).after 12 t = (g.fin c).so := by dsimp only [datV]; try rfl
/-! ## The body obligation, at a generic point -/

/-- What the body is called with at point `t` (Lib/Pipeline.lean `BodyObligation`'s precondition, the windows one by one), -/
def bodyPreV (hO : Ok m) (c : Dev nD) (t : Fin (cfgM m hO).N) : sProp 𝕄 :=
  iprop((datV m g hO 0 c).Φ t.castSucc ∗ (datV m g hO 0 c).owesAt () t.castSucc
    ∗ (∃ d, owns (c : Thread nD τ) (ms0_0 m hO t) fullShare ((datV m g hO 0 c).before 0 t d))
    ∗ (∃ d, owns (c : Thread nD τ) (ms0_1 m hO t) fullShare ((datV m g hO 0 c).before 1 t d))
    ∗ (∃ d, owns (c : Thread nD τ) (ms0_2 m hO t) fullShare ((datV m g hO 0 c).before 2 t d))
    ∗ (∃ d, owns (c : Thread nD τ) (ms0_3 m hO t) fullShare ((datV m g hO 0 c).before 3 t d))
    ∗ (∃ d, owns (c : Thread nD τ) (ms0_4 m hO t) fullShare ((datV m g hO 0 c).before 4 t d))
    ∗ (∃ d, owns (c : Thread nD τ) (ms0_5 m hO t) fullShare ((datV m g hO 0 c).before 5 t d))
    ∗ (∃ d, owns (c : Thread nD τ) (ms0_6 m hO t) fullShare ((datV m g hO 0 c).before 6 t d))
    ∗ (∃ d, owns (c : Thread nD τ) (ms0_7 m hO t) fullShare ((datV m g hO 0 c).before 7 t d))
    ∗ (∃ d, owns (c : Thread nD τ) (ms0_8 m hO t) fullShare ((datV m g hO 0 c).before 8 t d))
    ∗ (∃ d, owns (c : Thread nD τ) (ms0_9 m hO t) fullShare ((datV m g hO 0 c).before 9 t d))
    ∗ (∃ d, owns (c : Thread nD τ) (ms0_10 m hO t) fullShare ((datV m g hO 0 c).before 10 t d))
    ∗ (∃ d, owns (c : Thread nD τ) (ms0_11 m hO t) fullShare ((datV m g hO 0 c).before 11 t d))
    ∗ (∃ d, owns (c : Thread nD τ) (ms0_12 m hO t) fullShare ((datV m g hO 0 c).before 12 t d)))

/-- and what it returns. -/
def bodyPostV (hO : Ok m) (c : Dev nD) (t : Fin (cfgM m hO).N) : sProp 𝕄 :=
  iprop((datV m g hO 0 c).Φ t.succ ∗ (datV m g hO 0 c).owesAt () t.succ
    ∗ (datV m g hO 0 c).leavesExact 0 t
    ∗ (datV m g hO 0 c).leavesExact 1 t
    ∗ (datV m g hO 0 c).leavesExact 2 t
    ∗ (datV m g hO 0 c).leavesExact 3 t
    ∗ (datV m g hO 0 c).leavesExact 4 t
    ∗ (datV m g hO 0 c).leavesExact 5 t
    ∗ (datV m g hO 0 c).leavesExact 6 t
    ∗ (datV m g hO 0 c).leavesExact 7 t
    ∗ (datV m g hO 0 c).leavesExact 8 t
    ∗ (datV m g hO 0 c).leavesExact 9 t
    ∗ (datV m g hO 0 c).leavesExact 10 t
    ∗ (datV m g hO 0 c).leavesExact 11 t
    ∗ (datV m g hO 0 c).leavesExact 12 t)

set_option maxHeartbeats 1600000 in
/-- The body at any point: the inputs' buffers hold their blocks, everything else holds anything. -/
theorem sound_bodyV (hO : Ok m) (c : Dev nD) (t : Fin (cfgM m hO).N) :
    bodyPreV m g hO c t ⊢ wp frame (wpE (defs₀ (F := F)) Variants.none c none) Set.univ (bodyAt0 (adm m hO) t) (fun _ => bodyPostV m g hO c t) := by
  unfold bodyPreV bodyPostV
  simp only [beforeV_0, beforeV_1, beforeV_2, beforeV_3, beforeV_4, beforeV_5, beforeV_6, beforeV_7, beforeV_8]
  rw [show (datV m g hO 0 c).owesAt () t.succ = (datV m g hO 0 c).owesAt () t.castSucc from rfl]
  rw [show (datV m g hO 0 c).Φ t.succ = PhiV m g c (t.val + 1) from rfl, show (datV m g hO 0 c).Φ t.castSucc = PhiV m g c t.val from rfl]
  unfold PhiV
  rw [show (datV m g hO 0 c).leavesExact 0 t = owns (c : Thread nD τ) (ms0_0 m hO t) fullShare ((datV m g hO 0 c).after 0 t) from by
    unfold Dat.leavesExact; rw [liveAt0_0 m hO t]; try rfl, afterV_0]
  rw [show (datV m g hO 0 c).leavesExact 1 t = owns (c : Thread nD τ) (ms0_1 m hO t) fullShare ((datV m g hO 0 c).after 1 t) from by
    unfold Dat.leavesExact; rw [liveAt0_1 m hO t]; try rfl, afterV_1]
  rw [show (datV m g hO 0 c).leavesExact 2 t = owns (c : Thread nD τ) (ms0_2 m hO t) fullShare ((datV m g hO 0 c).after 2 t) from by
    unfold Dat.leavesExact; rw [liveAt0_2 m hO t]; try rfl, afterV_2]
  rw [show (datV m g hO 0 c).leavesExact 3 t = owns (c : Thread nD τ) (ms0_3 m hO t) fullShare ((datV m g hO 0 c).after 3 t) from by
    unfold Dat.leavesExact; rw [liveAt0_3 m hO t]; try rfl, afterV_3]
  rw [show (datV m g hO 0 c).leavesExact 4 t = owns (c : Thread nD τ) (ms0_4 m hO t) fullShare ((datV m g hO 0 c).after 4 t) from by
    unfold Dat.leavesExact; rw [liveAt0_4 m hO t]; try rfl, afterV_4]
  rw [show (datV m g hO 0 c).leavesExact 5 t = owns (c : Thread nD τ) (ms0_5 m hO t) fullShare ((datV m g hO 0 c).after 5 t) from by
    unfold Dat.leavesExact; rw [liveAt0_5 m hO t]; try rfl, afterV_5]
  rw [show (datV m g hO 0 c).leavesExact 6 t = owns (c : Thread nD τ) (ms0_6 m hO t) fullShare ((datV m g hO 0 c).after 6 t) from by
    unfold Dat.leavesExact; rw [liveAt0_6 m hO t]; try rfl, afterV_6]
  rw [show (datV m g hO 0 c).leavesExact 7 t = owns (c : Thread nD τ) (ms0_7 m hO t) fullShare ((datV m g hO 0 c).after 7 t) from by
    unfold Dat.leavesExact; rw [liveAt0_7 m hO t]; try rfl, afterV_7]
  rw [show (datV m g hO 0 c).leavesExact 8 t = owns (c : Thread nD τ) (ms0_8 m hO t) fullShare ((datV m g hO 0 c).after 8 t) from by
    unfold Dat.leavesExact; rw [liveAt0_8 m hO t]; try rfl, afterV_8]
  iintro ⟨⟨%e0, %e1, %e2, %e3, %hg, HS0, HS1, HS2, HS3, Hg, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_at m hO c t ⟨(datV m g hO 0 c).before 9 t d9, (datV m g hO 0 c).before 10 t d10, (datV m g hO 0 c).before 11 t d11, (datV m g hO 0 c).before 12 t d12, e0, e1, e2, e3⟩ _)
  isplitl [HT0 H0 H1 H2 H3 H4 H5 H6 H7 H8 H9 H10 H11 H12 HS0 HS1 HS2 HS3]
  · unfold Own
    isplitl [HT0]; · iexact HT0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    iexact HS3
  have hstep := g.step hO c t ⟨(datV m g hO 0 c).before 9 t d9, (datV m g hO 0 c).before 10 t d10, (datV m g hO 0 c).before 11 t d11, (datV m g hO 0 c).before 12 t d12, e0, e1, e2, e3⟩ hg
  have hlast := g.last hO c t ⟨(datV m g hO 0 c).before 9 t d9, (datV m g hO 0 c).before 10 t d10, (datV m g hO 0 c).before 11 t d11, (datV m g hO 0 c).before 12 t d12, e0, e1, e2, e3⟩ hg
  have hkeep := fun h : ¬t.val % 16 = 15 => show SameOut ⟨(datV m g hO 0 c).before 9 t d9, (datV m g hO 0 c).before 10 t d10, (datV m g hO 0 c).before 11 t d11, (datV m g hO 0 c).before 12 t d12, e0, e1, e2, e3⟩ (bodyF (grid0.coords t) (inAt m hO c t) ⟨(datV m g hO 0 c).before 9 t d9, (datV m g hO 0 c).before 10 t d10, (datV m g hO 0 c).before 11 t d11, (datV m g hO 0 c).before 12 t d12, e0, e1, e2, e3⟩) from by
    unfold bodyF; rw [if_neg (fun h' => h ((cond3_iff t).1 h'))]; exact bodyM_same _ _ _
  revert hstep hlast hkeep
  generalize bodyF (grid0.coords t) (inAt m hO c t) _ = s'
  intro hstep hlast hkeep
  unfold Own
  iintro ⟨HT0, H0, H1, H2, H3, H4, H5, H6, H7, H8, H9, H10, H11, H12, HS0, HS1, HS2, HS3⟩
  isplitl [HS0 HS1 HS2 HS3 Hg HT0]
  · iexists _; iexists _; iexists _; iexists _
    isplitr; · ipureintro; exact hstep
    isplitl [HS0]; · iexact HS0
    isplitl [HS1]; · iexact HS1
    isplitl [HS2]; · iexact HS2
    isplitl [HS3]; · iexact HS3
    isplitl [Hg]; · iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  by_cases h : t.val % 16 = 15
  · obtain ⟨q9, q10, q11, q12⟩ := hlast h
    rw [show (datV m g hO 0 c).leavesExact 9 t = owns (c : Thread nD τ) (ms0_9 m hO t) fullShare ((datV m g hO 0 c).after 9 t) from by
      unfold Dat.leavesExact; rw [liveV_9 m hO t h]; try rfl, afterV_9, ← q9]
    rw [show (datV m g hO 0 c).leavesExact 10 t = owns (c : Thread nD τ) (ms0_10 m hO t) fullShare ((datV m g hO 0 c).after 10 t) from by
      unfold Dat.leavesExact; rw [liveV_10 m hO t h]; try rfl, afterV_10, ← q10]
    rw [show (datV m g hO 0 c).leavesExact 11 t = owns (c : Thread nD τ) (ms0_11 m hO t) fullShare ((datV m g hO 0 c).after 11 t) from by
      unfold Dat.leavesExact; rw [liveV_11 m hO t h]; try rfl, afterV_11, ← q11]
    rw [show (datV m g hO 0 c).leavesExact 12 t = owns (c : Thread nD τ) (ms0_12 m hO t) fullShare ((datV m g hO 0 c).after 12 t) from by
      unfold Dat.leavesExact; rw [liveV_12 m hO t h]; try rfl, afterV_12, ← q12]
    isplitl [H9]; · iexact H9
    isplitl [H10]; · iexact H10
    isplitl [H11]; · iexact H11
    iexact H12
  · rw [Dat.leavesExact_idle (datV m g hO 0 c) 9 t (idleV_9 m hO t h) (noFlushV_9 m hO t h), Dat.leavesExact_idle (datV m g hO 0 c) 10 t (idleV_10 m hO t h) (noFlushV_10 m hO t h),
      Dat.leavesExact_idle (datV m g hO 0 c) 11 t (idleV_11 m hO t h) (noFlushV_11 m hO t h), Dat.leavesExact_idle (datV m g hO 0 c) 12 t (idleV_12 m hO t h) (noFlushV_12 m hO t h)]
    obtain ⟨q9, q10, q11, q12⟩ := hkeep h
    rw [q9, q10, q11, q12]
    isplitl [H9]; · iexists d9; iexact H9
    isplitl [H10]; · iexists d10; iexact H10
    isplitl [H11]; · iexists d11; iexact H11
    iexists d12; iexact H12

/-- The body table's row at point `t`'s slots is the body as `bodyAt0` spells it. -/
theorem defs₀_rowV (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligationV (hO : Ok m) (c : Dev nD) : BodyObligation (datV (F := F) m g hO 0 c) (defs₀ (F := F)) Variants.none () Set.univ := fun t => by
  rw [bigSep_W0, bigSep_W0, defs₀_rowV m hO]
  exact triple_restated (sound_bodyV m g hO c t) rfl .rfl fun _ => .rfl

/-- What the launch hands the region is the invariant before the first point. -/
theorem hinV (hO : Ok m) (c : Dev nD) : iprop(Pipeline.ΦA spec0 c ∗ Pipeline.ΦT pre0 (tbl m) c) ⊢ (datV m g hO 0 c).Φ 0 := by
  rw [show (datV m g hO 0 c).Φ 0 = PhiV m g c 0 from rfl, PhiT0_eq, PhiA0_eq, tbOwn]
  unfold PhiV
  iintro ⟨⟨⟨⟨%e0, HS0⟩, ⟨%e1, HS1⟩, ⟨%e2, HS2⟩, ⟨%e3, HS3⟩⟩, Hg⟩, HT0⟩
  iexists e0; iexists e1; iexists e2; iexists e3
  isplitr; · ipureintro; exact g.zero c e0 e1 e2 e3
  isplitl [HS0]; · iexact HS0
  isplitl [HS1]; · iexact HS1
  isplitl [HS2]; · iexact HS2
  isplitl [HS3]; · iexact HS3
  isplitl [Hg]; · iexact Hg
  iexact HT0

/-- After the last point the invariant gives the scratch back. -/
theorem houtV (hO : Ok m) (c : Dev nD) : (datV m g hO 0 c).Φ (Fin.last (cfgM m hO).N) ⊢ Pipeline.ΦA spec0 c := by
  rw [show (datV m g hO 0 c).Φ (Fin.last (cfgM m hO).N) = PhiV m g c (cfgM m hO).N from rfl, PhiA0_eq]
  unfold PhiV
  iintro ⟨%e0, %e1, %e2, %e3, -, HS0, HS1, HS2, HS3, Hg, -⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- The launch, the outputs named. -/
theorem run_mainV (hO : Ok m) : θ_run defs (onTc (τ := τ) (main (F := F))) (s₀ m ρ) (fun r => (Pipeline.FramePost (Pipeline.pin pcfgs fun _ => adm m hO) (datV m g hO) 0 (V m)) r ∧ r.2.sem = fun _ => 0) :=
  Pipeline.θ_run_frameP_track (Q' := _) pcfgs (fun _ => adm m hO) (datV m g hO) (0 : Fin 1) launch0 defs₀ Variants.none m ρ main
    (hbody := fun c => (body_obligationV m g hO c).loose) (hshare := fun c => (datV m g hO 0 c).share_full fun _ => rfl)
    (howed := fun _ _ => rfl) (V := V m) (hmain := hmain m Variants.none) (hA := A_eqV m g hO) (hpf := V_pre m)
    (hin := hinV m g hO) (hout := houtV m g hO)

/-- The last grid point. -/
def tLast (hO : Ok m) : Fin (cfgM m hO).N := ⟨15, by rw [show (cfgM m hO).N = 16 from N_0]; decide⟩

theorem flushV_9 (hO : Ok m) : ∀ t : Fin (cfgM m hO).N, ((cfgM m hO).win 9).flush t = true → t = tLast m hO :=
  (Head.all hd (by decide +kernel) : ∀ t : Fin grid0.N, Pipeline.Window.flushOf grid0 true cc0_transform_13 t = true → t = ⟨15, by decide⟩)
theorem flushV_9' (hO : Ok m) : ((cfgM m hO).win 9).flush (tLast m hO) = true :=
  (Head.all hd (by decide +kernel) : Pipeline.Window.flushOf grid0 true cc0_transform_13 ⟨15, by decide⟩ = true)
/-- Output 9's block at the end. -/
theorem outV_9 (hO : Ok m) (c : Dev nD) (y : (((cfgM m hO).win 9).xblock ((cfgM m hO).grid.coords (tLast m hO))).Idx) :
    (((cfgM m hO).win 9).blk (tLast m hO)).view.read (Elt F) ((datV m g hO 0 c).arrAt 9 (cfgM m hO).N) y = (datV m g hO 0 c).flushed 9 (tLast m hO) y := by
  rw [(datV m g hO 0 c).read_blk_arrAt_eq_flushed 9 (fun t t' hf hf' hne => absurd ((flushV_9 m hO t hf).trans (flushV_9 m hO t' hf').symm) hne) _ (tLast m hO) (tLast m hO).isLt (flushV_9' m hO)]
theorem flushV_10 (hO : Ok m) : ∀ t : Fin (cfgM m hO).N, ((cfgM m hO).win 10).flush t = true → t = tLast m hO :=
  (Head.all hd (by decide +kernel) : ∀ t : Fin grid0.N, Pipeline.Window.flushOf grid0 true cc0_transform_14 t = true → t = ⟨15, by decide⟩)
theorem flushV_10' (hO : Ok m) : ((cfgM m hO).win 10).flush (tLast m hO) = true :=
  (Head.all hd (by decide +kernel) : Pipeline.Window.flushOf grid0 true cc0_transform_14 ⟨15, by decide⟩ = true)
/-- Output 10's block at the end. -/
theorem outV_10 (hO : Ok m) (c : Dev nD) (y : (((cfgM m hO).win 10).xblock ((cfgM m hO).grid.coords (tLast m hO))).Idx) :
    (((cfgM m hO).win 10).blk (tLast m hO)).view.read (Elt F) ((datV m g hO 0 c).arrAt 10 (cfgM m hO).N) y = (datV m g hO 0 c).flushed 10 (tLast m hO) y := by
  rw [(datV m g hO 0 c).read_blk_arrAt_eq_flushed 10 (fun t t' hf hf' hne => absurd ((flushV_10 m hO t hf).trans (flushV_10 m hO t' hf').symm) hne) _ (tLast m hO) (tLast m hO).isLt (flushV_10' m hO)]
theorem flushV_11 (hO : Ok m) : ∀ t : Fin (cfgM m hO).N, ((cfgM m hO).win 11).flush t = true → t = tLast m hO :=
  (Head.all hd (by decide +kernel) : ∀ t : Fin grid0.N, Pipeline.Window.flushOf grid0 true cc0_transform_15 t = true → t = ⟨15, by decide⟩)
theorem flushV_11' (hO : Ok m) : ((cfgM m hO).win 11).flush (tLast m hO) = true :=
  (Head.all hd (by decide +kernel) : Pipeline.Window.flushOf grid0 true cc0_transform_15 ⟨15, by decide⟩ = true)
/-- Output 11's block at the end. -/
theorem outV_11 (hO : Ok m) (c : Dev nD) (y : (((cfgM m hO).win 11).xblock ((cfgM m hO).grid.coords (tLast m hO))).Idx) :
    (((cfgM m hO).win 11).blk (tLast m hO)).view.read (Elt F) ((datV m g hO 0 c).arrAt 11 (cfgM m hO).N) y = (datV m g hO 0 c).flushed 11 (tLast m hO) y := by
  rw [(datV m g hO 0 c).read_blk_arrAt_eq_flushed 11 (fun t t' hf hf' hne => absurd ((flushV_11 m hO t hf).trans (flushV_11 m hO t' hf').symm) hne) _ (tLast m hO) (tLast m hO).isLt (flushV_11' m hO)]
theorem flushV_12 (hO : Ok m) : ∀ t : Fin (cfgM m hO).N, ((cfgM m hO).win 12).flush t = true → t = tLast m hO :=
  (Head.all hd (by decide +kernel) : ∀ t : Fin grid0.N, Pipeline.Window.flushOf grid0 true cc0_transform_16 t = true → t = ⟨15, by decide⟩)
theorem flushV_12' (hO : Ok m) : ((cfgM m hO).win 12).flush (tLast m hO) = true :=
  (Head.all hd (by decide +kernel) : Pipeline.Window.flushOf grid0 true cc0_transform_16 ⟨15, by decide⟩ = true)
/-- Output 12's block at the end. -/
theorem outV_12 (hO : Ok m) (c : Dev nD) (y : (((cfgM m hO).win 12).xblock ((cfgM m hO).grid.coords (tLast m hO))).Idx) :
    (((cfgM m hO).win 12).blk (tLast m hO)).view.read (Elt F) ((datV m g hO 0 c).arrAt 12 (cfgM m hO).N) y = (datV m g hO 0 c).flushed 12 (tLast m hO) y := by
  rw [(datV m g hO 0 c).read_blk_arrAt_eq_flushed 12 (fun t t' hf hf' hne => absurd ((flushV_12 m hO t hf).trans (flushV_12 m hO t' hf').symm) hne) _ (tLast m hO) (tLast m hO).isLt (flushV_12' m hO)]

end Cert.KernelN.Hand
-- ==== Proof.IdealGoalN.lean ====
module

public import proofs.«01_k».proof.Proof.IdealTail
public import proofs.«01_k».proof.Proof.IdealInputsN
public import proofs.«01_k».proof.Proof.IdealValueN

@[expose] public section

set_option maxRecDepth 16384
set_option pp.maxSteps 300

noncomputable section
namespace Cert.KernelN.Hand
open Cert.KernelB Cert.KernelB.Gen Cert.KernelN
open Cert.KernelB.Hand (body_eq)
open Cert.Kernel.Hand
open Idealize.ShloMosaic

variable [hd : Head]

/-! ## The invariant -/

section
variable (m : (ℓ : Loc nD τ sig) → Buf (Elt Ideal) ℓ)

/-- Sequence `b` of the arrays. -/
def rowM (c : Dev nD) (b : Fin 128) : Cert.Spec.Row := Cert.Spec.rowAt hd.n (m ((c.tc : Thread nD τ).loc main_arg1)) (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) b

/-- What is asked of the positions. -/
structure Kept : Prop where
  pos : ∀ (c : Dev nD) (b : Fin 128) (k : Fin 192), ((m ((c.tc : Thread nD τ).loc main_arg1) : IVec S128x256 32) (ix2 b ⟨k.val, by omega⟩)).toNat < 8192
  split : ∀ (c : Dev nD) (b : Fin 128) (k : Fin 192), (k.val : ℤ) < ((m ((c.tc : Thread nD τ).loc main_arg0) : IVec S32x16 32) (ix2 ⟨b.val / 4, by omega⟩ ⟨b.val % 4, by omega⟩)).toInt
    ↔ ((m ((c.tc : Thread nD τ).loc main_arg1) : IVec S128x256 32) (ix2 b ⟨k.val, by omega⟩)).toNat < 4096

section
variable (hO : Ok m) (c : Dev nD) (t : Fin grid0.N) (r : Fin 8)

theorem p192_in (k : Fin 192) : p192 t (inAt m hO c t) r k = (m ((c.tc : Thread nD τ).loc main_arg1) : IVec S128x256 32) (ix2 (bat t r) ⟨k.val, by omega⟩) := in_x2 m hO c t _ _
theorem rowOf_in : rowOf t (inAt m hO c t) r = rowM m c (bat t r) := by
  have ht : t.val < 16 := t.isLt
  apply Cert.Spec.Row.ext
  · funext g d
    refine (in_x6 m hO c t ⟨8 * r.val + g.val, by omega⟩ d ht).trans ?_
    have e : (⟨64 * t.val + (8 * r.val + g.val), by omega⟩ : Fin 1024) = ⟨(bat t r).val * 8 + g.val, by simp only [bat]; omega⟩ := Fin.ext (by show 64 * t.val + (8 * r.val + g.val) = (8 * t.val + r.val) * 8 + g.val; omega)
    exact e ▸ rfl
  · funext k cc
    refine (in_x9 m hO c t r cc _ ht).trans ?_
    rw [p192_in]; rfl
  · funext k cc
    refine (in_x10 m hO c t r cc _ ht).trans ?_
    rw [p192_in]; rfl
  · funext k; exact in_x3 m hO c t _ _
  · funext k; exact in_x4 m hO c t _ _
  · funext k; exact in_x5 m hO c t _ _
  · funext d; exact in_x7 m hO c t _ _
  · funext d; exact in_x8 m hO c t _ _

theorem done_step (K : Kept m) (s : St Ideal) (H : ∀ b : Fin 128, b.val < 8 * t.val → Done (rowM m c b) b s) (b : Fin 128) (hb : b.val < 8 * (t.val + 1)) :
    Done (rowM m c b) b (bodyM (grid0.coords t) (inAt m hO c t) s) := by
  have ht : t.val < 16 := t.isLt
  by_cases h : b.val < 8 * t.val
  · exact bodyM_keep t _ s _ b (fun r e => by have := congrArg Fin.val e; simp only [bat] at this; omega) (H b h)
  · have e : b = bat t ⟨b.val - 8 * t.val, by omega⟩ := Fin.ext (by show b.val = 8 * t.val + (b.val - 8 * t.val); omega)
    rw [e, ← rowOf_in m hO c t]
    refine bodyM_done t _ s (fun r k => ?_) (fun r k => ?_) _
    · rw [p192_in]; exact K.pos c _ k
    · rw [p192_in, splits_apply, in_x1 m hO c t]; exact K.split c (bat t r) k
end

/-- The goal of the launch. -/
def goal (K : Kept m) : Goal m where
  inv c n kw vw o sa := ∀ b : Fin 128, b.val < 8 * n → (KVrow (rowM m c b).K b kw ∧ KVrow (rowM m c b).V b vw) ∧ ScoreRow (rowM m c b) b sa ∧ OutRow (rowM m c b) b o
  fin c := { out := fun i => Cert.Spec.out (rowM m c (i 0)) ⟨(i 1).val / 64, by have : (i 1).val < 512 := (i 1).isLt; omega⟩ ⟨(i 1).val % 64, by omega⟩
             ko := fun i => (rowM m c (i 3)).K (i 0) (i 2)
             vo := fun i => (rowM m c (i 3)).V (i 0) (i 2)
             so := fun i => Cert.Spec.score (rowM m c (i 2)) (i 1)
             kw := fun _ => 0#32, vw := fun _ => 0#32, o := fun _ => (0 : EReal), sa := fun _ => (0 : EReal) }
  zero c a b d e := fun b h => absurd h (by omega)
  step hO c t s h := fun b hb => ((bodyF_same (grid0.coords t) (inAt m hO c t) s).done _ _).2 (done_step m hO c t K s h b hb)
  last hO c t s h h15 := by
    have hN : t.val < 16 := t.isLt
    have hd : ∀ b, Done (rowM m c b) b (bodyM (grid0.coords t) (inAt m hO c t) s) := fun b => done_step m hO c t K s h b (by omega)
    have e : bodyF (grid0.coords t) (inAt m hO c t) s = epiF (bodyM (grid0.coords t) (inAt m hO c t) s) := by
      unfold bodyF; rw [if_pos ((cond3_iff t).2 h15)]
    rw [e]
    exact ⟨epiF_out _ _ hd, epiF_ko _ _ hd, epiF_vo _ _ hd, epiF_so _ _ hd⟩
end

end Cert.KernelN.Hand
-- ==== Proof.FrameN.lean ====
module

public import proofs.«01_k».proof.Proof.Family
public import proofs.«01_k».proof.Proof.KitN
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelN.Hand

open Cert.KernelB Cert.KernelB.Gen Cert.KernelN
open Cert.KernelB.Hand (body_eq)
open Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [hd : Head]

local notation "𝕄" => MT nD τ sig Unit (Elt F) ℕ (UR sig nD τ) ℕ

variable (m : (ℓ : Loc nD τ sig) → Buf (Elt F) ℓ) (ρ : Dev nD → PrngReg)
/-- The index maps read nothing of the prefetched table, so every contents of it is admissible. -/
theorem ok_all : Ok m := by
  trivial

def forgets0 : Fin 13 → Bool := fun w => w.val == 9 || w.val == 10 || w.val == 11 || w.val == 12

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d))

set_option maxHeartbeats 1600000 in
/-- The body at any point: the inputs' buffers hold their blocks, everything else holds anything. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost
  simp only [before0_0, before0_1, before0_2, before0_3, before0_4, before0_5, before0_6, before0_7, before0_8]
  rw [show (dats m hO 0 c).owesAt () t.succ = (dats m hO 0 c).owesAt () t.castSucc from rfl]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq, tbOwn]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  rw [show (dats m hO 0 c).leavesExact 7 t = owns (c : Thread nD τ) (ms0_7 m hO t) fullShare ((dats m hO 0 c).after 7 t) from by
    unfold Dat.leavesExact; rw [liveAt0_7 m hO t]; try rfl, after0_7]
  rw [show (dats m hO 0 c).leavesExact 8 t = owns (c : Thread nD τ) (ms0_8 m hO t) fullShare ((dats m hO 0 c).after 8 t) from by
    unfold Dat.leavesExact; rw [liveAt0_8 m hO t]; try rfl, after0_8]
  iintro ⟨⟨⟨⟨⟨%e0, HS0⟩, ⟨%e1, HS1⟩, ⟨%e2, HS2⟩, ⟨%e3, HS3⟩⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_at m hO c t ⟨d9, d10, d11, d12, e0, e1, e2, e3⟩ _)
  isplitl [HT0 H0 H1 H2 H3 H4 H5 H6 H7 H8 H9 H10 H11 H12 HS0 HS1 HS2 HS3]
  · unfold Own
    isplitl [HT0]; · iexact HT0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    isplitl [HS2]; · iexact HS2
    iexact HS3
  unfold Own
  iintro ⟨HT0, H0, H1, H2, H3, H4, H5, H6, H7, H8, H9, H10, H11, H12, HS0, HS1, HS2, HS3⟩
  isplitl [HS0 HS1 HS2 HS3 Hg HT0]
  · isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 :=
  Idealize.SL.BI.Entails.refl _

/-- After the last point the invariant gives the scratch back. -/
theorem hout (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨H, -⟩
  iexact H

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- At the compiled mesh, for any values, from any memory with zero counters: every weakly fair execution of @main on the
    TensorCores terminates, and every final state has every INPUT array of the pipeline unchanged, nothing stated of the
    FORGOTTEN outputs (windows 9, 10, 11, 12) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ hO (fun c => (dats m hO 0 c).toRForget forgets0) (A_eq m hO) (run_main m ρ hO)

/-- The frame: @main runs, its arguments end unchanged, every semaphore counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ hO) ((θ_run defs _ _).mono (fun _ h => h.2) (run_main_quiescent m ρ hO))

end Cert.KernelN.Hand
-- ==== Proof.IdealOutN.lean ====
module

public import proofs.«01_k».proof.Proof.IdealGoalN
public import proofs.«01_k».proof.Proof.FrameN

@[expose] public section

set_option maxRecDepth 16384

noncomputable section
namespace Cert.KernelN.Hand
open Cert.KernelB Cert.KernelB.Gen Cert.KernelN
open Cert.KernelB.Hand (body_eq)
open Cert.Kernel.Hand
open Idealize.ShloMosaic Idealize.ShloMosaic.TcCoe Idealize.ShloMosaic.Tactic
open Idealize.SL.Sem

variable [hd : Head]

/-! ## The results in memory -/

variable (m : (ℓ : Loc nD τ sig) → Buf (Elt Ideal) ℓ) (ρ : Dev nD → PrngReg)

theorem idx_9 (hO : Ok m) (t : Fin (cfgM m hO).N) : (pcfg0.win (adm m hO) 9).index t = ![0, hd.n.val] :=
  (Head.all hd (by decide +kernel) : ∀ t : Fin grid0.N, cc0_transform_13 (grid0.coords t) = ![0, hd.n.val]) t
theorem idx_10 (hO : Ok m) (t : Fin (cfgM m hO).N) : (pcfg0.win (adm m hO) 10).index t = ![0, hd.n.val, 0, 0] :=
  (Head.all hd (by decide +kernel) : ∀ t : Fin grid0.N, cc0_transform_14 (grid0.coords t) = ![0, hd.n.val, 0, 0]) t
theorem idx_11 (hO : Ok m) (t : Fin (cfgM m hO).N) : (pcfg0.win (adm m hO) 11).index t = ![0, hd.n.val, 0, 0] :=
  (Head.all hd (by decide +kernel) : ∀ t : Fin grid0.N, cc0_transform_15 (grid0.coords t) = ![0, hd.n.val, 0, 0]) t
theorem idx_12 (hO : Ok m) (t : Fin (cfgM m hO).N) : (pcfg0.win (adm m hO) 12).index t = ![hd.n.val, 0, 0] :=
  (Head.all hd (by decide +kernel) : ∀ t : Fin grid0.N, cc0_transform_16 (grid0.coords t) = ![hd.n.val, 0, 0]) t

variable (g : Goal m) (hO : Ok m) (c : Dev nD)

theorem arr_9 (b : Fin 128) (j : Fin 512) : (datV m g hO 0 c).arrAt 9 (cfgM m hO).N (ix2 b ⟨512 * hd.n.val + j.val, by omega⟩) = (g.fin c).out (ix2 b j) := by
  have h := (outV_9 m g hO c (ix2 b j)).trans (show _ = (g.fin c).out (ix2 b j) from congrFun (afterV_9 m g hO c (tLast m hO)) _)
  refine Eq.trans ?_ h
  generalize (datV m g hO 0 c).arrAt 9 (cfgM m hO).N = X
  symm
  have e := idx_9 m hO (tLast m hO)
  blk_ext! [e]
  all_goals first | exact congrFun e 0 | exact congrFun e 1 | (refine (congrArg (fun z => z * _ + _) (congrFun e _)).trans ?_; first | (show 0 * _ + _ = _; omega) | (show hd.n.val * _ + _ = _; omega))
theorem arr_10 (k : Fin 192) (cc : Fin 32) (b : Fin 128) : (datV m g hO 0 c).arrAt 10 (cfgM m hO).N (ix4 k hd.n cc b) = (g.fin c).ko (ix4 k 0 cc b) := by
  have h := (outV_10 m g hO c (ix4 k 0 cc b)).trans (show _ = (g.fin c).ko (ix4 k 0 cc b) from congrFun (afterV_10 m g hO c (tLast m hO)) _)
  refine Eq.trans ?_ h
  generalize (datV m g hO 0 c).arrAt 10 (cfgM m hO).N = X
  symm
  have e := idx_10 m hO (tLast m hO)
  blk_ext! [e]
  all_goals first | exact congrFun e 0 | exact congrFun e 1 | (refine (congrArg (fun z => z * _ + _) (congrFun e _)).trans ?_; first | (show 0 * _ + _ = _; omega) | (show hd.n.val * _ + _ = _; omega))
theorem arr_11 (k : Fin 192) (cc : Fin 32) (b : Fin 128) : (datV m g hO 0 c).arrAt 11 (cfgM m hO).N (ix4 k hd.n cc b) = (g.fin c).vo (ix4 k 0 cc b) := by
  have h := (outV_11 m g hO c (ix4 k 0 cc b)).trans (show _ = (g.fin c).vo (ix4 k 0 cc b) from congrFun (afterV_11 m g hO c (tLast m hO)) _)
  refine Eq.trans ?_ h
  generalize (datV m g hO 0 c).arrAt 11 (cfgM m hO).N = X
  symm
  have e := idx_11 m hO (tLast m hO)
  blk_ext! [e]
  all_goals first | exact congrFun e 0 | exact congrFun e 1 | (refine (congrArg (fun z => z * _ + _) (congrFun e _)).trans ?_; first | (show 0 * _ + _ = _; omega) | (show hd.n.val * _ + _ = _; omega))
theorem arr_12 (k : Fin 192) (b : Fin 128) : (datV m g hO 0 c).arrAt 12 (cfgM m hO).N (ix3 hd.n k b) = (g.fin c).so (ix3 0 k b) := by
  have h := (outV_12 m g hO c (ix3 0 k b)).trans (show _ = (g.fin c).so (ix3 0 k b) from congrFun (afterV_12 m g hO c (tLast m hO)) _)
  refine Eq.trans ?_ h
  generalize (datV m g hO 0 c).arrAt 12 (cfgM m hO).N = X
  symm
  have e := idx_12 m hO (tLast m hO)
  blk_ext! [e]
  all_goals first | exact congrFun e 0 | exact congrFun e 1 | (refine (congrArg (fun z => z * _ + _) (congrFun e _)).trans ?_; first | (show 0 * _ + _ = _; omega) | (show hd.n.val * _ + _ = _; omega))

/-- The launch leaves the attention of every sequence in the block of its key head. -/
theorem run_value (K : Kept m) : θ_run defs (onTc (τ := τ) (main (F := Ideal))) ⟨m, fun _ => 0, ρ⟩ (fun r => ∀ c : Dev nD,
    (∀ (b : Fin 128) (j : Fin 512), (r.2.mem ((c.tc : Thread nD τ).loc main_v0_0) : Vec Ideal S128x2048 .bf16) (ix2 b ⟨512 * hd.n.val + j.val, by omega⟩) = Cert.Spec.out (rowM m c b) ⟨j.val / 64, by omega⟩ ⟨j.val % 64, by omega⟩)
    ∧ (∀ (k : Fin 192) (cc : Fin 32) (b : Fin 128), (r.2.mem ((c.tc : Thread nD τ).loc main_v0_1) : Vec Ideal S192x4x32x128 .i8) (ix4 k hd.n cc b) = (rowM m c b).K k cc)
    ∧ (∀ (k : Fin 192) (cc : Fin 32) (b : Fin 128), (r.2.mem ((c.tc : Thread nD τ).loc main_v0_2) : Vec Ideal S192x4x32x128 .i8) (ix4 k hd.n cc b) = (rowM m c b).V k cc)
    ∧ (∀ (k : Fin 192) (b : Fin 128), (r.2.mem ((c.tc : Thread nD τ).loc main_v0_3) : Vec Ideal S4x192x128 .f32) (ix3 hd.n k b) = Cert.Spec.score (rowM m c b) k)) :=
  (θ_run defs _ _).mono (fun r h c => ⟨
    fun b j => (congrFun (h.1.out_eq c 9) _).trans (arr_9 m (goal m K) (ok_all m) c b j),
    fun k cc b => (congrFun (h.1.out_eq c 10) _).trans (arr_10 m (goal m K) (ok_all m) c k cc b),
    fun k cc b => (congrFun (h.1.out_eq c 11) _).trans (arr_11 m (goal m K) (ok_all m) c k cc b),
    fun k b => (congrFun (h.1.out_eq c 12) _).trans (arr_12 m (goal m K) (ok_all m) c k b)⟩) (run_mainV m ρ (goal m K) (ok_all m))

end Cert.KernelN.Hand
-- ==== Proof.Heads.lean ====
module

public import proofs.«01_k».proof.Proof.IdealOutN
public import proofs.«01_k».proof.Proof.Meet

@[expose] public section

set_option maxRecDepth 16384

noncomputable section
namespace Cert.KernelN
open Cert.KernelB Cert.KernelB.Gen
open Idealize.ShloMosaic Idealize.ShloMosaic.TcCoe
open Idealize.SL.Sem
open Cert.Meet (Gives)

/-! ## What a launch does, at any head -/

/-- The launch runs, its arguments end unchanged, every semaphore counter ends at zero. -/
def Quiet (F : FTy → Type) [FloatOps F] [hd : Head] : Prop := ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0)
theorem quiet (F : FTy → Type) [FloatOps F] [hd : Head] : Quiet F := fun m g _ => Hand.frame m g (Hand.ok_all m)

/-- The launch leaves the attention of every sequence in its head's blocks. -/
def Attends [hd : Head] : Prop := ∀ (m : (ℓ : Loc nD τ sig) → Buf (Elt Ideal) ℓ) (g : Dev nD → PrngReg), Hand.Kept m →
    θ_run (defs (F := Ideal)) (onTc (τ := τ) (main (F := Ideal))) ⟨m, fun _ => 0, g⟩ (fun r => ∀ c : Dev nD,
      Gives hd.n (Hand.rowM m c) (r.2.mem ((c.tc : Thread nD τ).loc main_v0_0)) (r.2.mem ((c.tc : Thread nD τ).loc main_v0_1)) (r.2.mem ((c.tc : Thread nD τ).loc main_v0_2)) (r.2.mem ((c.tc : Thread nD τ).loc main_v0_3)))
theorem attends [hd : Head] : Attends := fun m g K =>
  (θ_run defs _ _).mono (fun r h c => ⟨(h c).1, (h c).2.1, (h c).2.2.1, (h c).2.2.2⟩) (Hand.run_value m g K)

end Cert.KernelN
-- ==== Proof.MovedB.lean ====
module

public import proofs.«01_k».proof.Defs
public import proofs.«01_k».proof.Proof.Heads
public import proofs.«01_k».proof.Proof.Gen.KernelB
public import proofs.«01_k».proof.Proof.Gen.KernelBIdeal

@[expose] public section

set_option maxRecDepth 65536

noncomputable section
namespace Cert.KernelB.Moved
open Idealize.ShloMosaic Idealize.SL.Sem
open Cert.KernelN (Head Quiet quiet Attends attends)
open Cert.KernelN.Hand (Kept rowM)
open Cert.Meet (Gives)

instance : Cert.KernelB.Facts := Cert.KernelB.Gen.facts
instance : Cert.KernelBIdeal.Facts := Cert.KernelBIdeal.Gen.facts

/-! ## The second head

The launch at this head is the printed program, and its ideal copy is the same program over the extended reals: what is proved of the launch is
the same statement as what is asked of each. -/

abbrev head : Head := ⟨1⟩
attribute [local instance] head

theorem frame : quiescent_KernelB := (show Quiet Bits = quiescent_KernelB by chain_rfl).mp (quiet Bits)
theorem frameI : quiescent_KernelBIdeal := (show Quiet Ideal = quiescent_KernelBIdeal by chain_rfl).mp (quiet Ideal)

def AttendsI : Prop := ∀ (m : (ℓ : Loc Cert.KernelBIdeal.nD Cert.KernelBIdeal.τ Cert.KernelBIdeal.sig) → Buf (Elt Ideal) ℓ) (g : Dev Cert.KernelBIdeal.nD → PrngReg), Kept m →
    θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
      Gives 1 (rowM m c) (r.2.mem ((c.tc : Thread Cert.KernelBIdeal.nD Cert.KernelBIdeal.τ).loc Cert.KernelBIdeal.main_v0_0))
        (r.2.mem ((c.tc : Thread Cert.KernelBIdeal.nD Cert.KernelBIdeal.τ).loc Cert.KernelBIdeal.main_v0_1))
        (r.2.mem ((c.tc : Thread Cert.KernelBIdeal.nD Cert.KernelBIdeal.τ).loc Cert.KernelBIdeal.main_v0_2))
        (r.2.mem ((c.tc : Thread Cert.KernelBIdeal.nD Cert.KernelBIdeal.τ).loc Cert.KernelBIdeal.main_v0_3)))
theorem attendsI : AttendsI := (show Attends = AttendsI by chain_rfl).mp attends

end Cert.KernelB.Moved
-- ==== Proof.SidesB.lean ====
module

public import proofs.«01_k».proof.Proof.Gen.On_head_b
public import proofs.«01_k».proof.Proof.Gen.Pre_kept_b
public import proofs.«01_k».proof.Proof.Sides

@[expose] public section

set_option maxRecDepth 16384

noncomputable section
namespace Cert.SidesB
open Idealize.ShloMosaic
open Cert.Sides (between parts)

/-! ## The mask and the precondition of the second head read -/

instance : Cert.On_head_b.Facts := Cert.On_head_b.Gen.facts
instance : Cert.Pre_kept_b.Facts := Cert.Pre_kept_b.Gen.facts

section
variable (a0 : IVec ⟨2, ![32, 16]⟩ 32) (a1 : IVec ⟨2, ![128, 256]⟩ 32) (a2 a3 a4 : FVec Ideal ⟨2, ![128, 256]⟩ .f32) (a5 : FVec Ideal ⟨3, ![4, 1024, 64]⟩ .bf16)
  (a6 a7 : FVec Ideal ⟨3, ![4, 128, 64]⟩ .bf16) (a8 a9 : IVec ⟨4, ![128, 4, 32, 8192]⟩ 8) (b0 : FVec Ideal ⟨2, ![128, 2048]⟩ .bf16) (b1 b2 : IVec ⟨4, ![192, 4, 32, 128]⟩ 8)
  (b3 : FVec Ideal ⟨3, ![4, 192, 128]⟩ .f32)

theorem mask_out (b : Fin 128) (j : Fin 2048) (h : (Cert.On_head_b.fn (F := Ideal) a0 a1 a2 a3 a4 a5 a6 a7 a8 a9 b0 b1 b2 b3).1 (ix2 b j) = 1#1) : 512 ≤ j.val ∧ j.val < 1024 :=
  between j.val 512 1024 (by omega) (by omega) (by omega) h
theorem mask_k (k : Fin 192) (n : Fin 4) (cc : Fin 32) (b : Fin 128) (h : (Cert.On_head_b.fn (F := Ideal) a0 a1 a2 a3 a4 a5 a6 a7 a8 a9 b0 b1 b2 b3).2.1 (ix4 k n cc b) = 1#1) : n = 1 :=
  Fin.ext (by have := between n.val 1 2 (by omega) (by omega) (by omega) h; show n.val = 1; omega)
theorem mask_v (k : Fin 192) (n : Fin 4) (cc : Fin 32) (b : Fin 128) (h : (Cert.On_head_b.fn (F := Ideal) a0 a1 a2 a3 a4 a5 a6 a7 a8 a9 b0 b1 b2 b3).2.2.1 (ix4 k n cc b) = 1#1) : n = 1 :=
  Fin.ext (by have := between n.val 1 2 (by omega) (by omega) (by omega) h; show n.val = 1; omega)
theorem mask_s (n : Fin 4) (k : Fin 192) (b : Fin 128) (h : (Cert.On_head_b.fn (F := Ideal) a0 a1 a2 a3 a4 a5 a6 a7 a8 a9 b0 b1 b2 b3).2.2.2 (ix3 n k b) = 1#1) : n = 1 :=
  Fin.ext (by have := between n.val 1 2 (by omega) (by omega) (by omega) h; show n.val = 1; omega)

theorem kept_at (h : Cert.Pre_kept_b.fn (F := Ideal) a0 a1 a2 a3 a4 a5 a6 a7 a8 a9 b0 b1 b2 b3 = fun _ => 1#1) (b : Fin 128) (k : Fin 192) :
    (a1 (ix2 b ⟨k.val, by omega⟩)).toNat < 8192 ∧ ((k.val : ℤ) < (a0 (ix2 ⟨b.val / 4, by omega⟩ ⟨b.val % 4, by omega⟩)).toInt ↔ (a1 (ix2 b ⟨k.val, by omega⟩)).toNat < 4096) := by
  have h0 := congrFun h (fun a => a.elim0)
  have h1 := Host.reduce_andi_all _ _ _ _ _ h0 (ix2 b k)
  refine parts _ _ k ?_
  rw [← h1]
  pointwise
end

end Cert.SidesB
-- ==== Proof.RefB.lean ====
module

public import proofs.«01_k».proof.Proof.Gen.ReferenceBIdeal.Run
public import proofs.«01_k».proof.Proof.RefValue

@[expose] public section

set_option maxRecDepth 16384
set_option pp.maxSteps 300

noncomputable section
namespace Cert.ReferenceBIdeal.Hand
open Cert.ReferenceBIdeal Cert.ReferenceBIdeal.Gen
open Idealize.ShloMosaic
open Cert.ReferenceIdeal.Hand (Arrs scoreM outM)

variable {F : FTy → Type} [FloatOps F]

/-- The reference of the second head is the same steps at head 1. -/
def arrs (m : (ℓ : Loc nD τ sig) → Buf (Elt F) ℓ) (c : Dev nD) : Arrs F :=
  ⟨m ((c.tc : Thread nD τ).loc main_arg1), m ((c.tc : Thread nD τ).loc main_arg2), m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8), m ((c.tc : Thread nD τ).loc main_arg9)⟩

theorem score_eq (m : (ℓ : Loc nD τ sig) → Buf (Elt F) ℓ) (c : Dev nD) : Value.res_main_v108 m c = scoreM 1 (arrs m c) := rfl
theorem out_eq (m : (ℓ : Loc nD τ sig) → Buf (Elt F) ℓ) (c : Dev nD) : Value.res_main_v99 m c = outM 1 (arrs m c) := rfl

end Cert.ReferenceBIdeal.Hand
-- ==== Proof.ValueB.lean ====
module

public import proofs.«01_k».proof.Defs
public import proofs.«01_k».proof.Proof.SidesB
public import proofs.«01_k».proof.Proof.MovedB
public import proofs.«01_k».proof.Proof.RefB
public import Idealize.ShloMosaic.Lib.Claim
public import Idealize.ShloMosaic.Lib.Quiescent

@[expose] public section

noncomputable section
namespace Cert.ValueB
open Idealize.ShloMosaic Idealize.SL.Sem
open Cert.Meet (row_eq meets)
attribute [local instance] Cert.KernelB.Moved.head

/-! ## The two programs meet

The kernel and the reference read the same arguments, so they speak of the same rows; on the mask both give the row's attention. -/

instance : Cert.KernelBIdeal.Facts := Cert.KernelBIdeal.Gen.facts
instance : Cert.ReferenceBIdeal.Facts := Cert.ReferenceBIdeal.Gen.facts
instance : Cert.Pre_kept_b.Facts := Cert.Pre_kept_b.Gen.facts
instance : Cert.On_head_b.Facts := Cert.On_head_b.Gen.facts

theorem kept_of (m : (ℓ : Loc Cert.KernelBIdeal.nD Cert.KernelBIdeal.τ Cert.KernelBIdeal.sig) → Buf (Elt Ideal) ℓ) (h : Pre_KernelBIdeal_kept_b m) : Cert.KernelN.Hand.Kept m :=
  ⟨fun c b k => (Cert.SidesB.kept_at _ _ _ _ _ _ _ _ _ _ _ _ _ _ (h c) b k).1, fun c b k => (Cert.SidesB.kept_at _ _ _ _ _ _ _ _ _ _ _ _ _ _ (h c) b k).2⟩

/-- The reference writes no argument, and declares no semaphore. -/
theorem frame_ref : quiescent_ReferenceBIdeal := fun m g _ =>
  (θ_run _ _ _).mono (fun r h => ⟨fun c => (h c).2.2.2.2, Idealize.ShloMosaic.sem_eq_zero_of_no_sems (by decide) r.2⟩) (Cert.ReferenceBIdeal.Value.run m g)

theorem algebraic : algebraic_KernelBIdeal_ReferenceBIdeal_on_head_b_pre_kept_b := by
  intro m g m' g' hp hm
  have K := kept_of m hp
  have er : ∀ c b, Cert.ReferenceIdeal.Hand.rowM 1 (Cert.ReferenceBIdeal.Hand.arrs m' c) b = Cert.KernelN.Hand.rowM m c b := by
    intro c b
    obtain ⟨-, h1, h2, h3, h4, h5, h6, h7, h8, h9, -⟩ := hm c
    exact row_eq 1 (Cert.ReferenceBIdeal.Hand.arrs m' c)
      ⟨m ((c.tc : Thread Cert.KernelBIdeal.nD Cert.KernelBIdeal.τ).loc Cert.KernelBIdeal.main_arg1), m ((c.tc : Thread Cert.KernelBIdeal.nD Cert.KernelBIdeal.τ).loc Cert.KernelBIdeal.main_arg2), m ((c.tc : Thread Cert.KernelBIdeal.nD Cert.KernelBIdeal.τ).loc Cert.KernelBIdeal.main_arg3), m ((c.tc : Thread Cert.KernelBIdeal.nD Cert.KernelBIdeal.τ).loc Cert.KernelBIdeal.main_arg4), m ((c.tc : Thread Cert.KernelBIdeal.nD Cert.KernelBIdeal.τ).loc Cert.KernelBIdeal.main_arg5), m ((c.tc : Thread Cert.KernelBIdeal.nD Cert.KernelBIdeal.τ).loc Cert.KernelBIdeal.main_arg6), m ((c.tc : Thread Cert.KernelBIdeal.nD Cert.KernelBIdeal.τ).loc Cert.KernelBIdeal.main_arg7), m ((c.tc : Thread Cert.KernelBIdeal.nD Cert.KernelBIdeal.τ).loc Cert.KernelBIdeal.main_arg8), m ((c.tc : Thread Cert.KernelBIdeal.nD Cert.KernelBIdeal.τ).loc Cert.KernelBIdeal.main_arg9)⟩ b h1 h2 h3 h4 h5 h6 h7 h8 h9
  have ep : ∀ (c : Dev Cert.ReferenceBIdeal.nD) (b : Fin 128) (k : Fin 192), ((m' ((c.tc : Thread Cert.ReferenceBIdeal.nD Cert.ReferenceBIdeal.τ).loc Cert.ReferenceBIdeal.main_arg1) : IVec ⟨2, ![128, 256]⟩ 32) (ix2 b ⟨k.val, by omega⟩)).toNat < 8192 := by
    intro c b k
    have := K.pos c b k
    rw [(hm c).2.1]
    exact this
  refine ⟨fun c => Cert.ReferenceBIdeal.Value.res_main_v99 m' c,
    fun c => Cert.ReferenceIdeal.Hand.koR (Cert.ReferenceIdeal.Hand.gatR 1 (m' ((c.tc : Thread Cert.ReferenceBIdeal.nD Cert.ReferenceBIdeal.τ).loc Cert.ReferenceBIdeal.main_arg1)) (m' ((c.tc : Thread Cert.ReferenceBIdeal.nD Cert.ReferenceBIdeal.τ).loc Cert.ReferenceBIdeal.main_arg8))),
    fun c => Cert.ReferenceIdeal.Hand.koR (Cert.ReferenceIdeal.Hand.gatR 1 (m' ((c.tc : Thread Cert.ReferenceBIdeal.nD Cert.ReferenceBIdeal.τ).loc Cert.ReferenceBIdeal.main_arg1)) (m' ((c.tc : Thread Cert.ReferenceBIdeal.nD Cert.ReferenceBIdeal.τ).loc Cert.ReferenceBIdeal.main_arg9))),
    fun c => Cert.ReferenceBIdeal.Value.res_main_v108 m' c, ?_, ?_⟩
  · refine (θ_run _ _ _).mono (fun r h c => ?_) (θ_run_and (Cert.KernelB.Moved.attendsI m g K) (Cert.KernelB.Moved.frameI m g trivial))
    obtain ⟨o0, o1, o2, o3⟩ := meets (n := 1) (h.1 c) (Cert.ReferenceBIdeal.Hand.arrs m' c) (er c) (ep c)
      (fun b j hi => Cert.SidesB.mask_out _ _ _ _ _ _ _ _ _ _ _ _ _ _ b j hi) (fun k n cc b hi => Cert.SidesB.mask_k _ _ _ _ _ _ _ _ _ _ _ _ _ _ k n cc b hi) (fun k n cc b hi => Cert.SidesB.mask_v _ _ _ _ _ _ _ _ _ _ _ _ _ _ k n cc b hi) (fun n k b hi => Cert.SidesB.mask_s _ _ _ _ _ _ _ _ _ _ _ _ _ _ n k b hi)
    exact ⟨o0, o1, o2, o3, h.2.1 c⟩
  · refine (θ_run _ _ _).mono (fun r h c => ?_) (Cert.ReferenceBIdeal.Value.run m' g')
    obtain ⟨o0, o1, o2, o3, ha⟩ := h c
    exact ⟨fun i _ => congrFun o0 i, fun i _ => congrFun o1 i, fun i _ => congrFun o2 i, fun i _ => congrFun o3 i, ha⟩

end Cert.ValueB
-- ==== Proof.MovedC.lean ====
module

public import proofs.«01_k».proof.Defs
public import proofs.«01_k».proof.Proof.Heads
public import proofs.«01_k».proof.Proof.Gen.KernelC
public import proofs.«01_k».proof.Proof.Gen.KernelCIdeal

@[expose] public section

set_option maxRecDepth 65536

noncomputable section
namespace Cert.KernelC.Moved
open Idealize.ShloMosaic Idealize.SL.Sem
open Cert.KernelN (Head Quiet quiet Attends attends)
open Cert.KernelN.Hand (Kept rowM)
open Cert.Meet (Gives)

instance : Cert.KernelC.Facts := Cert.KernelC.Gen.facts
instance : Cert.KernelCIdeal.Facts := Cert.KernelCIdeal.Gen.facts

/-! ## The third head

The launch at this head is the printed program, and its ideal copy is the same program over the extended reals: what is proved of the launch is
the same statement as what is asked of each. -/

abbrev head : Head := ⟨2⟩
attribute [local instance] head

theorem frame : quiescent_KernelC := (show Quiet Bits = quiescent_KernelC by chain_rfl).mp (quiet Bits)
theorem frameI : quiescent_KernelCIdeal := (show Quiet Ideal = quiescent_KernelCIdeal by chain_rfl).mp (quiet Ideal)

def AttendsI : Prop := ∀ (m : (ℓ : Loc Cert.KernelCIdeal.nD Cert.KernelCIdeal.τ Cert.KernelCIdeal.sig) → Buf (Elt Ideal) ℓ) (g : Dev Cert.KernelCIdeal.nD → PrngReg), Kept m →
    θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
      Gives 2 (rowM m c) (r.2.mem ((c.tc : Thread Cert.KernelCIdeal.nD Cert.KernelCIdeal.τ).loc Cert.KernelCIdeal.main_v0_0))
        (r.2.mem ((c.tc : Thread Cert.KernelCIdeal.nD Cert.KernelCIdeal.τ).loc Cert.KernelCIdeal.main_v0_1))
        (r.2.mem ((c.tc : Thread Cert.KernelCIdeal.nD Cert.KernelCIdeal.τ).loc Cert.KernelCIdeal.main_v0_2))
        (r.2.mem ((c.tc : Thread Cert.KernelCIdeal.nD Cert.KernelCIdeal.τ).loc Cert.KernelCIdeal.main_v0_3)))
theorem attendsI : AttendsI := (show Attends = AttendsI by chain_rfl).mp attends

end Cert.KernelC.Moved
-- ==== Proof.SidesC.lean ====
module

public import proofs.«01_k».proof.Proof.Gen.On_head_c
public import proofs.«01_k».proof.Proof.Gen.Pre_kept_c
public import proofs.«01_k».proof.Proof.Sides

@[expose] public section

set_option maxRecDepth 16384

noncomputable section
namespace Cert.SidesC
open Idealize.ShloMosaic
open Cert.Sides (between parts)

/-! ## The mask and the precondition of the third head read -/

instance : Cert.On_head_c.Facts := Cert.On_head_c.Gen.facts
instance : Cert.Pre_kept_c.Facts := Cert.Pre_kept_c.Gen.facts

section
variable (a0 : IVec ⟨2, ![32, 16]⟩ 32) (a1 : IVec ⟨2, ![128, 256]⟩ 32) (a2 a3 a4 : FVec Ideal ⟨2, ![128, 256]⟩ .f32) (a5 : FVec Ideal ⟨3, ![4, 1024, 64]⟩ .bf16)
  (a6 a7 : FVec Ideal ⟨3, ![4, 128, 64]⟩ .bf16) (a8 a9 : IVec ⟨4, ![128, 4, 32, 8192]⟩ 8) (b0 : FVec Ideal ⟨2, ![128, 2048]⟩ .bf16) (b1 b2 : IVec ⟨4, ![192, 4, 32, 128]⟩ 8)
  (b3 : FVec Ideal ⟨3, ![4, 192, 128]⟩ .f32)

theorem mask_out (b : Fin 128) (j : Fin 2048) (h : (Cert.On_head_c.fn (F := Ideal) a0 a1 a2 a3 a4 a5 a6 a7 a8 a9 b0 b1 b2 b3).1 (ix2 b j) = 1#1) : 1024 ≤ j.val ∧ j.val < 1536 :=
  between j.val 1024 1536 (by omega) (by omega) (by omega) h
theorem mask_k (k : Fin 192) (n : Fin 4) (cc : Fin 32) (b : Fin 128) (h : (Cert.On_head_c.fn (F := Ideal) a0 a1 a2 a3 a4 a5 a6 a7 a8 a9 b0 b1 b2 b3).2.1 (ix4 k n cc b) = 1#1) : n = 2 :=
  Fin.ext (by have := between n.val 2 3 (by omega) (by omega) (by omega) h; show n.val = 2; omega)
theorem mask_v (k : Fin 192) (n : Fin 4) (cc : Fin 32) (b : Fin 128) (h : (Cert.On_head_c.fn (F := Ideal) a0 a1 a2 a3 a4 a5 a6 a7 a8 a9 b0 b1 b2 b3).2.2.1 (ix4 k n cc b) = 1#1) : n = 2 :=
  Fin.ext (by have := between n.val 2 3 (by omega) (by omega) (by omega) h; show n.val = 2; omega)
theorem mask_s (n : Fin 4) (k : Fin 192) (b : Fin 128) (h : (Cert.On_head_c.fn (F := Ideal) a0 a1 a2 a3 a4 a5 a6 a7 a8 a9 b0 b1 b2 b3).2.2.2 (ix3 n k b) = 1#1) : n = 2 :=
  Fin.ext (by have := between n.val 2 3 (by omega) (by omega) (by omega) h; show n.val = 2; omega)

theorem kept_at (h : Cert.Pre_kept_c.fn (F := Ideal) a0 a1 a2 a3 a4 a5 a6 a7 a8 a9 b0 b1 b2 b3 = fun _ => 1#1) (b : Fin 128) (k : Fin 192) :
    (a1 (ix2 b ⟨k.val, by omega⟩)).toNat < 8192 ∧ ((k.val : ℤ) < (a0 (ix2 ⟨b.val / 4, by omega⟩ ⟨b.val % 4, by omega⟩)).toInt ↔ (a1 (ix2 b ⟨k.val, by omega⟩)).toNat < 4096) := by
  have h0 := congrFun h (fun a => a.elim0)
  have h1 := Host.reduce_andi_all _ _ _ _ _ h0 (ix2 b k)
  refine parts _ _ k ?_
  rw [← h1]
  pointwise
end

end Cert.SidesC
-- ==== Proof.RefC.lean ====
module

public import proofs.«01_k».proof.Proof.Gen.ReferenceCIdeal.Run
public import proofs.«01_k».proof.Proof.RefValue

@[expose] public section

set_option maxRecDepth 16384
set_option pp.maxSteps 300

noncomputable section
namespace Cert.ReferenceCIdeal.Hand
open Cert.ReferenceCIdeal Cert.ReferenceCIdeal.Gen
open Idealize.ShloMosaic
open Cert.ReferenceIdeal.Hand (Arrs scoreM outM)

variable {F : FTy → Type} [FloatOps F]

/-- The reference of the third head is the same steps at head 2. -/
def arrs (m : (ℓ : Loc nD τ sig) → Buf (Elt F) ℓ) (c : Dev nD) : Arrs F :=
  ⟨m ((c.tc : Thread nD τ).loc main_arg1), m ((c.tc : Thread nD τ).loc main_arg2), m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8), m ((c.tc : Thread nD τ).loc main_arg9)⟩

theorem score_eq (m : (ℓ : Loc nD τ sig) → Buf (Elt F) ℓ) (c : Dev nD) : Value.res_main_v108 m c = scoreM 2 (arrs m c) := rfl
theorem out_eq (m : (ℓ : Loc nD τ sig) → Buf (Elt F) ℓ) (c : Dev nD) : Value.res_main_v99 m c = outM 2 (arrs m c) := rfl

end Cert.ReferenceCIdeal.Hand
-- ==== Proof.ValueC.lean ====
module

public import proofs.«01_k».proof.Defs
public import proofs.«01_k».proof.Proof.SidesC
public import proofs.«01_k».proof.Proof.MovedC
public import proofs.«01_k».proof.Proof.RefC
public import Idealize.ShloMosaic.Lib.Claim
public import Idealize.ShloMosaic.Lib.Quiescent

@[expose] public section

noncomputable section
namespace Cert.ValueC
open Idealize.ShloMosaic Idealize.SL.Sem
open Cert.Meet (row_eq meets)
attribute [local instance] Cert.KernelC.Moved.head

/-! ## The two programs meet

The kernel and the reference read the same arguments, so they speak of the same rows; on the mask both give the row's attention. -/

instance : Cert.KernelCIdeal.Facts := Cert.KernelCIdeal.Gen.facts
instance : Cert.ReferenceCIdeal.Facts := Cert.ReferenceCIdeal.Gen.facts
instance : Cert.Pre_kept_c.Facts := Cert.Pre_kept_c.Gen.facts
instance : Cert.On_head_c.Facts := Cert.On_head_c.Gen.facts

theorem kept_of (m : (ℓ : Loc Cert.KernelCIdeal.nD Cert.KernelCIdeal.τ Cert.KernelCIdeal.sig) → Buf (Elt Ideal) ℓ) (h : Pre_KernelCIdeal_kept_c m) : Cert.KernelN.Hand.Kept m :=
  ⟨fun c b k => (Cert.SidesC.kept_at _ _ _ _ _ _ _ _ _ _ _ _ _ _ (h c) b k).1, fun c b k => (Cert.SidesC.kept_at _ _ _ _ _ _ _ _ _ _ _ _ _ _ (h c) b k).2⟩

/-- The reference writes no argument, and declares no semaphore. -/
theorem frame_ref : quiescent_ReferenceCIdeal := fun m g _ =>
  (θ_run _ _ _).mono (fun r h => ⟨fun c => (h c).2.2.2.2, Idealize.ShloMosaic.sem_eq_zero_of_no_sems (by decide) r.2⟩) (Cert.ReferenceCIdeal.Value.run m g)

theorem algebraic : algebraic_KernelCIdeal_ReferenceCIdeal_on_head_c_pre_kept_c := by
  intro m g m' g' hp hm
  have K := kept_of m hp
  have er : ∀ c b, Cert.ReferenceIdeal.Hand.rowM 2 (Cert.ReferenceCIdeal.Hand.arrs m' c) b = Cert.KernelN.Hand.rowM m c b := by
    intro c b
    obtain ⟨-, h1, h2, h3, h4, h5, h6, h7, h8, h9, -⟩ := hm c
    exact row_eq 2 (Cert.ReferenceCIdeal.Hand.arrs m' c)
      ⟨m ((c.tc : Thread Cert.KernelCIdeal.nD Cert.KernelCIdeal.τ).loc Cert.KernelCIdeal.main_arg1), m ((c.tc : Thread Cert.KernelCIdeal.nD Cert.KernelCIdeal.τ).loc Cert.KernelCIdeal.main_arg2), m ((c.tc : Thread Cert.KernelCIdeal.nD Cert.KernelCIdeal.τ).loc Cert.KernelCIdeal.main_arg3), m ((c.tc : Thread Cert.KernelCIdeal.nD Cert.KernelCIdeal.τ).loc Cert.KernelCIdeal.main_arg4), m ((c.tc : Thread Cert.KernelCIdeal.nD Cert.KernelCIdeal.τ).loc Cert.KernelCIdeal.main_arg5), m ((c.tc : Thread Cert.KernelCIdeal.nD Cert.KernelCIdeal.τ).loc Cert.KernelCIdeal.main_arg6), m ((c.tc : Thread Cert.KernelCIdeal.nD Cert.KernelCIdeal.τ).loc Cert.KernelCIdeal.main_arg7), m ((c.tc : Thread Cert.KernelCIdeal.nD Cert.KernelCIdeal.τ).loc Cert.KernelCIdeal.main_arg8), m ((c.tc : Thread Cert.KernelCIdeal.nD Cert.KernelCIdeal.τ).loc Cert.KernelCIdeal.main_arg9)⟩ b h1 h2 h3 h4 h5 h6 h7 h8 h9
  have ep : ∀ (c : Dev Cert.ReferenceCIdeal.nD) (b : Fin 128) (k : Fin 192), ((m' ((c.tc : Thread Cert.ReferenceCIdeal.nD Cert.ReferenceCIdeal.τ).loc Cert.ReferenceCIdeal.main_arg1) : IVec ⟨2, ![128, 256]⟩ 32) (ix2 b ⟨k.val, by omega⟩)).toNat < 8192 := by
    intro c b k
    have := K.pos c b k
    rw [(hm c).2.1]
    exact this
  refine ⟨fun c => Cert.ReferenceCIdeal.Value.res_main_v99 m' c,
    fun c => Cert.ReferenceIdeal.Hand.koR (Cert.ReferenceIdeal.Hand.gatR 2 (m' ((c.tc : Thread Cert.ReferenceCIdeal.nD Cert.ReferenceCIdeal.τ).loc Cert.ReferenceCIdeal.main_arg1)) (m' ((c.tc : Thread Cert.ReferenceCIdeal.nD Cert.ReferenceCIdeal.τ).loc Cert.ReferenceCIdeal.main_arg8))),
    fun c => Cert.ReferenceIdeal.Hand.koR (Cert.ReferenceIdeal.Hand.gatR 2 (m' ((c.tc : Thread Cert.ReferenceCIdeal.nD Cert.ReferenceCIdeal.τ).loc Cert.ReferenceCIdeal.main_arg1)) (m' ((c.tc : Thread Cert.ReferenceCIdeal.nD Cert.ReferenceCIdeal.τ).loc Cert.ReferenceCIdeal.main_arg9))),
    fun c => Cert.ReferenceCIdeal.Value.res_main_v108 m' c, ?_, ?_⟩
  · refine (θ_run _ _ _).mono (fun r h c => ?_) (θ_run_and (Cert.KernelC.Moved.attendsI m g K) (Cert.KernelC.Moved.frameI m g trivial))
    obtain ⟨o0, o1, o2, o3⟩ := meets (n := 2) (h.1 c) (Cert.ReferenceCIdeal.Hand.arrs m' c) (er c) (ep c)
      (fun b j hi => Cert.SidesC.mask_out _ _ _ _ _ _ _ _ _ _ _ _ _ _ b j hi) (fun k n cc b hi => Cert.SidesC.mask_k _ _ _ _ _ _ _ _ _ _ _ _ _ _ k n cc b hi) (fun k n cc b hi => Cert.SidesC.mask_v _ _ _ _ _ _ _ _ _ _ _ _ _ _ k n cc b hi) (fun n k b hi => Cert.SidesC.mask_s _ _ _ _ _ _ _ _ _ _ _ _ _ _ n k b hi)
    exact ⟨o0, o1, o2, o3, h.2.1 c⟩
  · refine (θ_run _ _ _).mono (fun r h c => ?_) (Cert.ReferenceCIdeal.Value.run m' g')
    obtain ⟨o0, o1, o2, o3, ha⟩ := h c
    exact ⟨fun i _ => congrFun o0 i, fun i _ => congrFun o1 i, fun i _ => congrFun o2 i, fun i _ => congrFun o3 i, ha⟩

end Cert.ValueC
-- ==== Proof.MovedD.lean ====
module

public import proofs.«01_k».proof.Defs
public import proofs.«01_k».proof.Proof.Heads
public import proofs.«01_k».proof.Proof.Gen.KernelD
public import proofs.«01_k».proof.Proof.Gen.KernelDIdeal

@[expose] public section

set_option maxRecDepth 65536

noncomputable section
namespace Cert.KernelD.Moved
open Idealize.ShloMosaic Idealize.SL.Sem
open Cert.KernelN (Head Quiet quiet Attends attends)
open Cert.KernelN.Hand (Kept rowM)
open Cert.Meet (Gives)

instance : Cert.KernelD.Facts := Cert.KernelD.Gen.facts
instance : Cert.KernelDIdeal.Facts := Cert.KernelDIdeal.Gen.facts

/-! ## The fourth head

The launch at this head is the printed program, and its ideal copy is the same program over the extended reals: what is proved of the launch is
the same statement as what is asked of each. -/

abbrev head : Head := ⟨3⟩
attribute [local instance] head

theorem frame : quiescent_KernelD := (show Quiet Bits = quiescent_KernelD by chain_rfl).mp (quiet Bits)
theorem frameI : quiescent_KernelDIdeal := (show Quiet Ideal = quiescent_KernelDIdeal by chain_rfl).mp (quiet Ideal)

def AttendsI : Prop := ∀ (m : (ℓ : Loc Cert.KernelDIdeal.nD Cert.KernelDIdeal.τ Cert.KernelDIdeal.sig) → Buf (Elt Ideal) ℓ) (g : Dev Cert.KernelDIdeal.nD → PrngReg), Kept m →
    θ_run (Cert.KernelDIdeal.defs (F := Ideal)) (onTc (τ := Cert.KernelDIdeal.τ) (Cert.KernelDIdeal.main (F := Ideal))) ⟨m, fun _ => 0, g⟩ (fun r => ∀ c : Dev Cert.KernelDIdeal.nD,
      Gives 3 (rowM m c) (r.2.mem ((c.tc : Thread Cert.KernelDIdeal.nD Cert.KernelDIdeal.τ).loc Cert.KernelDIdeal.main_v0_0))
        (r.2.mem ((c.tc : Thread Cert.KernelDIdeal.nD Cert.KernelDIdeal.τ).loc Cert.KernelDIdeal.main_v0_1))
        (r.2.mem ((c.tc : Thread Cert.KernelDIdeal.nD Cert.KernelDIdeal.τ).loc Cert.KernelDIdeal.main_v0_2))
        (r.2.mem ((c.tc : Thread Cert.KernelDIdeal.nD Cert.KernelDIdeal.τ).loc Cert.KernelDIdeal.main_v0_3)))
theorem attendsI : AttendsI := (show Attends = AttendsI by chain_rfl).mp attends

end Cert.KernelD.Moved
-- ==== Proof.SidesD.lean ====
module

public import proofs.«01_k».proof.Proof.Gen.On_head_d
public import proofs.«01_k».proof.Proof.Gen.Pre_kept_d
public import proofs.«01_k».proof.Proof.Sides

@[expose] public section

set_option maxRecDepth 16384

noncomputable section
namespace Cert.SidesD
open Idealize.ShloMosaic
open Cert.Sides (between parts)

/-! ## The mask and the precondition of the fourth head read -/

instance : Cert.On_head_d.Facts := Cert.On_head_d.Gen.facts
instance : Cert.Pre_kept_d.Facts := Cert.Pre_kept_d.Gen.facts

section
variable (a0 : IVec ⟨2, ![32, 16]⟩ 32) (a1 : IVec ⟨2, ![128, 256]⟩ 32) (a2 a3 a4 : FVec Ideal ⟨2, ![128, 256]⟩ .f32) (a5 : FVec Ideal ⟨3, ![4, 1024, 64]⟩ .bf16)
  (a6 a7 : FVec Ideal ⟨3, ![4, 128, 64]⟩ .bf16) (a8 a9 : IVec ⟨4, ![128, 4, 32, 8192]⟩ 8) (b0 : FVec Ideal ⟨2, ![128, 2048]⟩ .bf16) (b1 b2 : IVec ⟨4, ![192, 4, 32, 128]⟩ 8)
  (b3 : FVec Ideal ⟨3, ![4, 192, 128]⟩ .f32)

theorem mask_out (b : Fin 128) (j : Fin 2048) (h : (Cert.On_head_d.fn (F := Ideal) a0 a1 a2 a3 a4 a5 a6 a7 a8 a9 b0 b1 b2 b3).1 (ix2 b j) = 1#1) : 1536 ≤ j.val ∧ j.val < 2048 :=
  between j.val 1536 2048 (by omega) (by omega) (by omega) h
theorem mask_k (k : Fin 192) (n : Fin 4) (cc : Fin 32) (b : Fin 128) (h : (Cert.On_head_d.fn (F := Ideal) a0 a1 a2 a3 a4 a5 a6 a7 a8 a9 b0 b1 b2 b3).2.1 (ix4 k n cc b) = 1#1) : n = 3 :=
  Fin.ext (by have := between n.val 3 4 (by omega) (by omega) (by omega) h; show n.val = 3; omega)
theorem mask_v (k : Fin 192) (n : Fin 4) (cc : Fin 32) (b : Fin 128) (h : (Cert.On_head_d.fn (F := Ideal) a0 a1 a2 a3 a4 a5 a6 a7 a8 a9 b0 b1 b2 b3).2.2.1 (ix4 k n cc b) = 1#1) : n = 3 :=
  Fin.ext (by have := between n.val 3 4 (by omega) (by omega) (by omega) h; show n.val = 3; omega)
theorem mask_s (n : Fin 4) (k : Fin 192) (b : Fin 128) (h : (Cert.On_head_d.fn (F := Ideal) a0 a1 a2 a3 a4 a5 a6 a7 a8 a9 b0 b1 b2 b3).2.2.2 (ix3 n k b) = 1#1) : n = 3 :=
  Fin.ext (by have := between n.val 3 4 (by omega) (by omega) (by omega) h; show n.val = 3; omega)

theorem kept_at (h : Cert.Pre_kept_d.fn (F := Ideal) a0 a1 a2 a3 a4 a5 a6 a7 a8 a9 b0 b1 b2 b3 = fun _ => 1#1) (b : Fin 128) (k : Fin 192) :
    (a1 (ix2 b ⟨k.val, by omega⟩)).toNat < 8192 ∧ ((k.val : ℤ) < (a0 (ix2 ⟨b.val / 4, by omega⟩ ⟨b.val % 4, by omega⟩)).toInt ↔ (a1 (ix2 b ⟨k.val, by omega⟩)).toNat < 4096) := by
  have h0 := congrFun h (fun a => a.elim0)
  have h1 := Host.reduce_andi_all _ _ _ _ _ h0 (ix2 b k)
  refine parts _ _ k ?_
  rw [← h1]
  pointwise
end

end Cert.SidesD
-- ==== Proof.RefD.lean ====
module

public import proofs.«01_k».proof.Proof.Gen.ReferenceDIdeal.Run
public import proofs.«01_k».proof.Proof.RefValue

@[expose] public section

set_option maxRecDepth 16384
set_option pp.maxSteps 300

noncomputable section
namespace Cert.ReferenceDIdeal.Hand
open Cert.ReferenceDIdeal Cert.ReferenceDIdeal.Gen
open Idealize.ShloMosaic
open Cert.ReferenceIdeal.Hand (Arrs scoreM outM)

variable {F : FTy → Type} [FloatOps F]

/-- The reference of the fourth head is the same steps at head 3. -/
def arrs (m : (ℓ : Loc nD τ sig) → Buf (Elt F) ℓ) (c : Dev nD) : Arrs F :=
  ⟨m ((c.tc : Thread nD τ).loc main_arg1), m ((c.tc : Thread nD τ).loc main_arg2), m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8), m ((c.tc : Thread nD τ).loc main_arg9)⟩

theorem score_eq (m : (ℓ : Loc nD τ sig) → Buf (Elt F) ℓ) (c : Dev nD) : Value.res_main_v108 m c = scoreM 3 (arrs m c) := rfl
theorem out_eq (m : (ℓ : Loc nD τ sig) → Buf (Elt F) ℓ) (c : Dev nD) : Value.res_main_v99 m c = outM 3 (arrs m c) := rfl

end Cert.ReferenceDIdeal.Hand
-- ==== Proof.ValueD.lean ====
module

public import proofs.«01_k».proof.Defs
public import proofs.«01_k».proof.Proof.SidesD
public import proofs.«01_k».proof.Proof.MovedD
public import proofs.«01_k».proof.Proof.RefD
public import Idealize.ShloMosaic.Lib.Claim
public import Idealize.ShloMosaic.Lib.Quiescent

@[expose] public section

noncomputable section
namespace Cert.ValueD
open Idealize.ShloMosaic Idealize.SL.Sem
open Cert.Meet (row_eq meets)
attribute [local instance] Cert.KernelD.Moved.head

/-! ## The two programs meet

The kernel and the reference read the same arguments, so they speak of the same rows; on the mask both give the row's attention. -/

instance : Cert.KernelDIdeal.Facts := Cert.KernelDIdeal.Gen.facts
instance : Cert.ReferenceDIdeal.Facts := Cert.ReferenceDIdeal.Gen.facts
instance : Cert.Pre_kept_d.Facts := Cert.Pre_kept_d.Gen.facts
instance : Cert.On_head_d.Facts := Cert.On_head_d.Gen.facts

theorem kept_of (m : (ℓ : Loc Cert.KernelDIdeal.nD Cert.KernelDIdeal.τ Cert.KernelDIdeal.sig) → Buf (Elt Ideal) ℓ) (h : Pre_KernelDIdeal_kept_d m) : Cert.KernelN.Hand.Kept m :=
  ⟨fun c b k => (Cert.SidesD.kept_at _ _ _ _ _ _ _ _ _ _ _ _ _ _ (h c) b k).1, fun c b k => (Cert.SidesD.kept_at _ _ _ _ _ _ _ _ _ _ _ _ _ _ (h c) b k).2⟩

/-- The reference writes no argument, and declares no semaphore. -/
theorem frame_ref : quiescent_ReferenceDIdeal := fun m g _ =>
  (θ_run _ _ _).mono (fun r h => ⟨fun c => (h c).2.2.2.2, Idealize.ShloMosaic.sem_eq_zero_of_no_sems (by decide) r.2⟩) (Cert.ReferenceDIdeal.Value.run m g)

theorem algebraic : algebraic_KernelDIdeal_ReferenceDIdeal_on_head_d_pre_kept_d := by
  intro m g m' g' hp hm
  have K := kept_of m hp
  have er : ∀ c b, Cert.ReferenceIdeal.Hand.rowM 3 (Cert.ReferenceDIdeal.Hand.arrs m' c) b = Cert.KernelN.Hand.rowM m c b := by
    intro c b
    obtain ⟨-, h1, h2, h3, h4, h5, h6, h7, h8, h9, -⟩ := hm c
    exact row_eq 3 (Cert.ReferenceDIdeal.Hand.arrs m' c)
      ⟨m ((c.tc : Thread Cert.KernelDIdeal.nD Cert.KernelDIdeal.τ).loc Cert.KernelDIdeal.main_arg1), m ((c.tc : Thread Cert.KernelDIdeal.nD Cert.KernelDIdeal.τ).loc Cert.KernelDIdeal.main_arg2), m ((c.tc : Thread Cert.KernelDIdeal.nD Cert.KernelDIdeal.τ).loc Cert.KernelDIdeal.main_arg3), m ((c.tc : Thread Cert.KernelDIdeal.nD Cert.KernelDIdeal.τ).loc Cert.KernelDIdeal.main_arg4), m ((c.tc : Thread Cert.KernelDIdeal.nD Cert.KernelDIdeal.τ).loc Cert.KernelDIdeal.main_arg5), m ((c.tc : Thread Cert.KernelDIdeal.nD Cert.KernelDIdeal.τ).loc Cert.KernelDIdeal.main_arg6), m ((c.tc : Thread Cert.KernelDIdeal.nD Cert.KernelDIdeal.τ).loc Cert.KernelDIdeal.main_arg7), m ((c.tc : Thread Cert.KernelDIdeal.nD Cert.KernelDIdeal.τ).loc Cert.KernelDIdeal.main_arg8), m ((c.tc : Thread Cert.KernelDIdeal.nD Cert.KernelDIdeal.τ).loc Cert.KernelDIdeal.main_arg9)⟩ b h1 h2 h3 h4 h5 h6 h7 h8 h9
  have ep : ∀ (c : Dev Cert.ReferenceDIdeal.nD) (b : Fin 128) (k : Fin 192), ((m' ((c.tc : Thread Cert.ReferenceDIdeal.nD Cert.ReferenceDIdeal.τ).loc Cert.ReferenceDIdeal.main_arg1) : IVec ⟨2, ![128, 256]⟩ 32) (ix2 b ⟨k.val, by omega⟩)).toNat < 8192 := by
    intro c b k
    have := K.pos c b k
    rw [(hm c).2.1]
    exact this
  refine ⟨fun c => Cert.ReferenceDIdeal.Value.res_main_v99 m' c,
    fun c => Cert.ReferenceIdeal.Hand.koR (Cert.ReferenceIdeal.Hand.gatR 3 (m' ((c.tc : Thread Cert.ReferenceDIdeal.nD Cert.ReferenceDIdeal.τ).loc Cert.ReferenceDIdeal.main_arg1)) (m' ((c.tc : Thread Cert.ReferenceDIdeal.nD Cert.ReferenceDIdeal.τ).loc Cert.ReferenceDIdeal.main_arg8))),
    fun c => Cert.ReferenceIdeal.Hand.koR (Cert.ReferenceIdeal.Hand.gatR 3 (m' ((c.tc : Thread Cert.ReferenceDIdeal.nD Cert.ReferenceDIdeal.τ).loc Cert.ReferenceDIdeal.main_arg1)) (m' ((c.tc : Thread Cert.ReferenceDIdeal.nD Cert.ReferenceDIdeal.τ).loc Cert.ReferenceDIdeal.main_arg9))),
    fun c => Cert.ReferenceDIdeal.Value.res_main_v108 m' c, ?_, ?_⟩
  · refine (θ_run _ _ _).mono (fun r h c => ?_) (θ_run_and (Cert.KernelD.Moved.attendsI m g K) (Cert.KernelD.Moved.frameI m g trivial))
    obtain ⟨o0, o1, o2, o3⟩ := meets (n := 3) (h.1 c) (Cert.ReferenceDIdeal.Hand.arrs m' c) (er c) (ep c)
      (fun b j hi => Cert.SidesD.mask_out _ _ _ _ _ _ _ _ _ _ _ _ _ _ b j hi) (fun k n cc b hi => Cert.SidesD.mask_k _ _ _ _ _ _ _ _ _ _ _ _ _ _ k n cc b hi) (fun k n cc b hi => Cert.SidesD.mask_v _ _ _ _ _ _ _ _ _ _ _ _ _ _ k n cc b hi) (fun n k b hi => Cert.SidesD.mask_s _ _ _ _ _ _ _ _ _ _ _ _ _ _ n k b hi)
    exact ⟨o0, o1, o2, o3, h.2.1 c⟩
  · refine (θ_run _ _ _).mono (fun r h c => ?_) (Cert.ReferenceDIdeal.Value.run m' g')
    obtain ⟨o0, o1, o2, o3, ha⟩ := h c
    exact ⟨fun i _ => congrFun o0 i, fun i _ => congrFun o1 i, fun i _ => congrFun o2 i, fun i _ => congrFun o3 i, ha⟩

end Cert.ValueD
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.On_head
public import proofs.«01_k».proof.Proof.Gen.Pre_kept
public import proofs.«01_k».proof.Proof.Frame
public import proofs.«01_k».proof.Proof.Moved
public import proofs.«01_k».proof.Proof.Value
public import proofs.«01_k».proof.Proof.Gen.KernelB
public import proofs.«01_k».proof.Proof.Gen.KernelBIdeal
public import proofs.«01_k».proof.Proof.Gen.ReferenceBIdeal.Run
public import proofs.«01_k».proof.Proof.Gen.On_head_b
public import proofs.«01_k».proof.Proof.Gen.Pre_kept_b
public import proofs.«01_k».proof.Proof.MovedB
public import proofs.«01_k».proof.Proof.ValueB
public import proofs.«01_k».proof.Proof.Gen.KernelC
public import proofs.«01_k».proof.Proof.Gen.KernelCIdeal
public import proofs.«01_k».proof.Proof.Gen.ReferenceCIdeal.Run
public import proofs.«01_k».proof.Proof.Gen.On_head_c
public import proofs.«01_k».proof.Proof.Gen.Pre_kept_c
public import proofs.«01_k».proof.Proof.MovedC
public import proofs.«01_k».proof.Proof.ValueC
public import proofs.«01_k».proof.Proof.Gen.KernelD
public import proofs.«01_k».proof.Proof.Gen.KernelDIdeal
public import proofs.«01_k».proof.Proof.Gen.ReferenceDIdeal.Run
public import proofs.«01_k».proof.Proof.Gen.On_head_d
public import proofs.«01_k».proof.Proof.Gen.Pre_kept_d
public import proofs.«01_k».proof.Proof.MovedD
public import proofs.«01_k».proof.Proof.ValueD
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.KernelB.Gen.facts, Cert.KernelBIdeal.Gen.facts, Cert.ReferenceBIdeal.Gen.facts, Cert.KernelC.Gen.facts, Cert.KernelCIdeal.Gen.facts, Cert.ReferenceCIdeal.Gen.facts, Cert.KernelD.Gen.facts, Cert.KernelDIdeal.Gen.facts, Cert.ReferenceDIdeal.Gen.facts, Cert.Pre_kept.Gen.facts, Cert.Pre_kept_b.Gen.facts, Cert.Pre_kept_c.Gen.facts, Cert.Pre_kept_d.Gen.facts, Cert.On_head.Gen.facts, Cert.On_head_b.Gen.facts, Cert.On_head_c.Gen.facts, Cert.On_head_d.Gen.facts,
  fun m ρ _ => Cert.Kernel.Hand.frame m ρ (Cert.Kernel.Hand.ok_all m),
  fun m ρ _ => Cert.Kernel.Moved.frame m ρ,
  fun m ρ _ => Cert.Kernel.Moved.frame m ρ,
  Cert.Value.frame_ref,
  fun m g _ => Cert.Value.frame_ref m g trivial,
  Cert.KernelB.Moved.frame,
  Cert.KernelB.Moved.frameI,
  fun m ρ _ => Cert.KernelB.Moved.frameI m ρ trivial,
  Cert.ValueB.frame_ref,
  fun m g _ => Cert.ValueB.frame_ref m g trivial,
  Cert.KernelC.Moved.frame,
  Cert.KernelC.Moved.frameI,
  fun m ρ _ => Cert.KernelC.Moved.frameI m ρ trivial,
  Cert.ValueC.frame_ref,
  fun m g _ => Cert.ValueC.frame_ref m g trivial,
  Cert.KernelD.Moved.frame,
  Cert.KernelD.Moved.frameI,
  fun m ρ _ => Cert.KernelD.Moved.frameI m ρ trivial,
  Cert.ValueD.frame_ref,
  fun m g _ => Cert.ValueD.frame_ref m g trivial,
  trivial,
  Cert.Value.algebraic,
  trivial,
  Cert.ValueB.algebraic,
  trivial,
  Cert.ValueC.algebraic,
  trivial,
  Cert.ValueD.algebraic⟩

end Cert.Proof

end
